-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5)
      ∧ r.2.mem ((c.tc : Thread Cert.Kernel19.nD Cert.Kernel19.τ).loc Cert.Kernel19.main_arg6) = m ((c.tc : Thread Cert.Kernel19.nD Cert.Kernel19.τ).loc Cert.Kernel19.main_arg6)
      ∧ r.2.mem ((c.tc : Thread Cert.Kernel19.nD Cert.Kernel19.τ).loc Cert.Kernel19.main_arg7) = m ((c.tc : Thread Cert.Kernel19.nD Cert.Kernel19.τ).loc Cert.Kernel19.main_arg7)
      ∧ r.2.mem ((c.tc : Thread Cert.Kernel19.nD Cert.Kernel19.τ).loc Cert.Kernel19.main_arg8) = m ((c.tc : Thread Cert.Kernel19.nD Cert.Kernel19.τ).loc Cert.Kernel19.main_arg8)
      ∧ r.2.mem ((c.tc : Thread Cert.Kernel19.nD Cert.Kernel19.τ).loc Cert.Kernel19.main_arg9) = m ((c.tc : Thread Cert.Kernel19.nD Cert.Kernel19.τ).loc Cert.Kernel19.main_arg9))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
      ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
      ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8)
      ∧ r.2.mem ((c.tc : Thread Cert.Kernel19Ideal.nD Cert.Kernel19Ideal.τ).loc Cert.Kernel19Ideal.main_arg9) = m ((c.tc : Thread Cert.Kernel19Ideal.nD Cert.Kernel19Ideal.τ).loc Cert.Kernel19Ideal.main_arg9))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6)
      ∧ r.2.mem ((c.tc : Thread Cert.Reference19Ideal.nD Cert.Reference19Ideal.τ).loc Cert.Reference19Ideal.main_arg7) = m ((c.tc : Thread Cert.Reference19Ideal.nD Cert.Reference19Ideal.τ).loc Cert.Reference19Ideal.main_arg7)
      ∧ r.2.mem ((c.tc : Thread Cert.Reference19Ideal.nD Cert.Reference19Ideal.τ).loc Cert.Reference19Ideal.main_arg8) = m ((c.tc : Thread Cert.Reference19Ideal.nD Cert.Reference19Ideal.τ).loc Cert.Reference19Ideal.main_arg8)
      ∧ r.2.mem ((c.tc : Thread Cert.Reference19Ideal.nD Cert.Reference19Ideal.τ).loc Cert.Reference19Ideal.main_arg9) = m ((c.tc : Thread Cert.Reference19Ideal.nD Cert.Reference19Ideal.τ).loc Cert.Reference19Ideal.main_arg9))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5)
      ∧ r.2.mem ((c.tc : Thread Cert.Kernel20.nD Cert.Kernel20.τ).loc Cert.Kernel20.main_arg6) = m ((c.tc : Thread Cert.Kernel20.nD Cert.Kernel20.τ).loc Cert.Kernel20.main_arg6))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
      ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5)
      ∧ r.2.mem ((c.tc : Thread Cert.Reference20Ideal.nD Cert.Reference20Ideal.τ).loc Cert.Reference20Ideal.main_arg6) = m ((c.tc : Thread Cert.Reference20Ideal.nD Cert.Reference20Ideal.τ).loc Cert.Reference20Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v48_0)) (v1 : (c : Dev Cert.Kernel3Ideal.nD) → Buf (Elt Ideal) ((c.tc : Thread Cert.Kernel3Ideal.nD Cert.Kernel3Ideal.τ).loc Cert.Kernel3Ideal.main_v48_1)) (v2 : (c : Dev Cert.Kernel3Ideal.nD) → Buf (Elt Ideal) ((c.tc : Thread Cert.Kernel3Ideal.nD Cert.Kernel3Ideal.τ).loc Cert.Kernel3Ideal.main_v48_2)) (v3 : (c : Dev Cert.Kernel3Ideal.nD) → Buf (Elt Ideal) ((c.tc : Thread Cert.Kernel3Ideal.nD Cert.Kernel3Ideal.τ).loc Cert.Kernel3Ideal.main_v48_3)) (v4 : (c : Dev Cert.Kernel3Ideal.nD) → Buf (Elt Ideal) ((c.tc : Thread Cert.Kernel3Ideal.nD Cert.Kernel3Ideal.τ).loc Cert.Kernel3Ideal.main_v48_4)) (v5 : (c : Dev Cert.Kernel3Ideal.nD) → Buf (Elt Ideal) ((c.tc : Thread Cert.Kernel3Ideal.nD Cert.Kernel3Ideal.τ).loc Cert.Kernel3Ideal.main_v48_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v48_0) = v0 c
          ∧ r.2.mem ((c.tc : Thread Cert.Kernel3Ideal.nD Cert.Kernel3Ideal.τ).loc Cert.Kernel3Ideal.main_v48_1) = v1 c
          ∧ r.2.mem ((c.tc : Thread Cert.Kernel3Ideal.nD Cert.Kernel3Ideal.τ).loc Cert.Kernel3Ideal.main_v48_2) = v2 c
          ∧ r.2.mem ((c.tc : Thread Cert.Kernel3Ideal.nD Cert.Kernel3Ideal.τ).loc Cert.Kernel3Ideal.main_v48_3) = v3 c
          ∧ r.2.mem ((c.tc : Thread Cert.Kernel3Ideal.nD Cert.Kernel3Ideal.τ).loc Cert.Kernel3Ideal.main_v48_4) = v4 c
          ∧ r.2.mem ((c.tc : Thread Cert.Kernel3Ideal.nD Cert.Kernel3Ideal.τ).loc Cert.Kernel3Ideal.main_v48_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v189) = v0 c
          ∧ r.2.mem ((c.tc : Thread Cert.Reference3Ideal.nD Cert.Reference3Ideal.τ).loc Cert.Reference3Ideal.main_v190) = v1 c
          ∧ r.2.mem ((c.tc : Thread Cert.Reference3Ideal.nD Cert.Reference3Ideal.τ).loc Cert.Reference3Ideal.main_v191) = v2 c
          ∧ r.2.mem ((c.tc : Thread Cert.Reference3Ideal.nD Cert.Reference3Ideal.τ).loc Cert.Reference3Ideal.main_v197) = v3 c
          ∧ r.2.mem ((c.tc : Thread Cert.Reference3Ideal.nD Cert.Reference3Ideal.τ).loc Cert.Reference3Ideal.main_v203) = v4 c
          ∧ r.2.mem ((c.tc : Thread Cert.Reference3Ideal.nD Cert.Reference3Ideal.τ).loc Cert.Reference3Ideal.main_v185) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v16_0)) (v1 : (c : Dev Cert.Kernel4Ideal.nD) → Buf (Elt Ideal) ((c.tc : Thread Cert.Kernel4Ideal.nD Cert.Kernel4Ideal.τ).loc Cert.Kernel4Ideal.main_v16_1)) (v2 : (c : Dev Cert.Kernel4Ideal.nD) → Buf (Elt Ideal) ((c.tc : Thread Cert.Kernel4Ideal.nD Cert.Kernel4Ideal.τ).loc Cert.Kernel4Ideal.main_v16_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v16_0) = v0 c
          ∧ r.2.mem ((c.tc : Thread Cert.Kernel4Ideal.nD Cert.Kernel4Ideal.τ).loc Cert.Kernel4Ideal.main_v16_1) = v1 c
          ∧ r.2.mem ((c.tc : Thread Cert.Kernel4Ideal.nD Cert.Kernel4Ideal.τ).loc Cert.Kernel4Ideal.main_v16_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v43) = v0 c
          ∧ r.2.mem ((c.tc : Thread Cert.Reference4Ideal.nD Cert.Reference4Ideal.τ).loc Cert.Reference4Ideal.main_v47) = v1 c
          ∧ r.2.mem ((c.tc : Thread Cert.Reference4Ideal.nD Cert.Reference4Ideal.τ).loc Cert.Reference4Ideal.main_v49) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v11_0)) (v1 : (c : Dev Cert.Kernel5Ideal.nD) → Buf (Elt Ideal) ((c.tc : Thread Cert.Kernel5Ideal.nD Cert.Kernel5Ideal.τ).loc Cert.Kernel5Ideal.main_v11_1)) (v2 : (c : Dev Cert.Kernel5Ideal.nD) → Buf (Elt Ideal) ((c.tc : Thread Cert.Kernel5Ideal.nD Cert.Kernel5Ideal.τ).loc Cert.Kernel5Ideal.main_v11_2)) (v3 : (c : Dev Cert.Kernel5Ideal.nD) → Buf (Elt Ideal) ((c.tc : Thread Cert.Kernel5Ideal.nD Cert.Kernel5Ideal.τ).loc Cert.Kernel5Ideal.main_v11_3)) (v4 : (c : Dev Cert.Kernel5Ideal.nD) → Buf (Elt Ideal) ((c.tc : Thread Cert.Kernel5Ideal.nD Cert.Kernel5Ideal.τ).loc Cert.Kernel5Ideal.main_v11_4)) (v5 : (c : Dev Cert.Kernel5Ideal.nD) → Buf (Elt Ideal) ((c.tc : Thread Cert.Kernel5Ideal.nD Cert.Kernel5Ideal.τ).loc Cert.Kernel5Ideal.main_v11_5)) (v6 : (c : Dev Cert.Kernel5Ideal.nD) → Buf (Elt Ideal) ((c.tc : Thread Cert.Kernel5Ideal.nD Cert.Kernel5Ideal.τ).loc Cert.Kernel5Ideal.main_v11_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11_0) = v0 c
          ∧ r.2.mem ((c.tc : Thread Cert.Kernel5Ideal.nD Cert.Kernel5Ideal.τ).loc Cert.Kernel5Ideal.main_v11_1) = v1 c
          ∧ r.2.mem ((c.tc : Thread Cert.Kernel5Ideal.nD Cert.Kernel5Ideal.τ).loc Cert.Kernel5Ideal.main_v11_2) = v2 c
          ∧ r.2.mem ((c.tc : Thread Cert.Kernel5Ideal.nD Cert.Kernel5Ideal.τ).loc Cert.Kernel5Ideal.main_v11_3) = v3 c
          ∧ r.2.mem ((c.tc : Thread Cert.Kernel5Ideal.nD Cert.Kernel5Ideal.τ).loc Cert.Kernel5Ideal.main_v11_4) = v4 c
          ∧ r.2.mem ((c.tc : Thread Cert.Kernel5Ideal.nD Cert.Kernel5Ideal.τ).loc Cert.Kernel5Ideal.main_v11_5) = v5 c
          ∧ r.2.mem ((c.tc : Thread Cert.Kernel5Ideal.nD Cert.Kernel5Ideal.τ).loc Cert.Kernel5Ideal.main_v11_6) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v82) = v0 c
          ∧ r.2.mem ((c.tc : Thread Cert.Reference5Ideal.nD Cert.Reference5Ideal.τ).loc Cert.Reference5Ideal.main_v85) = v1 c
          ∧ r.2.mem ((c.tc : Thread Cert.Reference5Ideal.nD Cert.Reference5Ideal.τ).loc Cert.Reference5Ideal.main_v88) = v2 c
          ∧ r.2.mem ((c.tc : Thread Cert.Reference5Ideal.nD Cert.Reference5Ideal.τ).loc Cert.Reference5Ideal.main_v89) = v3 c
          ∧ r.2.mem ((c.tc : Thread Cert.Reference5Ideal.nD Cert.Reference5Ideal.τ).loc Cert.Reference5Ideal.main_v90) = v4 c
          ∧ r.2.mem ((c.tc : Thread Cert.Reference5Ideal.nD Cert.Reference5Ideal.τ).loc Cert.Reference5Ideal.main_v91) = v5 c
          ∧ r.2.mem ((c.tc : Thread Cert.Reference5Ideal.nD Cert.Reference5Ideal.τ).loc Cert.Reference5Ideal.main_v93) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v83_0)) (v1 : (c : Dev Cert.Kernel7Ideal.nD) → Buf (Elt Ideal) ((c.tc : Thread Cert.Kernel7Ideal.nD Cert.Kernel7Ideal.τ).loc Cert.Kernel7Ideal.main_v83_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v83_0) = v0 c
          ∧ r.2.mem ((c.tc : Thread Cert.Kernel7Ideal.nD Cert.Kernel7Ideal.τ).loc Cert.Kernel7Ideal.main_v83_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v238) = v0 c
          ∧ r.2.mem ((c.tc : Thread Cert.Reference7Ideal.nD Cert.Reference7Ideal.τ).loc Cert.Reference7Ideal.main_v266) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)) →
    ∃ (v0 : (c : Dev Cert.Kernel8Ideal.nD) → Buf (Elt Ideal) ((c.tc : Thread Cert.Kernel8Ideal.nD Cert.Kernel8Ideal.τ).loc Cert.Kernel8Ideal.main_v13_0)) (v1 : (c : Dev Cert.Kernel8Ideal.nD) → Buf (Elt Ideal) ((c.tc : Thread Cert.Kernel8Ideal.nD Cert.Kernel8Ideal.τ).loc Cert.Kernel8Ideal.main_v13_1)) (v2 : (c : Dev Cert.Kernel8Ideal.nD) → Buf (Elt Ideal) ((c.tc : Thread Cert.Kernel8Ideal.nD Cert.Kernel8Ideal.τ).loc Cert.Kernel8Ideal.main_v13_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v13_0) = v0 c
          ∧ r.2.mem ((c.tc : Thread Cert.Kernel8Ideal.nD Cert.Kernel8Ideal.τ).loc Cert.Kernel8Ideal.main_v13_1) = v1 c
          ∧ r.2.mem ((c.tc : Thread Cert.Kernel8Ideal.nD Cert.Kernel8Ideal.τ).loc Cert.Kernel8Ideal.main_v13_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v53) = v0 c
          ∧ r.2.mem ((c.tc : Thread Cert.Reference8Ideal.nD Cert.Reference8Ideal.τ).loc Cert.Reference8Ideal.main_v54) = v1 c
          ∧ r.2.mem ((c.tc : Thread Cert.Reference8Ideal.nD Cert.Reference8Ideal.τ).loc Cert.Reference8Ideal.main_v55) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v7_0)) (v1 : (c : Dev Cert.Kernel9Ideal.nD) → Buf (Elt Ideal) ((c.tc : Thread Cert.Kernel9Ideal.nD Cert.Kernel9Ideal.τ).loc Cert.Kernel9Ideal.main_v7_1)) (v2 : (c : Dev Cert.Kernel9Ideal.nD) → Buf (Elt Ideal) ((c.tc : Thread Cert.Kernel9Ideal.nD Cert.Kernel9Ideal.τ).loc Cert.Kernel9Ideal.main_v7_2)) (v3 : (c : Dev Cert.Kernel9Ideal.nD) → Buf (Elt Ideal) ((c.tc : Thread Cert.Kernel9Ideal.nD Cert.Kernel9Ideal.τ).loc Cert.Kernel9Ideal.main_v7_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v7_0) = v0 c
          ∧ r.2.mem ((c.tc : Thread Cert.Kernel9Ideal.nD Cert.Kernel9Ideal.τ).loc Cert.Kernel9Ideal.main_v7_1) = v1 c
          ∧ r.2.mem ((c.tc : Thread Cert.Kernel9Ideal.nD Cert.Kernel9Ideal.τ).loc Cert.Kernel9Ideal.main_v7_2) = v2 c
          ∧ r.2.mem ((c.tc : Thread Cert.Kernel9Ideal.nD Cert.Kernel9Ideal.τ).loc Cert.Kernel9Ideal.main_v7_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v19) = v0 c
          ∧ r.2.mem ((c.tc : Thread Cert.Reference9Ideal.nD Cert.Reference9Ideal.τ).loc Cert.Reference9Ideal.main_v20) = v1 c
          ∧ r.2.mem ((c.tc : Thread Cert.Reference9Ideal.nD Cert.Reference9Ideal.τ).loc Cert.Reference9Ideal.main_v21) = v2 c
          ∧ r.2.mem ((c.tc : Thread Cert.Reference9Ideal.nD Cert.Reference9Ideal.τ).loc Cert.Reference9Ideal.main_v25) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v9) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v4)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)) →
    ∃ (v0 : (c : Dev Cert.Kernel14Ideal.nD) → Buf (Elt Ideal) ((c.tc : Thread Cert.Kernel14Ideal.nD Cert.Kernel14Ideal.τ).loc Cert.Kernel14Ideal.main_v8_0)) (v1 : (c : Dev Cert.Kernel14Ideal.nD) → Buf (Elt Ideal) ((c.tc : Thread Cert.Kernel14Ideal.nD Cert.Kernel14Ideal.τ).loc Cert.Kernel14Ideal.main_v8_1)) (v2 : (c : Dev Cert.Kernel14Ideal.nD) → Buf (Elt Ideal) ((c.tc : Thread Cert.Kernel14Ideal.nD Cert.Kernel14Ideal.τ).loc Cert.Kernel14Ideal.main_v8_2)) (v3 : (c : Dev Cert.Kernel14Ideal.nD) → Buf (Elt Ideal) ((c.tc : Thread Cert.Kernel14Ideal.nD Cert.Kernel14Ideal.τ).loc Cert.Kernel14Ideal.main_v8_3)) (v4 : (c : Dev Cert.Kernel14Ideal.nD) → Buf (Elt Ideal) ((c.tc : Thread Cert.Kernel14Ideal.nD Cert.Kernel14Ideal.τ).loc Cert.Kernel14Ideal.main_v8_4)) (v5 : (c : Dev Cert.Kernel14Ideal.nD) → Buf (Elt Ideal) ((c.tc : Thread Cert.Kernel14Ideal.nD Cert.Kernel14Ideal.τ).loc Cert.Kernel14Ideal.main_v8_5)) (v6 : (c : Dev Cert.Kernel14Ideal.nD) → Buf (Elt Ideal) ((c.tc : Thread Cert.Kernel14Ideal.nD Cert.Kernel14Ideal.τ).loc Cert.Kernel14Ideal.main_v8_6)) (v7 : (c : Dev Cert.Kernel14Ideal.nD) → Buf (Elt Ideal) ((c.tc : Thread Cert.Kernel14Ideal.nD Cert.Kernel14Ideal.τ).loc Cert.Kernel14Ideal.main_v8_7)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v8_0) = v0 c
          ∧ r.2.mem ((c.tc : Thread Cert.Kernel14Ideal.nD Cert.Kernel14Ideal.τ).loc Cert.Kernel14Ideal.main_v8_1) = v1 c
          ∧ r.2.mem ((c.tc : Thread Cert.Kernel14Ideal.nD Cert.Kernel14Ideal.τ).loc Cert.Kernel14Ideal.main_v8_2) = v2 c
          ∧ r.2.mem ((c.tc : Thread Cert.Kernel14Ideal.nD Cert.Kernel14Ideal.τ).loc Cert.Kernel14Ideal.main_v8_3) = v3 c
          ∧ r.2.mem ((c.tc : Thread Cert.Kernel14Ideal.nD Cert.Kernel14Ideal.τ).loc Cert.Kernel14Ideal.main_v8_4) = v4 c
          ∧ r.2.mem ((c.tc : Thread Cert.Kernel14Ideal.nD Cert.Kernel14Ideal.τ).loc Cert.Kernel14Ideal.main_v8_5) = v5 c
          ∧ r.2.mem ((c.tc : Thread Cert.Kernel14Ideal.nD Cert.Kernel14Ideal.τ).loc Cert.Kernel14Ideal.main_v8_6) = v6 c
          ∧ r.2.mem ((c.tc : Thread Cert.Kernel14Ideal.nD Cert.Kernel14Ideal.τ).loc Cert.Kernel14Ideal.main_v8_7) = v7 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_v28) = v1 c
          ∧ r.2.mem ((c.tc : Thread Cert.Reference14Ideal.nD Cert.Reference14Ideal.τ).loc Cert.Reference14Ideal.main_v9) = v2 c
          ∧ r.2.mem ((c.tc : Thread Cert.Reference14Ideal.nD Cert.Reference14Ideal.τ).loc Cert.Reference14Ideal.main_v15) = v3 c
          ∧ r.2.mem ((c.tc : Thread Cert.Reference14Ideal.nD Cert.Reference14Ideal.τ).loc Cert.Reference14Ideal.main_v1) = v4 c
          ∧ r.2.mem ((c.tc : Thread Cert.Reference14Ideal.nD Cert.Reference14Ideal.τ).loc Cert.Reference14Ideal.main_v55) = v5 c
          ∧ r.2.mem ((c.tc : Thread Cert.Reference14Ideal.nD Cert.Reference14Ideal.τ).loc Cert.Reference14Ideal.main_v36) = v6 c
          ∧ r.2.mem ((c.tc : Thread Cert.Reference14Ideal.nD Cert.Reference14Ideal.τ).loc Cert.Reference14Ideal.main_v42) = v7 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v5_0)) (v1 : (c : Dev Cert.Kernel15Ideal.nD) → Buf (Elt Ideal) ((c.tc : Thread Cert.Kernel15Ideal.nD Cert.Kernel15Ideal.τ).loc Cert.Kernel15Ideal.main_v5_1)) (v2 : (c : Dev Cert.Kernel15Ideal.nD) → Buf (Elt Ideal) ((c.tc : Thread Cert.Kernel15Ideal.nD Cert.Kernel15Ideal.τ).loc Cert.Kernel15Ideal.main_v5_2)) (v3 : (c : Dev Cert.Kernel15Ideal.nD) → Buf (Elt Ideal) ((c.tc : Thread Cert.Kernel15Ideal.nD Cert.Kernel15Ideal.τ).loc Cert.Kernel15Ideal.main_v5_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v5_0) = v0 c
          ∧ r.2.mem ((c.tc : Thread Cert.Kernel15Ideal.nD Cert.Kernel15Ideal.τ).loc Cert.Kernel15Ideal.main_v5_1) = v1 c
          ∧ r.2.mem ((c.tc : Thread Cert.Kernel15Ideal.nD Cert.Kernel15Ideal.τ).loc Cert.Kernel15Ideal.main_v5_2) = v2 c
          ∧ r.2.mem ((c.tc : Thread Cert.Kernel15Ideal.nD Cert.Kernel15Ideal.τ).loc Cert.Kernel15Ideal.main_v5_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_v30) = v1 c
          ∧ r.2.mem ((c.tc : Thread Cert.Reference15Ideal.nD Cert.Reference15Ideal.τ).loc Cert.Reference15Ideal.main_v11) = v2 c
          ∧ r.2.mem ((c.tc : Thread Cert.Reference15Ideal.nD Cert.Reference15Ideal.τ).loc Cert.Reference15Ideal.main_v17) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v4)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v7) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)
      ∧ m' ((c.tc : Thread Cert.Reference19Ideal.nD Cert.Reference19Ideal.τ).loc Cert.Reference19Ideal.main_arg6) = m ((c.tc : Thread Cert.Kernel19Ideal.nD Cert.Kernel19Ideal.τ).loc Cert.Kernel19Ideal.main_arg6)
      ∧ m' ((c.tc : Thread Cert.Reference19Ideal.nD Cert.Reference19Ideal.τ).loc Cert.Reference19Ideal.main_arg7) = m ((c.tc : Thread Cert.Kernel19Ideal.nD Cert.Kernel19Ideal.τ).loc Cert.Kernel19Ideal.main_arg7)
      ∧ m' ((c.tc : Thread Cert.Reference19Ideal.nD Cert.Reference19Ideal.τ).loc Cert.Reference19Ideal.main_arg8) = m ((c.tc : Thread Cert.Kernel19Ideal.nD Cert.Kernel19Ideal.τ).loc Cert.Kernel19Ideal.main_arg8)
      ∧ m' ((c.tc : Thread Cert.Reference19Ideal.nD Cert.Reference19Ideal.τ).loc Cert.Reference19Ideal.main_arg9) = m ((c.tc : Thread Cert.Kernel19Ideal.nD Cert.Kernel19Ideal.τ).loc Cert.Kernel19Ideal.main_arg9)) →
    ∃ (v0 : (c : Dev Cert.Kernel19Ideal.nD) → Buf (Elt Ideal) ((c.tc : Thread Cert.Kernel19Ideal.nD Cert.Kernel19Ideal.τ).loc Cert.Kernel19Ideal.main_v14)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v14) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
          ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
          ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
          ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8)
          ∧ r.2.mem ((c.tc : Thread Cert.Kernel19Ideal.nD Cert.Kernel19Ideal.τ).loc Cert.Kernel19Ideal.main_arg9) = m ((c.tc : Thread Cert.Kernel19Ideal.nD Cert.Kernel19Ideal.τ).loc Cert.Kernel19Ideal.main_arg9))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v16) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5)
          ∧ r.2.mem ((c.tc : Thread Cert.Reference19Ideal.nD Cert.Reference19Ideal.τ).loc Cert.Reference19Ideal.main_arg6) = m' ((c.tc : Thread Cert.Reference19Ideal.nD Cert.Reference19Ideal.τ).loc Cert.Reference19Ideal.main_arg6)
          ∧ r.2.mem ((c.tc : Thread Cert.Reference19Ideal.nD Cert.Reference19Ideal.τ).loc Cert.Reference19Ideal.main_arg7) = m' ((c.tc : Thread Cert.Reference19Ideal.nD Cert.Reference19Ideal.τ).loc Cert.Reference19Ideal.main_arg7)
          ∧ r.2.mem ((c.tc : Thread Cert.Reference19Ideal.nD Cert.Reference19Ideal.τ).loc Cert.Reference19Ideal.main_arg8) = m' ((c.tc : Thread Cert.Reference19Ideal.nD Cert.Reference19Ideal.τ).loc Cert.Reference19Ideal.main_arg8)
          ∧ r.2.mem ((c.tc : Thread Cert.Reference19Ideal.nD Cert.Reference19Ideal.τ).loc Cert.Reference19Ideal.main_arg9) = m' ((c.tc : Thread Cert.Reference19Ideal.nD Cert.Reference19Ideal.τ).loc Cert.Reference19Ideal.main_arg9))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)
      ∧ m' ((c.tc : Thread Cert.Reference20Ideal.nD Cert.Reference20Ideal.τ).loc Cert.Reference20Ideal.main_arg6) = m ((c.tc : Thread Cert.Kernel20Ideal.nD Cert.Kernel20Ideal.τ).loc Cert.Kernel20Ideal.main_arg6)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
          ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v7) = v0 c
          ∧ r.2.mem ((c.tc : Thread Cert.Reference20Ideal.nD Cert.Reference20Ideal.τ).loc Cert.Reference20Ideal.main_v8) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5)
          ∧ r.2.mem ((c.tc : Thread Cert.Reference20Ideal.nD Cert.Reference20Ideal.τ).loc Cert.Reference20Ideal.main_arg6) = m' ((c.tc : Thread Cert.Reference20Ideal.nD Cert.Reference20Ideal.τ).loc Cert.Reference20Ideal.main_arg6))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite : Cert.Pre_finite.Facts) (hPre_finite3 : Cert.Pre_finite3.Facts) (hPre_finite4 : Cert.Pre_finite4.Facts) (hPre_finite5 : Cert.Pre_finite5.Facts) (hPre_finite6 : Cert.Pre_finite6.Facts) (hPre_finite7 : Cert.Pre_finite7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== Pre_finite.lean ====
abbrev S1x4096x1024 : Shape := ⟨3, ![1, 4096, 1024]⟩
abbrev S1x1024 : Shape := ⟨2, ![1, 1024]⟩
abbrev S1x1024x2816 : Shape := ⟨3, ![1, 1024, 2816]⟩
abbrev S1x4096x5632 : Shape := ⟨3, ![1, 4096, 5632]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x2816 : S_.BroadcastsInDim S1x1024x2816 (![] : Fin 0 → Fin S1x1024x2816.rank)
  reducesTo_S1x1024x2816_S_d0_1_2 : S1x1024x2816.ReducesTo [0, 1, 2] S_
  bcast_S_S1x4096x5632 : S_.BroadcastsInDim S1x4096x5632 (![] : Fin 0 → Fin S1x4096x5632.rank)
  reducesTo_S1x4096x5632_S_d0_1_2 : S1x4096x5632.ReducesTo [0, 1, 2] S_

variable [Facts]

def fn_part1 {F : FTy → Type} [FloatOps F] (main_arg4 : FVec F S1x4096x5632 .f32) (main_v13 : IVec S_ 1) (main_v16 : IVec S1x1024x2816 1) : IVec S_ 1 :=
  let main_c_5 : IVec S_ 1 := constantI S_ 1 1#1
  let main_v17 : IVec S_ 1 := (fun x v => Host.reduce IntOp.andi x v reducesTo_S1x1024x2816_S_d0_1_2 h_S_) main_v16 main_c_5
  let main_v18 : IVec S_ 1 := andi main_v13 main_v17
  let main_v19 : FVec F S1x4096x5632 .f32 := Host.absf main_arg4
  let main_cst_6 : FVec F S_ .f32 := constant S_ .f32 0x7F800000#32
  let main_v20 : FVec F S1x4096x5632 .f32 := broadcastInDim S1x4096x5632 ![] bcast_S_S1x4096x5632 main_cst_6
  let main_v21 : IVec S1x4096x5632 1 := cmpf .olt main_v19 main_v20
  let main_c_7 : IVec S_ 1 := constantI S_ 1 1#1
  let main_v22 : IVec S_ 1 := (fun x v => Host.reduce IntOp.andi x v reducesTo_S1x4096x5632_S_d0_1_2 h_S_) main_v21 main_c_7
  let main_v23 : IVec S_ 1 := andi main_v18 main_v22
  main_v23

def fn {F : FTy → Type} [FloatOps F] (main_arg0 : FVec F S1x4096x1024 .f32) (main_arg1 : FVec F S1x1024 .f32) (main_arg2 : FVec F S1x1024x2816 .f32) (main_arg3 : FVec F S1x1024x2816 .f32) (main_arg4 : FVec F S1x4096x5632 .f32) (main_arg5 : FVec F S1x4096x1024 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x2816 .f32 := Host.absf main_arg2
  let main_cst_2 : FVec F S_ .f32 := constant S_ .f32 0x7F800000#32
  let main_v10 : FVec F S1x1024x2816 .f32 := broadcastInDim S1x1024x2816 ![] bcast_S_S1x1024x2816 main_cst_2
  let main_v11 : IVec S1x1024x2816 1 := cmpf .olt main_v9 main_v10
  let main_c_3 : IVec S_ 1 := constantI S_ 1 1#1
  let main_v12 : IVec S_ 1 := (fun x v => Host.reduce IntOp.andi x v reducesTo_S1x1024x2816_S_d0_1_2 h_S_) main_v11 main_c_3
  let main_v13 : IVec S_ 1 := andi main_v8 main_v12
  let main_v14 : FVec F S1x1024x2816 .f32 := Host.absf main_arg3
  let main_cst_4 : FVec F S_ .f32 := constant S_ .f32 0x7F800000#32
  let main_v15 : FVec F S1x1024x2816 .f32 := broadcastInDim S1x1024x2816 ![] bcast_S_S1x1024x2816 main_cst_4
  let main_v16 : IVec S1x1024x2816 1 := cmpf .olt main_v14 main_v15
  fn_part1 (F := F) main_arg4 main_v13 main_v16
-- ==== Pre_finite3.lean ====
abbrev S1x4096x1024 : Shape := ⟨3, ![1, 4096, 1024]⟩
abbrev S1x1024x1024 : Shape := ⟨3, ![1, 1024, 1024]⟩
abbrev S1x1024 : Shape := ⟨2, ![1, 1024]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg7 : FVec F S1x1024 .f32) (main_arg8 : FVec F S1x1024 .f32) (main_arg9 : FVec F S1x4096x1024 .f32) (main_v33 : IVec S_ 1) : IVec S_ 1 :=
  let main_v34 : FVec F S1x1024 .f32 := Host.absf main_arg7
  let main_cst_12 : FVec F S_ .f32 := constant S_ .f32 0x7F800000#32
  let main_v35 : FVec F S1x1024 .f32 := broadcastInDim S1x1024 ![] bcast_S_S1x1024 main_cst_12
  let main_v36 : IVec S1x1024 1 := cmpf .olt main_v34 main_v35
  let main_c_13 : IVec S_ 1 := constantI S_ 1 1#1
  let main_v37 : IVec S_ 1 := (fun x v => Host.reduce IntOp.andi x v reducesTo_S1x1024_S_d0_1 h_S_) main_v36 main_c_13
  let main_v38 : IVec S_ 1 := andi main_v33 main_v37
  let main_v39 : FVec F S1x1024 .f32 := Host.absf main_arg8
  let main_cst_14 : FVec F S_ .f32 := constant S_ .f32 0x7F800000#32
  let main_v40 : FVec F S1x1024 .f32 := broadcastInDim S1x1024 ![] bcast_S_S1x1024 main_cst_14
  let main_v41 : IVec S1x1024 1 := cmpf .olt main_v39 main_v40
  let main_c_15 : IVec S_ 1 := constantI S_ 1 1#1
  let main_v42 : IVec S_ 1 := (fun x v => Host.reduce IntOp.andi x v reducesTo_S1x1024_S_d0_1 h_S_) main_v41 main_c_15
  let main_v43 : IVec S_ 1 := andi main_v38 main_v42
  let main_v44 : FVec F S1x4096x1024 .f32 := Host.absf main_arg9
  let main_cst_16 : FVec F S_ .f32 := constant S_ .f32 0x7F800000#32
  let main_v45 : FVec F S1x4096x1024 .f32 := broadcastInDim S1x4096x1024 ![] bcast_S_S1x4096x1024 main_cst_16
  let main_v46 : IVec S1x4096x1024 1 := cmpf .olt main_v44 main_v45
  let main_c_17 : IVec S_ 1 := constantI S_ 1 1#1
  let main_v47 : IVec S_ 1 := (fun x v => Host.reduce IntOp.andi x v reducesTo_S1x4096x1024_S_d0_1_2 h_S_) main_v46 main_c_17
  let main_v48 : IVec S_ 1 := andi main_v43 main_v47
  main_v48

def fn_part1 {F : FTy → Type} [FloatOps F] (main_arg4 : FVec F S1x1024x1024 .f32) (main_arg5 : FVec F S1x1024x1024 .f32) (main_arg6 : FVec F S1x1024x1024 .f32) (main_arg7 : FVec F S1x1024 .f32) (main_arg8 : FVec F S1x1024 .f32) (main_arg9 : FVec F S1x4096x1024 .f32) (main_v13 : IVec S_ 1) (main_v16 : IVec S1x4096x1024 1) : IVec S_ 1 :=
  let main_c_5 : IVec S_ 1 := constantI S_ 1 1#1
  let main_v17 : IVec S_ 1 := (fun x v => Host.reduce IntOp.andi x v reducesTo_S1x4096x1024_S_d0_1_2 h_S_) main_v16 main_c_5
  let main_v18 : IVec S_ 1 := andi main_v13 main_v17
  let main_v19 : FVec F S1x1024x1024 .f32 := Host.absf main_arg4
  let main_cst_6 : FVec F S_ .f32 := constant S_ .f32 0x7F800000#32
  let main_v20 : FVec F S1x1024x1024 .f32 := broadcastInDim S1x1024x1024 ![] bcast_S_S1x1024x1024 main_cst_6
  let main_v21 : IVec S1x1024x1024 1 := cmpf .olt main_v19 main_v20
  let main_c_7 : IVec S_ 1 := constantI S_ 1 1#1
  let main_v22 : IVec S_ 1 := (fun x v => Host.reduce IntOp.andi x v reducesTo_S1x1024x1024_S_d0_1_2 h_S_) main_v21 main_c_7
  let main_v23 : IVec S_ 1 := andi main_v18 main_v22
  let main_v24 : FVec F S1x1024x1024 .f32 := Host.absf main_arg5
  let main_cst_8 : FVec F S_ .f32 := constant S_ .f32 0x7F800000#32
  let main_v25 : FVec F S1x1024x1024 .f32 := broadcastInDim S1x1024x1024 ![] bcast_S_S1x1024x1024 main_cst_8
  let main_v26 : IVec S1x1024x1024 1 := cmpf .olt main_v24 main_v25
  let main_c_9 : IVec S_ 1 := constantI S_ 1 1#1
  let main_v27 : IVec S_ 1 := (fun x v => Host.reduce IntOp.andi x v reducesTo_S1x1024x1024_S_d0_1_2 h_S_) main_v26 main_c_9
  let main_v28 : IVec S_ 1 := andi main_v23 main_v27
  let main_v29 : FVec F S1x1024x1024 .f32 := Host.absf main_arg6
  let main_cst_10 : FVec F S_ .f32 := constant S_ .f32 0x7F800000#32
  let main_v30 : FVec F S1x1024x1024 .f32 := broadcastInDim S1x1024x1024 ![] bcast_S_S1x1024x1024 main_cst_10
  let main_v31 : IVec S1x1024x1024 1 := cmpf .olt main_v29 main_v30
  let main_c_11 : IVec S_ 1 := constantI S_ 1 1#1
  let main_v32 : IVec S_ 1 := (fun x v => Host.reduce IntOp.andi x v reducesTo_S1x1024x1024_S_d0_1_2 h_S_) main_v31 main_c_11
  let main_v33 : IVec S_ 1 := andi main_v28 main_v32
  fn_part2 (F := F) main_arg7 main_arg8 main_arg9 main_v33

def fn {F : FTy → Type} [FloatOps F] (main_arg0 : FVec F S1x4096x1024 .f32) (main_arg1 : FVec F S1x4096x1024 .f32) (main_arg2 : FVec F S1x4096x1024 .f32) (main_arg3 : FVec F S1x4096x1024 .f32) (main_arg4 : FVec F S1x1024x1024 .f32) (main_arg5 : FVec F S1x1024x1024 .f32) (main_arg6 : FVec F S1x1024x1024 .f32) (main_arg7 : FVec F S1x1024 .f32) (main_arg8 : FVec F S1x1024 .f32) (main_arg9 : FVec F S1x4096x1024 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1x4096x1024 .f32 := Host.absf main_arg1
  let main_cst_0 : FVec F S_ .f32 := constant S_ .f32 0x7F800000#32
  let main_v5 : FVec F S1x4096x1024 .f32 := broadcastInDim S1x4096x1024 ![] bcast_S_S1x4096x1024 main_cst_0
  let main_v6 : IVec S1x4096x1024 1 := cmpf .olt main_v4 main_v5
  let main_c_1 : IVec S_ 1 := constantI S_ 1 1#1
  let main_v7 : IVec S_ 1 := (fun x v => Host.reduce IntOp.andi x v reducesTo_S1x4096x1024_S_d0_1_2 h_S_) main_v6 main_c_1
  let main_v8 : IVec S_ 1 := andi main_v3 main_v7
  let main_v9 : FVec F S1x4096x1024 .f32 := Host.absf main_arg2
  let main_cst_2 : FVec F S_ .f32 := constant S_ .f32 0x7F800000#32
  let main_v10 : FVec F S1x4096x1024 .f32 := broadcastInDim S1x4096x1024 ![] bcast_S_S1x4096x1024 main_cst_2
  let main_v11 : IVec S1x4096x1024 1 := cmpf .olt main_v9 main_v10
  let main_c_3 : IVec S_ 1 := constantI S_ 1 1#1
  let main_v12 : IVec S_ 1 := (fun x v => Host.reduce IntOp.andi x v reducesTo_S1x4096x1024_S_d0_1_2 h_S_) main_v11 main_c_3
  let main_v13 : IVec S_ 1 := andi main_v8 main_v12
  let main_v14 : FVec F S1x4096x1024 .f32 := Host.absf main_arg3
  let main_cst_4 : FVec F S_ .f32 := constant S_ .f32 0x7F800000#32
  let main_v15 : FVec F S1x4096x1024 .f32 := broadcastInDim S1x4096x1024 ![] bcast_S_S1x4096x1024 main_cst_4
  let main_v16 : IVec S1x4096x1024 1 := cmpf .olt main_v14 main_v15
  fn_part1 (F := F) main_arg4 main_arg5 main_arg6 main_arg7 main_arg8 main_arg9 main_v13 main_v16
-- ==== Pre_finite4.lean ====
abbrev S1x4096x1024 : Shape := ⟨3, ![1, 4096, 1024]⟩
abbrev S1x1024 : Shape := ⟨2, ![1, 1024]⟩
abbrev S1x1024x7168 : Shape := ⟨3, ![1, 1024, 7168]⟩
abbrev S1x4096x7168 : Shape := ⟨3, ![1, 4096, 7168]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x7168 : S_.BroadcastsInDim S1x1024x7168 (![] : Fin 0 → Fin S1x1024x7168.rank)
  reducesTo_S1x1024x7168_S_d0_1_2 : S1x1024x7168.ReducesTo [0, 1, 2] S_
  bcast_S_S1x4096x7168 : S_.BroadcastsInDim S1x4096x7168 (![] : Fin 0 → Fin S1x4096x7168.rank)
  reducesTo_S1x4096x7168_S_d0_1_2 : S1x4096x7168.ReducesTo [0, 1, 2] S_

variable [Facts]

def fn_part1 {F : FTy → Type} [FloatOps F] (main_v13 : IVec S_ 1) (main_v16 : IVec S1x4096x7168 1) : IVec S_ 1 :=
  let main_c_5 : IVec S_ 1 := constantI S_ 1 1#1
  let main_v17 : IVec S_ 1 := (fun x v => Host.reduce IntOp.andi x v reducesTo_S1x4096x7168_S_d0_1_2 h_S_) main_v16 main_c_5
  let main_v18 : IVec S_ 1 := andi main_v13 main_v17
  main_v18

def fn {F : FTy → Type} [FloatOps F] (main_arg0 : FVec F S1x4096x1024 .f32) (main_arg1 : FVec F S1x1024 .f32) (main_arg2 : FVec F S1x1024x7168 .f32) (main_arg3 : FVec F S1x4096x7168 .f32) (main_arg4 : FVec F S1x4096x1024 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x7168 .f32 := Host.absf main_arg2
  let main_cst_2 : FVec F S_ .f32 := constant S_ .f32 0x7F800000#32
  let main_v10 : FVec F S1x1024x7168 .f32 := broadcastInDim S1x1024x7168 ![] bcast_S_S1x1024x7168 main_cst_2
  let main_v11 : IVec S1x1024x7168 1 := cmpf .olt main_v9 main_v10
  let main_c_3 : IVec S_ 1 := constantI S_ 1 1#1
  let main_v12 : IVec S_ 1 := (fun x v => Host.reduce IntOp.andi x v reducesTo_S1x1024x7168_S_d0_1_2 h_S_) main_v11 main_c_3
  let main_v13 : IVec S_ 1 := andi main_v8 main_v12
  let main_v14 : FVec F S1x4096x7168 .f32 := Host.absf main_arg3
  let main_cst_4 : FVec F S_ .f32 := constant S_ .f32 0x7F800000#32
  let main_v15 : FVec F S1x4096x7168 .f32 := broadcastInDim S1x4096x7168 ![] bcast_S_S1x4096x7168 main_cst_4
  let main_v16 : IVec S1x4096x7168 1 := cmpf .olt main_v14 main_v15
  fn_part1 (F := F) main_v13 main_v16
-- ==== Pre_finite5.lean ====
abbrev S1x4096x1024 : Shape := ⟨3, ![1, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x2816 : S_.BroadcastsInDim S1x1024x2816 (![] : Fin 0 → Fin S1x1024x2816.rank)
  reducesTo_S1x1024x2816_S_d0_1_2 : S1x1024x2816.ReducesTo [0, 1, 2] S_
  bcast_S_S1x2816x1024 : S_.BroadcastsInDim S1x2816x1024 (![] : Fin 0 → Fin S1x2816x1024.rank)
  reducesTo_S1x2816x1024_S_d0_1_2 : S1x2816x1024.ReducesTo [0, 1, 2] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1x2816x1024 .f32) (main_arg5 : FVec F S1024 .f32) (main_arg6 : FVec F S1x4096x1024 .f32) (main_v13 : IVec S_ 1) (main_v16 : IVec S1x1024x2816 1) : IVec S_ 1 :=
  let main_c_5 : IVec S_ 1 := constantI S_ 1 1#1
  let main_v17 : IVec S_ 1 := (fun x v => Host.reduce IntOp.andi x v reducesTo_S1x1024x2816_S_d0_1_2 h_S_) main_v16 main_c_5
  let main_v18 : IVec S_ 1 := andi main_v13 main_v17
  let main_v19 : FVec F S1x2816x1024 .f32 := Host.absf main_arg4
  let main_cst_6 : FVec F S_ .f32 := constant S_ .f32 0x7F800000#32
  let main_v20 : FVec F S1x2816x1024 .f32 := broadcastInDim S1x2816x1024 ![] bcast_S_S1x2816x1024 main_cst_6
  let main_v21 : IVec S1x2816x1024 1 := cmpf .olt main_v19 main_v20
  let main_c_7 : IVec S_ 1 := constantI S_ 1 1#1
  let main_v22 : IVec S_ 1 := (fun x v => Host.reduce IntOp.andi x v reducesTo_S1x2816x1024_S_d0_1_2 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1x4096x1024 .f32 := Host.absf main_arg6
  let main_cst_10 : FVec F S_ .f32 := constant S_ .f32 0x7F800000#32
  let main_v30 : FVec F S1x4096x1024 .f32 := broadcastInDim S1x4096x1024 ![] bcast_S_S1x4096x1024 main_cst_10
  let main_v31 : IVec S1x4096x1024 1 := cmpf .olt main_v29 main_v30
  let main_c_11 : IVec S_ 1 := constantI S_ 1 1#1
  let main_v32 : IVec S_ 1 := (fun x v => Host.reduce IntOp.andi x v reducesTo_S1x4096x1024_S_d0_1_2 h_S_) main_v31 main_c_11
  let main_v33 : IVec S_ 1 := andi main_v28 main_v32
  main_v33

def fn {F : FTy → Type} [FloatOps F] (main_arg0 : FVec F S1x4096x1024 .f32) (main_arg1 : FVec F S1x1024 .f32) (main_arg2 : FVec F S1x1024x2816 .f32) (main_arg3 : FVec F S1x1024x2816 .f32) (main_arg4 : FVec F S1x2816x1024 .f32) (main_arg5 : FVec F S1024 .f32) (main_arg6 : FVec F S1x4096x1024 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x2816 .f32 := Host.absf main_arg2
  let main_cst_2 : FVec F S_ .f32 := constant S_ .f32 0x7F800000#32
  let main_v10 : FVec F S1x1024x2816 .f32 := broadcastInDim S1x1024x2816 ![] bcast_S_S1x1024x2816 main_cst_2
  let main_v11 : IVec S1x1024x2816 1 := cmpf .olt main_v9 main_v10
  let main_c_3 : IVec S_ 1 := constantI S_ 1 1#1
  let main_v12 : IVec S_ 1 := (fun x v => Host.reduce IntOp.andi x v reducesTo_S1x1024x2816_S_d0_1_2 h_S_) main_v11 main_c_3
  let main_v13 : IVec S_ 1 := andi main_v8 main_v12
  let main_v14 : FVec F S1x1024x2816 .f32 := Host.absf main_arg3
  let main_cst_4 : FVec F S_ .f32 := constant S_ .f32 0x7F800000#32
  let main_v15 : FVec F S1x1024x2816 .f32 := broadcastInDim S1x1024x2816 ![] bcast_S_S1x1024x2816 main_cst_4
  let main_v16 : IVec S1x1024x2816 1 := cmpf .olt main_v14 main_v15
  fn_part1 (F := F) main_arg4 main_arg5 main_arg6 main_v13 main_v16
-- ==== Pre_finite6.lean ====
abbrev S1x4096x2816 : Shape := ⟨3, ![1, 4096, 2816]⟩
abbrev S1x2816x1024 : Shape := ⟨3, ![1, 2816, 1024]⟩
abbrev S1x4096x1024 : Shape := ⟨3, ![1, 4096, 1024]⟩
abbrev S_ : Shape := ⟨0, ![]⟩

class Facts : Prop where
  bcast_S_S1x4096x2816 : S_.BroadcastsInDim S1x4096x2816 (![] : Fin 0 → Fin S1x4096x2816.rank)
  reducesTo_S1x4096x2816_S_d0_1_2 : S1x4096x2816.ReducesTo [0, 1, 2] S_
  h_S_ : 0 < S_.numel
  bcast_S_S1x2816x1024 : S_.BroadcastsInDim S1x2816x1024 (![] : Fin 0 → Fin S1x2816x1024.rank)
  reducesTo_S1x2816x1024_S_d0_1_2 : S1x2816x1024.ReducesTo [0, 1, 2] S_
  bcast_S_S1x4096x1024 : S_.BroadcastsInDim S1x4096x1024 (![] : Fin 0 → Fin S1x4096x1024.rank)
  reducesTo_S1x4096x1024_S_d0_1_2 : S1x4096x1024.ReducesTo [0, 1, 2] S_

variable [Facts]

def fn_part1 {F : FTy → Type} [FloatOps F] (main_v13 : IVec S_ 1) (main_v16 : IVec S1x4096x1024 1) : IVec S_ 1 :=
  let main_c_5 : IVec S_ 1 := constantI S_ 1 1#1
  let main_v17 : IVec S_ 1 := (fun x v => Host.reduce IntOp.andi x v reducesTo_S1x4096x1024_S_d0_1_2 h_S_) main_v16 main_c_5
  let main_v18 : IVec S_ 1 := andi main_v13 main_v17
  main_v18

def fn {F : FTy → Type} [FloatOps F] (main_arg0 : FVec F S1x4096x2816 .f32) (main_arg1 : FVec F S1x4096x2816 .f32) (main_arg2 : FVec F S1x2816x1024 .f32) (main_arg3 : FVec F S1x4096x1024 .f32) : IVec S_ 1 :=
  let main_v0 : FVec F S1x4096x2816 .f32 := Host.absf main_arg0
  let main_cst : FVec F S_ .f32 := constant S_ .f32 0x7F800000#32
  let main_v1 : FVec F S1x4096x2816 .f32 := broadcastInDim S1x4096x2816 ![] bcast_S_S1x4096x2816 main_cst
  let main_v2 : IVec S1x4096x2816 1 := cmpf .olt main_v0 main_v1
  let main_c : IVec S_ 1 := constantI S_ 1 1#1
  let main_v3 : IVec S_ 1 := (fun x v => Host.reduce IntOp.andi x v reducesTo_S1x4096x2816_S_d0_1_2 h_S_) main_v2 main_c
  let main_v4 : FVec F S1x4096x2816 .f32 := Host.absf main_arg1
  let main_cst_0 : FVec F S_ .f32 := constant S_ .f32 0x7F800000#32
  let main_v5 : FVec F S1x4096x2816 .f32 := broadcastInDim S1x4096x2816 ![] bcast_S_S1x4096x2816 main_cst_0
  let main_v6 : IVec S1x4096x2816 1 := cmpf .olt main_v4 main_v5
  let main_c_1 : IVec S_ 1 := constantI S_ 1 1#1
  let main_v7 : IVec S_ 1 := (fun x v => Host.reduce IntOp.andi x v reducesTo_S1x4096x2816_S_d0_1_2 h_S_) main_v6 main_c_1
  let main_v8 : IVec S_ 1 := andi main_v3 main_v7
  let main_v9 : FVec F S1x2816x1024 .f32 := Host.absf main_arg2
  let main_cst_2 : FVec F S_ .f32 := constant S_ .f32 0x7F800000#32
  let main_v10 : FVec F S1x2816x1024 .f32 := broadcastInDim S1x2816x1024 ![] bcast_S_S1x2816x1024 main_cst_2
  let main_v11 : IVec S1x2816x1024 1 := cmpf .olt main_v9 main_v10
  let main_c_3 : IVec S_ 1 := constantI S_ 1 1#1
  let main_v12 : IVec S_ 1 := (fun x v => Host.reduce IntOp.andi x v reducesTo_S1x2816x1024_S_d0_1_2 h_S_) main_v11 main_c_3
  let main_v13 : IVec S_ 1 := andi main_v8 main_v12
  let main_v14 : FVec F S1x4096x1024 .f32 := Host.absf main_arg3
  let main_cst_4 : FVec F S_ .f32 := constant S_ .f32 0x7F800000#32
  let main_v15 : FVec F S1x4096x1024 .f32 := broadcastInDim S1x4096x1024 ![] bcast_S_S1x4096x1024 main_cst_4
  let main_v16 : IVec S1x4096x1024 1 := cmpf .olt main_v14 main_v15
  fn_part1 (F := F) main_v13 main_v16
-- ==== Pre_finite7.lean ====
abbrev S1x4096x5120 : Shape := ⟨3, ![1, 4096, 5120]⟩
abbrev S1x31x1024 : Shape := ⟨3, ![1, 31, 1024]⟩
abbrev S1x1024 : Shape := ⟨2, ![1, 1024]⟩
abbrev S1x3x1024 : Shape := ⟨3, ![1, 3, 1024]⟩
abbrev S_ : Shape := ⟨0, ![]⟩

class Facts : Prop where
  bcast_S_S1x4096x5120 : S_.BroadcastsInDim S1x4096x5120 (![] : Fin 0 → Fin S1x4096x5120.rank)
  reducesTo_S1x4096x5120_S_d0_1_2 : S1x4096x5120.ReducesTo [0, 1, 2] S_
  h_S_ : 0 < S_.numel
  bcast_S_S1x31x1024 : S_.BroadcastsInDim S1x31x1024 (![] : Fin 0 → Fin S1x31x1024.rank)
  reducesTo_S1x31x1024_S_d0_1_2 : S1x31x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1x3x1024 : S_.BroadcastsInDim S1x3x1024 (![] : Fin 0 → Fin S1x3x1024.rank)
  reducesTo_S1x3x1024_S_d0_1_2 : S1x3x1024.ReducesTo [0, 1, 2] S_

variable [Facts]

def fn_part1 {F : FTy → Type} [FloatOps F] (main_v13 : IVec S_ 1) (main_v16 : IVec S1x3x1024 1) : IVec S_ 1 :=
  let main_c_5 : IVec S_ 1 := constantI S_ 1 1#1
  let main_v17 : IVec S_ 1 := (fun x v => Host.reduce IntOp.andi x v reducesTo_S1x3x1024_S_d0_1_2 h_S_) main_v16 main_c_5
  let main_v18 : IVec S_ 1 := andi main_v13 main_v17
  main_v18

def fn {F : FTy → Type} [FloatOps F] (main_arg0 : FVec F S1x4096x5120 .f32) (main_arg1 : FVec F S1x31x1024 .f32) (main_arg2 : FVec F S1x1024 .f32) (main_arg3 : FVec F S1x3x1024 .f32) : IVec S_ 1 :=
  let main_v0 : FVec F S1x4096x5120 .f32 := Host.absf main_arg0
  let main_cst : FVec F S_ .f32 := constant S_ .f32 0x7F800000#32
  let main_v1 : FVec F S1x4096x5120 .f32 := broadcastInDim S1x4096x5120 ![] bcast_S_S1x4096x5120 main_cst
  let main_v2 : IVec S1x4096x5120 1 := cmpf .olt main_v0 main_v1
  let main_c : IVec S_ 1 := constantI S_ 1 1#1
  let main_v3 : IVec S_ 1 := (fun x v => Host.reduce IntOp.andi x v reducesTo_S1x4096x5120_S_d0_1_2 h_S_) main_v2 main_c
  let main_v4 : FVec F S1x31x1024 .f32 := Host.absf main_arg1
  let main_cst_0 : FVec F S_ .f32 := constant S_ .f32 0x7F800000#32
  let main_v5 : FVec F S1x31x1024 .f32 := broadcastInDim S1x31x1024 ![] bcast_S_S1x31x1024 main_cst_0
  let main_v6 : IVec S1x31x1024 1 := cmpf .olt main_v4 main_v5
  let main_c_1 : IVec S_ 1 := constantI S_ 1 1#1
  let main_v7 : IVec S_ 1 := (fun x v => Host.reduce IntOp.andi x v reducesTo_S1x31x1024_S_d0_1_2 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x3x1024 .f32 := Host.absf main_arg3
  let main_cst_4 : FVec F S_ .f32 := constant S_ .f32 0x7F800000#32
  let main_v15 : FVec F S1x3x1024 .f32 := broadcastInDim S1x3x1024 ![] bcast_S_S1x3x1024 main_cst_4
  let main_v16 : IVec S1x3x1024 1 := cmpf .olt main_v14 main_v15
  fn_part1 (F := F) main_v13 main_v16
-- ==== Kernel.lean ====
abbrev S1x4096x1024 : Shape := ⟨3, ![1, 4096, 1024]⟩
abbrev S1x1024 : Shape := ⟨2, ![1, 1024]⟩
abbrev S1x1024x2816 : Shape := ⟨3, ![1, 1024, 2816]⟩
abbrev S1x4096x5632 : Shape := ⟨3, ![1, 4096, 5632]⟩
abbrev S1024x2816 : Shape := ⟨2, ![1024, 2816]⟩
abbrev S2816x1024 : Shape := ⟨2, ![2816, 1024]⟩
abbrev S4096x1024 : Shape := ⟨2, ![4096, 1024]⟩
abbrev S8x1024 : Shape := ⟨2, ![8, 1024]⟩
abbrev S1x512x5632 : Shape := ⟨3, ![1, 512, 5632]⟩
abbrev S512x1024 : Shape := ⟨2, ![512, 1024]⟩
abbrev S5632x1024 : Shape := ⟨2, ![5632, 1024]⟩
abbrev S2 : Shape := ⟨1, ![2]⟩
abbrev S1 : Shape := ⟨1, ![1]⟩
abbrev S_ : Shape := ⟨0, ![]⟩
abbrev S512x5632 : Shape := ⟨2, ![512, 5632]⟩
abbrev S512 : Shape := ⟨1, ![512]⟩
abbrev S512x1 : Shape := ⟨2, ![512, 1]⟩
abbrev S1024 : Shape := ⟨1, ![1024]⟩

abbrev nBuf : Space → Nat
  | .hbm => 17
  | .vmem => 11
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x4096x5632, .f32⟩
  | .hbm, ⟨5, _⟩ => ⟨S1x4096x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | .hbm, ⟨9, _⟩ => ⟨S1024x2816, .f32⟩
  | .hbm, ⟨10, _⟩ => ⟨S2816x1024, .f32⟩
  | .hbm, ⟨11, _⟩ => ⟨S2816x1024, .bf16⟩
  | .hbm, ⟨12, _⟩ => ⟨S1x4096x5632, .bf16⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S8x1024, .f32⟩
  | .local _ .vmem, ⟨0, _⟩ => ⟨S1x512x5632, .bf16⟩
  | .local _ .vmem, ⟨1, _⟩ => ⟨S1x512x5632, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S8x1024, .f32⟩
  | .local _ .vmem, ⟨10, _⟩ => ⟨S5632x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S1x4096x1024 : Shape := ⟨3, ![1, 4096, 1024]⟩
abbrev S1x1024 : Shape := ⟨2, ![1, 1024]⟩
abbrev S1x1024x2816 : Shape := ⟨3, ![1, 1024, 2816]⟩
abbrev S1x4096x5632 : Shape := ⟨3, ![1, 4096, 5632]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S4096x2816 : Shape := ⟨2, ![4096, 2816]⟩
abbrev S1x4096x2816 : Shape := ⟨3, ![1, 4096, 2816]⟩
abbrev S7x1024 : Shape := ⟨2, ![7, 1024]⟩
abbrev S8x1024 : Shape := ⟨2, ![8, 1024]⟩

abbrev nBuf : Space → Nat
  | .hbm => 70
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x4096x5632, .f32⟩
  | .hbm, ⟨5, _⟩ => ⟨S1x4096x1024, .f32⟩
  | .hbm, ⟨6, _⟩ => ⟨S4096x1024, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S1024x2816, .f32⟩
  | .hbm, ⟨29, _⟩ => ⟨S4096x2816, .f32⟩
  | .hbm, ⟨30, _⟩ => ⟨S1024x2816, .f32⟩
  | .hbm, ⟨31, _⟩ => ⟨S4096x2816, .f32⟩
  | .hbm, ⟨32, _⟩ => ⟨S4096x1024, .f32⟩
  | .hbm, ⟨33, _⟩ => ⟨S1x4096x2816, .f32⟩
  | .hbm, ⟨34, _⟩ => ⟨S4096x2816, .f32⟩
  | .hbm, ⟨35, _⟩ => ⟨S1x4096x2816, .f32⟩
  | .hbm, ⟨36, _⟩ => ⟨S4096x2816, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S4096x1024, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S1x1024, .f32⟩
  | .hbm, ⟨67, _⟩ => ⟨S_, .f32⟩
  | .hbm, ⟨68, _⟩ => ⟨S7x1024, .f32⟩
  | .hbm, ⟨69, _⟩ => ⟨S8x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_cst_7 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_8 : Ref sig .tc := ⟨.hbm, 67, rfl⟩
abbrev main_v52 : Ref sig .tc := ⟨.hbm, 68, rfl⟩
abbrev main_v53 : Ref sig .tc := ⟨.hbm, 69, rfl⟩

abbrev nD : Nat := 1
abbrev τ : Topo := Topo.v7x

variable {F : FTy → Type} [FloatOps F]
-- ==== Kernel3.lean ====
abbrev S1x4096x1024 : Shape := ⟨3, ![1, 4096, 1024]⟩
abbrev S1x1024x1024 : Shape := ⟨3, ![1, 1024, 1024]⟩
abbrev S1x1024 : Shape := ⟨2, ![1, 1024]⟩
abbrev S_ : Shape := ⟨0, ![]⟩
abbrev S5x4096x1024 : Shape := ⟨3, ![5, 4096, 1024]⟩
abbrev S7x4096x1024 : Shape := ⟨3, ![7, 4096, 1024]⟩
abbrev S1024x1024 : Shape := ⟨2, ![1024, 1024]⟩
abbrev S3072x1024 : Shape := ⟨2, ![3072, 1024]⟩
abbrev S4096x1024 : Shape := ⟨2, ![4096, 1024]⟩
abbrev S4096 : Shape := ⟨1, ![4096]⟩
abbrev S4096x1 : Shape := ⟨2, ![4096, 1]⟩
abbrev S2x4096x1024 : Shape := ⟨3, ![2, 4096, 1024]⟩
abbrev S3x4096x1024 : Shape := ⟨3, ![3, 4096, 1024]⟩
abbrev S8x1024 : Shape := ⟨2, ![8, 1024]⟩
abbrev S512x1024 : Shape := ⟨2, ![512, 1024]⟩
abbrev S1x512x1024 : Shape := ⟨3, ![1, 512, 1024]⟩
abbrev S2x512x1024 : Shape := ⟨3, ![2, 512, 1024]⟩
abbrev S3x512x1024 : Shape := ⟨3, ![3, 512, 1024]⟩
abbrev S512 : Shape := ⟨1, ![512]⟩
abbrev S512x1 : Shape := ⟨2, ![512, 1]⟩
abbrev S1024 : Shape := ⟨1, ![1024]⟩

abbrev nBuf : Space → Nat
  | .hbm => 72
  | .vmem => 30
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x4096x1024, .f32⟩
  | .hbm, ⟨3, _⟩ => ⟨S1x4096x1024, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1x1024, .f32⟩
  | .hbm, ⟨8, _⟩ => ⟨S1x1024, .f32⟩
  | .hbm, ⟨9, _⟩ => ⟨S1x4096x1024, .f32⟩
  | .hbm, ⟨10, _⟩ => ⟨S_, .f32⟩
  | .hbm, ⟨11, _⟩ => ⟨S5x4096x1024, .f32⟩
  | .hbm, ⟨12, _⟩ => ⟨S7x4096x1024, .f32⟩
  | .hbm, ⟨13, _⟩ => ⟨S7x4096x1024, .bf16⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S3072x1024, .f32⟩
  | .hbm, ⟨18, _⟩ => ⟨S3072x1024, .bf16⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S1024x1024, .f32⟩
  | .hbm, ⟨55, _⟩ => ⟨S4096x1024, .f32⟩
  | .hbm, ⟨56, _⟩ => ⟨S4096x1024, .bf16⟩
  | .hbm, ⟨57, _⟩ => ⟨S4096x1024, .f32⟩
  | .hbm, ⟨58, _⟩ => ⟨S1024x1024, .f32⟩
  | .hbm, ⟨59, _⟩ => ⟨S4096x1024, .f32⟩
  | .hbm, ⟨60, _⟩ => ⟨S4096x1024, .bf16⟩
  | .hbm, ⟨61, _⟩ => ⟨S4096x1024, .f32⟩
  | .hbm, ⟨62, _⟩ => ⟨S4096x1024, .f32⟩
  | .hbm, ⟨63, _⟩ => ⟨S4096x1024, .bf16⟩
  | .hbm, ⟨64, _⟩ => ⟨S4096x1024, .f32⟩
  | .hbm, ⟨65, _⟩ => ⟨S4096x1024, .bf16⟩
  | .hbm, ⟨66, _⟩ => ⟨S2x4096x1024, .bf16⟩
  | .hbm, ⟨67, _⟩ => ⟨S4096x1024, .bf16⟩
  | .hbm, ⟨68, _⟩ => ⟨S4096x1024, .bf16⟩
  | .hbm, ⟨69, _⟩ => ⟨S3x4096x1024, .bf16⟩
  | .hbm, ⟨70, _⟩ => ⟨S3x4096x1024, .bf16⟩
  | .hbm, ⟨71, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S2x512x1024, .bf16⟩
  | .local _ .vmem, ⟨20, _⟩ => ⟨S2x512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S3x512x1024, .bf16⟩
  | .local _ .vmem, ⟨26, _⟩ => ⟨S3x512x1024, .bf16⟩
  | .local _ .vmem, ⟨27, _⟩ => ⟨S3x512x1024, .bf16⟩
  | .local _ .vmem, ⟨28, _⟩ => ⟨S3x512x1024, .bf16⟩
  | .local _ .vmem, ⟨29, _⟩ => ⟨S8x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48_0 : Ref sig .tc := ⟨.hbm, 66, rfl⟩
abbrev main_v48_1 : Ref sig .tc := ⟨.hbm, 67, rfl⟩
abbrev main_v48_2 : Ref sig .tc := ⟨.hbm, 68, rfl⟩
abbrev main_v48_3 : Ref sig .tc := ⟨.hbm, 69, rfl⟩
abbrev main_v48_4 : Ref sig .tc := ⟨.hbm, 70, rfl⟩
abbrev main_v48_5 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_4 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_11 (i : grid0.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S3x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S3x512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference3Ideal.lean ====
abbrev S1x4096x1024 : Shape := ⟨3, ![1, 4096, 1024]⟩
abbrev S1x1024x1024 : Shape := ⟨3, ![1, 1024, 1024]⟩
abbrev S1x1024 : Shape := ⟨2, ![1, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x1024 : Shape := ⟨2, ![1024, 1024]⟩
abbrev S5x1024 : Shape := ⟨2, ![5, 1024]⟩
abbrev S8x1024 : Shape := ⟨2, ![8, 1024]⟩
abbrev S2x4096x1024 : Shape := ⟨3, ![2, 4096, 1024]⟩
abbrev S3x4096x1024 : Shape := ⟨3, ![3, 4096, 1024]⟩

abbrev nBuf : Space → Nat
  | .hbm => 276
  | .vmem => 0
  | .smem => 0
  | _ => 0

abbrev hbmTy0_0 (i : Nat) : BufTy := match i % 128 with
  | 0 => ⟨S1x4096x1024, .f32⟩
  | 1 => ⟨S1x4096x1024, .f32⟩
  | 2 => ⟨S1x4096x1024, .f32⟩
  | 3 => ⟨S1x4096x1024, .f32⟩
  | 4 => ⟨S1x1024x1024, .f32⟩
  | 5 => ⟨S1x1024x1024, .f32⟩
  | 6 => ⟨S1x1024x1024, .f32⟩
  | 7 => ⟨S1x1024, .f32⟩
  | 8 => ⟨S1x1024, .f32⟩
  | 9 => ⟨S1x4096x1024, .f32⟩
  | 10 => ⟨S4096x1024, .f32⟩
  | 11 => ⟨S4096x1024, .f32⟩
  | 12 => ⟨S4096x1024, .f32⟩
  | 13 => ⟨S4096x1024, .f32⟩
  | 14 => ⟨S1024, .f32⟩
  | 15 => ⟨S1024, .f32⟩
  | 16 => ⟨S_, .f32⟩
  | 17 => ⟨S4096, .f32⟩
  | 18 => ⟨S4096x1, .f32⟩
  | 19 => ⟨S_, .f32⟩
  | 20 => ⟨S4096x1, .f32⟩
  | 21 => ⟨S4096x1, .f32⟩
  | 22 => ⟨S4096x1024, .f32⟩
  | 23 => ⟨S4096x1024, .f32⟩
  | 24 => ⟨S4096x1024, .f32⟩
  | 25 => ⟨S_, .f32⟩
  | 26 => ⟨S4096x1024, .f32⟩
  | 27 => ⟨S4096x1024, .f32⟩
  | 28 => ⟨S_, .f32⟩
  | 29 => ⟨S4096, .f32⟩
  | 30 => ⟨S4096x1, .f32⟩
  | 31 => ⟨S_, .f32⟩
  | 32 => ⟨S4096x1, .f32⟩
  | 33 => ⟨S4096x1, .f32⟩
  | 34 => ⟨S4096x1024, .f32⟩
  | 35 => ⟨S4096x1024, .f32⟩
  | 36 => ⟨S_, .f32⟩
  | 37 => ⟨S4096x1, .f32⟩
  | 38 => ⟨S4096x1, .f32⟩
  | 39 => ⟨S4096x1, .f32⟩
  | 40 => ⟨S4096x1, .f32⟩
  | 41 => ⟨S_, .f32⟩
  | 42 => ⟨S4096x1, .f32⟩
  | 43 => ⟨S4096x1, .f32⟩
  | 44 => ⟨S4096x1024, .f32⟩
  | 45 => ⟨S4096x1024, .f32⟩
  | 46 => ⟨S1x1024, .f32⟩
  | 47 => ⟨S4096x1024, .f32⟩
  | 48 => ⟨S4096x1024, .f32⟩
  | 49 => ⟨S1x1024, .f32⟩
  | 50 => ⟨S4096x1024, .f32⟩
  | 51 => ⟨S4096x1024, .f32⟩
  | 52 => ⟨S4096x1024, .f32⟩
  | 53 => ⟨S4096x1024, .f32⟩
  | 54 => ⟨S_, .f32⟩
  | 55 => ⟨S4096x1024, .f32⟩
  | 56 => ⟨S4096x1024, .f32⟩
  | 57 => ⟨S_, .f32⟩
  | 58 => ⟨S4096x1024, .f32⟩
  | 59 => ⟨S4096x1024, .f32⟩
  | 60 => ⟨S_, .f32⟩
  | 61 => ⟨S4096x1024, .f32⟩
  | 62 => ⟨S4096x1024, .f32⟩
  | 63 => ⟨S4096x1024, .f32⟩
  | 64 => ⟨S4096x1024, .f32⟩
  | 65 => ⟨S1024x1024, .f32⟩
  | 66 => ⟨S4096x1024, .f32⟩
  | 67 => ⟨S1024x1024, .f32⟩
  | 68 => ⟨S4096x1024, .f32⟩
  | 69 => ⟨S4096x1024, .f32⟩
  | 70 => ⟨S4096x1024, .f32⟩
  | 71 => ⟨S_, .f32⟩
  | 72 => ⟨S4096x1024, .f32⟩
  | 73 => ⟨S4096x1024, .f32⟩
  | 74 => ⟨S_, .f32⟩
  | 75 => ⟨S4096x1024, .f32⟩
  | 76 => ⟨S4096x1024, .f32⟩
  | 77 => ⟨S_, .f32⟩
  | 78 => ⟨S4096x1024, .f32⟩
  | 79 => ⟨S4096x1024, .f32⟩
  | 80 => ⟨S4096x1024, .f32⟩
  | 81 => ⟨S4096x1024, .f32⟩
  | 82 => ⟨S4096x1024, .f32⟩
  | 83 => ⟨S4096x1024, .f32⟩
  | 84 => ⟨S_, .f32⟩
  | 85 => ⟨S4096x1024, .f32⟩
  | 86 => ⟨S4096x1024, .f32⟩
  | 87 => ⟨S_, .f32⟩
  | 88 => ⟨S4096x1024, .f32⟩
  | 89 => ⟨S4096x1024, .f32⟩
  | 90 => ⟨S_, .f32⟩
  | 91 => ⟨S4096x1024, .f32⟩
  | 92 => ⟨S4096x1024, .f32⟩
  | 93 => ⟨S4096x1024, .f32⟩
  | 94 => ⟨S4096x1024, .f32⟩
  | 95 => ⟨S4096x1024, .f32⟩
  | 96 => ⟨S1024x1024, .f32⟩
  | 97 => ⟨S4096x1024, .f32⟩
  | 98 => ⟨S4096x1024, .f32⟩
  | 99 => ⟨S4096x1024, .f32⟩
  | 100 => ⟨S4096x1024, .f32⟩
  | 101 => ⟨S4096x1024, .f32⟩
  | 102 => ⟨S4096x1024, .f32⟩
  | 103 => ⟨S4096x1024, .f32⟩
  | 104 => ⟨S4096x1024, .f32⟩
  | 105 => ⟨S4096x1024, .f32⟩
  | 106 => ⟨S4096x1024, .f32⟩
  | 107 => ⟨S4096x1024, .f32⟩
  | 108 => ⟨S4096x1024, .f32⟩
  | 109 => ⟨S4096x1024, .f32⟩
  | 110 => ⟨S4096x1024, .f32⟩
  | 111 => ⟨S4096x1024, .f32⟩
  | 112 => ⟨S_, .f32⟩
  | 113 => ⟨S1024, .f32⟩
  | 114 => ⟨S1x1024, .f32⟩
  | 115 => ⟨S_, .f32⟩
  | 116 => ⟨S1024, .f32⟩
  | 117 => ⟨S4096x1024, .f32⟩
  | 118 => ⟨S_, .f32⟩
  | 119 => ⟨S1024, .f32⟩
  | 120 => ⟨S1x1024, .f32⟩
  | 121 => ⟨S4096x1024, .f32⟩
  | 122 => ⟨S4096x1024, .f32⟩
  | 123 => ⟨S_, .f32⟩
  | 124 => ⟨S1024, .f32⟩
  | 125 => ⟨S4096x1024, .f32⟩
  | 126 => ⟨S_, .f32⟩
  | 127 => ⟨S4096, .f32⟩
  | _ => ⟨S1x4096x1024, .f32⟩

abbrev hbmTy0_1 (i : Nat) : BufTy := match i % 128 with
  | 0 => ⟨S4096x1, .f32⟩
  | 1 => ⟨S4096x1024, .f32⟩
  | 2 => ⟨S4096x1024, .f32⟩
  | 3 => ⟨S4096x1, .f32⟩
  | 4 => ⟨S4096x1024, .f32⟩
  | 5 => ⟨S_, .f32⟩
  | 6 => ⟨S4096, .f32⟩
  | 7 => ⟨S4096x1, .f32⟩
  | 8 => ⟨S_, .f32⟩
  | 9 => ⟨S4096x1, .f32⟩
  | 10 => ⟨S4096x1, .f32⟩
  | 11 => ⟨S_, .f32⟩
  | 12 => ⟨S4096, .f32⟩
  | 13 => ⟨S4096x1024, .f32⟩
  | 14 => ⟨S4096x1024, .f32⟩
  | 15 => ⟨S4096x1024, .f32⟩
  | 16 => ⟨S_, .f32⟩
  | 17 => ⟨S4096, .f32⟩
  | 18 => ⟨S4096x1, .f32⟩
  | 19 => ⟨S4096x1024, .f32⟩
  | 20 => ⟨S4096x1, .f32⟩
  | 21 => ⟨S_, .f32⟩
  | 22 => ⟨S4096x1, .f32⟩
  | 23 => ⟨S4096x1, .f32⟩
  | 24 => ⟨S_, .f32⟩
  | 25 => ⟨S4096, .f32⟩
  | 26 => ⟨S4096x1024, .f32⟩
  | 27 => ⟨S4096x1024, .f32⟩
  | 28 => ⟨S1x1024, .f32⟩
  | 29 => ⟨S1x1024, .f32⟩
  | 30 => ⟨S4096x1024, .f32⟩
  | 31 => ⟨S1024, .f32⟩
  | 32 => ⟨S1024, .f32⟩
  | 33 => ⟨S_, .f32⟩
  | 34 => ⟨S4096, .f32⟩
  | 35 => ⟨S4096x1, .f32⟩
  | 36 => ⟨S_, .f32⟩
  | 37 => ⟨S4096x1, .f32⟩
  | 38 => ⟨S4096x1, .f32⟩
  | 39 => ⟨S4096x1024, .f32⟩
  | 40 => ⟨S4096x1024, .f32⟩
  | 41 => ⟨S4096x1024, .f32⟩
  | 42 => ⟨S_, .f32⟩
  | 43 => ⟨S4096, .f32⟩
  | 44 => ⟨S4096x1, .f32⟩
  | 45 => ⟨S_, .f32⟩
  | 46 => ⟨S4096x1, .f32⟩
  | 47 => ⟨S4096x1, .f32⟩
  | 48 => ⟨S4096x1024, .f32⟩
  | 49 => ⟨S4096x1024, .f32⟩
  | 50 => ⟨S_, .f32⟩
  | 51 => ⟨S4096x1, .f32⟩
  | 52 => ⟨S4096x1, .f32⟩
  | 53 => ⟨S4096x1, .f32⟩
  | 54 => ⟨S4096x1024, .f32⟩
  | 55 => ⟨S4096x1024, .f32⟩
  | 56 => ⟨S1x1024, .f32⟩
  | 57 => ⟨S4096x1024, .f32⟩
  | 58 => ⟨S4096x1024, .f32⟩
  | 59 => ⟨S1x1024, .f32⟩
  | 60 => ⟨S4096x1024, .f32⟩
  | 61 => ⟨S4096x1024, .f32⟩
  | 62 => ⟨S4096x1024, .f32⟩
  | 63 => ⟨S4096x1024, .f32⟩
  | 64 => ⟨S_, .f32⟩
  | 65 => ⟨S4096x1024, .f32⟩
  | 66 => ⟨S4096x1024, .f32⟩
  | 67 => ⟨S_, .f32⟩
  | 68 => ⟨S4096x1024, .f32⟩
  | 69 => ⟨S4096x1024, .f32⟩
  | 70 => ⟨S4096x1024, .f32⟩
  | 71 => ⟨S1024x1024, .f32⟩
  | 72 => ⟨S4096x1024, .f32⟩
  | 73 => ⟨S4096x1024, .f32⟩
  | 74 => ⟨S1024x1024, .f32⟩
  | 75 => ⟨S4096x1024, .f32⟩
  | 76 => ⟨S4096x1024, .f32⟩
  | 77 => ⟨S4096x1024, .f32⟩
  | 78 => ⟨S4096x1024, .f32⟩
  | 79 => ⟨S4096x1024, .f32⟩
  | 80 => ⟨S_, .f32⟩
  | 81 => ⟨S4096x1024, .f32⟩
  | 82 => ⟨S4096x1024, .f32⟩
  | 83 => ⟨S_, .f32⟩
  | 84 => ⟨S4096x1024, .f32⟩
  | 85 => ⟨S4096x1024, .f32⟩
  | 86 => ⟨S4096x1024, .f32⟩
  | 87 => ⟨S4096x1024, .f32⟩
  | 88 => ⟨S4096x1024, .f32⟩
  | 89 => ⟨S_, .f32⟩
  | 90 => ⟨S4096x1024, .f32⟩
  | 91 => ⟨S4096x1024, .f32⟩
  | 92 => ⟨S_, .f32⟩
  | 93 => ⟨S4096x1024, .f32⟩
  | 94 => ⟨S4096x1024, .f32⟩
  | 95 => ⟨S4096x1024, .f32⟩
  | 96 => ⟨S4096x1024, .f32⟩
  | 97 => ⟨S4096x1024, .f32⟩
  | 98 => ⟨S4096x1024, .f32⟩
  | 99 => ⟨S4096x1024, .f32⟩
  | 100 => ⟨S4096x1024, .f32⟩
  | 101 => ⟨S_, .f32⟩
  | 102 => ⟨S4096x1024, .f32⟩
  | 103 => ⟨S4096x1024, .f32⟩
  | 104 => ⟨S_, .f32⟩
  | 105 => ⟨S4096x1024, .f32⟩
  | 106 => ⟨S4096x1024, .f32⟩
  | 107 => ⟨S4096x1024, .f32⟩
  | 108 => ⟨S4096x1024, .f32⟩
  | 109 => ⟨S4096x1024, .f32⟩
  | 110 => ⟨S_, .f32⟩
  | 111 => ⟨S4096x1024, .f32⟩
  | 112 => ⟨S4096x1024, .f32⟩
  | 113 => ⟨S_, .f32⟩
  | 114 => ⟨S4096x1024, .f32⟩
  | 115 => ⟨S4096x1024, .f32⟩
  | 116 => ⟨S4096x1024, .f32⟩
  | 117 => ⟨S4096x1024, .f32⟩
  | 118 => ⟨S1024x1024, .f32⟩
  | 119 => ⟨S4096x1024, .f32⟩
  | 120 => ⟨S4096x1024, .f32⟩
  | 121 => ⟨S4096x1024, .f32⟩
  | 122 => ⟨S4096x1024, .f32⟩
  | 123 => ⟨S4096x1024, .f32⟩
  | 124 => ⟨S_, .f32⟩
  | 125 => ⟨S1024, .f32⟩
  | 126 => ⟨S1x1024, .f32⟩
  | 127 => ⟨S_, .f32⟩
  | _ => ⟨S1x4096x1024, .f32⟩

abbrev hbmTy0_2 (i : Nat) : BufTy := match i % 128 with
  | 0 => ⟨S5x1024, .f32⟩
  | 1 => ⟨S8x1024, .f32⟩
  | 2 => ⟨S1x4096x1024, .f32⟩
  | 3 => ⟨S1x4096x1024, .f32⟩
  | 4 => ⟨S2x4096x1024, .f32⟩
  | 5 => ⟨S2x4096x1024, .bf16⟩
  | 6 => ⟨S4096x1024, .bf16⟩
  | 7 => ⟨S4096x1024, .bf16⟩
  | 8 => ⟨S4096x1024, .f32⟩
  | 9 => ⟨S1x4096x1024, .f32⟩
  | 10 => ⟨S1x4096x1024, .f32⟩
  | 11 => ⟨S1x4096x1024, .f32⟩
  | 12 => ⟨S3x4096x1024, .f32⟩
  | 13 => ⟨S3x4096x1024, .bf16⟩
  | 14 => ⟨S4096x1024, .f32⟩
  | 15 => ⟨S1x4096x1024, .f32⟩
  | 16 => ⟨S1x4096x1024, .f32⟩
  | 17 => ⟨S1x4096x1024, .f32⟩
  | 18 => ⟨S3x4096x1024, .f32⟩
  | 19 => ⟨S3x4096x1024, .bf16⟩
  | _ => ⟨S1x4096x1024, .f32⟩

abbrev hbmTy (i : Nat) : BufTy := match i / 128 with
  | 0 => hbmTy0_0 i
  | 1 => hbmTy0_1 i
  | 2 => hbmTy0_2 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_v35_2 : Ref sig .tc := ⟨.hbm, 59, rfl⟩
abbrev main_call0_cst_1 : Ref sig .tc := ⟨.hbm, 60, rfl⟩
abbrev main_call0_v6 : Ref sig .tc := ⟨.hbm, 61, rfl⟩
abbrev main_call0_v7 : Ref sig .tc := ⟨.hbm, 62, rfl⟩
abbrev main_v35_1 : Ref sig .tc := ⟨.hbm, 63, rfl⟩
abbrev main_v35_0 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_6 : Ref sig .tc := ⟨.hbm, 71, rfl⟩
abbrev main_v42 : Ref sig .tc := ⟨.hbm, 72, rfl⟩
abbrev main_v43 : Ref sig .tc := ⟨.hbm, 73, rfl⟩
abbrev main_cst_7 : Ref sig .tc := ⟨.hbm, 74, rfl⟩
abbrev main_v44 : Ref sig .tc := ⟨.hbm, 75, rfl⟩
abbrev main_v45 : Ref sig .tc := ⟨.hbm, 76, rfl⟩
abbrev main_cst_8 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_9 : Ref sig .tc := ⟨.hbm, 84, rfl⟩
abbrev main_v52 : Ref sig .tc := ⟨.hbm, 85, rfl⟩
abbrev main_v53 : Ref sig .tc := ⟨.hbm, 86, rfl⟩
abbrev main_cst_10 : Ref sig .tc := ⟨.hbm, 87, rfl⟩
abbrev main_v54 : Ref sig .tc := ⟨.hbm, 88, rfl⟩
abbrev main_v55 : Ref sig .tc := ⟨.hbm, 89, rfl⟩
abbrev main_cst_11 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_call1_v0 : Ref sig .tc := ⟨.hbm, 108, rfl⟩
abbrev main_call1_v1 : Ref sig .tc := ⟨.hbm, 109, rfl⟩
abbrev main_call1_v2 : Ref sig .tc := ⟨.hbm, 110, rfl⟩
abbrev main_v73 : Ref sig .tc := ⟨.hbm, 111, rfl⟩
abbrev main_cst_12 : Ref sig .tc := ⟨.hbm, 112, rfl⟩
abbrev main_v74 : Ref sig .tc := ⟨.hbm, 113, rfl⟩
abbrev main_v75 : Ref sig .tc := ⟨.hbm, 114, rfl⟩
abbrev main_cst_13 : Ref sig .tc := ⟨.hbm, 115, rfl⟩
abbrev main_v76 : Ref sig .tc := ⟨.hbm, 116, rfl⟩
abbrev main_v77 : Ref sig .tc := ⟨.hbm, 117, rfl⟩
abbrev main_cst_14 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_cst_15 : Ref sig .tc := ⟨.hbm, 123, rfl⟩
abbrev main_v82 : Ref sig .tc := ⟨.hbm, 124, rfl⟩
abbrev main_v83 : Ref sig .tc := ⟨.hbm, 125, rfl⟩
abbrev main_cst_16 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_cst_17 : Ref sig .tc := ⟨.hbm, 133, rfl⟩
abbrev main_v90 : Ref sig .tc := ⟨.hbm, 134, rfl⟩
abbrev main_v91 : Ref sig .tc := ⟨.hbm, 135, rfl⟩
abbrev main_cst_18 : Ref sig .tc := ⟨.hbm, 136, rfl⟩
abbrev main_v92 : Ref sig .tc := ⟨.hbm, 137, rfl⟩
abbrev main_v93 : Ref sig .tc := ⟨.hbm, 138, rfl⟩
abbrev main_cst_19 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_cst_20 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_cst_21 : Ref sig .tc := ⟨.hbm, 149, rfl⟩
abbrev main_v102 : Ref sig .tc := ⟨.hbm, 150, rfl⟩
abbrev main_v103 : Ref sig .tc := ⟨.hbm, 151, rfl⟩
abbrev main_cst_22 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_cst_23 : Ref sig .tc := ⟨.hbm, 161, rfl⟩
abbrev main_v112 : Ref sig .tc := ⟨.hbm, 162, rfl⟩
abbrev main_v113 : Ref sig .tc := ⟨.hbm, 163, rfl⟩
abbrev main_cst_24 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_cst_25 : Ref sig .tc := ⟨.hbm, 170, rfl⟩
abbrev main_v119 : Ref sig .tc := ⟨.hbm, 171, rfl⟩
abbrev main_v120 : Ref sig .tc := ⟨.hbm, 172, rfl⟩
abbrev main_cst_26 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_cst_27 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_call2_v0 : Ref sig .tc := ⟨.hbm, 190, rfl⟩
abbrev main_call2_v1 : Ref sig .tc := ⟨.hbm, 191, rfl⟩
abbrev main_call2_cst : Ref sig .tc := ⟨.hbm, 192, rfl⟩
abbrev main_call2_v2 : Ref sig .tc := ⟨.hbm, 193, rfl⟩
abbrev main_call2_v3 : Ref sig .tc := ⟨.hbm, 194, rfl⟩
abbrev main_call2_cst_0 : Ref sig .tc := ⟨.hbm, 195, rfl⟩
abbrev main_call2_v4 : Ref sig .tc := ⟨.hbm, 196, rfl⟩
abbrev main_call2_v5 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_cst_28 : Ref sig .tc := ⟨.hbm, 208, rfl⟩
abbrev main_v146 : Ref sig .tc := ⟨.hbm, 209, rfl⟩
abbrev main_v147 : Ref sig .tc := ⟨.hbm, 210, rfl⟩
abbrev main_cst_29 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_cst_30 : Ref sig .tc := ⟨.hbm, 217, rfl⟩
abbrev main_v153 : Ref sig .tc := ⟨.hbm, 218, rfl⟩
abbrev main_v154 : Ref sig .tc := ⟨.hbm, 219, rfl⟩
abbrev main_cst_31 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_cst_32 : Ref sig .tc := ⟨.hbm, 229, rfl⟩
abbrev main_v163 : Ref sig .tc := ⟨.hbm, 230, rfl⟩
abbrev main_v164 : Ref sig .tc := ⟨.hbm, 231, rfl⟩
abbrev main_cst_33 : Ref sig .tc := ⟨.hbm, 232, rfl⟩
abbrev main_v165 : Ref sig .tc := ⟨.hbm, 233, rfl⟩
abbrev main_v166 : Ref sig .tc := ⟨.hbm, 234, rfl⟩
abbrev main_v167 : Ref sig .tc := ⟨.hbm, 235, rfl⟩
abbrev main_v168 : Ref sig .tc := ⟨.hbm, 236, rfl⟩
abbrev main_v169 : Ref sig .tc := ⟨.hbm, 237, rfl⟩
abbrev main_cst_34 : Ref sig .tc := ⟨.hbm, 238, rfl⟩
abbrev main_v170 : Ref sig .tc := ⟨.hbm, 239, rfl⟩
abbrev main_v171 : Ref sig .tc := ⟨.hbm, 240, rfl⟩
abbrev main_cst_35 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩
abbrev main_v177 : Ref sig .tc := ⟨.hbm, 247, rfl⟩
abbrev main_v178 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_cst_36 : Ref sig .tc := ⟨.hbm, 252, rfl⟩
abbrev main_v182 : Ref sig .tc := ⟨.hbm, 253, rfl⟩
abbrev main_v183 : Ref sig .tc := ⟨.hbm, 254, rfl⟩
abbrev main_cst_37 : Ref sig .tc := ⟨.hbm, 255, rfl⟩
abbrev main_v184 : Ref sig .tc := ⟨.hbm, 256, rfl⟩
abbrev main_v185 : Ref sig .tc := ⟨.hbm, 257, rfl⟩
abbrev main_v186 : Ref sig .tc := ⟨.hbm, 258, rfl⟩
abbrev main_v187 : Ref sig .tc := ⟨.hbm, 259, rfl⟩
abbrev main_v188 : Ref sig .tc := ⟨.hbm, 260, rfl⟩
abbrev main_v189 : Ref sig .tc := ⟨.hbm, 261, rfl⟩
abbrev main_v190 : Ref sig .tc := ⟨.hbm, 262, rfl⟩
abbrev main_v191 : Ref sig .tc := ⟨.hbm, 263, rfl⟩
abbrev main_v192 : Ref sig .tc := ⟨.hbm, 264, rfl⟩
abbrev main_v193 : Ref sig .tc := ⟨.hbm, 265, rfl⟩
abbrev main_v194 : Ref sig .tc := ⟨.hbm, 266, rfl⟩
abbrev main_v195 : Ref sig .tc := ⟨.hbm, 267, rfl⟩
abbrev main_v196 : Ref sig .tc := ⟨.hbm, 268, rfl⟩
abbrev main_v197 : Ref sig .tc := ⟨.hbm, 269, rfl⟩
abbrev main_v198 : Ref sig .tc := ⟨.hbm, 270, rfl⟩
abbrev main_v199 : Ref sig .tc := ⟨.hbm, 271, rfl⟩
abbrev main_v200 : Ref sig .tc := ⟨.hbm, 272, rfl⟩
abbrev main_v201 : Ref sig .tc := ⟨.hbm, 273, rfl⟩
abbrev main_v202 : Ref sig .tc := ⟨.hbm, 274, rfl⟩
abbrev main_v203 : Ref sig .tc := ⟨.hbm, 275, rfl⟩

abbrev nD : Nat := 1
abbrev τ : Topo := Topo.v7x

variable {F : FTy → Type} [FloatOps F]
-- ==== Kernel4.lean ====
abbrev S1x4096x1024 : Shape := ⟨3, ![1, 4096, 1024]⟩
abbrev S1x1024 : Shape := ⟨2, ![1, 1024]⟩
abbrev S1x1024x7168 : Shape := ⟨3, ![1, 1024, 7168]⟩
abbrev S1x4096x7168 : Shape := ⟨3, ![1, 4096, 7168]⟩
abbrev S4096x7168 : Shape := ⟨2, ![4096, 7168]⟩
abbrev S4096x7x1024 : Shape := ⟨3, ![4096, 7, 1024]⟩
abbrev S7x4096x1024 : Shape := ⟨3, ![7, 4096, 1024]⟩
abbrev S1024x7168 : Shape := ⟨2, ![1024, 7168]⟩
abbrev S7168x1024 : Shape := ⟨2, ![7168, 1024]⟩
abbrev S8x2x448x1024 : Shape := ⟨4, ![8, 2, 448, 1024]⟩
abbrev S8x1x448x1024 : Shape := ⟨4, ![8, 1, 448, 1024]⟩
abbrev S8x448x1024 : Shape := ⟨3, ![8, 448, 1024]⟩
abbrev S3584x1024 : Shape := ⟨2, ![3584, 1024]⟩
abbrev S4096x1024 : Shape := ⟨2, ![4096, 1024]⟩
abbrev S8x1024 : Shape := ⟨2, ![8, 1024]⟩
abbrev S7x512x1024 : Shape := ⟨3, ![7, 512, 1024]⟩
abbrev S512x1024 : Shape := ⟨2, ![512, 1024]⟩
abbrev S16 : Shape := ⟨1, ![16]⟩
abbrev S1 : Shape := ⟨1, ![1]⟩
abbrev S_ : Shape := ⟨0, ![]⟩
abbrev S448x1024 : Shape := ⟨2, ![448, 1024]⟩
abbrev S1x512x1024 : Shape := ⟨3, ![1, 512, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 24
  | .vmem => 13
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x7168, .f32⟩
  | .hbm, ⟨3, _⟩ => ⟨S1x4096x7168, .f32⟩
  | .hbm, ⟨4, _⟩ => ⟨S1x4096x1024, .f32⟩
  | .hbm, ⟨5, _⟩ => ⟨S4096x7168, .f32⟩
  | .hbm, ⟨6, _⟩ => ⟨S4096x7x1024, .f32⟩
  | .hbm, ⟨7, _⟩ => ⟨S7x4096x1024, .f32⟩
  | .hbm, ⟨8, _⟩ => ⟨S7x4096x1024, .bf16⟩
  | .hbm, ⟨9, _⟩ => ⟨S1024x7168, .f32⟩
  | .hbm, ⟨10, _⟩ => ⟨S7168x1024, .f32⟩
  | .hbm, ⟨11, _⟩ => ⟨S7168x1024, .bf16⟩
  | .hbm, ⟨12, _⟩ => ⟨S8x2x448x1024, .bf16⟩
  | .hbm, ⟨13, _⟩ => ⟨S8x1x448x1024, .bf16⟩
  | .hbm, ⟨14, _⟩ => ⟨S8x448x1024, .bf16⟩
  | .hbm, ⟨15, _⟩ => ⟨S3584x1024, .bf16⟩
  | .hbm, ⟨16, _⟩ => ⟨S8x1x448x1024, .bf16⟩
  | .hbm, ⟨17, _⟩ => ⟨S8x448x1024, .bf16⟩
  | .hbm, ⟨18, _⟩ => ⟨S3584x1024, .bf16⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | .hbm, ⟨23, _⟩ => ⟨S8x1024, .f32⟩
  | .local _ .vmem, ⟨0, _⟩ => ⟨S7x512x1024, .bf16⟩
  | .local _ .vmem, ⟨1, _⟩ => ⟨S7x512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S8x1024, .f32⟩
  | .local _ .vmem, ⟨12, _⟩ => ⟨S7168x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16_0 : Ref sig .tc := ⟨.hbm, 21, rfl⟩
abbrev main_v16_1 : Ref sig .tc := ⟨.hbm, 22, rfl⟩
abbrev main_v16_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S7x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference4Ideal.lean ====
abbrev S1x4096x1024 : Shape := ⟨3, ![1, 4096, 1024]⟩
abbrev S1x1024 : Shape := ⟨2, ![1, 1024]⟩
abbrev S1x1024x7168 : Shape := ⟨3, ![1, 1024, 7168]⟩
abbrev S1x4096x7168 : Shape := ⟨3, ![1, 4096, 7168]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x7168 : Shape := ⟨2, ![1024, 7168]⟩
abbrev S4096x7168 : Shape := ⟨2, ![4096, 7168]⟩
abbrev S7x1024 : Shape := ⟨2, ![7, 1024]⟩
abbrev S8x1024 : Shape := ⟨2, ![8, 1024]⟩

abbrev nBuf : Space → Nat
  | .hbm => 66
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x7168, .f32⟩
  | .hbm, ⟨3, _⟩ => ⟨S1x4096x7168, .f32⟩
  | .hbm, ⟨4, _⟩ => ⟨S1x4096x1024, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S1024x7168, .f32⟩
  | .hbm, ⟨28, _⟩ => ⟨S4096x7168, .f32⟩
  | .hbm, ⟨29, _⟩ => ⟨S4096x1024, .f32⟩
  | .hbm, ⟨30, _⟩ => ⟨S4096x7168, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S1x1024, .f32⟩
  | .hbm, ⟨59, _⟩ => ⟨S_, .f32⟩
  | .hbm, ⟨60, _⟩ => ⟨S4096x1024, .f32⟩
  | .hbm, ⟨61, _⟩ => ⟨S4096x1024, .f32⟩
  | .hbm, ⟨62, _⟩ => ⟨S4096x1024, .bf16⟩
  | .hbm, ⟨63, _⟩ => ⟨S_, .f32⟩
  | .hbm, ⟨64, _⟩ => ⟨S7x1024, .f32⟩
  | .hbm, ⟨65, _⟩ => ⟨S8x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_9 : Ref sig .tc := ⟨.hbm, 63, rfl⟩
abbrev main_v48 : Ref sig .tc := ⟨.hbm, 64, rfl⟩
abbrev main_v49 : Ref sig .tc := ⟨.hbm, 65, rfl⟩

abbrev nD : Nat := 1
abbrev τ : Topo := Topo.v7x

variable {F : FTy → Type} [FloatOps F]
-- ==== Kernel5.lean ====
abbrev S1x4096x1024 : Shape := ⟨3, ![1, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x2816 : Shape := ⟨2, ![1024, 2816]⟩
abbrev S2816x1024 : Shape := ⟨2, ![2816, 1024]⟩
abbrev S4096x1024 : Shape := ⟨2, ![4096, 1024]⟩
abbrev S8x1024 : Shape := ⟨2, ![8, 1024]⟩
abbrev S4096x2816 : Shape := ⟨2, ![4096, 2816]⟩
abbrev S1x4096x2816 : Shape := ⟨3, ![1, 4096, 2816]⟩
abbrev S512x1024 : Shape := ⟨2, ![512, 1024]⟩
abbrev S512x2816 : Shape := ⟨2, ![512, 2816]⟩
abbrev S1x512x2816 : Shape := ⟨3, ![1, 512, 2816]⟩
abbrev S3 : Shape := ⟨1, ![3]⟩
abbrev S1 : Shape := ⟨1, ![1]⟩
abbrev S_ : Shape := ⟨0, ![]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩
abbrev S1x512x256 : Shape := ⟨3, ![1, 512, 256]⟩

abbrev nBuf : Space → Nat
  | .hbm => 25
  | .vmem => 22
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S1x4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | .hbm, ⟨10, _⟩ => ⟨S1024x2816, .f32⟩
  | .hbm, ⟨11, _⟩ => ⟨S2816x1024, .f32⟩
  | .hbm, ⟨12, _⟩ => ⟨S2816x1024, .bf16⟩
  | .hbm, ⟨13, _⟩ => ⟨S2816x1024, .f32⟩
  | .hbm, ⟨14, _⟩ => ⟨S2816x1024, .bf16⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S8x1024, .f32⟩
  | .hbm, ⟨21, _⟩ => ⟨S4096x1024, .bf16⟩
  | .hbm, ⟨22, _⟩ => ⟨S4096x2816, .bf16⟩
  | .hbm, ⟨23, _⟩ => ⟨S4096x2816, .bf16⟩
  | .hbm, ⟨24, _⟩ => ⟨S1x4096x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S8x1024, .f32⟩
  | .local _ .vmem, ⟨11, _⟩ => ⟨S512x1024, .bf16⟩
  | .local _ .vmem, ⟨12, _⟩ => ⟨S512x1024, .bf16⟩
  | .local _ .vmem, ⟨13, _⟩ => ⟨S512x2816, .bf16⟩
  | .local _ .vmem, ⟨14, _⟩ => ⟨S512x2816, .bf16⟩
  | .local _ .vmem, ⟨15, _⟩ => ⟨S512x2816, .bf16⟩
  | .local _ .vmem, ⟨16, _⟩ => ⟨S512x2816, .bf16⟩
  | .local _ .vmem, ⟨17, _⟩ => ⟨S1x512x2816, .bf16⟩
  | .local _ .vmem, ⟨18, _⟩ => ⟨S1x512x2816, .bf16⟩
  | .local _ .vmem, ⟨19, _⟩ => ⟨S2816x1024, .bf16⟩
  | .local _ .vmem, ⟨20, _⟩ => ⟨S2816x1024, .bf16⟩
  | .local _ .vmem, ⟨21, _⟩ => ⟨S2816x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev main_v11_4 : Ref sig .tc := ⟨.hbm, 22, rfl⟩
abbrev main_v11_5 : Ref sig .tc := ⟨.hbm, 23, rfl⟩
abbrev main_v11_6 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference5Ideal.lean ====
abbrev S1x4096x1024 : Shape := ⟨3, ![1, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S4096x2816 : Shape := ⟨2, ![4096, 2816]⟩
abbrev S2816x1024 : Shape := ⟨2, ![2816, 1024]⟩
abbrev S6x1024 : Shape := ⟨2, ![6, 1024]⟩
abbrev S8x1024 : Shape := ⟨2, ![8, 1024]⟩
abbrev S1x4096x2816 : Shape := ⟨3, ![1, 4096, 2816]⟩

abbrev nBuf : Space → Nat
  | .hbm => 134
  | .vmem => 0
  | .smem => 0
  | _ => 0

abbrev hbmTy0_0 (i : Nat) : BufTy := match i % 128 with
  | 0 => ⟨S1x4096x1024, .f32⟩
  | 1 => ⟨S1x1024, .f32⟩
  | 2 => ⟨S1x1024x2816, .f32⟩
  | 3 => ⟨S1x1024x2816, .f32⟩
  | 4 => ⟨S1x2816x1024, .f32⟩
  | 5 => ⟨S1024, .f32⟩
  | 6 => ⟨S1x4096x1024, .f32⟩
  | 7 => ⟨S4096x1024, .f32⟩
  | 8 => ⟨S1024, .f32⟩
  | 9 => ⟨S4096x1024, .f32⟩
  | 10 => ⟨S_, .f32⟩
  | 11 => ⟨S4096, .f32⟩
  | 12 => ⟨S4096x1, .f32⟩
  | 13 => ⟨S_, .f32⟩
  | 14 => ⟨S4096x1, .f32⟩
  | 15 => ⟨S4096x1, .f32⟩
  | 16 => ⟨S_, .f32⟩
  | 17 => ⟨S4096x1, .f32⟩
  | 18 => ⟨S4096x1, .f32⟩
  | 19 => ⟨S4096x1, .f32⟩
  | 20 => ⟨S4096x1024, .f32⟩
  | 21 => ⟨S4096x1024, .f32⟩
  | 22 => ⟨S1x1024, .f32⟩
  | 23 => ⟨S4096x1024, .f32⟩
  | 24 => ⟨S4096x1024, .f32⟩
  | 25 => ⟨S1024x2816, .f32⟩
  | 26 => ⟨S4096x2816, .f32⟩
  | 27 => ⟨S1024x2816, .f32⟩
  | 28 => ⟨S4096x2816, .f32⟩
  | 29 => ⟨S4096x2816, .f32⟩
  | 30 => ⟨S4096x2816, .f32⟩
  | 31 => ⟨S_, .f32⟩
  | 32 => ⟨S4096x2816, .f32⟩
  | 33 => ⟨S4096x2816, .f32⟩
  | 34 => ⟨S_, .f32⟩
  | 35 => ⟨S4096x2816, .f32⟩
  | 36 => ⟨S4096x2816, .f32⟩
  | 37 => ⟨S4096x2816, .f32⟩
  | 38 => ⟨S4096x2816, .f32⟩
  | 39 => ⟨S4096x1024, .f32⟩
  | 40 => ⟨S2816x1024, .f32⟩
  | 41 => ⟨S4096x1024, .f32⟩
  | 42 => ⟨S_, .f32⟩
  | 43 => ⟨S4096x1024, .f32⟩
  | 44 => ⟨S4096x1024, .f32⟩
  | 45 => ⟨S4096x1024, .f32⟩
  | 46 => ⟨S4096x1024, .f32⟩
  | 47 => ⟨S_, .f32⟩
  | 48 => ⟨S4096, .f32⟩
  | 49 => ⟨S4096x1, .f32⟩
  | 50 => ⟨S_, .f32⟩
  | 51 => ⟨S4096x1, .f32⟩
  | 52 => ⟨S4096x1, .f32⟩
  | 53 => ⟨S_, .f32⟩
  | 54 => ⟨S4096x1, .f32⟩
  | 55 => ⟨S4096x1, .f32⟩
  | 56 => ⟨S4096x1, .f32⟩
  | 57 => ⟨S4096x1, .f32⟩
  | 58 => ⟨S_, .f32⟩
  | 59 => ⟨S4096x1, .f32⟩
  | 60 => ⟨S4096x1, .f32⟩
  | 61 => ⟨S4096x1024, .f32⟩
  | 62 => ⟨S4096x1024, .f32⟩
  | 63 => ⟨S1x1024, .f32⟩
  | 64 => ⟨S4096x1024, .f32⟩
  | 65 => ⟨S4096x1024, .f32⟩
  | 66 => ⟨S4096x1024, .f32⟩
  | 67 => ⟨S4096x1024, .f32⟩
  | 68 => ⟨S4096x1024, .f32⟩
  | 69 => ⟨S_, .f32⟩
  | 70 => ⟨S4096x1024, .f32⟩
  | 71 => ⟨S4096x1024, .f32⟩
  | 72 => ⟨S_, .f32⟩
  | 73 => ⟨S4096, .f32⟩
  | 74 => ⟨S_, .f32⟩
  | 75 => ⟨S4096, .f32⟩
  | 76 => ⟨S4096, .f32⟩
  | 77 => ⟨S_, .f32⟩
  | 78 => ⟨S_, .f32⟩
  | 79 => ⟨S_, .f32⟩
  | 80 => ⟨S_, .f32⟩
  | 81 => ⟨S_, .f32⟩
  | 82 => ⟨S1024, .f32⟩
  | 83 => ⟨S1x1024, .f32⟩
  | 84 => ⟨S_, .f32⟩
  | 85 => ⟨S1x1024, .f32⟩
  | 86 => ⟨S1x1024, .f32⟩
  | 87 => ⟨S_, .f32⟩
  | 88 => ⟨S_, .f32⟩
  | 89 => ⟨S_, .f32⟩
  | 90 => ⟨S4096, .f32⟩
  | 91 => ⟨S_, .f32⟩
  | 92 => ⟨S4096, .f32⟩
  | 93 => ⟨S4096, .f32⟩
  | 94 => ⟨S4096x1024, .f32⟩
  | 95 => ⟨S4096x1024, .f32⟩
  | 96 => ⟨S4096x1024, .f32⟩
  | 97 => ⟨S_, .f32⟩
  | 98 => ⟨S1024, .f32⟩
  | 99 => ⟨S1x1024, .f32⟩
  | 100 => ⟨S4096x1024, .f32⟩
  | 101 => ⟨S4096x1024, .f32⟩
  | 102 => ⟨S_, .f32⟩
  | 103 => ⟨S1024, .f32⟩
  | 104 => ⟨S4096x1024, .f32⟩
  | 105 => ⟨S_, .f32⟩
  | 106 => ⟨S4096, .f32⟩
  | 107 => ⟨S4096x1, .f32⟩
  | 108 => ⟨S4096x1024, .f32⟩
  | 109 => ⟨S4096x1024, .f32⟩
  | 110 => ⟨S4096x1, .f32⟩
  | 111 => ⟨S_, .f32⟩
  | 112 => ⟨S4096x1, .f32⟩
  | 113 => ⟨S4096x1, .f32⟩
  | 114 => ⟨S_, .f32⟩
  | 115 => ⟨S4096, .f32⟩
  | 116 => ⟨S4096x1024, .f32⟩
  | 117 => ⟨S4096x1024, .f32⟩
  | 118 => ⟨S4096x1024, .f32⟩
  | 119 => ⟨S4096x1024, .f32⟩
  | 120 => ⟨S4096x1024, .f32⟩
  | 121 => ⟨S_, .f32⟩
  | 122 => ⟨S4096x1024, .f32⟩
  | 123 => ⟨S4096x1024, .f32⟩
  | 124 => ⟨S4096x1024, .bf16⟩
  | 125 => ⟨S1x1024, .f32⟩
  | 126 => ⟨S_, .f32⟩
  | 127 => ⟨S6x1024, .f32⟩
  | _ => ⟨S1x4096x1024, .f32⟩

abbrev hbmTy0_1 (i : Nat) : BufTy := match i % 128 with
  | 0 => ⟨S8x1024, .f32⟩
  | 1 => ⟨S4096x1024, .bf16⟩
  | 2 => ⟨S4096x2816, .bf16⟩
  | 3 => ⟨S4096x2816, .bf16⟩
  | 4 => ⟨S4096x2816, .bf16⟩
  | 5 => ⟨S1x4096x2816, .bf16⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_cst_4 : Ref sig .tc := ⟨.hbm, 50, rfl⟩
abbrev main_v30 : Ref sig .tc := ⟨.hbm, 51, rfl⟩
abbrev main_v31 : Ref sig .tc := ⟨.hbm, 52, rfl⟩
abbrev main_cst_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_6 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_7 : Ref sig .tc := ⟨.hbm, 69, rfl⟩
abbrev main_v46 : Ref sig .tc := ⟨.hbm, 70, rfl⟩
abbrev main_v47 : Ref sig .tc := ⟨.hbm, 71, rfl⟩
abbrev main_cst_8 : Ref sig .tc := ⟨.hbm, 72, rfl⟩
abbrev main_v48 : Ref sig .tc := ⟨.hbm, 73, rfl⟩
abbrev main_cst_9 : Ref sig .tc := ⟨.hbm, 74, rfl⟩
abbrev main_v49 : Ref sig .tc := ⟨.hbm, 75, rfl⟩
abbrev main_v50 : Ref sig .tc := ⟨.hbm, 76, rfl⟩
abbrev main_cst_10 : Ref sig .tc := ⟨.hbm, 77, rfl⟩
abbrev main_v51 : Ref sig .tc := ⟨.hbm, 78, rfl⟩
abbrev main_cst_11 : Ref sig .tc := ⟨.hbm, 79, rfl⟩
abbrev main_v52 : Ref sig .tc := ⟨.hbm, 80, rfl⟩
abbrev main_cst_12 : Ref sig .tc := ⟨.hbm, 81, rfl⟩
abbrev main_v53 : Ref sig .tc := ⟨.hbm, 82, rfl⟩
abbrev main_v54 : Ref sig .tc := ⟨.hbm, 83, rfl⟩
abbrev main_cst_13 : Ref sig .tc := ⟨.hbm, 84, rfl⟩
abbrev main_v55 : Ref sig .tc := ⟨.hbm, 85, rfl⟩
abbrev main_v56 : Ref sig .tc := ⟨.hbm, 86, rfl⟩
abbrev main_cst_14 : Ref sig .tc := ⟨.hbm, 87, rfl⟩
abbrev main_cst_15 : Ref sig .tc := ⟨.hbm, 88, rfl⟩
abbrev main_v57 : Ref sig .tc := ⟨.hbm, 89, rfl⟩
abbrev main_v58 : Ref sig .tc := ⟨.hbm, 90, rfl⟩
abbrev main_cst_16 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_17 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_18 : Ref sig .tc := ⟨.hbm, 102, rfl⟩
abbrev main_v68 : Ref sig .tc := ⟨.hbm, 103, rfl⟩
abbrev main_v69 : Ref sig .tc := ⟨.hbm, 104, rfl⟩
abbrev main_cst_19 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_20 : Ref sig .tc := ⟨.hbm, 111, rfl⟩
abbrev main_v75 : Ref sig .tc := ⟨.hbm, 112, rfl⟩
abbrev main_v76 : Ref sig .tc := ⟨.hbm, 113, rfl⟩
abbrev main_cst_21 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_22 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_23 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩

abbrev nD : Nat := 1
abbrev τ : Topo := Topo.v7x

variable {F : FTy → Type} [FloatOps F]
-- ==== Kernel6.lean ====
abbrev S1x4096x2816 : Shape := ⟨3, ![1, 4096, 2816]⟩
abbrev S1x2816x1024 : Shape := ⟨3, ![1, 2816, 1024]⟩
abbrev S1x4096x1024 : Shape := ⟨3, ![1, 4096, 1024]⟩
abbrev S4096x1024 : Shape := ⟨2, ![4096, 1024]⟩
abbrev S4096x2816 : Shape := ⟨2, ![4096, 2816]⟩
abbrev S2816x1024 : Shape := ⟨2, ![2816, 1024]⟩
abbrev S1x4096x5632 : Shape := ⟨3, ![1, 4096, 5632]⟩
abbrev S512x1024 : Shape := ⟨2, ![512, 1024]⟩
abbrev S1x512x5632 : Shape := ⟨3, ![1, 512, 5632]⟩
abbrev S1 : Shape := ⟨1, ![1]⟩
abbrev S3x512x2816 : Shape := ⟨3, ![3, 512, 2816]⟩
abbrev S2x3 : Shape := ⟨2, ![2, 3]⟩
abbrev S1x1 : Shape := ⟨2, ![1, 1]⟩
abbrev S_ : Shape := ⟨0, ![]⟩
abbrev S1x512x2816 : Shape := ⟨3, ![1, 512, 2816]⟩
abbrev S512x2816 : Shape := ⟨2, ![512, 2816]⟩
abbrev S256x1024 : Shape := ⟨2, ![256, 1024]⟩
abbrev S512x256 : Shape := ⟨2, ![512, 256]⟩
abbrev S1x512x256 : Shape := ⟨3, ![1, 512, 256]⟩

abbrev nBuf : Space → Nat
  | .hbm => 13
  | .vmem => 7
  | .smem => 0
  | _ => 0

abbrev bufTy : (tb : Table) → Fin (tcTables nBuf tb) → BufTy
  | .hbm, ⟨0, _⟩ => ⟨S1x4096x2816, .f32⟩
  | .hbm, ⟨1, _⟩ => ⟨S1x4096x2816, .f32⟩
  | .hbm, ⟨2, _⟩ => ⟨S1x2816x1024, .f32⟩
  | .hbm, ⟨3, _⟩ => ⟨S1x4096x1024, .f32⟩
  | .hbm, ⟨4, _⟩ => ⟨S4096x1024, .f32⟩
  | .hbm, ⟨5, _⟩ => ⟨S4096x1024, .bf16⟩
  | .hbm, ⟨6, _⟩ => ⟨S4096x2816, .f32⟩
  | .hbm, ⟨7, _⟩ => ⟨S4096x2816, .bf16⟩
  | .hbm, ⟨8, _⟩ => ⟨S4096x2816, .f32⟩
  | .hbm, ⟨9, _⟩ => ⟨S4096x2816, .bf16⟩
  | .hbm, ⟨10, _⟩ => ⟨S2816x1024, .f32⟩
  | .hbm, ⟨11, _⟩ => ⟨S2816x1024, .bf16⟩
  | .hbm, ⟨12, _⟩ => ⟨S1x4096x5632, .bf16⟩
  | .local _ .vmem, ⟨0, _⟩ => ⟨S512x1024, .bf16⟩
  | .local _ .vmem, ⟨1, _⟩ => ⟨S512x1024, .bf16⟩
  | .local _ .vmem, ⟨2, _⟩ => ⟨S1x512x5632, .bf16⟩
  | .local _ .vmem, ⟨3, _⟩ => ⟨S1x512x5632, .bf16⟩
  | .local _ .vmem, ⟨4, _⟩ => ⟨S2816x1024, .bf16⟩
  | .local _ .vmem, ⟨5, _⟩ => ⟨S3x512x2816, .bf16⟩
  | .local _ .vmem, ⟨6, _⟩ => ⟨S3x512x2816, .bf16⟩
  | _, _ => ⟨S1x4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c2_i32 : BitVec 32 := 2#32
  let v3 : BitVec 32 := Scalar.addi arg0 c2_i32
  let c8_i32 : BitVec 32 := 8#32
  let v4 : BitVec 1 := Scalar.cmpi .slt v3 c8_i32
  let v5 : BitVec 32 := Scalar.extui v4
  let c0_i32_1 : BitVec 32 := 0#32
  let v6 : BitVec 1 := Scalar.cmpi .ne v5 c0_i32_1
  v6

def k0_off1 (i : grid0.Coords) : Fin 2 → Nat :=
  let c0_i32_295 : BitVec 32 := 0#32
  let arg0 : BitVec 32 := BitVec.ofNat 32 (i 0).val
  let c2_i32_268 : BitVec 32 := 2#32
  let v436 : BitVec 32 := Scalar.addi arg0 c2_i32_268
  let c3_i32_276 : BitVec 32 := 3#32
  let c0_i32_277 : BitVec 32 := 0#32
  let v448 : BitVec 1 := Scalar.cmpi .eq c3_i32_276 c0_i32_277
  let c1_i32_278 : BitVec 32 := 1#32
  let v449 : BitVec 32 := Scalar.select v448 c1_i32_278 c3_i32_276
  let v450 : BitVec 32 := Scalar.remsi v436 v449
  let c0_i32_280 : BitVec 32 := 0#32
  let v452 : BitVec 1 := Scalar.cmpi .slt v450 c0_i32_280
  let c0_i32_281 : BitVec 32 := 0#32
  let v453 : BitVec 1 := Scalar.cmpi .slt v449 c0_i32_281
  let v454 : BitVec 1 := Scalar.xori v452 v453
  let c0_i32_279 : BitVec 32 := 0#32
  let v451 : BitVec 1 := Scalar.cmpi .ne v450 c0_i32_279
  let v455 : BitVec 1 := Scalar.andi v454 v451
  let v456 : BitVec 32 := Scalar.addi v450 v449
  let v457 : BitVec 32 := Scalar.select v455 v456 v450
  ![0, v457.toNat]
def k0_off2 (i : grid0.Coords) : Fin 3 → Nat :=
  let arg0 : BitVec 32 := BitVec.ofNat 32 (i 0).val
  let c2_i32_268 : BitVec 32 := 2#32
  let v436 : BitVec 32 := Scalar.addi arg0 c2_i32_268
  let c3_i32_270 : BitVec 32 := 3#32
  let c0_i32_271 : BitVec 32 := 0#32
  let v438 : BitVec 1 := Scalar.cmpi .eq c3_i32_270 c0_i32_271
  let c1_i32_272 : BitVec 32 := 1#32
  let v439 : BitVec 32 := Scalar.select v438 c1_i32_272 c3_i32_270
  let v440 : BitVec 32 := Scalar.remsi v436 v439
  let c0_i32_274 : BitVec 32 := 0#32
  let v442 : BitVec 1 := Scalar.cmpi .slt v440 c0_i32_274
  let c0_i32_275 : BitVec 32 := 0#32
  let v443 : BitVec 1 := Scalar.cmpi .slt v439 c0_i32_275
  let v444 : BitVec 1 := Scalar.xori v442 v443
  let c0_i32_273 : BitVec 32 := 0#32
  let v441 : BitVec 1 := Scalar.cmpi .ne v440 c0_i32_273
  let v445 : BitVec 1 := Scalar.andi v444 v441
  let v446 : BitVec 32 := Scalar.addi v440 v439
  let v447 : BitVec 32 := Scalar.select v445 v446 v440
  let c0_i32_296 : BitVec 32 := 0#32
  let c0_i32_297 : BitVec 32 := 0#32
  ![v447.toNat, 0, 0]
def k0_off3 (i : grid0.Coords) : Fin 2 → Nat :=
  let arg0 : BitVec 32 := BitVec.ofNat 32 (i 0).val
  let c2_i32_268 : BitVec 32 := 2#32
  let v436 : BitVec 32 := Scalar.addi arg0 c2_i32_268
  let c512_i32_269 : BitVec 32 := 512#32
  let v437 : BitVec 32 := Scalar.muli v436 c512_i32_269
  let c0_i32_298 : BitVec 32 := 0#32
  ![v437.toNat, 0]
def k0_off4 (i : grid0.Coords) : Fin 2 → Nat :=
  let c1_i32_299 : BitVec 32 := 1#32
  let arg0 : BitVec 32 := BitVec.ofNat 32 (i 0).val
  let c2_i32_268 : BitVec 32 := 2#32
  let v436 : BitVec 32 := Scalar.addi arg0 c2_i32_268
  let c3_i32_289 : BitVec 32 := 3#32
  let c0_i32_290 : BitVec 32 := 0#32
  let v469 : BitVec 1 := Scalar.cmpi .eq c3_i32_289 c0_i32_290
  let c1_i32_291 : BitVec 32 := 1#32
  let v470 : BitVec 32 := Scalar.select v469 c1_i32_291 c3_i32_289
  let v471 : BitVec 32 := Scalar.remsi v436 v470
  let c0_i32_293 : BitVec 32 := 0#32
  let v473 : BitVec 1 := Scalar.cmpi .slt v471 c0_i32_293
  let c0_i32_294 : BitVec 32 := 0#32
  let v474 : BitVec 1 := Scalar.cmpi .slt v470 c0_i32_294
  let v475 : BitVec 1 := Scalar.xori v473 v474
  let c0_i32_292 : BitVec 32 := 0#32
  let v472 : BitVec 1 := Scalar.cmpi .ne v471 c0_i32_292
  let v476 : BitVec 1 := Scalar.andi v475 v472
  let v477 : BitVec 32 := Scalar.addi v471 v470
  let v478 : BitVec 32 := Scalar.select v476 v477 v471
  ![1, v478.toNat]
def k0_off5 (i : grid0.Coords) : Fin 2 → Nat :=
  let c0_i32_27 : BitVec 32 := 0#32
  let arg0 : BitVec 32 := BitVec.ofNat 32 (i 0).val
  let c3_i32_8 : BitVec 32 := 3#32
  let c0_i32_9 : BitVec 32 := 0#32
  let v21 : BitVec 1 := Scalar.cmpi .eq c3_i32_8 c0_i32_9
  let c1_i32_10 : BitVec 32 := 1#32
  let v22 : BitVec 32 := Scalar.select v21 c1_i32_10 c3_i32_8
  let v23 : BitVec 32 := Scalar.remsi arg0 v22
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let c0_i32_11 : BitVec 32 := 0#32
  let v24 : BitVec 1 := Scalar.cmpi .ne v23 c0_i32_11
  let v28 : BitVec 1 := Scalar.andi v27 v24
  let v29 : BitVec 32 := Scalar.addi v23 v22
  let v30 : BitVec 32 := Scalar.select v28 v29 v23
  ![0, v30.toNat]
def k0_off6 (i : grid0.Coords) : Fin 3 → Nat :=
  let arg0 : BitVec 32 := BitVec.ofNat 32 (i 0).val
  let c3_i32 : BitVec 32 := 3#32
  let c0_i32_4 : BitVec 32 := 0#32
  let v11 : BitVec 1 := Scalar.cmpi .eq c3_i32 c0_i32_4
  let c1_i32 : BitVec 32 := 1#32
  let v12 : BitVec 32 := Scalar.select v11 c1_i32 c3_i32
  let v13 : BitVec 32 := Scalar.remsi arg0 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c0_i32_28 : BitVec 32 := 0#32
  let c0_i32_29 : BitVec 32 := 0#32
  ![v20.toNat, 0, 0]
def k0_off7 (i : grid0.Coords) : Fin 2 → Nat :=
  let arg0 : BitVec 32 := BitVec.ofNat 32 (i 0).val
  let c512_i32 : BitVec 32 := 512#32
  let v10 : BitVec 32 := Scalar.muli arg0 c512_i32
  let c0_i32_30 : BitVec 32 := 0#32
  ![v10.toNat, 0]
def k0_off8 (i : grid0.Coords) : Fin 2 → Nat :=
  let c1_i32_31 : BitVec 32 := 1#32
  let arg0 : BitVec 32 := BitVec.ofNat 32 (i 0).val
  let c3_i32_21 : BitVec 32 := 3#32
  let c0_i32_22 : BitVec 32 := 0#32
  let v42 : BitVec 1 := Scalar.cmpi .eq c3_i32_21 c0_i32_22
  let c1_i32_23 : BitVec 32 := 1#32
  let v43 : BitVec 32 := Scalar.select v42 c1_i32_23 c3_i32_21
  let v44 : BitVec 32 := Scalar.remsi arg0 v43
  let c0_i32_25 : BitVec 32 := 0#32
  let v46 : BitVec 1 := Scalar.cmpi .slt v44 c0_i32_25
  let c0_i32_26 : BitVec 32 := 0#32
  let v47 : BitVec 1 := Scalar.cmpi .slt v43 c0_i32_26
  let v48 : BitVec 1 := Scalar.xori v46 v47
  let c0_i32_24 : BitVec 32 := 0#32
  let v45 : BitVec 1 := Scalar.cmpi .ne v44 c0_i32_24
  let v49 : BitVec 1 := Scalar.andi v48 v45
  let v50 : BitVec 32 := Scalar.addi v44 v43
  let v51 : BitVec 32 := Scalar.select v49 v50 v44
  ![1, v51.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference6Ideal.lean ====
abbrev S1x4096x2816 : Shape := ⟨3, ![1, 4096, 2816]⟩
abbrev S1x2816x1024 : Shape := ⟨3, ![1, 2816, 1024]⟩
abbrev S1x4096x1024 : Shape := ⟨3, ![1, 4096, 1024]⟩
abbrev S_ : Shape := ⟨0, ![]⟩
abbrev S2816x1024 : Shape := ⟨2, ![2816, 1024]⟩
abbrev S1x4096x5632 : Shape := ⟨3, ![1, 4096, 5632]⟩

abbrev nBuf : Space → Nat
  | .hbm => 29
  | .vmem => 0
  | .smem => 0
  | _ => 0

abbrev bufTy : (tb : Table) → Fin (tcTables nBuf tb) → BufTy
  | .hbm, ⟨0, _⟩ => ⟨S1x4096x2816, .f32⟩
  | .hbm, ⟨1, _⟩ => ⟨S1x4096x2816, .f32⟩
  | .hbm, ⟨2, _⟩ => ⟨S1x2816x1024, .f32⟩
  | .hbm, ⟨3, _⟩ => ⟨S1x4096x1024, .f32⟩
  | .hbm, ⟨4, _⟩ => ⟨S1x4096x2816, .f32⟩
  | .hbm, ⟨5, _⟩ => ⟨S1x4096x2816, .f32⟩
  | .hbm, ⟨6, _⟩ => ⟨S_, .f32⟩
  | .hbm, ⟨7, _⟩ => ⟨S1x4096x2816, .f32⟩
  | .hbm, ⟨8, _⟩ => ⟨S1x4096x2816, .f32⟩
  | .hbm, ⟨9, _⟩ => ⟨S_, .f32⟩
  | .hbm, ⟨10, _⟩ => ⟨S1x4096x2816, .f32⟩
  | .hbm, ⟨11, _⟩ => ⟨S1x4096x2816, .f32⟩
  | .hbm, ⟨12, _⟩ => ⟨S_, .f32⟩
  | .hbm, ⟨13, _⟩ => ⟨S1x4096x2816, .f32⟩
  | .hbm, ⟨14, _⟩ => ⟨S1x4096x2816, .f32⟩
  | .hbm, ⟨15, _⟩ => ⟨S1x4096x2816, .f32⟩
  | .hbm, ⟨16, _⟩ => ⟨S1x4096x2816, .f32⟩
  | .hbm, ⟨17, _⟩ => ⟨S1x4096x2816, .f32⟩
  | .hbm, ⟨18, _⟩ => ⟨S2816x1024, .f32⟩
  | .hbm, ⟨19, _⟩ => ⟨S1x4096x1024, .f32⟩
  | .hbm, ⟨20, _⟩ => ⟨S1x4096x2816, .f32⟩
  | .hbm, ⟨21, _⟩ => ⟨S1x4096x2816, .f32⟩
  | .hbm, ⟨22, _⟩ => ⟨S1x4096x2816, .f32⟩
  | .hbm, ⟨23, _⟩ => ⟨S1x4096x2816, .f32⟩
  | .hbm, ⟨24, _⟩ => ⟨S1x4096x2816, .f32⟩
  | .hbm, ⟨25, _⟩ => ⟨S1x4096x2816, .f32⟩
  | .hbm, ⟨26, _⟩ => ⟨S1x4096x2816, .f32⟩
  | .hbm, ⟨27, _⟩ => ⟨S1x4096x5632, .f32⟩
  | .hbm, ⟨28, _⟩ => ⟨S1x4096x5632, .bf16⟩
  | _, _ => ⟨S1x4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩

abbrev nD : Nat := 1
abbrev τ : Topo := Topo.v7x

variable {F : FTy → Type} [FloatOps F]
-- ==== Kernel7.lean ====
abbrev S1x4096x5120 : Shape := ⟨3, ![1, 4096, 5120]⟩
abbrev S1x31x1024 : Shape := ⟨3, ![1, 31, 1024]⟩
abbrev S1x1024 : Shape := ⟨2, ![1, 1024]⟩
abbrev S1x3x1024 : Shape := ⟨3, ![1, 3, 1024]⟩
abbrev S4096x5120 : Shape := ⟨2, ![4096, 5120]⟩
abbrev S4096x5x1024 : Shape := ⟨3, ![4096, 5, 1024]⟩
abbrev S5x4096x1024 : Shape := ⟨3, ![5, 4096, 1024]⟩
abbrev S_ : Shape := ⟨0, ![]⟩
abbrev S2x4096x1024 : Shape := ⟨3, ![2, 4096, 1024]⟩
abbrev S7x4096x1024 : Shape := ⟨3, ![7, 4096, 1024]⟩
abbrev S31x1024 : Shape := ⟨2, ![31, 1024]⟩
abbrev S3x1024 : Shape := ⟨2, ![3, 1024]⟩
abbrev S5x1024 : Shape := ⟨2, ![5, 1024]⟩
abbrev S40x1024 : Shape := ⟨2, ![40, 1024]⟩
abbrev S1x1 : Shape := ⟨2, ![1, 1]⟩
abbrev S128x256 : Shape := ⟨2, ![128, 256]⟩
abbrev S256x128 : Shape := ⟨2, ![256, 128]⟩
abbrev S128x32 : Shape := ⟨2, ![128, 32]⟩
abbrev S128x128 : Shape := ⟨2, ![128, 128]⟩
abbrev S4096x1024 : Shape := ⟨2, ![4096, 1024]⟩
abbrev S5x1024x256 : Shape := ⟨3, ![5, 1024, 256]⟩
abbrev S5x128x256 : Shape := ⟨3, ![5, 128, 256]⟩
abbrev S40x256 : Shape := ⟨2, ![40, 256]⟩
abbrev S1x256 : Shape := ⟨2, ![1, 256]⟩
abbrev S1024x256 : Shape := ⟨2, ![1024, 256]⟩
abbrev S1152x256 : Shape := ⟨2, ![1152, 256]⟩
abbrev S1032x256 : Shape := ⟨2, ![1032, 256]⟩
abbrev S32x256 : Shape := ⟨2, ![32, 256]⟩
abbrev S1x128x256 : Shape := ⟨3, ![1, 128, 256]⟩
abbrev S1x1024x256 : Shape := ⟨3, ![1, 1024, 256]⟩
abbrev S8x256 : Shape := ⟨2, ![8, 256]⟩
abbrev S256x256 : Shape := ⟨2, ![256, 256]⟩
abbrev S72x256 : Shape := ⟨2, ![72, 256]⟩
abbrev S64x256 : Shape := ⟨2, ![64, 256]⟩
abbrev S1x64x256 : Shape := ⟨3, ![1, 64, 256]⟩

abbrev nBuf : Space → Nat
  | .hbm => 102
  | .vmem => 27
  | .smem => 0
  | _ => 0

abbrev bufTy : (tb : Table) → Fin (tcTables nBuf tb) → BufTy
  | .hbm, ⟨0, _⟩ => ⟨S1x4096x5120, .f32⟩
  | .hbm, ⟨1, _⟩ => ⟨S1x31x1024, .f32⟩
  | .hbm, ⟨2, _⟩ => ⟨S1x1024, .f32⟩
  | .hbm, ⟨3, _⟩ => ⟨S1x3x1024, .f32⟩
  | .hbm, ⟨4, _⟩ => ⟨S4096x5120, .f32⟩
  | .hbm, ⟨5, _⟩ => ⟨S4096x5x1024, .f32⟩
  | .hbm, ⟨6, _⟩ => ⟨S5x4096x1024, .f32⟩
  | .hbm, ⟨7, _⟩ => ⟨S5x4096x1024, .bf16⟩
  | .hbm, ⟨8, _⟩ => ⟨S_, .bf16⟩
  | .hbm, ⟨9, _⟩ => ⟨S2x4096x1024, .bf16⟩
  | .hbm, ⟨10, _⟩ => ⟨S7x4096x1024, .bf16⟩
  | .hbm, ⟨11, _⟩ => ⟨S31x1024, .f32⟩
  | .hbm, ⟨12, _⟩ => ⟨S_, .f32⟩
  | .hbm, ⟨13, _⟩ => ⟨S1x1024, .f32⟩
  | .hbm, ⟨14, _⟩ => ⟨S3x1024, .f32⟩
  | .hbm, ⟨15, _⟩ => ⟨S_, .f32⟩
  | .hbm, ⟨16, _⟩ => ⟨S5x1024, .f32⟩
  | .hbm, ⟨17, _⟩ => ⟨S40x1024, .f32⟩
  | .hbm, ⟨18, _⟩ => ⟨S_, .f32⟩
  | .hbm, ⟨19, _⟩ => ⟨S1x1, .f32⟩
  | .hbm, ⟨20, _⟩ => ⟨S1x1, .f32⟩
  | .hbm, ⟨21, _⟩ => ⟨S128x256, .i32⟩
  | .hbm, ⟨22, _⟩ => ⟨S128x256, .i32⟩
  | .hbm, ⟨23, _⟩ => ⟨S_, .i32⟩
  | .hbm, ⟨24, _⟩ => ⟨S128x256, .i32⟩
  | .hbm, ⟨25, _⟩ => ⟨S128x256, .i1⟩
  | .hbm, ⟨26, _⟩ => ⟨S128x256, .f32⟩
  | .hbm, ⟨27, _⟩ => ⟨S128x256, .f32⟩
  | .hbm, ⟨28, _⟩ => ⟨S_, .f32⟩
  | .hbm, ⟨29, _⟩ => ⟨S1x1, .f32⟩
  | .hbm, ⟨30, _⟩ => ⟨S1x1, .f32⟩
  | .hbm, ⟨31, _⟩ => ⟨S128x256, .f32⟩
  | .hbm, ⟨32, _⟩ => ⟨S128x256, .f32⟩
  | .hbm, ⟨33, _⟩ => ⟨S128x256, .f32⟩
  | .hbm, ⟨34, _⟩ => ⟨S128x256, .f32⟩
  | .hbm, ⟨35, _⟩ => ⟨S128x256, .f32⟩
  | .hbm, ⟨36, _⟩ => ⟨S128x256, .f32⟩
  | .hbm, ⟨37, _⟩ => ⟨S128x256, .f32⟩
  | .hbm, ⟨38, _⟩ => ⟨S128x256, .f32⟩
  | .hbm, ⟨39, _⟩ => ⟨S128x256, .f32⟩
  | .hbm, ⟨40, _⟩ => ⟨S_, .f32⟩
  | .hbm, ⟨41, _⟩ => ⟨S128x256, .f32⟩
  | .hbm, ⟨42, _⟩ => ⟨S_, .f32⟩
  | .hbm, ⟨43, _⟩ => ⟨S128x256, .f32⟩
  | .hbm, ⟨44, _⟩ => ⟨S128x256, .f32⟩
  | .hbm, ⟨45, _⟩ => ⟨S128x256, .f32⟩
  | .hbm, ⟨46, _⟩ => ⟨S128x256, .f32⟩
  | .hbm, ⟨47, _⟩ => ⟨S256x128, .f32⟩
  | .hbm, ⟨48, _⟩ => ⟨S128x256, .f32⟩
  | .hbm, ⟨49, _⟩ => ⟨S128x256, .f32⟩
  | .hbm, ⟨50, _⟩ => ⟨S256x128, .f32⟩
  | .hbm, ⟨51, _⟩ => ⟨S128x32, .i32⟩
  | .hbm, ⟨52, _⟩ => ⟨S128x32, .i32⟩
  | .hbm, ⟨53, _⟩ => ⟨S_, .i32⟩
  | .hbm, ⟨54, _⟩ => ⟨S128x32, .i32⟩
  | .hbm, ⟨55, _⟩ => ⟨S128x32, .i1⟩
  | .hbm, ⟨56, _⟩ => ⟨S128x32, .f32⟩
  | .hbm, ⟨57, _⟩ => ⟨S128x32, .f32⟩
  | .hbm, ⟨58, _⟩ => ⟨S_, .f32⟩
  | .hbm, ⟨59, _⟩ => ⟨S128x32, .f32⟩
  | .hbm, ⟨60, _⟩ => ⟨S128x32, .f32⟩
  | .hbm, ⟨61, _⟩ => ⟨S_, .f32⟩
  | .hbm, ⟨62, _⟩ => ⟨S1x1, .f32⟩
  | .hbm, ⟨63, _⟩ => ⟨S1x1, .f32⟩
  | .hbm, ⟨64, _⟩ => ⟨S128x32, .f32⟩
  | .hbm, ⟨65, _⟩ => ⟨S128x32, .f32⟩
  | .hbm, ⟨66, _⟩ => ⟨S128x32, .f32⟩
  | .hbm, ⟨67, _⟩ => ⟨S_, .i32⟩
  | .hbm, ⟨68, _⟩ => ⟨S128x32, .i32⟩
  | .hbm, ⟨69, _⟩ => ⟨S128x32, .i1⟩
  | .hbm, ⟨70, _⟩ => ⟨S_, .f32⟩
  | .hbm, ⟨71, _⟩ => ⟨S128x32, .f32⟩
  | .hbm, ⟨72, _⟩ => ⟨S128x32, .f32⟩
  | .hbm, ⟨73, _⟩ => ⟨S128x32, .f32⟩
  | .hbm, ⟨74, _⟩ => ⟨S128x32, .f32⟩
  | .hbm, ⟨75, _⟩ => ⟨S128x32, .f32⟩
  | .hbm, ⟨76, _⟩ => ⟨S128x32, .f32⟩
  | .hbm, ⟨77, _⟩ => ⟨S128x32, .f32⟩
  | .hbm, ⟨78, _⟩ => ⟨S128x32, .f32⟩
  | .hbm, ⟨79, _⟩ => ⟨S128x32, .f32⟩
  | .hbm, ⟨80, _⟩ => ⟨S128x32, .f32⟩
  | .hbm, ⟨81, _⟩ => ⟨S128x32, .f32⟩
  | .hbm, ⟨82, _⟩ => ⟨S128x256, .bf16⟩
  | .hbm, ⟨83, _⟩ => ⟨S128x256, .bf16⟩
  | .hbm, ⟨84, _⟩ => ⟨S128x128, .f32⟩
  | .hbm, ⟨85, _⟩ => ⟨S128x128, .bf16⟩
  | .hbm, ⟨86, _⟩ => ⟨S128x128, .f32⟩
  | .hbm, ⟨87, _⟩ => ⟨S128x128, .bf16⟩
  | .hbm, ⟨88, _⟩ => ⟨S128x32, .bf16⟩
  | .hbm, ⟨89, _⟩ => ⟨S128x32, .f32⟩
  | .hbm, ⟨90, _⟩ => ⟨S128x32, .f32⟩
  | .hbm, ⟨91, _⟩ => ⟨S128x32, .bf16⟩
  | .hbm, ⟨92, _⟩ => ⟨S128x32, .bf16⟩
  | .hbm, ⟨93, _⟩ => ⟨S128x32, .f32⟩
  | .hbm, ⟨94, _⟩ => ⟨S128x32, .f32⟩
  | .hbm, ⟨95, _⟩ => ⟨S128x32, .bf16⟩
  | .hbm, ⟨96, _⟩ => ⟨S128x32, .bf16⟩
  | .hbm, ⟨97, _⟩ => ⟨S128x32, .f32⟩
  | .hbm, ⟨98, _⟩ => ⟨S128x32, .f32⟩
  | .hbm, ⟨99, _⟩ => ⟨S128x32, .bf16⟩
  | .hbm, ⟨100, _⟩ => ⟨S4096x1024, .bf16⟩
  | .hbm, ⟨101, _⟩ => ⟨S4096x1024, .bf16⟩
  | .local _ .vmem, ⟨0, _⟩ => ⟨S5x1024x256, .bf16⟩
  | .local _ .vmem, ⟨1, _⟩ => ⟨S5x1024x256, .bf16⟩
  | .local _ .vmem, ⟨2, _⟩ => ⟨S5x128x256, .bf16⟩
  | .local _ .vmem, ⟨3, _⟩ => ⟨S5x128x256, .bf16⟩
  | .local _ .vmem, ⟨4, _⟩ => ⟨S40x256, .f32⟩
  | .local _ .vmem, ⟨5, _⟩ => ⟨S40x256, .f32⟩
  | .local _ .vmem, ⟨6, _⟩ => ⟨S1x256, .f32⟩
  | .local _ .vmem, ⟨7, _⟩ => ⟨S1x256, .f32⟩
  | .local _ .vmem, ⟨8, _⟩ => ⟨S128x256, .bf16⟩
  | .local _ .vmem, ⟨9, _⟩ => ⟨S128x256, .bf16⟩
  | .local _ .vmem, ⟨10, _⟩ => ⟨S128x128, .bf16⟩
  | .local _ .vmem, ⟨11, _⟩ => ⟨S128x128, .bf16⟩
  | .local _ .vmem, ⟨12, _⟩ => ⟨S128x32, .bf16⟩
  | .local _ .vmem, ⟨13, _⟩ => ⟨S128x32, .bf16⟩
  | .local _ .vmem, ⟨14, _⟩ => ⟨S128x32, .bf16⟩
  | .local _ .vmem, ⟨15, _⟩ => ⟨S128x32, .bf16⟩
  | .local _ .vmem, ⟨16, _⟩ => ⟨S128x32, .bf16⟩
  | .local _ .vmem, ⟨17, _⟩ => ⟨S128x32, .bf16⟩
  | .local _ .vmem, ⟨18, _⟩ => ⟨S1024x256, .bf16⟩
  | .local _ .vmem, ⟨19, _⟩ => ⟨S1024x256, .bf16⟩
  | .local _ .vmem, ⟨20, _⟩ => ⟨S1024x256, .bf16⟩
  | .local _ .vmem, ⟨21, _⟩ => ⟨S1024x256, .bf16⟩
  | .local _ .vmem, ⟨22, _⟩ => ⟨S1152x256, .bf16⟩
  | .local _ .vmem, ⟨23, _⟩ => ⟨S1032x256, .f32⟩
  | .local _ .vmem, ⟨24, _⟩ => ⟨S128x256, .f32⟩
  | .local _ .vmem, ⟨25, _⟩ => ⟨S128x256, .f32⟩
  | .local _ .vmem, ⟨26, _⟩ => ⟨S128x256, .f32⟩
  | _, _ => ⟨S1x4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_c_6 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_cst_8 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_c_9 : Ref sig .tc := ⟨.hbm, 67, rfl⟩
abbrev main_v52 : Ref sig .tc := ⟨.hbm, 68, rfl⟩
abbrev main_v53 : Ref sig .tc := ⟨.hbm, 69, rfl⟩
abbrev main_cst_10 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83_0 : Ref sig .tc := ⟨.hbm, 100, rfl⟩
abbrev main_v83_1 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32_222 : BitVec 32 := 0#32
  let c16_i32 : BitVec 32 := 16#32
  let v306 : BitVec 32 := Scalar.addi c0_i32_222 c16_i32
  let c1_i32 : BitVec 32 := 1#32
  ⟨c0_i32_222, v306, c1_i32⟩
def k0_mult1 (k0_t1 : Fin k0_t1_loop.trips) : BitVec 32 :=
  let c0_i32_222 : BitVec 32 := 0#32
  let c1_i32 : BitVec 32 := 1#32
  let arg23 : BitVec 32 := Scf.iv c0_i32_222 c1_i32 k0_t1
  let c64_i32 : BitVec 32 := 64#32
  let v307 : BitVec 32 := Scalar.muli arg23 c64_i32
  v307
def k0_off1 (k0_t1 : Fin k0_t1_loop.trips) : Fin 2 → Nat :=
  let c0_i32_222 : BitVec 32 := 0#32
  let c1_i32 : BitVec 32 := 1#32
  let arg23 : BitVec 32 := Scf.iv c0_i32_222 c1_i32 k0_t1
  let c64_i32 : BitVec 32 := 64#32
  let v307 : BitVec 32 := Scalar.muli arg23 c64_i32
  let v308 : BitVec 32 := v307
  let v309 : Index := Scalar.indexCast v308
  let c0_224 : Index := 0#32
  ![v309.toNat, 0]
def k0_off2 (k0_t1 : Fin k0_t1_loop.trips) : Fin 3 → Nat :=
  let c2 : Index := 2#32
  let c0_i32_222 : BitVec 32 := 0#32
  let c1_i32 : BitVec 32 := 1#32
  let arg23 : BitVec 32 := Scf.iv c0_i32_222 c1_i32 k0_t1
  let c64_i32 : BitVec 32 := 64#32
  let v307 : BitVec 32 := Scalar.muli arg23 c64_i32
  let v308 : BitVec 32 := v307
  let v330 : Index := Scalar.indexCast v308
  let c0_228 : Index := 0#32
  ![2, v330.toNat, 0]
def k0_off3 (k0_t1 : Fin k0_t1_loop.trips) : Fin 2 → Nat :=
  let c0_i32_222 : BitVec 32 := 0#32
  let c1_i32 : BitVec 32 := 1#32
  let arg23 : BitVec 32 := Scf.iv c0_i32_222 c1_i32 k0_t1
  let c64_i32 : BitVec 32 := 64#32
  let v307 : BitVec 32 := Scalar.muli arg23 c64_i32
  let v308 : BitVec 32 := v307
  let v336 : Index := Scalar.indexCast v308
  let c0_229 : Index := 0#32
  ![v336.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S5x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S40x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x32 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x32 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x32 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x32 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x32 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128x32 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1024x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference7Ideal.lean ====
abbrev S1x4096x5120 : Shape := ⟨3, ![1, 4096, 5120]⟩
abbrev S1x31x1024 : Shape := ⟨3, ![1, 31, 1024]⟩
abbrev S1x1024 : Shape := ⟨2, ![1, 1024]⟩
abbrev S1x3x1024 : Shape := ⟨3, ![1, 3, 1024]⟩
abbrev S4096x5120 : Shape := ⟨2, ![4096, 5120]⟩
abbrev S4096x1024 : Shape := ⟨2, ![4096, 1024]⟩
abbrev S_ : Shape := ⟨0, ![]⟩
abbrev S31x1024 : Shape := ⟨2, ![31, 1024]⟩
abbrev S30x1024 : Shape := ⟨2, ![30, 1024]⟩
abbrev S4126x1024 : Shape := ⟨2, ![4126, 1024]⟩
abbrev S1024 : Shape := ⟨1, ![1024]⟩
abbrev S3x1024 : Shape := ⟨2, ![3, 1024]⟩
abbrev S2x1024 : Shape := ⟨2, ![2, 1024]⟩
abbrev S4098x1024 : Shape := ⟨2, ![4098, 1024]⟩

abbrev nBuf : Space → Nat
  | .hbm => 277
  | .vmem => 0
  | .smem => 0
  | _ => 0

abbrev hbmTy0_0 (i : Nat) : BufTy := match i % 128 with
  | 0 => ⟨S1x4096x5120, .f32⟩
  | 1 => ⟨S1x31x1024, .f32⟩
  | 2 => ⟨S1x1024, .f32⟩
  | 3 => ⟨S1x3x1024, .f32⟩
  | 4 => ⟨S4096x5120, .f32⟩
  | 5 => ⟨S4096x1024, .f32⟩
  | 6 => ⟨S4096x1024, .f32⟩
  | 7 => ⟨S4096x1024, .f32⟩
  | 8 => ⟨S4096x1024, .f32⟩
  | 9 => ⟨S4096x1024, .f32⟩
  | 10 => ⟨S4096x1024, .f32⟩
  | 11 => ⟨S4096x1024, .f32⟩
  | 12 => ⟨S_, .f32⟩
  | 13 => ⟨S4096x1024, .f32⟩
  | 14 => ⟨S4096x1024, .f32⟩
  | 15 => ⟨S_, .f32⟩
  | 16 => ⟨S4096x1024, .f32⟩
  | 17 => ⟨S4096x1024, .f32⟩
  | 18 => ⟨S4096x1024, .f32⟩
  | 19 => ⟨S31x1024, .f32⟩
  | 20 => ⟨S_, .f32⟩
  | 21 => ⟨S30x1024, .f32⟩
  | 22 => ⟨S4126x1024, .f32⟩
  | 23 => ⟨S1x1024, .f32⟩
  | 24 => ⟨S1024, .f32⟩
  | 25 => ⟨S4096x1024, .f32⟩
  | 26 => ⟨S1x1024, .f32⟩
  | 27 => ⟨S4096x1024, .f32⟩
  | 28 => ⟨S4096x1024, .f32⟩
  | 29 => ⟨S_, .f32⟩
  | 30 => ⟨S4096x1024, .f32⟩
  | 31 => ⟨S4096x1024, .f32⟩
  | 32 => ⟨S1x1024, .f32⟩
  | 33 => ⟨S1024, .f32⟩
  | 34 => ⟨S4096x1024, .f32⟩
  | 35 => ⟨S1x1024, .f32⟩
  | 36 => ⟨S4096x1024, .f32⟩
  | 37 => ⟨S4096x1024, .f32⟩
  | 38 => ⟨S4096x1024, .f32⟩
  | 39 => ⟨S1x1024, .f32⟩
  | 40 => ⟨S1024, .f32⟩
  | 41 => ⟨S4096x1024, .f32⟩
  | 42 => ⟨S1x1024, .f32⟩
  | 43 => ⟨S4096x1024, .f32⟩
  | 44 => ⟨S4096x1024, .f32⟩
  | 45 => ⟨S4096x1024, .f32⟩
  | 46 => ⟨S1x1024, .f32⟩
  | 47 => ⟨S1024, .f32⟩
  | 48 => ⟨S4096x1024, .f32⟩
  | 49 => ⟨S1x1024, .f32⟩
  | 50 => ⟨S4096x1024, .f32⟩
  | 51 => ⟨S4096x1024, .f32⟩
  | 52 => ⟨S4096x1024, .f32⟩
  | 53 => ⟨S1x1024, .f32⟩
  | 54 => ⟨S1024, .f32⟩
  | 55 => ⟨S4096x1024, .f32⟩
  | 56 => ⟨S1x1024, .f32⟩
  | 57 => ⟨S4096x1024, .f32⟩
  | 58 => ⟨S4096x1024, .f32⟩
  | 59 => ⟨S4096x1024, .f32⟩
  | 60 => ⟨S1x1024, .f32⟩
  | 61 => ⟨S1024, .f32⟩
  | 62 => ⟨S4096x1024, .f32⟩
  | 63 => ⟨S1x1024, .f32⟩
  | 64 => ⟨S4096x1024, .f32⟩
  | 65 => ⟨S4096x1024, .f32⟩
  | 66 => ⟨S4096x1024, .f32⟩
  | 67 => ⟨S1x1024, .f32⟩
  | 68 => ⟨S1024, .f32⟩
  | 69 => ⟨S4096x1024, .f32⟩
  | 70 => ⟨S1x1024, .f32⟩
  | 71 => ⟨S4096x1024, .f32⟩
  | 72 => ⟨S4096x1024, .f32⟩
  | 73 => ⟨S4096x1024, .f32⟩
  | 74 => ⟨S1x1024, .f32⟩
  | 75 => ⟨S1024, .f32⟩
  | 76 => ⟨S4096x1024, .f32⟩
  | 77 => ⟨S1x1024, .f32⟩
  | 78 => ⟨S4096x1024, .f32⟩
  | 79 => ⟨S4096x1024, .f32⟩
  | 80 => ⟨S4096x1024, .f32⟩
  | 81 => ⟨S1x1024, .f32⟩
  | 82 => ⟨S1024, .f32⟩
  | 83 => ⟨S4096x1024, .f32⟩
  | 84 => ⟨S1x1024, .f32⟩
  | 85 => ⟨S4096x1024, .f32⟩
  | 86 => ⟨S4096x1024, .f32⟩
  | 87 => ⟨S4096x1024, .f32⟩
  | 88 => ⟨S1x1024, .f32⟩
  | 89 => ⟨S1024, .f32⟩
  | 90 => ⟨S4096x1024, .f32⟩
  | 91 => ⟨S1x1024, .f32⟩
  | 92 => ⟨S4096x1024, .f32⟩
  | 93 => ⟨S4096x1024, .f32⟩
  | 94 => ⟨S4096x1024, .f32⟩
  | 95 => ⟨S1x1024, .f32⟩
  | 96 => ⟨S1024, .f32⟩
  | 97 => ⟨S4096x1024, .f32⟩
  | 98 => ⟨S1x1024, .f32⟩
  | 99 => ⟨S4096x1024, .f32⟩
  | 100 => ⟨S4096x1024, .f32⟩
  | 101 => ⟨S4096x1024, .f32⟩
  | 102 => ⟨S1x1024, .f32⟩
  | 103 => ⟨S1024, .f32⟩
  | 104 => ⟨S4096x1024, .f32⟩
  | 105 => ⟨S1x1024, .f32⟩
  | 106 => ⟨S4096x1024, .f32⟩
  | 107 => ⟨S4096x1024, .f32⟩
  | 108 => ⟨S4096x1024, .f32⟩
  | 109 => ⟨S1x1024, .f32⟩
  | 110 => ⟨S1024, .f32⟩
  | 111 => ⟨S4096x1024, .f32⟩
  | 112 => ⟨S1x1024, .f32⟩
  | 113 => ⟨S4096x1024, .f32⟩
  | 114 => ⟨S4096x1024, .f32⟩
  | 115 => ⟨S4096x1024, .f32⟩
  | 116 => ⟨S1x1024, .f32⟩
  | 117 => ⟨S1024, .f32⟩
  | 118 => ⟨S4096x1024, .f32⟩
  | 119 => ⟨S1x1024, .f32⟩
  | 120 => ⟨S4096x1024, .f32⟩
  | 121 => ⟨S4096x1024, .f32⟩
  | 122 => ⟨S4096x1024, .f32⟩
  | 123 => ⟨S1x1024, .f32⟩
  | 124 => ⟨S1024, .f32⟩
  | 125 => ⟨S4096x1024, .f32⟩
  | 126 => ⟨S1x1024, .f32⟩
  | 127 => ⟨S4096x1024, .f32⟩
  | _ => ⟨S1x4096x5120, .f32⟩

abbrev hbmTy0_1 (i : Nat) : BufTy := match i % 128 with
  | 0 => ⟨S4096x1024, .f32⟩
  | 1 => ⟨S4096x1024, .f32⟩
  | 2 => ⟨S1x1024, .f32⟩
  | 3 => ⟨S1024, .f32⟩
  | 4 => ⟨S4096x1024, .f32⟩
  | 5 => ⟨S1x1024, .f32⟩
  | 6 => ⟨S4096x1024, .f32⟩
  | 7 => ⟨S4096x1024, .f32⟩
  | 8 => ⟨S4096x1024, .f32⟩
  | 9 => ⟨S1x1024, .f32⟩
  | 10 => ⟨S1024, .f32⟩
  | 11 => ⟨S4096x1024, .f32⟩
  | 12 => ⟨S1x1024, .f32⟩
  | 13 => ⟨S4096x1024, .f32⟩
  | 14 => ⟨S4096x1024, .f32⟩
  | 15 => ⟨S4096x1024, .f32⟩
  | 16 => ⟨S1x1024, .f32⟩
  | 17 => ⟨S1024, .f32⟩
  | 18 => ⟨S4096x1024, .f32⟩
  | 19 => ⟨S1x1024, .f32⟩
  | 20 => ⟨S4096x1024, .f32⟩
  | 21 => ⟨S4096x1024, .f32⟩
  | 22 => ⟨S4096x1024, .f32⟩
  | 23 => ⟨S1x1024, .f32⟩
  | 24 => ⟨S1024, .f32⟩
  | 25 => ⟨S4096x1024, .f32⟩
  | 26 => ⟨S1x1024, .f32⟩
  | 27 => ⟨S4096x1024, .f32⟩
  | 28 => ⟨S4096x1024, .f32⟩
  | 29 => ⟨S4096x1024, .f32⟩
  | 30 => ⟨S1x1024, .f32⟩
  | 31 => ⟨S1024, .f32⟩
  | 32 => ⟨S4096x1024, .f32⟩
  | 33 => ⟨S1x1024, .f32⟩
  | 34 => ⟨S4096x1024, .f32⟩
  | 35 => ⟨S4096x1024, .f32⟩
  | 36 => ⟨S4096x1024, .f32⟩
  | 37 => ⟨S1x1024, .f32⟩
  | 38 => ⟨S1024, .f32⟩
  | 39 => ⟨S4096x1024, .f32⟩
  | 40 => ⟨S1x1024, .f32⟩
  | 41 => ⟨S4096x1024, .f32⟩
  | 42 => ⟨S4096x1024, .f32⟩
  | 43 => ⟨S4096x1024, .f32⟩
  | 44 => ⟨S1x1024, .f32⟩
  | 45 => ⟨S1024, .f32⟩
  | 46 => ⟨S4096x1024, .f32⟩
  | 47 => ⟨S1x1024, .f32⟩
  | 48 => ⟨S4096x1024, .f32⟩
  | 49 => ⟨S4096x1024, .f32⟩
  | 50 => ⟨S4096x1024, .f32⟩
  | 51 => ⟨S1x1024, .f32⟩
  | 52 => ⟨S1024, .f32⟩
  | 53 => ⟨S4096x1024, .f32⟩
  | 54 => ⟨S1x1024, .f32⟩
  | 55 => ⟨S4096x1024, .f32⟩
  | 56 => ⟨S4096x1024, .f32⟩
  | 57 => ⟨S4096x1024, .f32⟩
  | 58 => ⟨S1x1024, .f32⟩
  | 59 => ⟨S1024, .f32⟩
  | 60 => ⟨S4096x1024, .f32⟩
  | 61 => ⟨S1x1024, .f32⟩
  | 62 => ⟨S4096x1024, .f32⟩
  | 63 => ⟨S4096x1024, .f32⟩
  | 64 => ⟨S4096x1024, .f32⟩
  | 65 => ⟨S1x1024, .f32⟩
  | 66 => ⟨S1024, .f32⟩
  | 67 => ⟨S4096x1024, .f32⟩
  | 68 => ⟨S1x1024, .f32⟩
  | 69 => ⟨S4096x1024, .f32⟩
  | 70 => ⟨S4096x1024, .f32⟩
  | 71 => ⟨S4096x1024, .f32⟩
  | 72 => ⟨S1x1024, .f32⟩
  | 73 => ⟨S1024, .f32⟩
  | 74 => ⟨S4096x1024, .f32⟩
  | 75 => ⟨S1x1024, .f32⟩
  | 76 => ⟨S4096x1024, .f32⟩
  | 77 => ⟨S4096x1024, .f32⟩
  | 78 => ⟨S4096x1024, .f32⟩
  | 79 => ⟨S1x1024, .f32⟩
  | 80 => ⟨S1024, .f32⟩
  | 81 => ⟨S4096x1024, .f32⟩
  | 82 => ⟨S1x1024, .f32⟩
  | 83 => ⟨S4096x1024, .f32⟩
  | 84 => ⟨S4096x1024, .f32⟩
  | 85 => ⟨S4096x1024, .f32⟩
  | 86 => ⟨S1x1024, .f32⟩
  | 87 => ⟨S1024, .f32⟩
  | 88 => ⟨S4096x1024, .f32⟩
  | 89 => ⟨S1x1024, .f32⟩
  | 90 => ⟨S4096x1024, .f32⟩
  | 91 => ⟨S4096x1024, .f32⟩
  | 92 => ⟨S4096x1024, .f32⟩
  | 93 => ⟨S1x1024, .f32⟩
  | 94 => ⟨S1024, .f32⟩
  | 95 => ⟨S4096x1024, .f32⟩
  | 96 => ⟨S1x1024, .f32⟩
  | 97 => ⟨S4096x1024, .f32⟩
  | 98 => ⟨S4096x1024, .f32⟩
  | 99 => ⟨S4096x1024, .f32⟩
  | 100 => ⟨S1x1024, .f32⟩
  | 101 => ⟨S1024, .f32⟩
  | 102 => ⟨S4096x1024, .f32⟩
  | 103 => ⟨S1x1024, .f32⟩
  | 104 => ⟨S4096x1024, .f32⟩
  | 105 => ⟨S4096x1024, .f32⟩
  | 106 => ⟨S4096x1024, .f32⟩
  | 107 => ⟨S1x1024, .f32⟩
  | 108 => ⟨S1024, .f32⟩
  | 109 => ⟨S4096x1024, .f32⟩
  | 110 => ⟨S1x1024, .f32⟩
  | 111 => ⟨S4096x1024, .f32⟩
  | 112 => ⟨S4096x1024, .f32⟩
  | 113 => ⟨S4096x1024, .f32⟩
  | 114 => ⟨S1024, .f32⟩
  | 115 => ⟨S1x1024, .f32⟩
  | 116 => ⟨S4096x1024, .f32⟩
  | 117 => ⟨S4096x1024, .f32⟩
  | 118 => ⟨S4096x1024, .bf16⟩
  | 119 => ⟨S4096x1024, .f32⟩
  | 120 => ⟨S3x1024, .f32⟩
  | 121 => ⟨S_, .f32⟩
  | 122 => ⟨S2x1024, .f32⟩
  | 123 => ⟨S4098x1024, .f32⟩
  | 124 => ⟨S1x1024, .f32⟩
  | 125 => ⟨S1024, .f32⟩
  | 126 => ⟨S4096x1024, .f32⟩
  | 127 => ⟨S1x1024, .f32⟩
  | _ => ⟨S1x4096x5120, .f32⟩

abbrev hbmTy0_2 (i : Nat) : BufTy := match i % 128 with
  | 0 => ⟨S4096x1024, .f32⟩
  | 1 => ⟨S4096x1024, .f32⟩
  | 2 => ⟨S_, .f32⟩
  | 3 => ⟨S4096x1024, .f32⟩
  | 4 => ⟨S4096x1024, .f32⟩
  | 5 => ⟨S1x1024, .f32⟩
  | 6 => ⟨S1024, .f32⟩
  | 7 => ⟨S4096x1024, .f32⟩
  | 8 => ⟨S1x1024, .f32⟩
  | 9 => ⟨S4096x1024, .f32⟩
  | 10 => ⟨S4096x1024, .f32⟩
  | 11 => ⟨S4096x1024, .f32⟩
  | 12 => ⟨S1x1024, .f32⟩
  | 13 => ⟨S1024, .f32⟩
  | 14 => ⟨S4096x1024, .f32⟩
  | 15 => ⟨S1x1024, .f32⟩
  | 16 => ⟨S4096x1024, .f32⟩
  | 17 => ⟨S4096x1024, .f32⟩
  | 18 => ⟨S4096x1024, .f32⟩
  | 19 => ⟨S4096x1024, .f32⟩
  | 20 => ⟨S4096x1024, .bf16⟩
  | _ => ⟨S1x4096x5120, .f32⟩

abbrev hbmTy (i : Nat) : BufTy := match i / 128 with
  | 0 => hbmTy0_0 i
  | 1 => hbmTy0_1 i
  | 2 => hbmTy0_2 i
  | _ => ⟨S1x4096x5120, .f32⟩

abbrev bufTy : (tb : Table) → Fin (tcTables nBuf tb) → BufTy
  | .hbm, ⟨i, _⟩ => hbmTy i
  | _, _ => ⟨S1x4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_v221 : Ref sig .tc := ⟨.hbm, 229, rfl⟩
abbrev main_v222 : Ref sig .tc := ⟨.hbm, 230, rfl⟩
abbrev main_v223 : Ref sig .tc := ⟨.hbm, 231, rfl⟩
abbrev main_v224 : Ref sig .tc := ⟨.hbm, 232, rfl⟩
abbrev main_v225 : Ref sig .tc := ⟨.hbm, 233, rfl⟩
abbrev main_v226 : Ref sig .tc := ⟨.hbm, 234, rfl⟩
abbrev main_v227 : Ref sig .tc := ⟨.hbm, 235, rfl⟩
abbrev main_v228 : Ref sig .tc := ⟨.hbm, 236, rfl⟩
abbrev main_v229 : Ref sig .tc := ⟨.hbm, 237, rfl⟩
abbrev main_v230 : Ref sig .tc := ⟨.hbm, 238, rfl⟩
abbrev main_v231 : Ref sig .tc := ⟨.hbm, 239, rfl⟩
abbrev main_v232 : Ref sig .tc := ⟨.hbm, 240, rfl⟩
abbrev main_v233 : Ref sig .tc := ⟨.hbm, 241, rfl⟩
abbrev main_v234 : Ref sig .tc := ⟨.hbm, 242, rfl⟩
abbrev main_v235 : Ref sig .tc := ⟨.hbm, 243, rfl⟩
abbrev main_v236 : Ref sig .tc := ⟨.hbm, 244, rfl⟩
abbrev main_v237 : Ref sig .tc := ⟨.hbm, 245, rfl⟩
abbrev main_v238 : Ref sig .tc := ⟨.hbm, 246, rfl⟩
abbrev main_v239 : Ref sig .tc := ⟨.hbm, 247, rfl⟩
abbrev main_v240 : Ref sig .tc := ⟨.hbm, 248, rfl⟩
abbrev main_cst_3 : Ref sig .tc := ⟨.hbm, 249, rfl⟩
abbrev main_v241 : Ref sig .tc := ⟨.hbm, 250, rfl⟩
abbrev main_v242 : Ref sig .tc := ⟨.hbm, 251, rfl⟩
abbrev main_v243 : Ref sig .tc := ⟨.hbm, 252, rfl⟩
abbrev main_v244 : Ref sig .tc := ⟨.hbm, 253, rfl⟩
abbrev main_v245 : Ref sig .tc := ⟨.hbm, 254, rfl⟩
abbrev main_v246 : Ref sig .tc := ⟨.hbm, 255, rfl⟩
abbrev main_v247 : Ref sig .tc := ⟨.hbm, 256, rfl⟩
abbrev main_v248 : Ref sig .tc := ⟨.hbm, 257, rfl⟩
abbrev main_cst_4 : Ref sig .tc := ⟨.hbm, 258, rfl⟩
abbrev main_v249 : Ref sig .tc := ⟨.hbm, 259, rfl⟩
abbrev main_v250 : Ref sig .tc := ⟨.hbm, 260, rfl⟩
abbrev main_v251 : Ref sig .tc := ⟨.hbm, 261, rfl⟩
abbrev main_v252 : Ref sig .tc := ⟨.hbm, 262, rfl⟩
abbrev main_v253 : Ref sig .tc := ⟨.hbm, 263, rfl⟩
abbrev main_v254 : Ref sig .tc := ⟨.hbm, 264, rfl⟩
abbrev main_v255 : Ref sig .tc := ⟨.hbm, 265, rfl⟩
abbrev main_v256 : Ref sig .tc := ⟨.hbm, 266, rfl⟩
abbrev main_v257 : Ref sig .tc := ⟨.hbm, 267, rfl⟩
abbrev main_v258 : Ref sig .tc := ⟨.hbm, 268, rfl⟩
abbrev main_v259 : Ref sig .tc := ⟨.hbm, 269, rfl⟩
abbrev main_v260 : Ref sig .tc := ⟨.hbm, 270, rfl⟩
abbrev main_v261 : Ref sig .tc := ⟨.hbm, 271, rfl⟩
abbrev main_v262 : Ref sig .tc := ⟨.hbm, 272, rfl⟩
abbrev main_v263 : Ref sig .tc := ⟨.hbm, 273, rfl⟩
abbrev main_v264 : Ref sig .tc := ⟨.hbm, 274, rfl⟩
abbrev main_v265 : Ref sig .tc := ⟨.hbm, 275, rfl⟩
abbrev main_v266 : Ref sig .tc := ⟨.hbm, 276, rfl⟩

abbrev nD : Nat := 1
abbrev τ : Topo := Topo.v7x

variable {F : FTy → Type} [FloatOps F]
-- ==== Kernel8.lean ====
abbrev S1x4096x1024 : Shape := ⟨3, ![1, 4096, 1024]⟩
abbrev S1x1024x1024 : Shape := ⟨3, ![1, 1024, 1024]⟩
abbrev S1x1024 : Shape := ⟨2, ![1, 1024]⟩
abbrev S_ : Shape := ⟨0, ![]⟩
abbrev S5x4096x1024 : Shape := ⟨3, ![5, 4096, 1024]⟩
abbrev S7x4096x1024 : Shape := ⟨3, ![7, 4096, 1024]⟩
abbrev S1024x1024 : Shape := ⟨2, ![1024, 1024]⟩
abbrev S3072x1024 : Shape := ⟨2, ![3072, 1024]⟩
abbrev S4096x1024 : Shape := ⟨2, ![4096, 1024]⟩
abbrev S512x1024 : Shape := ⟨2, ![512, 1024]⟩
abbrev S1x512x1024 : Shape := ⟨3, ![1, 512, 1024]⟩
abbrev S512 : Shape := ⟨1, ![512]⟩
abbrev S512x1 : Shape := ⟨2, ![512, 1]⟩

abbrev nBuf : Space → Nat
  | .hbm => 27
  | .vmem => 21
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x4096x1024, .f32⟩
  | .hbm, ⟨3, _⟩ => ⟨S1x4096x1024, .f32⟩
  | .hbm, ⟨4, _⟩ => ⟨S1x4096x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S1x1024, .f32⟩
  | .hbm, ⟨9, _⟩ => ⟨S1x1024, .f32⟩
  | .hbm, ⟨10, _⟩ => ⟨S_, .f32⟩
  | .hbm, ⟨11, _⟩ => ⟨S5x4096x1024, .f32⟩
  | .hbm, ⟨12, _⟩ => ⟨S7x4096x1024, .f32⟩
  | .hbm, ⟨13, _⟩ => ⟨S7x4096x1024, .bf16⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S3072x1024, .f32⟩
  | .hbm, ⟨18, _⟩ => ⟨S3072x1024, .bf16⟩
  | .hbm, ⟨19, _⟩ => ⟨S4096x1024, .f32⟩
  | .hbm, ⟨20, _⟩ => ⟨S4096x1024, .bf16⟩
  | .hbm, ⟨21, _⟩ => ⟨S4096x1024, .f32⟩
  | .hbm, ⟨22, _⟩ => ⟨S4096x1024, .bf16⟩
  | .hbm, ⟨23, _⟩ => ⟨S4096x1024, .f32⟩
  | .hbm, ⟨24, _⟩ => ⟨S4096x1024, .f32⟩
  | .hbm, ⟨25, _⟩ => ⟨S4096x1024, .bf16⟩
  | .hbm, ⟨26, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev main_v13_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_3 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_9 (i : grid0.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference8Ideal.lean ====
abbrev S1x4096x1024 : Shape := ⟨3, ![1, 4096, 1024]⟩
abbrev S1x1024x1024 : Shape := ⟨3, ![1, 1024, 1024]⟩
abbrev S1x1024 : Shape := ⟨2, ![1, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x1024 : Shape := ⟨2, ![1024, 1024]⟩

abbrev nBuf : Space → Nat
  | .hbm => 83
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x4096x1024, .f32⟩
  | .hbm, ⟨3, _⟩ => ⟨S1x4096x1024, .f32⟩
  | .hbm, ⟨4, _⟩ => ⟨S1x4096x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S1x1024, .f32⟩
  | .hbm, ⟨9, _⟩ => ⟨S1x1024, .f32⟩
  | .hbm, ⟨10, _⟩ => ⟨S4096x1024, .f32⟩
  | .hbm, ⟨11, _⟩ => ⟨S1024, .f32⟩
  | .hbm, ⟨12, _⟩ => ⟨S1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S1024x1024, .f32⟩
  | .hbm, ⟨52, _⟩ => ⟨S4096x1024, .f32⟩
  | .hbm, ⟨53, _⟩ => ⟨S4096x1024, .f32⟩
  | .hbm, ⟨54, _⟩ => ⟨S1024x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S4096x1024, .f32⟩
  | .hbm, ⟨71, _⟩ => ⟨S4096x1024, .f32⟩
  | .hbm, ⟨72, _⟩ => ⟨S_, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S1024x1024, .f32⟩
  | .hbm, ⟨79, _⟩ => ⟨S4096x1024, .f32⟩
  | .hbm, ⟨80, _⟩ => ⟨S4096x1024, .f32⟩
  | .hbm, ⟨81, _⟩ => ⟨S4096x1024, .bf16⟩
  | .hbm, ⟨82, _⟩ => ⟨S4096x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_4 : Ref sig .tc := ⟨.hbm, 59, rfl⟩
abbrev main_v36 : Ref sig .tc := ⟨.hbm, 60, rfl⟩
abbrev main_v37 : Ref sig .tc := ⟨.hbm, 61, rfl⟩
abbrev main_cst_5 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_6 : Ref sig .tc := ⟨.hbm, 69, rfl⟩
abbrev main_v44 : Ref sig .tc := ⟨.hbm, 70, rfl⟩
abbrev main_v45 : Ref sig .tc := ⟨.hbm, 71, rfl⟩
abbrev main_cst_7 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩

abbrev nD : Nat := 1
abbrev τ : Topo := Topo.v7x

variable {F : FTy → Type} [FloatOps F]
-- ==== Kernel9.lean ====
abbrev S1x4096x1024 : Shape := ⟨3, ![1, 4096, 1024]⟩
abbrev S1x1024 : Shape := ⟨2, ![1, 1024]⟩
abbrev S1x1024x2816 : Shape := ⟨3, ![1, 1024, 2816]⟩
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S1x4096x2816 : Shape := ⟨3, ![1, 4096, 2816]⟩
abbrev S512x1024 : Shape := ⟨2, ![512, 1024]⟩
abbrev S512x2816 : Shape := ⟨2, ![512, 2816]⟩
abbrev S1x512x2816 : Shape := ⟨3, ![1, 512, 2816]⟩
abbrev S2 : Shape := ⟨1, ![2]⟩
abbrev S1 : Shape := ⟨1, ![1]⟩
abbrev S_ : Shape := ⟨0, ![]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩
abbrev S1x512x256 : Shape := ⟨3, ![1, 512, 256]⟩

abbrev nBuf : Space → Nat
  | .hbm => 15
  | .vmem => 13
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S4096x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | .hbm, ⟨8, _⟩ => ⟨S1024x2816, .f32⟩
  | .hbm, ⟨9, _⟩ => ⟨S2816x1024, .f32⟩
  | .hbm, ⟨10, _⟩ => ⟨S2816x1024, .bf16⟩
  | .hbm, ⟨11, _⟩ => ⟨S4096x1024, .bf16⟩
  | .hbm, ⟨12, _⟩ => ⟨S4096x2816, .bf16⟩
  | .hbm, ⟨13, _⟩ => ⟨S4096x2816, .bf16⟩
  | .hbm, ⟨14, _⟩ => ⟨S1x4096x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S1x512x2816, .bf16⟩
  | .local _ .vmem, ⟨10, _⟩ => ⟨S1x512x2816, .bf16⟩
  | .local _ .vmem, ⟨11, _⟩ => ⟨S2816x1024, .bf16⟩
  | .local _ .vmem, ⟨12, _⟩ => ⟨S2816x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S1x4096x1024 : Shape := ⟨3, ![1, 4096, 1024]⟩
abbrev S1x1024 : Shape := ⟨2, ![1, 1024]⟩
abbrev S1x1024x2816 : Shape := ⟨3, ![1, 1024, 2816]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S4096x2816 : Shape := ⟨2, ![4096, 2816]⟩
abbrev S1x4096x2816 : Shape := ⟨3, ![1, 4096, 2816]⟩

abbrev nBuf : Space → Nat
  | .hbm => 41
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S1024x2816, .f32⟩
  | .hbm, ⟨23, _⟩ => ⟨S4096x2816, .f32⟩
  | .hbm, ⟨24, _⟩ => ⟨S1024x2816, .f32⟩
  | .hbm, ⟨25, _⟩ => ⟨S4096x2816, .f32⟩
  | .hbm, ⟨26, _⟩ => ⟨S4096x1024, .bf16⟩
  | .hbm, ⟨27, _⟩ => ⟨S4096x2816, .bf16⟩
  | .hbm, ⟨28, _⟩ => ⟨S4096x2816, .bf16⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S_, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .bf16⟩
  | .hbm, ⟨40, _⟩ => ⟨S1x4096x2816, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== Kernel12.lean ====
abbrev S7x4096x1024 : Shape := ⟨3, ![7, 4096, 1024]⟩
abbrev S1x4096x1024 : Shape := ⟨3, ![1, 4096, 1024]⟩
abbrev S4096x1024 : Shape := ⟨2, ![4096, 1024]⟩
abbrev S7168x1024 : Shape := ⟨2, ![7168, 1024]⟩
abbrev S1x2048x1024 : Shape := ⟨3, ![1, 2048, 1024]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S7x4096x1024, .f32⟩
  | .hbm, ⟨1, _⟩ => ⟨S1x4096x1024, .f32⟩
  | .hbm, ⟨2, _⟩ => ⟨S7x4096x1024, .bf16⟩
  | .hbm, ⟨3, _⟩ => ⟨S4096x1024, .f32⟩
  | .hbm, ⟨4, _⟩ => ⟨S4096x1024, .bf16⟩
  | .hbm, ⟨5, _⟩ => ⟨S7168x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S7x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![7, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S7x4096x1024 : Shape := ⟨3, ![7, 4096, 1024]⟩
abbrev S1x4096x1024 : Shape := ⟨3, ![1, 4096, 1024]⟩
abbrev S_ : Shape := ⟨0, ![]⟩
abbrev S7x1024x1024 : Shape := ⟨3, ![7, 1024, 1024]⟩
abbrev S4096x1024 : Shape := ⟨2, ![4096, 1024]⟩
abbrev S7x1024x4096 : Shape := ⟨3, ![7, 1024, 4096]⟩
abbrev S7168x1024 : Shape := ⟨2, ![7168, 1024]⟩

abbrev nBuf : Space → Nat
  | .hbm => 13
  | .vmem => 0
  | .smem => 0
  | _ => 0

abbrev bufTy : (tb : Table) → Fin (tcTables nBuf tb) → BufTy
  | .hbm, ⟨0, _⟩ => ⟨S7x4096x1024, .f32⟩
  | .hbm, ⟨1, _⟩ => ⟨S1x4096x1024, .f32⟩
  | .hbm, ⟨2, _⟩ => ⟨S_, .f32⟩
  | .hbm, ⟨3, _⟩ => ⟨S7x1024x1024, .f32⟩
  | .hbm, ⟨4, _⟩ => ⟨S4096x1024, .f32⟩
  | .hbm, ⟨5, _⟩ => ⟨S7x1024x4096, .f32⟩
  | .hbm, ⟨6, _⟩ => ⟨S7x4096x1024, .f32⟩
  | .hbm, ⟨7, _⟩ => ⟨S7x1024x4096, .f32⟩
  | .hbm, ⟨8, _⟩ => ⟨S7x1024x1024, .f32⟩
  | .hbm, ⟨9, _⟩ => ⟨S7x1024x1024, .f32⟩
  | .hbm, ⟨10, _⟩ => ⟨S7x1024x1024, .f32⟩
  | .hbm, ⟨11, _⟩ => ⟨S7168x1024, .f32⟩
  | .hbm, ⟨12, _⟩ => ⟨S7168x1024, .bf16⟩
  | _, _ => ⟨S7x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel13.lean ====
abbrev S1x4096x1024 : Shape := ⟨3, ![1, 4096, 1024]⟩
abbrev S1x4096x2816 : Shape := ⟨3, ![1, 4096, 2816]⟩
abbrev S1x2816x1024 : Shape := ⟨3, ![1, 2816, 1024]⟩
abbrev S4096x1024 : Shape := ⟨2, ![4096, 1024]⟩
abbrev S2816x1024 : Shape := ⟨2, ![2816, 1024]⟩
abbrev S512x1024 : Shape := ⟨2, ![512, 1024]⟩
abbrev S1x512x2816 : Shape := ⟨3, ![1, 512, 2816]⟩
abbrev S1 : Shape := ⟨1, ![1]⟩
abbrev S_ : Shape := ⟨0, ![]⟩
abbrev S512x2816 : Shape := ⟨2, ![512, 2816]⟩

abbrev nBuf : Space → Nat
  | .hbm => 8
  | .vmem => 7
  | .smem => 0
  | _ => 0

abbrev bufTy : (tb : Table) → Fin (tcTables nBuf tb) → BufTy
  | .hbm, ⟨0, _⟩ => ⟨S1x4096x1024, .f32⟩
  | .hbm, ⟨1, _⟩ => ⟨S1x4096x2816, .f32⟩
  | .hbm, ⟨2, _⟩ => ⟨S1x2816x1024, .f32⟩
  | .hbm, ⟨3, _⟩ => ⟨S4096x1024, .f32⟩
  | .hbm, ⟨4, _⟩ => ⟨S1x4096x2816, .bf16⟩
  | .hbm, ⟨5, _⟩ => ⟨S2816x1024, .f32⟩
  | .hbm, ⟨6, _⟩ => ⟨S2816x1024, .bf16⟩
  | .hbm, ⟨7, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x512x2816, .bf16⟩
  | .local _ .vmem, ⟨3, _⟩ => ⟨S1x512x2816, .bf16⟩
  | .local _ .vmem, ⟨4, _⟩ => ⟨S512x1024, .f32⟩
  | .local _ .vmem, ⟨5, _⟩ => ⟨S512x1024, .f32⟩
  | .local _ .vmem, ⟨6, _⟩ => ⟨S2816x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference13Ideal.lean ====
abbrev S1x4096x1024 : Shape := ⟨3, ![1, 4096, 1024]⟩
abbrev S1x4096x2816 : Shape := ⟨3, ![1, 4096, 2816]⟩
abbrev S1x2816x1024 : Shape := ⟨3, ![1, 2816, 1024]⟩
abbrev S4096x1024 : Shape := ⟨2, ![4096, 1024]⟩
abbrev S4096x2816 : Shape := ⟨2, ![4096, 2816]⟩
abbrev S2816x1024 : Shape := ⟨2, ![2816, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x2816, .f32⟩
  | .hbm, ⟨2, _⟩ => ⟨S1x2816x1024, .f32⟩
  | .hbm, ⟨3, _⟩ => ⟨S4096x1024, .f32⟩
  | .hbm, ⟨4, _⟩ => ⟨S4096x2816, .f32⟩
  | .hbm, ⟨5, _⟩ => ⟨S2816x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel14.lean ====
abbrev S4x352x1024 : Shape := ⟨3, ![4, 352, 1024]⟩
abbrev S1x352x1024 : Shape := ⟨3, ![1, 352, 1024]⟩
abbrev S352x1024 : Shape := ⟨2, ![352, 1024]⟩
abbrev S4x176x1024 : Shape := ⟨3, ![4, 176, 1024]⟩
abbrev S176x1024 : Shape := ⟨2, ![176, 1024]⟩
abbrev S1x176x1024 : Shape := ⟨3, ![1, 176, 1024]⟩

abbrev nBuf : Space → Nat
  | .hbm => 24
  | .vmem => 32
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S1x352x1024, .f32⟩
  | .hbm, ⟨3, _⟩ => ⟨S1x352x1024, .f32⟩
  | .hbm, ⟨4, _⟩ => ⟨S1x352x1024, .f32⟩
  | .hbm, ⟨5, _⟩ => ⟨S1x352x1024, .f32⟩
  | .hbm, ⟨6, _⟩ => ⟨S1x352x1024, .f32⟩
  | .hbm, ⟨7, _⟩ => ⟨S1x352x1024, .f32⟩
  | .hbm, ⟨8, _⟩ => ⟨S4x352x1024, .bf16⟩
  | .hbm, ⟨9, _⟩ => ⟨S4x352x1024, .bf16⟩
  | .hbm, ⟨10, _⟩ => ⟨S352x1024, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S352x1024, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S352x1024, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S352x1024, .f32⟩
  | .hbm, ⟨23, _⟩ => ⟨S352x1024, .f32⟩
  | .local _ .vmem, ⟨0, _⟩ => ⟨S4x176x1024, .bf16⟩
  | .local _ .vmem, ⟨1, _⟩ => ⟨S4x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S4x176x1024, .bf16⟩
  | .local _ .vmem, ⟨9, _⟩ => ⟨S4x176x1024, .bf16⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | .local _ .vmem, ⟨18, _⟩ => ⟨S176x1024, .f32⟩
  | .local _ .vmem, ⟨19, _⟩ => ⟨S176x1024, .f32⟩
  | .local _ .vmem, ⟨20, _⟩ => ⟨S176x1024, .f32⟩
  | .local _ .vmem, ⟨21, _⟩ => ⟨S176x1024, .f32⟩
  | .local _ .vmem, ⟨22, _⟩ => ⟨S176x1024, .f32⟩
  | .local _ .vmem, ⟨23, _⟩ => ⟨S176x1024, .f32⟩
  | .local _ .vmem, ⟨24, _⟩ => ⟨S176x1024, .f32⟩
  | .local _ .vmem, ⟨25, _⟩ => ⟨S176x1024, .f32⟩
  | .local _ .vmem, ⟨26, _⟩ => ⟨S176x1024, .f32⟩
  | .local _ .vmem, ⟨27, _⟩ => ⟨S176x1024, .f32⟩
  | .local _ .vmem, ⟨28, _⟩ => ⟨S176x1024, .f32⟩
  | .local _ .vmem, ⟨29, _⟩ => ⟨S176x1024, .f32⟩
  | .local _ .vmem, ⟨30, _⟩ => ⟨S176x1024, .f32⟩
  | .local _ .vmem, ⟨31, _⟩ => ⟨S176x1024, .f32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev main_v8_5 : Ref sig .tc := ⟨.hbm, 21, rfl⟩
abbrev main_v8_6 : Ref sig .tc := ⟨.hbm, 22, rfl⟩
abbrev main_v8_7 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x176x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S176x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S176x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S176x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S176x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S176x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference14Ideal.lean ====
abbrev S4x352x1024 : Shape := ⟨3, ![4, 352, 1024]⟩
abbrev S1x352x1024 : Shape := ⟨3, ![1, 352, 1024]⟩
abbrev S_ : Shape := ⟨0, ![]⟩
abbrev S352x1024 : Shape := ⟨2, ![352, 1024]⟩

abbrev nBuf : Space → Nat
  | .hbm => 84
  | .vmem => 0
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S1x352x1024, .f32⟩
  | .hbm, ⟨3, _⟩ => ⟨S1x352x1024, .f32⟩
  | .hbm, ⟨4, _⟩ => ⟨S1x352x1024, .f32⟩
  | .hbm, ⟨5, _⟩ => ⟨S1x352x1024, .f32⟩
  | .hbm, ⟨6, _⟩ => ⟨S1x352x1024, .f32⟩
  | .hbm, ⟨7, _⟩ => ⟨S1x352x1024, .f32⟩
  | .hbm, ⟨8, _⟩ => ⟨S_, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S352x1024, .f32⟩
  | .hbm, ⟨15, _⟩ => ⟨S_, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S352x1024, .f32⟩
  | .hbm, ⟨26, _⟩ => ⟨S_, .f32⟩
  | .hbm, ⟨27, _⟩ => ⟨S352x1024, .f32⟩
  | .hbm, ⟨28, _⟩ => ⟨S352x1024, .f32⟩
  | .hbm, ⟨29, _⟩ => ⟨S352x1024, .f32⟩
  | .hbm, ⟨30, _⟩ => ⟨S_, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | .hbm, ⟨40, _⟩ => ⟨S352x1024, .f32⟩
  | .hbm, ⟨41, _⟩ => ⟨S_, .f32⟩
  | .hbm, ⟨42, _⟩ => ⟨S352x1024, .f32⟩
  | .hbm, ⟨43, _⟩ => ⟨S352x1024, .f32⟩
  | .hbm, ⟨44, _⟩ => ⟨S352x1024, .f32⟩
  | .hbm, ⟨45, _⟩ => ⟨S_, .f32⟩
  | .hbm, ⟨46, _⟩ => ⟨S352x1024, .f32⟩
  | .hbm, ⟨47, _⟩ => ⟨S352x1024, .f32⟩
  | .hbm, ⟨48, _⟩ => ⟨S352x1024, .f32⟩
  | .hbm, ⟨49, _⟩ => ⟨S352x1024, .f32⟩
  | .hbm, ⟨50, _⟩ => ⟨S352x1024, .f32⟩
  | .hbm, ⟨51, _⟩ => ⟨S_, .f32⟩
  | .hbm, ⟨52, _⟩ => ⟨S352x1024, .f32⟩
  | .hbm, ⟨53, _⟩ => ⟨S352x1024, .f32⟩
  | .hbm, ⟨54, _⟩ => ⟨S_, .f32⟩
  | .hbm, ⟨55, _⟩ => ⟨S352x1024, .f32⟩
  | .hbm, ⟨56, _⟩ => ⟨S352x1024, .f32⟩
  | .hbm, ⟨57, _⟩ => ⟨S352x1024, .f32⟩
  | .hbm, ⟨58, _⟩ => ⟨S_, .f32⟩
  | .hbm, ⟨59, _⟩ => ⟨S352x1024, .f32⟩
  | .hbm, ⟨60, _⟩ => ⟨S352x1024, .f32⟩
  | .hbm, ⟨61, _⟩ => ⟨S352x1024, .f32⟩
  | .hbm, ⟨62, _⟩ => ⟨S_, .f32⟩
  | .hbm, ⟨63, _⟩ => ⟨S352x1024, .f32⟩
  | .hbm, ⟨64, _⟩ => ⟨S352x1024, .f32⟩
  | .hbm, ⟨65, _⟩ => ⟨S352x1024, .f32⟩
  | .hbm, ⟨66, _⟩ => ⟨S_, .f32⟩
  | .hbm, ⟨67, _⟩ => ⟨S352x1024, .f32⟩
  | .hbm, ⟨68, _⟩ => ⟨S352x1024, .f32⟩
  | .hbm, ⟨69, _⟩ => ⟨S_, .f32⟩
  | .hbm, ⟨70, _⟩ => ⟨S352x1024, .f32⟩
  | .hbm, ⟨71, _⟩ => ⟨S352x1024, .f32⟩
  | .hbm, ⟨72, _⟩ => ⟨S352x1024, .f32⟩
  | .hbm, ⟨73, _⟩ => ⟨S_, .f32⟩
  | .hbm, ⟨74, _⟩ => ⟨S352x1024, .f32⟩
  | .hbm, ⟨75, _⟩ => ⟨S352x1024, .f32⟩
  | .hbm, ⟨76, _⟩ => ⟨S352x1024, .f32⟩
  | .hbm, ⟨77, _⟩ => ⟨S_, .f32⟩
  | .hbm, ⟨78, _⟩ => ⟨S352x1024, .f32⟩
  | .hbm, ⟨79, _⟩ => ⟨S352x1024, .f32⟩
  | .hbm, ⟨80, _⟩ => ⟨S352x1024, .f32⟩
  | .hbm, ⟨81, _⟩ => ⟨S_, .f32⟩
  | .hbm, ⟨82, _⟩ => ⟨S352x1024, .f32⟩
  | .hbm, ⟨83, _⟩ => ⟨S352x1024, .f32⟩
  | _, _ => ⟨S4x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_cst_6 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_7 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_9 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_10 : Ref sig .tc := ⟨.hbm, 51, rfl⟩
abbrev main_v32 : Ref sig .tc := ⟨.hbm, 52, rfl⟩
abbrev main_v33 : Ref sig .tc := ⟨.hbm, 53, rfl⟩
abbrev main_cst_11 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_12 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_13 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_14 : Ref sig .tc := ⟨.hbm, 66, rfl⟩
abbrev main_v43 : Ref sig .tc := ⟨.hbm, 67, rfl⟩
abbrev main_v44 : Ref sig .tc := ⟨.hbm, 68, rfl⟩
abbrev main_cst_15 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_16 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_17 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_18 : Ref sig .tc := ⟨.hbm, 81, rfl⟩
abbrev main_v54 : Ref sig .tc := ⟨.hbm, 82, rfl⟩
abbrev main_v55 : Ref sig .tc := ⟨.hbm, 83, rfl⟩

abbrev nD : Nat := 1
abbrev τ : Topo := Topo.v7x

variable {F : FTy → Type} [FloatOps F]
-- ==== Kernel15.lean ====
abbrev S4x448x1024 : Shape := ⟨3, ![4, 448, 1024]⟩
abbrev S1x1024x896 : Shape := ⟨3, ![1, 1024, 896]⟩
abbrev S1024x896 : Shape := ⟨2, ![1024, 896]⟩
abbrev S4x448x256 : Shape := ⟨3, ![4, 448, 256]⟩
abbrev S256x896 : Shape := ⟨2, ![256, 896]⟩
abbrev S1x448x256 : Shape := ⟨3, ![1, 448, 256]⟩
abbrev S448x256 : Shape := ⟨2, ![448, 256]⟩
abbrev S896x256 : Shape := ⟨2, ![896, 256]⟩

abbrev nBuf : Space → Nat
  | .hbm => 14
  | .vmem => 18
  | .smem => 0
  | _ => 0

abbrev bufTy : (tb : Table) → Fin (tcTables nBuf tb) → BufTy
  | .hbm, ⟨0, _⟩ => ⟨S4x448x1024, .f32⟩
  | .hbm, ⟨1, _⟩ => ⟨S4x448x1024, .f32⟩
  | .hbm, ⟨2, _⟩ => ⟨S1x1024x896, .f32⟩
  | .hbm, ⟨3, _⟩ => ⟨S1x1024x896, .f32⟩
  | .hbm, ⟨4, _⟩ => ⟨S1x1024x896, .f32⟩
  | .hbm, ⟨5, _⟩ => ⟨S4x448x1024, .bf16⟩
  | .hbm, ⟨6, _⟩ => ⟨S4x448x1024, .bf16⟩
  | .hbm, ⟨7, _⟩ => ⟨S1024x896, .f32⟩
  | .hbm, ⟨8, _⟩ => ⟨S1024x896, .f32⟩
  | .hbm, ⟨9, _⟩ => ⟨S1024x896, .f32⟩
  | .hbm, ⟨10, _⟩ => ⟨S1024x896, .f32⟩
  | .hbm, ⟨11, _⟩ => ⟨S1024x896, .f32⟩
  | .hbm, ⟨12, _⟩ => ⟨S1024x896, .f32⟩
  | .hbm, ⟨13, _⟩ => ⟨S1024x896, .f32⟩
  | .local _ .vmem, ⟨0, _⟩ => ⟨S4x448x256, .bf16⟩
  | .local _ .vmem, ⟨1, _⟩ => ⟨S4x448x256, .bf16⟩
  | .local _ .vmem, ⟨2, _⟩ => ⟨S4x448x256, .bf16⟩
  | .local _ .vmem, ⟨3, _⟩ => ⟨S4x448x256, .bf16⟩
  | .local _ .vmem, ⟨4, _⟩ => ⟨S256x896, .f32⟩
  | .local _ .vmem, ⟨5, _⟩ => ⟨S256x896, .f32⟩
  | .local _ .vmem, ⟨6, _⟩ => ⟨S256x896, .f32⟩
  | .local _ .vmem, ⟨7, _⟩ => ⟨S256x896, .f32⟩
  | .local _ .vmem, ⟨8, _⟩ => ⟨S256x896, .f32⟩
  | .local _ .vmem, ⟨9, _⟩ => ⟨S256x896, .f32⟩
  | .local _ .vmem, ⟨10, _⟩ => ⟨S256x896, .f32⟩
  | .local _ .vmem, ⟨11, _⟩ => ⟨S256x896, .f32⟩
  | .local _ .vmem, ⟨12, _⟩ => ⟨S256x896, .f32⟩
  | .local _ .vmem, ⟨13, _⟩ => ⟨S256x896, .f32⟩
  | .local _ .vmem, ⟨14, _⟩ => ⟨S256x896, .f32⟩
  | .local _ .vmem, ⟨15, _⟩ => ⟨S256x896, .f32⟩
  | .local _ .vmem, ⟨16, _⟩ => ⟨S256x896, .f32⟩
  | .local _ .vmem, ⟨17, _⟩ => ⟨S256x896, .f32⟩
  | _, _ => ⟨S4x448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x448x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x448x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x896 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference15Ideal.lean ====
abbrev S4x448x1024 : Shape := ⟨3, ![4, 448, 1024]⟩
abbrev S1x1024x896 : Shape := ⟨3, ![1, 1024, 896]⟩
abbrev S_ : Shape := ⟨0, ![]⟩
abbrev S448x1024 : Shape := ⟨2, ![448, 1024]⟩
abbrev S896x1024 : Shape := ⟨2, ![896, 1024]⟩
abbrev S1024x896 : Shape := ⟨2, ![1024, 896]⟩

abbrev nBuf : Space → Nat
  | .hbm => 47
  | .vmem => 0
  | .smem => 0
  | _ => 0

abbrev bufTy : (tb : Table) → Fin (tcTables nBuf tb) → BufTy
  | .hbm, ⟨0, _⟩ => ⟨S4x448x1024, .f32⟩
  | .hbm, ⟨1, _⟩ => ⟨S4x448x1024, .f32⟩
  | .hbm, ⟨2, _⟩ => ⟨S1x1024x896, .f32⟩
  | .hbm, ⟨3, _⟩ => ⟨S1x1024x896, .f32⟩
  | .hbm, ⟨4, _⟩ => ⟨S1x1024x896, .f32⟩
  | .hbm, ⟨5, _⟩ => ⟨S_, .f32⟩
  | .hbm, ⟨6, _⟩ => ⟨S448x1024, .f32⟩
  | .hbm, ⟨7, _⟩ => ⟨S_, .f32⟩
  | .hbm, ⟨8, _⟩ => ⟨S448x1024, .f32⟩
  | .hbm, ⟨9, _⟩ => ⟨S896x1024, .f32⟩
  | .hbm, ⟨10, _⟩ => ⟨S1024x896, .f32⟩
  | .hbm, ⟨11, _⟩ => ⟨S1024x896, .f32⟩
  | .hbm, ⟨12, _⟩ => ⟨S1024x896, .f32⟩
  | .hbm, ⟨13, _⟩ => ⟨S1024x896, .f32⟩
  | .hbm, ⟨14, _⟩ => ⟨S_, .f32⟩
  | .hbm, ⟨15, _⟩ => ⟨S1024x896, .f32⟩
  | .hbm, ⟨16, _⟩ => ⟨S1024x896, .f32⟩
  | .hbm, ⟨17, _⟩ => ⟨S_, .f32⟩
  | .hbm, ⟨18, _⟩ => ⟨S1024x896, .f32⟩
  | .hbm, ⟨19, _⟩ => ⟨S1024x896, .f32⟩
  | .hbm, ⟨20, _⟩ => ⟨S1024x896, .f32⟩
  | .hbm, ⟨21, _⟩ => ⟨S_, .f32⟩
  | .hbm, ⟨22, _⟩ => ⟨S1024x896, .f32⟩
  | .hbm, ⟨23, _⟩ => ⟨S1024x896, .f32⟩
  | .hbm, ⟨24, _⟩ => ⟨S1024x896, .f32⟩
  | .hbm, ⟨25, _⟩ => ⟨S_, .f32⟩
  | .hbm, ⟨26, _⟩ => ⟨S1024x896, .f32⟩
  | .hbm, ⟨27, _⟩ => ⟨S1024x896, .f32⟩
  | .hbm, ⟨28, _⟩ => ⟨S1024x896, .f32⟩
  | .hbm, ⟨29, _⟩ => ⟨S_, .f32⟩
  | .hbm, ⟨30, _⟩ => ⟨S1024x896, .f32⟩
  | .hbm, ⟨31, _⟩ => ⟨S1024x896, .f32⟩
  | .hbm, ⟨32, _⟩ => ⟨S_, .f32⟩
  | .hbm, ⟨33, _⟩ => ⟨S1024x896, .f32⟩
  | .hbm, ⟨34, _⟩ => ⟨S1024x896, .f32⟩
  | .hbm, ⟨35, _⟩ => ⟨S1024x896, .f32⟩
  | .hbm, ⟨36, _⟩ => ⟨S_, .f32⟩
  | .hbm, ⟨37, _⟩ => ⟨S1024x896, .f32⟩
  | .hbm, ⟨38, _⟩ => ⟨S1024x896, .f32⟩
  | .hbm, ⟨39, _⟩ => ⟨S1024x896, .f32⟩
  | .hbm, ⟨40, _⟩ => ⟨S_, .f32⟩
  | .hbm, ⟨41, _⟩ => ⟨S1024x896, .f32⟩
  | .hbm, ⟨42, _⟩ => ⟨S1024x896, .f32⟩
  | .hbm, ⟨43, _⟩ => ⟨S1024x896, .f32⟩
  | .hbm, ⟨44, _⟩ => ⟨S_, .f32⟩
  | .hbm, ⟨45, _⟩ => ⟨S1024x896, .f32⟩
  | .hbm, ⟨46, _⟩ => ⟨S1024x896, .f32⟩
  | _, _ => ⟨S4x448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel18.lean ====
abbrev S5632x1024 : Shape := ⟨2, ![5632, 1024]⟩
abbrev S4x704x1024 : Shape := ⟨3, ![4, 704, 1024]⟩
abbrev S_ : Shape := ⟨0, ![]⟩
abbrev S1 : Shape := ⟨1, ![1]⟩
abbrev S352x1024 : Shape := ⟨2, ![352, 1024]⟩
abbrev S1x704x1024 : Shape := ⟨3, ![1, 704, 1024]⟩
abbrev S1x352x1024 : Shape := ⟨3, ![1, 352, 1024]⟩

abbrev nBuf : Space → Nat
  | .hbm => 7
  | .vmem => 8
  | .smem => 1
  | _ => 0

abbrev bufTy : (tb : Table) → Fin (tcTables nBuf tb) → BufTy
  | .hbm, ⟨0, _⟩ => ⟨S5632x1024, .f32⟩
  | .hbm, ⟨1, _⟩ => ⟨S4x704x1024, .f32⟩
  | .hbm, ⟨2, _⟩ => ⟨S5632x1024, .bf16⟩
  | .hbm, ⟨3, _⟩ => ⟨S4x704x1024, .bf16⟩
  | .hbm, ⟨4, _⟩ => ⟨S_, .i32⟩
  | .hbm, ⟨5, _⟩ => ⟨S1, .i32⟩
  | .hbm, ⟨6, _⟩ => ⟨S4x704x1024, .bf16⟩
  | .local _ .vmem, ⟨0, _⟩ => ⟨S352x1024, .bf16⟩
  | .local _ .vmem, ⟨1, _⟩ => ⟨S352x1024, .bf16⟩
  | .local _ .vmem, ⟨2, _⟩ => ⟨S352x1024, .bf16⟩
  | .local _ .vmem, ⟨3, _⟩ => ⟨S352x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x704x1024, .bf16⟩
  | .local _ .vmem, ⟨7, _⟩ => ⟨S1x704x1024, .bf16⟩
  | .local _ .smem, ⟨0, _⟩ => ⟨S1, .i32⟩
  | _, _ => ⟨S5632x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v4 : Ref sig .tc := ⟨.hbm, 6, rfl⟩
abbrev main_v3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let v2 : BitVec 32 := Scalar.addi v0 v1
  let c1_i32 : BitVec 32 := 1#32
  let v3 : BitVec 32 := Scalar.muli c1_i32 v2
  let c0_i32 : BitVec 32 := 0#32
  let v4 : BitVec 32 := Scalar.addi c0_i32 v3
  let c0_i32_0 : BitVec 32 := 0#32
  let c0_i32_1 : BitVec 32 := 0#32
  ![v4.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let v2 : BitVec 32 := Scalar.addi v0 v1
  let c1_i32 : BitVec 32 := 1#32
  let v3 : BitVec 32 := Scalar.muli c1_i32 v2
  let c8_i32 : BitVec 32 := 8#32
  let v4 : BitVec 32 := Scalar.addi c8_i32 v3
  let c0_i32 : BitVec 32 := 0#32
  let c0_i32_0 : BitVec 32 := 0#32
  ![v4.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference18Ideal.lean ====
abbrev S5632x1024 : Shape := ⟨2, ![5632, 1024]⟩
abbrev S4x704x1024 : Shape := ⟨3, ![4, 704, 1024]⟩
abbrev S2x4x2x352x1024 : Shape := ⟨5, ![2, 4, 2, 352, 1024]⟩
abbrev S1x4x1x352x1024 : Shape := ⟨5, ![1, 4, 1, 352, 1024]⟩
abbrev S4x352x1024 : Shape := ⟨3, ![4, 352, 1024]⟩

abbrev nBuf : Space → Nat
  | .hbm => 10
  | .vmem => 0
  | .smem => 0
  | _ => 0

abbrev bufTy : (tb : Table) → Fin (tcTables nBuf tb) → BufTy
  | .hbm, ⟨0, _⟩ => ⟨S5632x1024, .f32⟩
  | .hbm, ⟨1, _⟩ => ⟨S4x704x1024, .f32⟩
  | .hbm, ⟨2, _⟩ => ⟨S2x4x2x352x1024, .f32⟩
  | .hbm, ⟨3, _⟩ => ⟨S1x4x1x352x1024, .f32⟩
  | .hbm, ⟨4, _⟩ => ⟨S4x352x1024, .f32⟩
  | .hbm, ⟨5, _⟩ => ⟨S1x4x1x352x1024, .f32⟩
  | .hbm, ⟨6, _⟩ => ⟨S4x352x1024, .f32⟩
  | .hbm, ⟨7, _⟩ => ⟨S4x704x1024, .f32⟩
  | .hbm, ⟨8, _⟩ => ⟨S4x704x1024, .f32⟩
  | .hbm, ⟨9, _⟩ => ⟨S4x704x1024, .bf16⟩
  | _, _ => ⟨S5632x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel19.lean ====
abbrev S1x1024x352 : Shape := ⟨3, ![1, 1024, 352]⟩
abbrev S1x352x1024 : Shape := ⟨3, ![1, 352, 1024]⟩
abbrev S1x1024x896 : Shape := ⟨3, ![1, 1024, 896]⟩
abbrev S1x128x1024 : Shape := ⟨3, ![1, 128, 1024]⟩
abbrev S1024x352 : Shape := ⟨2, ![1024, 352]⟩
abbrev S352x1024 : Shape := ⟨2, ![352, 1024]⟩
abbrev S1024x896 : Shape := ⟨2, ![1024, 896]⟩
abbrev S128x1024 : Shape := ⟨2, ![128, 1024]⟩
abbrev S3392x1024 : Shape := ⟨2, ![3392, 1024]⟩
abbrev S896x1024 : Shape := ⟨2, ![896, 1024]⟩

abbrev nBuf : Space → Nat
  | .hbm => 25
  | .vmem => 11
  | .smem => 0
  | _ => 0

abbrev bufTy : (tb : Table) → Fin (tcTables nBuf tb) → BufTy
  | .hbm, ⟨0, _⟩ => ⟨S1x1024x352, .f32⟩
  | .hbm, ⟨1, _⟩ => ⟨S1x1024x352, .f32⟩
  | .hbm, ⟨2, _⟩ => ⟨S1x352x1024, .f32⟩
  | .hbm, ⟨3, _⟩ => ⟨S1x1024x352, .f32⟩
  | .hbm, ⟨4, _⟩ => ⟨S1x1024x352, .f32⟩
  | .hbm, ⟨5, _⟩ => ⟨S1x352x1024, .f32⟩
  | .hbm, ⟨6, _⟩ => ⟨S1x1024x896, .f32⟩
  | .hbm, ⟨7, _⟩ => ⟨S1x128x1024, .f32⟩
  | .hbm, ⟨8, _⟩ => ⟨S1x128x1024, .f32⟩
  | .hbm, ⟨9, _⟩ => ⟨S1x128x1024, .f32⟩
  | .hbm, ⟨10, _⟩ => ⟨S1024x352, .f32⟩
  | .hbm, ⟨11, _⟩ => ⟨S352x1024, .f32⟩
  | .hbm, ⟨12, _⟩ => ⟨S1024x352, .f32⟩
  | .hbm, ⟨13, _⟩ => ⟨S352x1024, .f32⟩
  | .hbm, ⟨14, _⟩ => ⟨S352x1024, .f32⟩
  | .hbm, ⟨15, _⟩ => ⟨S1024x352, .f32⟩
  | .hbm, ⟨16, _⟩ => ⟨S352x1024, .f32⟩
  | .hbm, ⟨17, _⟩ => ⟨S1024x352, .f32⟩
  | .hbm, ⟨18, _⟩ => ⟨S352x1024, .f32⟩
  | .hbm, ⟨19, _⟩ => ⟨S352x1024, .f32⟩
  | .hbm, ⟨20, _⟩ => ⟨S1024x896, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S3392x1024, .bf16⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S1024x896, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S3392x1024, .bf16⟩
  | _, _ => ⟨S1x1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S352x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x896 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3392x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Reference19Ideal.lean ====
abbrev S1x1024x352 : Shape := ⟨3, ![1, 1024, 352]⟩
abbrev S1x352x1024 : Shape := ⟨3, ![1, 352, 1024]⟩
abbrev S1x1024x896 : Shape := ⟨3, ![1, 1024, 896]⟩
abbrev S1x128x1024 : Shape := ⟨3, ![1, 128, 1024]⟩
abbrev S1024x352 : Shape := ⟨2, ![1024, 352]⟩
abbrev S352x1024 : Shape := ⟨2, ![352, 1024]⟩
abbrev S1024x896 : Shape := ⟨2, ![1024, 896]⟩
abbrev S896x1024 : Shape := ⟨2, ![896, 1024]⟩
abbrev S128x1024 : Shape := ⟨2, ![128, 1024]⟩
abbrev S3392x1024 : Shape := ⟨2, ![3392, 1024]⟩

abbrev nBuf : Space → Nat
  | .hbm => 27
  | .vmem => 0
  | .smem => 0
  | _ => 0

abbrev bufTy : (tb : Table) → Fin (tcTables nBuf tb) → BufTy
  | .hbm, ⟨0, _⟩ => ⟨S1x1024x352, .f32⟩
  | .hbm, ⟨1, _⟩ => ⟨S1x1024x352, .f32⟩
  | .hbm, ⟨2, _⟩ => ⟨S1x352x1024, .f32⟩
  | .hbm, ⟨3, _⟩ => ⟨S1x1024x352, .f32⟩
  | .hbm, ⟨4, _⟩ => ⟨S1x1024x352, .f32⟩
  | .hbm, ⟨5, _⟩ => ⟨S1x352x1024, .f32⟩
  | .hbm, ⟨6, _⟩ => ⟨S1x1024x896, .f32⟩
  | .hbm, ⟨7, _⟩ => ⟨S1x128x1024, .f32⟩
  | .hbm, ⟨8, _⟩ => ⟨S1x128x1024, .f32⟩
  | .hbm, ⟨9, _⟩ => ⟨S1x128x1024, .f32⟩
  | .hbm, ⟨10, _⟩ => ⟨S1024x352, .f32⟩
  | .hbm, ⟨11, _⟩ => ⟨S352x1024, .f32⟩
  | .hbm, ⟨12, _⟩ => ⟨S1024x352, .f32⟩
  | .hbm, ⟨13, _⟩ => ⟨S352x1024, .f32⟩
  | .hbm, ⟨14, _⟩ => ⟨S352x1024, .f32⟩
  | .hbm, ⟨15, _⟩ => ⟨S1024x352, .f32⟩
  | .hbm, ⟨16, _⟩ => ⟨S352x1024, .f32⟩
  | .hbm, ⟨17, _⟩ => ⟨S1024x352, .f32⟩
  | .hbm, ⟨18, _⟩ => ⟨S352x1024, .f32⟩
  | .hbm, ⟨19, _⟩ => ⟨S352x1024, .f32⟩
  | .hbm, ⟨20, _⟩ => ⟨S1024x896, .f32⟩
  | .hbm, ⟨21, _⟩ => ⟨S896x1024, .f32⟩
  | .hbm, ⟨22, _⟩ => ⟨S128x1024, .f32⟩
  | .hbm, ⟨23, _⟩ => ⟨S128x1024, .f32⟩
  | .hbm, ⟨24, _⟩ => ⟨S128x1024, .f32⟩
  | .hbm, ⟨25, _⟩ => ⟨S3392x1024, .f32⟩
  | .hbm, ⟨26, _⟩ => ⟨S3392x1024, .bf16⟩
  | _, _ => ⟨S1x1024x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Kernel20.lean ====
abbrev S8x1024 : Shape := ⟨2, ![8, 1024]⟩
abbrev S32x1024 : Shape := ⟨2, ![32, 1024]⟩
abbrev S8x40x128 : Shape := ⟨3, ![8, 40, 128]⟩
abbrev S1x1024 : Shape := ⟨2, ![1, 1024]⟩
abbrev S32x128 : Shape := ⟨2, ![32, 128]⟩
abbrev S1x32x128 : Shape := ⟨3, ![1, 32, 128]⟩
abbrev S8x128 : Shape := ⟨2, ![8, 128]⟩
abbrev S1x8x128 : Shape := ⟨3, ![1, 8, 128]⟩

abbrev nBuf : Space → Nat
  | .hbm => 9
  | .vmem => 9
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S32x1024, .f32⟩
  | .hbm, ⟨6, _⟩ => ⟨S8x1024, .f32⟩
  | .hbm, ⟨7, _⟩ => ⟨S8x1024, .f32⟩
  | .hbm, ⟨8, _⟩ => ⟨S8x40x128, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S32x1024, .f32⟩
  | .local _ .vmem, ⟨6, _⟩ => ⟨S8x1024, .f32⟩
  | .local _ .vmem, ⟨7, _⟩ => ⟨S8x1024, .f32⟩
  | .local _ .vmem, ⟨8, _⟩ => ⟨S8x40x128, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x40x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Reference20Ideal.lean ====
abbrev S8x1024 : Shape := ⟨2, ![8, 1024]⟩
abbrev S32x1024 : Shape := ⟨2, ![32, 1024]⟩
abbrev S40x1024 : Shape := ⟨2, ![40, 1024]⟩
abbrev S40x8x128 : Shape := ⟨3, ![40, 8, 128]⟩
abbrev S1x1024 : Shape := ⟨2, ![1, 1024]⟩
abbrev S3x1024 : Shape := ⟨2, ![3, 1024]⟩
abbrev S2x1024 : Shape := ⟨2, ![2, 1024]⟩
abbrev S8x40x128 : Shape := ⟨3, ![8, 40, 128]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S32x1024, .f32⟩
  | .hbm, ⟨6, _⟩ => ⟨S8x1024, .f32⟩
  | .hbm, ⟨7, _⟩ => ⟨S40x1024, .f32⟩
  | .hbm, ⟨8, _⟩ => ⟨S40x8x128, .f32⟩
  | .hbm, ⟨9, _⟩ => ⟨S1x1024, .f32⟩
  | .hbm, ⟨10, _⟩ => ⟨S1x1024, .f32⟩
  | .hbm, ⟨11, _⟩ => ⟨S3x1024, .f32⟩
  | .hbm, ⟨12, _⟩ => ⟨S1x1024, .f32⟩
  | .hbm, ⟨13, _⟩ => ⟨S2x1024, .f32⟩
  | .hbm, ⟨14, _⟩ => ⟨S8x1024, .f32⟩
  | .hbm, ⟨15, _⟩ => ⟨S8x40x128, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== Proof.InputRun.lean ====
module

public import proofs.«01_k».proof.Proof.Gen.KernelIdeal.Frame.Runs

/-! The runs of the input gradient of the feed-forward half-step's body, one per case of its conditionals: each of two copies into one buffer is lent its own part of it. -/

@[expose] public section

set_option maxRecDepth 16384

noncomputable section

namespace Cert.KernelIdeal.Input

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The body's run in case A: what its stores leave in each buffer, with the proof that it runs from whole
    buffers to them. -/
noncomputable def kernelRun0_A (c : Dev nD) (i : grid0.Coords) (arg1 : Memref sig .tc .vmem S1x512x5632 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg7 : Memref sig .tc .vmem S512x1024 .f32) (harg7 : arg7.IsWhole) (arg8 : Memref sig .tc .vmem S8x1024 .f32) (harg8 : arg8.IsWhole) (arg9 : Memref sig .tc .vmem S5632x1024 .bf16) (harg9 : arg9.IsWhole) (hc0 : cond0_0 i) (hc1 : cond0_1 i)
    (x0 : Vec F S1x512x5632 .bf16) (x1 : Vec F S512x1024 .f32) (x2 : Vec F S512x1024 .f32) (x3 : Vec F S1x1024 .f32) (fh0 : HbBuf0 (F := F) c hbM0_0) (fh1 : HbBuf0 (F := F) c hbM0_1) :
    Σ' (L4 : List (View.Piece (Elt F) S512x1024 .f32)), Σ' (L5 : List (View.Piece (Elt F) S8x1024 .f32)), { LS0 : List (View.Piece (Elt F) S5632x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg7 fullShare d) ∗ (∃ d, owns (c : Thread nD τ) arg8 fullShare d) ∗ (∃ d, owns (c : Thread nD τ) arg9 fullShare d) ∗ semVal ((c : Thread nD τ), SemLoc.dma 10) 0 ∗ semVal ((c : Thread nD τ), SemLoc.dma 11) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ semVal ((c : Thread nD τ), SemLoc.dma 10) 0 ∗ semVal ((c : Thread nD τ), SemLoc.dma 11) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn1_bwd_x i arg1 harg1 arg2 harg2 arg3 harg3 arg4 harg4 (Memref.whole main_v2) (Memref.isWhole_whole _) (Memref.whole main_v5) (Memref.isWhole_whole _) arg7 harg7 arg8 harg8 arg9 harg9 cc0_scratch1) K } := by
  refine ⟨?_, ?_, ?_, fun W K => ?run⟩
  case run =>
    simp only [cc0_ffn1_bwd_x_eq_skeleton]; unfold cc0_ffn1_bwd_x_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hq0, Hq1, Hh0, Hh1, HW, Hk⟩
    obtain rfl := harg1.eq_unread hf0; obtain rfl := harg2.eq_unread hf1; obtain rfl := harg3.eq_unread hf2; obtain rfl := harg4.eq_unread hf3
    set_option sl_exec.dmaWindow true in set_option sl_exec.dmaWindowSet true in
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [HS0]; · iexists _; iexact HS0
    iframe Hq0 Hq1 Hh0 Hh1
    iexists _; iexact HW

set_option maxHeartbeats 1000000 in
/-- The body's run in case B: what its stores leave in each buffer, with the proof that it runs from whole
    buffers to them. -/
noncomputable def kernelRun0_B (c : Dev nD) (i : grid0.Coords) (arg1 : Memref sig .tc .vmem S1x512x5632 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg7 : Memref sig .tc .vmem S512x1024 .f32) (harg7 : arg7.IsWhole) (arg8 : Memref sig .tc .vmem S8x1024 .f32) (harg8 : arg8.IsWhole) (arg9 : Memref sig .tc .vmem S5632x1024 .bf16) (harg9 : arg9.IsWhole) (hc0 : ¬cond0_0 i) (hc1 : ¬cond0_1 i)
    (x0 : Vec F S1x512x5632 .bf16) (x1 : Vec F S512x1024 .f32) (x2 : Vec F S512x1024 .f32) (x3 : Vec F S1x1024 .f32) (xo5 : Vec F S8x1024 .f32) (xs0 : Vec F S5632x1024 .bf16) (fh0 : HbBuf0 (F := F) c hbM0_0) (fh1 : HbBuf0 (F := F) c hbM0_1) :
    Σ' (L4 : List (View.Piece (Elt F) S512x1024 .f32)), Σ' (L5 : List (View.Piece (Elt F) S8x1024 .f32)), { LS0 : List (View.Piece (Elt F) S5632x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg7 fullShare d) ∗ owns (c : Thread nD τ) arg8 fullShare xo5 ∗ owns (c : Thread nD τ) arg9 fullShare xs0 ∗ semVal ((c : Thread nD τ), SemLoc.dma 10) 0 ∗ semVal ((c : Thread nD τ), SemLoc.dma 11) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg7.view.loc (c : Thread nD τ) ↦[arg7.view.set]{fullShare} arg7.view.writes (Elt F) f L4) ∗ (arg8.view.loc (c : Thread nD τ) ↦[arg8.view.set]{fullShare} arg8.view.writes (Elt F) (harg8.unread xo5) L5) ∗ owns (c : Thread nD τ) arg9 fullShare xs0 ∗ semVal ((c : Thread nD τ), SemLoc.dma 10) 0 ∗ semVal ((c : Thread nD τ), SemLoc.dma 11) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn1_bwd_x i arg1 harg1 arg2 harg2 arg3 harg3 arg4 harg4 (Memref.whole main_v2) (Memref.isWhole_whole _) (Memref.whole main_v5) (Memref.isWhole_whole _) arg7 harg7 arg8 harg8 arg9 harg9 cc0_scratch1) K } := by
  refine ⟨?_, ?_, [], fun W K => ?run⟩
  case run =>
    simp only [cc0_ffn1_bwd_x_eq_skeleton]; unfold cc0_ffn1_bwd_x_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, Hq0, Hq1, Hh0, Hh1, HW, Hk⟩
    obtain rfl := harg1.eq_unread hf0; obtain rfl := harg2.eq_unread hf1; obtain rfl := harg3.eq_unread hf2; obtain rfl := harg4.eq_unread hf3; obtain rfl := harg8.eq_unread hf5; obtain rfl := harg9.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexact H5
    isplitl [HS0]
    · iexists _; isplitr; · ipureintro; exact harg9.read_unread _
      iexact HS0
    iframe Hq0 Hq1 Hh0 Hh1
    iexists _; iexact HW

end Cert.KernelIdeal.Input

end
-- ==== Proof.InputFrame.lean ====
module

public import proofs.«01_k».proof.Proof.InputRun
public import Idealize.ShloMosaic.Lib.Claim

/-! What each point of the input gradient of the feed-forward half-step's grid leaves in the outputs and the carried scratch, and the run of the whole program. -/

@[expose] public section

set_option maxRecDepth 16384

noncomputable section

namespace Cert.KernelIdeal.Input

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
section

variable (c : Dev nD) (i : grid0.Coords) (arg1 : Memref sig .tc .vmem S1x512x5632 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg7 : Memref sig .tc .vmem S512x1024 .f32) (harg7 : arg7.IsWhole) (arg8 : Memref sig .tc .vmem S8x1024 .f32) (harg8 : arg8.IsWhole) (arg9 : Memref sig .tc .vmem S5632x1024 .bf16) (harg9 : arg9.IsWhole) (hc0 : cond0_0 i) (hc1 : cond0_1 i)
  (x0 : Vec F S1x512x5632 .bf16) (x1 : Vec F S512x1024 .f32) (x2 : Vec F S512x1024 .f32) (x3 : Vec F S1x1024 .f32) (fh0 : HbBuf0 (F := F) c hbM0_0) (fh1 : HbBuf0 (F := F) c hbM0_1)

/-- Case A's stores into output 4 cover its block. -/
theorem cover0_A_4 (y : S512x1024.Idx) :
    ∃ pc ∈ (kernelRun0_A c i arg1 harg1 arg2 harg2 arg3 harg3 arg4 harg4 arg7 harg7 arg8 harg8 arg9 harg9 hc0 hc1 x0 x1 x2 x3 fh0 fh1).1, y ∈ pc.1.set :=
  View.cover_of_tiledL (kernelRun0_A c i arg1 harg1 arg2 harg2 arg3 harg3 arg4 harg4 arg7 harg7 arg8 harg8 arg9 harg9 hc0 hc1 x0 x1 x2 x3 fh0 fh1).1 S512x1024.size (by sl_kernel_rfl) y

/-- What case A leaves in output 4's buffer. -/
def out0_A_4 : Vec F S512x1024 .f32 :=
  VO0_4.read (Elt F) (VO0_4.writes (Elt F) VO0_4.junk (kernelRun0_A c i arg1 harg1 arg2 harg2 arg3 harg3 arg4 harg4 arg7 harg7 arg8 harg8 arg9 harg9 hc0 hc1 x0 x1 x2 x3 fh0 fh1).1)

/-- Case A's stores into output 5 cover its block. -/
theorem cover0_A_5 (y : S8x1024.Idx) :
    ∃ pc ∈ (kernelRun0_A c i arg1 harg1 arg2 harg2 arg3 harg3 arg4 harg4 arg7 harg7 arg8 harg8 arg9 harg9 hc0 hc1 x0 x1 x2 x3 fh0 fh1).2.1, y ∈ pc.1.set :=
  View.cover_of_tiledBy (kernelRun0_A c i arg1 harg1 arg2 harg2 arg3 harg3 arg4 harg4 arg7 harg7 arg8 harg8 arg9 harg9 hc0 hc1 x0 x1 x2 x3 fh0 fh1).2.1 ![1, 1024] (by sl_kernel_rfl) y

/-- What case A leaves in output 5's buffer. -/
def out0_A_5 : Vec F S8x1024 .f32 :=
  VO0_5.read (Elt F) (VO0_5.writes (Elt F) VO0_5.junk (kernelRun0_A c i arg1 harg1 arg2 harg2 arg3 harg3 arg4 harg4 arg7 harg7 arg8 harg8 arg9 harg9 hc0 hc1 x0 x1 x2 x3 fh0 fh1).2.1)

/-- Case A's stores into the carried scratch cover it. -/
theorem scover0_A_0 (y : S5632x1024.Idx) :
    ∃ pc ∈ (kernelRun0_A c i arg1 harg1 arg2 harg2 arg3 harg3 arg4 harg4 arg7 harg7 arg8 harg8 arg9 harg9 hc0 hc1 x0 x1 x2 x3 fh0 fh1).2.2.1, y ∈ pc.1.set :=
  View.cover_of_tiledL (kernelRun0_A c i arg1 harg1 arg2 harg2 arg3 harg3 arg4 harg4 arg7 harg7 arg8 harg8 arg9 harg9 hc0 hc1 x0 x1 x2 x3 fh0 fh1).2.2.1 S2816x1024.size (by sl_kernel_rfl) y

/-- What case A leaves in the carried scratch. -/
def sout0_A_0 : Vec F S5632x1024 .bf16 :=
  VS0_0.read (Elt F) (VS0_0.writes (Elt F) VS0_0.junk (kernelRun0_A c i arg1 harg1 arg2 harg2 arg3 harg3 arg4 harg4 arg7 harg7 arg8 harg8 arg9 harg9 hc0 hc1 x0 x1 x2 x3 fh0 fh1).2.2.1)

end

section

variable (c : Dev nD) (i : grid0.Coords) (arg1 : Memref sig .tc .vmem S1x512x5632 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg7 : Memref sig .tc .vmem S512x1024 .f32) (harg7 : arg7.IsWhole) (arg8 : Memref sig .tc .vmem S8x1024 .f32) (harg8 : arg8.IsWhole) (arg9 : Memref sig .tc .vmem S5632x1024 .bf16) (harg9 : arg9.IsWhole) (hc0 : ¬cond0_0 i) (hc1 : ¬cond0_1 i)
  (x0 : Vec F S1x512x5632 .bf16) (x1 : Vec F S512x1024 .f32) (x2 : Vec F S512x1024 .f32) (x3 : Vec F S1x1024 .f32) (xo5 : Vec F S8x1024 .f32) (xs0 : Vec F S5632x1024 .bf16) (fh0 : HbBuf0 (F := F) c hbM0_0) (fh1 : HbBuf0 (F := F) c hbM0_1)

/-- Case B's stores into output 4 cover its block. -/
theorem cover0_B_4 (y : S512x1024.Idx) :
    ∃ pc ∈ (kernelRun0_B c i arg1 harg1 arg2 harg2 arg3 harg3 arg4 harg4 arg7 harg7 arg8 harg8 arg9 harg9 hc0 hc1 x0 x1 x2 x3 xo5 xs0 fh0 fh1).1, y ∈ pc.1.set :=
  View.cover_of_tiledL (kernelRun0_B c i arg1 harg1 arg2 harg2 arg3 harg3 arg4 harg4 arg7 harg7 arg8 harg8 arg9 harg9 hc0 hc1 x0 x1 x2 x3 xo5 xs0 fh0 fh1).1 S512x1024.size (by sl_kernel_rfl) y

/-- What case B leaves in output 4's buffer. -/
def out0_B_4 : Vec F S512x1024 .f32 :=
  VO0_4.read (Elt F) (VO0_4.writes (Elt F) VO0_4.junk (kernelRun0_B c i arg1 harg1 arg2 harg2 arg3 harg3 arg4 harg4 arg7 harg7 arg8 harg8 arg9 harg9 hc0 hc1 x0 x1 x2 x3 xo5 xs0 fh0 fh1).1)

/-- What case B leaves in output 5's buffer: its stores over what the point before left there. -/
def out0_B_5 : Vec F S8x1024 .f32 :=
  arg8.view.read (Elt F) (arg8.view.writes (Elt F) (harg8.unread xo5) (kernelRun0_B c i arg1 harg1 arg2 harg2 arg3 harg3 arg4 harg4 arg7 harg7 arg8 harg8 arg9 harg9 hc0 hc1 x0 x1 x2 x3 xo5 xs0 fh0 fh1).2.1)

end

/-- Case B stores nothing into scratch `arg9`: it holds what the point before left. -/
def sout0_B_0 (c : Dev nD) (i : grid0.Coords) (arg1 : Memref sig .tc .vmem S1x512x5632 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg7 : Memref sig .tc .vmem S512x1024 .f32) (harg7 : arg7.IsWhole) (arg8 : Memref sig .tc .vmem S8x1024 .f32) (harg8 : arg8.IsWhole) (arg9 : Memref sig .tc .vmem S5632x1024 .bf16) (harg9 : arg9.IsWhole) (hc0 : ¬cond0_0 i) (hc1 : ¬cond0_1 i)
    (x0 : Vec F S1x512x5632 .bf16) (x1 : Vec F S512x1024 .f32) (x2 : Vec F S512x1024 .f32) (x3 : Vec F S1x1024 .f32) (xo5 : Vec F S8x1024 .f32) (xs0 : Vec F S5632x1024 .bf16) (fh0 : HbBuf0 (F := F) c hbM0_0) (fh1 : HbBuf0 (F := F) c hbM0_1) : Vec F S5632x1024 .bf16 := xs0

/-! ## What the outputs hold after each point -/

/-- What a point of case A leaves: the outputs in window order, then the scratch. -/
def leftA (c : Dev nD) (t : Fin cfg0.N) (h0 : t.val % 8 = 0) (h1 : t.val % 8 = 0) : Vec F S512x1024 .f32 × Vec F S8x1024 .f32 × Vec F S5632x1024 .bf16 :=
  (out0_A_4 c (grid0.coords t) _ (hs0_0 t) _ (hs0_1 t) _ (hs0_2 t) _ (hs0_3 t) _ (hs0_4 t) _ (hs0_5 t) scM0_0 (Memref.isWhole_whole _) ((hcond0_0 t).mpr h0) ((hcond0_1 t).mpr h1) (iblk m c 0 t) (iblk m c 1 t) (iblk m c 2 t) (iblk m c 3 t) (V m c main_v2) (V m c main_v5), out0_A_5 c (grid0.coords t) _ (hs0_0 t) _ (hs0_1 t) _ (hs0_2 t) _ (hs0_3 t) _ (hs0_4 t) _ (hs0_5 t) scM0_0 (Memref.isWhole_whole _) ((hcond0_0 t).mpr h0) ((hcond0_1 t).mpr h1) (iblk m c 0 t) (iblk m c 1 t) (iblk m c 2 t) (iblk m c 3 t) (V m c main_v2) (V m c main_v5), sout0_A_0 c (grid0.coords t) _ (hs0_0 t) _ (hs0_1 t) _ (hs0_2 t) _ (hs0_3 t) _ (hs0_4 t) _ (hs0_5 t) scM0_0 (Memref.isWhole_whole _) ((hcond0_0 t).mpr h0) ((hcond0_1 t).mpr h1) (iblk m c 0 t) (iblk m c 1 t) (iblk m c 2 t) (iblk m c 3 t) (V m c main_v2) (V m c main_v5))

/-- What a point of case B leaves, over what the point before left, `p`. -/
def leftB (c : Dev nD) (t : Fin cfg0.N) (h0 : ¬t.val % 8 = 0) (h1 : ¬t.val % 8 = 0) (p : Vec F S512x1024 .f32 × Vec F S8x1024 .f32 × Vec F S5632x1024 .bf16) : Vec F S512x1024 .f32 × Vec F S8x1024 .f32 × Vec F S5632x1024 .bf16 :=
  (out0_B_4 c (grid0.coords t) _ (hs0_0 t) _ (hs0_1 t) _ (hs0_2 t) _ (hs0_3 t) _ (hs0_4 t) _ (hs0_5 t) scM0_0 (Memref.isWhole_whole _) (fun h => h0 ((hcond0_0 t).mp h)) (fun h => h1 ((hcond0_1 t).mp h)) (iblk m c 0 t) (iblk m c 1 t) (iblk m c 2 t) (iblk m c 3 t) p.2.1 p.2.2 (V m c main_v2) (V m c main_v5), out0_B_5 c (grid0.coords t) _ (hs0_0 t) _ (hs0_1 t) _ (hs0_2 t) _ (hs0_3 t) _ (hs0_4 t) _ (hs0_5 t) scM0_0 (Memref.isWhole_whole _) (fun h => h0 ((hcond0_0 t).mp h)) (fun h => h1 ((hcond0_1 t).mp h)) (iblk m c 0 t) (iblk m c 1 t) (iblk m c 2 t) (iblk m c 3 t) p.2.1 p.2.2 (V m c main_v2) (V m c main_v5), sout0_B_0 c (grid0.coords t) _ (hs0_0 t) _ (hs0_1 t) _ (hs0_2 t) _ (hs0_3 t) _ (hs0_4 t) _ (hs0_5 t) scM0_0 (Memref.isWhole_whole _) (fun h => h0 ((hcond0_0 t).mp h)) (fun h => h1 ((hcond0_1 t).mp h)) (iblk m c 0 t) (iblk m c 1 t) (iblk m c 2 t) (iblk m c 3 t) p.2.1 p.2.2 (V m c main_v2) (V m c main_v5))

/-- What the outputs' buffers and the carried scratch hold after the body at position `n`. -/
def outsAt0 (c : Dev nD) : (n : ℕ) → n < cfg0.N → Vec F S512x1024 .f32 × Vec F S8x1024 .f32 × Vec F S5632x1024 .bf16
  | 0, hn => leftA m c ⟨0, hn⟩ (Nat.zero_mod _) (Nat.zero_mod _)
  | n + 1, hn =>
    if h0 : (n + 1) % 8 = 0 then
      if h1 : (n + 1) % 8 = 0 then
        leftA m c ⟨n + 1, hn⟩ h0 h1
      else
        False.elim (by have hN : n + 1 < 8 := lt_of_lt_of_eq hn (show cfg0.N = 8 from N_0); omega)
    else
      if h1 : (n + 1) % 8 = 0 then
        False.elim (by have hN : n + 1 < 8 := lt_of_lt_of_eq hn (show cfg0.N = 8 from N_0); omega)
      else
        leftB m c ⟨n + 1, hn⟩ h0 h1 (outsAt0 c n (Nat.lt_of_succ_lt hn))

/-- `outsAt0` at a point of case A: that case's contents. -/
theorem outsAt0_A (c : Dev nD) (t : Fin cfg0.N) (h0 : t.val % 8 = 0) (h1 : t.val % 8 = 0) :
    outsAt0 m c t.val t.isLt = leftA m c t h0 h1 := by
  obtain ⟨n, hn⟩ := t
  cases n with
  | zero => exact rfl
  | succ n => exact (dif_pos h0).trans ((dif_pos h1).trans rfl)

/-- `outsAt0` at a point of case B: that case's contents, over what the point before left. -/
theorem outsAt0_B (c : Dev nD) (t : Fin cfg0.N) (h0 : ¬t.val % 8 = 0) (h1 : ¬t.val % 8 = 0) :
    outsAt0 m c t.val t.isLt = leftB m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- The invariant with the carried scratch at `x`. -/
def PhiAt (c : Dev nD) (x : Vec F S5632x1024 .bf16) : sProp 𝕄 :=
  iprop(iprop(owns (c : Thread nD τ) scM0_0 fullShare x) ∗ (∃ r, prngReg c r) ∗ iprop(semVal ((c : Thread nD τ), SemLoc.dma 10) 0 ∗ semVal ((c : Thread nD τ), SemLoc.dma 11) 0) ∗ iprop(hbPt0 c hbM0_0 (V m c main_v2) ∗ hbPt0 c hbM0_1 (V m c main_v5)))

/-- The invariant before position `n`: at the first point the scratch at anything, afterwards at what the point before left. -/
def PhiS (c : Dev nD) : (n : ℕ) → n ≤ cfg0.N → sProp 𝕄
  | 0, _ => Pipeline.ΦD osem0 spec0 H0 (V m) c
  | n + 1, hn => PhiAt m c (outsAt0 m c n hn).2.2

theorem PhiS_zero (c : Dev nD) (n : ℕ) (h : n ≤ cfg0.N) (hz : n = 0) : PhiS m c n h = Pipeline.ΦD osem0 spec0 H0 (V m) c := by
  subst hz; rfl

/-- After point `n` (before point `n + 1`): the carried scratch at that point's contents. -/
theorem PhiS_succ (c : Dev nD) (n : ℕ) (hn : n < cfg0.N) :
    PhiS m c (n + 1) hn = PhiAt m c (outsAt0 m c n hn).2.2 := rfl

/-- Before a point that is not the first: the carried scratch at what the point before left. -/
theorem PhiS_pos (c : Dev nD) (n : ℕ) (h : n ≤ cfg0.N) (hz : n ≠ 0) :
    PhiS m c n h = PhiAt m c (outsAt0 m c (n - 1) (by omega)).2.2 := by
  cases n with
  | zero => exact absurd rfl hz
  | succ n => rfl

/-! ## The pipeline's proof data -/

/-- The proof data of the pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
  Φ t := PhiS m c t.val (Nat.le_of_lt_succ t.isLt)
  q _ := fullShare
  owed _ := 0

/-- The proof data's arrays are those the grid finds. -/
theorem A_eq (c : Dev nD) (w : Fin cfg0.W) : (dats m 0 c).A w = V m c (Pipeline.arrRef spec0 w) := by
  dsimp only [dats]

/-- The invariant at a point's start, at position `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- At a point of case B output 5's buffer holds what the body left at the point before. -/
theorem before0_5_B (c : Dev nD) (t : Fin cfg0.N) (h0 : ¬t.val % 8 = 0) (h1 : ¬t.val % 8 = 0) (d) :
    (dats m 0 c).before 5 t d = (outsAt0 m c (t.val - 1) (Nat.lt_of_le_of_lt (Nat.sub_le _ _) t.isLt)).2.1 := by
  have hN : t.val < 8 := lt_of_lt_of_eq t.isLt (show cfg0.N = 8 from N_0)
  rw [Dat.before_out_kept _ 5 rfl t (by omega) (Bool.eq_false_iff.mpr fun h => by have := (flush0_5 _).mp h; dsimp only at this; omega)
    (fun _ => rfl) (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 3200000 in
/-- The body at any point takes what it is called with to what it returns, by cases on the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = PhiS m c (t.val + 1) t.isLt from rfl, PhiS_succ, PhiAt,
    after0_0, after0_1, after0_2, after0_3, after0_4, after0_5]
  unfold Dat.owesAt Pipeline.owesWithin
  rw [show (dats m 0 c).owed t.castSucc = 0 from rfl, show (dats m 0 c).owed t.succ = 0 from rfl]
  have hN : t.val < 8 := lt_of_lt_of_eq t.isLt (show cfg0.N = 8 from N_0)
  by_cases h0 : t.val % 8 = 0
  · by_cases h1 : t.val % 8 = 0
    · by_cases hz : t.val = 0
      · rw [PhiS_castSucc m c t, PhiS_zero m c _ _ hz, PhiD0_eq]
        rw [outsAt0_A m c t h0 h1, leftA]
        unfold out0_A_4 out0_A_5 sout0_A_0; (try dsimp only)
        iintro ⟨⟨HS0, Hg, ⟨Hq0, Hq1⟩, ⟨Hh0, Hh1⟩⟩, ⟨%W, -, HW⟩, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) ((hcond0_1 t).mpr h1) (iblk m c 0 t) (iblk m c 1 t) (iblk m c 2 t) (iblk m c 3 t) (V m c main_v2) (V m c main_v5)).2.2.2 W _)
        iframe H0 H1 H2 H3
        isplitl [H4]; · iexists _; iexact H4
        isplitl [H5]; · iexists _; iexact H5
        iframe HS0 Hq0 Hq1 Hh0 Hh1 HW
        iintro ⟨H0, H1, H2, H3, ⟨%e4, H4⟩, ⟨%e5, H5⟩, ⟨%es0, HS0⟩, Hq0, Hq1, Hh0, Hh1, ⟨%W', HW'⟩⟩
        isplitl [HS0 Hg Hq0 Hq1 Hh0 Hh1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _)
          isplitl [Hg]
          · iexact Hg
          isplitl [Hq0 Hq1]
          · isplitl [Hq0]; · iexact Hq0
            iexact Hq1
          isplitl [Hh0]; · iexact Hh0
          iexact Hh1
        isplitl [HW']
        · iexists W'; isplitr; · ipureintro; exact fun _ _ => Or.inl trivial
          iexact HW'
        iframe H0 H1 H2 H3
        isplitl [H4]
        · unfold owns; iexists _; isplitr
          swap; · iexact H4
          ipureintro; exact View.read_writes_of_cover _ _ _ _ _ (cover0_A_4 c _ _ _ _ _ _ _ _ _ _ _ _ _ _ _ _ _ _ _ _ _ _ _)
        unfold owns; iexists _; isplitr
        swap; · iexact H5
        ipureintro; exact View.read_writes_of_cover _ _ _ _ _ (cover0_A_5 c _ _ _ _ _ _ _ _ _ _ _ _ _ _ _ _ _ _ _ _ _ _ _)
      · exfalso; have hN : t.val < 8 := lt_of_lt_of_eq t.isLt (show cfg0.N = 8 from N_0); omega
    · exfalso; omega
  · by_cases h1 : t.val % 8 = 0
    · exfalso; omega
    · by_cases hz : t.val = 0
      · exfalso; have hN : t.val < 8 := lt_of_lt_of_eq t.isLt (show cfg0.N = 8 from N_0); omega
      · rw [PhiS_castSucc m c t, PhiS_pos m c _ _ hz, PhiAt]
        rw [outsAt0_B m c t h0 h1, leftB]
        simp only [before0_5_B m c t h0 h1]
        unfold out0_B_4 out0_B_5 sout0_B_0; (try dsimp only)
        iintro ⟨⟨HS0, Hg, ⟨Hq0, Hq1⟩, ⟨Hh0, Hh1⟩⟩, ⟨%W, -, HW⟩, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ (fun h => h0 ((hcond0_0 t).mp h)) (fun h => h1 ((hcond0_1 t).mp h)) (iblk m c 0 t) (iblk m c 1 t) (iblk m c 2 t) (iblk m c 3 t) _ _ (V m c main_v2) (V m c main_v5)).2.2.2 W _)
        iframe H0 H1 H2 H3
        isplitl [H4]; · iexists _; iexact H4
        iframe H5 HS0 Hq0 Hq1 Hh0 Hh1 HW
        iintro ⟨H0, H1, H2, H3, ⟨%e4, H4⟩, H5, HS0, Hq0, Hq1, Hh0, Hh1, ⟨%W', HW'⟩⟩
        isplitl [HS0 Hg Hq0 Hq1 Hh0 Hh1]
        · isplitl [HS0]
          · iexact HS0
          isplitl [Hg]
          · iexact Hg
          isplitl [Hq0 Hq1]
          · isplitl [Hq0]; · iexact Hq0
            iexact Hq1
          isplitl [Hh0]; · iexact Hh0
          iexact Hh1
        isplitl [HW']
        · iexists W'; isplitr; · ipureintro; exact fun _ _ => Or.inl trivial
          iexact HW'
        iframe H0 H1 H2 H3
        isplitl [H4]
        · unfold owns; iexists _; isplitr
          swap; · iexact H4
          ipureintro; exact View.read_writes_of_cover _ _ _ _ _ (cover0_B_4 c _ _ _ _ _ _ _ _ _ _ _ _ _ _ _ _ _ _ _ _ _ _ _ _ _)
        unfold owns; iexists _; isplitr
        swap; · iexact H5
        ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`) is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦD` back: the carried scratch's named contents are forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiAt, PhiD0_eq]
  iintro ⟨HS0, Hg, ⟨Hq0, Hq1⟩, ⟨Hh0, Hh1⟩⟩
  isplitl [HS0]
  · iexists _; iexact HS0
  isplitl [Hg]; · iexact Hg
  isplitl [Hq0 Hq1]
  · isplitl [Hq0]; · iexact Hq0
    iexact Hq1
  isplitl [Hh0]; · iexact Hh0
  iexact Hh1

/-- The same after the last point. -/
theorem hout (c : Dev nD) : (dats m 0 c).Φ (Fin.last cfg0.N) ⊢ Pipeline.ΦD osem0 spec0 H0 (V m) c :=
  Phi_out m c _ (by rw [Fin.val_last]; have : cfg0.N = 8 := N_0; omega)

/-! ## The run and the frame -/

set_option backward.isDefEq.respectTransparency.types false in
/-- `run_main`, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- From any memory with zero counters every weakly fair execution of @main ends, with the pipeline's arrays as the proof data say and every other buffer as the grid found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: the program ends with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Input

end
-- ==== Proof.InputValue.lean ====
module

public import proofs.«01_k».proof.Proof.InputFrame
public import Idealize.ShloMosaic.Lib.Pipeline.Value

/-! The output arrays of the input gradient of the feed-forward half-step after the run, block by block. -/

@[expose] public section

set_option maxRecDepth 16384

noncomputable section

namespace Cert.KernelIdeal.Input

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- What point `t` writes back to output 4's array. -/
theorem flushed4 (c : Dev nD) (t : Fin cfg0.N) :
    (dats m 0 c).flushed 4 t = (cfg0.win 4).cut (grid0.coords t) ((outsAt0 m c t.val t.isLt).1) := by
  show (cfg0.win 4).cut (grid0.coords t) ((dats m 0 c).after 4 t) = _
  rw [after0_4]

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v9_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v9_1) = (dats m 0 c).arrAt 5 cfg0.N :=
  (h c).1 5

/-- After the run argument `main_arg0` is as launched. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the run argument `main_arg1` is as launched. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 3).trans (((dats m 0 c).arrAt_in 3 rfl _).trans ((A_eq m c 3).trans (V_main_arg1 m c)))

/-- After the run argument `main_arg2` is as launched. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the run argument `main_arg3` is as launched. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the run argument `main_arg4` is as launched. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the run argument `main_arg5` is as launched. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The run with each output array named, the arguments unchanged. -/
theorem run_blocks : θ_run defs (onTc (τ := τ) (main (F := F))) ⟨m, fun _ => 0, ρ⟩ fun r => ∀ c : Dev nD,
      r.2.mem ((c : Thread nD τ).loc main_v9_0) = (dats m 0 c).arrAt 4 cfg0.N
      ∧ r.2.mem ((c : Thread nD τ).loc main_v9_1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post4 m r h c,
      post5 m r h c,
      kept_main_arg0 m r h c,
      kept_main_arg1 m r h c,
      kept_main_arg2 m r h c,
      kept_main_arg3 m r h c,
      kept_main_arg4 m r h c,
      kept_main_arg5 m r h c⟩)
    (run_main m ρ)

/-! ## Carried scratch 0: what each point leaves in it, and its fold -/

end Cert.KernelIdeal.Input

end
-- ==== Proof.Reals.lean ====
module

public import Idealize.ShloMosaic.Lib.Pointwise
public import Idealize.ShloMosaic.Lib.ReduceAll
public import Idealize.ShloMosaic.PureOps.Ideal.Laws

/-! Finite extended reals: the ideal operations at real arguments, and what "every element is finite" says. -/

@[expose] public section

noncomputable section

namespace Cert.Reals

open Idealize.ShloMosaic

/-- A finite sum of reals, summed in the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem coe_div {y : ℝ} (h : y ≠ 0) (x : ℝ) : Ideal.div (x : EReal) (y : EReal) = ((x / y : ℝ) : EReal) := by
  rw [Ideal.div_coe h, ← EReal.coe_mul]; congr 1; ring

theorem coe_rsqrt {r : ℝ} (h : 0 < r) : Ideal.rsqrt (r : EReal) = (((Real.sqrt r)⁻¹ : ℝ) : EReal) := by
  rw [Ideal.rsqrt_coe, if_neg (not_lt.2 h.le), if_neg h.ne']

theorem coe_logistic (r : ℝ) : Ideal.logistic (r : EReal) = (((1 + Real.exp (-r))⁻¹ : ℝ) : EReal) := Ideal.logistic_coe r

/-- 1024 as a 32-bit float. -/
theorem lit_1024 : Ideal.ofBits .f32 0x44800000#32 = ((1024 : ℝ) : EReal) := by
  simp [Ideal.ofBits, Ideal.ieee]; norm_num [← EReal.coe_mul]

/-- The float next to 10⁻⁶, a positive rational. -/
def eps : ℝ := 8796093 / 2 ^ 43

theorem eps_pos : 0 < eps := by unfold eps; positivity

theorem lit_eps : Ideal.ofBits .f32 0x358637BD#32 = ((eps : ℝ) : EReal) := by
  unfold eps; simp [Ideal.ofBits, Ideal.ieee]; norm_num [← EReal.coe_mul]

theorem lit_neg_half : Ideal.ofBits .f32 0xBF000000#32 = ((-(1/2) : ℝ) : EReal) := by
  simp [Ideal.ofBits, Ideal.ieee]; norm_num [← EReal.coe_mul]

theorem lit_half : Ideal.ofBits .f32 0x3F000000#32 = ((1/2 : ℝ) : EReal) := by
  simp [Ideal.ofBits, Ideal.ieee]; norm_num [← EReal.coe_mul]

theorem lit_inf : Ideal.ofBits .f32 0x7F800000#32 = (⊤ : EReal) := by
  simp [Ideal.ofBits, Ideal.ieee]

/-- Every element of an array is a real number. -/
def Real {s : Shape} {φ : FTy} (x : FVec Ideal s φ) : Prop := ∀ i, ∃ r : ℝ, x i = ((r : ℝ) : EReal)

/-- The real numbers of an array. -/
def re {s : Shape} {φ : FTy} (x : FVec Ideal s φ) (i : s.Idx) : ℝ := (show EReal from x i).toReal

theorem Real.eq {s : Shape} {φ : FTy} {x : FVec Ideal s φ} (h : Real x) (i : s.Idx) : x i = ((re x i : ℝ) : EReal) := by
  obtain ⟨r, hr⟩ := h i
  unfold re; rw [hr]; rfl

theorem real_of_abs_lt {φ : FTy} (x : EReal) (h : Ideal.cmp .olt (max x (-x)) ⊤ = 1#1) : ∃ r : ℝ, x = (r : EReal) := by
  have h' : max x (-x) < ⊤ := by
    by_contra hn
    simp [Ideal.cmp, hn] at h
  induction x using EReal.rec with
  | bot => simp at h'
  | coe r => exact ⟨r, rfl⟩
  | top => simp at h'

/-- A host test that all elements of an array are smaller than infinity in absolute value, read back. -/
theorem real_of_all {s t u : Shape} {axes : List (Fin s.rank)} [Subsingleton t.Idx] (x : FVec Ideal s .f32)
    (b : Shape.BroadcastsInDim ⟨0, ![]⟩ s (![] : Fin 0 → Fin s.rank)) (init : u.Idx → BitVec 1) (h : s.ReducesTo axes t) (hu : 0 < u.numel)
    (j : t.Idx) (e : Host.reduce IntOp.andi (cmpf .olt (Host.absf x) (broadcastInDim s ![] b (constant (F := Ideal) ⟨0, ![]⟩ .f32 0x7F800000#32))) init h hu j = 1#1) :
    Real x := fun i => by
  have := Host.reduce_andi_all _ _ _ _ _ e i
  refine real_of_abs_lt (φ := .f32) (x i) ?_
  rw [← lit_inf]
  exact this

/-- The argument of the reciprocal square root of a row: its mean square and the norm's epsilon. -/
def meanSq (x : Fin 1024 → ℝ) : ℝ := (∑ k, x k * x k) / 1024 + eps

theorem meanSq_pos (x : Fin 1024 → ℝ) : 0 < meanSq x :=
  add_pos_of_nonneg_of_pos (div_nonneg (Finset.sum_nonneg fun k _ => mul_self_nonneg (x k)) (by norm_num)) eps_pos

/-- The factor by which the norm multiplies a row. -/
def scale (x : Fin 1024 → ℝ) : ℝ := (Real.sqrt (meanSq x))⁻¹

/-- The scale over the mean square is the cube of the scale. -/
theorem scale_div (x : Fin 1024 → ℝ) : scale x / meanSq x = scale x * scale x * scale x := by
  have h := meanSq_pos x
  have hs : Real.sqrt (meanSq x) * Real.sqrt (meanSq x) = meanSq x := Real.mul_self_sqrt h.le
  have h0 : Real.sqrt (meanSq x) ≠ 0 := (Real.sqrt_pos.2 h).ne'
  unfold scale
  rw [← hs]
  simp only [hs]
  rw [eq_comm]
  field_simp
  nlinarith [hs]

/-- The gradient of a normalised row `x · scale x · g` with respect to `x`, at cotangent `d`: entry `j`. -/
def normGrad (x g d : Fin 1024 → ℝ) (j : Fin 1024) : ℝ :=
  d j * g j * scale x - x j * ((∑ k, x k * (d k * g k)) / 1024 * (scale x * scale x * scale x))

end Cert.Reals

end
-- ==== Proof.InputRef.lean ====
module

public import proofs.«01_k».proof.Proof.Gen.ReferenceIdeal.Read
public import proofs.«01_k».proof.Proof.Reals

@[expose] public section

set_option maxRecDepth 16384

noncomputable section

namespace Cert.ReferenceIdeal.Input

open Cert.ReferenceIdeal Cert.ReferenceIdeal.Gen Cert.ReferenceIdeal.Read Idealize.ShloMosaic Idealize.ShloMosaic.TcCoe Cert.Reals

variable (x0 : FVec Ideal S1x4096x1024 .f32) (x1 : FVec Ideal S1x1024 .f32) (x2 x3 : FVec Ideal S1x1024x2816 .f32)
  (x4 : FVec Ideal S1x4096x5632 .f32) (x5 : FVec Ideal S1x4096x1024 .f32)

/-- The cotangent of the normalised row `t`: what comes back through the two products. -/
def back (t : Fin 4096) (j : Fin 1024) : ℝ :=
  ∑ f : Fin 2816, re x4 (ix3 0 t ⟨2816 + f.val, by omega⟩) * re x3 (ix3 0 j f) + ∑ f : Fin 2816, re x4 (ix3 0 t ⟨f.val, by omega⟩) * re x2 (ix3 0 j f)

/-- Row `t` of the input. -/
def row (t : Fin 4096) (k : Fin 1024) : ℝ := re x0 (ix3 0 t k)

/-- The reference's gradient of the input, element by element. -/
theorem dx_apply (h0 : Real x0) (h1 : Real x1) (h2 : Real x2) (h3 : Real x3) (h4 : Real x4) (t : Fin 4096) (j : Fin 1024) :
    val_main_v50 (F := Ideal) x0 x1 x2 x3 x4 x5 (ix2 t j)
      = x5 (ix3 0 t j) + ((normGrad (row x0 t) (fun k => re x1 (ix2 0 k)) (back x2 x3 x4 t) j : ℝ) : EReal) := by
  pointwise [val_main_v50, val_main_v49, val_main_v48, val_main_v47, val_main_v46, val_main_v45, val_main_cst_7, val_main_v44, val_main_v43, val_main_cst_6, val_main_v42, val_main_v41, val_main_v40, val_main_v39, val_main_v38, val_main_v37, val_main_cst_5, val_main_v36, val_main_v34, val_main_v33, val_main_v29, val_main_v28, val_main_v27, val_main_v26, val_main_v25, val_main_v24, val_main_v23, val_main_v22, val_main_v20, val_main_v18, val_main_v15, val_main_v12, val_main_v11, val_main_cst_2, val_main_v10, val_main_v9, val_main_v8, val_main_v7, val_main_cst_1, val_main_v6, val_main_v5, val_main_cst_0, val_main_v4, val_main_v3, val_main_cst, val_main_v2, val_main_v1, val_main_v0]
  have hpos : 0 < (∑ x : Fin 1024, re x0 (ix3 0 t x) * re x0 (ix3 0 t x)) / 1024 + eps := meanSq_pos (row x0 t)
  simp only [h0.eq, h1.eq, h2.eq, h3.eq, h4.eq, lit_1024, lit_eps, lit_neg_half, ← EReal.coe_mul, coe_sum, ← EReal.coe_add,
    coe_div (show (1024 : ℝ) ≠ 0 by norm_num), coe_rsqrt hpos, coe_div hpos.ne', Finset.univ_unique, Finset.sum_singleton]
  rw [add_assoc, add_assoc, ← EReal.coe_add, ← EReal.coe_add]
  refine congrArg (fun r : ℝ => x5 (ix3 0 t j) + (r : EReal)) ?_
  show back x2 x3 x4 t j * re x1 (ix2 0 j) * scale (row x0 t)
      + (row x0 t j * ((∑ k, row x0 t k * (back x2 x3 x4 t k * re x1 (ix2 0 k))) * (-(1 / 2) * (scale (row x0 t) / meanSq (row x0 t))) / 1024)
        + (∑ k, row x0 t k * (back x2 x3 x4 t k * re x1 (ix2 0 k))) * (-(1 / 2) * (scale (row x0 t) / meanSq (row x0 t))) / 1024 * row x0 t j) = _
  rw [scale_div]
  unfold normGrad
  ring

/-- The reference's gradient of the scale vector. -/
theorem dg_apply (h0 : Real x0) (h2 : Real x2) (h3 : Real x3) (h4 : Real x4) (r : Fin 8) (j : Fin 1024) :
    val_main_v53 (F := Ideal) x0 x2 x3 x4 (ix2 r j)
      = (((if r.val = 0 then ∑ t : Fin 4096, row x0 t j * scale (row x0 t) * back x2 x3 x4 t j else 0) : ℝ) : EReal) := by
  pointwise [val_main_v53, val_main_v52, val_main_cst_8, val_main_v51, val_main_v35, val_main_cst_4, val_main_v32, val_main_v31, val_main_cst_3, val_main_v30, val_main_v14, val_main_v13, val_main_v29, val_main_v28, val_main_v27, val_main_v26, val_main_v25, val_main_v24, val_main_v23, val_main_v22, val_main_v20, val_main_v18, val_main_v15, val_main_v12, val_main_v11, val_main_cst_2, val_main_v10, val_main_v9, val_main_v8, val_main_v7, val_main_cst_1, val_main_v6, val_main_v5, val_main_cst_0, val_main_v4, val_main_v3, val_main_cst, val_main_v2, val_main_v1, val_main_v0]
  have hpos (t : Fin 4096) : 0 < (∑ x : Fin 1024, re x0 (ix3 0 t x) * re x0 (ix3 0 t x)) / 1024 + eps := meanSq_pos (row x0 t)
  simp only [h0.eq, h2.eq, h3.eq, h4.eq, lit_1024, lit_eps, lit_neg_half, ← EReal.coe_mul, coe_sum, ← EReal.coe_add,
    coe_div (show (1024 : ℝ) ≠ 0 by norm_num), coe_rsqrt (hpos _), Finset.univ_unique, Finset.sum_singleton]
  by_cases hr : r.val < 1
  · rw [dif_pos hr, if_pos (Nat.lt_one_iff.1 hr)]; rfl
  · rw [dif_neg hr, if_neg fun e => hr (by omega)]; rfl

end Cert.ReferenceIdeal.Input

end
-- ==== Proof.InputKernel.lean ====
module

public import proofs.«01_k».proof.Proof.InputValue
public import proofs.«01_k».proof.Proof.InputRef
public import proofs.«01_k».proof.Proof.Reals
public import Idealize.ShloMosaic.Lib.Pipeline.ValueKit
public import Idealize.ShloMosaic.Lib.Claim
public import Idealize.ShloMosaic.Lib.Pipeline.ReadBack
public import Idealize.ShloMosaic.Lib.WritesUnit

@[expose] public section

set_option maxRecDepth 16384

noncomputable section

namespace Cert.KernelIdeal.Input

open Cert.KernelIdeal Cert.KernelIdeal.Gen Idealize.ShloMosaic Idealize.ShloMosaic.TcCoe Idealize.SL.Sem Cert.Reals
open Idealize.ShloMosaic.Pipeline (Dat)
open Cert.ReferenceIdeal.Input (row back)

section Pure

variable (d : FVec Ideal S1x512x5632 .bf16) (w : FVec Ideal S5632x1024 .bf16) (x ct : FVec Ideal S512x1024 .f32) (g : FVec Ideal S1x1024 .f32)

/-- Row `r` of the block's cotangent times the stacked weights. -/
def blockBack (r : Fin 512) (j : Fin 1024) : ℝ := ∑ f : Fin 5632, re d (ix3 0 r f) * re w (ix2 f j)

/-- What a point stores into the first result: the cotangent that passes by, plus the gradient of the normalised row. -/
theorem dx_payload (hd : Real d) (hw : Real w) (hx : Real x) (hg : Real g) (r : Fin 512) (j : Fin 1024) :
    k0_pay1 (F := Ideal) (k0_pay8 (F := Ideal) d w x g) ct (ix2 r j)
      = ct (ix2 r j) + ((normGrad (fun k => re x (ix2 r k)) (fun k => re g (ix2 0 k)) (blockBack d w r) j : ℝ) : EReal) := by
  pointwise [k0_pay1, k0_pay8, k0_pay7, k0_pay6, k0_pay5, k0_pay4]
  have hpos : 0 < (∑ k : Fin 1024, re x (ix2 r k) * re x (ix2 r k)) / 1024 + eps := meanSq_pos fun k => re x (ix2 r k)
  simp only [hd.eq, hw.eq, hx.eq, hg.eq, lit_1024, lit_eps, ← EReal.coe_mul, coe_sum, ← EReal.coe_add, ← EReal.coe_sub,
    coe_div (show (1024 : ℝ) ≠ 0 by norm_num), coe_rsqrt hpos]
  congr 2
  show scale (fun k => re x (ix2 r k)) * (blockBack d w r j * re g (ix2 0 j))
      - re x (ix2 r j) * scale (fun k => re x (ix2 r k)) * (scale (fun k => re x (ix2 r k))
        * ((∑ i, blockBack d w r i * re g (ix2 0 i) * (re x (ix2 r i) * scale (fun k => re x (ix2 r k)))) / 1024)) = _
  rw [show (∑ i, blockBack d w r i * re g (ix2 0 i) * (re x (ix2 r i) * scale (fun k => re x (ix2 r k))))
      = (∑ i, re x (ix2 r i) * (blockBack d w r i * re g (ix2 0 i))) * scale (fun k => re x (ix2 r k)) by
    rw [Finset.sum_mul]; exact Finset.sum_congr rfl fun i _ => by ring]
  unfold normGrad
  ring

/-- What a point adds to the row that gathers the gradient of the scale vector. -/
theorem dg_payload (hd : Real d) (hw : Real w) (hx : Real x) (acc : FVec Ideal S1x1024 .f32) (j : Fin 1024) :
    k0_pay2 (F := Ideal) (k0_pay9 (F := Ideal) d w x) acc (ix2 0 j)
      = acc (ix2 0 j) + ((∑ r : Fin 512, re x (ix2 r j) * scale (fun k => re x (ix2 r k)) * blockBack d w r j : ℝ) : EReal) := by
  pointwise [k0_pay2, k0_pay9, k0_pay7, k0_pay6, k0_pay5, k0_pay4]
  have hpos (r : Fin 512) : 0 < (∑ k : Fin 1024, re x (ix2 r k) * re x (ix2 r k)) / 1024 + eps := meanSq_pos fun k => re x (ix2 r k)
  simp only [hd.eq, hw.eq, hx.eq, lit_1024, lit_eps, ← EReal.coe_mul, coe_sum, ← EReal.coe_add,
    coe_div (show (1024 : ℝ) ≠ 0 by norm_num), coe_rsqrt (hpos _)]
  congr 2
  exact Finset.sum_congr rfl fun r _ => mul_comm _ _

end Pure

variable (m : (ℓ : Loc nD τ sig) → Buf (Elt Ideal) ℓ)

/-- Argument 0. -/
abbrev X0 (c : Dev nD) : FVec Ideal S1x4096x1024 .f32 := m ((c : Thread nD τ).loc main_arg0)

/-- Argument 1. -/
abbrev X1 (c : Dev nD) : FVec Ideal S1x1024 .f32 := m ((c : Thread nD τ).loc main_arg1)

/-- Argument 2. -/
abbrev X2 (c : Dev nD) : FVec Ideal S1x1024x2816 .f32 := m ((c : Thread nD τ).loc main_arg2)

/-- Argument 3. -/
abbrev X3 (c : Dev nD) : FVec Ideal S1x1024x2816 .f32 := m ((c : Thread nD τ).loc main_arg3)

/-- Argument 4. -/
abbrev X4 (c : Dev nD) : FVec Ideal S1x4096x5632 .f32 := m ((c : Thread nD τ).loc main_arg4)

/-- Argument 5. -/
abbrev X5 (c : Dev nD) : FVec Ideal S1x4096x1024 .f32 := m ((c : Thread nD τ).loc main_arg5)

theorem idx : ∀ t : Fin cfg0.N, win0_0.index t = ![0, t.val, 0] ∧ win0_1.index t = ![t.val, 0] ∧ win0_2.index t = ![t.val, 0]
    ∧ win0_3.index t = ![0, 0] ∧ win0_4.index t = ![t.val, 0] ∧ win0_5.index t = ![0, 0] ∧ t.val < 8 :=
  (by decide +kernel : ∀ t : Fin grid0.N, _)

/-- The row of the whole array that row `r` of point `t`'s block is. -/
def rowOf (t : Fin cfg0.N) (r : Fin 512) : Fin 4096 := ⟨t.val * 512 + r.val, by have := (idx t).2.2.2.2.2.2; omega⟩

/-- The stacked weights: the gate's rows, then the up-projection's. -/
def wts (c : Dev nD) : FVec Ideal S5632x1024 .bf16 := fun j =>
  if h : (j 0).val < 2816 then X2 m c (ix3 0 (j 1) ⟨(j 0).val, h⟩)
  else X3 m c (ix3 0 (j 1) ⟨(j 0).val - 2816, by have : (j 0).val < 5632 := (j 0).isLt; omega⟩)

theorem dgu_block (c : Dev nD) (t : Fin cfg0.N) (r : Fin 512) (f : Fin 5632) :
    (show EReal from iblk m c 0 t (ix3 0 r f)) = X4 m c (ix3 0 (rowOf t r) f) := by
  blk_simp [iblk, idx t]; entry_read; pointwise; blk_ext [idx t, rowOf]

theorem ct_block (c : Dev nD) (t : Fin cfg0.N) (r : Fin 512) (k : Fin 1024) :
    (show EReal from iblk m c 1 t (ix2 r k)) = X5 m c (ix3 0 (rowOf t r) k) := by
  blk_simp [iblk, idx t]; entry_read; pointwise; blk_ext [idx t, rowOf]

theorem x_block (c : Dev nD) (t : Fin cfg0.N) (r : Fin 512) (k : Fin 1024) :
    (show EReal from iblk m c 2 t (ix2 r k)) = X0 m c (ix3 0 (rowOf t r) k) := by
  blk_simp [iblk, idx t]; entry_read; pointwise; blk_ext [idx t, rowOf]

theorem g_block (c : Dev nD) (t : Fin cfg0.N) (k : Fin 1024) :
    (show EReal from iblk m c 3 t (ix2 0 k)) = X1 m c (ix2 0 k) := by
  blk_simp [iblk, idx t]; entry_read; pointwise; blk_ext [idx t, rowOf]

/-- After every point the scratch holds the stacked weights. -/
theorem scratch (c : Dev nD) : ∀ (n : ℕ) (hn : n < cfg0.N), (outsAt0 m c n hn).2.2 = wts m c := fun n => by
  induction n with
  | zero =>
    intro hn
    rw [outsAt0_A m c ⟨0, hn⟩ rfl rfl]; unfold leftA
    funext j
    idx_vars j
    frame_out
    canon_tiles x h
    · refine (congrArg (V m c main_v5) (?_ : _ = ix2 (x 0) (x 1))).trans ?_
      · funext i; fin_cases i <;> exact Fin.ext ((ValueKit.view_emb_slice_whole_unit_val _ _ _ _ _ _).trans (Nat.zero_add _))
      · entry_read
        pointwise
        unfold wts
        have e : ¬ j0.val < 2816 := by have : j0.val = 2816 + (x 0).val := h0; omega
        refine Eq.symm ((dif_neg e).trans ?_)
        blk_ext [h0, h1]
    · refine (congrArg (V m c main_v2) (?_ : _ = ix2 (x 0) (x 1))).trans ?_
      · funext i; fin_cases i <;> exact Fin.ext ((ValueKit.view_emb_slice_whole_unit_val _ _ _ _ _ _).trans (Nat.zero_add _))
      · entry_read
        pointwise
        unfold wts
        have e : j0.val < 2816 := by have : j0.val = (x 0).val := h0; omega
        refine Eq.symm ((dif_pos e).trans ?_)
        blk_ext [h0, h1]
  | succ n ih =>
    intro hn
    have h := (idx ⟨n + 1, hn⟩).2.2.2.2.2.2
    have h0 : ¬ (n + 1) % 8 = 0 := by
      have : n + 1 < 8 := h
      omega
    rw [outsAt0_B m c ⟨n + 1, hn⟩ h0 h0, leftB, ← ih (Nat.lt_of_succ_lt hn)]
    rfl

/-- A box that is the whole of a rank-2 shape places an index where it is. -/
theorem whole_idx {d : Fin 2 → ℕ} (inb) (y : (⟨2, d⟩ : Shape).Idx) :
    (Rect.unit (s := ⟨2, d⟩) ![0, 0] d inb).toLoadRect.idx y = y := by
  funext a; fin_cases a <;> exact Fin.ext ((ValueKit.rect_emb_unit_val _ _ _ _ _).trans (Nat.zero_add _))

/-- What point `t` stores into its block of the first result: the payload over the stacked weights. -/
theorem point4 (c : Dev nD) (t : Fin cfg0.N) (j : S512x1024.Idx) :
    (outsAt0 m c t.val t.isLt).1 j = k0_pay1 (F := Ideal) (k0_pay8 (F := Ideal) (iblk m c 0 t) (wts m c) (iblk m c 2 t) (iblk m c 3 t)) (iblk m c 1 t) j := by
  by_cases h0 : t.val % 8 = 0
  · have hs := scratch m c t.val t.isLt
    rw [outsAt0_A m c t h0 h0, leftA] at hs ⊢
    frame_out
    have hs' := fun j => congrFun hs j
    frame_out at hs'
    refine congrArg (fun w => k0_pay1 (F := Ideal) (k0_pay8 (F := Ideal) (iblk m c 0 t) w (iblk m c 2 t) (iblk m c 3 t)) (iblk m c 1 t) j) ?_
    rw [View.readCov_eq_canon']
    exact funext fun y => (hs' _).trans (congrArg (wts m c) (whole_idx _ y))
  · have hs := scratch m c (t.val - 1) (Nat.lt_of_le_of_lt (Nat.sub_le _ _) t.isLt)
    rw [outsAt0_B m c t h0 h0, leftB, hs]
    frame_out
    rw [read_unread_whole]

/-- Row 0 of a block reads the row stored last. -/
theorem row_hit {κ : Kind} {sp : Space} (v : View sig κ sp S8x1024 .f32) (f : v.ty.Contents (Elt Ideal)) (inb)
    (w : (Rect.unit (s := S8x1024) ![0, 0] ![1, 1024] inb).shape.Idx → EReal) (L : List (View.Piece (Elt Ideal) S8x1024 .f32)) (r : Fin 8) (k : Fin 1024) (h : r.val = 0) :
    v.read (Elt Ideal) (v.writes (Elt Ideal) f (⟨Rect.unit (s := S8x1024) ![0, 0] ![1, 1024] inb, w⟩ :: L)) (ix2 r k) = w (ix2 0 k) :=
  View.read_writes_cons_rows_of_mem (o := 0) v f inb w L (ix2 r k) (ix2 0 k) rfl (h.trans rfl) rfl

/-- Every other row reads what was there before. -/
theorem row_miss {κ : Kind} {sp : Space} (v : View sig κ sp S8x1024 .f32) (f : v.ty.Contents (Elt Ideal)) (inb)
    (w : (Rect.unit (s := S8x1024) ![0, 0] ![1, 1024] inb).shape.Idx → EReal) (L : List (View.Piece (Elt Ideal) S8x1024 .f32)) (r : Fin 8) (k : Fin 1024) (h : ¬ r.val = 0) :
    v.read (Elt Ideal) (v.writes (Elt Ideal) f (⟨Rect.unit (s := S8x1024) ![0, 0] ![1, 1024] inb, w⟩ :: L)) (ix2 r k) = v.read (Elt Ideal) (v.writes (Elt Ideal) f L) (ix2 r k) :=
  View.read_writes_cons_rows_of_not_mem (o := 0) (W := 1) v f inb w L (ix2 r k) rfl rfl (.inr (by show 0 + 1 ≤ r.val; omega))

/-- What point `t` adds to the second result. -/
def term (c : Dev nD) (t : Fin cfg0.N) (y : S8x1024.Idx) : EReal :=
  if (y 0).val = 0 then
    k0_pay2 (F := Ideal) (k0_pay9 (F := Ideal) (iblk m c 0 t) (wts m c) (iblk m c 2 t)) (fun _ => 0) (ix2 0 (y 1))
  else 0

theorem term_hit (c : Dev nD) (t : Fin cfg0.N) (r : Fin 8) (k : Fin 1024) (h : r.val = 0) :
    term m c t (ix2 r k) = k0_pay2 (F := Ideal) (k0_pay9 (F := Ideal) (iblk m c 0 t) (wts m c) (iblk m c 2 t)) (fun _ => 0) (ix2 0 k) := if_pos h

theorem term_miss (c : Dev nD) (t : Fin cfg0.N) (r : Fin 8) (k : Fin 1024) (h : ¬ r.val = 0) : term m c t (ix2 r k) = 0 := if_neg h

/-- The block that the first point fills the second result with. -/
theorem pay3_apply (y : S8x1024.Idx) : k0_pay3 (F := Ideal) y = (0 : EReal) := by
  idx_vars y
  pointwise [k0_pay3]

/-- The stored row, over what the row held. -/
theorem pay2_apply (v : FVec Ideal S512x1024 .f32) (acc : FVec Ideal S1x1024 .f32) (x : S1x1024.Idx) :
    k0_pay2 (F := Ideal) v acc x = acc x + k0_pay2 (F := Ideal) v (fun _ => 0) x := by
  idx_vars x
  pointwise [k0_pay2]

/-- The second result's block after the first point. -/
theorem point5_A (c : Dev nD) (t : Fin cfg0.N) (h0 : t.val % 8 = 0) (y : S8x1024.Idx) :
    (outsAt0 m c t.val t.isLt).2.1 y = (0 : EReal) + term m c t y := by
  have hs := scratch m c t.val t.isLt
  rw [outsAt0_A m c t h0 h0, leftA] at hs ⊢
  frame_out
  have hs' := fun j => congrFun hs j
  frame_out at hs'
  rw [← View.read_writes_junk_eq_canon (ms0_5 t).view]
  idx_vars y
  by_cases hr : y0.val = 0
  · rw [row_hit (h := hr)]
    rw [pay2_apply]
    rw [term_hit (h := hr), View.readCov_fill _ _ _ _ _ (by decide), View.readCov_eq_canon']
    refine congrArg₂ (fun (a : EReal) w => a + k0_pay2 (F := Ideal) (k0_pay9 (F := Ideal) (iblk m c 0 t) w (iblk m c 2 t)) (fun _ => 0) (ix2 0 y1)) (pay3_apply _) ?_
    exact funext fun y => (hs' _).trans (congrArg (wts m c) (whole_idx _ y))
  · rw [row_miss (h := hr)]
    rw [View.read_writes_junk_eq_canon, View.canon_cons_unit_lit _ _ _ (by decide), term_miss (h := hr), add_zero]
    exact pay3_apply _

/-- The second result's block after a later point. -/
theorem point5_B (c : Dev nD) (t : Fin cfg0.N) (h0 : ¬ t.val % 8 = 0) (y : S8x1024.Idx) :
    (outsAt0 m c t.val t.isLt).2.1 y = (outsAt0 m c (t.val - 1) (Nat.lt_of_le_of_lt (Nat.sub_le _ _) t.isLt)).2.1 y + term m c t y := by
  have hs := scratch m c (t.val - 1) (Nat.lt_of_le_of_lt (Nat.sub_le _ _) t.isLt)
  rw [outsAt0_B m c t h0 h0, leftB, hs]
  frame_out
  rw [read_unread_whole]
  idx_vars y
  by_cases hr : y0.val = 0
  · rw [row_hit (h := hr)]
    rw [pay2_apply]
    rw [term_hit (h := hr)]
    refine congrArg (fun a : EReal => a + _) (congrArg (outsAt0 m c (t.val - 1) (Nat.lt_of_le_of_lt (Nat.sub_le _ _) t.isLt)).2.1 ?_)
    funext a; fin_cases a <;> exact Fin.ext ((ValueKit.rect_emb_unit_val _ _ _ _ _).trans (by first | exact (Nat.zero_add _).trans hr.symm | exact Nat.zero_add _))
  · rw [row_miss (h := hr)]
    rw [View.writes_nil, Memref.IsWhole.read_unread, term_miss (h := hr), add_zero]

section Values

variable (c : Dev nD) (h0 : Real (X0 m c)) (h1 : Real (X1 m c)) (h2 : Real (X2 m c)) (h3 : Real (X3 m c)) (h4 : Real (X4 m c))

include h2 h3 in
theorem wts_real : Real (wts m c) := fun j => by
  unfold wts; split
  · exact h2 _
  · exact h3 _

include h4 in
theorem dgu_real (t : Fin cfg0.N) : Real (show FVec Ideal S1x512x5632 .bf16 from iblk m c 0 t) := fun j => by
  idx_vars j
  have : j0 = 0 := Subsingleton.elim _ _
  subst this
  exact (h4 _).imp fun _ e => (dgu_block m c t j1 j2).trans e

include h0 in
theorem x_real (t : Fin cfg0.N) : Real (show FVec Ideal S512x1024 .f32 from iblk m c 2 t) := fun j => by
  idx_vars j
  exact (h0 _).imp fun _ e => (x_block m c t j0 j1).trans e

include h1 in
theorem g_real (t : Fin cfg0.N) : Real (show FVec Ideal S1x1024 .f32 from iblk m c 3 t) := fun j => by
  idx_vars j
  have : j0 = 0 := Subsingleton.elim _ _
  subst this
  exact (h1 _).imp fun _ e => (g_block m c t j1).trans e

/-- What comes back to a row of the block is what comes back to that row of the array. -/
theorem back_eq (t : Fin cfg0.N) (r : Fin 512) (j : Fin 1024) :
    blockBack (iblk m c 0 t) (wts m c) r j = back (X2 m c) (X3 m c) (X4 m c) (rowOf t r) j := by
  unfold blockBack back
  rw [add_comm]
  refine (Fin.sum_univ_add (a := 2816) (b := 2816) _).trans (congrArg₂ (· + ·) ?_ ?_)
  · refine Finset.sum_congr rfl fun f _ => congrArg₂ (· * ·) (congrArg EReal.toReal (dgu_block m c t r _)) (congrArg EReal.toReal ?_)
    exact dif_pos f.isLt
  · refine Finset.sum_congr rfl fun f _ => congrArg₂ (· * ·) (congrArg EReal.toReal (dgu_block m c t r _)) (congrArg EReal.toReal ?_)
    refine (dif_neg (by show ¬ 2816 + f.val < 2816; omega)).trans (congrArg _ (congrArg _ (Fin.ext ?_)))
    show 2816 + f.val - 2816 = f.val
    omega

include h0 h1 h2 h3 h4

/-- The gradient of the input. -/
theorem out4 : (dats m 0 c).arrAt 4 cfg0.N = Cert.ReferenceIdeal.Read.val_main_v50 (F := Ideal) (X0 m c) (X1 m c) (X2 m c) (X3 m c) (X4 m c) (X5 m c) := by
  refine (dats m 0 c).arrAt_eq_of_covers 4 _ (by decide +kernel) fun t hf y => ?_
  blk_simp
  rw [after0_4, point4]
  idx_vars y
  have e : ((View.whole main_v9_0).slice (win0_4.rect t)).emb (ix2 y0 y1) = ix2 (rowOf t y0) y1 := by blk_ext [idx t, rowOf]
  rw [e, Cert.ReferenceIdeal.Input.dx_apply _ _ _ _ _ _ h0 h1 h2 h3 h4,
    dx_payload _ _ _ _ _ (dgu_real m c h4 t) (wts_real m c h2 h3) (x_real m c h0 t) (g_real m c h1 t)]
  refine congrArg₂ (fun (a b : EReal) => a + b) (ct_block m c t y0 y1) (congrArg _ ?_)
  rw [show blockBack (iblk m c 0 t) (wts m c) y0 = back (X2 m c) (X3 m c) (X4 m c) (rowOf t y0) from funext (back_eq m c t y0),
    show (fun k => re (iblk m c 2 t : FVec Ideal S512x1024 .f32) (ix2 y0 k)) = row (X0 m c) (rowOf t y0) from
      funext fun k => congrArg EReal.toReal (x_block m c t y0 k),
    show (fun k => re (iblk m c 3 t : FVec Ideal S1x1024 .f32) (ix2 0 k)) = fun k => re (X1 m c) (ix2 0 k) from
      funext fun k => congrArg EReal.toReal (g_block m c t k)]

/-- What a point adds to row 0 of the second result: the sum over the block's rows. -/
theorem term_row (t : Fin cfg0.N) (r : Fin 8) (j : Fin 1024) (h : r.val = 0) :
    term m c t (ix2 r j) = ((∑ r : Fin 512, row (X0 m c) (rowOf t r) j * scale (row (X0 m c) (rowOf t r)) * back (X2 m c) (X3 m c) (X4 m c) (rowOf t r) j : ℝ) : EReal) := by
  rw [term_hit (h := h), dg_payload _ _ _ (dgu_real m c h4 t) (wts_real m c h2 h3) (x_real m c h0 t), zero_add]
  refine congrArg _ (Finset.sum_congr rfl fun i _ => ?_)
  rw [back_eq,
    show (fun k => re (iblk m c 2 t : FVec Ideal S512x1024 .f32) (ix2 i k)) = row (X0 m c) (rowOf t i) from
      funext fun k => congrArg EReal.toReal (x_block m c t i k)]
  exact congrArg (fun a => a * _ * _) (congrArg EReal.toReal (x_block m c t i j))

/-- The gradient of the scale vector. -/
theorem out5 : (dats m 0 c).arrAt 5 cfg0.N = Cert.ReferenceIdeal.Read.val_main_v53 (F := Ideal) (X0 m c) (X2 m c) (X3 m c) (X4 m c) := by
  refine (dats m 0 c).arrAt_eq_of_after_last 5 t0_7 (by decide +kernel) _ fun y => ?_
  blk_simp
  rw [after0_5, Pipeline.eq_sum_fin_of_reset_step_apply_last (fun n h => (outsAt0 m c n h).2.1) 8 (fun _ => (0 : EReal)) (term m c)
    (point5_A m c) (point5_B m c) (le_of_eq N_0) t0_7 rfl y, zero_add]
  idx_vars y
  rw [Cert.ReferenceIdeal.Input.dg_apply _ _ _ _ h0 h2 h3 h4]
  by_cases hr : y0.val = 0
  · rw [if_pos hr]
    refine (Finset.sum_congr rfl fun t _ => term_row m c h0 h1 h2 h3 h4 t y0 y1 hr).trans ((coe_sum _ _).trans (congrArg _ ?_))
    refine (Fin.sum_points_lanes_congr (A := 1) (L := 4096) 8
      (g := fun _ l => row (X0 m c) l y1 * scale (row (X0 m c) l) * back (X2 m c) (X3 m c) (X4 m c) l y1) fun t k ha hl => ?_).trans (Fin.sum_univ_one _)
    have e : rowOf t k = ⟨t.val % 8 * 512 + k.val, hl⟩ := Fin.ext (by
      have := (idx t).2.2.2.2.2.2
      show t.val * 512 + k.val = t.val % 8 * 512 + k.val
      rw [Nat.mod_eq_of_lt this])
    rw [e]
  · rw [if_neg hr]
    exact Finset.sum_eq_zero (M := EReal) fun t _ => term_miss m c t y0 y1 hr

end Values

end Cert.KernelIdeal.Input

end
-- ==== Proof.InputClaim.lean ====
module

public import proofs.«01_k».proof.Defs
public import proofs.«01_k».proof.Proof.InputKernel
public import proofs.«01_k».proof.Proof.Gen.Kernel
public import Idealize.ShloMosaic.Lib.Claim

@[expose] public section

set_option maxRecDepth 16384

noncomputable section

namespace Cert.Input

open Idealize.ShloMosaic Idealize.ShloMosaic.TcCoe Idealize.SL.Sem Cert.Reals

/-- The side conditions of the precondition's operations. -/
instance finite_facts : Cert.Pre_finite.Facts where
  bcast_S_S1x4096x1024 := by decide
  reducesTo_S1x4096x1024_S_d0_1_2 := by decide
  h_S_ := by decide
  bcast_S_S1x1024 := by decide
  reducesTo_S1x1024_S_d0_1 := by decide
  bcast_S_S1x1024x2816 := by decide
  reducesTo_S1x1024x2816_S_d0_1_2 := by decide
  bcast_S_S1x4096x5632 := by decide
  reducesTo_S1x4096x5632_S_d0_1_2 := by decide

open Cert.Pre_finite in
/-- The precondition read back: the first five arguments are real everywhere. -/
theorem real_of_finite (x0 : FVec Ideal S1x4096x1024 .f32) (x1 : FVec Ideal S1x1024 .f32) (x2 x3 : FVec Ideal S1x1024x2816 .f32)
    (x4 : FVec Ideal S1x4096x5632 .f32) (x5 : FVec Ideal S1x4096x1024 .f32) (h : Cert.Pre_finite.fn (F := Ideal) x0 x1 x2 x3 x4 x5 = fun _ => 1#1) :
    Real x0 ∧ Real x1 ∧ Real x2 ∧ Real x3 ∧ Real x4 := by
  have e := congrFun h ix0
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of_all _ _ _ _ _ _ e0, real_of_all _ _ _ _ _ _ e1, real_of_all _ _ _ _ _ _ e2, real_of_all _ _ _ _ _ _ e3, real_of_all _ _ _ _ _ _ e4⟩

/-- The kernel's two results are the reference's. -/
theorem algebraic : Cert.algebraic_KernelIdeal_ReferenceIdeal_pre_finite := by
  pair_intro
  · run_from Cert.KernelIdeal.Input.run_blocks m g
  · refine (θ_run _ _ _).mono (fun r h c => ?_) (Cert.ReferenceIdeal.Value.run m' g')
    obtain ⟨e0, e1, e2, e3, e4, e5⟩ := hagree c
    obtain ⟨r0, r1, r2, r3, r4⟩ := real_of_finite _ _ _ _ _ _ (hpre c)
    obtain ⟨a, b, rest⟩ := h c
    refine ⟨a.trans ?_, b.trans ?_, rest⟩
    · refine (Cert.ReferenceIdeal.Read.val_main_v50_eq m' c).trans ?_
      rw [e0, e1, e2, e3, e4, e5]
      exact (Cert.KernelIdeal.Input.out4 m c r0 r1 r2 r3 r4).symm
    · refine (Cert.ReferenceIdeal.Read.val_main_v53_eq _ _ _ _).trans ?_
      rw [e0, e2, e3, e4]
      exact (Cert.KernelIdeal.Input.out5 m c r0 r1 r2 r3 r4).symm

/-- The bit-level program's frame: the two texts are one, and the run is for any floats. -/
theorem frame_kernel : Cert.quiescent_Kernel := fun m ρ _ =>
  Eq.mp (by sl_kernel_rfl) (Cert.KernelIdeal.Input.frame (F := Bits) m ρ)

/-- The reference's frame: no operation writes an argument, and it has no semaphore. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

end Cert.Input

end
-- ==== Proof.RealsLn.lean ====
module

public import proofs.«01_k».proof.Proof.Reals

/-! The mixer's normalised and gated row over the reals: layer norm, SiLU, the two gates, and their gradients. -/

@[expose] public section

noncomputable section

namespace Cert.Reals

open Idealize.ShloMosaic

theorem lit_two : Ideal.ofBits .f32 0x40000000#32 = ((2 : ℝ) : EReal) := by
  simp [Ideal.ofBits, Ideal.ieee]; norm_num [← EReal.coe_mul]

theorem lit_bf_one : Ideal.ofBits .bf16 0x3F80#16 = (1 : EReal) := by
  simp [Ideal.ofBits, Ideal.ieee]; norm_num [← EReal.coe_mul, ← EReal.coe_one]

theorem lit_bf_zero : Ideal.ofBits .bf16 0x0000#16 = (0 : EReal) := by
  simp [Ideal.ofBits, Ideal.ieee]

/-- The logistic function. -/
def sgm (r : ℝ) : ℝ := (1 + Real.exp (-r))⁻¹

theorem coe_sgm (r : ℝ) : Ideal.div 1 (1 + Ideal.exp (-(r : EReal))) = ((sgm r : ℝ) : EReal) := coe_logistic r

theorem coe_sgm' (r : ℝ) : Ideal.div 1 (1 + Ideal.exp (0 - (r : EReal))) = ((sgm r : ℝ) : EReal) := by
  rw [zero_sub]; exact coe_logistic r

theorem one_sub_coe (r : ℝ) : (1 : EReal) - (r : EReal) = ((1 - r : ℝ) : EReal) := rfl

theorem one_add_coe (r : ℝ) : (1 : EReal) + (r : EReal) = ((1 + r : ℝ) : EReal) := rfl

/-- An entry of a row less the row's mean. -/
def cen (x : Fin 1024 → ℝ) (k : Fin 1024) : ℝ := x k - (∑ i, x i) / 1024

/-- The row's variance and the small constant. -/
def var (x : Fin 1024 → ℝ) : ℝ := (∑ k, cen x k * cen x k) / 1024 + eps

theorem var_pos (x : Fin 1024 → ℝ) : 0 < var x :=
  add_pos_of_nonneg_of_pos (div_nonneg (Finset.sum_nonneg fun k _ => mul_self_nonneg (cen x k)) (by norm_num)) eps_pos

/-- The factor by which the layer norm multiplies the centred row. -/
def lscale (x : Fin 1024 → ℝ) : ℝ := (Real.sqrt (var x))⁻¹

theorem lscale_div (x : Fin 1024 → ℝ) : lscale x / var x = lscale x * lscale x * lscale x := by
  have h := var_pos x
  have hs : Real.sqrt (var x) * Real.sqrt (var x) = var x := Real.mul_self_sqrt h.le
  have h0 : Real.sqrt (var x) ≠ 0 := (Real.sqrt_pos.2 h).ne'
  unfold lscale
  rw [← hs]
  simp only [hs]
  rw [eq_comm]
  field_simp
  nlinarith [hs]

theorem sum_cen (x : Fin 1024 → ℝ) : ∑ k, cen x k = 0 := by
  unfold cen
  rw [Finset.sum_sub_distrib, Finset.sum_const, Finset.card_univ, Fintype.card_fin, nsmul_eq_mul]
  push_cast
  ring

/-- The normalised row. -/
def xhat (x : Fin 1024 → ℝ) (k : Fin 1024) : ℝ := cen x k * lscale x

/-- The normalised row, scaled and shifted. -/
def lnorm (x g b : Fin 1024 → ℝ) (k : Fin 1024) : ℝ := xhat x k * g k + b k

/-- The row after the SiLU. -/
def act (x g b : Fin 1024 → ℝ) (k : Fin 1024) : ℝ := lnorm x g b k * sgm (lnorm x g b k)

/-- The gradient of SiLU at `u`. -/
def siluGrad (u : ℝ) : ℝ := sgm u * (1 + u * (1 - sgm u))

/-- The gradient of the normalised row, at cotangent `d` of it. -/
def lnGrad (x d : Fin 1024 → ℝ) (j : Fin 1024) : ℝ :=
  lscale x * (d j - (∑ k, d k) / 1024 - xhat x j * ((∑ k, d k * xhat x k) / 1024))

/-- The gradient as it comes from differentiating the mean, the variance and the quotient one by one. -/
theorem lnGrad_eq (x d : Fin 1024 → ℝ) (j : Fin 1024) :
    d j * lscale x + (∑ k, cen x k * d k) * (-(1 / 2) * (lscale x / var x)) / 1024 * (2 * cen x j)
      + (∑ k, -(d k * lscale x) + ∑ k, -((∑ k, cen x k * d k) * (-(1 / 2) * (lscale x / var x)) / 1024 * (2 * cen x k))) / 1024 = lnGrad x d j := by
  have e1 : ∑ k, -((∑ k, cen x k * d k) * (-(1 / 2) * (lscale x / var x)) / 1024 * (2 * cen x k)) = 0 := by
    rw [show (fun k => -((∑ k, cen x k * d k) * (-(1 / 2) * (lscale x / var x)) / 1024 * (2 * cen x k)))
      = fun k => (-((∑ k, cen x k * d k) * (-(1 / 2) * (lscale x / var x)) / 1024 * 2)) * cen x k from funext fun k => by ring,
      ← Finset.mul_sum, sum_cen, mul_zero]
  have e2 : ∑ k, -(d k * lscale x) = -(lscale x * ∑ k, d k) := by
    rw [Finset.mul_sum, ← Finset.sum_neg_distrib]; exact Finset.sum_congr rfl fun k _ => by ring
  have e3 : ∑ k, d k * xhat x k = (∑ k, cen x k * d k) * lscale x := by
    rw [Finset.sum_mul]; exact Finset.sum_congr rfl fun k _ => by unfold xhat; ring
  rw [e1, e2, lscale_div]
  unfold lnGrad
  rw [e3]
  unfold xhat
  ring

end Cert.Reals

end
-- ==== Proof.MixOutRef.lean ====
module

public import proofs.«01_k».proof.Proof.Gen.Reference3Ideal.Read
public import proofs.«01_k».proof.Proof.RealsLn

@[expose] public section

set_option maxRecDepth 16384

noncomputable section

namespace Cert.Reference3Ideal.MixOut

open Cert.Reference3Ideal Cert.Reference3Ideal.Gen Cert.Reference3Ideal.Read Idealize.ShloMosaic Idealize.ShloMosaic.TcCoe Cert.Reals

variable (x0 x1 x2 x3 : FVec Ideal S1x4096x1024 .f32) (x4 x5 x6 : FVec Ideal S1x1024x1024 .f32) (x7 x8 : FVec Ideal S1x1024 .f32) (x9 : FVec Ideal S1x4096x1024 .f32)

/-- Row `t` of an array. -/
def row (x : FVec Ideal S1x4096x1024 .f32) (t : Fin 4096) (k : Fin 1024) : ℝ := re x (ix3 0 t k)

/-- A vector's entries. -/
def vec (x : FVec Ideal S1x1024 .f32) (k : Fin 1024) : ℝ := re x (ix2 0 k)

/-- A row times a matrix. -/
def mul (u : Fin 1024 → ℝ) (w : FVec Ideal S1x1024x1024 .f32) (j : Fin 1024) : ℝ := ∑ k, u k * re w (ix3 0 k j)

/-- A row times a matrix's transpose. -/
def mulT (u : Fin 1024 → ℝ) (w : FVec Ideal S1x1024x1024 .f32) (j : Fin 1024) : ℝ := ∑ k, u k * re w (ix3 0 j k)

/-- The cotangent of the merged row. -/
def dm (t : Fin 4096) : Fin 1024 → ℝ := mulT (row x9 t) x6

/-- The first branch's row before its gate. -/
def ya (t : Fin 4096) : Fin 1024 → ℝ := mul (act (row x0 t) (vec x7) (vec x8)) x4

/-- The second branch's row before its gate. -/
def yb (t : Fin 4096) : Fin 1024 → ℝ := mul (row x1 t) x5

/-- The cotangent of the first branch's row. -/
def dya (t : Fin 4096) (j : Fin 1024) : ℝ := dm x6 x9 t j * sgm (row x2 t j)

/-- The cotangent of the second branch's row. -/
def dyb (t : Fin 4096) (j : Fin 1024) : ℝ := dm x6 x9 t j * sgm (row x3 t j)

/-- The cotangent of the scaled and shifted row. -/
def da2 (t : Fin 4096) (j : Fin 1024) : ℝ :=
  mulT (dya x2 x6 x9 t) x4 j * siluGrad (lnorm (row x0 t) (vec x7) (vec x8) j)

/-- The cotangent of the normalised row. -/
def dxh (t : Fin 4096) (j : Fin 1024) : ℝ := da2 x0 x2 x4 x6 x7 x8 x9 t j * vec x7 j

variable (h0 : Real x0) (h1 : Real x1) (h2 : Real x2) (h3 : Real x3) (h4 : Real x4) (h5 : Real x5) (h6 : Real x6) (h7 : Real x7) (h8 : Real x8) (h9 : Real x9)

include h0 in
theorem xc_apply (t : Fin 4096) (j : Fin 1024) : val_main_v20 (F := Ideal) x0 (ix2 t j) = ((cen (row x0 t) j : ℝ) : EReal) := by
  pointwise [val_main_v20, val_main_v19, val_main_v9, val_main_v8, val_main_cst_0, val_main_v7, val_main_v6, val_main_cst, val_main_v0]
  simp only [h0.eq, lit_1024, coe_sum, coe_div (show (1024 : ℝ) ≠ 0 by norm_num), ← EReal.coe_sub]
  rfl

include h0 in
theorem xc2_apply (t : Fin 4096) (j : Fin 1024) : val_main_v14 (F := Ideal) x0 (ix2 t j) = ((2 * cen (row x0 t) j : ℝ) : EReal) := by
  pointwise [val_main_v14, val_main_v13, val_main_cst_1, val_main_v11, val_main_v10, val_main_v9, val_main_v8, val_main_cst_0, val_main_v7, val_main_v6, val_main_cst, val_main_v0]
  simp only [h0.eq, lit_1024, lit_two, coe_sum, coe_div (show (1024 : ℝ) ≠ 0 by norm_num), ← EReal.coe_sub, ← EReal.coe_mul]
  rfl

include h0 in
theorem scale_apply (t : Fin 4096) : val_main_v23 (F := Ideal) x0 (ix2 t 0) = ((lscale (row x0 t) : ℝ) : EReal) := by
  pointwise [val_main_v23, val_main_v22, val_main_v21, val_main_cst_4, val_main_v18, val_main_v17, val_main_cst_3, val_main_v16, val_main_v15, val_main_cst_2, val_main_v12, val_main_v11, val_main_v10, val_main_v9, val_main_v8, val_main_cst_0, val_main_v7, val_main_v6, val_main_cst, val_main_v0]
  simp only [h0.eq, lit_1024, lit_eps, coe_sum, coe_div (show (1024 : ℝ) ≠ 0 by norm_num), ← EReal.coe_sub, ← EReal.coe_mul, ← EReal.coe_add]
  exact coe_rsqrt (var_pos (row x0 t))

include h0 in
theorem slope_apply (t : Fin 4096) (o : Fin 1) : val_main_v26 (F := Ideal) x0 (ix2 t o) = ((-(1 / 2) * (lscale (row x0 t) / var (row x0 t)) : ℝ) : EReal) := by
  obtain rfl : o = 0 := Subsingleton.elim _ _
  pointwise [val_main_v26, val_main_v25, val_main_cst_5, val_main_v24, val_main_v22, val_main_v21, val_main_cst_4, val_main_v18, val_main_v17, val_main_cst_3, val_main_v16, val_main_v15, val_main_cst_2, val_main_v12, val_main_v11, val_main_v10, val_main_v9, val_main_v8, val_main_cst_0, val_main_v7, val_main_v6, val_main_cst, val_main_v0]
  rw [scale_apply x0 h0]
  simp only [h0.eq, lit_1024, lit_eps, lit_neg_half, coe_sum, coe_div (show (1024 : ℝ) ≠ 0 by norm_num), ← EReal.coe_sub, ← EReal.coe_mul, ← EReal.coe_add]
  refine (congrArg (fun a : EReal => _ * a) (coe_div (var_pos (row x0 t)).ne' _)).trans ?_
  rw [← EReal.coe_mul]

include h0 in
theorem xhat_apply (t : Fin 4096) (j : Fin 1024) : val_main_v28 (F := Ideal) x0 (ix2 t j) = ((xhat (row x0 t) j : ℝ) : EReal) := by
  pointwise [val_main_v28, val_main_v27]
  rw [scale_apply x0 h0, xc_apply x0 h0, ← EReal.coe_mul]
  rfl

include h0 h7 h8 in
theorem lnorm_apply (t : Fin 4096) (j : Fin 1024) : val_main_v34 (F := Ideal) x0 x7 x8 (ix2 t j) = ((lnorm (row x0 t) (vec x7) (vec x8) j : ℝ) : EReal) := by
  pointwise [val_main_v34, val_main_v33, val_main_v32, val_main_v31, val_main_v30, val_main_v29, val_main_v5, val_main_v4]
  rw [xhat_apply x0 h0, h7.eq, h8.eq, ← EReal.coe_mul, ← EReal.coe_add]
  rfl

include h0 h7 h8 in
theorem sg_apply (t : Fin 4096) (j : Fin 1024) : val_main_v35_2 (F := Ideal) x0 x7 x8 (ix2 t j) = ((sgm (lnorm (row x0 t) (vec x7) (vec x8) j) : ℝ) : EReal) := by
  pointwise [val_main_v35_2, val_main_call0_v0, val_main_call0_v1, val_main_call0_v2, val_main_call0_v3, val_main_call0_v4, val_main_call0_cst, val_main_call0_cst_0]
  rw [lnorm_apply x0 x7 x8 h0 h7 h8, coe_sgm]

include h0 h7 h8 h4 in
theorem ya_apply (t : Fin 4096) (j : Fin 1024) : val_main_v37 (F := Ideal) x0 x4 x7 x8 (ix2 t j) = ((ya x0 x4 x7 x8 t j : ℝ) : EReal) := by
  pointwise [val_main_v37, val_main_v36, val_main_v35_0]
  simp only [lnorm_apply x0 x7 x8 h0 h7 h8, sg_apply x0 x7 x8 h0 h7 h8, h4.eq, ← EReal.coe_mul, coe_sum]
  rfl

include h1 h5 in
theorem yb_apply (t : Fin 4096) (j : Fin 1024) : val_main_v39 (F := Ideal) x1 x5 (ix2 t j) = ((yb x1 x5 t j : ℝ) : EReal) := by
  pointwise [val_main_v39, val_main_v38, val_main_v1]
  simp only [h1.eq, h5.eq, ← EReal.coe_mul, coe_sum]
  rfl

include h6 h9 in
theorem dm_apply (t : Fin 4096) (j : Fin 1024) : val_main_v64 (F := Ideal) x6 x9 (ix2 t j) = ((dm x6 x9 t j : ℝ) : EReal) := by
  pointwise [val_main_v64, val_main_v63, val_main_v61]
  simp only [h6.eq, h9.eq, ← EReal.coe_mul, coe_sum]
  rfl

include h2 in
theorem sa_apply (t : Fin 4096) (j : Fin 1024) : val_main_v45 (F := Ideal) x2 (ix2 t j) = ((sgm (row x2 t j) : ℝ) : EReal) := by
  pointwise [val_main_v45, val_main_v44, val_main_cst_7, val_main_v43, val_main_v42, val_main_cst_6, val_main_v41, val_main_v40, val_main_v2]
  rw [h2.eq, coe_sgm]
  rfl

include h3 in
theorem sb_apply (t : Fin 4096) (j : Fin 1024) : val_main_v55 (F := Ideal) x3 (ix2 t j) = ((sgm (row x3 t j) : ℝ) : EReal) := by
  pointwise [val_main_v55, val_main_v54, val_main_cst_10, val_main_v53, val_main_v52, val_main_cst_9, val_main_v51, val_main_v50, val_main_v3]
  rw [h3.eq, coe_sgm]
  rfl

include h0 h2 h4 h6 h7 h8 h9 in
theorem dga_apply (t : Fin 4096) (j : Fin 1024) : val_main_v70 (F := Ideal) x0 x2 x4 x6 x7 x8 x9 (ix2 t j)
    = ((dm x6 x9 t j * ya x0 x4 x7 x8 t j * (sgm (row x2 t j) * (1 - sgm (row x2 t j))) : ℝ) : EReal) := by
  pointwise [val_main_v70, val_main_v69, val_main_v48, val_main_v47, val_main_v46, val_main_cst_8]
  rw [sa_apply x2 h2, dm_apply x6 x9 h6 h9, ya_apply x0 x4 x7 x8 h0 h4 h7 h8, one_sub_coe, ← EReal.coe_mul, ← EReal.coe_mul, ← EReal.coe_mul]

include h1 h3 h5 h6 h9 in
theorem dgb_apply (t : Fin 4096) (j : Fin 1024) : val_main_v67 (F := Ideal) x1 x3 x5 x6 x9 (ix2 t j)
    = ((dm x6 x9 t j * yb x1 x5 t j * (sgm (row x3 t j) * (1 - sgm (row x3 t j))) : ℝ) : EReal) := by
  pointwise [val_main_v67, val_main_v66, val_main_v58, val_main_v57, val_main_v56, val_main_cst_11]
  rw [sb_apply x3 h3, dm_apply x6 x9 h6 h9, yb_apply x1 x5 h1 h5, one_sub_coe, ← EReal.coe_mul, ← EReal.coe_mul, ← EReal.coe_mul]

include h3 h5 h6 h9 in
theorem dq_apply (t : Fin 4096) (j : Fin 1024) : val_main_v71 (F := Ideal) x3 x5 x6 x9 (ix2 t j) = ((mulT (dyb x3 x6 x9 t) x5 j : ℝ) : EReal) := by
  pointwise [val_main_v71, val_main_v65, val_main_v38]
  simp only [sb_apply x3 h3, dm_apply x6 x9 h6 h9, h5.eq, ← EReal.coe_mul, coe_sum]
  refine congrArg _ (Finset.sum_congr rfl fun k _ => ?_)
  unfold dyb; ring

include h2 h4 h6 h9 in
theorem da3_apply (t : Fin 4096) (j : Fin 1024) : val_main_v72 (F := Ideal) x2 x4 x6 x9 (ix2 t j) = ((mulT (dya x2 x6 x9 t) x4 j : ℝ) : EReal) := by
  pointwise [val_main_v72, val_main_v68, val_main_v36]
  simp only [sa_apply x2 h2, dm_apply x6 x9 h6 h9, h4.eq, ← EReal.coe_mul, coe_sum]
  refine congrArg _ (Finset.sum_congr rfl fun k _ => ?_)
  unfold dya; ring

include h0 h2 h4 h6 h7 h8 h9 in
theorem da2_apply (t : Fin 4096) (j : Fin 1024) : val_main_v73 (F := Ideal) x0 x2 x4 x6 x7 x8 x9 (ix2 t j) = ((da2 x0 x2 x4 x6 x7 x8 x9 t j : ℝ) : EReal) := by
  pointwise [val_main_v73, val_main_call1_v0, val_main_call1_v1, val_main_call1_v2, val_main_v35_1, val_main_call0_v7, val_main_call0_v6, val_main_call0_cst_1]
  rw [da3_apply x2 x4 x6 x9 h2 h4 h6 h9, sg_apply x0 x7 x8 h0 h7 h8, lnorm_apply x0 x7 x8 h0 h7 h8, one_sub_coe]
  simp only [← EReal.coe_mul, ← EReal.coe_add]
  refine congrArg _ ?_
  unfold da2 siluGrad; ring

include h0 h2 h4 h6 h7 h8 h9 in
theorem dxh_apply (t : Fin 4096) (j : Fin 1024) : val_main_v81 (F := Ideal) x0 x2 x4 x6 x7 x8 x9 (ix2 t j) = ((dxh x0 x2 x4 x6 x7 x8 x9 t j : ℝ) : EReal) := by
  pointwise [val_main_v81, val_main_v80, val_main_v29, val_main_v4]
  rw [da2_apply x0 x2 x4 x6 x7 x8 x9 h0 h2 h4 h6 h7 h8 h9, h7.eq, ← EReal.coe_mul]
  rfl

include h0 h2 h4 h6 h7 h8 h9 in
/-- The gradient of the first branch's input. -/
theorem da1_apply (t : Fin 4096) (j : Fin 1024) : val_main_v106 (F := Ideal) x0 x2 x4 x6 x7 x8 x9 (ix2 t j)
    = ((lnGrad (row x0 t) (dxh x0 x2 x4 x6 x7 x8 x9 t) j : ℝ) : EReal) := by
  pointwise [val_main_v106, val_main_v105, val_main_v104, val_main_cst_22, val_main_v103, val_main_v102, val_main_cst_21, val_main_v101, val_main_v100, val_main_v99, val_main_v98, val_main_cst_20, val_main_v97, val_main_v96, val_main_v95, val_main_v94, val_main_cst_19, val_main_v93, val_main_v92, val_main_cst_18, val_main_v91, val_main_v90, val_main_cst_17, val_main_v89, val_main_v88, val_main_v87, val_main_v86, val_main_v85, val_main_v84, val_main_cst_16, val_main_v83]
  simp only [dxh_apply x0 x2 x4 x6 x7 x8 x9 h0 h2 h4 h6 h7 h8 h9, xc_apply x0 h0, xc2_apply x0 h0, scale_apply x0 h0, slope_apply x0 h0, lit_1024,
    ← EReal.coe_mul, coe_sum, ← EReal.coe_add, ← EReal.coe_neg, coe_div (show (1024 : ℝ) ≠ 0 by norm_num), Finset.univ_unique, Finset.sum_singleton]
  refine congrArg _ ?_
  rw [← lnGrad_eq]

include h0 h1 h2 h3 h4 h5 h6 h7 h8 h9 in
/-- The gates' gradients. -/
theorem gates_apply (a : Fin 2) (t : Fin 4096) (j : Fin 1024) : val_main_v189 (F := Ideal) x0 x1 x2 x3 x4 x5 x6 x7 x8 x9 (ix3 a t j)
    = ((if a = 0 then dm x6 x9 t j * ya x0 x4 x7 x8 t j * (sgm (row x2 t j) * (1 - sgm (row x2 t j)))
        else dm x6 x9 t j * yb x1 x5 t j * (sgm (row x3 t j) * (1 - sgm (row x3 t j))) : ℝ) : EReal) := by
  fin_cases a
  · refine Eq.trans ?_ (dga_apply x0 x2 x4 x6 x7 x8 x9 h0 h2 h4 h6 h7 h8 h9 t j)
    show val_main_v189 (F := Ideal) x0 x1 x2 x3 x4 x5 x6 x7 x8 x9 (ix3 0 t j) = _
    pointwise [val_main_v189, val_main_v188, val_main_v187, val_main_v186]
  · refine Eq.trans ?_ (dgb_apply x1 x3 x5 x6 x9 h1 h3 h5 h6 h9 t j)
    show val_main_v189 (F := Ideal) x0 x1 x2 x3 x4 x5 x6 x7 x8 x9 (ix3 1 t j) = _
    pointwise [val_main_v189, val_main_v188, val_main_v187, val_main_v186]

theorem da1_result (t : Fin 4096) (j : Fin 1024) : val_main_v190 (F := Ideal) x0 x2 x4 x6 x7 x8 x9 (ix2 t j) = val_main_v106 (F := Ideal) x0 x2 x4 x6 x7 x8 x9 (ix2 t j) := by
  pointwise [val_main_v190]

theorem dq_result (t : Fin 4096) (j : Fin 1024) : val_main_v191 (F := Ideal) x3 x5 x6 x9 (ix2 t j) = val_main_v71 (F := Ideal) x3 x5 x6 x9 (ix2 t j) := by
  pointwise [val_main_v191]

include h0 h7 h8 in
theorem act_apply (t : Fin 4096) (j : Fin 1024) : val_main_v136 (F := Ideal) x0 x7 x8 (ix2 t j) = ((act (row x0 t) (vec x7) (vec x8) j : ℝ) : EReal) := by
  have e : val_main_v135 (F := Ideal) x0 x7 x8 (ix2 t j) = ((lnorm (row x0 t) (vec x7) (vec x8) j : ℝ) : EReal) := by
    rw [← lnorm_apply x0 x7 x8 h0 h7 h8]
    pointwise [val_main_v135, val_main_v134, val_main_v133, val_main_v132, val_main_v131, val_main_v130, val_main_v129, val_main_v128, val_main_v127, val_main_v126, val_main_v125, val_main_cst_27, val_main_v124, val_main_v123, val_main_v122, val_main_v121, val_main_cst_26, val_main_v120, val_main_v119, val_main_cst_25, val_main_v118, val_main_v117, val_main_v116, val_main_v115, val_main_v114, val_main_cst_24, val_main_v113, val_main_v112, val_main_cst_23, val_main_v111, val_main_v110, val_main_v109, val_main_v34, val_main_v33, val_main_v32, val_main_v31, val_main_v30, val_main_v29, val_main_v28, val_main_v27, val_main_v23, val_main_v22, val_main_v21, val_main_cst_4, val_main_v20, val_main_v19, val_main_v18, val_main_v17, val_main_cst_3, val_main_v16, val_main_v15, val_main_cst_2, val_main_v12, val_main_v11, val_main_v10, val_main_v9, val_main_v8, val_main_cst_0, val_main_v7, val_main_v6, val_main_cst, val_main_v5, val_main_v4, val_main_v0]
  pointwise [val_main_v136, val_main_call2_v0, val_main_call2_v1, val_main_call2_v2, val_main_call2_v3, val_main_call2_v4, val_main_call2_v5, val_main_call2_cst, val_main_call2_cst_0]
  rw [e, coe_sgm, ← EReal.coe_mul]
  rfl

include h0 h1 h2 h3 h4 h5 h7 h8 in
theorem merged_apply (t : Fin 4096) (j : Fin 1024) : val_main_v158 (F := Ideal) x0 x1 x2 x3 x4 x5 x7 x8 (ix2 t j)
    = ((sgm (row x2 t j) * ya x0 x4 x7 x8 t j + sgm (row x3 t j) * yb x1 x5 t j : ℝ) : EReal) := by
  pointwise [val_main_v158, val_main_v157, val_main_v156, val_main_v155, val_main_cst_31, val_main_v154, val_main_v153, val_main_cst_30, val_main_v152, val_main_v151, val_main_v150, val_main_v149, val_main_v148, val_main_cst_29, val_main_v147, val_main_v146, val_main_cst_28, val_main_v145, val_main_v144, val_main_v143, val_main_v142, val_main_v141, val_main_v140, val_main_v139, val_main_v138, val_main_v137]
  simp only [act_apply x0 x7 x8 h0 h7 h8, h1.eq, h2.eq, h3.eq, h4.eq, h5.eq, coe_sgm, ← EReal.coe_mul, coe_sum, ← EReal.coe_add]
  rfl

include h0 h1 h2 h3 h4 h5 h7 h8 in
/-- The left factors of the weights' gradients: the merged row, the first branch's row, the second branch's input. -/
theorem left_apply (a : Fin 3) (t : Fin 4096) (j : Fin 1024) : val_main_v197 (F := Ideal) x0 x1 x2 x3 x4 x5 x7 x8 (ix3 a t j)
    = ((if a = 0 then sgm (row x2 t j) * ya x0 x4 x7 x8 t j + sgm (row x3 t j) * yb x1 x5 t j
        else if a = 1 then act (row x0 t) (vec x7) (vec x8) j else row x1 t j : ℝ) : EReal) := by
  fin_cases a
  · refine Eq.trans ?_ (merged_apply x0 x1 x2 x3 x4 x5 x7 x8 h0 h1 h2 h3 h4 h5 h7 h8 t j)
    show val_main_v197 (F := Ideal) x0 x1 x2 x3 x4 x5 x7 x8 (ix3 0 t j) = _
    pointwise [val_main_v197, val_main_v196, val_main_v195, val_main_v194, val_main_v193, val_main_v192]
  · refine Eq.trans ?_ (act_apply x0 x7 x8 h0 h7 h8 t j)
    show val_main_v197 (F := Ideal) x0 x1 x2 x3 x4 x5 x7 x8 (ix3 1 t j) = _
    pointwise [val_main_v197, val_main_v196, val_main_v195, val_main_v194, val_main_v193, val_main_v192]
  · refine Eq.trans ?_ (h1.eq (ix3 0 t j))
    show val_main_v197 (F := Ideal) x0 x1 x2 x3 x4 x5 x7 x8 (ix3 2 t j) = _
    pointwise [val_main_v197, val_main_v196, val_main_v195, val_main_v194, val_main_v193, val_main_v192]

include h2 h3 h6 h9 in
/-- The right factors of the weights' gradients: the cotangents of the three products. -/
theorem right_apply (a : Fin 3) (t : Fin 4096) (j : Fin 1024) : val_main_v203 (F := Ideal) x2 x3 x6 x9 (ix3 a t j)
    = ((if a = 0 then row x9 t j else if a = 1 then dya x2 x6 x9 t j else dyb x3 x6 x9 t j : ℝ) : EReal) := by
  fin_cases a
  · refine Eq.trans ?_ (h9.eq (ix3 0 t j))
    show val_main_v203 (F := Ideal) x2 x3 x6 x9 (ix3 0 t j) = _
    pointwise [val_main_v203, val_main_v202, val_main_v201, val_main_v200, val_main_v199, val_main_v198]
  · show val_main_v203 (F := Ideal) x2 x3 x6 x9 (ix3 1 t j) = ((dya x2 x6 x9 t j : ℝ) : EReal)
    pointwise [val_main_v203, val_main_v202, val_main_v201, val_main_v200, val_main_v199, val_main_v198, val_main_v181, val_main_v179, val_main_v178, val_main_v176, val_main_v166, val_main_v165, val_main_cst_33, val_main_v164, val_main_v163, val_main_cst_32, val_main_v162, val_main_v161, val_main_v159]
    simp only [h2.eq, h6.eq, h9.eq, coe_sgm, ← EReal.coe_mul, coe_sum]
    exact congrArg _ (mul_comm _ _)
  · show val_main_v203 (F := Ideal) x2 x3 x6 x9 (ix3 2 t j) = ((dyb x3 x6 x9 t j : ℝ) : EReal)
    pointwise [val_main_v203, val_main_v202, val_main_v201, val_main_v200, val_main_v199, val_main_v198, val_main_v180, val_main_v179, val_main_v178, val_main_v176, val_main_v173, val_main_v172, val_main_cst_35, val_main_v171, val_main_v170, val_main_cst_34, val_main_v169, val_main_v168, val_main_v160]
    simp only [h3.eq, h6.eq, h9.eq, coe_sgm, ← EReal.coe_mul, coe_sum]
    exact congrArg _ (mul_comm _ _)

include h0 h2 h4 h6 h7 h8 h9 in
/-- The vectors' gradients: of the scale, of the shift, and of the bias before the norm; the other rows are zero. -/
theorem vecs_apply (r : Fin 8) (j : Fin 1024) : val_main_v185 (F := Ideal) x0 x2 x4 x6 x7 x8 x9 (ix2 r j)
    = ((if r.val = 0 then ∑ t : Fin 4096, da2 x0 x2 x4 x6 x7 x8 x9 t j * xhat (row x0 t) j
        else if r.val = 1 then ∑ t : Fin 4096, da2 x0 x2 x4 x6 x7 x8 x9 t j
        else if r.val = 2 then ∑ t : Fin 4096, lnGrad (row x0 t) (dxh x0 x2 x4 x6 x7 x8 x9 t) j else 0 : ℝ) : EReal) := by
  pointwise [val_main_v185, val_main_v184, val_main_cst_37, val_main_v183, val_main_v182, val_main_cst_36, val_main_v108, val_main_v107, val_main_v82, val_main_cst_15, val_main_v79, val_main_v78, val_main_cst_14, val_main_v77, val_main_v76, val_main_cst_13, val_main_v75, val_main_v74, val_main_cst_12]
  simp only [da1_apply x0 x2 x4 x6 x7 x8 x9 h0 h2 h4 h6 h7 h8 h9, da2_apply x0 x2 x4 x6 x7 x8 x9 h0 h2 h4 h6 h7 h8 h9, xhat_apply x0 h0, ← EReal.coe_mul, coe_sum, Finset.univ_unique, Finset.sum_singleton]
  by_cases a : r.val = 0
  · rw [dif_pos (by omega), if_pos a]
    exact congrArg _ (Finset.sum_congr rfl fun t _ => mul_comm _ _)
  rw [dif_neg (by omega), if_neg a]
  by_cases b : r.val = 1
  · rw [dif_pos (by omega), if_pos b]
  rw [dif_neg (by omega), if_neg b]
  by_cases d : r.val = 2
  · rw [dif_pos (by omega), if_pos d]
  rw [dif_neg (by omega), if_neg d]
  rfl

end Cert.Reference3Ideal.MixOut

end
-- ==== Proof.MixOutPure.lean ====
module

public import proofs.«01_k».proof.Proof.Gen.Kernel3Ideal.Skeleton
public import proofs.«01_k».proof.Proof.RealsLn

@[expose] public section

set_option maxRecDepth 16384

noncomputable section

namespace Cert.Kernel3Ideal.MixOut

open Cert.Kernel3Ideal Cert.Kernel3Ideal.Gen Idealize.ShloMosaic Idealize.ShloMosaic.TcCoe Idealize.SL.Sem Cert.Reals

variable (dh : FVec Ideal S512x1024 .f32) (ya yb a1 q : FVec Ideal S512x1024 .bf16) (ga gb : FVec Ideal S1x512x1024 .bf16)
  (lng lnb : FVec Ideal S1x1024 .f32) (wa wb wo : FVec Ideal S1024x1024 .bf16)

/-- Row `r` of a block of 32-bit floats. -/
def brow (x : FVec Ideal S512x1024 .f32) (r : Fin 512) (k : Fin 1024) : ℝ := re x (ix2 r k)

/-- Row `r` of a block of 16-bit floats. -/
def hrow (x : FVec Ideal S512x1024 .bf16) (r : Fin 512) (k : Fin 1024) : ℝ := re x (ix2 r k)

/-- Row `r` of a block of one plane. -/
def prow (x : FVec Ideal S1x512x1024 .bf16) (r : Fin 512) (k : Fin 1024) : ℝ := re x (ix3 0 r k)

/-- A vector's entries. -/
def bvec (x : FVec Ideal S1x1024 .f32) (k : Fin 1024) : ℝ := re x (ix2 0 k)

/-- A row times a matrix's transpose. -/
def bmulT (u : Fin 1024 → ℝ) (w : FVec Ideal S1024x1024 .bf16) (j : Fin 1024) : ℝ := ∑ k, u k * re w (ix2 j k)

/-- The cotangent of the merged row. -/
def bdm (r : Fin 512) : Fin 1024 → ℝ := bmulT (brow dh r) wo

/-- The cotangent of a branch's row, gated by `g`. -/
def bdy (g : FVec Ideal S1x512x1024 .bf16) (r : Fin 512) (j : Fin 1024) : ℝ := bdm dh wo r j * sgm (prow g r j)

/-- The scaled and shifted row. -/
def bln (r : Fin 512) : Fin 1024 → ℝ := lnorm (hrow a1 r) (bvec lng) (bvec lnb)

/-- The cotangent of the scaled and shifted row. -/
def bda2 (r : Fin 512) (j : Fin 1024) : ℝ := bmulT (bdy dh wo ga r) wa j * siluGrad (bln a1 lng lnb r j)

/-- The cotangent of the normalised row. -/
def bdxh (r : Fin 512) (j : Fin 1024) : ℝ := bda2 dh a1 ga lng lnb wa wo r j * bvec lng j

/-- The cotangent of the first branch's activation, as computed. -/
def da3Pay : FVec Ideal S512x1024 .f32 := k0_pay22 (F := Ideal) (k0_pay16 (F := Ideal) (k0_pay6 (F := Ideal) dh wo) (k0_pay9 (F := Ideal) ga)) wa

/-- The scaled and shifted row, as computed. -/
def lnPay : FVec Ideal S512x1024 .f32 := k0_pay26 (F := Ideal) lng a1 lnb

/-- What a point stores into its block of the second result. -/
def da1Pay : FVec Ideal S512x1024 .bf16 :=
  k0_pay2 (F := Ideal) (k0_pay24 (F := Ideal) a1) (k0_pay25 (F := Ideal) a1) (k0_pay32 (F := Ideal) (da3Pay dh ga wa wo) lng (lnPay a1 lng lnb))
    (k0_pay33 (F := Ideal) (da3Pay dh ga wa wo) lng (lnPay a1 lng lnb)) (k0_pay34 (F := Ideal))

/-- What a point stores into its block of the third result. -/
def dqPay : FVec Ideal S512x1024 .bf16 := k0_pay21 (F := Ideal) (k0_pay17 (F := Ideal) (k0_pay6 (F := Ideal) dh wo) (k0_pay10 (F := Ideal) gb)) wb

/-- The row of the scale's gradient, over `acc`. -/
def gPay (acc : FVec Ideal S1x1024 .f32) : FVec Ideal S1x1024 .f32 :=
  k0_pay30 (F := Ideal) (da3Pay dh ga wa wo) (k0_pay25 (F := Ideal) a1) (lnPay a1 lng lnb) acc

/-- The row of the shift's gradient, over `acc`. -/
def bPay (acc : FVec Ideal S1x1024 .f32) : FVec Ideal S1x1024 .f32 :=
  k0_pay31 (F := Ideal) (da3Pay dh ga wa wo) (lnPay a1 lng lnb) acc

/-- The row of the bias's gradient, over `acc`. -/
def cPay (acc : FVec Ideal S1x1024 .f32) : FVec Ideal S1x1024 .f32 :=
  k0_pay3 (F := Ideal) (k0_pay24 (F := Ideal) a1) (k0_pay25 (F := Ideal) a1) (k0_pay32 (F := Ideal) (da3Pay dh ga wa wo) lng (lnPay a1 lng lnb))
    (k0_pay33 (F := Ideal) (da3Pay dh ga wa wo) lng (lnPay a1 lng lnb)) (k0_pay34 (F := Ideal)) acc

variable (hdh : Real dh) (hya : Real ya) (hyb : Real yb) (ha1 : Real a1) (hq : Real q) (hga : Real ga) (hgb : Real gb) (hlng : Real lng) (hlnb : Real lnb)
  (hwa : Real wa) (hwb : Real wb) (hwo : Real wo)

include hdh hwo in
theorem dm_pay (r : Fin 512) (j : Fin 1024) : k0_pay6 (F := Ideal) dh wo (ix2 r j) = ((bdm dh wo r j : ℝ) : EReal) := by
  pointwise [k0_pay6, k0_pay5]
  simp only [hdh.eq, hwo.eq, ← EReal.coe_mul, coe_sum]
  rfl

include hga in
theorem sa_pay (r : Fin 512) (j : Fin 1024) : k0_pay9 (F := Ideal) ga (ix2 r j) = ((sgm (prow ga r j) : ℝ) : EReal) := by
  pointwise [k0_pay9]
  rw [hga.eq, coe_sgm']
  rfl

include hgb in
theorem sb_pay (r : Fin 512) (j : Fin 1024) : k0_pay10 (F := Ideal) gb (ix2 r j) = ((sgm (prow gb r j) : ℝ) : EReal) := by
  pointwise [k0_pay10]
  rw [hgb.eq, coe_sgm']
  rfl

include hdh hwo hya hga in
/-- The first gate's gradient. -/
theorem dga_pay (r : Fin 512) (j : Fin 1024) :
    k0_pay14 (F := Ideal) (k0_pay6 (F := Ideal) dh wo) (k0_pay7 (F := Ideal) ya) (k0_pay9 (F := Ideal) ga) (ix3 0 r j)
      = ((bdm dh wo r j * hrow ya r j * (sgm (prow ga r j) * (1 - sgm (prow ga r j))) : ℝ) : EReal) := by
  pointwise [k0_pay14, k0_pay7]
  rw [dm_pay dh wo hdh hwo, sa_pay ga hga, hya.eq, one_sub_coe, ← EReal.coe_mul, ← EReal.coe_mul, ← EReal.coe_mul]
  rfl

include hdh hwo hyb hgb in
/-- The second gate's gradient. -/
theorem dgb_pay (r : Fin 512) (j : Fin 1024) :
    k0_pay15 (F := Ideal) (k0_pay6 (F := Ideal) dh wo) (k0_pay8 (F := Ideal) yb) (k0_pay10 (F := Ideal) gb) (ix3 0 r j)
      = ((bdm dh wo r j * hrow yb r j * (sgm (prow gb r j) * (1 - sgm (prow gb r j))) : ℝ) : EReal) := by
  pointwise [k0_pay15, k0_pay8]
  rw [dm_pay dh wo hdh hwo, sb_pay gb hgb, hyb.eq, one_sub_coe, ← EReal.coe_mul, ← EReal.coe_mul, ← EReal.coe_mul]
  rfl

include hya hyb hga hgb in
/-- The merged row. -/
theorem merged_pay (r : Fin 512) (j : Fin 1024) :
    k0_pay12 (F := Ideal) (k0_pay11 (F := Ideal) ya yb ga gb) (ix3 0 r j)
      = ((sgm (prow ga r j) * hrow ya r j + sgm (prow gb r j) * hrow yb r j : ℝ) : EReal) := by
  pointwise [k0_pay12, k0_pay11, k0_pay7, k0_pay8]
  rw [sa_pay ga hga, sb_pay gb hgb, hya.eq, hyb.eq, ← EReal.coe_mul, ← EReal.coe_mul, ← EReal.coe_add]
  rfl

include hq in
theorem q_pay (r : Fin 512) (j : Fin 1024) : k0_pay13 (F := Ideal) q (ix3 0 r j) = ((hrow q r j : ℝ) : EReal) := by
  pointwise [k0_pay13]
  exact hq.eq _

include hdh in
theorem dh_pay (r : Fin 512) (j : Fin 1024) : k0_pay18 (F := Ideal) (k0_pay5 (F := Ideal) dh) (ix3 0 r j) = ((brow dh r j : ℝ) : EReal) := by
  pointwise [k0_pay18, k0_pay5]
  exact hdh.eq _

include hdh hwo hga in
theorem dya_pay (r : Fin 512) (j : Fin 1024) : k0_pay19 (F := Ideal) (k0_pay6 (F := Ideal) dh wo) (k0_pay9 (F := Ideal) ga) (ix3 0 r j) = ((bdy dh wo ga r j : ℝ) : EReal) := by
  pointwise [k0_pay19, k0_pay16]
  rw [dm_pay dh wo hdh hwo, sa_pay ga hga, ← EReal.coe_mul]
  rfl

include hdh hwo hgb in
theorem dyb_pay (r : Fin 512) (j : Fin 1024) :
    k0_pay20 (F := Ideal) (k0_pay17 (F := Ideal) (k0_pay6 (F := Ideal) dh wo) (k0_pay10 (F := Ideal) gb)) (ix3 0 r j) = ((bdy dh wo gb r j : ℝ) : EReal) := by
  pointwise [k0_pay20, k0_pay17]
  rw [dm_pay dh wo hdh hwo, sb_pay gb hgb, ← EReal.coe_mul]
  rfl

include hdh hwo hgb hwb in
theorem dq_pay (r : Fin 512) (j : Fin 1024) : dqPay dh gb wb wo (ix2 r j) = ((bmulT (bdy dh wo gb r) wb j : ℝ) : EReal) := by
  pointwise [dqPay, k0_pay21, k0_pay17]
  simp only [dm_pay dh wo hdh hwo, sb_pay gb hgb, hwb.eq, ← EReal.coe_mul, coe_sum]
  rfl

include hdh hwo hga hwa in
theorem da3_pay (r : Fin 512) (j : Fin 1024) : da3Pay dh ga wa wo (ix2 r j) = ((bmulT (bdy dh wo ga r) wa j : ℝ) : EReal) := by
  pointwise [da3Pay, k0_pay22, k0_pay16]
  simp only [dm_pay dh wo hdh hwo, sa_pay ga hga, hwa.eq, ← EReal.coe_mul, coe_sum]
  rfl

include ha1 in
theorem xc_pay (r : Fin 512) (j : Fin 1024) : k0_pay23 (F := Ideal) a1 (ix2 r j) = ((cen (hrow a1 r) j : ℝ) : EReal) := by
  pointwise [k0_pay23]
  simp only [ha1.eq, lit_1024, coe_sum, coe_div (show (1024 : ℝ) ≠ 0 by norm_num), ← EReal.coe_sub]
  rfl

include ha1 in
theorem scale_pay (r : Fin 512) : k0_pay24 (F := Ideal) a1 (ix2 r 0) = ((lscale (hrow a1 r) : ℝ) : EReal) := by
  pointwise [k0_pay24]
  simp only [xc_pay a1 ha1, lit_1024, lit_eps, coe_sum, coe_div (show (1024 : ℝ) ≠ 0 by norm_num), ← EReal.coe_mul, ← EReal.coe_add]
  exact coe_rsqrt (var_pos (hrow a1 r))

include ha1 in
theorem xhat_pay (r : Fin 512) (j : Fin 1024) : k0_pay25 (F := Ideal) a1 (ix2 r j) = ((xhat (hrow a1 r) j : ℝ) : EReal) := by
  pointwise [k0_pay25]
  rw [xc_pay a1 ha1, scale_pay a1 ha1, ← EReal.coe_mul]
  rfl

include ha1 hlng hlnb in
theorem ln_pay (r : Fin 512) (j : Fin 1024) : lnPay a1 lng lnb (ix2 r j) = ((bln a1 lng lnb r j : ℝ) : EReal) := by
  pointwise [lnPay, k0_pay26]
  rw [xhat_pay a1 ha1, hlng.eq, hlnb.eq, ← EReal.coe_mul, ← EReal.coe_add]
  rfl

/-- The logistic function of an array's real entry. -/
theorem sg_pay (u : FVec Ideal S512x1024 .f32) (r : Fin 512) (j : Fin 1024) (s : ℝ) (h : u (ix2 r j) = (s : EReal)) :
    k0_pay27 (F := Ideal) u (ix2 r j) = ((sgm s : ℝ) : EReal) := by
  pointwise [k0_pay27]
  rw [h, coe_sgm']

include ha1 hlng hlnb in
/-- The activation. -/
theorem act_pay (r : Fin 512) (j : Fin 1024) :
    k0_pay28 (F := Ideal) (lnPay a1 lng lnb) (ix3 0 r j) = ((act (hrow a1 r) (bvec lng) (bvec lnb) j : ℝ) : EReal) := by
  pointwise [k0_pay28]
  have e := ln_pay a1 lng lnb ha1 hlng hlnb r j
  rw [sg_pay _ _ _ _ e, e, ← EReal.coe_mul]
  rfl

include hdh hwo hga hwa ha1 hlng hlnb

theorem da2_pay (r : Fin 512) (j : Fin 1024) :
    k0_pay29 (F := Ideal) (da3Pay dh ga wa wo) (lnPay a1 lng lnb) (ix2 r j) = ((bda2 dh a1 ga lng lnb wa wo r j : ℝ) : EReal) := by
  pointwise [k0_pay29]
  have e := ln_pay a1 lng lnb ha1 hlng hlnb r j
  rw [sg_pay _ _ _ _ e, e, da3_pay dh ga wa wo hdh hga hwa hwo, one_sub_coe]
  simp only [← EReal.coe_mul, one_add_coe]
  rfl

theorem dxh_pay (r : Fin 512) (j : Fin 1024) :
    k0_pay32 (F := Ideal) (da3Pay dh ga wa wo) lng (lnPay a1 lng lnb) (ix2 r j) = ((bdxh dh a1 ga lng lnb wa wo r j : ℝ) : EReal) := by
  pointwise [k0_pay32]
  rw [da2_pay dh a1 ga lng lnb wa wo hdh ha1 hga hlng hlnb hwa hwo, hlng.eq, ← EReal.coe_mul]
  rfl

theorem sum_pay (r : Fin 512) :
    k0_pay33 (F := Ideal) (da3Pay dh ga wa wo) lng (lnPay a1 lng lnb) (ix2 r 0) = ((∑ j, bdxh dh a1 ga lng lnb wa wo r j : ℝ) : EReal) := by
  pointwise [k0_pay33]
  simp only [dxh_pay dh a1 ga lng lnb wa wo hdh ha1 hga hlng hlnb hwa hwo, coe_sum]

theorem grad_pay (r : Fin 512) (j : Fin 1024) :
    k0_pay1 (F := Ideal) (k0_pay24 (F := Ideal) a1) (k0_pay25 (F := Ideal) a1) (k0_pay32 (F := Ideal) (da3Pay dh ga wa wo) lng (lnPay a1 lng lnb))
        (k0_pay33 (F := Ideal) (da3Pay dh ga wa wo) lng (lnPay a1 lng lnb)) (k0_pay34 (F := Ideal)) (ix2 r j)
      = ((lnGrad (hrow a1 r) (bdxh dh a1 ga lng lnb wa wo r) j : ℝ) : EReal) := by
  pointwise [k0_pay1, k0_pay34]
  simp only [dxh_pay dh a1 ga lng lnb wa wo hdh ha1 hga hlng hlnb hwa hwo, sum_pay dh a1 ga lng lnb wa wo hdh ha1 hga hlng hlnb hwa hwo,
    xhat_pay a1 ha1, scale_pay a1 ha1, lit_1024, coe_sum, coe_div (show (1024 : ℝ) ≠ 0 by norm_num), ← EReal.coe_mul, ← EReal.coe_sub]
  rfl

/-- The second result's payload: the gradient of the first branch's input. -/
theorem da1_pay (r : Fin 512) (j : Fin 1024) :
    da1Pay dh a1 ga lng lnb wa wo (ix2 r j) = ((lnGrad (hrow a1 r) (bdxh dh a1 ga lng lnb wa wo r) j : ℝ) : EReal) := by
  rw [← grad_pay dh a1 ga lng lnb wa wo hdh ha1 hga hlng hlnb hwa hwo]
  pointwise [da1Pay, k0_pay2]

/-- What a point adds to the scale's gradient. -/
theorem g_pay (acc : FVec Ideal S1x1024 .f32) (j : Fin 1024) : gPay dh a1 ga lng lnb wa wo acc (ix2 0 j)
    = acc (ix2 0 j) + ((∑ r : Fin 512, bda2 dh a1 ga lng lnb wa wo r j * xhat (hrow a1 r) j : ℝ) : EReal) := by
  pointwise [gPay, k0_pay30]
  simp only [da2_pay dh a1 ga lng lnb wa wo hdh ha1 hga hlng hlnb hwa hwo, xhat_pay a1 ha1, ← EReal.coe_mul, coe_sum]

/-- What a point adds to the shift's gradient. -/
theorem b_pay (acc : FVec Ideal S1x1024 .f32) (j : Fin 1024) : bPay dh a1 ga lng lnb wa wo acc (ix2 0 j)
    = acc (ix2 0 j) + ((∑ r : Fin 512, bda2 dh a1 ga lng lnb wa wo r j : ℝ) : EReal) := by
  pointwise [bPay, k0_pay31]
  simp only [da2_pay dh a1 ga lng lnb wa wo hdh ha1 hga hlng hlnb hwa hwo, coe_sum]

/-- What a point adds to the bias's gradient. -/
theorem c_pay (acc : FVec Ideal S1x1024 .f32) (j : Fin 1024) : cPay dh a1 ga lng lnb wa wo acc (ix2 0 j)
    = acc (ix2 0 j) + ((∑ r : Fin 512, lnGrad (hrow a1 r) (bdxh dh a1 ga lng lnb wa wo r) j : ℝ) : EReal) := by
  pointwise [cPay, k0_pay3]
  simp only [grad_pay dh a1 ga lng lnb wa wo hdh ha1 hga hlng hlnb hwa hwo, coe_sum]

end Cert.Kernel3Ideal.MixOut

end
-- ==== Proof.MixOutKernel.lean ====
module

public import proofs.«01_k».proof.Proof.Gen.Kernel3Ideal.Value
public import proofs.«01_k».proof.Proof.MixOutRef
public import proofs.«01_k».proof.Proof.MixOutPure
public import Idealize.ShloMosaic.Lib.Pipeline.ValueKit
public import Idealize.ShloMosaic.Lib.Claim
public import Idealize.ShloMosaic.Lib.Pipeline.ReadBack
public import Idealize.ShloMosaic.Lib.WritesUnit

@[expose] public section

set_option maxRecDepth 16384

noncomputable section

namespace Cert.Kernel3Ideal.MixOut

open Cert.Kernel3Ideal Cert.Kernel3Ideal.Gen Cert.Kernel3Ideal.Value Idealize.ShloMosaic Idealize.ShloMosaic.TcCoe Idealize.SL.Sem Cert.Reals
open Idealize.ShloMosaic.Pipeline (Dat)
open Cert.Reference3Ideal.MixOut (row vec mul mulT dm ya yb dya dyb da2 dxh)

variable (m : (ℓ : Loc nD τ sig) → Buf (Elt Ideal) ℓ)

/-- Argument 0. -/
abbrev X0 (c : Dev nD) : FVec Ideal S1x4096x1024 .f32 := m ((c : Thread nD τ).loc main_arg0)

/-- Argument 1. -/
abbrev X1 (c : Dev nD) : FVec Ideal S1x4096x1024 .f32 := m ((c : Thread nD τ).loc main_arg1)

/-- Argument 2. -/
abbrev X2 (c : Dev nD) : FVec Ideal S1x4096x1024 .f32 := m ((c : Thread nD τ).loc main_arg2)

/-- Argument 3. -/
abbrev X3 (c : Dev nD) : FVec Ideal S1x4096x1024 .f32 := m ((c : Thread nD τ).loc main_arg3)

/-- Argument 4. -/
abbrev X4 (c : Dev nD) : FVec Ideal S1x1024x1024 .f32 := m ((c : Thread nD τ).loc main_arg4)

/-- Argument 5. -/
abbrev X5 (c : Dev nD) : FVec Ideal S1x1024x1024 .f32 := m ((c : Thread nD τ).loc main_arg5)

/-- Argument 6. -/
abbrev X6 (c : Dev nD) : FVec Ideal S1x1024x1024 .f32 := m ((c : Thread nD τ).loc main_arg6)

/-- Argument 7. -/
abbrev X7 (c : Dev nD) : FVec Ideal S1x1024 .f32 := m ((c : Thread nD τ).loc main_arg7)

/-- Argument 8. -/
abbrev X8 (c : Dev nD) : FVec Ideal S1x1024 .f32 := m ((c : Thread nD τ).loc main_arg8)

/-- Argument 9. -/
abbrev X9 (c : Dev nD) : FVec Ideal S1x4096x1024 .f32 := m ((c : Thread nD τ).loc main_arg9)

theorem idx : ∀ t : Fin cfg0.N, (win0_0.index t = ![t.val, 0] ∧ win0_1.index t = ![t.val, 0] ∧ win0_2.index t = ![t.val, 0]
    ∧ win0_3.index t = ![5, t.val, 0] ∧ win0_4.index t = ![6, t.val, 0] ∧ win0_5.index t = ![t.val, 0] ∧ win0_6.index t = ![t.val, 0])
    ∧ (win0_7.index t = ![0, 0] ∧ win0_8.index t = ![0, 0] ∧ win0_9.index t = ![0, 0] ∧ win0_10.index t = ![1, 0] ∧ win0_11.index t = ![2, 0])
    ∧ (win0_12.index t = ![0, t.val, 0] ∧ win0_13.index t = ![t.val, 0] ∧ win0_14.index t = ![t.val, 0] ∧ win0_15.index t = ![0, t.val, 0]
    ∧ win0_16.index t = ![0, t.val, 0] ∧ win0_17.index t = ![0, 0]) ∧ t.val < 8 :=
  (by decide +kernel : ∀ t : Fin grid0.N, _)

theorem lt8 (t : Fin cfg0.N) : t.val < 8 := (idx t).2.2.2

/-- The row of the whole array that row `r` of point `t`'s block is. -/
def rowOf (t : Fin cfg0.N) (r : Fin 512) : Fin 4096 := ⟨t.val * 512 + r.val, by have := lt8 t; omega⟩

theorem dh_block (c : Dev nD) (t : Fin cfg0.N) (r : Fin 512) (k : Fin 1024) :
    (show EReal from iblk m c 0 t (ix2 r k)) = X9 m c (ix3 0 (rowOf t r) k) := by
  blk_simp [iblk, idx t]; entry_read; pointwise; blk_ext [idx t, rowOf]

theorem a1_block (c : Dev nD) (t : Fin cfg0.N) (r : Fin 512) (k : Fin 1024) :
    (show EReal from iblk m c 5 t (ix2 r k)) = X0 m c (ix3 0 (rowOf t r) k) := by
  blk_simp [iblk, idx t]; entry_read; pointwise; blk_ext [idx t, rowOf]

theorem q_block (c : Dev nD) (t : Fin cfg0.N) (r : Fin 512) (k : Fin 1024) :
    (show EReal from iblk m c 6 t (ix2 r k)) = X1 m c (ix3 0 (rowOf t r) k) := by
  blk_simp [iblk, idx t]; entry_read; pointwise; blk_ext [idx t, rowOf]

/-- The gates' rows, behind five planes that are not read. -/
theorem v2_entry (c : Dev nD) : V m c main_v2 = truncf .bf16 (concatenate S7x4096x1024 0 [⟨S5x4096x1024, (V m c main_v0 : FVec Ideal S5x4096x1024 .f32)⟩,
    ⟨S1x4096x1024, X2 m c⟩, ⟨S1x4096x1024, X3 m c⟩] concatenates_S5x4096x1024_S1x4096x1024_S1x4096x1024_S7x4096x1024_d0 : FVec Ideal S7x4096x1024 .f32) bitsLt_bf16_f32 := by
  unfold V
  after_results
  rfl

theorem ga_entry (c : Dev nD) (r : Fin 4096) (k : Fin 1024) : (show EReal from V m c main_v2 (ix3 5 r k)) = X2 m c (ix3 0 r k) := by
  rw [v2_entry]
  pointwise

theorem gb_entry (c : Dev nD) (r : Fin 4096) (k : Fin 1024) : (show EReal from V m c main_v2 (ix3 6 r k)) = X3 m c (ix3 0 r k) := by
  rw [v2_entry]
  pointwise

theorem ga_block (c : Dev nD) (t : Fin cfg0.N) (r : Fin 512) (k : Fin 1024) :
    (show EReal from iblk m c 3 t (ix3 0 r k)) = X2 m c (ix3 0 (rowOf t r) k) := by
  refine Eq.trans ?_ (ga_entry m c (rowOf t r) k)
  blk_simp [iblk, idx t]
  blk_ext [idx t, rowOf]

theorem gb_block (c : Dev nD) (t : Fin cfg0.N) (r : Fin 512) (k : Fin 1024) :
    (show EReal from iblk m c 4 t (ix3 0 r k)) = X3 m c (ix3 0 (rowOf t r) k) := by
  refine Eq.trans ?_ (gb_entry m c (rowOf t r) k)
  blk_simp [iblk, idx t]
  blk_ext [idx t, rowOf]

theorem lng_block (c : Dev nD) (t : Fin cfg0.N) (k : Fin 1024) :
    (show EReal from iblk m c 7 t (ix2 0 k)) = X7 m c (ix2 0 k) := by
  blk_simp [iblk, idx t]; entry_read; pointwise; blk_ext [idx t, rowOf]

theorem lnb_block (c : Dev nD) (t : Fin cfg0.N) (k : Fin 1024) :
    (show EReal from iblk m c 8 t (ix2 0 k)) = X8 m c (ix2 0 k) := by
  blk_simp [iblk, idx t]; entry_read; pointwise; blk_ext [idx t, rowOf]

/-- The first branch's rows that the host's forward lines leave. -/
theorem ya_entry (c : Dev nD) (h0 : Real (X0 m c)) (h4 : Real (X4 m c)) (h7 : Real (X7 m c)) (h8 : Real (X8 m c)) (t : Fin 4096) (k : Fin 1024) :
    (show EReal from V m c main_v38 (ix2 t k)) = ((ya (X0 m c) (X4 m c) (X7 m c) (X8 m c) t k : ℝ) : EReal) := by
  have hpos : 0 < (∑ i, (re (X0 m c) (ix3 0 t i) - (∑ i, re (X0 m c) (ix3 0 t i)) / 1024)
      * (re (X0 m c) (ix3 0 t i) - (∑ i, re (X0 m c) (ix3 0 t i)) / 1024)) / 1024 + eps := var_pos (row (X0 m c) t)
  have e0 := h0.eq
  have e4 := h4.eq
  have e7 := h7.eq
  have e8 := h8.eq
  entry_read
  pointwise
  simp only [e0, e4, e7, e8, lit_1024, lit_eps, coe_sum, coe_div (show (1024 : ℝ) ≠ 0 by norm_num), ← EReal.coe_sub, ← EReal.coe_mul, ← EReal.coe_add,
    coe_rsqrt hpos, coe_sgm]
  rfl

/-- The second branch's rows that the host's forward lines leave. -/
theorem yb_entry (c : Dev nD) (h1 : Real (X1 m c)) (h5 : Real (X5 m c)) (t : Fin 4096) (k : Fin 1024) :
    (show EReal from V m c main_v42 (ix2 t k)) = ((yb (X1 m c) (X5 m c) t k : ℝ) : EReal) := by
  have e1 := h1.eq
  have e5 := h5.eq
  entry_read
  pointwise
  simp only [e1, e5, coe_sum, ← EReal.coe_mul]
  rfl

theorem ya_block (c : Dev nD) (h0 : Real (X0 m c)) (h4 : Real (X4 m c)) (h7 : Real (X7 m c)) (h8 : Real (X8 m c)) (t : Fin cfg0.N) (r : Fin 512) (k : Fin 1024) :
    (show EReal from iblk m c 1 t (ix2 r k)) = ((ya (X0 m c) (X4 m c) (X7 m c) (X8 m c) (rowOf t r) k : ℝ) : EReal) := by
  refine Eq.trans ?_ (ya_entry m c h0 h4 h7 h8 (rowOf t r) k)
  blk_simp [iblk, idx t]
  blk_ext [idx t, rowOf]

theorem yb_block (c : Dev nD) (h1 : Real (X1 m c)) (h5 : Real (X5 m c)) (t : Fin cfg0.N) (r : Fin 512) (k : Fin 1024) :
    (show EReal from iblk m c 2 t (ix2 r k)) = ((yb (X1 m c) (X5 m c) (rowOf t r) k : ℝ) : EReal) := by
  refine Eq.trans ?_ (yb_entry m c h1 h5 (rowOf t r) k)
  blk_simp [iblk, idx t]
  blk_ext [idx t, rowOf]

/-- The three square weights, one above the other. -/
theorem v7_entry (c : Dev nD) : V m c main_v7 = truncf .bf16 (concatenate S3072x1024 0 [⟨S1024x1024, (V m c main_v3 : FVec Ideal S1024x1024 .f32)⟩,
    ⟨S1024x1024, (V m c main_v4 : FVec Ideal S1024x1024 .f32)⟩, ⟨S1024x1024, (V m c main_v5 : FVec Ideal S1024x1024 .f32)⟩]
    concatenates_S1024x1024_S1024x1024_S1024x1024_S3072x1024_d0 : FVec Ideal S3072x1024 .f32) bitsLt_bf16_f32 := by
  unfold V
  after_results
  rfl

theorem v3_entry (c : Dev nD) (r k : Fin 1024) : (show EReal from V m c main_v3 (ix2 r k)) = X4 m c (ix3 0 r k) := by
  entry_read
  pointwise

theorem wa_entry (c : Dev nD) (r k : Fin 1024) : (show EReal from V m c main_v7 (ix2 ⟨r.val, by omega⟩ k)) = X4 m c (ix3 0 r k) := by
  rw [v7_entry]
  pointwise
  exact v3_entry m c r k

theorem wa_block (c : Dev nD) (t : Fin cfg0.N) (r k : Fin 1024) : (show EReal from iblk m c 9 t (ix2 r k)) = X4 m c (ix3 0 r k) := by
  refine Eq.trans ?_ (wa_entry m c r k)
  blk_simp [iblk, idx t]
  blk_ext [idx t]

theorem v4_entry (c : Dev nD) (r k : Fin 1024) : (show EReal from V m c main_v4 (ix2 r k)) = X5 m c (ix3 0 r k) := by
  entry_read
  pointwise

theorem wb_entry (c : Dev nD) (r k : Fin 1024) : (show EReal from V m c main_v7 (ix2 ⟨1024 + r.val, by omega⟩ k)) = X5 m c (ix3 0 r k) := by
  rw [v7_entry]
  pointwise
  exact v4_entry m c r k

theorem wb_block (c : Dev nD) (t : Fin cfg0.N) (r k : Fin 1024) : (show EReal from iblk m c 10 t (ix2 r k)) = X5 m c (ix3 0 r k) := by
  refine Eq.trans ?_ (wb_entry m c r k)
  blk_simp [iblk, idx t]
  blk_ext [idx t]

theorem v5_entry (c : Dev nD) (r k : Fin 1024) : (show EReal from V m c main_v5 (ix2 r k)) = X6 m c (ix3 0 r k) := by
  entry_read
  pointwise

theorem wo_entry (c : Dev nD) (r k : Fin 1024) : (show EReal from V m c main_v7 (ix2 ⟨2048 + r.val, by omega⟩ k)) = X6 m c (ix3 0 r k) := by
  rw [v7_entry]
  pointwise
  rw [dif_neg (by omega), dif_neg (by omega)]
  exact (v5_entry m c ⟨2048 + r.val - 1024 - 1024, by omega⟩ k).trans (congrArg (fun i => X6 m c (ix3 0 i k)) (Fin.ext (by show 2048 + r.val - 1024 - 1024 = r.val; omega)))

theorem wo_block (c : Dev nD) (t : Fin cfg0.N) (r k : Fin 1024) : (show EReal from iblk m c 11 t (ix2 r k)) = X6 m c (ix3 0 r k) := by
  refine Eq.trans ?_ (wo_entry m c r k)
  blk_simp [iblk, idx t]
  blk_ext [idx t]

/-- An index of a plane, by its last two coordinates. -/
theorem plane_idx (x : S1x512x1024.Idx) (r : Fin 512) (k : Fin 1024) (h1 : r.val = (x 1).val) (h2 : k.val = (x 2).val) : x = ix3 0 r k := by
  have e0 : (x 0).val = 0 := Nat.lt_one_iff.1 (x 0).isLt
  funext i
  fin_cases i
  · exact Fin.ext e0
  · exact Fin.ext h1.symm
  · exact Fin.ext h2.symm

/-- What point `t` stores into its block of the first result, plane by plane. -/
theorem point12 (c : Dev nD) (t : Fin cfg0.N) (a : Fin 2) (r : Fin 512) (k : Fin 1024) :
    (outsAt0 m c t.val t.isLt).1 (ix3 a r k) = if a.val = 0 then k0_pay14 (F := Ideal) (k0_pay6 (F := Ideal) (iblk m c 0 t) (iblk m c 11 t)) (k0_pay7 (F := Ideal) (iblk m c 1 t)) (k0_pay9 (F := Ideal) (iblk m c 3 t)) (ix3 0 r k)
      else k0_pay15 (F := Ideal) (k0_pay6 (F := Ideal) (iblk m c 0 t) (iblk m c 11 t)) (k0_pay8 (F := Ideal) (iblk m c 2 t)) (k0_pay10 (F := Ideal) (iblk m c 4 t)) (ix3 0 r k) := by
  by_cases hc : t.val % 8 = 0
  · rw [outsAt0_A m c t hc]
    frame_out
    canon_tiles x h
    · have h0 : a.val = 1 + (x 0).val := h0
      rw [plane_idx x r k h1 h2, if_neg (by have := x0_lt; omega : ¬ a.val = 0)]
    · have h0 : a.val = (x 0).val := h0
      rw [plane_idx x r k h1 h2, if_pos (by have := x0_lt; omega : a.val = 0)]
  · rw [outsAt0_B m c t hc]
    frame_out
    canon_tiles x h
    · have h0 : a.val = 1 + (x 0).val := h0
      rw [plane_idx x r k h1 h2, if_neg (by have := x0_lt; omega : ¬ a.val = 0)]
    · have h0 : a.val = (x 0).val := h0
      rw [plane_idx x r k h1 h2, if_pos (by have := x0_lt; omega : a.val = 0)]

/-- What point `t` stores into its block of the second result. -/
theorem point13 (c : Dev nD) (t : Fin cfg0.N) (j : S512x1024.Idx) :
    (outsAt0 m c t.val t.isLt).2.1 (j) = da1Pay (iblk m c 0 t) (iblk m c 5 t) (iblk m c 3 t) (iblk m c 7 t) (iblk m c 8 t) (iblk m c 9 t) (iblk m c 11 t) j := by
  by_cases hc : t.val % 8 = 0
  · rw [outsAt0_A m c t hc]
    frame_out
    rfl
  · rw [outsAt0_B m c t hc]
    frame_out
    rfl

/-- What point `t` stores into its block of the third result. -/
theorem point14 (c : Dev nD) (t : Fin cfg0.N) (j : S512x1024.Idx) :
    (outsAt0 m c t.val t.isLt).2.2.1 (j) = dqPay (iblk m c 0 t) (iblk m c 4 t) (iblk m c 10 t) (iblk m c 11 t) j := by
  by_cases hc : t.val % 8 = 0
  · rw [outsAt0_A m c t hc]
    frame_out
    rfl
  · rw [outsAt0_B m c t hc]
    frame_out
    rfl

/-- What point `t` stores into its block of the fourth result, plane by plane. -/
theorem point15 (c : Dev nD) (t : Fin cfg0.N) (a : Fin 3) (r : Fin 512) (k : Fin 1024) :
    (outsAt0 m c t.val t.isLt).2.2.2.1 (ix3 a r k) = if a.val = 0 then k0_pay12 (F := Ideal) (k0_pay11 (F := Ideal) (iblk m c 1 t) (iblk m c 2 t) (iblk m c 3 t) (iblk m c 4 t)) (ix3 0 r k)
      else if a.val = 1 then k0_pay28 (F := Ideal) (lnPay (iblk m c 5 t) (iblk m c 7 t) (iblk m c 8 t)) (ix3 0 r k) else k0_pay13 (F := Ideal) (iblk m c 6 t) (ix3 0 r k) := by
  by_cases hc : t.val % 8 = 0
  · rw [outsAt0_A m c t hc]
    frame_out
    canon_tiles x h
    · have h0 : a.val = 1 + (x 0).val := h0
      rw [plane_idx x r k h1 h2, if_neg (by have := x0_lt; omega : ¬ a.val = 0), if_pos (by have := x0_lt; omega : a.val = 1)]
      rfl
    · have h0 : a.val = 2 + (x 0).val := h0
      rw [plane_idx x r k h1 h2, if_neg (by have := x0_lt; omega : ¬ a.val = 0), if_neg (by have := x0_lt; omega : ¬ a.val = 1)]
    · have h0 : a.val = (x 0).val := h0
      rw [plane_idx x r k h1 h2, if_pos (by have := x0_lt; omega : a.val = 0)]
  · rw [outsAt0_B m c t hc]
    frame_out
    canon_tiles x h
    · have h0 : a.val = 1 + (x 0).val := h0
      rw [plane_idx x r k h1 h2, if_neg (by have := x0_lt; omega : ¬ a.val = 0), if_pos (by have := x0_lt; omega : a.val = 1)]
      rfl
    · have h0 : a.val = 2 + (x 0).val := h0
      rw [plane_idx x r k h1 h2, if_neg (by have := x0_lt; omega : ¬ a.val = 0), if_neg (by have := x0_lt; omega : ¬ a.val = 1)]
    · have h0 : a.val = (x 0).val := h0
      rw [plane_idx x r k h1 h2, if_pos (by have := x0_lt; omega : a.val = 0)]

/-- What point `t` stores into its block of the fifth result, plane by plane. -/
theorem point16 (c : Dev nD) (t : Fin cfg0.N) (a : Fin 3) (r : Fin 512) (k : Fin 1024) :
    (outsAt0 m c t.val t.isLt).2.2.2.2.1 (ix3 a r k) = if a.val = 0 then k0_pay18 (F := Ideal) (k0_pay5 (F := Ideal) (iblk m c 0 t)) (ix3 0 r k)
      else if a.val = 1 then k0_pay19 (F := Ideal) (k0_pay6 (F := Ideal) (iblk m c 0 t) (iblk m c 11 t)) (k0_pay9 (F := Ideal) (iblk m c 3 t)) (ix3 0 r k) else k0_pay20 (F := Ideal) (k0_pay17 (F := Ideal) (k0_pay6 (F := Ideal) (iblk m c 0 t) (iblk m c 11 t)) (k0_pay10 (F := Ideal) (iblk m c 4 t))) (ix3 0 r k) := by
  by_cases hc : t.val % 8 = 0
  · rw [outsAt0_A m c t hc]
    frame_out
    canon_tiles x h
    · have h0 : a.val = 2 + (x 0).val := h0
      rw [plane_idx x r k h1 h2, if_neg (by have := x0_lt; omega : ¬ a.val = 0), if_neg (by have := x0_lt; omega : ¬ a.val = 1)]
    · have h0 : a.val = 1 + (x 0).val := h0
      rw [plane_idx x r k h1 h2, if_neg (by have := x0_lt; omega : ¬ a.val = 0), if_pos (by have := x0_lt; omega : a.val = 1)]
    · have h0 : a.val = (x 0).val := h0
      rw [plane_idx x r k h1 h2, if_pos (by have := x0_lt; omega : a.val = 0)]
  · rw [outsAt0_B m c t hc]
    frame_out
    canon_tiles x h
    · have h0 : a.val = 2 + (x 0).val := h0
      rw [plane_idx x r k h1 h2, if_neg (by have := x0_lt; omega : ¬ a.val = 0), if_neg (by have := x0_lt; omega : ¬ a.val = 1)]
    · have h0 : a.val = 1 + (x 0).val := h0
      rw [plane_idx x r k h1 h2, if_neg (by have := x0_lt; omega : ¬ a.val = 0), if_pos (by have := x0_lt; omega : a.val = 1)]
    · have h0 : a.val = (x 0).val := h0
      rw [plane_idx x r k h1 h2, if_pos (by have := x0_lt; omega : a.val = 0)]

/-- Row `o` of a block reads the row stored last. -/
theorem row_hit {κ : Kind} {sp : Space} (o : ℕ) (v : View sig κ sp S8x1024 .f32) (f : v.ty.Contents (Elt Ideal)) (inb)
    (w : (Rect.unit (s := S8x1024) ![o, 0] ![1, 1024] inb).shape.Idx → EReal) (L : List (View.Piece (Elt Ideal) S8x1024 .f32)) (r : Fin 8) (k : Fin 1024) (h : r.val = o) :
    v.read (Elt Ideal) (v.writes (Elt Ideal) f (⟨Rect.unit (s := S8x1024) ![o, 0] ![1, 1024] inb, w⟩ :: L)) (ix2 r k) = w (ix2 0 k) :=
  View.read_writes_cons_rows_of_mem (o := o) v f inb w L (ix2 r k) (ix2 0 k) rfl (h.trans rfl) rfl

/-- Every other row reads what was there before. -/
theorem row_miss {κ : Kind} {sp : Space} (o : ℕ) (v : View sig κ sp S8x1024 .f32) (f : v.ty.Contents (Elt Ideal)) (inb)
    (w : (Rect.unit (s := S8x1024) ![o, 0] ![1, 1024] inb).shape.Idx → EReal) (L : List (View.Piece (Elt Ideal) S8x1024 .f32)) (r : Fin 8) (k : Fin 1024) (h : ¬ r.val = o) :
    v.read (Elt Ideal) (v.writes (Elt Ideal) f (⟨Rect.unit (s := S8x1024) ![o, 0] ![1, 1024] inb, w⟩ :: L)) (ix2 r k) = v.read (Elt Ideal) (v.writes (Elt Ideal) f L) (ix2 r k) :=
  View.read_writes_cons_rows_of_not_mem (o := o) (W := 1) v f inb w L (ix2 r k) rfl rfl (by
    show r.val < o ∨ o + 1 ≤ r.val
    omega)

/-- Row `o` of a block, loaded. -/
theorem ld_row (o : ℕ) (v : FVec Ideal S8x1024 .f32) (inb) (r : Fin 8) (k : Fin 1024) (h : r.val = o) :
    View.ld (Val := Elt Ideal) (e' := .f32) v (Rect.unit (s := S8x1024) ![o, 0] ![1, 1024] inb) (ix2 0 k) = v (ix2 r k) := by
  refine congrArg v ?_
  funext a; fin_cases a <;> exact Fin.ext ((ValueKit.rect_emb_unit_val _ _ _ _ _).trans (by first | exact h.symm | exact Nat.zero_add _))

/-- What point `t` adds to the sixth result. -/
def term (c : Dev nD) (t : Fin cfg0.N) (y : S8x1024.Idx) : EReal :=
  if (y 0).val = 0 then gPay (iblk m c 0 t) (iblk m c 5 t) (iblk m c 3 t) (iblk m c 7 t) (iblk m c 8 t) (iblk m c 9 t) (iblk m c 11 t) (fun _ => 0) (ix2 0 (y 1))
  else if (y 0).val = 1 then bPay (iblk m c 0 t) (iblk m c 5 t) (iblk m c 3 t) (iblk m c 7 t) (iblk m c 8 t) (iblk m c 9 t) (iblk m c 11 t) (fun _ => 0) (ix2 0 (y 1))
  else if (y 0).val = 2 then cPay (iblk m c 0 t) (iblk m c 5 t) (iblk m c 3 t) (iblk m c 7 t) (iblk m c 8 t) (iblk m c 9 t) (iblk m c 11 t) (fun _ => 0) (ix2 0 (y 1)) else 0

theorem term_0 (c : Dev nD) (t : Fin cfg0.N) (r : Fin 8) (k : Fin 1024) (h : r.val = 0) :
    term m c t (ix2 r k) = gPay (iblk m c 0 t) (iblk m c 5 t) (iblk m c 3 t) (iblk m c 7 t) (iblk m c 8 t) (iblk m c 9 t) (iblk m c 11 t) (fun _ => 0) (ix2 0 k) := if_pos h

theorem term_1 (c : Dev nD) (t : Fin cfg0.N) (r : Fin 8) (k : Fin 1024) (h : r.val = 1) :
    term m c t (ix2 r k) = bPay (iblk m c 0 t) (iblk m c 5 t) (iblk m c 3 t) (iblk m c 7 t) (iblk m c 8 t) (iblk m c 9 t) (iblk m c 11 t) (fun _ => 0) (ix2 0 k) :=
  (if_neg (by show ¬ r.val = 0; omega)).trans (if_pos h)

theorem term_2 (c : Dev nD) (t : Fin cfg0.N) (r : Fin 8) (k : Fin 1024) (h : r.val = 2) :
    term m c t (ix2 r k) = cPay (iblk m c 0 t) (iblk m c 5 t) (iblk m c 3 t) (iblk m c 7 t) (iblk m c 8 t) (iblk m c 9 t) (iblk m c 11 t) (fun _ => 0) (ix2 0 k) :=
  (if_neg (by show ¬ r.val = 0; omega)).trans ((if_neg (by show ¬ r.val = 1; omega)).trans (if_pos h))

theorem term_miss (c : Dev nD) (t : Fin cfg0.N) (r : Fin 8) (k : Fin 1024) (h0 : ¬ r.val = 0) (h1 : ¬ r.val = 1) (h2 : ¬ r.val = 2) :
    term m c t (ix2 r k) = 0 := (if_neg h0).trans ((if_neg h1).trans (if_neg h2))

/-- The block that the first point fills the sixth result with. -/
theorem pay4_apply (y : S8x1024.Idx) : k0_pay4 (F := Ideal) y = (0 : EReal) := by
  idx_vars y
  pointwise [k0_pay4]

theorem g_acc (c : Dev nD) (t : Fin cfg0.N) (acc : FVec Ideal S1x1024 .f32) (k : Fin 1024) :
    gPay (iblk m c 0 t) (iblk m c 5 t) (iblk m c 3 t) (iblk m c 7 t) (iblk m c 8 t) (iblk m c 9 t) (iblk m c 11 t) acc (ix2 0 k) = acc (ix2 0 k) + gPay (iblk m c 0 t) (iblk m c 5 t) (iblk m c 3 t) (iblk m c 7 t) (iblk m c 8 t) (iblk m c 9 t) (iblk m c 11 t) (fun _ => 0) (ix2 0 k) := by
  pointwise [gPay, k0_pay30]

theorem b_acc (c : Dev nD) (t : Fin cfg0.N) (acc : FVec Ideal S1x1024 .f32) (k : Fin 1024) :
    bPay (iblk m c 0 t) (iblk m c 5 t) (iblk m c 3 t) (iblk m c 7 t) (iblk m c 8 t) (iblk m c 9 t) (iblk m c 11 t) acc (ix2 0 k) = acc (ix2 0 k) + bPay (iblk m c 0 t) (iblk m c 5 t) (iblk m c 3 t) (iblk m c 7 t) (iblk m c 8 t) (iblk m c 9 t) (iblk m c 11 t) (fun _ => 0) (ix2 0 k) := by
  pointwise [bPay, k0_pay31]

theorem c_acc (c : Dev nD) (t : Fin cfg0.N) (acc : FVec Ideal S1x1024 .f32) (k : Fin 1024) :
    cPay (iblk m c 0 t) (iblk m c 5 t) (iblk m c 3 t) (iblk m c 7 t) (iblk m c 8 t) (iblk m c 9 t) (iblk m c 11 t) acc (ix2 0 k) = acc (ix2 0 k) + cPay (iblk m c 0 t) (iblk m c 5 t) (iblk m c 3 t) (iblk m c 7 t) (iblk m c 8 t) (iblk m c 9 t) (iblk m c 11 t) (fun _ => 0) (ix2 0 k) := by
  pointwise [cPay, k0_pay3]

/-- The sixth result's block after a later point. -/
theorem point17_B (c : Dev nD) (t : Fin cfg0.N) (hc : ¬ t.val % 8 = 0) (y : S8x1024.Idx) :
    (outsAt0 m c t.val t.isLt).2.2.2.2.2 y = (outsAt0 m c (t.val - 1) (Nat.lt_of_le_of_lt (Nat.sub_le _ _) t.isLt)).2.2.2.2.2 y + term m c t y := by
  rw [outsAt0_B m c t hc]
  frame_out
  idx_vars y
  by_cases a0 : y0.val = 0
  · rw [row_miss 2 (h := by omega), row_miss 1 (h := by omega), row_hit 0 (h := a0), term_0 m c t y0 y1 a0]
    refine (g_acc m c t _ y1).trans (congrArg (fun a : EReal => a + _) (ld_row 0 _ _ y0 y1 a0))
  by_cases a1 : y0.val = 1
  · rw [row_miss 2 (h := by omega), row_hit 1 (h := a1), term_1 m c t y0 y1 a1]
    refine (b_acc m c t _ y1).trans (congrArg (fun a : EReal => a + _) (ld_row 1 _ _ y0 y1 a1))
  by_cases a2 : y0.val = 2
  · rw [row_hit 2 (h := a2), term_2 m c t y0 y1 a2]
    refine (c_acc m c t _ y1).trans (congrArg (fun a : EReal => a + _) (ld_row 2 _ _ y0 y1 a2))
  rw [row_miss 2 (h := a2), row_miss 1 (h := a1), row_miss 0 (h := a0), View.writes_nil, Memref.IsWhole.read_unread, term_miss m c t y0 y1 a0 a1 a2, add_zero]

/-- An index of a row, in the block. -/
theorem row_idx (o : ℕ) (inb) (k : Fin 1024) (r : Fin 8) (h : r.val = o) :
    (Rect.unit (s := S8x1024) ![o, 0] ![1, 1024] inb).toLoadRect.idx (ix2 0 k) = ix2 r k := by
  funext a; fin_cases a <;> exact Fin.ext ((ValueKit.rect_emb_unit_val _ _ _ _ _).trans (by first | exact h.symm | exact Nat.zero_add _))

/-- The fill is zero. -/
theorem fill_zero {κ : Kind} {sp : Space} (v : View sig κ sp S8x1024 .f32) (inb) (y : S8x1024.Idx) :
    v.read (Elt Ideal) (v.writes (Elt Ideal) v.junk [⟨Rect.unit (s := S8x1024) ![0, 0] ![8, 1024] inb, k0_pay4 (F := Ideal)⟩]) y = (0 : EReal) := by
  rw [View.read_writes_junk_eq_canon, View.canon_cons_unit_lit _ _ _ (by decide)]
  exact pay4_apply _

/-- The sixth result's block after the first point. -/
theorem point17_A (c : Dev nD) (t : Fin cfg0.N) (hc : t.val % 8 = 0) (y : S8x1024.Idx) :
    (outsAt0 m c t.val t.isLt).2.2.2.2.2 y = (0 : EReal) + term m c t y := by
  rw [outsAt0_A m c t hc]
  frame_out
  rw [← View.read_writes_junk_eq_canon (ms0_17 t).view]
  simp only [View.readCov_eq_canon', ← View.read_writes_junk_eq_canon (ms0_17 t).view]
  idx_vars y
  by_cases a0 : y0.val = 0
  · rw [row_miss 2 (h := by omega), row_miss 1 (h := by omega), row_hit 0 (h := a0), term_0 m c t y0 y1 a0]
    refine (g_acc m c t _ y1).trans (congrArg (fun a : EReal => a + _) ?_)
    rw [row_idx 0 _ y1 y0 a0, fill_zero]
  by_cases a1 : y0.val = 1
  · rw [row_miss 2 (h := by omega), row_hit 1 (h := a1), term_1 m c t y0 y1 a1]
    refine (b_acc m c t _ y1).trans (congrArg (fun a : EReal => a + _) ?_)
    rw [row_idx 1 _ y1 y0 a1, row_miss 0 (h := by omega), fill_zero]
  by_cases a2 : y0.val = 2
  · rw [row_hit 2 (h := a2), term_2 m c t y0 y1 a2]
    refine (c_acc m c t _ y1).trans (congrArg (fun a : EReal => a + _) ?_)
    rw [row_idx 2 _ y1 y0 a2, row_miss 1 (h := by omega), row_miss 0 (h := by omega), fill_zero]
  rw [row_miss 2 (h := a2), row_miss 1 (h := a1), row_miss 0 (h := a0), fill_zero, term_miss m c t y0 y1 a0 a1 a2, add_zero]

section Values

variable (c : Dev nD) (h0 : Real (X0 m c)) (h1 : Real (X1 m c)) (h2 : Real (X2 m c)) (h3 : Real (X3 m c)) (h4 : Real (X4 m c)) (h5 : Real (X5 m c))
  (h6 : Real (X6 m c)) (h7 : Real (X7 m c)) (h8 : Real (X8 m c)) (h9 : Real (X9 m c))

include h9 in
theorem dh_real (t : Fin cfg0.N) : Real (show FVec Ideal S512x1024 .f32 from iblk m c 0 t) := fun j => by
  idx_vars j
  exact (h9 _).imp fun _ e => (dh_block m c t j0 j1).trans e

include h0 in
theorem a1_real (t : Fin cfg0.N) : Real (show FVec Ideal S512x1024 .bf16 from iblk m c 5 t) := fun j => by
  idx_vars j
  exact (h0 _).imp fun _ e => (a1_block m c t j0 j1).trans e

include h1 in
theorem q_real (t : Fin cfg0.N) : Real (show FVec Ideal S512x1024 .bf16 from iblk m c 6 t) := fun j => by
  idx_vars j
  exact (h1 _).imp fun _ e => (q_block m c t j0 j1).trans e

include h2 in
theorem ga_real (t : Fin cfg0.N) : Real (show FVec Ideal S1x512x1024 .bf16 from iblk m c 3 t) := fun j => by
  idx_vars j
  obtain rfl : j0 = 0 := Subsingleton.elim _ _
  exact (h2 _).imp fun _ e => (ga_block m c t j1 j2).trans e

include h3 in
theorem gb_real (t : Fin cfg0.N) : Real (show FVec Ideal S1x512x1024 .bf16 from iblk m c 4 t) := fun j => by
  idx_vars j
  obtain rfl : j0 = 0 := Subsingleton.elim _ _
  exact (h3 _).imp fun _ e => (gb_block m c t j1 j2).trans e

include h7 in
theorem lng_real (t : Fin cfg0.N) : Real (show FVec Ideal S1x1024 .f32 from iblk m c 7 t) := fun j => by
  idx_vars j
  obtain rfl : j0 = 0 := Subsingleton.elim _ _
  exact (h7 _).imp fun _ e => (lng_block m c t j1).trans e

include h8 in
theorem lnb_real (t : Fin cfg0.N) : Real (show FVec Ideal S1x1024 .f32 from iblk m c 8 t) := fun j => by
  idx_vars j
  obtain rfl : j0 = 0 := Subsingleton.elim _ _
  exact (h8 _).imp fun _ e => (lnb_block m c t j1).trans e

include h4 in
theorem wa_real (t : Fin cfg0.N) : Real (show FVec Ideal S1024x1024 .bf16 from iblk m c 9 t) := fun j => by
  idx_vars j
  exact (h4 _).imp fun _ e => (wa_block m c t j0 j1).trans e

include h5 in
theorem wb_real (t : Fin cfg0.N) : Real (show FVec Ideal S1024x1024 .bf16 from iblk m c 10 t) := fun j => by
  idx_vars j
  exact (h5 _).imp fun _ e => (wb_block m c t j0 j1).trans e

include h6 in
theorem wo_real (t : Fin cfg0.N) : Real (show FVec Ideal S1024x1024 .bf16 from iblk m c 11 t) := fun j => by
  idx_vars j
  exact (h6 _).imp fun _ e => (wo_block m c t j0 j1).trans e

include h0 h4 h7 h8 in
theorem ya_real (t : Fin cfg0.N) : Real (show FVec Ideal S512x1024 .bf16 from iblk m c 1 t) := fun j => by
  idx_vars j
  exact ⟨_, ya_block m c h0 h4 h7 h8 t j0 j1⟩

include h1 h5 in
theorem yb_real (t : Fin cfg0.N) : Real (show FVec Ideal S512x1024 .bf16 from iblk m c 2 t) := fun j => by
  idx_vars j
  exact ⟨_, yb_block m c h1 h5 t j0 j1⟩

theorem dh_row (t : Fin cfg0.N) (r : Fin 512) : brow (iblk m c 0 t) r = row (X9 m c) (rowOf t r) := funext fun k => congrArg EReal.toReal (dh_block m c t r k)

theorem a1_row (t : Fin cfg0.N) (r : Fin 512) : hrow (iblk m c 5 t) r = row (X0 m c) (rowOf t r) := funext fun k => congrArg EReal.toReal (a1_block m c t r k)

theorem q_row (t : Fin cfg0.N) (r : Fin 512) : hrow (iblk m c 6 t) r = row (X1 m c) (rowOf t r) := funext fun k => congrArg EReal.toReal (q_block m c t r k)

theorem ga_row (t : Fin cfg0.N) (r : Fin 512) : prow (iblk m c 3 t) r = row (X2 m c) (rowOf t r) := funext fun k => congrArg EReal.toReal (ga_block m c t r k)

theorem gb_row (t : Fin cfg0.N) (r : Fin 512) : prow (iblk m c 4 t) r = row (X3 m c) (rowOf t r) := funext fun k => congrArg EReal.toReal (gb_block m c t r k)

theorem lng_row (t : Fin cfg0.N) : bvec (iblk m c 7 t) = vec (X7 m c) := funext fun k => congrArg EReal.toReal (lng_block m c t k)

theorem lnb_row (t : Fin cfg0.N) : bvec (iblk m c 8 t) = vec (X8 m c) := funext fun k => congrArg EReal.toReal (lnb_block m c t k)

theorem wa_mul (t : Fin cfg0.N) (u : Fin 1024 → ℝ) : bmulT u (iblk m c 9 t) = mulT u (X4 m c) :=
  funext fun j => Finset.sum_congr rfl fun k _ => congrArg (u k * ·) (congrArg EReal.toReal (wa_block m c t j k))

theorem wb_mul (t : Fin cfg0.N) (u : Fin 1024 → ℝ) : bmulT u (iblk m c 10 t) = mulT u (X5 m c) :=
  funext fun j => Finset.sum_congr rfl fun k _ => congrArg (u k * ·) (congrArg EReal.toReal (wb_block m c t j k))

theorem wo_mul (t : Fin cfg0.N) (u : Fin 1024 → ℝ) : bmulT u (iblk m c 11 t) = mulT u (X6 m c) :=
  funext fun j => Finset.sum_congr rfl fun k _ => congrArg (u k * ·) (congrArg EReal.toReal (wo_block m c t j k))

include h0 h4 h7 h8 in
theorem ya_row (t : Fin cfg0.N) (r : Fin 512) : hrow (iblk m c 1 t) r = ya (X0 m c) (X4 m c) (X7 m c) (X8 m c) (rowOf t r) :=
  funext fun k => congrArg EReal.toReal (ya_block m c h0 h4 h7 h8 t r k)

include h1 h5 in
theorem yb_row (t : Fin cfg0.N) (r : Fin 512) : hrow (iblk m c 2 t) r = yb (X1 m c) (X5 m c) (rowOf t r) :=
  funext fun k => congrArg EReal.toReal (yb_block m c h1 h5 t r k)

theorem dm_eq (t : Fin cfg0.N) (r : Fin 512) : bdm (iblk m c 0 t) (iblk m c 11 t) r = dm (X6 m c) (X9 m c) (rowOf t r) := by
  unfold bdm dm; rw [dh_row, wo_mul]

theorem dya_eq (t : Fin cfg0.N) (r : Fin 512) : bdy (iblk m c 0 t) (iblk m c 11 t) (iblk m c 3 t) r = dya (X2 m c) (X6 m c) (X9 m c) (rowOf t r) :=
  funext fun j => by unfold bdy dya; rw [dm_eq, ga_row]

theorem dyb_eq (t : Fin cfg0.N) (r : Fin 512) : bdy (iblk m c 0 t) (iblk m c 11 t) (iblk m c 4 t) r = dyb (X3 m c) (X6 m c) (X9 m c) (rowOf t r) :=
  funext fun j => by unfold bdy dyb; rw [dm_eq, gb_row]

theorem da2_eq (t : Fin cfg0.N) (r : Fin 512) : bda2 (iblk m c 0 t) (iblk m c 5 t) (iblk m c 3 t) (iblk m c 7 t) (iblk m c 8 t) (iblk m c 9 t) (iblk m c 11 t) r
    = da2 (X0 m c) (X2 m c) (X4 m c) (X6 m c) (X7 m c) (X8 m c) (X9 m c) (rowOf t r) :=
  funext fun j => by unfold bda2 da2 bln; rw [dya_eq, wa_mul, a1_row, lng_row, lnb_row]

theorem dxh_eq (t : Fin cfg0.N) (r : Fin 512) : bdxh (iblk m c 0 t) (iblk m c 5 t) (iblk m c 3 t) (iblk m c 7 t) (iblk m c 8 t) (iblk m c 9 t) (iblk m c 11 t) r
    = dxh (X0 m c) (X2 m c) (X4 m c) (X6 m c) (X7 m c) (X8 m c) (X9 m c) (rowOf t r) :=
  funext fun j => by unfold bdxh dxh; rw [da2_eq, lng_row]

include h0 h1 h2 h3 h4 h5 h6 h7 h8 h9 in
/-- The gates' gradients. -/
theorem out12 : (dats m 0 c).arrAt 12 cfg0.N = Cert.Reference3Ideal.Read.val_main_v189 (F := Ideal) (X0 m c) (X1 m c) (X2 m c) (X3 m c) (X4 m c) (X5 m c) (X6 m c) (X7 m c) (X8 m c) (X9 m c) := by
  refine (dats m 0 c).arrAt_eq_of_covers 12 _ (by decide +kernel) fun t hf y => ?_
  blk_simp
  rw [after0_12]
  idx_vars y
  rw [point12]
  have e : ((View.whole main_v48_0).slice (win0_12.rect t)).emb (ix3 y0 y1 y2) = ix3 y0 (rowOf t y1) y2 := by blk_ext [idx t, rowOf]
  rw [e, Cert.Reference3Ideal.MixOut.gates_apply _ _ _ _ _ _ _ _ _ _ h0 h1 h2 h3 h4 h5 h6 h7 h8 h9]
  by_cases a : y0 = 0
  · rw [if_pos a, if_pos (show y0.val = 0 from congrArg Fin.val a)]
    refine (dga_pay _ _ _ _ (dh_real m c h9 t) (ya_real m c h0 h4 h7 h8 t) (ga_real m c h2 t) (wo_real m c h6 t) y1 y2).trans (congrArg _ ?_)
    rw [dm_eq, ya_row m c h0 h4 h7 h8, ga_row]
  · rw [if_neg a, if_neg (show ¬ y0.val = 0 from fun h => a (Fin.ext h))]
    refine (dgb_pay _ _ _ _ (dh_real m c h9 t) (yb_real m c h1 h5 t) (gb_real m c h3 t) (wo_real m c h6 t) y1 y2).trans (congrArg _ ?_)
    rw [dm_eq, yb_row m c h1 h5, gb_row]

include h0 h2 h4 h6 h7 h8 h9 in
/-- The gradient of the first branch's input. -/
theorem out13 : (dats m 0 c).arrAt 13 cfg0.N = Cert.Reference3Ideal.Read.val_main_v190 (F := Ideal) (X0 m c) (X2 m c) (X4 m c) (X6 m c) (X7 m c) (X8 m c) (X9 m c) := by
  refine (dats m 0 c).arrAt_eq_of_covers 13 _ (by decide +kernel) fun t hf y => ?_
  blk_simp
  rw [after0_13, point13]
  idx_vars y
  have e : ((View.whole main_v48_1).slice (win0_13.rect t)).emb (ix2 y0 y1) = ix2 (rowOf t y0) y1 := by blk_ext [idx t, rowOf]
  rw [e, Cert.Reference3Ideal.MixOut.da1_result, Cert.Reference3Ideal.MixOut.da1_apply _ _ _ _ _ _ _ h0 h2 h4 h6 h7 h8 h9]
  refine (da1_pay _ _ _ _ _ _ _ (dh_real m c h9 t) (a1_real m c h0 t) (ga_real m c h2 t) (lng_real m c h7 t) (lnb_real m c h8 t) (wa_real m c h4 t) (wo_real m c h6 t) y0 y1).trans (congrArg _ ?_)
  rw [a1_row, dxh_eq]

include h3 h5 h6 h9 in
/-- The gradient of the second branch's input. -/
theorem out14 : (dats m 0 c).arrAt 14 cfg0.N = Cert.Reference3Ideal.Read.val_main_v191 (F := Ideal) (X3 m c) (X5 m c) (X6 m c) (X9 m c) := by
  refine (dats m 0 c).arrAt_eq_of_covers 14 _ (by decide +kernel) fun t hf y => ?_
  blk_simp
  rw [after0_14, point14]
  idx_vars y
  have e : ((View.whole main_v48_2).slice (win0_14.rect t)).emb (ix2 y0 y1) = ix2 (rowOf t y0) y1 := by blk_ext [idx t, rowOf]
  rw [e, Cert.Reference3Ideal.MixOut.dq_result, Cert.Reference3Ideal.MixOut.dq_apply _ _ _ _ h3 h5 h6 h9]
  refine (dq_pay _ _ _ _ (dh_real m c h9 t) (gb_real m c h3 t) (wb_real m c h5 t) (wo_real m c h6 t) y0 y1).trans (congrArg _ ?_)
  rw [dyb_eq, wb_mul]

include h0 h1 h2 h3 h4 h5 h7 h8 in
/-- The left factors of the weights' gradients. -/
theorem out15 : (dats m 0 c).arrAt 15 cfg0.N = Cert.Reference3Ideal.Read.val_main_v197 (F := Ideal) (X0 m c) (X1 m c) (X2 m c) (X3 m c) (X4 m c) (X5 m c) (X7 m c) (X8 m c) := by
  refine (dats m 0 c).arrAt_eq_of_covers 15 _ (by decide +kernel) fun t hf y => ?_
  blk_simp
  rw [after0_15]
  idx_vars y
  rw [point15]
  have e : ((View.whole main_v48_3).slice (win0_15.rect t)).emb (ix3 y0 y1 y2) = ix3 y0 (rowOf t y1) y2 := by blk_ext [idx t, rowOf]
  rw [e, Cert.Reference3Ideal.MixOut.left_apply _ _ _ _ _ _ _ _ h0 h1 h2 h3 h4 h5 h7 h8]
  by_cases a : y0 = 0
  · rw [if_pos a, if_pos (show y0.val = 0 from congrArg Fin.val a)]
    refine (merged_pay _ _ _ _ (ya_real m c h0 h4 h7 h8 t) (yb_real m c h1 h5 t) (ga_real m c h2 t) (gb_real m c h3 t) y1 y2).trans (congrArg _ ?_)
    rw [ya_row m c h0 h4 h7 h8, yb_row m c h1 h5, ga_row, gb_row]
  by_cases b : y0 = 1
  · rw [if_neg a, if_pos b, if_neg (show ¬ y0.val = 0 from fun h => a (Fin.ext h)), if_pos (show y0.val = 1 from congrArg Fin.val b)]
    refine (act_pay _ _ _ (a1_real m c h0 t) (lng_real m c h7 t) (lnb_real m c h8 t) y1 y2).trans (congrArg _ ?_)
    rw [a1_row, lng_row, lnb_row]
  · rw [if_neg a, if_neg b, if_neg (show ¬ y0.val = 0 from fun h => a (Fin.ext h)), if_neg (show ¬ y0.val = 1 from fun h => b (Fin.ext h))]
    refine (q_pay _ (q_real m c h1 t) y1 y2).trans (congrArg _ ?_)
    rw [q_row]

include h2 h3 h6 h9 in
/-- The right factors of the weights' gradients. -/
theorem out16 : (dats m 0 c).arrAt 16 cfg0.N = Cert.Reference3Ideal.Read.val_main_v203 (F := Ideal) (X2 m c) (X3 m c) (X6 m c) (X9 m c) := by
  refine (dats m 0 c).arrAt_eq_of_covers 16 _ (by decide +kernel) fun t hf y => ?_
  blk_simp
  rw [after0_16]
  idx_vars y
  rw [point16]
  have e : ((View.whole main_v48_4).slice (win0_16.rect t)).emb (ix3 y0 y1 y2) = ix3 y0 (rowOf t y1) y2 := by blk_ext [idx t, rowOf]
  rw [e, Cert.Reference3Ideal.MixOut.right_apply _ _ _ _ h2 h3 h6 h9]
  by_cases a : y0 = 0
  · rw [if_pos a, if_pos (show y0.val = 0 from congrArg Fin.val a)]
    refine (dh_pay _ (dh_real m c h9 t) y1 y2).trans (congrArg _ ?_)
    rw [dh_row]
  by_cases b : y0 = 1
  · rw [if_neg a, if_pos b, if_neg (show ¬ y0.val = 0 from fun h => a (Fin.ext h)), if_pos (show y0.val = 1 from congrArg Fin.val b)]
    refine (dya_pay _ _ _ (dh_real m c h9 t) (ga_real m c h2 t) (wo_real m c h6 t) y1 y2).trans (congrArg _ ?_)
    rw [dya_eq]
  · rw [if_neg a, if_neg b, if_neg (show ¬ y0.val = 0 from fun h => a (Fin.ext h)), if_neg (show ¬ y0.val = 1 from fun h => b (Fin.ext h))]
    refine (dyb_pay _ _ _ (dh_real m c h9 t) (gb_real m c h3 t) (wo_real m c h6 t) y1 y2).trans (congrArg _ ?_)
    rw [dyb_eq]

theorem sum_rows (f : Fin 4096 → ℝ) : ∑ t : Fin cfg0.N, ∑ r : Fin 512, f (rowOf t r) = ∑ l, f l := by
  refine (Fin.sum_points_lanes_congr (A := 1) (L := 4096) 8 (g := fun _ l => f l) fun t k ha hl => ?_).trans (Fin.sum_univ_one _)
  refine congrArg f (Fin.ext ?_)
  have := lt8 t
  show t.val * 512 + k.val = t.val % 8 * 512 + k.val
  rw [Nat.mod_eq_of_lt this]

include h0 h2 h4 h6 h7 h8 h9 in
/-- The vectors' gradients. -/
theorem out17 : (dats m 0 c).arrAt 17 cfg0.N = Cert.Reference3Ideal.Read.val_main_v185 (F := Ideal) (X0 m c) (X2 m c) (X4 m c) (X6 m c) (X7 m c) (X8 m c) (X9 m c) := by
  refine (dats m 0 c).arrAt_eq_of_after_last 17 t0_7 (by decide +kernel) _ fun y => ?_
  blk_simp
  rw [after0_17, Pipeline.eq_sum_fin_of_reset_step_apply_last (fun n h => (outsAt0 m c n h).2.2.2.2.2) 8 (fun _ => (0 : EReal)) (term m c)
    (point17_A m c) (point17_B m c) (le_of_eq N_0) t0_7 rfl y, zero_add]
  idx_vars y
  rw [Cert.Reference3Ideal.MixOut.vecs_apply _ _ _ _ _ _ _ h0 h2 h4 h6 h7 h8 h9]
  by_cases a0 : y0.val = 0
  · rw [if_pos a0, ← sum_rows, ← coe_sum]
    refine Finset.sum_congr (M := EReal) rfl fun t _ => ?_
    rw [term_0 m c t y0 y1 a0, g_pay _ _ _ _ _ _ _ (dh_real m c h9 t) (a1_real m c h0 t) (ga_real m c h2 t) (lng_real m c h7 t) (lnb_real m c h8 t) (wa_real m c h4 t) (wo_real m c h6 t), zero_add]
    refine congrArg _ (Finset.sum_congr rfl fun r _ => ?_)
    rw [da2_eq, a1_row]
  by_cases a1 : y0.val = 1
  · rw [if_neg a0, if_pos a1, ← sum_rows, ← coe_sum]
    refine Finset.sum_congr (M := EReal) rfl fun t _ => ?_
    rw [term_1 m c t y0 y1 a1, b_pay _ _ _ _ _ _ _ (dh_real m c h9 t) (a1_real m c h0 t) (ga_real m c h2 t) (lng_real m c h7 t) (lnb_real m c h8 t) (wa_real m c h4 t) (wo_real m c h6 t), zero_add]
    refine congrArg _ (Finset.sum_congr rfl fun r _ => ?_)
    rw [da2_eq]
  by_cases a2 : y0.val = 2
  · rw [if_neg a0, if_neg a1, if_pos a2, ← sum_rows, ← coe_sum]
    refine Finset.sum_congr (M := EReal) rfl fun t _ => ?_
    rw [term_2 m c t y0 y1 a2, c_pay _ _ _ _ _ _ _ (dh_real m c h9 t) (a1_real m c h0 t) (ga_real m c h2 t) (lng_real m c h7 t) (lnb_real m c h8 t) (wa_real m c h4 t) (wo_real m c h6 t), zero_add]
    refine congrArg _ (Finset.sum_congr rfl fun r _ => ?_)
    rw [dxh_eq, a1_row]
  rw [if_neg a0, if_neg a1, if_neg a2]
  exact Finset.sum_eq_zero (M := EReal) fun t _ => term_miss m c t y0 y1 a0 a1 a2

end Values

end Cert.Kernel3Ideal.MixOut

end
-- ==== Proof.MixOutClaim.lean ====
module

public import proofs.«01_k».proof.Defs
public import proofs.«01_k».proof.Proof.MixOutKernel
public import proofs.«01_k».proof.Proof.Gen.Kernel3
public import Idealize.ShloMosaic.Lib.Claim

@[expose] public section

set_option maxRecDepth 16384
set_option maxHeartbeats 2000000

noncomputable section

namespace Cert.MixOut

open Idealize.ShloMosaic Idealize.ShloMosaic.TcCoe Idealize.SL.Sem Cert.Reals

/-- The side conditions of the precondition's operations. -/
instance finite_facts : Cert.Pre_finite3.Facts where
  bcast_S_S1x4096x1024 := by decide
  reducesTo_S1x4096x1024_S_d0_1_2 := by decide
  h_S_ := by decide
  bcast_S_S1x1024x1024 := by decide
  reducesTo_S1x1024x1024_S_d0_1_2 := by decide
  bcast_S_S1x1024 := by decide
  reducesTo_S1x1024_S_d0_1 := by decide

open Cert.Pre_finite3 in
/-- The precondition read back: the arguments that it tests are real everywhere. -/
theorem real_of_finite (x0 : FVec Ideal S1x4096x1024 .f32) (x1 : FVec Ideal S1x4096x1024 .f32) (x2 : FVec Ideal S1x4096x1024 .f32) (x3 : FVec Ideal S1x4096x1024 .f32) (x4 : FVec Ideal S1x1024x1024 .f32) (x5 : FVec Ideal S1x1024x1024 .f32) (x6 : FVec Ideal S1x1024x1024 .f32) (x7 : FVec Ideal S1x1024 .f32) (x8 : FVec Ideal S1x1024 .f32) (x9 : FVec Ideal S1x4096x1024 .f32) (h : Cert.Pre_finite3.fn (F := Ideal) x0 x1 x2 x3 x4 x5 x6 x7 x8 x9 = fun _ => 1#1) :
    Real x0 ∧ Real x1 ∧ Real x2 ∧ Real x3 ∧ Real x4 ∧ Real x5 ∧ Real x6 ∧ Real x7 ∧ Real x8 ∧ Real x9 := by
  have e := congrFun h ix0
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of_all _ _ _ _ _ _ e0, real_of_all _ _ _ _ _ _ e1, real_of_all _ _ _ _ _ _ e2, real_of_all _ _ _ _ _ _ e3, real_of_all _ _ _ _ _ _ e4, real_of_all _ _ _ _ _ _ e5, real_of_all _ _ _ _ _ _ e6, real_of_all _ _ _ _ _ _ e7, real_of_all _ _ _ _ _ _ e8, real_of_all _ _ _ _ _ _ e9⟩

/-- The kernel's results are the reference's. -/
theorem algebraic : Cert.algebraic_Kernel3Ideal_Reference3Ideal_pre_finite3 := by
  pair_intro
  · run_from Cert.Kernel3Ideal.Value.run_blocks m g
  · refine (θ_run _ _ _).mono (fun r h c => ?_) (Cert.Reference3Ideal.Value.run m' g')
    obtain ⟨d0, d1, d2, d3, d4, d5, d6, d7, d8, d9⟩ := hagree c
    have e0 : StableHlo.launchContents m' c (Proc.devRef .tc Cert.Reference3Ideal.main_arg0) = _ := d0
    have e1 : StableHlo.launchContents m' c (Proc.devRef .tc Cert.Reference3Ideal.main_arg1) = _ := d1
    have e2 : StableHlo.launchContents m' c (Proc.devRef .tc Cert.Reference3Ideal.main_arg2) = _ := d2
    have e3 : StableHlo.launchContents m' c (Proc.devRef .tc Cert.Reference3Ideal.main_arg3) = _ := d3
    have e4 : StableHlo.launchContents m' c (Proc.devRef .tc Cert.Reference3Ideal.main_arg4) = _ := d4
    have e5 : StableHlo.launchContents m' c (Proc.devRef .tc Cert.Reference3Ideal.main_arg5) = _ := d5
    have e6 : StableHlo.launchContents m' c (Proc.devRef .tc Cert.Reference3Ideal.main_arg6) = _ := d6
    have e7 : StableHlo.launchContents m' c (Proc.devRef .tc Cert.Reference3Ideal.main_arg7) = _ := d7
    have e8 : StableHlo.launchContents m' c (Proc.devRef .tc Cert.Reference3Ideal.main_arg8) = _ := d8
    have e9 : StableHlo.launchContents m' c (Proc.devRef .tc Cert.Reference3Ideal.main_arg9) = _ := d9
    obtain ⟨r0, r1, r2, r3, r4, r5, r6, r7, r8, r9⟩ := real_of_finite _ _ _ _ _ _ _ _ _ _ (hpre c)
    obtain ⟨h0, h1, h2, h3, h4, h5, rest⟩ := h c
    refine ⟨h0.trans ?_, h1.trans ?_, h2.trans ?_, h3.trans ?_, h4.trans ?_, h5.trans ?_, rest⟩
    · refine (Cert.Reference3Ideal.Read.val_main_v189_eq (F := Ideal) (StableHlo.launchContents m' c)).trans ?_
      rw [e0, e1, e2, e3, e4, e5, e6, e7, e8, e9]
      exact (Cert.Kernel3Ideal.MixOut.out12 m c r0 r1 r2 r3 r4 r5 r6 r7 r8 r9).symm
    · refine (Cert.Reference3Ideal.Read.val_main_v190_eq (F := Ideal) (StableHlo.launchContents m' c)).trans ?_
      rw [e0, e2, e4, e6, e7, e8, e9]
      exact (Cert.Kernel3Ideal.MixOut.out13 m c r0 r2 r4 r6 r7 r8 r9).symm
    · refine (Cert.Reference3Ideal.Read.val_main_v191_eq (F := Ideal) (StableHlo.launchContents m' c)).trans ?_
      rw [e3, e5, e6, e9]
      exact (Cert.Kernel3Ideal.MixOut.out14 m c r3 r5 r6 r9).symm
    · refine (Cert.Reference3Ideal.Read.val_main_v197_eq (F := Ideal) (StableHlo.launchContents m' c)).trans ?_
      rw [e0, e1, e2, e3, e4, e5, e7, e8]
      exact (Cert.Kernel3Ideal.MixOut.out15 m c r0 r1 r2 r3 r4 r5 r7 r8).symm
    · refine (Cert.Reference3Ideal.Read.val_main_v203_eq (F := Ideal) (StableHlo.launchContents m' c)).trans ?_
      rw [e2, e3, e6, e9]
      exact (Cert.Kernel3Ideal.MixOut.out16 m c r2 r3 r6 r9).symm
    · refine (Cert.Reference3Ideal.Read.val_main_v185_eq (F := Ideal) (StableHlo.launchContents m' c)).trans ?_
      rw [e0, e2, e4, e6, e7, e8, e9]
      exact (Cert.Kernel3Ideal.MixOut.out17 m c r0 r2 r4 r6 r7 r8 r9).symm

/-- The bit-level program's frame: the two texts are one, and the run is for any floats. -/
theorem frame_kernel : Cert.quiescent_Kernel3 := fun m ρ _ =>
  Eq.mp (by sl_kernel_rfl) (Cert.Kernel3Ideal.Gen.frame (F := Bits) m ρ)

/-- The reference's frame: no operation writes an argument, and it has no semaphore. -/
theorem frame_reference : Cert.quiescent_Reference3Ideal := fun m ρ _ =>
  (θ_run Cert.Reference3Ideal.defs _ _).mono (fun r h => ⟨fun c => (h c).2.2.2.2.2.2, sem_eq_zero_of_no_sems (by decide) r.2⟩)
    (Cert.Reference3Ideal.Value.run (F := Ideal) m ρ)

end Cert.MixOut

end
-- ==== Proof.MixInRun.lean ====
module

public import proofs.«01_k».proof.Proof.Gen.Kernel4Ideal.Frame.Runs

/-! The runs of the input gradient of the mixers' projection's body, one per case of its conditionals: each of two copies into one buffer is lent its own part of it. -/

@[expose] public section

set_option maxRecDepth 16384

noncomputable section

namespace Cert.Kernel4Ideal.MixIn

open Cert.Kernel4Ideal Cert.Kernel4Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 8000000 in
/-- The body's run in case A: what its stores leave in each buffer, with the proof that it runs from whole
    buffers to them. -/
noncomputable def kernelRun0_A (c : Dev nD) (i : grid0.Coords) (arg1 : Memref sig .tc .vmem S7x512x1024 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg7 : Memref sig .tc .vmem S512x1024 .f32) (harg7 : arg7.IsWhole) (arg8 : Memref sig .tc .vmem S512x1024 .bf16) (harg8 : arg8.IsWhole) (arg9 : Memref sig .tc .vmem S8x1024 .f32) (harg9 : arg9.IsWhole) (arg10 : Memref sig .tc .vmem S7168x1024 .bf16) (harg10 : arg10.IsWhole) (hc0 : cond0_0 i) (hc1 : cond0_1 i)
    (x0 : Vec F S7x512x1024 .bf16) (x1 : Vec F S512x1024 .f32) (x2 : Vec F S512x1024 .f32) (x3 : Vec F S1x1024 .f32) (fh0 : HbBuf0 (F := F) c hbM0_0) (fh1 : HbBuf0 (F := F) c hbM0_1) :
    Σ' (L4 : List (View.Piece (Elt F) S512x1024 .f32)), Σ' (L5 : List (View.Piece (Elt F) S512x1024 .bf16)), Σ' (L6 : List (View.Piece (Elt F) S8x1024 .f32)), { LS0 : List (View.Piece (Elt F) S7168x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0) ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_mix_in_bwd i arg1 harg1 arg2 harg2 arg3 harg3 arg4 harg4 (Memref.whole main_v10) (Memref.isWhole_whole _) (Memref.whole main_v13) (Memref.isWhole_whole _) arg7 harg7 arg8 harg8 arg9 harg9 arg10 harg10 cc0_scratch1) K } := by
  refine ⟨?_, ?_, ?_, ?_, fun W K => ?run⟩
  case run =>
    simp only [cc0_mix_in_bwd_eq_skeleton]; unfold cc0_mix_in_bwd_skel
    simp only [k0_part6_eq_skeleton, k0_part1_eq_skeleton, k0_part2_eq_skeleton, k0_part3_eq_skeleton, k0_part4_eq_skeleton, k0_part5_eq_skeleton, k0_part7_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, Hq0, Hq1, Hq2, Hq3, Hq4, Hq5, Hq6, Hq7, Hq8, Hq9, Hq10, Hq11, Hq12, Hq13, Hq14, Hq15, Hh0, Hh1, HW, Hk⟩
    obtain rfl := harg1.eq_unread hf0; obtain rfl := harg2.eq_unread hf1; obtain rfl := harg3.eq_unread hf2; obtain rfl := harg4.eq_unread hf3
    set_option sl_exec.rejoinHeartbeats 400000 in set_option sl_exec.rejoinFuel 40 in set_option sl_exec.dmaWindow true in set_option sl_exec.dmaWindowSet true in
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iframe Hq0 Hq1 Hq2 Hq3 Hq4 Hq5 Hq6 Hq7 Hq8 Hq9 Hq10 Hq11 Hq12 Hq13 Hq14 Hq15 Hh0 Hh1
    iexists _; iexact HW

set_option maxHeartbeats 1000000 in
/-- The body's run in case B: what its stores leave in each buffer, with the proof that it runs from whole
    buffers to them. -/
noncomputable def kernelRun0_B (c : Dev nD) (i : grid0.Coords) (arg1 : Memref sig .tc .vmem S7x512x1024 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg7 : Memref sig .tc .vmem S512x1024 .f32) (harg7 : arg7.IsWhole) (arg8 : Memref sig .tc .vmem S512x1024 .bf16) (harg8 : arg8.IsWhole) (arg9 : Memref sig .tc .vmem S8x1024 .f32) (harg9 : arg9.IsWhole) (arg10 : Memref sig .tc .vmem S7168x1024 .bf16) (harg10 : arg10.IsWhole) (hc0 : ¬cond0_0 i) (hc1 : ¬cond0_1 i)
    (x0 : Vec F S7x512x1024 .bf16) (x1 : Vec F S512x1024 .f32) (x2 : Vec F S512x1024 .f32) (x3 : Vec F S1x1024 .f32) (xo6 : Vec F S8x1024 .f32) (xs0 : Vec F S7168x1024 .bf16) (fh0 : HbBuf0 (F := F) c hbM0_0) (fh1 : HbBuf0 (F := F) c hbM0_1) :
    Σ' (L4 : List (View.Piece (Elt F) S512x1024 .f32)), Σ' (L5 : List (View.Piece (Elt F) S512x1024 .bf16)), Σ' (L6 : List (View.Piece (Elt F) S8x1024 .f32)), { LS0 : List (View.Piece (Elt F) S7168x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg7 fullShare d) ∗ (∃ d, owns (c : Thread nD τ) arg8 fullShare d) ∗ owns (c : Thread nD τ) arg9 fullShare xo6 ∗ owns (c : Thread nD τ) arg10 fullShare xs0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (arg9.view.loc (c : Thread nD τ) ↦[arg9.view.set]{fullShare} arg9.view.writes (Elt F) (harg9.unread xo6) L6) ∗ owns (c : Thread nD τ) arg10 fullShare xs0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_mix_in_bwd i arg1 harg1 arg2 harg2 arg3 harg3 arg4 harg4 (Memref.whole main_v10) (Memref.isWhole_whole _) (Memref.whole main_v13) (Memref.isWhole_whole _) arg7 harg7 arg8 harg8 arg9 harg9 arg10 harg10 cc0_scratch1) K } := by
  refine ⟨?_, ?_, ?_, [], fun W K => ?run⟩
  case run =>
    simp only [cc0_mix_in_bwd_eq_skeleton]; unfold cc0_mix_in_bwd_skel
    simp only [k0_part6_eq_skeleton, k0_part7_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%fs0, %hfs0, HS0⟩, Hq0, Hq1, Hq2, Hq3, Hq4, Hq5, Hq6, Hq7, Hq8, Hq9, Hq10, Hq11, Hq12, Hq13, Hq14, Hq15, Hh0, Hh1, HW, Hk⟩
    obtain rfl := harg1.eq_unread hf0; obtain rfl := harg2.eq_unread hf1; obtain rfl := harg3.eq_unread hf2; obtain rfl := harg4.eq_unread hf3; obtain rfl := harg9.eq_unread hf6; obtain rfl := harg10.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexact H6
    isplitl [HS0]
    · iexists _; isplitr; · ipureintro; exact harg10.read_unread _
      iexact HS0
    iframe Hq0 Hq1 Hq2 Hq3 Hq4 Hq5 Hq6 Hq7 Hq8 Hq9 Hq10 Hq11 Hq12 Hq13 Hq14 Hq15 Hh0 Hh1
    iexists _; iexact HW

end Cert.Kernel4Ideal.MixIn

end
-- ==== Proof.MixInFrame.lean ====
module

public import proofs.«01_k».proof.Proof.MixInRun
public import Idealize.ShloMosaic.Lib.Claim

/-! What each point of the input gradient of the mixers' projection's grid leaves in the outputs and the carried scratch, and the run of the whole program. -/

@[expose] public section

set_option maxRecDepth 16384

noncomputable section

namespace Cert.Kernel4Ideal.MixIn

open Cert.Kernel4Ideal Cert.Kernel4Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
section

variable (c : Dev nD) (i : grid0.Coords) (arg1 : Memref sig .tc .vmem S7x512x1024 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg7 : Memref sig .tc .vmem S512x1024 .f32) (harg7 : arg7.IsWhole) (arg8 : Memref sig .tc .vmem S512x1024 .bf16) (harg8 : arg8.IsWhole) (arg9 : Memref sig .tc .vmem S8x1024 .f32) (harg9 : arg9.IsWhole) (arg10 : Memref sig .tc .vmem S7168x1024 .bf16) (harg10 : arg10.IsWhole) (hc0 : cond0_0 i) (hc1 : cond0_1 i)
  (x0 : Vec F S7x512x1024 .bf16) (x1 : Vec F S512x1024 .f32) (x2 : Vec F S512x1024 .f32) (x3 : Vec F S1x1024 .f32) (fh0 : HbBuf0 (F := F) c hbM0_0) (fh1 : HbBuf0 (F := F) c hbM0_1)

/-- Case A's stores into output 4 cover its block. -/
theorem cover0_A_4 (y : S512x1024.Idx) :
    ∃ pc ∈ (kernelRun0_A c i arg1 harg1 arg2 harg2 arg3 harg3 arg4 harg4 arg7 harg7 arg8 harg8 arg9 harg9 arg10 harg10 hc0 hc1 x0 x1 x2 x3 fh0 fh1).1, y ∈ pc.1.set :=
  View.cover_of_tiledL (kernelRun0_A c i arg1 harg1 arg2 harg2 arg3 harg3 arg4 harg4 arg7 harg7 arg8 harg8 arg9 harg9 arg10 harg10 hc0 hc1 x0 x1 x2 x3 fh0 fh1).1 S512x1024.size (by sl_kernel_rfl) y

/-- What case A leaves in output 4's buffer. -/
def out0_A_4 : Vec F S512x1024 .f32 :=
  VO0_4.read (Elt F) (VO0_4.writes (Elt F) VO0_4.junk (kernelRun0_A c i arg1 harg1 arg2 harg2 arg3 harg3 arg4 harg4 arg7 harg7 arg8 harg8 arg9 harg9 arg10 harg10 hc0 hc1 x0 x1 x2 x3 fh0 fh1).1)

/-- Case A's stores into output 5 cover its block. -/
theorem cover0_A_5 (y : S512x1024.Idx) :
    ∃ pc ∈ (kernelRun0_A c i arg1 harg1 arg2 harg2 arg3 harg3 arg4 harg4 arg7 harg7 arg8 harg8 arg9 harg9 arg10 harg10 hc0 hc1 x0 x1 x2 x3 fh0 fh1).2.1, y ∈ pc.1.set :=
  View.cover_of_tiledL (kernelRun0_A c i arg1 harg1 arg2 harg2 arg3 harg3 arg4 harg4 arg7 harg7 arg8 harg8 arg9 harg9 arg10 harg10 hc0 hc1 x0 x1 x2 x3 fh0 fh1).2.1 S512x1024.size (by sl_kernel_rfl) y

/-- What case A leaves in output 5's buffer. -/
def out0_A_5 : Vec F S512x1024 .bf16 :=
  VO0_5.read (Elt F) (VO0_5.writes (Elt F) VO0_5.junk (kernelRun0_A c i arg1 harg1 arg2 harg2 arg3 harg3 arg4 harg4 arg7 harg7 arg8 harg8 arg9 harg9 arg10 harg10 hc0 hc1 x0 x1 x2 x3 fh0 fh1).2.1)

/-- Case A's stores into output 6 cover its block. -/
theorem cover0_A_6 (y : S8x1024.Idx) :
    ∃ pc ∈ (kernelRun0_A c i arg1 harg1 arg2 harg2 arg3 harg3 arg4 harg4 arg7 harg7 arg8 harg8 arg9 harg9 arg10 harg10 hc0 hc1 x0 x1 x2 x3 fh0 fh1).2.2.1, y ∈ pc.1.set :=
  View.cover_of_tiledBy (kernelRun0_A c i arg1 harg1 arg2 harg2 arg3 harg3 arg4 harg4 arg7 harg7 arg8 harg8 arg9 harg9 arg10 harg10 hc0 hc1 x0 x1 x2 x3 fh0 fh1).2.2.1 ![1, 1024] (by sl_kernel_rfl) y

/-- What case A leaves in output 6's buffer. -/
def out0_A_6 : Vec F S8x1024 .f32 :=
  VO0_6.read (Elt F) (VO0_6.writes (Elt F) VO0_6.junk (kernelRun0_A c i arg1 harg1 arg2 harg2 arg3 harg3 arg4 harg4 arg7 harg7 arg8 harg8 arg9 harg9 arg10 harg10 hc0 hc1 x0 x1 x2 x3 fh0 fh1).2.2.1)

/-- Case A's stores into the carried scratch cover it. -/
theorem scover0_A_0 (y : S7168x1024.Idx) :
    ∃ pc ∈ (kernelRun0_A c i arg1 harg1 arg2 harg2 arg3 harg3 arg4 harg4 arg7 harg7 arg8 harg8 arg9 harg9 arg10 harg10 hc0 hc1 x0 x1 x2 x3 fh0 fh1).2.2.2.1, y ∈ pc.1.set :=
  View.cover_of_tiledL (kernelRun0_A c i arg1 harg1 arg2 harg2 arg3 harg3 arg4 harg4 arg7 harg7 arg8 harg8 arg9 harg9 arg10 harg10 hc0 hc1 x0 x1 x2 x3 fh0 fh1).2.2.2.1 S448x1024.size (by sl_kernel_rfl) y

/-- What case A leaves in the carried scratch. -/
def sout0_A_0 : Vec F S7168x1024 .bf16 :=
  VS0_0.read (Elt F) (VS0_0.writes (Elt F) VS0_0.junk (kernelRun0_A c i arg1 harg1 arg2 harg2 arg3 harg3 arg4 harg4 arg7 harg7 arg8 harg8 arg9 harg9 arg10 harg10 hc0 hc1 x0 x1 x2 x3 fh0 fh1).2.2.2.1)

end

section

variable (c : Dev nD) (i : grid0.Coords) (arg1 : Memref sig .tc .vmem S7x512x1024 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg7 : Memref sig .tc .vmem S512x1024 .f32) (harg7 : arg7.IsWhole) (arg8 : Memref sig .tc .vmem S512x1024 .bf16) (harg8 : arg8.IsWhole) (arg9 : Memref sig .tc .vmem S8x1024 .f32) (harg9 : arg9.IsWhole) (arg10 : Memref sig .tc .vmem S7168x1024 .bf16) (harg10 : arg10.IsWhole) (hc0 : ¬cond0_0 i) (hc1 : ¬cond0_1 i)
  (x0 : Vec F S7x512x1024 .bf16) (x1 : Vec F S512x1024 .f32) (x2 : Vec F S512x1024 .f32) (x3 : Vec F S1x1024 .f32) (xo6 : Vec F S8x1024 .f32) (xs0 : Vec F S7168x1024 .bf16) (fh0 : HbBuf0 (F := F) c hbM0_0) (fh1 : HbBuf0 (F := F) c hbM0_1)

/-- Case B's stores into output 4 cover its block. -/
theorem cover0_B_4 (y : S512x1024.Idx) :
    ∃ pc ∈ (kernelRun0_B c i arg1 harg1 arg2 harg2 arg3 harg3 arg4 harg4 arg7 harg7 arg8 harg8 arg9 harg9 arg10 harg10 hc0 hc1 x0 x1 x2 x3 xo6 xs0 fh0 fh1).1, y ∈ pc.1.set :=
  View.cover_of_tiledL (kernelRun0_B c i arg1 harg1 arg2 harg2 arg3 harg3 arg4 harg4 arg7 harg7 arg8 harg8 arg9 harg9 arg10 harg10 hc0 hc1 x0 x1 x2 x3 xo6 xs0 fh0 fh1).1 S512x1024.size (by sl_kernel_rfl) y

/-- What case B leaves in output 4's buffer. -/
def out0_B_4 : Vec F S512x1024 .f32 :=
  VO0_4.read (Elt F) (VO0_4.writes (Elt F) VO0_4.junk (kernelRun0_B c i arg1 harg1 arg2 harg2 arg3 harg3 arg4 harg4 arg7 harg7 arg8 harg8 arg9 harg9 arg10 harg10 hc0 hc1 x0 x1 x2 x3 xo6 xs0 fh0 fh1).1)

/-- Case B's stores into output 5 cover its block. -/
theorem cover0_B_5 (y : S512x1024.Idx) :
    ∃ pc ∈ (kernelRun0_B c i arg1 harg1 arg2 harg2 arg3 harg3 arg4 harg4 arg7 harg7 arg8 harg8 arg9 harg9 arg10 harg10 hc0 hc1 x0 x1 x2 x3 xo6 xs0 fh0 fh1).2.1, y ∈ pc.1.set :=
  View.cover_of_tiledL (kernelRun0_B c i arg1 harg1 arg2 harg2 arg3 harg3 arg4 harg4 arg7 harg7 arg8 harg8 arg9 harg9 arg10 harg10 hc0 hc1 x0 x1 x2 x3 xo6 xs0 fh0 fh1).2.1 S512x1024.size (by sl_kernel_rfl) y

/-- What case B leaves in output 5's buffer. -/
def out0_B_5 : Vec F S512x1024 .bf16 :=
  VO0_5.read (Elt F) (VO0_5.writes (Elt F) VO0_5.junk (kernelRun0_B c i arg1 harg1 arg2 harg2 arg3 harg3 arg4 harg4 arg7 harg7 arg8 harg8 arg9 harg9 arg10 harg10 hc0 hc1 x0 x1 x2 x3 xo6 xs0 fh0 fh1).2.1)

/-- What case B leaves in output 6's buffer: its stores over what the point before left there. -/
def out0_B_6 : Vec F S8x1024 .f32 :=
  arg9.view.read (Elt F) (arg9.view.writes (Elt F) (harg9.unread xo6) (kernelRun0_B c i arg1 harg1 arg2 harg2 arg3 harg3 arg4 harg4 arg7 harg7 arg8 harg8 arg9 harg9 arg10 harg10 hc0 hc1 x0 x1 x2 x3 xo6 xs0 fh0 fh1).2.2.1)

end

/-- Case B stores nothing into scratch `arg10`: it holds what the point before left. -/
def sout0_B_0 (c : Dev nD) (i : grid0.Coords) (arg1 : Memref sig .tc .vmem S7x512x1024 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg7 : Memref sig .tc .vmem S512x1024 .f32) (harg7 : arg7.IsWhole) (arg8 : Memref sig .tc .vmem S512x1024 .bf16) (harg8 : arg8.IsWhole) (arg9 : Memref sig .tc .vmem S8x1024 .f32) (harg9 : arg9.IsWhole) (arg10 : Memref sig .tc .vmem S7168x1024 .bf16) (harg10 : arg10.IsWhole) (hc0 : ¬cond0_0 i) (hc1 : ¬cond0_1 i)
    (x0 : Vec F S7x512x1024 .bf16) (x1 : Vec F S512x1024 .f32) (x2 : Vec F S512x1024 .f32) (x3 : Vec F S1x1024 .f32) (xo6 : Vec F S8x1024 .f32) (xs0 : Vec F S7168x1024 .bf16) (fh0 : HbBuf0 (F := F) c hbM0_0) (fh1 : HbBuf0 (F := F) c hbM0_1) : Vec F S7168x1024 .bf16 := xs0

/-! ## What the outputs hold after each point -/

/-- What a point of case A leaves: the outputs in window order, then the scratch. -/
def leftA (c : Dev nD) (t : Fin cfg0.N) (h0 : t.val % 8 = 0) (h1 : t.val % 8 = 0) : Vec F S512x1024 .f32 × Vec F S512x1024 .bf16 × Vec F S8x1024 .f32 × Vec F S7168x1024 .bf16 :=
  (out0_A_4 c (grid0.coords t) _ (hs0_0 t) _ (hs0_1 t) _ (hs0_2 t) _ (hs0_3 t) _ (hs0_4 t) _ (hs0_5 t) _ (hs0_6 t) scM0_0 (Memref.isWhole_whole _) ((hcond0_0 t).mpr h0) ((hcond0_1 t).mpr h1) (iblk m c 0 t) (iblk m c 1 t) (iblk m c 2 t) (iblk m c 3 t) (V m c main_v10) (V m c main_v13), out0_A_5 c (grid0.coords t) _ (hs0_0 t) _ (hs0_1 t) _ (hs0_2 t) _ (hs0_3 t) _ (hs0_4 t) _ (hs0_5 t) _ (hs0_6 t) scM0_0 (Memref.isWhole_whole _) ((hcond0_0 t).mpr h0) ((hcond0_1 t).mpr h1) (iblk m c 0 t) (iblk m c 1 t) (iblk m c 2 t) (iblk m c 3 t) (V m c main_v10) (V m c main_v13), out0_A_6 c (grid0.coords t) _ (hs0_0 t) _ (hs0_1 t) _ (hs0_2 t) _ (hs0_3 t) _ (hs0_4 t) _ (hs0_5 t) _ (hs0_6 t) scM0_0 (Memref.isWhole_whole _) ((hcond0_0 t).mpr h0) ((hcond0_1 t).mpr h1) (iblk m c 0 t) (iblk m c 1 t) (iblk m c 2 t) (iblk m c 3 t) (V m c main_v10) (V m c main_v13), sout0_A_0 c (grid0.coords t) _ (hs0_0 t) _ (hs0_1 t) _ (hs0_2 t) _ (hs0_3 t) _ (hs0_4 t) _ (hs0_5 t) _ (hs0_6 t) scM0_0 (Memref.isWhole_whole _) ((hcond0_0 t).mpr h0) ((hcond0_1 t).mpr h1) (iblk m c 0 t) (iblk m c 1 t) (iblk m c 2 t) (iblk m c 3 t) (V m c main_v10) (V m c main_v13))

/-- What a point of case B leaves, over what the point before left, `p`. -/
def leftB (c : Dev nD) (t : Fin cfg0.N) (h0 : ¬t.val % 8 = 0) (h1 : ¬t.val % 8 = 0) (p : Vec F S512x1024 .f32 × Vec F S512x1024 .bf16 × Vec F S8x1024 .f32 × Vec F S7168x1024 .bf16) : Vec F S512x1024 .f32 × Vec F S512x1024 .bf16 × Vec F S8x1024 .f32 × Vec F S7168x1024 .bf16 :=
  (out0_B_4 c (grid0.coords t) _ (hs0_0 t) _ (hs0_1 t) _ (hs0_2 t) _ (hs0_3 t) _ (hs0_4 t) _ (hs0_5 t) _ (hs0_6 t) scM0_0 (Memref.isWhole_whole _) (fun h => h0 ((hcond0_0 t).mp h)) (fun h => h1 ((hcond0_1 t).mp h)) (iblk m c 0 t) (iblk m c 1 t) (iblk m c 2 t) (iblk m c 3 t) p.2.2.1 p.2.2.2 (V m c main_v10) (V m c main_v13), out0_B_5 c (grid0.coords t) _ (hs0_0 t) _ (hs0_1 t) _ (hs0_2 t) _ (hs0_3 t) _ (hs0_4 t) _ (hs0_5 t) _ (hs0_6 t) scM0_0 (Memref.isWhole_whole _) (fun h => h0 ((hcond0_0 t).mp h)) (fun h => h1 ((hcond0_1 t).mp h)) (iblk m c 0 t) (iblk m c 1 t) (iblk m c 2 t) (iblk m c 3 t) p.2.2.1 p.2.2.2 (V m c main_v10) (V m c main_v13), out0_B_6 c (grid0.coords t) _ (hs0_0 t) _ (hs0_1 t) _ (hs0_2 t) _ (hs0_3 t) _ (hs0_4 t) _ (hs0_5 t) _ (hs0_6 t) scM0_0 (Memref.isWhole_whole _) (fun h => h0 ((hcond0_0 t).mp h)) (fun h => h1 ((hcond0_1 t).mp h)) (iblk m c 0 t) (iblk m c 1 t) (iblk m c 2 t) (iblk m c 3 t) p.2.2.1 p.2.2.2 (V m c main_v10) (V m c main_v13), sout0_B_0 c (grid0.coords t) _ (hs0_0 t) _ (hs0_1 t) _ (hs0_2 t) _ (hs0_3 t) _ (hs0_4 t) _ (hs0_5 t) _ (hs0_6 t) scM0_0 (Memref.isWhole_whole _) (fun h => h0 ((hcond0_0 t).mp h)) (fun h => h1 ((hcond0_1 t).mp h)) (iblk m c 0 t) (iblk m c 1 t) (iblk m c 2 t) (iblk m c 3 t) p.2.2.1 p.2.2.2 (V m c main_v10) (V m c main_v13))

/-- What the outputs' buffers and the carried scratch hold after the body at position `n`. -/
def outsAt0 (c : Dev nD) : (n : ℕ) → n < cfg0.N → Vec F S512x1024 .f32 × Vec F S512x1024 .bf16 × Vec F S8x1024 .f32 × Vec F S7168x1024 .bf16
  | 0, hn => leftA m c ⟨0, hn⟩ (Nat.zero_mod _) (Nat.zero_mod _)
  | n + 1, hn =>
    if h0 : (n + 1) % 8 = 0 then
      if h1 : (n + 1) % 8 = 0 then
        leftA m c ⟨n + 1, hn⟩ h0 h1
      else
        False.elim (by have hN : n + 1 < 8 := lt_of_lt_of_eq hn (show cfg0.N = 8 from N_0); omega)
    else
      if h1 : (n + 1) % 8 = 0 then
        False.elim (by have hN : n + 1 < 8 := lt_of_lt_of_eq hn (show cfg0.N = 8 from N_0); omega)
      else
        leftB m c ⟨n + 1, hn⟩ h0 h1 (outsAt0 c n (Nat.lt_of_succ_lt hn))

/-- `outsAt0` at a point of case A: that case's contents. -/
theorem outsAt0_A (c : Dev nD) (t : Fin cfg0.N) (h0 : t.val % 8 = 0) (h1 : t.val % 8 = 0) :
    outsAt0 m c t.val t.isLt = leftA m c t h0 h1 := by
  obtain ⟨n, hn⟩ := t
  cases n with
  | zero => exact rfl
  | succ n => exact (dif_pos h0).trans ((dif_pos h1).trans rfl)

/-- `outsAt0` at a point of case B: that case's contents, over what the point before left. -/
theorem outsAt0_B (c : Dev nD) (t : Fin cfg0.N) (h0 : ¬t.val % 8 = 0) (h1 : ¬t.val % 8 = 0) :
    outsAt0 m c t.val t.isLt = leftB m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- The invariant with the carried scratch at `x`. -/
def PhiAt (c : Dev nD) (x : Vec F S7168x1024 .bf16) : sProp 𝕄 :=
  iprop(iprop(owns (c : Thread nD τ) scM0_0 fullShare x) ∗ (∃ r, prngReg c r) ∗ iprop(semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0) ∗ iprop(hbPt0 c hbM0_0 (V m c main_v10) ∗ hbPt0 c hbM0_1 (V m c main_v13)))

/-- The invariant before position `n`: at the first point the scratch at anything, afterwards at what the point before left. -/
def PhiS (c : Dev nD) : (n : ℕ) → n ≤ cfg0.N → sProp 𝕄
  | 0, _ => Pipeline.ΦD osem0 spec0 H0 (V m) c
  | n + 1, hn => PhiAt m c (outsAt0 m c n hn).2.2.2

theorem PhiS_zero (c : Dev nD) (n : ℕ) (h : n ≤ cfg0.N) (hz : n = 0) : PhiS m c n h = Pipeline.ΦD osem0 spec0 H0 (V m) c := by
  subst hz; rfl

/-- After point `n` (before point `n + 1`): the carried scratch at that point's contents. -/
theorem PhiS_succ (c : Dev nD) (n : ℕ) (hn : n < cfg0.N) :
    PhiS m c (n + 1) hn = PhiAt m c (outsAt0 m c n hn).2.2.2 := rfl

/-- Before a point that is not the first: the carried scratch at what the point before left. -/
theorem PhiS_pos (c : Dev nD) (n : ℕ) (h : n ≤ cfg0.N) (hz : n ≠ 0) :
    PhiS m c n h = PhiAt m c (outsAt0 m c (n - 1) (by omega)).2.2.2 := by
  cases n with
  | zero => exact absurd rfl hz
  | succ n => rfl

/-! ## The pipeline's proof data -/

/-- The proof data of the pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2.1
  Φ t := PhiS m c t.val (Nat.le_of_lt_succ t.isLt)
  q _ := fullShare
  owed _ := 0

/-- The proof data's arrays are those the grid finds. -/
theorem A_eq (c : Dev nD) (w : Fin cfg0.W) : (dats m 0 c).A w = V m c (Pipeline.arrRef spec0 w) := by
  dsimp only [dats]

/-- The invariant at a point's start, at position `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]
theorem after0_6 (c : Dev nD) (t : Fin cfg0.N) : (dats m 0 c).after 6 t = (outsAt0 m c t.val t.isLt).2.2.1 := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- At a point of case B output 6's buffer holds what the body left at the point before. -/
theorem before0_6_B (c : Dev nD) (t : Fin cfg0.N) (h0 : ¬t.val % 8 = 0) (h1 : ¬t.val % 8 = 0) (d) :
    (dats m 0 c).before 6 t d = (outsAt0 m c (t.val - 1) (Nat.lt_of_le_of_lt (Nat.sub_le _ _) t.isLt)).2.2.1 := by
  have hN : t.val < 8 := lt_of_lt_of_eq t.isLt (show cfg0.N = 8 from N_0)
  rw [Dat.before_out_kept _ 6 rfl t (by omega) (Bool.eq_false_iff.mpr fun h => by have := (flush0_6 _).mp h; dsimp only at this; omega)
    (fun _ => rfl) (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 6400000 in
/-- The body at any point takes what it is called with to what it returns, by cases on the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = PhiS m c (t.val + 1) t.isLt from rfl, PhiS_succ, PhiAt,
    after0_0, after0_1, after0_2, after0_3, after0_4, after0_5, after0_6]
  unfold Dat.owesAt Pipeline.owesWithin
  rw [show (dats m 0 c).owed t.castSucc = 0 from rfl, show (dats m 0 c).owed t.succ = 0 from rfl]
  have hN : t.val < 8 := lt_of_lt_of_eq t.isLt (show cfg0.N = 8 from N_0)
  by_cases h0 : t.val % 8 = 0
  · by_cases h1 : t.val % 8 = 0
    · by_cases hz : t.val = 0
      · rw [PhiS_castSucc m c t, PhiS_zero m c _ _ hz, PhiD0_eq]
        rw [outsAt0_A m c t h0 h1, leftA]
        unfold out0_A_4 out0_A_5 out0_A_6 sout0_A_0; (try dsimp only)
        iintro ⟨⟨HS0, Hg, ⟨Hq0, Hq1, Hq2, Hq3, Hq4, Hq5, Hq6, Hq7, Hq8, Hq9, Hq10, Hq11, Hq12, Hq13, Hq14, Hq15⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ ((hcond0_0 t).mpr h0) ((hcond0_1 t).mpr h1) (iblk m c 0 t) (iblk m c 1 t) (iblk m c 2 t) (iblk m c 3 t) (V m c main_v10) (V m c main_v13)).2.2.2.2 W _)
        iframe H0 H1 H2 H3
        isplitl [H4]; · iexists _; iexact H4
        isplitl [H5]; · iexists _; iexact H5
        isplitl [H6]; · iexists _; iexact H6
        iframe HS0 Hq0 Hq1 Hq2 Hq3 Hq4 Hq5 Hq6 Hq7 Hq8 Hq9 Hq10 Hq11 Hq12 Hq13 Hq14 Hq15 Hh0 Hh1 HW
        iintro ⟨H0, H1, H2, H3, ⟨%e4, H4⟩, ⟨%e5, H5⟩, ⟨%e6, H6⟩, ⟨%es0, HS0⟩, Hq0, Hq1, Hq2, Hq3, Hq4, Hq5, Hq6, Hq7, Hq8, Hq9, Hq10, Hq11, Hq12, Hq13, Hq14, Hq15, Hh0, Hh1, ⟨%W', HW'⟩⟩
        isplitl [HS0 Hg Hq0 Hq1 Hq2 Hq3 Hq4 Hq5 Hq6 Hq7 Hq8 Hq9 Hq10 Hq11 Hq12 Hq13 Hq14 Hq15 Hh0 Hh1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _)
          isplitl [Hg]
          · iexact Hg
          isplitl [Hq0 Hq1 Hq2 Hq3 Hq4 Hq5 Hq6 Hq7 Hq8 Hq9 Hq10 Hq11 Hq12 Hq13 Hq14 Hq15]
          · iframe Hq0 Hq1 Hq2 Hq3 Hq4 Hq5 Hq6 Hq7 Hq8 Hq9 Hq10 Hq11 Hq12 Hq13 Hq14
            iexact Hq15
          isplitl [Hh0]; · iexact Hh0
          iexact Hh1
        isplitl [HW']
        · iexists W'; isplitr; · ipureintro; exact fun _ _ => Or.inl trivial
          iexact HW'
        iframe H0 H1 H2 H3
        isplitl [H4]
        · unfold owns; iexists _; isplitr
          swap; · iexact H4
          ipureintro; exact View.read_writes_of_cover _ _ _ _ _ (cover0_A_4 c _ _ _ _ _ _ _ _ _ _ _ _ _ _ _ _ _ _ _ _ _ _ _ _ _)
        isplitl [H5]
        · unfold owns; iexists _; isplitr
          swap; · iexact H5
          ipureintro; exact View.read_writes_of_cover _ _ _ _ _ (cover0_A_5 c _ _ _ _ _ _ _ _ _ _ _ _ _ _ _ _ _ _ _ _ _ _ _ _ _)
        unfold owns; iexists _; isplitr
        swap; · iexact H6
        ipureintro; exact View.read_writes_of_cover _ _ _ _ _ (cover0_A_6 c _ _ _ _ _ _ _ _ _ _ _ _ _ _ _ _ _ _ _ _ _ _ _ _ _)
      · exfalso; have hN : t.val < 8 := lt_of_lt_of_eq t.isLt (show cfg0.N = 8 from N_0); omega
    · exfalso; omega
  · by_cases h1 : t.val % 8 = 0
    · exfalso; omega
    · by_cases hz : t.val = 0
      · exfalso; have hN : t.val < 8 := lt_of_lt_of_eq t.isLt (show cfg0.N = 8 from N_0); omega
      · rw [PhiS_castSucc m c t, PhiS_pos m c _ _ hz, PhiAt]
        rw [outsAt0_B m c t h0 h1, leftB]
        simp only [before0_6_B m c t h0 h1]
        unfold out0_B_4 out0_B_5 out0_B_6 sout0_B_0; (try dsimp only)
        iintro ⟨⟨HS0, Hg, ⟨Hq0, Hq1, Hq2, Hq3, Hq4, Hq5, Hq6, Hq7, Hq8, Hq9, Hq10, Hq11, Hq12, Hq13, Hq14, Hq15⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) (iblk m c 2 t) (iblk m c 3 t) _ _ (V m c main_v10) (V m c main_v13)).2.2.2.2 W _)
        iframe H0 H1 H2 H3
        isplitl [H4]; · iexists _; iexact H4
        isplitl [H5]; · iexists _; iexact H5
        iframe H6 HS0 Hq0 Hq1 Hq2 Hq3 Hq4 Hq5 Hq6 Hq7 Hq8 Hq9 Hq10 Hq11 Hq12 Hq13 Hq14 Hq15 Hh0 Hh1 HW
        iintro ⟨H0, H1, H2, H3, ⟨%e4, H4⟩, ⟨%e5, H5⟩, H6, HS0, Hq0, Hq1, Hq2, Hq3, Hq4, Hq5, Hq6, Hq7, Hq8, Hq9, Hq10, Hq11, Hq12, Hq13, Hq14, Hq15, Hh0, Hh1, ⟨%W', HW'⟩⟩
        isplitl [HS0 Hg Hq0 Hq1 Hq2 Hq3 Hq4 Hq5 Hq6 Hq7 Hq8 Hq9 Hq10 Hq11 Hq12 Hq13 Hq14 Hq15 Hh0 Hh1]
        · isplitl [HS0]
          · iexact HS0
          isplitl [Hg]
          · iexact Hg
          isplitl [Hq0 Hq1 Hq2 Hq3 Hq4 Hq5 Hq6 Hq7 Hq8 Hq9 Hq10 Hq11 Hq12 Hq13 Hq14 Hq15]
          · iframe Hq0 Hq1 Hq2 Hq3 Hq4 Hq5 Hq6 Hq7 Hq8 Hq9 Hq10 Hq11 Hq12 Hq13 Hq14
            iexact Hq15
          isplitl [Hh0]; · iexact Hh0
          iexact Hh1
        isplitl [HW']
        · iexists W'; isplitr; · ipureintro; exact fun _ _ => Or.inl trivial
          iexact HW'
        iframe H0 H1 H2 H3
        isplitl [H4]
        · unfold owns; iexists _; isplitr
          swap; · iexact H4
          ipureintro; exact View.read_writes_of_cover _ _ _ _ _ (cover0_B_4 c _ _ _ _ _ _ _ _ _ _ _ _ _ _ _ _ _ _ _ _ _ _ _ _ _ _ _)
        isplitl [H5]
        · unfold owns; iexists _; isplitr
          swap; · iexact H5
          ipureintro; exact View.read_writes_of_cover _ _ _ _ _ (cover0_B_5 c _ _ _ _ _ _ _ _ _ _ _ _ _ _ _ _ _ _ _ _ _ _ _ _ _ _ _)
        unfold owns; iexists _; isplitr
        swap; · iexact H6
        ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`) is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦD` back: the carried scratch's named contents are forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiAt, PhiD0_eq]
  iintro ⟨HS0, Hg, ⟨Hq0, Hq1, Hq2, Hq3, Hq4, Hq5, Hq6, Hq7, Hq8, Hq9, Hq10, Hq11, Hq12, Hq13, Hq14, Hq15⟩, ⟨Hh0, Hh1⟩⟩
  isplitl [HS0]
  · iexists _; iexact HS0
  isplitl [Hg]; · iexact Hg
  isplitl [Hq0 Hq1 Hq2 Hq3 Hq4 Hq5 Hq6 Hq7 Hq8 Hq9 Hq10 Hq11 Hq12 Hq13 Hq14 Hq15]
  · iframe Hq0 Hq1 Hq2 Hq3 Hq4 Hq5 Hq6 Hq7 Hq8 Hq9 Hq10 Hq11 Hq12 Hq13 Hq14
    iexact Hq15
  isplitl [Hh0]; · iexact Hh0
  iexact Hh1

/-- The same after the last point. -/
theorem hout (c : Dev nD) : (dats m 0 c).Φ (Fin.last cfg0.N) ⊢ Pipeline.ΦD osem0 spec0 H0 (V m) c :=
  Phi_out m c _ (by rw [Fin.val_last]; have : cfg0.N = 8 := N_0; omega)

/-! ## The run and the frame -/

set_option backward.isDefEq.respectTransparency.types false in
/-- `run_main`, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- From any memory with zero counters every weakly fair execution of @main ends, with the pipeline's arrays as the proof data say and every other buffer as the grid found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the program ends with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel4Ideal.MixIn

end
-- ==== Proof.MixInValue.lean ====
module

public import proofs.«01_k».proof.Proof.MixInFrame
public import Idealize.ShloMosaic.Lib.Pipeline.Value

/-! The output arrays of the input gradient of the mixers' projection after the run, block by block. -/

@[expose] public section

set_option maxRecDepth 16384

noncomputable section

namespace Cert.Kernel4Ideal.MixIn

open Cert.Kernel4Ideal Cert.Kernel4Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- What point `t` writes back to output 4's array. -/
theorem flushed4 (c : Dev nD) (t : Fin cfg0.N) :
    (dats m 0 c).flushed 4 t = (cfg0.win 4).cut (grid0.coords t) ((outsAt0 m c t.val t.isLt).1) := by
  show (cfg0.win 4).cut (grid0.coords t) ((dats m 0 c).after 4 t) = _
  rw [after0_4]

/-- What point `t` writes back to output 5's array. -/
theorem flushed5 (c : Dev nD) (t : Fin cfg0.N) :
    (dats m 0 c).flushed 5 t = (cfg0.win 5).cut (grid0.coords t) ((outsAt0 m c t.val t.isLt).2.1) := by
  show (cfg0.win 5).cut (grid0.coords t) ((dats m 0 c).after 5 t) = _
  rw [after0_5]

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v16_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v16_1) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v16_2) = (dats m 0 c).arrAt 6 cfg0.N :=
  (h c).1 6

/-- After the run argument `main_arg0` is as launched. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the run argument `main_arg1` is as launched. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 3).trans (((dats m 0 c).arrAt_in 3 rfl _).trans ((A_eq m c 3).trans (V_main_arg1 m c)))

/-- After the run argument `main_arg2` is as launched. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the run argument `main_arg3` is as launched. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the run argument `main_arg4` is as launched. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The run with each output array named, the arguments unchanged. -/
theorem run_blocks : θ_run defs (onTc (τ := τ) (main (F := F))) ⟨m, fun _ => 0, ρ⟩ fun r => ∀ c : Dev nD,
      r.2.mem ((c : Thread nD τ).loc main_v16_0) = (dats m 0 c).arrAt 4 cfg0.N
      ∧ r.2.mem ((c : Thread nD τ).loc main_v16_1) = (dats m 0 c).arrAt 5 cfg0.N
      ∧ r.2.mem ((c : Thread nD τ).loc main_v16_2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post4 m r h c,
      post5 m r h c,
      post6 m r h c,
      kept_main_arg0 m r h c,
      kept_main_arg1 m r h c,
      kept_main_arg2 m r h c,
      kept_main_arg3 m r h c,
      kept_main_arg4 m r h c⟩)
    (run_main m ρ)

/-! ## Carried scratch 0: what each point leaves in it, and its fold -/

end Cert.Kernel4Ideal.MixIn

end
-- ==== Proof.MixInRef.lean ====
module

public import proofs.«01_k».proof.Proof.Gen.Reference4Ideal.Read
public import proofs.«01_k».proof.Proof.Reals

@[expose] public section

set_option maxRecDepth 16384

noncomputable section

namespace Cert.Reference4Ideal.MixIn

open Cert.Reference4Ideal Cert.Reference4Ideal.Gen Cert.Reference4Ideal.Read Idealize.ShloMosaic Idealize.ShloMosaic.TcCoe Cert.Reals

variable (x0 : FVec Ideal S1x4096x1024 .f32) (x1 : FVec Ideal S1x1024 .f32) (x2 : FVec Ideal S1x1024x7168 .f32)
  (x3 : FVec Ideal S1x4096x7168 .f32) (x4 : FVec Ideal S1x4096x1024 .f32)

/-- The cotangent of the normalised row `t`: what comes back through the product with the seven groups of columns. -/
def back (t : Fin 4096) (j : Fin 1024) : ℝ := ∑ f : Fin 7168, re x3 (ix3 0 t f) * re x2 (ix3 0 j f)

/-- Row `t` of the input. -/
def row (t : Fin 4096) (k : Fin 1024) : ℝ := re x0 (ix3 0 t k)

/-- The reference's gradient of the input, element by element. -/
theorem dx_apply (h0 : Real x0) (h1 : Real x1) (h2 : Real x2) (h3 : Real x3) (t : Fin 4096) (j : Fin 1024) :
    val_main_v43 (F := Ideal) x0 x1 x2 x3 x4 (ix2 t j)
      = x4 (ix3 0 t j) + ((normGrad (row x0 t) (fun k => re x1 (ix2 0 k)) (back x2 x3 t) j : ℝ) : EReal) := by
  pointwise [val_main_v43, val_main_v42, val_main_v41, val_main_v40, val_main_v39, val_main_v38, val_main_v37, val_main_v36, val_main_v35, val_main_v34, val_main_v33, val_main_v32, val_main_v31, val_main_v30, val_main_v29, val_main_v27, val_main_v26, val_main_v22, val_main_v21, val_main_v20, val_main_v18, val_main_v15, val_main_v12, val_main_v11, val_main_v10, val_main_v9, val_main_v8, val_main_v7, val_main_v6, val_main_v5, val_main_v4, val_main_v3, val_main_v2, val_main_v1, val_main_v0, val_main_cst_7, val_main_cst_6, val_main_cst_5, val_main_cst_2, val_main_cst_1, val_main_cst, val_main_cst_0]
  have hpos : 0 < (∑ x : Fin 1024, re x0 (ix3 0 t x) * re x0 (ix3 0 t x)) / 1024 + eps := meanSq_pos (row x0 t)
  simp only [h0.eq, h1.eq, h2.eq, h3.eq, lit_1024, lit_eps, lit_neg_half, ← EReal.coe_mul, coe_sum, ← EReal.coe_add,
    coe_div (show (1024 : ℝ) ≠ 0 by norm_num), coe_rsqrt hpos, coe_div hpos.ne', Finset.univ_unique, Finset.sum_singleton]
  rw [add_assoc, add_assoc, ← EReal.coe_add, ← EReal.coe_add]
  refine congrArg (fun r : ℝ => x4 (ix3 0 t j) + (r : EReal)) ?_
  show back x2 x3 t j * re x1 (ix2 0 j) * scale (row x0 t)
      + (row x0 t j * ((∑ k, row x0 t k * (back x2 x3 t k * re x1 (ix2 0 k))) * (-(1 / 2) * (scale (row x0 t) / meanSq (row x0 t))) / 1024)
        + (∑ k, row x0 t k * (back x2 x3 t k * re x1 (ix2 0 k))) * (-(1 / 2) * (scale (row x0 t) / meanSq (row x0 t))) / 1024 * row x0 t j) = _
  rw [scale_div]
  unfold normGrad
  ring

/-- The second result is half the first. -/
theorem half_apply (t : Fin 4096) (j : Fin 1024) :
    val_main_v47 (F := Ideal) x0 x1 x2 x3 x4 (ix2 t j) = (((1 / 2 : ℝ)) : EReal) * val_main_v43 (F := Ideal) x0 x1 x2 x3 x4 (ix2 t j) := by
  pointwise [val_main_v47, val_main_v46, val_main_v45, val_main_cst_8]
  rw [lit_half]

/-- The reference's gradient of the scale vector. -/
theorem dg_apply (h0 : Real x0) (h2 : Real x2) (h3 : Real x3) (r : Fin 8) (j : Fin 1024) :
    val_main_v49 (F := Ideal) x0 x2 x3 (ix2 r j)
      = (((if r.val = 0 then ∑ t : Fin 4096, row x0 t j * scale (row x0 t) * back x2 x3 t j else 0) : ℝ) : EReal) := by
  pointwise [val_main_v49, val_main_v48, val_main_v44, val_main_v28, val_main_v25, val_main_v24, val_main_v23, val_main_v22, val_main_v21, val_main_v18, val_main_v14, val_main_v13, val_main_v9, val_main_v8, val_main_v7, val_main_v6, val_main_v5, val_main_v4, val_main_v3, val_main_v2, val_main_v0, val_main_cst_9, val_main_cst_4, val_main_cst_3, val_main_cst_1, val_main_cst, val_main_cst_0]
  have hpos (t : Fin 4096) : 0 < (∑ x : Fin 1024, re x0 (ix3 0 t x) * re x0 (ix3 0 t x)) / 1024 + eps := meanSq_pos (row x0 t)
  simp only [h0.eq, h2.eq, h3.eq, lit_1024, lit_eps, lit_neg_half, ← EReal.coe_mul, coe_sum, ← EReal.coe_add,
    coe_div (show (1024 : ℝ) ≠ 0 by norm_num), coe_rsqrt (hpos _), Finset.univ_unique, Finset.sum_singleton]
  by_cases hr : r.val < 1
  · rw [dif_pos hr, if_pos (Nat.lt_one_iff.1 hr)]; rfl
  · rw [dif_neg hr, if_neg fun e => hr (by omega)]; rfl

end Cert.Reference4Ideal.MixIn

end
-- ==== Proof.MixInPure.lean ====
module

public import proofs.«01_k».proof.Proof.Gen.Kernel4Ideal.Skeleton
public import proofs.«01_k».proof.Proof.Reals

@[expose] public section

set_option maxRecDepth 16384

noncomputable section

namespace Cert.Kernel4Ideal.MixIn

open Cert.Kernel4Ideal Cert.Kernel4Ideal.Gen Idealize.ShloMosaic Idealize.ShloMosaic.TcCoe Idealize.SL.Sem Cert.Reals

variable (d : Fin 7 → FVec Ideal S1x512x1024 .bf16) (w : Fin 7 → FVec Ideal S1024x1024 .bf16) (x ct : FVec Ideal S512x1024 .f32) (g : FVec Ideal S1x1024 .f32)

/-- Row `r` of the block's cotangent, in seven groups of columns, times the weights of each group. -/
def blockBack (r : Fin 512) (j : Fin 1024) : ℝ := ∑ a : Fin 7, ∑ f : Fin 1024, re (d a) (ix3 0 r f) * re (w a) (ix2 f j)

/-- The first four groups' products, summed. -/
def four : FVec Ideal S512x1024 .f32 := k0_pay5 (F := Ideal) (d 0) (w 0) (d 1) (w 1) (d 2) (w 2) (d 3) (w 3)

/-- All seven groups' products, summed. -/
def seven : FVec Ideal S512x1024 .f32 := k0_pay6 (F := Ideal) (four d w) (d 4) (w 4) (d 5) (w 5) (d 6) (w 6)

/-- What a point stores into its block of the first result. -/
def dxPay : FVec Ideal S512x1024 .f32 :=
  k0_pay1 (F := Ideal) (k0_pay8 (F := Ideal) x) (k0_pay9 (F := Ideal) x) (k0_pay11 (F := Ideal) (four d w) (d 4) (w 4) (d 5) (w 5) (d 6) (w 6) x g)
    (k0_pay12 (F := Ideal) (four d w) (d 4) (w 4) (d 5) (w 5) (d 6) (w 6) x g) ct

/-- What a point stores into its block of the second result. -/
def halfPay : FVec Ideal S512x1024 .bf16 :=
  k0_pay2 (F := Ideal) (k0_pay8 (F := Ideal) x) (k0_pay9 (F := Ideal) x) (k0_pay11 (F := Ideal) (four d w) (d 4) (w 4) (d 5) (w 5) (d 6) (w 6) x g)
    (k0_pay12 (F := Ideal) (four d w) (d 4) (w 4) (d 5) (w 5) (d 6) (w 6) x g) ct

/-- What a point stores into the row that gathers the gradient of the scale vector, over `acc`. -/
def dgPay (acc : FVec Ideal S1x1024 .f32) : FVec Ideal S1x1024 .f32 := k0_pay3 (F := Ideal) (seven d w) (k0_pay9 (F := Ideal) x) acc

theorem seven_apply (hd : ∀ a, Real (d a)) (hw : ∀ a, Real (w a)) (r : Fin 512) (j : Fin 1024) :
    k0_pay6 (F := Ideal) (four d w) (d 4) (w 4) (d 5) (w 5) (d 6) (w 6) (ix2 r j) = ((blockBack d w r j : ℝ) : EReal) := by
  pointwise [four, k0_pay6, k0_pay5]
  simp only [fun a => (hd a).eq, fun a => (hw a).eq, ← EReal.coe_mul, coe_sum, ← EReal.coe_add]
  unfold blockBack
  rw [Fin.sum_univ_seven]

/-- The first result's payload: the cotangent that passes by, plus the gradient of the normalised row. -/
theorem dx_payload (hd : ∀ a, Real (d a)) (hw : ∀ a, Real (w a)) (hx : Real x) (hg : Real g) (r : Fin 512) (j : Fin 1024) :
    dxPay d w x ct g (ix2 r j)
      = ct (ix2 r j) + ((normGrad (fun k => re x (ix2 r k)) (fun k => re g (ix2 0 k)) (blockBack d w r) j : ℝ) : EReal) := by
  pointwise [dxPay, k0_pay1, k0_pay7, k0_pay8, k0_pay9, k0_pay10, k0_pay11, k0_pay12]
  have hpos : 0 < (∑ k : Fin 1024, re x (ix2 r k) * re x (ix2 r k)) / 1024 + eps := meanSq_pos fun k => re x (ix2 r k)
  simp only [seven_apply d w hd hw, hx.eq, hg.eq, lit_1024, lit_eps, ← EReal.coe_mul, coe_sum, ← EReal.coe_add, ← EReal.coe_sub,
    coe_div (show (1024 : ℝ) ≠ 0 by norm_num), coe_rsqrt hpos]
  congr 2
  show scale (fun k => re x (ix2 r k)) * (blockBack d w r j * re g (ix2 0 j))
      - re x (ix2 r j) * scale (fun k => re x (ix2 r k)) * (scale (fun k => re x (ix2 r k))
        * ((∑ i, blockBack d w r i * re g (ix2 0 i) * (re x (ix2 r i) * scale (fun k => re x (ix2 r k)))) / 1024)) = _
  rw [show (∑ i, blockBack d w r i * re g (ix2 0 i) * (re x (ix2 r i) * scale (fun k => re x (ix2 r k))))
      = (∑ i, re x (ix2 r i) * (blockBack d w r i * re g (ix2 0 i))) * scale (fun k => re x (ix2 r k)) by
    rw [Finset.sum_mul]; exact Finset.sum_congr rfl fun i _ => by ring]
  unfold normGrad
  ring

/-- The second result's payload is half the first's. -/
theorem half_payload (r : Fin 512) (j : Fin 1024) :
    halfPay d w x ct g (ix2 r j) = (((1 / 2 : ℝ)) : EReal) * dxPay d w x ct g (ix2 r j) := by
  pointwise [halfPay, dxPay, k0_pay2]
  rw [lit_half]

/-- What a point adds to the row that gathers the gradient of the scale vector. -/
theorem dg_payload (hd : ∀ a, Real (d a)) (hw : ∀ a, Real (w a)) (hx : Real x) (acc : FVec Ideal S1x1024 .f32) (j : Fin 1024) :
    dgPay d w x acc (ix2 0 j)
      = acc (ix2 0 j) + ((∑ r : Fin 512, re x (ix2 r j) * scale (fun k => re x (ix2 r k)) * blockBack d w r j : ℝ) : EReal) := by
  pointwise [dgPay, seven, k0_pay3, k0_pay7, k0_pay8, k0_pay9]
  have hpos (r : Fin 512) : 0 < (∑ k : Fin 1024, re x (ix2 r k) * re x (ix2 r k)) / 1024 + eps := meanSq_pos fun k => re x (ix2 r k)
  simp only [seven_apply d w hd hw, hx.eq, lit_1024, lit_eps, ← EReal.coe_mul, coe_sum, ← EReal.coe_add,
    coe_div (show (1024 : ℝ) ≠ 0 by norm_num), coe_rsqrt (hpos _)]
  congr 2
  exact Finset.sum_congr rfl fun r _ => mul_comm _ _

end Cert.Kernel4Ideal.MixIn

end
-- ==== Proof.MixInKernel.lean ====
module

public import proofs.«01_k».proof.Proof.MixInValue
public import proofs.«01_k».proof.Proof.MixInRef
public import proofs.«01_k».proof.Proof.MixInPure
public import proofs.«01_k».proof.Proof.Reals
public import Idealize.ShloMosaic.Lib.Pipeline.ValueKit
public import Idealize.ShloMosaic.Lib.Claim
public import Idealize.ShloMosaic.Lib.Pipeline.ReadBack
public import Idealize.ShloMosaic.Lib.WritesUnit

@[expose] public section

set_option maxRecDepth 16384

noncomputable section

namespace Cert.Kernel4Ideal.MixIn

open Cert.Kernel4Ideal Cert.Kernel4Ideal.Gen Idealize.ShloMosaic Idealize.ShloMosaic.TcCoe Idealize.SL.Sem Cert.Reals
open Idealize.ShloMosaic.Pipeline (Dat)
open Cert.Reference4Ideal.MixIn (row back)

variable (m : (ℓ : Loc nD τ sig) → Buf (Elt Ideal) ℓ)

/-- Argument 0. -/
abbrev X0 (c : Dev nD) : FVec Ideal S1x4096x1024 .f32 := m ((c : Thread nD τ).loc main_arg0)

/-- Argument 1. -/
abbrev X1 (c : Dev nD) : FVec Ideal S1x1024 .f32 := m ((c : Thread nD τ).loc main_arg1)

/-- Argument 2. -/
abbrev X2 (c : Dev nD) : FVec Ideal S1x1024x7168 .f32 := m ((c : Thread nD τ).loc main_arg2)

/-- Argument 3. -/
abbrev X3 (c : Dev nD) : FVec Ideal S1x4096x7168 .f32 := m ((c : Thread nD τ).loc main_arg3)

/-- Argument 4. -/
abbrev X4 (c : Dev nD) : FVec Ideal S1x4096x1024 .f32 := m ((c : Thread nD τ).loc main_arg4)

theorem idx : ∀ t : Fin cfg0.N, win0_0.index t = ![0, t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![0, 0] ∧ t.val < 8 :=
  (by decide +kernel : ∀ t : Fin grid0.N, _)

theorem lt8 (t : Fin cfg0.N) : t.val < 8 := (idx t).2.2.2.2.2.2.2

/-- The row of the whole array that row `r` of point `t`'s block is. -/
def rowOf (t : Fin cfg0.N) (r : Fin 512) : Fin 4096 := ⟨t.val * 512 + r.val, by have := lt8 t; omega⟩

/-- The weights, transposed. -/
def wts (c : Dev nD) : FVec Ideal S7168x1024 .bf16 := fun j => X2 m c (ix3 0 (j 1) (j 0))

theorem dz_block (c : Dev nD) (t : Fin cfg0.N) (a : Fin 7) (r : Fin 512) (f : Fin 1024) :
    (show EReal from iblk m c 0 t (ix3 a r f)) = X3 m c (ix3 0 (rowOf t r) ⟨a.val * 1024 + f.val, by omega⟩) := by
  blk_simp [iblk, idx t]; entry_read; pointwise; blk_ext [idx t, rowOf]

theorem ct_block (c : Dev nD) (t : Fin cfg0.N) (r : Fin 512) (k : Fin 1024) :
    (show EReal from iblk m c 1 t (ix2 r k)) = X4 m c (ix3 0 (rowOf t r) k) := by
  blk_simp [iblk, idx t]; entry_read; pointwise; blk_ext [idx t, rowOf]

theorem x_block (c : Dev nD) (t : Fin cfg0.N) (r : Fin 512) (k : Fin 1024) :
    (show EReal from iblk m c 2 t (ix2 r k)) = X0 m c (ix3 0 (rowOf t r) k) := by
  blk_simp [iblk, idx t]; entry_read; pointwise; blk_ext [idx t, rowOf]

theorem g_block (c : Dev nD) (t : Fin cfg0.N) (k : Fin 1024) :
    (show EReal from iblk m c 3 t (ix2 0 k)) = X1 m c (ix2 0 k) := by
  blk_simp [iblk, idx t]; entry_read; pointwise; blk_ext [idx t, rowOf]

/-- The first half of the split weights, read at a row of piece `k`. -/
theorem half0 (c : Dev nD) (k : Fin 8) (a : Fin 448) (j : Fin 1024) :
    (show EReal from V m c main_v10 (ix2 ⟨k.val * 448 + a.val, by omega⟩ j)) = X2 m c (ix3 0 j ⟨k.val * 896 + a.val, by omega⟩) := by
  entry_read; pointwise; blk_ext

/-- The second half of the split weights. -/
theorem half1 (c : Dev nD) (k : Fin 8) (a : Fin 448) (j : Fin 1024) :
    (show EReal from V m c main_v13 (ix2 ⟨k.val * 448 + a.val, by omega⟩ j)) = X2 m c (ix3 0 j ⟨k.val * 896 + 448 + a.val, by omega⟩) := by
  entry_read; pointwise; blk_ext

/-- An element of the second half of the split weights, and the element of the transposed weights that it is. -/
theorem piece1 (c : Dev nD) (y : S3584x1024.Idx) (j0 : Fin 7168) (j1 : Fin 1024) (k : ℕ) (hk : k < 8) (a : ℕ) (ha : a < 448)
    (hy : (y 0).val = k * 448 + a) (hj : j0.val = k * 896 + 448 + a) (h1 : (y 1).val = j1.val) :
    (show EReal from V m c main_v13 y) = wts m c (ix2 j0 j1) := by
  have e : y = ix2 ⟨k * 448 + a, by omega⟩ j1 := by
    funext i; fin_cases i <;> exact Fin.ext (by assumption)
  rw [e]
  refine (half1 m c ⟨k, hk⟩ ⟨a, ha⟩ j1).trans ?_
  exact congrArg (X2 m c) (congrArg (ix3 0 j1) (Fin.ext hj.symm))

/-- The same of the first half. -/
theorem piece0 (c : Dev nD) (y : S3584x1024.Idx) (j0 : Fin 7168) (j1 : Fin 1024) (k : ℕ) (hk : k < 8) (a : ℕ) (ha : a < 448)
    (hy : (y 0).val = k * 448 + a) (hj : j0.val = k * 896 + a) (h1 : (y 1).val = j1.val) :
    (show EReal from V m c main_v10 y) = wts m c (ix2 j0 j1) := by
  have e : y = ix2 ⟨k * 448 + a, by omega⟩ j1 := by
    funext i; fin_cases i <;> exact Fin.ext (by assumption)
  rw [e]
  refine (half0 m c ⟨k, hk⟩ ⟨a, ha⟩ j1).trans ?_
  exact congrArg (X2 m c) (congrArg (ix3 0 j1) (Fin.ext hj.symm))

/-- After every point the scratch holds the transposed weights. -/
theorem scratch (c : Dev nD) : ∀ (n : ℕ) (hn : n < cfg0.N), (outsAt0 m c n hn).2.2.2 = wts m c := fun n => by
  induction n with
  | zero =>
    intro hn
    rw [outsAt0_A m c ⟨0, hn⟩ rfl rfl]; unfold leftA
    funext j
    idx_vars j
    frame_out
    canon_tiles x h
    · exact piece1 m c _ j0 j1 7 (by decide) (x 0).val (x 0).isLt (ValueKit.view_emb_slice_whole_unit_val _ _ _ _ _ _) (by first | exact h0 | exact h0.trans (Nat.zero_add _).symm) ((ValueKit.view_emb_slice_whole_unit_val _ _ _ _ _ _).trans ((Nat.zero_add _).trans h1.symm))
    · exact piece1 m c _ j0 j1 6 (by decide) (x 0).val (x 0).isLt (ValueKit.view_emb_slice_whole_unit_val _ _ _ _ _ _) (by first | exact h0 | exact h0.trans (Nat.zero_add _).symm) ((ValueKit.view_emb_slice_whole_unit_val _ _ _ _ _ _).trans ((Nat.zero_add _).trans h1.symm))
    · exact piece1 m c _ j0 j1 5 (by decide) (x 0).val (x 0).isLt (ValueKit.view_emb_slice_whole_unit_val _ _ _ _ _ _) (by first | exact h0 | exact h0.trans (Nat.zero_add _).symm) ((ValueKit.view_emb_slice_whole_unit_val _ _ _ _ _ _).trans ((Nat.zero_add _).trans h1.symm))
    · exact piece1 m c _ j0 j1 4 (by decide) (x 0).val (x 0).isLt (ValueKit.view_emb_slice_whole_unit_val _ _ _ _ _ _) (by first | exact h0 | exact h0.trans (Nat.zero_add _).symm) ((ValueKit.view_emb_slice_whole_unit_val _ _ _ _ _ _).trans ((Nat.zero_add _).trans h1.symm))
    · exact piece1 m c _ j0 j1 3 (by decide) (x 0).val (x 0).isLt (ValueKit.view_emb_slice_whole_unit_val _ _ _ _ _ _) (by first | exact h0 | exact h0.trans (Nat.zero_add _).symm) ((ValueKit.view_emb_slice_whole_unit_val _ _ _ _ _ _).trans ((Nat.zero_add _).trans h1.symm))
    · exact piece1 m c _ j0 j1 2 (by decide) (x 0).val (x 0).isLt (ValueKit.view_emb_slice_whole_unit_val _ _ _ _ _ _) (by first | exact h0 | exact h0.trans (Nat.zero_add _).symm) ((ValueKit.view_emb_slice_whole_unit_val _ _ _ _ _ _).trans ((Nat.zero_add _).trans h1.symm))
    · exact piece1 m c _ j0 j1 1 (by decide) (x 0).val (x 0).isLt (ValueKit.view_emb_slice_whole_unit_val _ _ _ _ _ _) (by first | exact h0 | exact h0.trans (Nat.zero_add _).symm) ((ValueKit.view_emb_slice_whole_unit_val _ _ _ _ _ _).trans ((Nat.zero_add _).trans h1.symm))
    · exact piece1 m c _ j0 j1 0 (by decide) (x 0).val (x 0).isLt (ValueKit.view_emb_slice_whole_unit_val _ _ _ _ _ _) (by first | exact h0 | exact h0.trans (Nat.zero_add _).symm) ((ValueKit.view_emb_slice_whole_unit_val _ _ _ _ _ _).trans ((Nat.zero_add _).trans h1.symm))
    · exact piece0 m c _ j0 j1 7 (by decide) (x 0).val (x 0).isLt (ValueKit.view_emb_slice_whole_unit_val _ _ _ _ _ _) (by first | exact h0 | exact h0.trans (Nat.zero_add _).symm) ((ValueKit.view_emb_slice_whole_unit_val _ _ _ _ _ _).trans ((Nat.zero_add _).trans h1.symm))
    · exact piece0 m c _ j0 j1 6 (by decide) (x 0).val (x 0).isLt (ValueKit.view_emb_slice_whole_unit_val _ _ _ _ _ _) (by first | exact h0 | exact h0.trans (Nat.zero_add _).symm) ((ValueKit.view_emb_slice_whole_unit_val _ _ _ _ _ _).trans ((Nat.zero_add _).trans h1.symm))
    · exact piece0 m c _ j0 j1 5 (by decide) (x 0).val (x 0).isLt (ValueKit.view_emb_slice_whole_unit_val _ _ _ _ _ _) (by first | exact h0 | exact h0.trans (Nat.zero_add _).symm) ((ValueKit.view_emb_slice_whole_unit_val _ _ _ _ _ _).trans ((Nat.zero_add _).trans h1.symm))
    · exact piece0 m c _ j0 j1 4 (by decide) (x 0).val (x 0).isLt (ValueKit.view_emb_slice_whole_unit_val _ _ _ _ _ _) (by first | exact h0 | exact h0.trans (Nat.zero_add _).symm) ((ValueKit.view_emb_slice_whole_unit_val _ _ _ _ _ _).trans ((Nat.zero_add _).trans h1.symm))
    · exact piece0 m c _ j0 j1 3 (by decide) (x 0).val (x 0).isLt (ValueKit.view_emb_slice_whole_unit_val _ _ _ _ _ _) (by first | exact h0 | exact h0.trans (Nat.zero_add _).symm) ((ValueKit.view_emb_slice_whole_unit_val _ _ _ _ _ _).trans ((Nat.zero_add _).trans h1.symm))
    · exact piece0 m c _ j0 j1 2 (by decide) (x 0).val (x 0).isLt (ValueKit.view_emb_slice_whole_unit_val _ _ _ _ _ _) (by first | exact h0 | exact h0.trans (Nat.zero_add _).symm) ((ValueKit.view_emb_slice_whole_unit_val _ _ _ _ _ _).trans ((Nat.zero_add _).trans h1.symm))
    · exact piece0 m c _ j0 j1 1 (by decide) (x 0).val (x 0).isLt (ValueKit.view_emb_slice_whole_unit_val _ _ _ _ _ _) (by first | exact h0 | exact h0.trans (Nat.zero_add _).symm) ((ValueKit.view_emb_slice_whole_unit_val _ _ _ _ _ _).trans ((Nat.zero_add _).trans h1.symm))
    · exact piece0 m c _ j0 j1 0 (by decide) (x 0).val (x 0).isLt (ValueKit.view_emb_slice_whole_unit_val _ _ _ _ _ _) (by first | exact h0 | exact h0.trans (Nat.zero_add _).symm) ((ValueKit.view_emb_slice_whole_unit_val _ _ _ _ _ _).trans ((Nat.zero_add _).trans h1.symm))
  | succ n ih =>
    intro hn
    have h := lt8 ⟨n + 1, hn⟩
    have h0 : ¬ (n + 1) % 8 = 0 := by
      have : n + 1 < 8 := h
      omega
    rw [outsAt0_B m c ⟨n + 1, hn⟩ h0 h0, leftB, ← ih (Nat.lt_of_succ_lt hn)]
    rfl

/-- The planes of a block of the cotangent. -/
def planes (v : FVec Ideal S7x512x1024 .bf16) (a : Fin 7) : FVec Ideal S1x512x1024 .bf16 := fun y => v (ix3 a (y 1) (y 2))

/-- The seven groups of rows of the transposed weights. -/
def groups (w : FVec Ideal S7168x1024 .bf16) (a : Fin 7) : FVec Ideal S1024x1024 .bf16 :=
  fun y => w (ix2 ⟨a.val * 1024 + (y 0).val, by have : (y 0).val < 1024 := (y 0).isLt; omega⟩ (y 1))

theorem ld_plane (v : FVec Ideal S7x512x1024 .bf16) (o : ℕ) (a : Fin 7) (h : o = a.val) (inb) :
    View.ld (Val := Elt Ideal) (e' := .bf16) v (Rect.unit (s := S7x512x1024) ![o, 0, 0] ![1, 512, 1024] inb) = planes v a := by
  subst h
  funext y
  refine congrArg v ?_
  have e0 : (y 0).val = 0 := Nat.lt_one_iff.1 (y 0).isLt
  funext i
  fin_cases i <;> refine Fin.ext ((ValueKit.rect_emb_unit_val _ _ _ _ _).trans ?_)
  · exact (congrArg (a.val + ·) e0)
  · exact Nat.zero_add _
  · exact Nat.zero_add _

theorem idx_group (w : FVec Ideal S7168x1024 .bf16) (o : ℕ) (a : Fin 7) (h : o = a.val * 1024) (inb) :
    (fun j => w ((Rect.unit (s := S7168x1024) ![o, 0] ![1024, 1024] inb).toLoadRect.idx j)) = groups w a := by
  subst h
  funext y
  refine congrArg w ?_
  funext i
  fin_cases i <;> refine Fin.ext ((ValueKit.rect_emb_unit_val _ _ _ _ _).trans ?_)
  · rfl
  · exact Nat.zero_add _

theorem ld_group (w : FVec Ideal S7168x1024 .bf16) (o : ℕ) (a : Fin 7) (h : o = a.val * 1024) (inb) :
    View.ld (Val := Elt Ideal) (e' := .bf16) w (Rect.unit (s := S7168x1024) ![o, 0] ![1024, 1024] inb) = groups w a := idx_group w o a h inb

/-- What point `t` stores into its block of the first result. -/
theorem point4 (c : Dev nD) (t : Fin cfg0.N) (j : S512x1024.Idx) :
    (outsAt0 m c t.val t.isLt).1 j = dxPay (planes (iblk m c 0 t)) (groups (wts m c)) (iblk m c 2 t) (iblk m c 1 t) (iblk m c 3 t) j := by
  by_cases h0 : t.val % 8 = 0
  · have hs := scratch m c t.val t.isLt
    rw [outsAt0_A m c t h0 h0, leftA] at hs ⊢
    frame_out
    have hs' := fun j => congrFun hs j
    frame_out at hs'
    simp only [View.readCov_eq_canon', hs']
    rw [ld_plane _ 0 0 rfl, ld_plane _ 1 1 rfl, ld_plane _ 2 2 rfl, ld_plane _ 3 3 rfl, ld_plane _ 4 4 rfl, ld_plane _ 5 5 rfl, ld_plane _ 6 6 rfl, idx_group _ 0 0 rfl, idx_group _ 1024 1 rfl, idx_group _ 2048 2 rfl, idx_group _ 3072 3 rfl, idx_group _ 4096 4 rfl, idx_group _ 5120 5 rfl, idx_group _ 6144 6 rfl]
    rfl
  · have hs := scratch m c (t.val - 1) (Nat.lt_of_le_of_lt (Nat.sub_le _ _) t.isLt)
    rw [outsAt0_B m c t h0 h0, leftB, hs]
    frame_out
    rw [read_unread_whole, ld_plane _ 0 0 rfl, ld_plane _ 1 1 rfl, ld_plane _ 2 2 rfl, ld_plane _ 3 3 rfl, ld_plane _ 4 4 rfl, ld_plane _ 5 5 rfl, ld_plane _ 6 6 rfl, ld_group _ 0 0 rfl, ld_group _ 1024 1 rfl, ld_group _ 2048 2 rfl, ld_group _ 3072 3 rfl, ld_group _ 4096 4 rfl, ld_group _ 5120 5 rfl, ld_group _ 6144 6 rfl]
    rfl

/-- What point `t` stores into its block of the second result. -/
theorem point5 (c : Dev nD) (t : Fin cfg0.N) (j : S512x1024.Idx) :
    (outsAt0 m c t.val t.isLt).2.1 j = halfPay (planes (iblk m c 0 t)) (groups (wts m c)) (iblk m c 2 t) (iblk m c 1 t) (iblk m c 3 t) j := by
  by_cases h0 : t.val % 8 = 0
  · have hs := scratch m c t.val t.isLt
    rw [outsAt0_A m c t h0 h0, leftA] at hs ⊢
    frame_out
    have hs' := fun j => congrFun hs j
    frame_out at hs'
    simp only [View.readCov_eq_canon', hs']
    rw [ld_plane _ 0 0 rfl, ld_plane _ 1 1 rfl, ld_plane _ 2 2 rfl, ld_plane _ 3 3 rfl, ld_plane _ 4 4 rfl, ld_plane _ 5 5 rfl, ld_plane _ 6 6 rfl, idx_group _ 0 0 rfl, idx_group _ 1024 1 rfl, idx_group _ 2048 2 rfl, idx_group _ 3072 3 rfl, idx_group _ 4096 4 rfl, idx_group _ 5120 5 rfl, idx_group _ 6144 6 rfl]
    rfl
  · have hs := scratch m c (t.val - 1) (Nat.lt_of_le_of_lt (Nat.sub_le _ _) t.isLt)
    rw [outsAt0_B m c t h0 h0, leftB, hs]
    frame_out
    rw [read_unread_whole, ld_plane _ 0 0 rfl, ld_plane _ 1 1 rfl, ld_plane _ 2 2 rfl, ld_plane _ 3 3 rfl, ld_plane _ 4 4 rfl, ld_plane _ 5 5 rfl, ld_plane _ 6 6 rfl, ld_group _ 0 0 rfl, ld_group _ 1024 1 rfl, ld_group _ 2048 2 rfl, ld_group _ 3072 3 rfl, ld_group _ 4096 4 rfl, ld_group _ 5120 5 rfl, ld_group _ 6144 6 rfl]
    rfl

/-- Row 0 of a block reads the row stored last. -/
theorem row_hit {κ : Kind} {sp : Space} (v : View sig κ sp S8x1024 .f32) (f : v.ty.Contents (Elt Ideal)) (inb)
    (w : (Rect.unit (s := S8x1024) ![0, 0] ![1, 1024] inb).shape.Idx → EReal) (L : List (View.Piece (Elt Ideal) S8x1024 .f32)) (r : Fin 8) (k : Fin 1024) (h : r.val = 0) :
    v.read (Elt Ideal) (v.writes (Elt Ideal) f (⟨Rect.unit (s := S8x1024) ![0, 0] ![1, 1024] inb, w⟩ :: L)) (ix2 r k) = w (ix2 0 k) :=
  View.read_writes_cons_rows_of_mem (o := 0) v f inb w L (ix2 r k) (ix2 0 k) rfl (h.trans rfl) rfl

/-- Every other row reads what was there before. -/
theorem row_miss {κ : Kind} {sp : Space} (v : View sig κ sp S8x1024 .f32) (f : v.ty.Contents (Elt Ideal)) (inb)
    (w : (Rect.unit (s := S8x1024) ![0, 0] ![1, 1024] inb).shape.Idx → EReal) (L : List (View.Piece (Elt Ideal) S8x1024 .f32)) (r : Fin 8) (k : Fin 1024) (h : ¬ r.val = 0) :
    v.read (Elt Ideal) (v.writes (Elt Ideal) f (⟨Rect.unit (s := S8x1024) ![0, 0] ![1, 1024] inb, w⟩ :: L)) (ix2 r k) = v.read (Elt Ideal) (v.writes (Elt Ideal) f L) (ix2 r k) :=
  View.read_writes_cons_rows_of_not_mem (o := 0) (W := 1) v f inb w L (ix2 r k) rfl rfl (.inr (by show 0 + 1 ≤ r.val; omega))

/-- What point `t` adds to the third result. -/
def term (c : Dev nD) (t : Fin cfg0.N) (y : S8x1024.Idx) : EReal :=
  if (y 0).val = 0 then dgPay (planes (iblk m c 0 t)) (groups (wts m c)) (iblk m c 2 t) (fun _ => 0) (ix2 0 (y 1)) else 0

theorem term_hit (c : Dev nD) (t : Fin cfg0.N) (r : Fin 8) (k : Fin 1024) (h : r.val = 0) :
    term m c t (ix2 r k) = dgPay (planes (iblk m c 0 t)) (groups (wts m c)) (iblk m c 2 t) (fun _ => 0) (ix2 0 k) := if_pos h

theorem term_miss (c : Dev nD) (t : Fin cfg0.N) (r : Fin 8) (k : Fin 1024) (h : ¬ r.val = 0) : term m c t (ix2 r k) = 0 := if_neg h

/-- The block that the first point fills the third result with. -/
theorem pay4_apply (y : S8x1024.Idx) : k0_pay4 (F := Ideal) y = (0 : EReal) := by
  idx_vars y
  pointwise [k0_pay4]

/-- The stored row, over what the row held. -/
theorem pay3_apply (u v : FVec Ideal S512x1024 .f32) (acc : FVec Ideal S1x1024 .f32) (x : S1x1024.Idx) :
    k0_pay3 (F := Ideal) u v acc x = acc x + k0_pay3 (F := Ideal) u v (fun _ => 0) x := by
  idx_vars x
  pointwise [k0_pay3]

/-- The third result's block after the first point. -/
theorem point6_A (c : Dev nD) (t : Fin cfg0.N) (h0 : t.val % 8 = 0) (y : S8x1024.Idx) :
    (outsAt0 m c t.val t.isLt).2.2.1 y = (0 : EReal) + term m c t y := by
  have hs := scratch m c t.val t.isLt
  rw [outsAt0_A m c t h0 h0, leftA] at hs ⊢
  frame_out
  have hs' := fun j => congrFun hs j
  frame_out at hs'
  rw [← View.read_writes_junk_eq_canon (ms0_6 t).view]
  idx_vars y
  by_cases hr : y0.val = 0
  · rw [row_hit (h := hr)]
    rw [pay3_apply]
    rw [term_hit (h := hr), View.readCov_fill _ _ _ _ _ (by decide)]
    simp only [View.readCov_eq_canon', hs']
    rw [ld_plane _ 0 0 rfl, ld_plane _ 1 1 rfl, ld_plane _ 2 2 rfl, ld_plane _ 3 3 rfl, ld_plane _ 4 4 rfl, ld_plane _ 5 5 rfl, ld_plane _ 6 6 rfl, idx_group _ 0 0 rfl, idx_group _ 1024 1 rfl, idx_group _ 2048 2 rfl, idx_group _ 3072 3 rfl, idx_group _ 4096 4 rfl, idx_group _ 5120 5 rfl, idx_group _ 6144 6 rfl]
    exact congrArg (fun a : EReal => a + dgPay (planes (iblk m c 0 t)) (groups (wts m c)) (iblk m c 2 t) (fun _ => 0) (ix2 0 y1)) (pay4_apply _)
  · rw [row_miss (h := hr)]
    rw [View.read_writes_junk_eq_canon, View.canon_cons_unit_lit _ _ _ (by decide), term_miss (h := hr), add_zero]
    exact pay4_apply _

/-- The third result's block after a later point. -/
theorem point6_B (c : Dev nD) (t : Fin cfg0.N) (h0 : ¬ t.val % 8 = 0) (y : S8x1024.Idx) :
    (outsAt0 m c t.val t.isLt).2.2.1 y = (outsAt0 m c (t.val - 1) (Nat.lt_of_le_of_lt (Nat.sub_le _ _) t.isLt)).2.2.1 y + term m c t y := by
  have hs := scratch m c (t.val - 1) (Nat.lt_of_le_of_lt (Nat.sub_le _ _) t.isLt)
  rw [outsAt0_B m c t h0 h0, leftB, hs]
  frame_out
  rw [read_unread_whole]
  idx_vars y
  by_cases hr : y0.val = 0
  · rw [row_hit (h := hr)]
    rw [pay3_apply]
    rw [term_hit (h := hr), ld_plane _ 0 0 rfl, ld_plane _ 1 1 rfl, ld_plane _ 2 2 rfl, ld_plane _ 3 3 rfl, ld_plane _ 4 4 rfl, ld_plane _ 5 5 rfl, ld_plane _ 6 6 rfl, ld_group _ 0 0 rfl, ld_group _ 1024 1 rfl, ld_group _ 2048 2 rfl, ld_group _ 3072 3 rfl, ld_group _ 4096 4 rfl, ld_group _ 5120 5 rfl, ld_group _ 6144 6 rfl]
    refine congrArg (fun a : EReal => a + dgPay (planes (iblk m c 0 t)) (groups (wts m c)) (iblk m c 2 t) (fun _ => 0) (ix2 0 y1)) (congrArg (outsAt0 m c (t.val - 1) (Nat.lt_of_le_of_lt (Nat.sub_le _ _) t.isLt)).2.2.1 ?_)
    funext a; fin_cases a <;> exact Fin.ext ((ValueKit.rect_emb_unit_val _ _ _ _ _).trans (by first | exact (Nat.zero_add _).trans hr.symm | exact Nat.zero_add _))
  · rw [row_miss (h := hr)]
    rw [View.writes_nil, Memref.IsWhole.read_unread, term_miss (h := hr), add_zero]

section Values

variable (c : Dev nD) (h0 : Real (X0 m c)) (h1 : Real (X1 m c)) (h2 : Real (X2 m c)) (h3 : Real (X3 m c))

include h2 in
theorem groups_real (a : Fin 7) : Real (groups (wts m c) a) := fun j => h2 _

include h3 in
theorem planes_real (t : Fin cfg0.N) (a : Fin 7) : Real (planes (iblk m c 0 t) a) := fun j =>
  (h3 _).imp fun _ e => (dz_block m c t a (j 1) (j 2)).trans e

include h0 in
theorem x_real (t : Fin cfg0.N) : Real (show FVec Ideal S512x1024 .f32 from iblk m c 2 t) := fun j => by
  idx_vars j
  exact (h0 _).imp fun _ e => (x_block m c t j0 j1).trans e

include h1 in
theorem g_real (t : Fin cfg0.N) : Real (show FVec Ideal S1x1024 .f32 from iblk m c 3 t) := fun j => by
  idx_vars j
  have : j0 = 0 := Subsingleton.elim _ _
  subst this
  exact (h1 _).imp fun _ e => (g_block m c t j1).trans e

/-- What comes back to a row of the block is what comes back to that row of the array. -/
theorem back_eq (t : Fin cfg0.N) (r : Fin 512) (j : Fin 1024) :
    blockBack (planes (iblk m c 0 t)) (groups (wts m c)) r j = back (X2 m c) (X3 m c) (rowOf t r) j := by
  unfold blockBack back
  refine Fin.sum_points_lanes_congr (A := 1) (L := 7168) 7 (g := fun _ l => re (X3 m c) (ix3 0 (rowOf t r) l) * re (X2 m c) (ix3 0 j l)) (fun a k ha hl => ?_) |>.trans (Fin.sum_univ_one _)
  have e : (⟨a.val % 7 * 1024 + k.val, hl⟩ : Fin 7168) = ⟨a.val * 1024 + k.val, by omega⟩ := Fin.ext (by
    show a.val % 7 * 1024 + k.val = a.val * 1024 + k.val
    rw [Nat.mod_eq_of_lt a.isLt])
  rw [e]
  exact congrArg₂ (· * ·) (congrArg EReal.toReal (dz_block m c t a r k)) rfl

include h0 h1 h2 h3

/-- The payload at a point, in the whole arrays' terms. -/
theorem dx_point (t : Fin cfg0.N) (r : Fin 512) (j : Fin 1024) :
    dxPay (planes (iblk m c 0 t)) (groups (wts m c)) (iblk m c 2 t) (iblk m c 1 t) (iblk m c 3 t) (ix2 r j)
      = Cert.Reference4Ideal.Read.val_main_v43 (F := Ideal) (X0 m c) (X1 m c) (X2 m c) (X3 m c) (X4 m c) (ix2 (rowOf t r) j) := by
  rw [Cert.Reference4Ideal.MixIn.dx_apply _ _ _ _ _ h0 h1 h2 h3,
    dx_payload _ _ _ _ _ (planes_real m c h3 t) (groups_real m c h2) (x_real m c h0 t) (g_real m c h1 t)]
  refine congrArg₂ (fun (a b : EReal) => a + b) (ct_block m c t r j) (congrArg _ ?_)
  rw [show blockBack (planes (iblk m c 0 t)) (groups (wts m c)) r = back (X2 m c) (X3 m c) (rowOf t r) from funext (back_eq m c t r),
    show (fun k => re (iblk m c 2 t : FVec Ideal S512x1024 .f32) (ix2 r k)) = row (X0 m c) (rowOf t r) from
      funext fun k => congrArg EReal.toReal (x_block m c t r k),
    show (fun k => re (iblk m c 3 t : FVec Ideal S1x1024 .f32) (ix2 0 k)) = fun k => re (X1 m c) (ix2 0 k) from
      funext fun k => congrArg EReal.toReal (g_block m c t k)]

/-- The gradient of the input. -/
theorem out4 : (dats m 0 c).arrAt 4 cfg0.N = Cert.Reference4Ideal.Read.val_main_v43 (F := Ideal) (X0 m c) (X1 m c) (X2 m c) (X3 m c) (X4 m c) := by
  refine (dats m 0 c).arrAt_eq_of_covers 4 _ (by decide +kernel) fun t hf y => ?_
  blk_simp
  rw [after0_4, point4]
  idx_vars y
  have e : ((View.whole main_v16_0).slice (win0_4.rect t)).emb (ix2 y0 y1) = ix2 (rowOf t y0) y1 := by blk_ext [idx t, rowOf]
  rw [e, dx_point m c h0 h1 h2 h3]

/-- Half the gradient of the input. -/
theorem out5 : (dats m 0 c).arrAt 5 cfg0.N = Cert.Reference4Ideal.Read.val_main_v47 (F := Ideal) (X0 m c) (X1 m c) (X2 m c) (X3 m c) (X4 m c) := by
  refine (dats m 0 c).arrAt_eq_of_covers 5 _ (by decide +kernel) fun t hf y => ?_
  blk_simp
  rw [after0_5, point5]
  idx_vars y
  have e : ((View.whole main_v16_1).slice (win0_5.rect t)).emb (ix2 y0 y1) = ix2 (rowOf t y0) y1 := by blk_ext [idx t, rowOf]
  rw [e, half_payload, dx_point m c h0 h1 h2 h3, Cert.Reference4Ideal.MixIn.half_apply]

/-- What a point adds to row 0 of the third result: the sum over the block's rows. -/
theorem term_row (t : Fin cfg0.N) (r : Fin 8) (j : Fin 1024) (h : r.val = 0) :
    term m c t (ix2 r j) = ((∑ r : Fin 512, row (X0 m c) (rowOf t r) j * scale (row (X0 m c) (rowOf t r)) * back (X2 m c) (X3 m c) (rowOf t r) j : ℝ) : EReal) := by
  rw [term_hit (h := h), dg_payload _ _ _ (planes_real m c h3 t) (groups_real m c h2) (x_real m c h0 t), zero_add]
  refine congrArg _ (Finset.sum_congr rfl fun i _ => ?_)
  rw [back_eq,
    show (fun k => re (iblk m c 2 t : FVec Ideal S512x1024 .f32) (ix2 i k)) = row (X0 m c) (rowOf t i) from
      funext fun k => congrArg EReal.toReal (x_block m c t i k)]
  exact congrArg (fun a => a * _ * _) (congrArg EReal.toReal (x_block m c t i j))

/-- The gradient of the scale vector. -/
theorem out6 : (dats m 0 c).arrAt 6 cfg0.N = Cert.Reference4Ideal.Read.val_main_v49 (F := Ideal) (X0 m c) (X2 m c) (X3 m c) := by
  refine (dats m 0 c).arrAt_eq_of_after_last 6 t0_7 (by decide +kernel) _ fun y => ?_
  blk_simp
  rw [after0_6, Pipeline.eq_sum_fin_of_reset_step_apply_last (fun n h => (outsAt0 m c n h).2.2.1) 8 (fun _ => (0 : EReal)) (term m c)
    (point6_A m c) (point6_B m c) (le_of_eq N_0) t0_7 rfl y, zero_add]
  idx_vars y
  rw [Cert.Reference4Ideal.MixIn.dg_apply _ _ _ h0 h2 h3]
  by_cases hr : y0.val = 0
  · rw [if_pos hr]
    refine (Finset.sum_congr rfl fun t _ => term_row m c h0 h1 h2 h3 t y0 y1 hr).trans ((coe_sum _ _).trans (congrArg _ ?_))
    refine (Fin.sum_points_lanes_congr (A := 1) (L := 4096) 8
      (g := fun _ l => row (X0 m c) l y1 * scale (row (X0 m c) l) * back (X2 m c) (X3 m c) l y1) fun t k ha hl => ?_).trans (Fin.sum_univ_one _)
    have e : rowOf t k = ⟨t.val % 8 * 512 + k.val, hl⟩ := Fin.ext (by
      have := lt8 t
      show t.val * 512 + k.val = t.val % 8 * 512 + k.val
      rw [Nat.mod_eq_of_lt this])
    rw [e]
  · rw [if_neg hr]
    exact Finset.sum_eq_zero (M := EReal) fun t _ => term_miss m c t y0 y1 hr

end Values

end Cert.Kernel4Ideal.MixIn

end
-- ==== Proof.MixInClaim.lean ====
module

public import proofs.«01_k».proof.Defs
public import proofs.«01_k».proof.Proof.MixInKernel
public import proofs.«01_k».proof.Proof.Gen.Kernel4
public import Idealize.ShloMosaic.Lib.Claim

@[expose] public section

set_option maxRecDepth 16384

noncomputable section

namespace Cert.MixIn

open Idealize.ShloMosaic Idealize.ShloMosaic.TcCoe Idealize.SL.Sem Cert.Reals

/-- The side conditions of the precondition's operations. -/
instance finite_facts : Cert.Pre_finite4.Facts where
  bcast_S_S1x4096x1024 := by decide
  reducesTo_S1x4096x1024_S_d0_1_2 := by decide
  h_S_ := by decide
  bcast_S_S1x1024 := by decide
  reducesTo_S1x1024_S_d0_1 := by decide
  bcast_S_S1x1024x7168 := by decide
  reducesTo_S1x1024x7168_S_d0_1_2 := by decide
  bcast_S_S1x4096x7168 := by decide
  reducesTo_S1x4096x7168_S_d0_1_2 := by decide

open Cert.Pre_finite4 in
/-- The precondition read back: the arguments that it tests are real everywhere. -/
theorem real_of_finite (x0 : FVec Ideal S1x4096x1024 .f32) (x1 : FVec Ideal S1x1024 .f32) (x2 : FVec Ideal S1x1024x7168 .f32) (x3 : FVec Ideal S1x4096x7168 .f32) (x4 : FVec Ideal S1x4096x1024 .f32) (h : Cert.Pre_finite4.fn (F := Ideal) x0 x1 x2 x3 x4 = fun _ => 1#1) :
    Real x0 ∧ Real x1 ∧ Real x2 ∧ Real x3 := by
  have e := congrFun h ix0
  obtain ⟨e, e3⟩ := IntOp.andi_eq_one.1 e
  obtain ⟨e, e2⟩ := IntOp.andi_eq_one.1 e
  obtain ⟨e0, e1⟩ := IntOp.andi_eq_one.1 e
  exact ⟨real_of_all _ _ _ _ _ _ e0, real_of_all _ _ _ _ _ _ e1, real_of_all _ _ _ _ _ _ e2, real_of_all _ _ _ _ _ _ e3⟩

/-- The kernel's results are the reference's. -/
theorem algebraic : Cert.algebraic_Kernel4Ideal_Reference4Ideal_pre_finite4 := by
  pair_intro
  · run_from Cert.Kernel4Ideal.MixIn.run_blocks m g
  · refine (θ_run _ _ _).mono (fun r h c => ?_) (Cert.Reference4Ideal.Value.run m' g')
    obtain ⟨e0, e1, e2, e3, e4⟩ := hagree c
    obtain ⟨r0, r1, r2, r3⟩ := real_of_finite _ _ _ _ _ (hpre c)
    obtain ⟨h0, h1, h2, rest⟩ := h c
    refine ⟨h0.trans ?_, h1.trans ?_, h2.trans ?_, rest⟩
    · refine (Cert.Reference4Ideal.Read.val_main_v43_eq m' c).trans ?_
      rw [e0, e1, e2, e3, e4]
      exact (Cert.Kernel4Ideal.MixIn.out4 m c r0 r1 r2 r3).symm
    · refine (Cert.Reference4Ideal.Read.val_main_v47_eq m' c).trans ?_
      rw [e0, e1, e2, e3, e4]
      exact (Cert.Kernel4Ideal.MixIn.out5 m c r0 r1 r2 r3).symm
    · refine (Cert.Reference4Ideal.Read.val_main_v49_eq _ _ _).trans ?_
      rw [e0, e2, e3]
      exact (Cert.Kernel4Ideal.MixIn.out6 m c r0 r1 r2 r3).symm

/-- The bit-level program's frame: the two texts are one, and the run is for any floats. -/
theorem frame_kernel : Cert.quiescent_Kernel4 := fun m ρ _ =>
  Eq.mp (by sl_kernel_rfl) (Cert.Kernel4Ideal.MixIn.frame (F := Bits) m ρ)

/-- The reference's frame: no operation writes an argument, and it has no semaphore. -/
theorem frame_reference : Cert.quiescent_Reference4Ideal := fun m ρ _ =>
  (θ_run Cert.Reference4Ideal.defs _ _).mono (fun r h => ⟨fun c => (h c).2.2.2, sem_eq_zero_of_no_sems (by decide) r.2⟩)
    (Cert.Reference4Ideal.Value.run (F := Ideal) m ρ)

end Cert.MixIn

end
-- ==== Proof.LossRef.lean ====
module

public import proofs.«01_k».proof.Proof.Gen.Reference5Ideal.Read
public import proofs.«01_k».proof.Proof.RealsLn

@[expose] public section

set_option maxRecDepth 16384

noncomputable section

namespace Cert.Reference5Ideal.Loss

open Cert.Reference5Ideal Cert.Reference5Ideal.Gen Cert.Reference5Ideal.Read Idealize.ShloMosaic Idealize.ShloMosaic.TcCoe Cert.Reals

variable (x0 : FVec Ideal S1x4096x1024 .f32) (x1 : FVec Ideal S1x1024 .f32) (x2 x3 : FVec Ideal S1x1024x2816 .f32) (x4 : FVec Ideal S1x2816x1024 .f32)
  (x5 : FVec Ideal S1024 .f32) (x6 : FVec Ideal S1x4096x1024 .f32)

/-- 1/2048: one half over the number of channels. -/
theorem lit_2048 : Ideal.ofBits .f32 0x3A000000#32 = ((1 / 2048 : ℝ) : EReal) := by
  simp [Ideal.ofBits, Ideal.ieee]; norm_num [← EReal.coe_mul]

/-- Row `t` of an array. -/
def row (x : FVec Ideal S1x4096x1024 .f32) (t : Fin 4096) (k : Fin 1024) : ℝ := re x (ix3 0 t k)

/-- The normalised row. -/
def nrm (t : Fin 4096) (k : Fin 1024) : ℝ := row x0 t k * scale (row x0 t) * re x1 (ix2 0 k)

/-- A row times a matrix. -/
def lin (u : Fin 1024 → ℝ) (w : FVec Ideal S1x1024x2816 .f32) (f : Fin 2816) : ℝ := ∑ k, u k * re w (ix3 0 k f)

/-- The hidden row: the gate's SiLU times the up product. -/
def hid (t : Fin 4096) (f : Fin 2816) : ℝ := lin (nrm x0 x1 t) x2 f * sgm (lin (nrm x0 x1 t) x2 f) * lin (nrm x0 x1 t) x3 f

/-- The half-FFN's output row. -/
def hh (t : Fin 4096) (j : Fin 1024) : ℝ := row x0 t j + 1 / 2 * ∑ f, hid x0 x1 x2 x3 t f * re x4 (ix3 0 f j)

/-- What the final norm leaves of it, less the target. -/
def ee (t : Fin 4096) (j : Fin 1024) : ℝ :=
  hh x0 x1 x2 x3 x4 t j * scale (hh x0 x1 x2 x3 x4 t) * re x5 (ix1 j) - row x6 t j

/-- The cotangent of the final norm's output. -/
def dy (t : Fin 4096) (j : Fin 1024) : ℝ := ee x0 x1 x2 x3 x4 x5 x6 t j / 1024

/-- The gradient of the half-FFN's output row. -/
def dh (t : Fin 4096) (j : Fin 1024) : ℝ :=
  normGrad (hh x0 x1 x2 x3 x4 t) (fun k => re x5 (ix1 k)) (dy x0 x1 x2 x3 x4 x5 x6 t) j

variable (h0 : Real x0) (h1 : Real x1) (h2 : Real x2) (h3 : Real x3) (h4 : Real x4) (h5 : Real x5) (h6 : Real x6)

include h0 h1 in
theorem nrm_apply (t : Fin 4096) (k : Fin 1024) : val_main_v14 (F := Ideal) x0 x1 (ix2 t k) = ((nrm x0 x1 t k : ℝ) : EReal) := by
  pointwise [val_main_v14, val_main_v13, val_main_v12, val_main_v11, val_main_v10, val_main_v9, val_main_v8, val_main_v7, val_main_cst_1, val_main_v6, val_main_v5, val_main_cst_0, val_main_v4, val_main_v3, val_main_cst, val_main_v2, val_main_v1, val_main_v0]
  have hpos : 0 < (∑ x : Fin 1024, re x0 (ix3 0 t x) * re x0 (ix3 0 t x)) / 1024 + eps := meanSq_pos (row x0 t)
  simp only [h0.eq, h1.eq, lit_1024, lit_eps, ← EReal.coe_mul, coe_sum, ← EReal.coe_add, coe_div (show (1024 : ℝ) ≠ 0 by norm_num), coe_rsqrt hpos]
  rfl

include h0 h1 h2 in
theorem gg_apply (t : Fin 4096) (f : Fin 2816) : val_main_v16 (F := Ideal) x0 x1 x2 (ix2 t f) = ((lin (nrm x0 x1 t) x2 f : ℝ) : EReal) := by
  pointwise [val_main_v16, val_main_v15]
  simp only [nrm_apply x0 x1 h0 h1, h2.eq, ← EReal.coe_mul, coe_sum]
  rfl

include h0 h1 h3 in
theorem uu_apply (t : Fin 4096) (f : Fin 2816) : val_main_v18 (F := Ideal) x0 x1 x3 (ix2 t f) = ((lin (nrm x0 x1 t) x3 f : ℝ) : EReal) := by
  pointwise [val_main_v18, val_main_v17]
  simp only [nrm_apply x0 x1 h0 h1, h3.eq, ← EReal.coe_mul, coe_sum]
  rfl

include h0 h1 h2 h3 in
theorem hid_apply (t : Fin 4096) (f : Fin 2816) : val_main_v20 (F := Ideal) x0 x1 x2 x3 (ix2 t f) = ((hid x0 x1 x2 x3 t f : ℝ) : EReal) := by
  pointwise [val_main_v20, val_main_v19, val_main_call0_v0, val_main_call0_v1, val_main_call0_v2, val_main_call0_v3, val_main_call0_v4, val_main_call0_v5, val_main_call0_cst, val_main_call0_cst_0]
  rw [gg_apply x0 x1 x2 h0 h1 h2, uu_apply x0 x1 x3 h0 h1 h3, coe_sgm, ← EReal.coe_mul, ← EReal.coe_mul]
  rfl

include h0 h1 h2 h3 h4 in
theorem hh_apply (t : Fin 4096) (j : Fin 1024) : val_main_v26 (F := Ideal) x0 x1 x2 x3 x4 (ix2 t j) = ((hh x0 x1 x2 x3 x4 t j : ℝ) : EReal) := by
  pointwise [val_main_v26, val_main_v25, val_main_v24, val_main_cst_2, val_main_v23, val_main_v22, val_main_v21]
  simp only [hid_apply x0 x1 x2 x3 h0 h1 h2 h3, h0.eq, h4.eq, lit_half, ← EReal.coe_mul, coe_sum, ← EReal.coe_add]
  rfl

include h0 h1 h2 h3 h4 in
theorem scale_apply (t : Fin 4096) (o : Fin 1) : val_main_v34 (F := Ideal) x0 x1 x2 x3 x4 (ix2 t o) = ((scale (hh x0 x1 x2 x3 x4 t) : ℝ) : EReal) := by
  pointwise [val_main_v34, val_main_v33, val_main_v32, val_main_cst_5, val_main_v31, val_main_v30, val_main_cst_4, val_main_v29, val_main_v28, val_main_cst_3, val_main_v27]
  simp only [hh_apply x0 x1 x2 x3 x4 h0 h1 h2 h3 h4, lit_1024, lit_eps, ← EReal.coe_mul, coe_sum, ← EReal.coe_add, coe_div (show (1024 : ℝ) ≠ 0 by norm_num)]
  exact coe_rsqrt (meanSq_pos (hh x0 x1 x2 x3 x4 t))

include h0 h1 h2 h3 h4 in
theorem slope_apply (t : Fin 4096) (o : Fin 1) : val_main_v37 (F := Ideal) x0 x1 x2 x3 x4 (ix2 t o)
    = ((-(1 / 2) * (scale (hh x0 x1 x2 x3 x4 t) / meanSq (hh x0 x1 x2 x3 x4 t)) : ℝ) : EReal) := by
  have hpos := (meanSq_pos (hh x0 x1 x2 x3 x4 t)).ne'
  pointwise [val_main_v37, val_main_v36, val_main_cst_6, val_main_v35]
  rw [scale_apply x0 x1 x2 x3 x4 h0 h1 h2 h3 h4]
  pointwise [val_main_v33, val_main_v32, val_main_cst_5, val_main_v31, val_main_v30, val_main_cst_4, val_main_v29, val_main_v28, val_main_cst_3, val_main_v27]
  simp only [hh_apply x0 x1 x2 x3 x4 h0 h1 h2 h3 h4, lit_1024, lit_eps, lit_neg_half, ← EReal.coe_mul, coe_sum, ← EReal.coe_add, coe_div (show (1024 : ℝ) ≠ 0 by norm_num)]
  refine (congrArg _ (coe_div hpos _)).trans ?_
  rw [← EReal.coe_mul]

include h0 h1 h2 h3 h4 h5 h6 in
theorem ee_apply (t : Fin 4096) (j : Fin 1024) : val_main_v44 (F := Ideal) x0 x1 x2 x3 x4 x5 x6 (ix2 t j) = ((ee x0 x1 x2 x3 x4 x5 x6 t j : ℝ) : EReal) := by
  pointwise [val_main_v44, val_main_v43, val_main_v42, val_main_v41, val_main_v40, val_main_v39, val_main_v38]
  simp only [hh_apply x0 x1 x2 x3 x4 h0 h1 h2 h3 h4, scale_apply x0 x1 x2 x3 x4 h0 h1 h2 h3 h4, h5.eq, h6.eq, ← EReal.coe_mul, ← EReal.coe_sub]
  rfl

include h0 h1 h2 h3 h4 h5 h6 in
theorem dy_apply (t : Fin 4096) (j : Fin 1024) : val_main_v62 (F := Ideal) x0 x1 x2 x3 x4 x5 x6 (ix2 t j) = ((dy x0 x1 x2 x3 x4 x5 x6 t j : ℝ) : EReal) := by
  pointwise [val_main_v62, val_main_v61, val_main_v60, val_main_v59, val_main_cst_16, val_main_v58, val_main_v57, val_main_cst_14, val_main_cst_15, val_main_v47, val_main_v46, val_main_cst_7]
  simp only [ee_apply x0 x1 x2 x3 x4 x5 x6 h0 h1 h2 h3 h4 h5 h6, lit_1024, lit_half, lit_two, mul_one, ← EReal.coe_mul, coe_div (show (1024 : ℝ) ≠ 0 by norm_num)]
  refine congrArg _ ?_
  unfold dy; ring

include h0 h1 h2 h3 h4 h5 h6 in
/-- The gradient of the half-FFN's output. -/
theorem dh_apply (t : Fin 4096) (j : Fin 1024) : val_main_v82 (F := Ideal) x0 x1 x2 x3 x4 x5 x6 (ix2 t j) = ((dh x0 x1 x2 x3 x4 x5 x6 t j : ℝ) : EReal) := by
  pointwise [val_main_v82, val_main_v81, val_main_v80, val_main_v79, val_main_v78, val_main_v77, val_main_cst_21, val_main_v76, val_main_v75, val_main_cst_20, val_main_v74, val_main_v73, val_main_v72, val_main_v71, val_main_v70, val_main_cst_19, val_main_v69, val_main_v67, val_main_v66, val_main_v40]
  simp only [dy_apply x0 x1 x2 x3 x4 x5 x6 h0 h1 h2 h3 h4 h5 h6, hh_apply x0 x1 x2 x3 x4 h0 h1 h2 h3 h4, scale_apply x0 x1 x2 x3 x4 h0 h1 h2 h3 h4, slope_apply x0 x1 x2 x3 x4 h0 h1 h2 h3 h4,
    h5.eq, lit_1024, ← EReal.coe_mul, coe_sum, ← EReal.coe_add, coe_div (show (1024 : ℝ) ≠ 0 by norm_num), Finset.univ_unique, Finset.sum_singleton]
  refine congrArg _ ?_
  rw [scale_div]
  unfold dh normGrad
  ring

include h0 h1 h2 h3 h4 h5 h6 in
/-- Half of it, the cotangent of the down product. -/
theorem half_apply (t : Fin 4096) (j : Fin 1024) : val_main_v85 (F := Ideal) x0 x1 x2 x3 x4 x5 x6 (ix2 t j) = ((1 / 2 * dh x0 x1 x2 x3 x4 x5 x6 t j : ℝ) : EReal) := by
  pointwise [val_main_v85, val_main_v84, val_main_v83, val_main_cst_22]
  rw [dh_apply x0 x1 x2 x3 x4 x5 x6 h0 h1 h2 h3 h4 h5 h6, lit_half, ← EReal.coe_mul]

include h0 h1 h2 h3 h4 h5 h6 in
/-- The gradient of the final norm's scale, and the loss by channels; the other rows are zero. -/
theorem vecs_apply (r : Fin 8) (j : Fin 1024) : val_main_v88 (F := Ideal) x0 x1 x2 x3 x4 x5 x6 (ix2 r j)
    = ((if r.val = 0 then ∑ t : Fin 4096, dy x0 x1 x2 x3 x4 x5 x6 t j * (hh x0 x1 x2 x3 x4 t j * scale (hh x0 x1 x2 x3 x4 t))
        else if r.val = 1 then (∑ t : Fin 4096, ee x0 x1 x2 x3 x4 x5 x6 t j * ee x0 x1 x2 x3 x4 x5 x6 t j) * (1 / 2048) else 0 : ℝ) : EReal) := by
  pointwise [val_main_v88, val_main_v87, val_main_cst_23, val_main_v86, val_main_v68, val_main_cst_18, val_main_v65, val_main_v64, val_main_cst_17, val_main_v63, val_main_v56, val_main_v55, val_main_cst_13, val_main_v54, val_main_v53, val_main_cst_12, val_main_v45, val_main_v39, val_main_v38]
  simp only [dy_apply x0 x1 x2 x3 x4 x5 x6 h0 h1 h2 h3 h4 h5 h6, ee_apply x0 x1 x2 x3 x4 x5 x6 h0 h1 h2 h3 h4 h5 h6, hh_apply x0 x1 x2 x3 x4 h0 h1 h2 h3 h4, scale_apply x0 x1 x2 x3 x4 h0 h1 h2 h3 h4,
    lit_2048, ← EReal.coe_mul, coe_sum, Finset.univ_unique, Finset.sum_singleton]
  by_cases a : r.val = 0
  · rw [dif_pos (by omega), if_pos a]
    exact congrArg _ (Finset.sum_congr rfl fun t _ => mul_comm _ _)
  rw [dif_neg (by omega), if_neg a]
  by_cases b : r.val = 1
  · rw [dif_pos (by omega), if_pos b]
    exact congrArg _ (mul_comm _ _)
  rw [dif_neg (by omega), if_neg b]
  rfl

include h0 h1 in
theorem n_result (t : Fin 4096) (k : Fin 1024) : val_main_v89 (F := Ideal) x0 x1 (ix2 t k) = ((nrm x0 x1 t k : ℝ) : EReal) := by
  pointwise [val_main_v89]
  exact nrm_apply x0 x1 h0 h1 t k

include h0 h1 h2 in
theorem gg_result (t : Fin 4096) (f : Fin 2816) : val_main_v90 (F := Ideal) x0 x1 x2 (ix2 t f) = ((lin (nrm x0 x1 t) x2 f : ℝ) : EReal) := by
  pointwise [val_main_v90]
  exact gg_apply x0 x1 x2 h0 h1 h2 t f

include h0 h1 h3 in
theorem uu_result (t : Fin 4096) (f : Fin 2816) : val_main_v91 (F := Ideal) x0 x1 x3 (ix2 t f) = ((lin (nrm x0 x1 t) x3 f : ℝ) : EReal) := by
  pointwise [val_main_v91]
  exact uu_apply x0 x1 x3 h0 h1 h3 t f

include h0 h1 h2 h3 in
theorem hid_result (t : Fin 4096) (f : Fin 2816) : val_main_v93 (F := Ideal) x0 x1 x2 x3 (ix3 0 t f) = ((hid x0 x1 x2 x3 t f : ℝ) : EReal) := by
  pointwise [val_main_v93, val_main_v92]
  exact hid_apply x0 x1 x2 x3 h0 h1 h2 h3 t f

end Cert.Reference5Ideal.Loss

end
-- ==== Proof.LossPure.lean ====
module

public import proofs.«01_k».proof.Proof.Gen.Kernel5Ideal.Skeleton
public import proofs.«01_k».proof.Proof.RealsLn
public import Idealize.ShloMosaic.Lib.Pipeline.ValueKit

@[expose] public section

set_option maxRecDepth 16384

noncomputable section

namespace Cert.Kernel5Ideal.Loss

open Cert.Kernel5Ideal Cert.Kernel5Ideal.Gen Idealize.ShloMosaic Idealize.ShloMosaic.TcCoe Idealize.SL.Sem Cert.Reals

/-- 1/1024. -/
theorem lit_inv_1024 : Ideal.ofBits .f32 0x3A800000#32 = ((1 / 1024 : ℝ) : EReal) := by
  simp [Ideal.ofBits, Ideal.ieee]; norm_num [← EReal.coe_mul]

/-- 1/2048. -/
theorem lit_inv_2048 : Ideal.ofBits .f32 0x3A000000#32 = ((1 / 2048 : ℝ) : EReal) := by
  simp [Ideal.ofBits, Ideal.ieee]; norm_num [← EReal.coe_mul]

variable (x : FVec Ideal S512x1024 .f32) (g gf : FVec Ideal S1x1024 .f32) (y : FVec Ideal S512x1024 .f32) (wg wu wd : FVec Ideal S2816x1024 .bf16)

/-- Row `r` of a block. -/
def brow (x : FVec Ideal S512x1024 .f32) (r : Fin 512) (k : Fin 1024) : ℝ := re x (ix2 r k)

/-- The normalised row. -/
def bnrm (r : Fin 512) (k : Fin 1024) : ℝ := brow x r k * scale (brow x r) * re g (ix2 0 k)

/-- A row times a matrix that is kept transposed. -/
def blin (u : Fin 1024 → ℝ) (w : FVec Ideal S2816x1024 .bf16) (f : Fin 2816) : ℝ := ∑ k, u k * re w (ix2 f k)

/-- The hidden row. -/
def bhid (r : Fin 512) (f : Fin 2816) : ℝ := blin (bnrm x g r) wg f * sgm (blin (bnrm x g r) wg f) * blin (bnrm x g r) wu f

/-- The half-FFN's output row. -/
def bh (r : Fin 512) (j : Fin 1024) : ℝ := brow x r j + 1 / 2 * ∑ f, bhid x g wg wu r f * re wd (ix2 f j)

/-- What the final norm leaves of it, less the target. -/
def be (r : Fin 512) (j : Fin 1024) : ℝ := bh x g wg wu wd r j * scale (bh x g wg wu wd r) * re gf (ix2 0 j) - brow y r j

/-- The cotangent of the final norm's output. -/
def bdy (r : Fin 512) (j : Fin 1024) : ℝ := be x g gf y wg wu wd r j / 1024

/-- The 256 rows of a matrix from row `o` on. -/
def part (o : ℕ) (h : o + 256 ≤ 2816) (w : FVec Ideal S2816x1024 .bf16) : FVec Ideal S256x1024 .bf16 :=
  fun i => w (ix2 ⟨o + (i 0).val, by have : (i 0).val < 256 := (i 0).isLt; omega⟩ (i 1))

/-- Loading those rows. -/
theorem ld_part (w : FVec Ideal S2816x1024 .bf16) (o : ℕ) (inb) :
    View.ld (Val := Elt Ideal) (e' := EltTy.bf16) w (Rect.unit (s := S2816x1024) ![o, 0] ![256, 1024] inb) = part o (inb 0) w := by
  funext i
  refine View.ld_unit_apply_of (Val := Elt Ideal) (e := EltTy.bf16) w _ _ inb i _ fun a => ?_
  fin_cases a
  · rfl
  · exact (Nat.zero_add _).symm

/-- A product with 256 rows of a matrix. -/
def linP (n : FVec Ideal S512x1024 .bf16) (o : ℕ) (h : o + 256 ≤ 2816) (w : FVec Ideal S2816x1024 .bf16) : FVec Ideal S512x256 .bf16 := k0_pay12 (F := Ideal) n (part o h w)

/-- 256 hidden columns, as computed. -/
def hidP (n : FVec Ideal S512x1024 .bf16) (o : ℕ) (h : o + 256 ≤ 2816) : FVec Ideal S512x256 .bf16 := k0_pay28 (F := Ideal) (linP n o h wg) (linP n o h wu)

/-- 256 hidden columns times their weights, added to `acc`. -/
def accP (acc : FVec Ideal S512x1024 .f32) (h : FVec Ideal S512x256 .bf16) (w : FVec Ideal S256x1024 .bf16) : FVec Ideal S512x1024 .f32 :=
  addf acc (matmul dot_S512x256_S256x1024_S512x1024_1_0_0_1_n_n none h w (constant S512x1024 .f32 0x00000000#32))

section Same

variable (n : FVec Ideal S512x1024 .bf16) (acc : FVec Ideal S512x1024 .f32) (a b h : FVec Ideal S512x256 .bf16) (w w' u v : FVec Ideal S256x1024 .bf16)

theorem same7 : k0_pay7 (F := Ideal) x g w = k0_pay12 (F := Ideal) (k0_pay5 (F := Ideal) x g) w := rfl
theorem same8 : k0_pay8 (F := Ideal) x g w = k0_pay12 (F := Ideal) (k0_pay5 (F := Ideal) x g) w := rfl
theorem same13 : k0_pay13 (F := Ideal) n w = k0_pay12 (F := Ideal) n w := rfl
theorem same16 : k0_pay16 (F := Ideal) n w = k0_pay12 (F := Ideal) n w := rfl
theorem same17 : k0_pay17 (F := Ideal) n w = k0_pay12 (F := Ideal) n w := rfl
theorem same21 : k0_pay21 (F := Ideal) n w = k0_pay12 (F := Ideal) n w := rfl
theorem same22 : k0_pay22 (F := Ideal) n w = k0_pay12 (F := Ideal) n w := rfl
theorem same26 : k0_pay26 (F := Ideal) n w = k0_pay12 (F := Ideal) n w := rfl
theorem same27 : k0_pay27 (F := Ideal) n w = k0_pay12 (F := Ideal) n w := rfl
theorem same31 : k0_pay31 (F := Ideal) n w = k0_pay12 (F := Ideal) n w := rfl
theorem same32 : k0_pay32 (F := Ideal) n w = k0_pay12 (F := Ideal) n w := rfl
theorem same35 : k0_pay35 (F := Ideal) n w = k0_pay12 (F := Ideal) n w := rfl
theorem same36 : k0_pay36 (F := Ideal) n w = k0_pay12 (F := Ideal) n w := rfl
theorem same40 : k0_pay40 (F := Ideal) n w = k0_pay12 (F := Ideal) n w := rfl
theorem same41 : k0_pay41 (F := Ideal) n w = k0_pay12 (F := Ideal) n w := rfl
theorem same45 : k0_pay45 (F := Ideal) n w = k0_pay12 (F := Ideal) n w := rfl
theorem same46 : k0_pay46 (F := Ideal) n w = k0_pay12 (F := Ideal) n w := rfl
theorem same50 : k0_pay50 (F := Ideal) n w = k0_pay12 (F := Ideal) n w := rfl
theorem same51 : k0_pay51 (F := Ideal) n w = k0_pay12 (F := Ideal) n w := rfl
theorem same54 : k0_pay54 (F := Ideal) n w = k0_pay12 (F := Ideal) n w := rfl
theorem same55 : k0_pay55 (F := Ideal) n w = k0_pay12 (F := Ideal) n w := rfl
theorem same9 : k0_pay9 (F := Ideal) a b = k0_pay28 (F := Ideal) a b := rfl
theorem same47 : k0_pay47 (F := Ideal) a b = k0_pay28 (F := Ideal) a b := rfl
theorem same14 : k0_pay14 (F := Ideal) n w u = k0_pay28 (F := Ideal) (k0_pay12 (F := Ideal) n w) (k0_pay12 (F := Ideal) n u) := rfl
theorem same18 : k0_pay18 (F := Ideal) n w u = k0_pay28 (F := Ideal) (k0_pay12 (F := Ideal) n w) (k0_pay12 (F := Ideal) n u) := rfl
theorem same23 : k0_pay23 (F := Ideal) n w u = k0_pay28 (F := Ideal) (k0_pay12 (F := Ideal) n w) (k0_pay12 (F := Ideal) n u) := rfl
theorem same33 : k0_pay33 (F := Ideal) n w u = k0_pay28 (F := Ideal) (k0_pay12 (F := Ideal) n w) (k0_pay12 (F := Ideal) n u) := rfl
theorem same37 : k0_pay37 (F := Ideal) n w u = k0_pay28 (F := Ideal) (k0_pay12 (F := Ideal) n w) (k0_pay12 (F := Ideal) n u) := rfl
theorem same42 : k0_pay42 (F := Ideal) n w u = k0_pay28 (F := Ideal) (k0_pay12 (F := Ideal) n w) (k0_pay12 (F := Ideal) n u) := rfl
theorem same52 : k0_pay52 (F := Ideal) n w u = k0_pay28 (F := Ideal) (k0_pay12 (F := Ideal) n w) (k0_pay12 (F := Ideal) n u) := rfl
theorem same56 : k0_pay56 (F := Ideal) n w u = k0_pay28 (F := Ideal) (k0_pay12 (F := Ideal) n w) (k0_pay12 (F := Ideal) n u) := rfl
theorem same11 : k0_pay11 (F := Ideal) acc a b w = accP acc (k0_pay28 (F := Ideal) a b) w := rfl
theorem same30 : k0_pay30 (F := Ideal) acc a b w = accP acc (k0_pay28 (F := Ideal) a b) w := rfl
theorem same49 : k0_pay49 (F := Ideal) acc a b w = accP acc (k0_pay28 (F := Ideal) a b) w := rfl
theorem same25 : k0_pay25 (F := Ideal) n acc w u v = accP acc (k0_pay28 (F := Ideal) (k0_pay12 (F := Ideal) n w) (k0_pay12 (F := Ideal) n u)) v := rfl
theorem same44 : k0_pay44 (F := Ideal) n acc w u v = accP acc (k0_pay28 (F := Ideal) (k0_pay12 (F := Ideal) n w) (k0_pay12 (F := Ideal) n u)) v := rfl
theorem same20 : k0_pay20 (F := Ideal) n acc h w' w u v = accP (accP acc h w') (k0_pay28 (F := Ideal) (k0_pay12 (F := Ideal) n w) (k0_pay12 (F := Ideal) n u)) v := rfl
theorem same39 : k0_pay39 (F := Ideal) n acc h w' w u v = accP (accP acc h w') (k0_pay28 (F := Ideal) (k0_pay12 (F := Ideal) n w) (k0_pay12 (F := Ideal) n u)) v := rfl
theorem same58 : k0_pay58 (F := Ideal) n acc h w' w u v = mulf (broadcast S512x1024 (Scalar.ofBits .f32 0x3F000000#32 : Ideal .f32)) (accP (accP acc h w') (k0_pay28 (F := Ideal) (k0_pay12 (F := Ideal) n w) (k0_pay12 (F := Ideal) n u)) v) := rfl
theorem cast10 : k0_pay10 (F := Ideal) a b = k0_pay29 (F := Ideal) a b := rfl
theorem cast48 : k0_pay48 (F := Ideal) a b = k0_pay29 (F := Ideal) a b := rfl
theorem cast19 : k0_pay19 (F := Ideal) n w u = k0_pay29 (F := Ideal) (k0_pay12 (F := Ideal) n w) (k0_pay12 (F := Ideal) n u) := rfl
theorem cast24 : k0_pay24 (F := Ideal) n w u = k0_pay29 (F := Ideal) (k0_pay12 (F := Ideal) n w) (k0_pay12 (F := Ideal) n u) := rfl
theorem cast38 : k0_pay38 (F := Ideal) n w u = k0_pay29 (F := Ideal) (k0_pay12 (F := Ideal) n w) (k0_pay12 (F := Ideal) n u) := rfl
theorem cast43 : k0_pay43 (F := Ideal) n w u = k0_pay29 (F := Ideal) (k0_pay12 (F := Ideal) n w) (k0_pay12 (F := Ideal) n u) := rfl
theorem cast57 : k0_pay57 (F := Ideal) n w u = k0_pay29 (F := Ideal) (k0_pay12 (F := Ideal) n w) (k0_pay12 (F := Ideal) n u) := rfl
theorem cast15 : k0_pay15 (F := Ideal) (k0_pay28 (F := Ideal) a b) = k0_pay29 (F := Ideal) a b := rfl
theorem cast34 : k0_pay34 (F := Ideal) (k0_pay28 (F := Ideal) a b) = k0_pay29 (F := Ideal) a b := rfl
theorem cast53 : k0_pay53 (F := Ideal) (k0_pay28 (F := Ideal) a b) = k0_pay29 (F := Ideal) a b := rfl

end Same

/-- What 256 hidden columns add to the down product, over `acc`. -/
def downP (n : FVec Ideal S512x1024 .bf16) (acc : FVec Ideal S512x1024 .f32) (o : ℕ) (h : o + 256 ≤ 2816) : FVec Ideal S512x1024 .f32 :=
  accP acc (k0_pay28 (F := Ideal) (linP n o h wg) (linP n o h wu)) (part o h wd)

/-- The down product, as computed. -/
def sumP (n : FVec Ideal S512x1024 .bf16) : FVec Ideal S512x1024 .f32 :=
  downP wg wu wd n (downP wg wu wd n (downP wg wu wd n (downP wg wu wd n (downP wg wu wd n (downP wg wu wd n (downP wg wu wd n (downP wg wu wd n (downP wg wu wd n (downP wg wu wd n (downP wg wu wd n (k0_pay6 (F := Ideal)) 0 (by decide)) 256 (by decide)) 512 (by decide)) 768 (by decide)) 1024 (by decide)) 1280 (by decide)) 1536 (by decide)) 1792 (by decide)) 2048 (by decide)) 2304 (by decide)) 2560 (by decide)

/-- Half of it. -/
def halfP : FVec Ideal S512x1024 .f32 :=
  mulf (broadcast S512x1024 (Scalar.ofBits .f32 0x3F000000#32 : Ideal .f32)) (sumP wg wu wd (k0_pay5 (F := Ideal) x g))

/-- What a point stores into its block of the first result. -/
def dhP : FVec Ideal S512x1024 .f32 :=
  k0_pay1 (F := Ideal) (k0_pay61 (F := Ideal) (k0_pay4 (F := Ideal) x) (halfP x g wg wu wd)) (k0_pay62 (F := Ideal) (k0_pay4 (F := Ideal) x) (halfP x g wg wu wd))
    (k0_pay67 (F := Ideal) (k0_pay4 (F := Ideal) x) (halfP x g wg wu wd) gf y) (k0_pay68 (F := Ideal) (k0_pay4 (F := Ideal) x) (halfP x g wg wu wd))

/-- What a point stores into its block of the second result. -/
def dhbP : FVec Ideal S512x1024 .bf16 :=
  k0_pay2 (F := Ideal) (k0_pay61 (F := Ideal) (k0_pay4 (F := Ideal) x) (halfP x g wg wu wd)) (k0_pay62 (F := Ideal) (k0_pay4 (F := Ideal) x) (halfP x g wg wu wd))
    (k0_pay67 (F := Ideal) (k0_pay4 (F := Ideal) x) (halfP x g wg wu wd) gf y) (k0_pay68 (F := Ideal) (k0_pay4 (F := Ideal) x) (halfP x g wg wu wd))

/-- The row of the scale's gradient, over `acc`. -/
def gfP (acc : FVec Ideal S1x1024 .f32) : FVec Ideal S1x1024 .f32 := k0_pay66 (F := Ideal) (k0_pay4 (F := Ideal) x) (halfP x g wg wu wd) gf y acc

/-- The row of the loss, over `acc`. -/
def lossP (acc : FVec Ideal S1x1024 .f32) : FVec Ideal S1x1024 .f32 := k0_pay64 (F := Ideal) (k0_pay4 (F := Ideal) x) (halfP x g wg wu wd) gf y acc

variable (hx : Real x) (hg : Real g) (hgf : Real gf) (hy : Real y) (hwg : Real wg) (hwu : Real wu) (hwd : Real wd)

include hx hg in
theorem n_pay (r : Fin 512) (k : Fin 1024) : k0_pay5 (F := Ideal) x g (ix2 r k) = ((bnrm x g r k : ℝ) : EReal) := by
  pointwise [k0_pay5, k0_pay4]
  have hpos : 0 < (∑ k : Fin 1024, re x (ix2 r k) * re x (ix2 r k)) / 1024 + eps := meanSq_pos (brow x r)
  simp only [hx.eq, hg.eq, lit_1024, lit_eps, ← EReal.coe_mul, coe_sum, ← EReal.coe_add, coe_div (show (1024 : ℝ) ≠ 0 by norm_num), coe_rsqrt hpos]
  rfl

theorem lin_pay (n : FVec Ideal S512x1024 .bf16) (u : Fin 512 → Fin 1024 → ℝ) (hn : ∀ r k, n (ix2 r k) = ((u r k : ℝ) : EReal)) (w : FVec Ideal S2816x1024 .bf16) (hw : Real w)
    (o : ℕ) (h : o + 256 ≤ 2816) (r : Fin 512) (a : Fin 256) : linP n o h w (ix2 r a) = ((blin (u r) w ⟨o + a.val, by omega⟩ : ℝ) : EReal) := by
  pointwise [linP, k0_pay12]
  unfold part
  simp only [hn, hw.eq, ← EReal.coe_mul, coe_sum]
  rfl

include hx hg hwg hwu in
theorem hid_pay (o : ℕ) (h : o + 256 ≤ 2816) (r : Fin 512) (a : Fin 256) :
    hidP wg wu (k0_pay5 (F := Ideal) x g) o h (ix2 r a) = ((bhid x g wg wu r ⟨o + a.val, by omega⟩ : ℝ) : EReal) := by
  pointwise [hidP, k0_pay28]
  rw [lin_pay _ (bnrm x g) (n_pay x g hx hg) wg hwg, lin_pay _ (bnrm x g) (n_pay x g hx hg) wu hwu, coe_sgm', ← EReal.coe_mul, ← EReal.coe_mul]
  rfl

/-- A hidden column times its weight, at a column's number. -/
def prod (r : Fin 512) (j : Fin 1024) (f : ℕ) : ℝ := if h : f < 2816 then bhid x g wg wu r ⟨f, h⟩ * re wd (ix2 ⟨f, h⟩ j) else 0

include hx hg hwg hwu hwd in
theorem down_pay (acc : FVec Ideal S512x1024 .f32) (v : Fin 512 → Fin 1024 → ℝ) (hv : ∀ r j, acc (ix2 r j) = ((v r j : ℝ) : EReal)) (o : ℕ) (h : o + 256 ≤ 2816) (r : Fin 512) (j : Fin 1024) :
    downP wg wu wd (k0_pay5 (F := Ideal) x g) acc o h (ix2 r j) = ((v r j + ∑ a ∈ Finset.range 256, prod x g wg wu wd r j (o + a) : ℝ) : EReal) := by
  pointwise [downP, accP]
  have e (a : Fin 256) : k0_pay28 (F := Ideal) (linP (k0_pay5 (F := Ideal) x g) o h wg) (linP (k0_pay5 (F := Ideal) x g) o h wu) (ix2 r a)
      = ((bhid x g wg wu r ⟨o + a.val, by omega⟩ : ℝ) : EReal) := hid_pay x g wg wu hx hg hwg hwu o h r a
  simp only [e, hv]
  unfold part
  simp only [hwd.eq, ← EReal.coe_mul, coe_sum, ← EReal.coe_add]
  refine congrArg _ (congrArg _ ?_)
  rw [Finset.sum_range]
  refine Finset.sum_congr rfl fun a _ => ?_
  unfold prod
  rw [dif_pos (show o + a.val < 2816 by omega)]
  rfl

include hx hg hwg hwu hwd in
theorem sum_pay (r : Fin 512) (j : Fin 1024) :
    sumP wg wu wd (k0_pay5 (F := Ideal) x g) (ix2 r j) = ((∑ f, bhid x g wg wu r f * re wd (ix2 f j) : ℝ) : EReal) := by
  have z (r : Fin 512) (j : Fin 1024) : k0_pay6 (F := Ideal) (ix2 r j) = ((∑ a ∈ Finset.range 0, prod x g wg wu wd r j a : ℝ) : EReal) := by
    pointwise [k0_pay6]
    rw [Finset.sum_range_zero, EReal.coe_zero]
  have s (acc : FVec Ideal S512x1024 .f32) (o : ℕ) (h : o + 256 ≤ 2816) (i : ∀ r j, acc (ix2 r j) = ((∑ a ∈ Finset.range o, prod x g wg wu wd r j a : ℝ) : EReal)) (r : Fin 512) (j : Fin 1024) :
      downP wg wu wd (k0_pay5 (F := Ideal) x g) acc o h (ix2 r j) = ((∑ a ∈ Finset.range (o + 256), prod x g wg wu wd r j a : ℝ) : EReal) := by
    rw [down_pay x g wg wu wd hx hg hwg hwu hwd acc _ i, Finset.sum_range_add]
  refine (s _ _ _ (s _ _ _ (s _ _ _ (s _ _ _ (s _ _ _ (s _ _ _ (s _ _ _ (s _ _ _ (s _ _ _ (s _ _ _ (s _ _ _ z)))))))))) r j).trans (congrArg _ ?_)
  rw [Finset.sum_range]
  exact Finset.sum_congr rfl fun a _ => dif_pos a.isLt

include hx hg hwg hwu hwd in
theorem half_pay (r : Fin 512) (j : Fin 1024) : halfP x g wg wu wd (ix2 r j) = ((1 / 2 * ∑ f, bhid x g wg wu r f * re wd (ix2 f j) : ℝ) : EReal) := by
  pointwise [halfP]
  rw [sum_pay x g wg wu wd hx hg hwg hwu hwd, lit_half, ← EReal.coe_mul]

include hx hg hwg hwu hwd in
theorem h_pay (r : Fin 512) (j : Fin 1024) : k0_pay59 (F := Ideal) (k0_pay4 (F := Ideal) x) (halfP x g wg wu wd) (ix2 r j) = ((bh x g wg wu wd r j : ℝ) : EReal) := by
  pointwise [k0_pay59, k0_pay4]
  rw [half_pay x g wg wu wd hx hg hwg hwu hwd, hx.eq, ← EReal.coe_add]
  rfl

include hx hg hwg hwu hwd in
theorem r_pay (r : Fin 512) (o : Fin 1) : k0_pay61 (F := Ideal) (k0_pay4 (F := Ideal) x) (halfP x g wg wu wd) (ix2 r o) = ((scale (bh x g wg wu wd r) : ℝ) : EReal) := by
  pointwise [k0_pay61]
  simp only [h_pay x g wg wu wd hx hg hwg hwu hwd, lit_1024, lit_eps, ← EReal.coe_mul, coe_sum, ← EReal.coe_add, coe_div (show (1024 : ℝ) ≠ 0 by norm_num)]
  exact coe_rsqrt (meanSq_pos (bh x g wg wu wd r))

include hx hg hwg hwu hwd in
theorem hr_pay (r : Fin 512) (j : Fin 1024) :
    k0_pay62 (F := Ideal) (k0_pay4 (F := Ideal) x) (halfP x g wg wu wd) (ix2 r j) = ((bh x g wg wu wd r j * scale (bh x g wg wu wd r) : ℝ) : EReal) := by
  pointwise [k0_pay62]
  rw [h_pay x g wg wu wd hx hg hwg hwu hwd, r_pay x g wg wu wd hx hg hwg hwu hwd, ← EReal.coe_mul]

include hx hg hwg hwu hwd in
theorem rb_pay (r : Fin 512) (j : Fin 1024) :
    k0_pay68 (F := Ideal) (k0_pay4 (F := Ideal) x) (halfP x g wg wu wd) (ix2 r j) = ((scale (bh x g wg wu wd r) : ℝ) : EReal) := by
  pointwise [k0_pay68]
  exact r_pay x g wg wu wd hx hg hwg hwu hwd r 0

include hx hg hgf hy hwg hwu hwd

theorem e_pay (r : Fin 512) (j : Fin 1024) :
    k0_pay63 (F := Ideal) (k0_pay4 (F := Ideal) x) (halfP x g wg wu wd) gf y (ix2 r j) = ((be x g gf y wg wu wd r j : ℝ) : EReal) := by
  pointwise [k0_pay63, k0_pay60]
  rw [hr_pay x g wg wu wd hx hg hwg hwu hwd, hgf.eq, hy.eq, ← EReal.coe_mul, ← EReal.coe_sub]
  rfl

theorem dy_pay (r : Fin 512) (j : Fin 1024) :
    k0_pay65 (F := Ideal) (k0_pay4 (F := Ideal) x) (halfP x g wg wu wd) gf y (ix2 r j) = ((bdy x g gf y wg wu wd r j : ℝ) : EReal) := by
  pointwise [k0_pay65]
  rw [e_pay x g gf y wg wu wd hx hg hgf hy hwg hwu hwd, lit_inv_1024, ← EReal.coe_mul]
  refine congrArg _ ?_
  unfold bdy; ring

theorem dyg_pay (r : Fin 512) (j : Fin 1024) :
    k0_pay67 (F := Ideal) (k0_pay4 (F := Ideal) x) (halfP x g wg wu wd) gf y (ix2 r j) = ((bdy x g gf y wg wu wd r j * re gf (ix2 0 j) : ℝ) : EReal) := by
  pointwise [k0_pay67, k0_pay60]
  rw [dy_pay x g gf y wg wu wd hx hg hgf hy hwg hwu hwd, hgf.eq, ← EReal.coe_mul]

/-- The gradient of the half-FFN's output row. -/
theorem dh_pay (r : Fin 512) (j : Fin 1024) : dhP x g gf y wg wu wd (ix2 r j)
    = ((normGrad (bh x g wg wu wd r) (fun k => re gf (ix2 0 k)) (bdy x g gf y wg wu wd r) j : ℝ) : EReal) := by
  pointwise [dhP, k0_pay1]
  simp only [r_pay x g wg wu wd hx hg hwg hwu hwd, hr_pay x g wg wu wd hx hg hwg hwu hwd, rb_pay x g wg wu wd hx hg hwg hwu hwd,
    dyg_pay x g gf y wg wu wd hx hg hgf hy hwg hwu hwd, lit_1024, ← EReal.coe_mul, coe_sum, ← EReal.coe_sub, coe_div (show (1024 : ℝ) ≠ 0 by norm_num)]
  refine congrArg _ ?_
  rw [show (∑ i, bdy x g gf y wg wu wd r i * re gf (ix2 0 i) * (bh x g wg wu wd r i * scale (bh x g wg wu wd r)))
      = (∑ i, bh x g wg wu wd r i * (bdy x g gf y wg wu wd r i * re gf (ix2 0 i))) * scale (bh x g wg wu wd r) by
    rw [Finset.sum_mul]; exact Finset.sum_congr rfl fun i _ => by ring]
  unfold normGrad
  ring

/-- Half of it. -/
theorem dhb_pay (r : Fin 512) (j : Fin 1024) : dhbP x g gf y wg wu wd (ix2 r j)
    = ((1 / 2 * normGrad (bh x g wg wu wd r) (fun k => re gf (ix2 0 k)) (bdy x g gf y wg wu wd r) j : ℝ) : EReal) := by
  have e := dh_pay x g gf y wg wu wd hx hg hgf hy hwg hwu hwd r j
  unfold dhP at e
  pointwise [dhbP, k0_pay2]
  rw [e, lit_half, ← EReal.coe_mul]

/-- The row of the scale's gradient. -/
theorem gf_pay (acc : FVec Ideal S1x1024 .f32) (j : Fin 1024) : gfP x g gf y wg wu wd acc (ix2 0 j)
    = acc (ix2 0 j) + ((∑ r : Fin 512, bdy x g gf y wg wu wd r j * (bh x g wg wu wd r j * scale (bh x g wg wu wd r)) : ℝ) : EReal) := by
  pointwise [gfP, k0_pay66]
  simp only [dy_pay x g gf y wg wu wd hx hg hgf hy hwg hwu hwd, hr_pay x g wg wu wd hx hg hwg hwu hwd, ← EReal.coe_mul, coe_sum]

/-- The row of the loss. -/
theorem loss_pay (acc : FVec Ideal S1x1024 .f32) (j : Fin 1024) : lossP x g gf y wg wu wd acc (ix2 0 j)
    = acc (ix2 0 j) + (((∑ r : Fin 512, be x g gf y wg wu wd r j * be x g gf y wg wu wd r j) * (1 / 2048) : ℝ) : EReal) := by
  pointwise [lossP, k0_pay64]
  simp only [e_pay x g gf y wg wu wd hx hg hgf hy hwg hwu hwd, lit_inv_2048, ← EReal.coe_mul, coe_sum]

end Cert.Kernel5Ideal.Loss

end
-- ==== Proof.LossKernel.lean ====
module

public import proofs.«01_k».proof.Proof.Gen.Kernel5Ideal.Value
public import proofs.«01_k».proof.Proof.LossRef
public import proofs.«01_k».proof.Proof.LossPure
public import Idealize.ShloMosaic.Lib.Pipeline.ValueKit
public import Idealize.ShloMosaic.Lib.Claim
public import Idealize.ShloMosaic.Lib.Pipeline.ReadBack
public import Idealize.ShloMosaic.Lib.WritesUnit

@[expose] public section

set_option maxRecDepth 16384

noncomputable section

namespace Cert.Kernel5Ideal.Loss

open Cert.Kernel5Ideal Cert.Kernel5Ideal.Gen Idealize.ShloMosaic Idealize.ShloMosaic.TcCoe Idealize.SL.Sem Cert.Reals
open Idealize.ShloMosaic.Pipeline (Dat)
open Cert.Reference5Ideal.Loss (row nrm lin hid hh ee dy dh)

variable (m : (ℓ : Loc nD τ sig) → Buf (Elt Ideal) ℓ)

/-- Argument 0. -/
abbrev X0 (c : Dev nD) : FVec Ideal S1x4096x1024 .f32 := m ((c : Thread nD τ).loc main_arg0)

/-- Argument 1. -/
abbrev X1 (c : Dev nD) : FVec Ideal S1x1024 .f32 := m ((c : Thread nD τ).loc main_arg1)

/-- Argument 2. -/
abbrev X2 (c : Dev nD) : FVec Ideal S1x1024x2816 .f32 := m ((c : Thread nD τ).loc main_arg2)

/-- Argument 3. -/
abbrev X3 (c : Dev nD) : FVec Ideal S1x1024x2816 .f32 := m ((c : Thread nD τ).loc main_arg3)

/-- Argument 4. -/
abbrev X4 (c : Dev nD) : FVec Ideal S1x2816x1024 .f32 := m ((c : Thread nD τ).loc main_arg4)

/-- Argument 5. -/
abbrev X5 (c : Dev nD) : FVec Ideal S1024 .f32 := m ((c : Thread nD τ).loc main_arg5)

/-- Argument 6. -/
abbrev X6 (c : Dev nD) : FVec Ideal S1x4096x1024 .f32 := m ((c : Thread nD τ).loc main_arg6)

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![0, 0]
    ∧ win0_7.index t = ![t.val, 0] ∧ win0_8.index t = ![t.val, 0] ∧ win0_9.index t = ![t.val, 0] ∧ win0_10.index t = ![0, t.val, 0] ∧ t.val < 8 :=
  (by decide +kernel : ∀ t : Fin grid0.N, _)

theorem lt8 (t : Fin cfg0.N) : t.val < 8 := (idx t).2.2.2.2.2.2.2.2.2.2.2

/-- The row of the whole array that row `r` of point `t`'s block is. -/
def rowOf (t : Fin cfg0.N) (r : Fin 512) : Fin 4096 := ⟨t.val * 512 + r.val, by have := lt8 t; omega⟩

theorem x_block (c : Dev nD) (t : Fin cfg0.N) (r : Fin 512) (k : Fin 1024) :
    (show EReal from iblk m c 0 t (ix2 r k)) = X0 m c (ix3 0 (rowOf t r) k) := by
  blk_simp [iblk, idx t]; entry_read; pointwise; blk_ext [idx t, rowOf]

theorem g_block (c : Dev nD) (t : Fin cfg0.N) (k : Fin 1024) :
    (show EReal from iblk m c 1 t (ix2 0 k)) = X1 m c (ix2 0 k) := by
  blk_simp [iblk, idx t]; entry_read; pointwise; blk_ext [idx t, rowOf]

theorem gf_block (c : Dev nD) (t : Fin cfg0.N) (k : Fin 1024) :
    (show EReal from iblk m c 2 t (ix2 0 k)) = X5 m c (ix1 k) := by
  blk_simp [iblk, idx t]; entry_read; pointwise; blk_ext [idx t, rowOf]

theorem tgt_block (c : Dev nD) (t : Fin cfg0.N) (r : Fin 512) (k : Fin 1024) :
    (show EReal from iblk m c 3 t (ix2 r k)) = X6 m c (ix3 0 (rowOf t r) k) := by
  blk_simp [iblk, idx t]; entry_read; pointwise; blk_ext [idx t, rowOf]

/-- The gate's weights, transposed. -/
def wg (c : Dev nD) : FVec Ideal S2816x1024 .bf16 := fun j => X2 m c (ix3 0 (j 1) (j 0))

/-- The up product's weights, transposed. -/
def wu (c : Dev nD) : FVec Ideal S2816x1024 .bf16 := fun j => X3 m c (ix3 0 (j 1) (j 0))

/-- The down product's weights. -/
def wd (c : Dev nD) : FVec Ideal S2816x1024 .bf16 := fun j => X4 m c (ix3 0 (j 0) (j 1))

theorem wg_entry (c : Dev nD) : V m c main_v2 = wg m c := by
  funext j; idx_vars j; entry_read; pointwise; rfl

theorem wu_entry (c : Dev nD) : V m c main_v5 = wu m c := by
  funext j; idx_vars j; entry_read; pointwise; rfl

theorem wd_entry (c : Dev nD) : V m c main_v7 = wd m c := by
  funext j; idx_vars j; entry_read; pointwise; rfl

/-- The gate's weights, copied whole. -/
theorem wg_copied (w : FVec Ideal S2816x1024 .bf16) (inb) :
    ReadAs.same.apply (View.read (Elt Ideal) ((View.whole main_v2).slice (Rect.unit (s := S2816x1024) ![0, 0] ![2816, 1024] inb)) w) = w := by
  funext y
  refine congrArg w (funext fun a => Fin.ext ?_)
  fin_cases a <;> exact (ValueKit.view_emb_slice_whole_unit_val _ _ _ _ _ _).trans (Nat.zero_add _)

/-- The up product's weights, copied whole. -/
theorem wu_copied (w : FVec Ideal S2816x1024 .bf16) (inb) :
    ReadAs.same.apply (View.read (Elt Ideal) ((View.whole main_v5).slice (Rect.unit (s := S2816x1024) ![0, 0] ![2816, 1024] inb)) w) = w := by
  funext y
  refine congrArg w (funext fun a => Fin.ext ?_)
  fin_cases a <;> exact (ValueKit.view_emb_slice_whole_unit_val _ _ _ _ _ _).trans (Nat.zero_add _)

/-- The down product's weights, copied whole. -/
theorem wd_copied (w : FVec Ideal S2816x1024 .bf16) (inb) :
    ReadAs.same.apply (View.read (Elt Ideal) ((View.whole main_v7).slice (Rect.unit (s := S2816x1024) ![0, 0] ![2816, 1024] inb)) w) = w := by
  funext y
  refine congrArg w (funext fun a => Fin.ext ?_)
  fin_cases a <;> exact (ValueKit.view_emb_slice_whole_unit_val _ _ _ _ _ _).trans (Nat.zero_add _)

/-- One store of a whole scratch leaves what was stored. -/
theorem canon_all (w : FVec Ideal S2816x1024 .bf16) :
    View.canon (Val := Elt Ideal) (e := EltTy.bf16) [⟨Rect.whole S2816x1024, w⟩] = w := by
  funext y
  have e := View.canon_cons_emb (Val := Elt Ideal) (e := EltTy.bf16) (Rect.whole S2816x1024) w [] y
  rw [Rect.emb_whole_apply] at e
  exact e

/-- Rows of a scratch that a copy filled. -/
theorem cov_part {κ : Kind} {sp : Space} (v : View sig κ sp S2816x1024 .bf16) (w : FVec Ideal S2816x1024 .bf16) (B : Rect S2816x1024) :
    v.readCov (Val := Elt Ideal) [⟨Rect.whole S2816x1024, w⟩] B.toLoadRect = View.ld (Val := Elt Ideal) (e' := EltTy.bf16) w B := by
  rw [View.readCov_eq_canon', canon_all]

/-- After every point the scratches hold the weights. -/
theorem scratch (c : Dev nD) : ∀ (n : ℕ) (hn : n < cfg0.N), (outsAt0 m c n hn).2.2.2.2.2.2.2 = (wg m c, wu m c, wd m c) := fun n => by
  induction n with
  | zero =>
    intro hn
    rw [outsAt0_A m c ⟨0, hn⟩ rfl rfl, wg_entry, wu_entry, wd_entry]
    refine Prod.ext (funext fun j => ?_) (Prod.ext (funext fun j => ?_) (funext fun j => ?_))
    · frame_out; rw [wg_copied, canon_all]
    · frame_out; rw [wu_copied, canon_all]
    · frame_out; rw [wd_copied, canon_all]
  | succ n ih =>
    intro hn
    have h := lt8 ⟨n + 1, hn⟩
    have h0 : ¬ (n + 1) % 8 = 0 := by
      have : n + 1 < 8 := h
      omega
    rw [outsAt0_B m c ⟨n + 1, hn⟩ h0 h0, ← ih (Nat.lt_of_succ_lt hn)]
    rfl

theorem scratches (c : Dev nD) (t : Fin cfg0.N) :
    (outsAt0 m c (t.val - 1) (Nat.lt_of_le_of_lt (Nat.sub_le _ _) t.isLt)).2.2.2.2.2.2.2.1 = wg m c
    ∧ (outsAt0 m c (t.val - 1) (Nat.lt_of_le_of_lt (Nat.sub_le _ _) t.isLt)).2.2.2.2.2.2.2.2.1 = wu m c
    ∧ (outsAt0 m c (t.val - 1) (Nat.lt_of_le_of_lt (Nat.sub_le _ _) t.isLt)).2.2.2.2.2.2.2.2.2 = wd m c := by
  have hs := scratch m c (t.val - 1) (Nat.lt_of_le_of_lt (Nat.sub_le _ _) t.isLt)
  exact ⟨congrArg (fun p => p.1) hs, congrArg (fun p => p.2.1) hs, congrArg (fun p => p.2.2) hs⟩

/-- What point `t` stores into its block of the first result. -/
theorem point4 (c : Dev nD) (t : Fin cfg0.N) (j : S512x1024.Idx) :
    (outsAt0 m c t.val t.isLt).1 j = dhP (iblk m c 0 t) (iblk m c 1 t) (iblk m c 2 t) (iblk m c 3 t) (wg m c) (wu m c) (wd m c) j := by
  by_cases h0 : t.val % 8 = 0
  · rw [outsAt0_A m c t h0 h0, wg_entry, wu_entry, wd_entry]
    frame_out
    rw [wg_copied, wu_copied, wd_copied]
    simp only [cov_part, ld_part, same7, same8, same13, same16, same17, same21, same22, same26, same27, same31, same32, same35, same36, same40, same41, same45, same46, same50, same51, same54, same55, same9, same47, same14, same18, same23, same33, same37, same42, same52, same56, same11, same30, same49, same25, same44, same20, same39, same58, dhP, dhbP, halfP, sumP, downP, linP]
  · obtain ⟨hg, hu, hd⟩ := scratches m c t
    rw [outsAt0_B m c t h0 h0, hg, hu, hd]
    frame_out
    simp only [read_unread_whole, ld_part, same7, same8, same13, same16, same17, same21, same22, same26, same27, same31, same32, same35, same36, same40, same41, same45, same46, same50, same51, same54, same55, same9, same47, same14, same18, same23, same33, same37, same42, same52, same56, same11, same30, same49, same25, same44, same20, same39, same58, dhP, dhbP, halfP, sumP, downP, linP]

/-- The same of the second result. -/
theorem point5 (c : Dev nD) (t : Fin cfg0.N) (j : S512x1024.Idx) :
    (outsAt0 m c t.val t.isLt).2.1 j = dhbP (iblk m c 0 t) (iblk m c 1 t) (iblk m c 2 t) (iblk m c 3 t) (wg m c) (wu m c) (wd m c) j := by
  by_cases h0 : t.val % 8 = 0
  · rw [outsAt0_A m c t h0 h0, wg_entry, wu_entry, wd_entry]
    frame_out
    rw [wg_copied, wu_copied, wd_copied]
    simp only [cov_part, ld_part, same7, same8, same13, same16, same17, same21, same22, same26, same27, same31, same32, same35, same36, same40, same41, same45, same46, same50, same51, same54, same55, same9, same47, same14, same18, same23, same33, same37, same42, same52, same56, same11, same30, same49, same25, same44, same20, same39, same58, dhP, dhbP, halfP, sumP, downP, linP]
  · obtain ⟨hg, hu, hd⟩ := scratches m c t
    rw [outsAt0_B m c t h0 h0, hg, hu, hd]
    frame_out
    simp only [read_unread_whole, ld_part, same7, same8, same13, same16, same17, same21, same22, same26, same27, same31, same32, same35, same36, same40, same41, same45, same46, same50, same51, same54, same55, same9, same47, same14, same18, same23, same33, same37, same42, same52, same56, same11, same30, same49, same25, same44, same20, same39, same58, dhP, dhbP, halfP, sumP, downP, linP]

/-- The same of the fourth result. -/
theorem point7 (c : Dev nD) (t : Fin cfg0.N) (j : S512x1024.Idx) :
    (outsAt0 m c t.val t.isLt).2.2.2.1 j = k0_pay5 (F := Ideal) (iblk m c 0 t) (iblk m c 1 t) j := by
  by_cases h0 : t.val % 8 = 0
  · rw [outsAt0_A m c t h0 h0]
    frame_out
  · rw [outsAt0_B m c t h0 h0]
    frame_out

/-- A column of a product, in its 256 columns and among all. -/
theorem lin_tile {n : FVec Ideal S512x1024 .bf16} {u : Fin 512 → Fin 1024 → ℝ} (hn : ∀ r k, n (ix2 r k) = ((u r k : ℝ) : EReal)) {w : FVec Ideal S2816x1024 .bf16} (hw : Real w)
    (o : ℕ) (h : o + 256 ≤ 2816) (x : S512x256.Idx) (j0 : Fin 512) (j1 : Fin 2816) (h0 : j0.val = (x 0).val) (h1 : j1.val = o + (x 1).val) :
    linP n o h w x = ((blin (u j0) w j1 : ℝ) : EReal) := by
  idx_vars x
  refine (lin_pay n u hn w hw o h x0 x1).trans (congrArg _ ?_)
  exact congrArg₂ (fun a b => blin (u a) w b) (Fin.ext h0.symm) (Fin.ext h1.symm)

/-- A hidden column, in its 256 columns and among all. -/
theorem hid_tile {x : FVec Ideal S512x1024 .f32} {g : FVec Ideal S1x1024 .f32} {wg wu : FVec Ideal S2816x1024 .bf16} (hx : Real x) (hg : Real g) (hwg : Real wg) (hwu : Real wu)
    (o : ℕ) (h : o + 256 ≤ 2816) (y : S1x512x256.Idx) (j0 : Fin 512) (j1 : Fin 2816) (h0 : j0.val = (y 1).val) (h1 : j1.val = o + (y 2).val) :
    k0_pay29 (F := Ideal) (linP (k0_pay5 (F := Ideal) x g) o h wg) (linP (k0_pay5 (F := Ideal) x g) o h wu) y = ((bhid x g wg wu j0 j1 : ℝ) : EReal) := by
  idx_vars y
  pointwise [k0_pay29]
  refine (hid_pay x g wg wu hx hg hwg hwu o h y1 y2).trans (congrArg _ ?_)
  exact congrArg₂ (fun a b => bhid x g wg wu a b) (Fin.ext h0.symm) (Fin.ext h1.symm)

/-- The block of inputs at a point. -/
abbrev Bx (c : Dev nD) (t : Fin cfg0.N) : FVec Ideal S512x1024 .f32 := iblk m c 0 t

/-- The scale vector there. -/
abbrev Bg (c : Dev nD) (t : Fin cfg0.N) : FVec Ideal S1x1024 .f32 := iblk m c 1 t

/-- The final norm's scale vector there. -/
abbrev Bgf (c : Dev nD) (t : Fin cfg0.N) : FVec Ideal S1x1024 .f32 := iblk m c 2 t

/-- The block of targets there. -/
abbrev By (c : Dev nD) (t : Fin cfg0.N) : FVec Ideal S512x1024 .f32 := iblk m c 3 t

/-- The fifth result's block: the gate's product. -/
theorem point8 (c : Dev nD) (t : Fin cfg0.N) (hx : Real (Bx m c t)) (hg : Real (Bg m c t)) (hw : Real (wg m c)) (j0 : Fin 512) (j1 : Fin 2816) :
    (outsAt0 m c t.val t.isLt).2.2.2.2.1 (ix2 j0 j1) = ((blin (bnrm (Bx m c t) (Bg m c t) j0) (wg m c) j1 : ℝ) : EReal) := by
  by_cases hc : t.val % 8 = 0
  · rw [outsAt0_A m c t hc hc, wg_entry, wu_entry, wd_entry]
    frame_out
    rw [wg_copied]
    simp only [cov_part, ld_part, same7, same8, same13, same16, same17, same21, same22, same26, same27, same31, same32, same35, same36, same40, same41, same45, same46, same50, same51, same54, same55]
    canon_tiles x h
    all_goals first | exact lin_tile (n_pay (Bx m c t) (Bg m c t) hx hg) hw _ (by decide) x j0 j1 h0 h1 | exact lin_tile (n_pay (Bx m c t) (Bg m c t) hx hg) hw _ (by decide) x j0 j1 h0 (h1.trans (Nat.zero_add _).symm)
  · obtain ⟨eg, eu, ed⟩ := scratches m c t
    rw [outsAt0_B m c t hc hc, eg, eu, ed]
    frame_out
    simp only [read_unread_whole, ld_part, same7, same8, same13, same16, same17, same21, same22, same26, same27, same31, same32, same35, same36, same40, same41, same45, same46, same50, same51, same54, same55]
    canon_tiles x h
    all_goals first | exact lin_tile (n_pay (Bx m c t) (Bg m c t) hx hg) hw _ (by decide) x j0 j1 h0 h1 | exact lin_tile (n_pay (Bx m c t) (Bg m c t) hx hg) hw _ (by decide) x j0 j1 h0 (h1.trans (Nat.zero_add _).symm)

/-- The sixth result's block: the up product. -/
theorem point9 (c : Dev nD) (t : Fin cfg0.N) (hx : Real (Bx m c t)) (hg : Real (Bg m c t)) (hw : Real (wu m c)) (j0 : Fin 512) (j1 : Fin 2816) :
    (outsAt0 m c t.val t.isLt).2.2.2.2.2.1 (ix2 j0 j1) = ((blin (bnrm (Bx m c t) (Bg m c t) j0) (wu m c) j1 : ℝ) : EReal) := by
  by_cases hc : t.val % 8 = 0
  · rw [outsAt0_A m c t hc hc, wg_entry, wu_entry, wd_entry]
    frame_out
    rw [wu_copied]
    simp only [cov_part, ld_part, same7, same8, same13, same16, same17, same21, same22, same26, same27, same31, same32, same35, same36, same40, same41, same45, same46, same50, same51, same54, same55]
    canon_tiles x h
    all_goals first | exact lin_tile (n_pay (Bx m c t) (Bg m c t) hx hg) hw _ (by decide) x j0 j1 h0 h1 | exact lin_tile (n_pay (Bx m c t) (Bg m c t) hx hg) hw _ (by decide) x j0 j1 h0 (h1.trans (Nat.zero_add _).symm)
  · obtain ⟨eg, eu, ed⟩ := scratches m c t
    rw [outsAt0_B m c t hc hc, eg, eu, ed]
    frame_out
    simp only [read_unread_whole, ld_part, same7, same8, same13, same16, same17, same21, same22, same26, same27, same31, same32, same35, same36, same40, same41, same45, same46, same50, same51, same54, same55]
    canon_tiles x h
    all_goals first | exact lin_tile (n_pay (Bx m c t) (Bg m c t) hx hg) hw _ (by decide) x j0 j1 h0 h1 | exact lin_tile (n_pay (Bx m c t) (Bg m c t) hx hg) hw _ (by decide) x j0 j1 h0 (h1.trans (Nat.zero_add _).symm)

/-- The seventh result's block: the hidden rows. -/
theorem point10 (c : Dev nD) (t : Fin cfg0.N) (hx : Real (Bx m c t)) (hg : Real (Bg m c t)) (hwg : Real (wg m c)) (hwu : Real (wu m c)) (j0 : Fin 512) (j1 : Fin 2816) :
    (outsAt0 m c t.val t.isLt).2.2.2.2.2.2.1 (ix3 0 j0 j1) = ((bhid (Bx m c t) (Bg m c t) (wg m c) (wu m c) j0 j1 : ℝ) : EReal) := by
  by_cases hc : t.val % 8 = 0
  · rw [outsAt0_A m c t hc hc, wg_entry, wu_entry, wd_entry]
    frame_out
    rw [wg_copied, wu_copied]
    simp only [cov_part, ld_part, same7, same8, same13, same16, same17, same21, same22, same26, same27, same31, same32, same35, same36, same40, same41, same45, same46, same50, same51, same54, same55, same9, same47, same14, same18, same23, same33, same37, same42, same52, same56, cast10, cast15, cast19, cast24, cast34, cast38, cast43, cast48, cast53, cast57]
    canon_tiles x h
    all_goals first | exact hid_tile hx hg hwg hwu _ (by decide) x j0 j1 h1 h2 | exact hid_tile hx hg hwg hwu _ (by decide) x j0 j1 h1 (h2.trans (Nat.zero_add _).symm)
  · obtain ⟨eg, eu, ed⟩ := scratches m c t
    rw [outsAt0_B m c t hc hc, eg, eu, ed]
    frame_out
    simp only [read_unread_whole, ld_part, same7, same8, same13, same16, same17, same21, same22, same26, same27, same31, same32, same35, same36, same40, same41, same45, same46, same50, same51, same54, same55, same9, same47, same14, same18, same23, same33, same37, same42, same52, same56, cast10, cast15, cast19, cast24, cast34, cast38, cast43, cast48, cast53, cast57]
    canon_tiles x h
    all_goals first | exact hid_tile hx hg hwg hwu _ (by decide) x j0 j1 h1 h2 | exact hid_tile hx hg hwg hwu _ (by decide) x j0 j1 h1 (h2.trans (Nat.zero_add _).symm)

/-- Row `o` of a block reads the row stored last. -/
theorem row_hit {κ : Kind} {sp : Space} (o : ℕ) (v : View sig κ sp S8x1024 .f32) (f : v.ty.Contents (Elt Ideal)) (inb)
    (w : (Rect.unit (s := S8x1024) ![o, 0] ![1, 1024] inb).shape.Idx → EReal) (L : List (View.Piece (Elt Ideal) S8x1024 .f32)) (r : Fin 8) (k : Fin 1024) (h : r.val = o) :
    v.read (Elt Ideal) (v.writes (Elt Ideal) f (⟨Rect.unit (s := S8x1024) ![o, 0] ![1, 1024] inb, w⟩ :: L)) (ix2 r k) = w (ix2 0 k) :=
  View.read_writes_cons_rows_of_mem (o := o) v f inb w L (ix2 r k) (ix2 0 k) rfl (h.trans rfl) rfl

/-- Every other row reads what was there before. -/
theorem row_miss {κ : Kind} {sp : Space} (o : ℕ) (v : View sig κ sp S8x1024 .f32) (f : v.ty.Contents (Elt Ideal)) (inb)
    (w : (Rect.unit (s := S8x1024) ![o, 0] ![1, 1024] inb).shape.Idx → EReal) (L : List (View.Piece (Elt Ideal) S8x1024 .f32)) (r : Fin 8) (k : Fin 1024) (h : ¬ r.val = o) :
    v.read (Elt Ideal) (v.writes (Elt Ideal) f (⟨Rect.unit (s := S8x1024) ![o, 0] ![1, 1024] inb, w⟩ :: L)) (ix2 r k) = v.read (Elt Ideal) (v.writes (Elt Ideal) f L) (ix2 r k) :=
  View.read_writes_cons_rows_of_not_mem (o := o) (W := 1) v f inb w L (ix2 r k) rfl rfl (by
    show r.val < o ∨ o + 1 ≤ r.val
    omega)

/-- Row `o` of a block, loaded. -/
theorem ld_row (o : ℕ) (v : FVec Ideal S8x1024 .f32) (inb) (r : Fin 8) (k : Fin 1024) (h : r.val = o) :
    View.ld (Val := Elt Ideal) (e' := .f32) v (Rect.unit (s := S8x1024) ![o, 0] ![1, 1024] inb) (ix2 0 k) = v (ix2 r k) := by
  refine congrArg v ?_
  funext a; fin_cases a <;> exact Fin.ext ((ValueKit.rect_emb_unit_val _ _ _ _ _).trans (by first | exact h.symm | exact Nat.zero_add _))

/-- An index of a row, in the block. -/
theorem row_idx (o : ℕ) (inb) (k : Fin 1024) (r : Fin 8) (h : r.val = o) :
    (Rect.unit (s := S8x1024) ![o, 0] ![1, 1024] inb).toLoadRect.idx (ix2 0 k) = ix2 r k := by
  funext a; fin_cases a <;> exact Fin.ext ((ValueKit.rect_emb_unit_val _ _ _ _ _).trans (by first | exact h.symm | exact Nat.zero_add _))

/-- The block that the first point fills the third result with. -/
theorem pay3_apply (y : S8x1024.Idx) : k0_pay3 (F := Ideal) y = (0 : EReal) := by
  idx_vars y
  pointwise [k0_pay3]

/-- The fill is zero. -/
theorem fill_zero {κ : Kind} {sp : Space} (v : View sig κ sp S8x1024 .f32) (inb) (y : S8x1024.Idx) :
    v.read (Elt Ideal) (v.writes (Elt Ideal) v.junk [⟨Rect.unit (s := S8x1024) ![0, 0] ![8, 1024] inb, k0_pay3 (F := Ideal)⟩]) y = (0 : EReal) := by
  rw [View.read_writes_junk_eq_canon, View.canon_cons_unit_lit _ _ _ (by decide)]
  exact pay3_apply _

/-- What point `t` adds to the third result. -/
def term (c : Dev nD) (t : Fin cfg0.N) (y : S8x1024.Idx) : EReal :=
  if (y 0).val = 0 then gfP (Bx m c t) (Bg m c t) (Bgf m c t) (By m c t) (wg m c) (wu m c) (wd m c) (fun _ => 0) (ix2 0 (y 1))
  else if (y 0).val = 1 then lossP (Bx m c t) (Bg m c t) (Bgf m c t) (By m c t) (wg m c) (wu m c) (wd m c) (fun _ => 0) (ix2 0 (y 1)) else 0

theorem term_0 (c : Dev nD) (t : Fin cfg0.N) (r : Fin 8) (k : Fin 1024) (h : r.val = 0) :
    term m c t (ix2 r k) = gfP (Bx m c t) (Bg m c t) (Bgf m c t) (By m c t) (wg m c) (wu m c) (wd m c) (fun _ => 0) (ix2 0 k) := if_pos h

theorem term_1 (c : Dev nD) (t : Fin cfg0.N) (r : Fin 8) (k : Fin 1024) (h : r.val = 1) :
    term m c t (ix2 r k) = lossP (Bx m c t) (Bg m c t) (Bgf m c t) (By m c t) (wg m c) (wu m c) (wd m c) (fun _ => 0) (ix2 0 k) := (if_neg (by show ¬ r.val = 0; omega)).trans (if_pos h)

theorem term_miss (c : Dev nD) (t : Fin cfg0.N) (r : Fin 8) (k : Fin 1024) (h0 : ¬ r.val = 0) (h1 : ¬ r.val = 1) :
    term m c t (ix2 r k) = 0 := (if_neg h0).trans (if_neg h1)

theorem gf_acc (c : Dev nD) (t : Fin cfg0.N) (acc : FVec Ideal S1x1024 .f32) (k : Fin 1024) :
    gfP (Bx m c t) (Bg m c t) (Bgf m c t) (By m c t) (wg m c) (wu m c) (wd m c) acc (ix2 0 k) = acc (ix2 0 k) + gfP (Bx m c t) (Bg m c t) (Bgf m c t) (By m c t) (wg m c) (wu m c) (wd m c) (fun _ => 0) (ix2 0 k) := by
  pointwise [gfP, k0_pay66]

theorem loss_acc (c : Dev nD) (t : Fin cfg0.N) (acc : FVec Ideal S1x1024 .f32) (k : Fin 1024) :
    lossP (Bx m c t) (Bg m c t) (Bgf m c t) (By m c t) (wg m c) (wu m c) (wd m c) acc (ix2 0 k) = acc (ix2 0 k) + lossP (Bx m c t) (Bg m c t) (Bgf m c t) (By m c t) (wg m c) (wu m c) (wd m c) (fun _ => 0) (ix2 0 k) := by
  pointwise [lossP, k0_pay64]

/-- The third result's block after a later point. -/
theorem point6_B (c : Dev nD) (t : Fin cfg0.N) (hc : ¬ t.val % 8 = 0) (y : S8x1024.Idx) :
    (outsAt0 m c t.val t.isLt).2.2.1 y = (outsAt0 m c (t.val - 1) (Nat.lt_of_le_of_lt (Nat.sub_le _ _) t.isLt)).2.2.1 y + term m c t y := by
  obtain ⟨eg, eu, ed⟩ := scratches m c t
  rw [outsAt0_B m c t hc hc, eg, eu, ed]
  frame_out
  simp only [read_unread_whole, ld_part, same7, same8, same13, same16, same17, same21, same22, same26, same27, same31, same32, same35, same36, same40, same41, same45, same46, same50, same51, same54, same55, same9, same47, same14, same18, same23, same33, same37, same42, same52, same56, same11, same30, same49, same25, same44, same20, same39, same58]
  have e : halfP (Bx m c t) (Bg m c t) (wg m c) (wu m c) (wd m c) = _ := rfl
  conv at e => rhs; simp only [halfP, sumP, downP, linP]
  rw [← e]
  idx_vars y
  by_cases a0 : y0.val = 0
  · rw [row_hit 0 (h := a0), term_0 m c t y0 y1 a0]
    refine (gf_acc m c t _ y1).trans (congrArg (fun a : EReal => a + _) (ld_row 0 _ _ y0 y1 a0))
  by_cases a1 : y0.val = 1
  · rw [row_miss 0 (h := a0), row_hit 1 (h := a1), term_1 m c t y0 y1 a1]
    refine (loss_acc m c t _ y1).trans (congrArg (fun a : EReal => a + _) (ld_row 1 _ _ y0 y1 a1))
  rw [row_miss 0 (h := a0), row_miss 1 (h := a1), View.writes_nil, Memref.IsWhole.read_unread, term_miss m c t y0 y1 a0 a1, add_zero]

/-- The third result's block after the first point. -/
theorem point6_A (c : Dev nD) (t : Fin cfg0.N) (hc : t.val % 8 = 0) (y : S8x1024.Idx) :
    (outsAt0 m c t.val t.isLt).2.2.1 y = (0 : EReal) + term m c t y := by
  rw [outsAt0_A m c t hc hc, wg_entry, wu_entry, wd_entry]
  frame_out
  rw [wg_copied, wu_copied, wd_copied]
  simp only [cov_part, ld_part, same7, same8, same13, same16, same17, same21, same22, same26, same27, same31, same32, same35, same36, same40, same41, same45, same46, same50, same51, same54, same55, same9, same47, same14, same18, same23, same33, same37, same42, same52, same56, same11, same30, same49, same25, same44, same20, same39, same58]
  have e : halfP (Bx m c t) (Bg m c t) (wg m c) (wu m c) (wd m c) = _ := rfl
  conv at e => rhs; simp only [halfP, sumP, downP, linP]
  rw [← e]
  rw [← View.read_writes_junk_eq_canon (ms0_6 t).view]
  simp only [View.readCov_eq_canon', ← View.read_writes_junk_eq_canon (ms0_6 t).view]
  idx_vars y
  by_cases a0 : y0.val = 0
  · rw [row_hit 0 (h := a0), term_0 m c t y0 y1 a0]
    refine (gf_acc m c t _ y1).trans (congrArg (fun a : EReal => a + _) ?_)
    rw [row_idx 0 _ y1 y0 a0, row_miss 1 (h := by omega), fill_zero]
  by_cases a1 : y0.val = 1
  · rw [row_miss 0 (h := a0), row_hit 1 (h := a1), term_1 m c t y0 y1 a1]
    refine (loss_acc m c t _ y1).trans (congrArg (fun a : EReal => a + _) ?_)
    rw [row_idx 1 _ y1 y0 a1, fill_zero]
  rw [row_miss 0 (h := a0), row_miss 1 (h := a1), fill_zero, term_miss m c t y0 y1 a0 a1, add_zero]

section Values

variable (c : Dev nD) (h0 : Real (X0 m c)) (h1 : Real (X1 m c)) (h2 : Real (X2 m c)) (h3 : Real (X3 m c)) (h4 : Real (X4 m c)) (h5 : Real (X5 m c)) (h6 : Real (X6 m c))

include h0 in
theorem x_real (t : Fin cfg0.N) : Real (Bx m c t) := fun j => by
  idx_vars j
  exact (h0 _).imp fun _ e => (x_block m c t j0 j1).trans e

include h1 in
theorem g_real (t : Fin cfg0.N) : Real (Bg m c t) := fun j => by
  idx_vars j
  obtain rfl : j0 = 0 := Subsingleton.elim _ _
  exact (h1 _).imp fun _ e => (g_block m c t j1).trans e

include h5 in
theorem gf_real (t : Fin cfg0.N) : Real (Bgf m c t) := fun j => by
  idx_vars j
  obtain rfl : j0 = 0 := Subsingleton.elim _ _
  exact (h5 _).imp fun _ e => (gf_block m c t j1).trans e

include h6 in
theorem y_real (t : Fin cfg0.N) : Real (By m c t) := fun j => by
  idx_vars j
  exact (h6 _).imp fun _ e => (tgt_block m c t j0 j1).trans e

include h2 in
theorem wg_real : Real (wg m c) := fun j => h2 _

include h3 in
theorem wu_real : Real (wu m c) := fun j => h3 _

include h4 in
theorem wd_real : Real (wd m c) := fun j => h4 _

theorem x_row (t : Fin cfg0.N) (r : Fin 512) : brow (Bx m c t) r = row (X0 m c) (rowOf t r) := funext fun k => congrArg EReal.toReal (x_block m c t r k)

theorem y_row (t : Fin cfg0.N) (r : Fin 512) : brow (By m c t) r = row (X6 m c) (rowOf t r) := funext fun k => congrArg EReal.toReal (tgt_block m c t r k)

theorem gf_vec (t : Fin cfg0.N) (k : Fin 1024) : re (Bgf m c t) (ix2 0 k) = re (X5 m c) (ix1 k) := congrArg EReal.toReal (gf_block m c t k)

theorem nrm_eq (t : Fin cfg0.N) (r : Fin 512) : bnrm (Bx m c t) (Bg m c t) r = nrm (X0 m c) (X1 m c) (rowOf t r) := funext fun k => by
  unfold bnrm nrm
  rw [x_row]
  exact congrArg (_ * ·) (congrArg EReal.toReal (g_block m c t k))

theorem gate_eq (u : Fin 1024 → ℝ) : blin u (wg m c) = lin u (X2 m c) := rfl

theorem up_eq (u : Fin 1024 → ℝ) : blin u (wu m c) = lin u (X3 m c) := rfl

theorem hid_eq (t : Fin cfg0.N) (r : Fin 512) : bhid (Bx m c t) (Bg m c t) (wg m c) (wu m c) r = hid (X0 m c) (X1 m c) (X2 m c) (X3 m c) (rowOf t r) := funext fun f => by
  unfold bhid hid
  rw [nrm_eq, gate_eq, up_eq]

theorem h_eq (t : Fin cfg0.N) (r : Fin 512) : bh (Bx m c t) (Bg m c t) (wg m c) (wu m c) (wd m c) r = hh (X0 m c) (X1 m c) (X2 m c) (X3 m c) (X4 m c) (rowOf t r) := funext fun j => by
  unfold bh hh
  rw [x_row, hid_eq]
  rfl

theorem e_eq (t : Fin cfg0.N) (r : Fin 512) : be (Bx m c t) (Bg m c t) (Bgf m c t) (By m c t) (wg m c) (wu m c) (wd m c) r = ee (X0 m c) (X1 m c) (X2 m c) (X3 m c) (X4 m c) (X5 m c) (X6 m c) (rowOf t r) := funext fun j => by
  unfold be ee
  rw [h_eq, y_row, gf_vec]

theorem dy_eq (t : Fin cfg0.N) (r : Fin 512) : bdy (Bx m c t) (Bg m c t) (Bgf m c t) (By m c t) (wg m c) (wu m c) (wd m c) r = dy (X0 m c) (X1 m c) (X2 m c) (X3 m c) (X4 m c) (X5 m c) (X6 m c) (rowOf t r) := funext fun j => by
  unfold bdy dy
  rw [e_eq]

theorem sum_rows (f : Fin 4096 → ℝ) : ∑ t : Fin cfg0.N, ∑ r : Fin 512, f (rowOf t r) = ∑ l, f l := by
  refine (Fin.sum_points_lanes_congr (A := 1) (L := 4096) 8 (g := fun _ l => f l) fun t k ha hl => ?_).trans (Fin.sum_univ_one _)
  refine congrArg f (Fin.ext ?_)
  have := lt8 t
  show t.val * 512 + k.val = t.val % 8 * 512 + k.val
  rw [Nat.mod_eq_of_lt this]

include h0 h1 h2 h3 h4 h5 h6 in
/-- The gradient of the half-FFN's output. -/
theorem out4 : (dats m 0 c).arrAt 4 cfg0.N = Cert.Reference5Ideal.Read.val_main_v82 (F := Ideal) (X0 m c) (X1 m c) (X2 m c) (X3 m c) (X4 m c) (X5 m c) (X6 m c) := by
  refine (dats m 0 c).arrAt_eq_of_covers 4 _ (by decide +kernel) fun t hf y => ?_
  blk_simp
  rw [after0_4, point4]
  idx_vars y
  have e : ((View.whole main_v11_0).slice (win0_4.rect t)).emb (ix2 y0 y1) = ix2 (rowOf t y0) y1 := by blk_ext [idx t, rowOf]
  rw [e, Cert.Reference5Ideal.Loss.dh_apply _ _ _ _ _ _ _ h0 h1 h2 h3 h4 h5 h6]
  refine (dh_pay (Bx m c t) (Bg m c t) (Bgf m c t) (By m c t) (wg m c) (wu m c) (wd m c) (x_real m c h0 t) (g_real m c h1 t) (gf_real m c h5 t) (y_real m c h6 t) (wg_real m c h2) (wu_real m c h3) (wd_real m c h4) y0 y1).trans (congrArg _ ?_)
  unfold dh
  rw [h_eq, dy_eq, show (fun k => re (Bgf m c t) (ix2 0 k)) = fun k => re (X5 m c) (ix1 k) from funext (gf_vec m c t)]

include h0 h1 h2 h3 h4 h5 h6 in
/-- Half of it. -/
theorem out5 : (dats m 0 c).arrAt 5 cfg0.N = Cert.Reference5Ideal.Read.val_main_v85 (F := Ideal) (X0 m c) (X1 m c) (X2 m c) (X3 m c) (X4 m c) (X5 m c) (X6 m c) := by
  refine (dats m 0 c).arrAt_eq_of_covers 5 _ (by decide +kernel) fun t hf y => ?_
  blk_simp
  rw [after0_5, point5]
  idx_vars y
  have e : ((View.whole main_v11_1).slice (win0_5.rect t)).emb (ix2 y0 y1) = ix2 (rowOf t y0) y1 := by blk_ext [idx t, rowOf]
  rw [e, Cert.Reference5Ideal.Loss.half_apply _ _ _ _ _ _ _ h0 h1 h2 h3 h4 h5 h6]
  refine (dhb_pay (Bx m c t) (Bg m c t) (Bgf m c t) (By m c t) (wg m c) (wu m c) (wd m c) (x_real m c h0 t) (g_real m c h1 t) (gf_real m c h5 t) (y_real m c h6 t) (wg_real m c h2) (wu_real m c h3) (wd_real m c h4) y0 y1).trans (congrArg _ ?_)
  unfold dh
  rw [h_eq, dy_eq, show (fun k => re (Bgf m c t) (ix2 0 k)) = fun k => re (X5 m c) (ix1 k) from funext (gf_vec m c t)]

include h0 h1 h2 h3 h4 h5 h6 in
/-- The gradient of the final norm's scale, and the loss. -/
theorem out6 : (dats m 0 c).arrAt 6 cfg0.N = Cert.Reference5Ideal.Read.val_main_v88 (F := Ideal) (X0 m c) (X1 m c) (X2 m c) (X3 m c) (X4 m c) (X5 m c) (X6 m c) := by
  refine (dats m 0 c).arrAt_eq_of_after_last 6 t0_7 (by decide +kernel) _ fun y => ?_
  blk_simp
  rw [after0_6, Pipeline.eq_sum_fin_of_reset_step_apply_last (fun n h => (outsAt0 m c n h).2.2.1) 8 (fun _ => (0 : EReal)) (term m c)
    (point6_A m c) (point6_B m c) (le_of_eq N_0) t0_7 rfl y, zero_add]
  idx_vars y
  rw [Cert.Reference5Ideal.Loss.vecs_apply _ _ _ _ _ _ _ h0 h1 h2 h3 h4 h5 h6]
  by_cases a0 : y0.val = 0
  · rw [if_pos a0, ← sum_rows, ← coe_sum]
    refine Finset.sum_congr (M := EReal) rfl fun t _ => ?_
    rw [term_0 m c t y0 y1 a0, gf_pay (Bx m c t) (Bg m c t) (Bgf m c t) (By m c t) (wg m c) (wu m c) (wd m c) (x_real m c h0 t) (g_real m c h1 t) (gf_real m c h5 t) (y_real m c h6 t) (wg_real m c h2) (wu_real m c h3) (wd_real m c h4), zero_add]
    refine congrArg _ (Finset.sum_congr rfl fun r _ => ?_)
    rw [dy_eq, h_eq]
  by_cases a1 : y0.val = 1
  · rw [if_neg a0, if_pos a1, ← sum_rows, Finset.sum_mul, ← coe_sum]
    refine Finset.sum_congr (M := EReal) rfl fun t _ => ?_
    rw [term_1 m c t y0 y1 a1, loss_pay (Bx m c t) (Bg m c t) (Bgf m c t) (By m c t) (wg m c) (wu m c) (wd m c) (x_real m c h0 t) (g_real m c h1 t) (gf_real m c h5 t) (y_real m c h6 t) (wg_real m c h2) (wu_real m c h3) (wd_real m c h4), zero_add]
    refine congrArg _ (congrArg (· * _) (Finset.sum_congr rfl fun r _ => ?_))
    rw [e_eq]
  rw [if_neg a0, if_neg a1]
  exact Finset.sum_eq_zero (M := EReal) fun t _ => term_miss m c t y0 y1 a0 a1

include h0 h1 in
/-- The normalised rows. -/
theorem out7 : (dats m 0 c).arrAt 7 cfg0.N = Cert.Reference5Ideal.Read.val_main_v89 (F := Ideal) (X0 m c) (X1 m c) := by
  refine (dats m 0 c).arrAt_eq_of_covers 7 _ (by decide +kernel) fun t hf y => ?_
  blk_simp
  rw [after0_7, point7]
  idx_vars y
  have e : ((View.whole main_v11_3).slice (win0_7.rect t)).emb (ix2 y0 y1) = ix2 (rowOf t y0) y1 := by blk_ext [idx t, rowOf]
  rw [e, Cert.Reference5Ideal.Loss.n_result _ _ h0 h1]
  refine (n_pay _ _ (x_real m c h0 t) (g_real m c h1 t) y0 y1).trans (congrArg _ ?_)
  rw [nrm_eq]

include h0 h1 h2 in
/-- The gate's product. -/
theorem out8 : (dats m 0 c).arrAt 8 cfg0.N = Cert.Reference5Ideal.Read.val_main_v90 (F := Ideal) (X0 m c) (X1 m c) (X2 m c) := by
  refine (dats m 0 c).arrAt_eq_of_covers 8 _ (by decide +kernel) fun t hf y => ?_
  blk_simp
  rw [after0_8]
  idx_vars y
  have e : ((View.whole main_v11_4).slice (win0_8.rect t)).emb (ix2 y0 y1) = ix2 (rowOf t y0) y1 := by blk_ext [idx t, rowOf]
  rw [e, Cert.Reference5Ideal.Loss.gg_result _ _ _ h0 h1 h2]
  refine (point8 m c t (x_real m c h0 t) (g_real m c h1 t) (wg_real m c h2) y0 y1).trans (congrArg _ ?_)
  rw [nrm_eq, gate_eq]

include h0 h1 h3 in
/-- The up product. -/
theorem out9 : (dats m 0 c).arrAt 9 cfg0.N = Cert.Reference5Ideal.Read.val_main_v91 (F := Ideal) (X0 m c) (X1 m c) (X3 m c) := by
  refine (dats m 0 c).arrAt_eq_of_covers 9 _ (by decide +kernel) fun t hf y => ?_
  blk_simp
  rw [after0_9]
  idx_vars y
  have e : ((View.whole main_v11_5).slice (win0_9.rect t)).emb (ix2 y0 y1) = ix2 (rowOf t y0) y1 := by blk_ext [idx t, rowOf]
  rw [e, Cert.Reference5Ideal.Loss.uu_result _ _ _ h0 h1 h3]
  refine (point9 m c t (x_real m c h0 t) (g_real m c h1 t) (wu_real m c h3) y0 y1).trans (congrArg _ ?_)
  rw [nrm_eq, up_eq]

include h0 h1 h2 h3 in
/-- The hidden rows. -/
theorem out10 : (dats m 0 c).arrAt 10 cfg0.N = Cert.Reference5Ideal.Read.val_main_v93 (F := Ideal) (X0 m c) (X1 m c) (X2 m c) (X3 m c) := by
  refine (dats m 0 c).arrAt_eq_of_covers 10 _ (by decide +kernel) fun t hf y => ?_
  blk_simp
  rw [after0_10]
  idx_vars y
  obtain rfl : y0 = 0 := Subsingleton.elim _ _
  have e : ((View.whole main_v11_6).slice (win0_10.rect t)).emb (ix3 0 y1 y2) = ix3 0 (rowOf t y1) y2 := by blk_ext [idx t, rowOf]
  rw [e, Cert.Reference5Ideal.Loss.hid_result _ _ _ _ h0 h1 h2 h3]
  refine (point10 m c t (x_real m c h0 t) (g_real m c h1 t) (wg_real m c h2) (wu_real m c h3) y1 y2).trans (congrArg _ ?_)
  rw [hid_eq]

end Values

end Cert.Kernel5Ideal.Loss

end
-- ==== Proof.LossClaim.lean ====
module

public import proofs.«01_k».proof.Defs
public import proofs.«01_k».proof.Proof.LossKernel
public import proofs.«01_k».proof.Proof.Gen.Kernel5
public import Idealize.ShloMosaic.Lib.Claim

@[expose] public section

set_option maxRecDepth 16384

noncomputable section

namespace Cert.Loss

open Idealize.ShloMosaic Idealize.ShloMosaic.TcCoe Idealize.SL.Sem Cert.Reals

/-- The side conditions of the precondition's operations. -/
instance finite_facts : Cert.Pre_finite5.Facts where
  bcast_S_S1x4096x1024 := by decide
  reducesTo_S1x4096x1024_S_d0_1_2 := by decide
  h_S_ := by decide
  bcast_S_S1x1024 := by decide
  reducesTo_S1x1024_S_d0_1 := by decide
  bcast_S_S1x1024x2816 := by decide
  reducesTo_S1x1024x2816_S_d0_1_2 := by decide
  bcast_S_S1x2816x1024 := by decide
  reducesTo_S1x2816x1024_S_d0_1_2 := by decide
  bcast_S_S1024 := by decide
  reducesTo_S1024_S_d0 := by decide

open Cert.Pre_finite5 in
/-- The precondition read back: the arguments that it tests are real everywhere. -/
theorem real_of_finite (x0 : FVec Ideal S1x4096x1024 .f32) (x1 : FVec Ideal S1x1024 .f32) (x2 : FVec Ideal S1x1024x2816 .f32) (x3 : FVec Ideal S1x1024x2816 .f32) (x4 : FVec Ideal S1x2816x1024 .f32) (x5 : FVec Ideal S1024 .f32) (x6 : FVec Ideal S1x4096x1024 .f32) (h : Cert.Pre_finite5.fn (F := Ideal) x0 x1 x2 x3 x4 x5 x6 = fun _ => 1#1) :
    Real x0 ∧ Real x1 ∧ Real x2 ∧ Real x3 ∧ Real x4 ∧ Real x5 ∧ Real x6 := by
  have e := congrFun h ix0
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of_all _ _ _ _ _ _ e0, real_of_all _ _ _ _ _ _ e1, real_of_all _ _ _ _ _ _ e2, real_of_all _ _ _ _ _ _ e3, real_of_all _ _ _ _ _ _ e4, real_of_all _ _ _ _ _ _ e5, real_of_all _ _ _ _ _ _ e6⟩

/-- The kernel's results are the reference's. -/
theorem algebraic : Cert.algebraic_Kernel5Ideal_Reference5Ideal_pre_finite5 := by
  pair_intro
  · run_from Cert.Kernel5Ideal.Value.run_blocks m g
  · refine (θ_run _ _ _).mono (fun r h c => ?_) (Cert.Reference5Ideal.Value.run m' g')
    obtain ⟨e0, e1, e2, e3, e4, e5, e6⟩ := hagree c
    obtain ⟨r0, r1, r2, r3, r4, r5, r6⟩ := real_of_finite _ _ _ _ _ _ _ (hpre c)
    obtain ⟨h0, h1, h2, h3, h4, h5, h6, rest⟩ := h c
    refine ⟨h0.trans ?_, h1.trans ?_, h2.trans ?_, h3.trans ?_, h4.trans ?_, h5.trans ?_, h6.trans ?_, rest⟩
    · refine (Cert.Reference5Ideal.Read.val_main_v82_eq m' c).trans ?_
      rw [e0, e1, e2, e3, e4, e5, e6]
      exact (Cert.Kernel5Ideal.Loss.out4 m c r0 r1 r2 r3 r4 r5 r6).symm
    · refine (Cert.Reference5Ideal.Read.val_main_v85_eq m' c).trans ?_
      rw [e0, e1, e2, e3, e4, e5, e6]
      exact (Cert.Kernel5Ideal.Loss.out5 m c r0 r1 r2 r3 r4 r5 r6).symm
    · refine (Cert.Reference5Ideal.Read.val_main_v88_eq m' c).trans ?_
      rw [e0, e1, e2, e3, e4, e5, e6]
      exact (Cert.Kernel5Ideal.Loss.out6 m c r0 r1 r2 r3 r4 r5 r6).symm
    · refine (Cert.Reference5Ideal.Read.val_main_v89_eq _ _).trans ?_
      rw [e0, e1]
      exact (Cert.Kernel5Ideal.Loss.out7 m c r0 r1).symm
    · refine (Cert.Reference5Ideal.Read.val_main_v90_eq _ _ _).trans ?_
      rw [e0, e1, e2]
      exact (Cert.Kernel5Ideal.Loss.out8 m c r0 r1 r2).symm
    · refine (Cert.Reference5Ideal.Read.val_main_v91_eq _ _ _).trans ?_
      rw [e0, e1, e3]
      exact (Cert.Kernel5Ideal.Loss.out9 m c r0 r1 r3).symm
    · refine (Cert.Reference5Ideal.Read.val_main_v93_eq _ _ _ _).trans ?_
      rw [e0, e1, e2, e3]
      exact (Cert.Kernel5Ideal.Loss.out10 m c r0 r1 r2 r3).symm

/-- The bit-level program's frame: the two texts are one, and the run is for any floats. -/
theorem frame_kernel : Cert.quiescent_Kernel5 := fun m ρ _ =>
  Eq.mp (by sl_kernel_rfl) (Cert.Kernel5Ideal.Gen.frame (F := Bits) m ρ)

/-- The reference's frame: no operation writes an argument, and it has no semaphore. -/
theorem frame_reference : Cert.quiescent_Reference5Ideal := fun m ρ _ =>
  (θ_run Cert.Reference5Ideal.defs _ _).mono (fun r h => ⟨fun c => (h c).2.2.2.2.2.2.2, sem_eq_zero_of_no_sems (by decide) r.2⟩)
    (Cert.Reference5Ideal.Value.run (F := Ideal) m ρ)

end Cert.Loss

end
-- ==== Proof.HiddenRing.lean ====
module

public import proofs.«01_k».proof.Proof.Gen.Kernel6Ideal.Frame
public import proofs.«01_k».proof.Proof.Gen.Kernel6Ideal.Skeleton
public import Idealize.ShloMosaic.Lib.Pipeline.FrameBody
public import Idealize.ShloMosaic.Lib.Ring
public import Idealize.ShloMosaic.Lib.Tactic
public import Idealize.ShloMosaic.Lib.WordCmp

/-! The two rings of the hidden-layer gradient's kernel: the three slots of each, the blocks copied into them two points ahead,
    and the kernel's operands at a point named by slot and block. -/

@[expose] public section

set_option maxRecDepth 16384

noncomputable section

namespace Cert.Kernel6Ideal.Hidden

open Cert.Kernel6Ideal Cert.Kernel6Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## The program up to its grid -/

set_option maxHeartbeats 800000 in
/-- @main up to the grid: the host operations. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## The windows' blocks -/

/-- Input 0's buffer holds its block at every point, for any proof data that leave the block in place. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run of any proof data over the grid's arrays: the arguments end as launched. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's branch conditions -/

/-- The condition of the body's `scf.if` 0 (`k0_h1`), from the grid coordinates. -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-- The condition of the body's `scf.if` 1 (`k0_h2`), from the grid coordinates. -/
abbrev cond0_1 (i : grid0.Coords) : Prop := k0_cond2 i = 1#1
/-- It holds at the points before point 6 — decided over the grid. -/
theorem hcond0_1 : ∀ t : Fin cfg0.N, cond0_1 (grid0.coords t) ↔ t.val < 6 :=
  (by decide +kernel : ∀ t : Fin grid0.N, cond0_1 (grid0.coords t) ↔ t.val < 6)

/-! ## The kernel body on any staging memrefs: a subtype the run finds -/

/-- One buffer of output 1, through which its contents are stated. -/
abbrev VO0_1 : View sig .tc .vmem S1x512x5632 .bf16 := (Memref.whole cc0_stg1_0 : Memref sig .tc .vmem S1x512x5632 .bf16).view
/-- Each window's buffer at point `t`, and that it is whole. -/
abbrev ms0_0 (t : Fin cfg0.N) : Memref sig .tc .vmem S512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x5632 .bf16 := win0_1.stage (cfg0.slots t 1)
abbrev hs0_1 (t : Fin cfg0.N) : (ms0_1 t).IsWhole := hstage0_1 ((cfg0.slots t 1).cast nbuf0_1)
/-- The scratch operands: whole scoped buffers of the kernel's own, passed beside the windows. -/
abbrev scM0_0 : Memref sig .tc .vmem S2816x1024 .bf16 := Memref.whole cc0_scratch0
abbrev scM0_1 : Memref sig .tc .vmem S3x512x2816 .bf16 := Memref.whole cc0_scratch2
abbrev scM0_2 : Memref sig .tc .vmem S3x512x2816 .bf16 := Memref.whole cc0_scratch3
/-- The operands left in HBM that the body copies into scratch itself, whole. -/
abbrev hbM0_0 : Memref sig .tc .hbm S4096x2816 .bf16 := Memref.whole main_v3
abbrev hbM0_1 : Memref sig .tc .hbm S4096x2816 .bf16 := Memref.whole main_v5
abbrev hbM0_2 : Memref sig .tc .hbm S2816x1024 .bf16 := Memref.whole main_v7
/-- Memref `M`'s buffer on core `c`: its contents' type, and it held whole at `f`. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own semaphores, cell by cell. -/
abbrev osem0 : Fin 7 → SemLoc sig := fun j => (![SemLoc.dma 4, SemLoc.dma 5, SemLoc.dma 6, SemLoc.dma 7, SemLoc.dma 8, SemLoc.dma 9, SemLoc.dma 10] : Fin 7 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0) := by
  rw [Pipeline.ownSems0_eq_of_list c osem0 [0, 1, 2, 3, 4, 5, 6] (by decide) (by decide)]; rfl
/-- The HBM operands the body moves, as references: unscoped, no window's array (`Pipeline.restRefs`). -/
def H0 : Finset (Ref sig .tc) := {main_v3, main_v5, main_v7}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v3) ∗ hbPt0 c hbM0_1 (V m c main_v5) ∗ hbPt0 c hbM0_2 (V m c main_v7)) := by
  rw [BI.bigSep_eq_bigSepL_of_eq [main_v3, main_v5, main_v7] (by decide) (by decide)]; rfl

/-- The launch's invariant, conjunct by conjunct. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0) ∗ iprop(hbPt0 c hbM0_0 (V m c main_v3) ∗ hbPt0 c hbM0_1 (V m c main_v5) ∗ hbPt0 c hbM0_2 (V m c main_v7))) := by
  rw [Pipeline.ΦD_eq, scopedRest0_eq, ownSems00_eq, hbmPts0_eq]; simp only [scM0_0, scM0_1, scM0_2, owns_whole]; try rfl

/-! ## What the two rings share: three slots, eight blocks, two blocks ahead -/

instance : NeZero grid0.N := ⟨by rw [N_0]; decide⟩
theorem inb_slot (s : Fin 3) : ∀ a, (![s.val, 0, 0] : Fin 3 → Nat) a + S1x512x2816.size a ≤ S3x512x2816.size a := by
  have := s.isLt; intro a; fin_cases a <;> simp <;> omega
theorem inb_src (b : Fin 8) : ∀ a, (![512 * b.val, 0] : Fin 2 → Nat) a + S512x2816.size a ≤ S4096x2816.size a := by
  have := b.isLt; intro a; fin_cases a <;> simp <;> omega
theorem inb_cell (r : Fin 2) (s : Fin 3) : ∀ a, (![r.val, s.val] : Fin 2 → Nat) a + S1x1.size a ≤ S2x3.size a := by
  have := r.isLt; have := s.isLt; intro a; fin_cases a <;> simp <;> omega

/-- Slot `s` of a ring over the scratch `M`, spelt as the body's transfers spell their destination. -/
def slotOf (M : Memref sig .tc .vmem S3x512x2816 .bf16) (s : Fin 3) : Memref sig .tc .vmem S512x2816 .bf16 :=
  (M.slice (Rect.unit (s := S3x512x2816) ![s.val, 0, 0] S1x512x2816.size (inb_slot s)) (fun _ => rfl)).squeeze S512x2816 squeezes_S1x512x2816_S512x2816
/-- Block `b` of an operand, spelt as the transfers spell their source. -/
def blockOf (M : Memref sig .tc .hbm S4096x2816 .bf16) (b : Fin 8) : Memref sig .tc .hbm S512x2816 .bf16 :=
  M.slice (Rect.unit (s := S4096x2816) ![512 * b.val, 0] S512x2816.size (inb_src b)) (fun _ => rfl)
/-- Cell `s` of ring `r`'s semaphores, spelt as the body spells a cell. -/
def cellOf (r : Fin 2) (s : Fin 3) : DmaSems sig S_ := (cc0_scratch4.slice (Rect.unit (s := S2x3) ![r.val, s.val] S1x1.size (inb_cell r s))).squeeze S_ squeezes_S1x1_S_

/-- The operand is lent by shares, one per slot. -/
abbrev qs (s : Fin 3) : PosShare TreeShare := if s.val = 0 then fullShare.left else if s.val = 1 then fullShare.right.left else fullShare.right.right
abbrev noHome (b : Fin 8) : sProp 𝕄 := iprop(emp)

/-! The slots, disjoint and covering the scratch. -/

abbrev slotSet (s : Fin 3) : Finset S3x512x2816.Idx := (Rect.unit (s := S3x512x2816) ![s.val, 0, 0] S1x512x2816.size (inb_slot s)).set
theorem slots_disjoint (s s' : Fin 3) (h : s ≠ s') : Disjoint (slotSet s) (slotSet s') :=
  Ring.lead_disjoint (s := S3x512x2816) (0 : Fin 3) 1 (fun s : Fin 3 => (![s.val, 0, 0] : Fin 3 → Nat)) S1x512x2816.size inb_slot (fun s => by simp) rfl s s' h
theorem slots_cover : Finset.univ.biUnion slotSet = Finset.univ :=
  Ring.lead_cover (s := S3x512x2816) (0 : Fin 3) 1 (fun s : Fin 3 => (![s.val, 0, 0] : Fin 3 → Nat)) S1x512x2816.size inb_slot (fun s => by simp)
    (fun s a ha => by fin_cases a <;> first | exact absurd rfl ha | rfl) rfl (fun a ha => by fin_cases a <;> first | exact absurd rfl ha | rfl) rfl

/-- An operand whole at the full share is the three copies (halves, the right one halved again). -/
theorem shares {ℓ : Loc nD τ sig} (W : Buf (Elt F) ℓ) : (ℓ ↦[Finset.univ]{fullShare} W : sProp 𝕄)
    ⊣⊢ iprop((ℓ ↦[Finset.univ]{fullShare.left} W) ∗ (ℓ ↦[Finset.univ]{fullShare.right.left} W) ∗ (ℓ ↦[Finset.univ]{fullShare.right.right} W)) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    iframe H0 H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2

/-- Into a ring: the launch's pieces — the scratch whole, the cells at zero, the operand whole — are the ring before its first step; -/
theorem ring_enter {C : Fin 3 → Type} (cell whole : Fin 3 → sProp 𝕄) (slot : (s : Fin 3) → C s → sProp 𝕄) {A B : sProp 𝕄}
    (hA : A ⊢ iprop((∃ f, slot 0 f) ∗ (∃ f, slot 1 f) ∗ ∃ f, slot 2 f)) (hB : B ⊢ iprop(whole 0 ∗ whole 1 ∗ whole 2)) :
    iprop(A ∗ (cell 0 ∗ cell 1 ∗ cell 2) ∗ B) ⊢ Ring.At₀ cell (fun s f => iprop(slot s f ∗ whole s)) (noHome (F := F)) := by
  unfold Ring.At₀
  rw [Ring.bigSep_fin3]
  simp only [Ring.free]
  iintro ⟨HS, Hc, HW⟩
  iapply Ring.with_homes₀
  icases Hc with ⟨H0, H1, H2⟩
  ihave HS' := hA $$ HS
  icases HS' with ⟨⟨%d0, HS0⟩, ⟨%d1, HS1⟩, ⟨%d2, HS2⟩⟩
  ihave HW' := hB $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  · isplitl [H2]; · iexact H2
    iexists d2; isplitl [HS2]; · iexact HS2
    iexact HW2
/-- out of a ring: after the last step (every slot kept or free: the kept blocks forgotten) those pieces again. -/
theorem ring_leave {C : Fin 3 → Type} (cell whole : Fin 3 → sProp 𝕄) (slot : (s : Fin 3) → C s → sProp 𝕄) {A B : sProp 𝕄}
    (flight : (s : Fin 3) → Fin 8 → C s → sProp 𝕄) (hA : iprop((∃ f, slot 0 f) ∗ (∃ f, slot 1 f) ∗ ∃ f, slot 2 f) ⊢ A) (hB : iprop(whole 0 ∗ whole 1 ∗ whole 2) ⊢ B) :
    Ring.At 2 cell (fun s f => iprop(slot s f ∗ whole s)) (noHome (F := F)) flight 8 ⊢ iprop(A ∗ (cell 0 ∗ cell 1 ∗ cell 2) ∗ B) := by
  iintro H
  ihave H' := (Ring.free3_of_At_last _ _ _ _) $$ H
  simp only [Ring.free]
  icases H' with ⟨-, ⟨H0, ⟨%f0, HS0, HW0⟩⟩, ⟨H1, ⟨%f1, HS1, HW1⟩⟩, ⟨H2, ⟨%f2, HS2, HW2⟩⟩⟩
  isplitl [HS0 HS1 HS2]
  · iapply hA; isplitl [HS0]; · iexists f0; iexact HS0
    isplitl [HS1]; · iexists f1; iexact HS1
    iexists f2; iexact HS2
  isplitl [H0 H1 H2]
  · iframe H0 H1
    iexact H2
  · iapply hB; isplitl [HW0]; · iexact HW0
    isplitl [HW1]; · iexact HW1
    iexact HW2
/-! The grid's points by case, and the offsets of the body's slots, blocks and cells as slot and block numbers. -/

section Steps
omit [FloatOps F]
/-- At the points of case A the rings take their first step, -/
theorem rstep_A : ∀ t : Fin grid0.N, cond0_0 (grid0.coords t) → cond0_1 (grid0.coords t) → t.val = 0 ∧ (t.val + 1) = 1 := by decide +kernel
/-- at the points of case B a step with a block still to start, -/
theorem rstep_B : ∀ t : Fin grid0.N, ¬cond0_0 (grid0.coords t) → cond0_1 (grid0.coords t) → 1 ≤ t.val ∧ t.val + 2 < 8 ∧ (t.val + 1) = t.val + 1 := by decide +kernel
/-- at the points of case C a last one. -/
theorem rstep_C : ∀ t : Fin grid0.N, ¬cond0_0 (grid0.coords t) → ¬cond0_1 (grid0.coords t) → 1 ≤ t.val ∧ 8 ≤ t.val + 2 ∧ t.val < 8 ∧ (t.val + 1) = t.val + 1 := by decide +kernel
theorem slot_congr (M : Memref sig .tc .vmem S3x512x2816 .bf16) {o : Fin 3 → Nat} {s : Fin 3} (h : o = ![s.val, 0, 0]) (i) :
    (M.slice (Rect.unit (s := S3x512x2816) o S1x512x2816.size i) (fun _ => rfl)).squeeze S512x2816 squeezes_S1x512x2816_S512x2816 = slotOf M s :=
  congrArg (fun M : Memref sig .tc .vmem S1x512x2816 .bf16 => M.squeeze S512x2816 squeezes_S1x512x2816_S512x2816) (Memref.slice_unit_congr _ h _ _ (fun _ => rfl) (fun _ => rfl))
theorem cell_congr (r : Fin 2) {o : Fin 2 → Nat} {s : Fin 3} (h : o = ![r.val, s.val]) (i) :
    (cc0_scratch4.slice (Rect.unit (s := S2x3) o S1x1.size i)).squeeze S_ squeezes_S1x1_S_ = cellOf r s :=
  congrArg (fun A : DmaSems sig S1x1 => A.squeeze S_ squeezes_S1x1_S_) (SemArray.slice_unit_congr _ h _ _)
theorem block_congr (M : Memref sig .tc .hbm S4096x2816 .bf16) {o : Fin 2 → Nat} {b : Fin 8} (h : o = ![512 * b.val, 0]) (i) :
    M.slice (Rect.unit (s := S4096x2816) o S512x2816.size i) (fun _ => rfl) = blockOf M b :=
  Memref.slice_unit_congr _ h _ _ (fun _ => rfl) (fun _ => rfl)
theorem off1 : ∀ t : Fin grid0.N, cond0_0 (grid0.coords t) → cond0_1 (grid0.coords t) → (![0, 0, 0] : Fin 3 → Nat) = ![(Ring.sl 3 t.val).val, 0, 0] := by decide +kernel
theorem off3 : ∀ t : Fin grid0.N, cond0_0 (grid0.coords t) → cond0_1 (grid0.coords t) → (![0, 0] : Fin 2 → Nat) = ![512 * (Ring.bk 8 t.val).val, 0] := by decide +kernel
theorem off4 : ∀ t : Fin grid0.N, cond0_0 (grid0.coords t) → cond0_1 (grid0.coords t) → (![1, 0, 0] : Fin 3 → Nat) = ![(Ring.sl 3 (t.val + 1)).val, 0, 0] := by decide +kernel
theorem off6 : ∀ t : Fin grid0.N, cond0_0 (grid0.coords t) → cond0_1 (grid0.coords t) → (![512, 0] : Fin 2 → Nat) = ![512 * (Ring.bk 8 (t.val + 1)).val, 0] := by decide +kernel
theorem off7 : ∀ t : Fin grid0.N, k0_off2 (grid0.coords t) = ![(Ring.sl 3 (t.val + 2)).val, 0, 0] := by decide +kernel
theorem off9 : ∀ t : Fin grid0.N, cond0_0 (grid0.coords t) → cond0_1 (grid0.coords t) → k0_off3 (grid0.coords t) = ![512 * (Ring.bk 8 (t.val + 2)).val, 0] := by decide +kernel
theorem off10 : ∀ t : Fin grid0.N, k0_off6 (grid0.coords t) = ![(Ring.sl 3 t.val).val, 0, 0] := by decide +kernel
theorem off12 : ∀ t : Fin grid0.N, ¬cond0_0 (grid0.coords t) → cond0_1 (grid0.coords t) → k0_off3 (grid0.coords t) = ![512 * (Ring.bk 8 (t.val + 2)).val, 0] := by decide +kernel
end Steps

/-! ## Ring 0: `main_v3` streamed through the slots of `cc0_scratch2` on row 0 of the cells -/

abbrev rslot0_0 (s : Fin 3) : Memref sig .tc .vmem S512x2816 .bf16 := slotOf scM0_1 s
abbrev srcB0_0 (b : Fin 8) : Memref sig .tc .hbm S512x2816 .bf16 := blockOf hbM0_0 b
abbrev cellA0_0 (s : Fin 3) : DmaSems sig S_ := cellOf 0 s
abbrev cellR0_0 (s : Fin 3) : SemLoc sig := SemLoc.dma (cellA0_0 s).sem
theorem cellR0_0_0 : cellR0_0 0 = SemLoc.dma 5 := by decide
theorem cellR0_0_1 : cellR0_0 1 = SemLoc.dma 6 := by decide
theorem cellR0_0_2 : cellR0_0 2 = SemLoc.dma 7 := by decide

section Ring0_0
variable (c : Dev nD) (W : HbBuf0 (F := F) c hbM0_0)
/-- The families the ring is stated over: a slot's contents, its cell, the lent elements, the rest of its copy, the copy whole, the slot once a block landed, and a block in flight. -/
abbrev slotP0_0 (s : Fin 3) (f : HbBuf0 (F := F) c (rslot0_0 s)) : sProp 𝕄 := (rslot0_0 s).view.loc (c : Thread nD τ) ↦[(rslot0_0 s).view.set]{fullShare} f
abbrev cellP0_0 (s : Fin 3) : sProp 𝕄 := semVal ((c : Thread nD τ), cellR0_0 s) 0
abbrev srcP0_0 (s : Fin 3) (b : Fin 8) : sProp 𝕄 := (srcB0_0 b).view.loc (c : Thread nD τ) ↦[(srcB0_0 b).view.set]{qs s} W
/-- (a `def`: no run reads this rest, and folded it stays out of the executor's table of held buffers) -/
def restP0_0 (s : Fin 3) (b : Fin 8) : sProp 𝕄 := ((c : Thread nD τ).loc main_v3) ↦[Finset.univ \ (srcB0_0 b).view.set]{qs s} W
abbrev wholeP0_0 (s : Fin 3) : sProp 𝕄 := ((c : Thread nD τ).loc main_v3) ↦[Finset.univ]{qs s} W
abbrev landed0_0 (s : Fin 3) (b : Fin 8) (f : HbBuf0 (F := F) c (rslot0_0 s)) : HbBuf0 (F := F) c (rslot0_0 s) :=
  (rslot0_0 s).view.writes (Elt F) f [⟨Rect.whole S512x2816, ReadAs.same.apply ((srcB0_0 b).view.read (Elt F) W)⟩]
abbrev flightP0_0 (s : Fin 3) (b : Fin 8) (f : HbBuf0 (F := F) c (rslot0_0 s)) : sProp 𝕄 :=
  Transfers.Flight countersEmb (c : Thread nD τ) (cellR0_0 s) default ((rslot0_0 s).view.amount (cellR0_0 s))
    iprop(slotP0_0 c s (landed0_0 c W s b f) ∗ srcP0_0 c W s b)
/-- the ring's slots and flights. -/
abbrev slotW0_0 (s : Fin 3) (f : HbBuf0 (F := F) c (rslot0_0 s)) : sProp 𝕄 := iprop(slotP0_0 c s f ∗ wholeP0_0 c W s)
abbrev flightW0_0 (s : Fin 3) (b : Fin 8) (f : HbBuf0 (F := F) c (rslot0_0 s)) : sProp 𝕄 := iprop(flightP0_0 c W s b f ∗ restP0_0 c W s b)
/-- The ring before its step `k`: blocks `k` and `k + 1` in flight, the third slot free. -/
def ringAt0_0 (k : ℕ) : sProp 𝕄 :=
  if k = 0 then Ring.At₀ (cellP0_0 c) (slotW0_0 c W) noHome
  else Ring.At 2 (cellP0_0 c) (slotW0_0 c W) noHome (flightW0_0 c W) k
omit [FloatOps F] in
theorem cellP0_0_0 : cellP0_0 (F := F) c 0 = semVal ((c : Thread nD τ), SemLoc.dma 5) 0 := congrArg (fun x => (semVal ((c : Thread nD τ), x) 0 : sProp 𝕄)) cellR0_0_0
omit [FloatOps F] in
theorem cellP0_0_1 : cellP0_0 (F := F) c 1 = semVal ((c : Thread nD τ), SemLoc.dma 6) 0 := congrArg (fun x => (semVal ((c : Thread nD τ), x) 0 : sProp 𝕄)) cellR0_0_1
omit [FloatOps F] in
theorem cellP0_0_2 : cellP0_0 (F := F) c 2 = semVal ((c : Thread nD τ), SemLoc.dma 7) 0 := congrArg (fun x => (semVal ((c : Thread nD τ), x) 0 : sProp 𝕄)) cellR0_0_2
end Ring0_0

/-! What the launch hands the ring, and takes back. -/

section InOut0_0
variable (c : Dev nD) (W : HbBuf0 (F := F) c hbM0_0)
theorem slotP0_0_eq (s : Fin 3) (f) : slotP0_0 (F := F) c s f = (((c : Thread nD τ).loc cc0_scratch2) ↦[slotSet s]{fullShare} f : sProp 𝕄) := by
  have e : (rslot0_0 s).view.set = slotSet s := by simp only [rslot0_0, slotOf, Memref.view_squeeze, View.set_reshape]; exact View.set_slice_whole _ _
  unfold slotP0_0; rw [e]; rfl
/-- A slot's copy of the operand, whole, is block `b`'s elements and the rest (any `b`: what a run splits off before its step
    starts block `b`, and joins back once the wait returned it). -/
theorem src0_0_split (s : Fin 3) (b : Fin 8) : wholeP0_0 (F := F) c W s ⊣⊢ iprop(srcP0_0 c W s b ∗ restP0_0 c W s b) := by
  unfold restP0_0; exact pointsTo_split_subset (Finset.subset_univ _)
set_option maxHeartbeats 1000000 in
/-- The scratch whole at anything is its slots at something each, and back. -/
theorem slots0_0_split : iprop(∃ d, owns (c : Thread nD τ) scM0_1 fullShare d) ⊢ (iprop((∃ f, slotP0_0 (F := F) c 0 f) ∗ (∃ f, slotP0_0 (F := F) c 1 f) ∗ ∃ f, slotP0_0 (F := F) c 2 f) : sProp 𝕄) := by
  simp only [scM0_1, owns_whole]
  exact Ring.slots3_split (U := Pipeline.UD sig nD τ) (ℓ := (c : Thread nD τ).loc cc0_scratch2) (q := fullShare) slotSet slots_disjoint slots_cover
    (slotP0_0 c 0) (slotP0_0 c 1) (slotP0_0 c 2) (slotP0_0_eq c 0) (slotP0_0_eq c 1) (slotP0_0_eq c 2)
set_option maxHeartbeats 1000000 in
theorem slots0_0_join : (iprop((∃ f, slotP0_0 (F := F) c 0 f) ∗ (∃ f, slotP0_0 (F := F) c 1 f) ∗ ∃ f, slotP0_0 (F := F) c 2 f) : sProp 𝕄) ⊢ iprop(∃ d, owns (c : Thread nD τ) scM0_1 fullShare d) := by
  simp only [scM0_1, owns_whole]
  exact Ring.slots3_join (U := Pipeline.UD sig nD τ) (ℓ := (c : Thread nD τ).loc cc0_scratch2) (q := fullShare) slotSet slots_disjoint slots_cover
    (slotP0_0 c 0) (slotP0_0 c 1) (slotP0_0 c 2) (slotP0_0_eq c 0) (slotP0_0_eq c 1) (slotP0_0_eq c 2)
end InOut0_0

theorem ring0_0_in (c : Dev nD) :
    iprop((∃ d, owns (c : Thread nD τ) scM0_1 fullShare d) ∗ (semVal ((c : Thread nD τ), SemLoc.dma 5) 0 ∗ semVal ((c : Thread nD τ), SemLoc.dma 6) 0 ∗ semVal ((c : Thread nD τ), SemLoc.dma 7) 0) ∗ hbPt0 c hbM0_0 (V m c main_v3))
      ⊢ ringAt0_0 c (V m c main_v3) 0 := by
  unfold ringAt0_0; rw [if_pos rfl, ← cellP0_0_0, ← cellP0_0_1, ← cellP0_0_2]
  exact ring_enter (cellP0_0 c) (wholeP0_0 c (V m c main_v3)) (slotP0_0 c) (slots0_0_split c) (shares _).1
theorem ring0_0_out (c : Dev nD) :
    ringAt0_0 c (V m c main_v3) 8
      ⊢ iprop((∃ d, owns (c : Thread nD τ) scM0_1 fullShare d) ∗ (semVal ((c : Thread nD τ), SemLoc.dma 5) 0 ∗ semVal ((c : Thread nD τ), SemLoc.dma 6) 0 ∗ semVal ((c : Thread nD τ), SemLoc.dma 7) 0) ∗ hbPt0 c hbM0_0 (V m c main_v3)) := by
  unfold ringAt0_0; rw [if_neg (by decide), ← cellP0_0_0, ← cellP0_0_1, ← cellP0_0_2]
  exact ring_leave (cellP0_0 c) (wholeP0_0 c (V m c main_v3)) (slotP0_0 c) (flightW0_0 c (V m c main_v3)) (slots0_0_join c) (shares _).2

/-! Ring 0's canonical names: the body's operands at point `t` are the ring's slots, blocks and cells. -/

section Canon0_0
omit [FloatOps F]
@[sl_canon] theorem canon0_0_1 (t : Fin grid0.N) (h0 : cond0_0 (grid0.coords t)) (h1 : cond0_1 (grid0.coords t)) :
    (scM0_1.slice (Rect.unit (s := S3x512x2816) ![0, 0, 0] S1x512x2816.size inb_S3x512x2816_S1x512x2816_0_0_0) (fun _ => rfl)).squeeze S512x2816 squeezes_S1x512x2816_S512x2816 = rslot0_0 (Ring.sl 3 t.val) := slot_congr _ (off1 t h0 h1) _
theorem off0_0_2 : ∀ t : Fin grid0.N, cond0_0 (grid0.coords t) → cond0_1 (grid0.coords t) → (![0, 0] : Fin 2 → Nat) = ![0, (Ring.sl 3 t.val).val] := by decide +kernel
@[sl_canon] theorem canon0_0_2 (t : Fin grid0.N) (h0 : cond0_0 (grid0.coords t)) (h1 : cond0_1 (grid0.coords t)) :
    (cc0_scratch4.slice (Rect.unit (s := S2x3) ![0, 0] S1x1.size inb_S2x3_S1x1_0_0)).squeeze S_ squeezes_S1x1_S_ = cellA0_0 (Ring.sl 3 t.val) := cell_congr 0 (off0_0_2 t h0 h1) _
@[sl_canon] theorem canon0_0_3 (t : Fin grid0.N) (h0 : cond0_0 (grid0.coords t)) (h1 : cond0_1 (grid0.coords t)) :
    hbM0_0.slice (Rect.unit (s := S4096x2816) ![0, 0] S512x2816.size inb_S4096x2816_S512x2816_0_0) (fun _ => rfl) = srcB0_0 (Ring.bk 8 t.val) := block_congr _ (off3 t h0 h1) _
@[sl_canon] theorem canon0_0_4 (t : Fin grid0.N) (h0 : cond0_0 (grid0.coords t)) (h1 : cond0_1 (grid0.coords t)) :
    (scM0_1.slice (Rect.unit (s := S3x512x2816) ![1, 0, 0] S1x512x2816.size inb_S3x512x2816_S1x512x2816_1_0_0) (fun _ => rfl)).squeeze S512x2816 squeezes_S1x512x2816_S512x2816 = rslot0_0 (Ring.sl 3 (t.val + 1)) := slot_congr _ (off4 t h0 h1) _
theorem off0_0_5 : ∀ t : Fin grid0.N, cond0_0 (grid0.coords t) → cond0_1 (grid0.coords t) → (![0, 1] : Fin 2 → Nat) = ![0, (Ring.sl 3 (t.val + 1)).val] := by decide +kernel
@[sl_canon] theorem canon0_0_5 (t : Fin grid0.N) (h0 : cond0_0 (grid0.coords t)) (h1 : cond0_1 (grid0.coords t)) :
    (cc0_scratch4.slice (Rect.unit (s := S2x3) ![0, 1] S1x1.size inb_S2x3_S1x1_0_1)).squeeze S_ squeezes_S1x1_S_ = cellA0_0 (Ring.sl 3 (t.val + 1)) := cell_congr 0 (off0_0_5 t h0 h1) _
@[sl_canon] theorem canon0_0_6 (t : Fin grid0.N) (h0 : cond0_0 (grid0.coords t)) (h1 : cond0_1 (grid0.coords t)) :
    hbM0_0.slice (Rect.unit (s := S4096x2816) ![512, 0] S512x2816.size inb_S4096x2816_S512x2816_512_0) (fun _ => rfl) = srcB0_0 (Ring.bk 8 (t.val + 1)) := block_congr _ (off6 t h0 h1) _
@[sl_canon] theorem canon0_0_7 (t : Fin grid0.N) (h1 : cond0_1 (grid0.coords t)) :
    (scM0_1.slice (Rect.unit (s := S3x512x2816) (k0_off2 (grid0.coords t)) S1x512x2816.size (k0_off2_inb (grid0.coords t) h1)) (fun _ => rfl)).squeeze S512x2816 squeezes_S1x512x2816_S512x2816 = rslot0_0 (Ring.sl 3 (t.val + 2)) := slot_congr _ (off7 t) _
theorem off0_0_8 : ∀ t : Fin grid0.N, k0_off1 (grid0.coords t) = ![0, (Ring.sl 3 (t.val + 2)).val] := by decide +kernel
@[sl_canon] theorem canon0_0_8 (t : Fin grid0.N) (h1 : cond0_1 (grid0.coords t)) :
    (cc0_scratch4.slice (Rect.unit (s := S2x3) (k0_off1 (grid0.coords t)) S1x1.size (k0_off1_inb (grid0.coords t) h1))).squeeze S_ squeezes_S1x1_S_ = cellA0_0 (Ring.sl 3 (t.val + 2)) := cell_congr 0 (off0_0_8 t) _
@[sl_canon] theorem canon0_0_9 (t : Fin grid0.N) (h0 : cond0_0 (grid0.coords t)) (h1 : cond0_1 (grid0.coords t)) :
    hbM0_0.slice (Rect.unit (s := S4096x2816) (k0_off3 (grid0.coords t)) S512x2816.size (k0_off3_inb (grid0.coords t) h1)) (fun _ => rfl) = srcB0_0 (Ring.bk 8 (t.val + 2)) := block_congr _ (off9 t h0 h1) _
@[sl_canon] theorem canon0_0_10 (t : Fin grid0.N) :
    (scM0_1.slice (Rect.unit (s := S3x512x2816) (k0_off6 (grid0.coords t)) S1x512x2816.size (k0_off6_inb (grid0.coords t))) (fun _ => rfl)).squeeze S512x2816 squeezes_S1x512x2816_S512x2816 = rslot0_0 (Ring.sl 3 t.val) := slot_congr _ (off10 t) _
theorem off0_0_11 : ∀ t : Fin grid0.N, k0_off5 (grid0.coords t) = ![0, (Ring.sl 3 t.val).val] := by decide +kernel
@[sl_canon] theorem canon0_0_11 (t : Fin grid0.N) :
    (cc0_scratch4.slice (Rect.unit (s := S2x3) (k0_off5 (grid0.coords t)) S1x1.size (k0_off5_inb (grid0.coords t)))).squeeze S_ squeezes_S1x1_S_ = cellA0_0 (Ring.sl 3 t.val) := cell_congr 0 (off0_0_11 t) _
@[sl_canon] theorem canon0_0_12 (t : Fin grid0.N) (h0 : ¬cond0_0 (grid0.coords t)) (h1 : cond0_1 (grid0.coords t)) :
    hbM0_0.slice (Rect.unit (s := S4096x2816) (k0_off3 (grid0.coords t)) S512x2816.size (k0_off3_inb (grid0.coords t) h1)) (fun _ => rfl) = srcB0_0 (Ring.bk 8 (t.val + 2)) := block_congr _ (off12 t h0 h1) _
end Canon0_0

/-! ## Ring 1: `main_v5` streamed through the slots of `cc0_scratch3` on row 1 of the cells -/

abbrev rslot0_1 (s : Fin 3) : Memref sig .tc .vmem S512x2816 .bf16 := slotOf scM0_2 s
abbrev srcB0_1 (b : Fin 8) : Memref sig .tc .hbm S512x2816 .bf16 := blockOf hbM0_1 b
abbrev cellA0_1 (s : Fin 3) : DmaSems sig S_ := cellOf 1 s
abbrev cellR0_1 (s : Fin 3) : SemLoc sig := SemLoc.dma (cellA0_1 s).sem
theorem cellR0_1_0 : cellR0_1 0 = SemLoc.dma 8 := by decide
theorem cellR0_1_1 : cellR0_1 1 = SemLoc.dma 9 := by decide
theorem cellR0_1_2 : cellR0_1 2 = SemLoc.dma 10 := by decide

section Ring0_1
variable (c : Dev nD) (W : HbBuf0 (F := F) c hbM0_1)
abbrev slotP0_1 (s : Fin 3) (f : HbBuf0 (F := F) c (rslot0_1 s)) : sProp 𝕄 := (rslot0_1 s).view.loc (c : Thread nD τ) ↦[(rslot0_1 s).view.set]{fullShare} f
abbrev cellP0_1 (s : Fin 3) : sProp 𝕄 := semVal ((c : Thread nD τ), cellR0_1 s) 0
abbrev srcP0_1 (s : Fin 3) (b : Fin 8) : sProp 𝕄 := (srcB0_1 b).view.loc (c : Thread nD τ) ↦[(srcB0_1 b).view.set]{qs s} W
def restP0_1 (s : Fin 3) (b : Fin 8) : sProp 𝕄 := ((c : Thread nD τ).loc main_v5) ↦[Finset.univ \ (srcB0_1 b).view.set]{qs s} W
abbrev wholeP0_1 (s : Fin 3) : sProp 𝕄 := ((c : Thread nD τ).loc main_v5) ↦[Finset.univ]{qs s} W
abbrev landed0_1 (s : Fin 3) (b : Fin 8) (f : HbBuf0 (F := F) c (rslot0_1 s)) : HbBuf0 (F := F) c (rslot0_1 s) :=
  (rslot0_1 s).view.writes (Elt F) f [⟨Rect.whole S512x2816, ReadAs.same.apply ((srcB0_1 b).view.read (Elt F) W)⟩]
abbrev flightP0_1 (s : Fin 3) (b : Fin 8) (f : HbBuf0 (F := F) c (rslot0_1 s)) : sProp 𝕄 :=
  Transfers.Flight countersEmb (c : Thread nD τ) (cellR0_1 s) default ((rslot0_1 s).view.amount (cellR0_1 s))
    iprop(slotP0_1 c s (landed0_1 c W s b f) ∗ srcP0_1 c W s b)
abbrev slotW0_1 (s : Fin 3) (f : HbBuf0 (F := F) c (rslot0_1 s)) : sProp 𝕄 := iprop(slotP0_1 c s f ∗ wholeP0_1 c W s)
abbrev flightW0_1 (s : Fin 3) (b : Fin 8) (f : HbBuf0 (F := F) c (rslot0_1 s)) : sProp 𝕄 := iprop(flightP0_1 c W s b f ∗ restP0_1 c W s b)
def ringAt0_1 (k : ℕ) : sProp 𝕄 :=
  if k = 0 then Ring.At₀ (cellP0_1 c) (slotW0_1 c W) noHome
  else Ring.At 2 (cellP0_1 c) (slotW0_1 c W) noHome (flightW0_1 c W) k
omit [FloatOps F] in
theorem cellP0_1_0 : cellP0_1 (F := F) c 0 = semVal ((c : Thread nD τ), SemLoc.dma 8) 0 := congrArg (fun x => (semVal ((c : Thread nD τ), x) 0 : sProp 𝕄)) cellR0_1_0
omit [FloatOps F] in
theorem cellP0_1_1 : cellP0_1 (F := F) c 1 = semVal ((c : Thread nD τ), SemLoc.dma 9) 0 := congrArg (fun x => (semVal ((c : Thread nD τ), x) 0 : sProp 𝕄)) cellR0_1_1
omit [FloatOps F] in
theorem cellP0_1_2 : cellP0_1 (F := F) c 2 = semVal ((c : Thread nD τ), SemLoc.dma 10) 0 := congrArg (fun x => (semVal ((c : Thread nD τ), x) 0 : sProp 𝕄)) cellR0_1_2
end Ring0_1

/-! What the launch hands the ring, and takes back. -/

section InOut0_1
variable (c : Dev nD) (W : HbBuf0 (F := F) c hbM0_1)
theorem slotP0_1_eq (s : Fin 3) (f) : slotP0_1 (F := F) c s f = (((c : Thread nD τ).loc cc0_scratch3) ↦[slotSet s]{fullShare} f : sProp 𝕄) := by
  have e : (rslot0_1 s).view.set = slotSet s := by simp only [rslot0_1, slotOf, Memref.view_squeeze, View.set_reshape]; exact View.set_slice_whole _ _
  unfold slotP0_1; rw [e]; rfl
theorem src0_1_split (s : Fin 3) (b : Fin 8) : wholeP0_1 (F := F) c W s ⊣⊢ iprop(srcP0_1 c W s b ∗ restP0_1 c W s b) := by
  unfold restP0_1; exact pointsTo_split_subset (Finset.subset_univ _)
set_option maxHeartbeats 1000000 in
theorem slots0_1_split : iprop(∃ d, owns (c : Thread nD τ) scM0_2 fullShare d) ⊢ (iprop((∃ f, slotP0_1 (F := F) c 0 f) ∗ (∃ f, slotP0_1 (F := F) c 1 f) ∗ ∃ f, slotP0_1 (F := F) c 2 f) : sProp 𝕄) := by
  simp only [scM0_2, owns_whole]
  exact Ring.slots3_split (U := Pipeline.UD sig nD τ) (ℓ := (c : Thread nD τ).loc cc0_scratch3) (q := fullShare) slotSet slots_disjoint slots_cover
    (slotP0_1 c 0) (slotP0_1 c 1) (slotP0_1 c 2) (slotP0_1_eq c 0) (slotP0_1_eq c 1) (slotP0_1_eq c 2)
set_option maxHeartbeats 1000000 in
theorem slots0_1_join : (iprop((∃ f, slotP0_1 (F := F) c 0 f) ∗ (∃ f, slotP0_1 (F := F) c 1 f) ∗ ∃ f, slotP0_1 (F := F) c 2 f) : sProp 𝕄) ⊢ iprop(∃ d, owns (c : Thread nD τ) scM0_2 fullShare d) := by
  simp only [scM0_2, owns_whole]
  exact Ring.slots3_join (U := Pipeline.UD sig nD τ) (ℓ := (c : Thread nD τ).loc cc0_scratch3) (q := fullShare) slotSet slots_disjoint slots_cover
    (slotP0_1 c 0) (slotP0_1 c 1) (slotP0_1 c 2) (slotP0_1_eq c 0) (slotP0_1_eq c 1) (slotP0_1_eq c 2)
end InOut0_1

theorem ring0_1_in (c : Dev nD) :
    iprop((∃ d, owns (c : Thread nD τ) scM0_2 fullShare d) ∗ (semVal ((c : Thread nD τ), SemLoc.dma 8) 0 ∗ semVal ((c : Thread nD τ), SemLoc.dma 9) 0 ∗ semVal ((c : Thread nD τ), SemLoc.dma 10) 0) ∗ hbPt0 c hbM0_1 (V m c main_v5))
      ⊢ ringAt0_1 c (V m c main_v5) 0 := by
  unfold ringAt0_1; rw [if_pos rfl, ← cellP0_1_0, ← cellP0_1_1, ← cellP0_1_2]
  exact ring_enter (cellP0_1 c) (wholeP0_1 c (V m c main_v5)) (slotP0_1 c) (slots0_1_split c) (shares _).1
theorem ring0_1_out (c : Dev nD) :
    ringAt0_1 c (V m c main_v5) 8
      ⊢ iprop((∃ d, owns (c : Thread nD τ) scM0_2 fullShare d) ∗ (semVal ((c : Thread nD τ), SemLoc.dma 8) 0 ∗ semVal ((c : Thread nD τ), SemLoc.dma 9) 0 ∗ semVal ((c : Thread nD τ), SemLoc.dma 10) 0) ∗ hbPt0 c hbM0_1 (V m c main_v5)) := by
  unfold ringAt0_1; rw [if_neg (by decide), ← cellP0_1_0, ← cellP0_1_1, ← cellP0_1_2]
  exact ring_leave (cellP0_1 c) (wholeP0_1 c (V m c main_v5)) (slotP0_1 c) (flightW0_1 c (V m c main_v5)) (slots0_1_join c) (shares _).2

/-! Ring 1's canonical names: the body's operands at point `t` are the ring's slots, blocks and cells. -/

section Canon0_1
omit [FloatOps F]
@[sl_canon] theorem canon0_1_1 (t : Fin grid0.N) (h0 : cond0_0 (grid0.coords t)) (h1 : cond0_1 (grid0.coords t)) :
    (scM0_2.slice (Rect.unit (s := S3x512x2816) ![0, 0, 0] S1x512x2816.size inb_S3x512x2816_S1x512x2816_0_0_0) (fun _ => rfl)).squeeze S512x2816 squeezes_S1x512x2816_S512x2816 = rslot0_1 (Ring.sl 3 t.val) := slot_congr _ (off1 t h0 h1) _
theorem off0_1_2 : ∀ t : Fin grid0.N, cond0_0 (grid0.coords t) → cond0_1 (grid0.coords t) → (![1, 0] : Fin 2 → Nat) = ![1, (Ring.sl 3 t.val).val] := by decide +kernel
@[sl_canon] theorem canon0_1_2 (t : Fin grid0.N) (h0 : cond0_0 (grid0.coords t)) (h1 : cond0_1 (grid0.coords t)) :
    (cc0_scratch4.slice (Rect.unit (s := S2x3) ![1, 0] S1x1.size inb_S2x3_S1x1_1_0)).squeeze S_ squeezes_S1x1_S_ = cellA0_1 (Ring.sl 3 t.val) := cell_congr 1 (off0_1_2 t h0 h1) _
@[sl_canon] theorem canon0_1_3 (t : Fin grid0.N) (h0 : cond0_0 (grid0.coords t)) (h1 : cond0_1 (grid0.coords t)) :
    hbM0_1.slice (Rect.unit (s := S4096x2816) ![0, 0] S512x2816.size inb_S4096x2816_S512x2816_0_0) (fun _ => rfl) = srcB0_1 (Ring.bk 8 t.val) := block_congr _ (off3 t h0 h1) _
@[sl_canon] theorem canon0_1_4 (t : Fin grid0.N) (h0 : cond0_0 (grid0.coords t)) (h1 : cond0_1 (grid0.coords t)) :
    (scM0_2.slice (Rect.unit (s := S3x512x2816) ![1, 0, 0] S1x512x2816.size inb_S3x512x2816_S1x512x2816_1_0_0) (fun _ => rfl)).squeeze S512x2816 squeezes_S1x512x2816_S512x2816 = rslot0_1 (Ring.sl 3 (t.val + 1)) := slot_congr _ (off4 t h0 h1) _
theorem off0_1_5 : ∀ t : Fin grid0.N, cond0_0 (grid0.coords t) → cond0_1 (grid0.coords t) → (![1, 1] : Fin 2 → Nat) = ![1, (Ring.sl 3 (t.val + 1)).val] := by decide +kernel
@[sl_canon] theorem canon0_1_5 (t : Fin grid0.N) (h0 : cond0_0 (grid0.coords t)) (h1 : cond0_1 (grid0.coords t)) :
    (cc0_scratch4.slice (Rect.unit (s := S2x3) ![1, 1] S1x1.size inb_S2x3_S1x1_1_1)).squeeze S_ squeezes_S1x1_S_ = cellA0_1 (Ring.sl 3 (t.val + 1)) := cell_congr 1 (off0_1_5 t h0 h1) _
@[sl_canon] theorem canon0_1_6 (t : Fin grid0.N) (h0 : cond0_0 (grid0.coords t)) (h1 : cond0_1 (grid0.coords t)) :
    hbM0_1.slice (Rect.unit (s := S4096x2816) ![512, 0] S512x2816.size inb_S4096x2816_S512x2816_512_0) (fun _ => rfl) = srcB0_1 (Ring.bk 8 (t.val + 1)) := block_congr _ (off6 t h0 h1) _
@[sl_canon] theorem canon0_1_7 (t : Fin grid0.N) (h1 : cond0_1 (grid0.coords t)) :
    (scM0_2.slice (Rect.unit (s := S3x512x2816) (k0_off2 (grid0.coords t)) S1x512x2816.size (k0_off2_inb (grid0.coords t) h1)) (fun _ => rfl)).squeeze S512x2816 squeezes_S1x512x2816_S512x2816 = rslot0_1 (Ring.sl 3 (t.val + 2)) := slot_congr _ (off7 t) _
theorem off0_1_8 : ∀ t : Fin grid0.N, k0_off4 (grid0.coords t) = ![1, (Ring.sl 3 (t.val + 2)).val] := by decide +kernel
@[sl_canon] theorem canon0_1_8 (t : Fin grid0.N) (h1 : cond0_1 (grid0.coords t)) :
    (cc0_scratch4.slice (Rect.unit (s := S2x3) (k0_off4 (grid0.coords t)) S1x1.size (k0_off4_inb (grid0.coords t) h1))).squeeze S_ squeezes_S1x1_S_ = cellA0_1 (Ring.sl 3 (t.val + 2)) := cell_congr 1 (off0_1_8 t) _
@[sl_canon] theorem canon0_1_9 (t : Fin grid0.N) (h0 : cond0_0 (grid0.coords t)) (h1 : cond0_1 (grid0.coords t)) :
    hbM0_1.slice (Rect.unit (s := S4096x2816) (k0_off3 (grid0.coords t)) S512x2816.size (k0_off3_inb (grid0.coords t) h1)) (fun _ => rfl) = srcB0_1 (Ring.bk 8 (t.val + 2)) := block_congr _ (off9 t h0 h1) _
@[sl_canon] theorem canon0_1_10 (t : Fin grid0.N) :
    (scM0_2.slice (Rect.unit (s := S3x512x2816) (k0_off6 (grid0.coords t)) S1x512x2816.size (k0_off6_inb (grid0.coords t))) (fun _ => rfl)).squeeze S512x2816 squeezes_S1x512x2816_S512x2816 = rslot0_1 (Ring.sl 3 t.val) := slot_congr _ (off10 t) _
theorem off0_1_11 : ∀ t : Fin grid0.N, k0_off8 (grid0.coords t) = ![1, (Ring.sl 3 t.val).val] := by decide +kernel
@[sl_canon] theorem canon0_1_11 (t : Fin grid0.N) :
    (cc0_scratch4.slice (Rect.unit (s := S2x3) (k0_off8 (grid0.coords t)) S1x1.size (k0_off8_inb (grid0.coords t)))).squeeze S_ squeezes_S1x1_S_ = cellA0_1 (Ring.sl 3 t.val) := cell_congr 1 (off0_1_11 t) _
@[sl_canon] theorem canon0_1_12 (t : Fin grid0.N) (h0 : ¬cond0_0 (grid0.coords t)) (h1 : cond0_1 (grid0.coords t)) :
    hbM0_1.slice (Rect.unit (s := S4096x2816) (k0_off3 (grid0.coords t)) S512x2816.size (k0_off3_inb (grid0.coords t) h1)) (fun _ => rfl) = srcB0_1 (Ring.bk 8 (t.val + 2)) := block_congr _ (off12 t h0 h1) _
end Canon0_1

end Cert.Kernel6Ideal.Hidden

end
-- ==== Proof.HiddenRun.lean ====
module

public import proofs.«01_k».proof.Proof.HiddenRing
public import Idealize.ShloMosaic.Lib.Pipeline.ValueKit

/-! The runs of the hidden-layer gradient's body, one per case of its conditionals. -/

@[expose] public section

set_option maxRecDepth 16384

noncomputable section

namespace Cert.Kernel6Ideal.Hidden

open Cert.Kernel6Ideal Cert.Kernel6Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A buffer that a whole copy has been written into reads back as what was copied. -/
theorem read_copied {κ : Kind} {sp : Space} {s : Shape} {e : EltTy} (v : View sig κ sp s e) (f : v.ty.Contents (Elt F)) (x : s.Idx → Elt F e) :
    v.read (Elt F) (v.writes (Elt F) f [⟨Rect.whole s, x⟩]) = x := by
  funext y
  have h := View.read_writes_cons_emb v f (Rect.whole s) x [] y
  rw [Rect.emb_whole_apply] at h
  exact h

/-- The weights' copy reads their array. -/
theorem weights_copied (w : S2816x1024.Idx → Elt F .bf16) (inb) :
    ReadAs.same.apply (View.read (Elt F) ((View.whole main_v7).slice (Rect.unit (s := S2816x1024) ![0, 0] ![2816, 1024] inb)) w) = w := by
  funext y
  refine congrArg w (funext fun a => Fin.ext ?_)
  fin_cases a <;> exact (ValueKit.view_emb_slice_whole_unit_val _ _ _ _ _ _).trans (Nat.zero_add _)

set_option maxHeartbeats 1384000 in
/-- The body's run at the first point, which also copies the weights into their scratch: what its stores leave in the output's
    buffer, with the proof that it runs to them and leaves the copied weights in their scratch. -/
noncomputable def kernelRun0_A (c : Dev nD) (t : Fin cfg0.N) (arg1 : Memref sig .tc .vmem S512x1024 .bf16) (harg1 : arg1.IsWhole) (arg5 : Memref sig .tc .vmem S1x512x5632 .bf16) (harg5 : arg5.IsWhole) (arg6 : Memref sig .tc .vmem S2816x1024 .bf16) (harg6 : arg6.IsWhole) (hc0 : cond0_0 (grid0.coords t)) (hc1 : cond0_1 (grid0.coords t))
    (x0 : Vec F S512x1024 .bf16) (fh0 : HbBuf0 (F := F) c hbM0_0) (fh1 : HbBuf0 (F := F) c hbM0_1) (fh2 : HbBuf0 (F := F) c hbM0_2) :
    { L1 : List (View.Piece (Elt F) S1x512x5632 .bf16) //
      ∀ (W : Waits sig Unit) (K : PUnit → sProp 𝕄),
        iprop(owns (c : Thread nD τ) arg1 fullShare x0 ∗ (∃ d, owns (c : Thread nD τ) arg5 fullShare d) ∗ (∃ d, owns (c : Thread nD τ) arg6 fullShare d) ∗ semVal ((c : Thread nD τ), SemLoc.dma 4) 0 ∗ hbPt0 c hbM0_2 fh2 ∗ Ring.free (cellP0_0 c) (slotW0_0 c fh0) (Ring.sl 3 t.val) ∗ Ring.free (cellP0_0 c) (slotW0_0 c fh0) (Ring.sl 3 (t.val + 1)) ∗ Ring.free (cellP0_0 c) (slotW0_0 c fh0) (Ring.sl 3 (t.val + 2)) ∗ Ring.free (cellP0_1 c) (slotW0_1 c fh1) (Ring.sl 3 t.val) ∗ Ring.free (cellP0_1 c) (slotW0_1 c fh1) (Ring.sl 3 (t.val + 1)) ∗ Ring.free (cellP0_1 c) (slotW0_1 c fh1) (Ring.sl 3 (t.val + 2)) ∗ owes (c : Thread nD τ) 0 W
            ∗ (iprop(owns (c : Thread nD τ) arg1 fullShare x0 ∗ (∃ f, arg5.view.loc (c : Thread nD τ) ↦[arg5.view.set]{fullShare} arg5.view.writes (Elt F) f L1) ∗ owns (c : Thread nD τ) arg6 fullShare (hbM0_2.view.read (Elt F) fh2) ∗ semVal ((c : Thread nD τ), SemLoc.dma 4) 0 ∗ hbPt0 c hbM0_2 fh2 ∗ Ring.inflight (flightW0_0 c fh0) (Ring.sl 3 (t.val + 1)) (Ring.bk 8 (t.val + 1)) ∗ Ring.inflight (flightW0_0 c fh0) (Ring.sl 3 (t.val + 2)) (Ring.bk 8 (t.val + 2)) ∗ Ring.free (cellP0_0 c) (slotW0_0 c fh0) (Ring.sl 3 t.val) ∗ Ring.inflight (flightW0_1 c fh1) (Ring.sl 3 (t.val + 1)) (Ring.bk 8 (t.val + 1)) ∗ Ring.inflight (flightW0_1 c fh1) (Ring.sl 3 (t.val + 2)) (Ring.bk 8 (t.val + 2)) ∗ Ring.free (cellP0_1 c) (slotW0_1 c fh1) (Ring.sl 3 t.val) ∗ (∃ W', owes (c : Thread nD τ) 0 W')) -∗ K ⟨⟩))
          ⊢ wp frame (wpE (defs₀ (F := F)) Variants.none c none) Set.univ (cc0_ffn1_bwd_h (grid0.coords t) arg1 harg1 (Memref.whole main_v3) (Memref.isWhole_whole _) (Memref.whole main_v5) (Memref.isWhole_whole _) (Memref.whole main_v7) (Memref.isWhole_whole _) arg5 harg5 arg6 harg6 cc0_scratch1 scM0_1 (Memref.isWhole_whole _) scM0_2 (Memref.isWhole_whole _) cc0_scratch4) K } := by
  refine ⟨?_, fun W K => ?run⟩
  case run =>
    haveI : Fact (cond0_0 (grid0.coords t)) := ⟨hc0⟩
    haveI : Fact (cond0_1 (grid0.coords t)) := ⟨hc1⟩
    simp only [cc0_ffn1_bwd_h_eq_skeleton]; unfold cc0_ffn1_bwd_h_skel
    simp only [k0_part2_eq_skeleton, k0_part1_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    have hcanon0 := canon0_0_1 t hc0 hc1
    have hcanon1 := canon0_0_2 t hc0 hc1
    have hcanon2 := canon0_0_3 t hc0 hc1
    have hcanon3 := canon0_0_4 t hc0 hc1
    have hcanon4 := canon0_0_5 t hc0 hc1
    have hcanon5 := canon0_0_6 t hc0 hc1
    have hcanon6 := canon0_0_10 t
    have hcanon7 := canon0_1_1 t hc0 hc1
    have hcanon8 := canon0_1_2 t hc0 hc1
    have hcanon9 := canon0_1_3 t hc0 hc1
    have hcanon10 := canon0_1_4 t hc0 hc1
    have hcanon11 := canon0_1_5 t hc0 hc1
    have hcanon12 := canon0_1_6 t hc0 hc1
    have hcanon13 := canon0_1_10 t
    unfold owns Ring.free Ring.inflight
    iintro ⟨⟨%f0, %hf0, H0⟩, ⟨%d1, %f1, -, H1⟩, ⟨%ds0, %fs0, -, HS0⟩, Hq0, Hh2, ⟨Hc0_0_0, ⟨%fs0_0_0, Hs0_0_0, Hw0_0_0⟩⟩, ⟨Hc0_0_1, ⟨%fs0_0_1, Hs0_0_1, Hw0_0_1⟩⟩, ⟨Hc0_0_2, ⟨%fs0_0_2, Hs0_0_2, Hw0_0_2⟩⟩, ⟨Hc0_1_0, ⟨%fs0_1_0, Hs0_1_0, Hw0_1_0⟩⟩, ⟨Hc0_1_1, ⟨%fs0_1_1, Hs0_1_1, Hw0_1_1⟩⟩, ⟨Hc0_1_2, ⟨%fs0_1_2, Hs0_1_2, Hw0_1_2⟩⟩, HW, Hk⟩
    ihave Hsp0_0_0 := (src0_0_split c fh0 (Ring.sl 3 t.val) (Ring.bk 8 t.val)).1 $$ Hw0_0_0
    icases Hsp0_0_0 with ⟨Hh0_0_0, Hr0_0_0⟩
    ihave Hsp0_0_1 := (src0_0_split c fh0 (Ring.sl 3 (t.val + 1)) (Ring.bk 8 (t.val + 1))).1 $$ Hw0_0_1
    icases Hsp0_0_1 with ⟨Hh0_0_1, Hr0_0_1⟩
    ihave Hsp0_0_2 := (src0_0_split c fh0 (Ring.sl 3 (t.val + 2)) (Ring.bk 8 (t.val + 2))).1 $$ Hw0_0_2
    icases Hsp0_0_2 with ⟨Hh0_0_2, Hr0_0_2⟩
    ihave Hsp0_1_0 := (src0_1_split c fh1 (Ring.sl 3 t.val) (Ring.bk 8 t.val)).1 $$ Hw0_1_0
    icases Hsp0_1_0 with ⟨Hh0_1_0, Hr0_1_0⟩
    ihave Hsp0_1_1 := (src0_1_split c fh1 (Ring.sl 3 (t.val + 1)) (Ring.bk 8 (t.val + 1))).1 $$ Hw0_1_1
    icases Hsp0_1_1 with ⟨Hh0_1_1, Hr0_1_1⟩
    ihave Hsp0_1_2 := (src0_1_split c fh1 (Ring.sl 3 (t.val + 2)) (Ring.bk 8 (t.val + 2))).1 $$ Hw0_1_2
    icases Hsp0_1_2 with ⟨Hh0_1_2, Hr0_1_2⟩
    obtain rfl := harg1.eq_unread hf0
    sl_exec (disch := first | sl_exact hc0 | sl_exact hc1)
    sl_step
    iapply Hk
    isplitl [H0]
    · iexists _; isplitr; · ipureintro; exact harg1.read_unread _
      iexact H0
    isplitl [H1]; · iexists _; iexact H1
    isplitl [HS0]
    · iexists _; isplitr; swap; · iexact HS0
      ipureintro; exact (read_copied (F := F) arg6.view fs0 _).trans (weights_copied (F := F) fh2 _)
    iframe Hq0 Hh2
    isplitl [Hc0_0_1 Hr0_0_1]
    · iexists _; isplitl [Hc0_0_1]; · iexact Hc0_0_1
      iexact Hr0_0_1
    isplitl [Hc0_0_2 Hr0_0_2]
    · iexists _; isplitl [Hc0_0_2]; · iexact Hc0_0_2
      iexact Hr0_0_2
    isplitl [Hc0_0_0 Hs0_0_0 Hh0_0_0 Hr0_0_0]
    · isplitl [Hc0_0_0]; · iexact Hc0_0_0
      iexists _; isplitl [Hs0_0_0]; · iexact Hs0_0_0
      iapply (src0_0_split c fh0 (Ring.sl 3 t.val) (Ring.bk 8 t.val)).2; isplitl [Hh0_0_0]; · iexact Hh0_0_0
      iexact Hr0_0_0
    isplitl [Hc0_1_1 Hr0_1_1]
    · iexists _; isplitl [Hc0_1_1]; · iexact Hc0_1_1
      iexact Hr0_1_1
    isplitl [Hc0_1_2 Hr0_1_2]
    · iexists _; isplitl [Hc0_1_2]; · iexact Hc0_1_2
      iexact Hr0_1_2
    isplitl [Hc0_1_0 Hs0_1_0 Hh0_1_0 Hr0_1_0]
    · isplitl [Hc0_1_0]; · iexact Hc0_1_0
      iexists _; isplitl [Hs0_1_0]; · iexact Hs0_1_0
      iapply (src0_1_split c fh1 (Ring.sl 3 t.val) (Ring.bk 8 t.val)).2; isplitl [Hh0_1_0]; · iexact Hh0_1_0
      iexact Hr0_1_0
    iexists _; iexact HW

set_option maxHeartbeats 1288000 in
/-- The body's run at the points that start a copy two points ahead: what its stores leave in the output's
    buffer, with the proof that it runs to them and leaves the copied weights in their scratch. -/
noncomputable def kernelRun0_B (c : Dev nD) (t : Fin cfg0.N) (arg1 : Memref sig .tc .vmem S512x1024 .bf16) (harg1 : arg1.IsWhole) (arg5 : Memref sig .tc .vmem S1x512x5632 .bf16) (harg5 : arg5.IsWhole) (arg6 : Memref sig .tc .vmem S2816x1024 .bf16) (harg6 : arg6.IsWhole) (hc0 : ¬cond0_0 (grid0.coords t)) (hc1 : cond0_1 (grid0.coords t))
    (x0 : Vec F S512x1024 .bf16) (fh0 : HbBuf0 (F := F) c hbM0_0) (fh1 : HbBuf0 (F := F) c hbM0_1) (fh2 : HbBuf0 (F := F) c hbM0_2) (x6 : Vec F S2816x1024 .bf16) :
    { L1 : List (View.Piece (Elt F) S1x512x5632 .bf16) //
      ∀ (W : Waits sig Unit) (K : PUnit → sProp 𝕄),
        iprop(owns (c : Thread nD τ) arg1 fullShare x0 ∗ (∃ d, owns (c : Thread nD τ) arg5 fullShare d) ∗ owns (c : Thread nD τ) arg6 fullShare x6 ∗ semVal ((c : Thread nD τ), SemLoc.dma 4) 0 ∗ hbPt0 c hbM0_2 fh2 ∗ Ring.inflight (flightW0_0 c fh0) (Ring.sl 3 t.val) (Ring.bk 8 t.val) ∗ Ring.inflight (flightW0_0 c fh0) (Ring.sl 3 (t.val + 1)) (Ring.bk 8 (t.val + 1)) ∗ Ring.free (cellP0_0 c) (slotW0_0 c fh0) (Ring.sl 3 (t.val + 2)) ∗ Ring.inflight (flightW0_1 c fh1) (Ring.sl 3 t.val) (Ring.bk 8 t.val) ∗ Ring.inflight (flightW0_1 c fh1) (Ring.sl 3 (t.val + 1)) (Ring.bk 8 (t.val + 1)) ∗ Ring.free (cellP0_1 c) (slotW0_1 c fh1) (Ring.sl 3 (t.val + 2)) ∗ owes (c : Thread nD τ) 0 W
            ∗ (iprop(owns (c : Thread nD τ) arg1 fullShare x0 ∗ (∃ f, arg5.view.loc (c : Thread nD τ) ↦[arg5.view.set]{fullShare} arg5.view.writes (Elt F) f L1) ∗ owns (c : Thread nD τ) arg6 fullShare x6 ∗ semVal ((c : Thread nD τ), SemLoc.dma 4) 0 ∗ hbPt0 c hbM0_2 fh2 ∗ Ring.inflight (flightW0_0 c fh0) (Ring.sl 3 (t.val + 1)) (Ring.bk 8 (t.val + 1)) ∗ Ring.inflight (flightW0_0 c fh0) (Ring.sl 3 (t.val + 2)) (Ring.bk 8 (t.val + 2)) ∗ Ring.free (cellP0_0 c) (slotW0_0 c fh0) (Ring.sl 3 t.val) ∗ Ring.inflight (flightW0_1 c fh1) (Ring.sl 3 (t.val + 1)) (Ring.bk 8 (t.val + 1)) ∗ Ring.inflight (flightW0_1 c fh1) (Ring.sl 3 (t.val + 2)) (Ring.bk 8 (t.val + 2)) ∗ Ring.free (cellP0_1 c) (slotW0_1 c fh1) (Ring.sl 3 t.val) ∗ (∃ W', owes (c : Thread nD τ) 0 W')) -∗ K ⟨⟩))
          ⊢ wp frame (wpE (defs₀ (F := F)) Variants.none c none) Set.univ (cc0_ffn1_bwd_h (grid0.coords t) arg1 harg1 (Memref.whole main_v3) (Memref.isWhole_whole _) (Memref.whole main_v5) (Memref.isWhole_whole _) (Memref.whole main_v7) (Memref.isWhole_whole _) arg5 harg5 arg6 harg6 cc0_scratch1 scM0_1 (Memref.isWhole_whole _) scM0_2 (Memref.isWhole_whole _) cc0_scratch4) K } := by
  refine ⟨?_, fun W K => ?run⟩
  case run =>
    haveI : Fact (¬cond0_0 (grid0.coords t)) := ⟨hc0⟩
    haveI : Fact (cond0_1 (grid0.coords t)) := ⟨hc1⟩
    simp only [cc0_ffn1_bwd_h_eq_skeleton]; unfold cc0_ffn1_bwd_h_skel
    simp only [k0_part2_eq_skeleton, k0_part1_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    have hcanon0 := canon0_0_10 t
    have hcanon1 := canon0_1_10 t
    unfold owns Ring.free Ring.inflight
    iintro ⟨⟨%f0, %hf0, H0⟩, ⟨%d1, %f1, -, H1⟩, ⟨%fs0, %hfs0, HS0⟩, Hq0, Hh2, ⟨%ff0_0_0, Hf0_0_0, Hrf0_0_0⟩, ⟨%ff0_0_1, Hf0_0_1, Hrf0_0_1⟩, ⟨Hc0_0_2, ⟨%fs0_0_2, Hs0_0_2, Hw0_0_2⟩⟩, ⟨%ff0_1_0, Hf0_1_0, Hrf0_1_0⟩, ⟨%ff0_1_1, Hf0_1_1, Hrf0_1_1⟩, ⟨Hc0_1_2, ⟨%fs0_1_2, Hs0_1_2, Hw0_1_2⟩⟩, HW, Hk⟩
    ihave Hsp0_0_2 := (src0_0_split c fh0 (Ring.sl 3 (t.val + 2)) (Ring.bk 8 (t.val + 2))).1 $$ Hw0_0_2
    icases Hsp0_0_2 with ⟨Hh0_0_2, Hr0_0_2⟩
    ihave Hsp0_1_2 := (src0_1_split c fh1 (Ring.sl 3 (t.val + 2)) (Ring.bk 8 (t.val + 2))).1 $$ Hw0_1_2
    icases Hsp0_1_2 with ⟨Hh0_1_2, Hr0_1_2⟩
    obtain rfl := harg1.eq_unread hf0
    obtain rfl := harg6.eq_unread hfs0
    sl_exec (disch := first | sl_exact hc0 | sl_exact hc1)
    sl_step
    iapply Hk
    isplitl [H0]
    · iexists _; isplitr; · ipureintro; exact harg1.read_unread _
      iexact H0
    isplitl [H1]; · iexists _; iexact H1
    isplitl [HS0]
    · iexists _; isplitr; · ipureintro; exact harg6.read_unread _
      iexact HS0
    iframe Hq0 Hh2
    isplitl [Hf0_0_1 Hrf0_0_1]
    · iexists ff0_0_1; isplitl [Hf0_0_1]; · iexact Hf0_0_1
      iexact Hrf0_0_1
    isplitl [Hc0_0_2 Hr0_0_2]
    · iexists _; isplitl [Hc0_0_2]; · iexact Hc0_0_2
      iexact Hr0_0_2
    isplitl [Hf0_0_0 Hf0_0_0_dst Hf0_0_0_src Hrf0_0_0]
    · isplitl [Hf0_0_0]; · iexact Hf0_0_0
      iexists _; isplitl [Hf0_0_0_dst]; · iexact Hf0_0_0_dst
      iapply (src0_0_split c fh0 (Ring.sl 3 t.val) (Ring.bk 8 t.val)).2; isplitl [Hf0_0_0_src]; · iexact Hf0_0_0_src
      iexact Hrf0_0_0
    isplitl [Hf0_1_1 Hrf0_1_1]
    · iexists ff0_1_1; isplitl [Hf0_1_1]; · iexact Hf0_1_1
      iexact Hrf0_1_1
    isplitl [Hc0_1_2 Hr0_1_2]
    · iexists _; isplitl [Hc0_1_2]; · iexact Hc0_1_2
      iexact Hr0_1_2
    isplitl [Hf0_1_0 Hf0_1_0_dst Hf0_1_0_src Hrf0_1_0]
    · isplitl [Hf0_1_0]; · iexact Hf0_1_0
      iexists _; isplitl [Hf0_1_0_dst]; · iexact Hf0_1_0_dst
      iapply (src0_1_split c fh1 (Ring.sl 3 t.val) (Ring.bk 8 t.val)).2; isplitl [Hf0_1_0_src]; · iexact Hf0_1_0_src
      iexact Hrf0_1_0
    iexists _; iexact HW

set_option maxHeartbeats 1060000 in
/-- The body's run at the last two points: what its stores leave in the output's
    buffer, with the proof that it runs to them and leaves the copied weights in their scratch. -/
noncomputable def kernelRun0_C (c : Dev nD) (t : Fin cfg0.N) (arg1 : Memref sig .tc .vmem S512x1024 .bf16) (harg1 : arg1.IsWhole) (arg5 : Memref sig .tc .vmem S1x512x5632 .bf16) (harg5 : arg5.IsWhole) (arg6 : Memref sig .tc .vmem S2816x1024 .bf16) (harg6 : arg6.IsWhole) (hc0 : ¬cond0_0 (grid0.coords t)) (hc1 : ¬cond0_1 (grid0.coords t))
    (x0 : Vec F S512x1024 .bf16) (fh0 : HbBuf0 (F := F) c hbM0_0) (fh1 : HbBuf0 (F := F) c hbM0_1) (fh2 : HbBuf0 (F := F) c hbM0_2) (x6 : Vec F S2816x1024 .bf16) :
    { L1 : List (View.Piece (Elt F) S1x512x5632 .bf16) //
      ∀ (W : Waits sig Unit) (K : PUnit → sProp 𝕄),
        iprop(owns (c : Thread nD τ) arg1 fullShare x0 ∗ (∃ d, owns (c : Thread nD τ) arg5 fullShare d) ∗ owns (c : Thread nD τ) arg6 fullShare x6 ∗ semVal ((c : Thread nD τ), SemLoc.dma 4) 0 ∗ hbPt0 c hbM0_2 fh2 ∗ Ring.inflight (flightW0_0 c fh0) (Ring.sl 3 t.val) (Ring.bk 8 t.val) ∗ Ring.slotAt 2 (cellP0_0 c) (slotW0_0 c fh0) (flightW0_0 c fh0) t.val 1 ∗ Ring.free (cellP0_0 c) (slotW0_0 c fh0) (Ring.sl 3 (t.val + 2)) ∗ Ring.inflight (flightW0_1 c fh1) (Ring.sl 3 t.val) (Ring.bk 8 t.val) ∗ Ring.slotAt 2 (cellP0_1 c) (slotW0_1 c fh1) (flightW0_1 c fh1) t.val 1 ∗ Ring.free (cellP0_1 c) (slotW0_1 c fh1) (Ring.sl 3 (t.val + 2)) ∗ owes (c : Thread nD τ) 0 W
            ∗ (iprop(owns (c : Thread nD τ) arg1 fullShare x0 ∗ (∃ f, arg5.view.loc (c : Thread nD τ) ↦[arg5.view.set]{fullShare} arg5.view.writes (Elt F) f L1) ∗ owns (c : Thread nD τ) arg6 fullShare x6 ∗ semVal ((c : Thread nD τ), SemLoc.dma 4) 0 ∗ hbPt0 c hbM0_2 fh2 ∗ Ring.slotAt 2 (cellP0_0 c) (slotW0_0 c fh0) (flightW0_0 c fh0) t.val 1 ∗ Ring.free (cellP0_0 c) (slotW0_0 c fh0) (Ring.sl 3 (t.val + 2)) ∗ Ring.free (cellP0_0 c) (slotW0_0 c fh0) (Ring.sl 3 t.val) ∗ Ring.slotAt 2 (cellP0_1 c) (slotW0_1 c fh1) (flightW0_1 c fh1) t.val 1 ∗ Ring.free (cellP0_1 c) (slotW0_1 c fh1) (Ring.sl 3 (t.val + 2)) ∗ Ring.free (cellP0_1 c) (slotW0_1 c fh1) (Ring.sl 3 t.val) ∗ (∃ W', owes (c : Thread nD τ) 0 W')) -∗ K ⟨⟩))
          ⊢ wp frame (wpE (defs₀ (F := F)) Variants.none c none) Set.univ (cc0_ffn1_bwd_h (grid0.coords t) arg1 harg1 (Memref.whole main_v3) (Memref.isWhole_whole _) (Memref.whole main_v5) (Memref.isWhole_whole _) (Memref.whole main_v7) (Memref.isWhole_whole _) arg5 harg5 arg6 harg6 cc0_scratch1 scM0_1 (Memref.isWhole_whole _) scM0_2 (Memref.isWhole_whole _) cc0_scratch4) K } := by
  refine ⟨?_, fun W K => ?run⟩
  case run =>
    haveI : Fact (¬cond0_0 (grid0.coords t)) := ⟨hc0⟩
    haveI : Fact (¬cond0_1 (grid0.coords t)) := ⟨hc1⟩
    simp only [cc0_ffn1_bwd_h_eq_skeleton]; unfold cc0_ffn1_bwd_h_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    have hcanon0 := canon0_0_10 t
    have hcanon1 := canon0_1_10 t
    unfold owns Ring.free Ring.inflight
    iintro ⟨⟨%f0, %hf0, H0⟩, ⟨%d1, %f1, -, H1⟩, ⟨%fs0, %hfs0, HS0⟩, Hq0, Hh2, ⟨%ff0_0_0, Hf0_0_0, Hrf0_0_0⟩, Hro0_0_1, ⟨Hc0_0_2, ⟨%fs0_0_2, Hs0_0_2, Hw0_0_2⟩⟩, ⟨%ff0_1_0, Hf0_1_0, Hrf0_1_0⟩, Hro0_1_1, ⟨Hc0_1_2, ⟨%fs0_1_2, Hs0_1_2, Hw0_1_2⟩⟩, HW, Hk⟩
    obtain rfl := harg1.eq_unread hf0
    obtain rfl := harg6.eq_unread hfs0
    sl_exec (disch := first | sl_exact hc0 | sl_exact hc1)
    sl_step
    iapply Hk
    isplitl [H0]
    · iexists _; isplitr; · ipureintro; exact harg1.read_unread _
      iexact H0
    isplitl [H1]; · iexists _; iexact H1
    isplitl [HS0]
    · iexists _; isplitr; · ipureintro; exact harg6.read_unread _
      iexact HS0
    iframe Hq0 Hh2 Hro0_0_1
    isplitl [Hc0_0_2 Hs0_0_2 Hw0_0_2]
    · isplitl [Hc0_0_2]; · iexact Hc0_0_2
      iexists _; isplitl [Hs0_0_2]; · iexact Hs0_0_2
      iexact Hw0_0_2
    isplitl [Hf0_0_0 Hf0_0_0_dst Hf0_0_0_src Hrf0_0_0]
    · isplitl [Hf0_0_0]; · iexact Hf0_0_0
      iexists _; isplitl [Hf0_0_0_dst]; · iexact Hf0_0_0_dst
      iapply (src0_0_split c fh0 (Ring.sl 3 t.val) (Ring.bk 8 t.val)).2; isplitl [Hf0_0_0_src]; · iexact Hf0_0_0_src
      iexact Hrf0_0_0
    isplitl [Hro0_1_1]; · iexact Hro0_1_1
    isplitl [Hc0_1_2 Hs0_1_2 Hw0_1_2]
    · isplitl [Hc0_1_2]; · iexact Hc0_1_2
      iexists _; isplitl [Hs0_1_2]; · iexact Hs0_1_2
      iexact Hw0_1_2
    isplitl [Hf0_1_0 Hf0_1_0_dst Hf0_1_0_src Hrf0_1_0]
    · isplitl [Hf0_1_0]; · iexact Hf0_1_0
      iexists _; isplitl [Hf0_1_0_dst]; · iexact Hf0_1_0_dst
      iapply (src0_1_split c fh1 (Ring.sl 3 t.val) (Ring.bk 8 t.val)).2; isplitl [Hf0_1_0_src]; · iexact Hf0_1_0_src
      iexact Hrf0_1_0
    iexists _; iexact HW

end Cert.Kernel6Ideal.Hidden

end
-- ==== Proof.HiddenFrame.lean ====
module

public import proofs.«01_k».proof.Proof.HiddenRun
public import Idealize.ShloMosaic.Lib.Claim

/-! What each point of the hidden-layer gradient's grid leaves in its output, and the run of the whole program. -/

@[expose] public section

set_option maxRecDepth 16384

noncomputable section

namespace Cert.Kernel6Ideal.Hidden

open Cert.Kernel6Ideal Cert.Kernel6Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- Case A's stores into output 1 cover its block. -/
theorem cover0_A_1 (c : Dev nD) (t : Fin cfg0.N) (arg1 : Memref sig .tc .vmem S512x1024 .bf16) (harg1 : arg1.IsWhole) (arg5 : Memref sig .tc .vmem S1x512x5632 .bf16) (harg5 : arg5.IsWhole) (arg6 : Memref sig .tc .vmem S2816x1024 .bf16) (harg6 : arg6.IsWhole) (hc0 : cond0_0 (grid0.coords t)) (hc1 : cond0_1 (grid0.coords t))
    (x0 : Vec F S512x1024 .bf16) (fh0 : HbBuf0 (F := F) c hbM0_0) (fh1 : HbBuf0 (F := F) c hbM0_1) (fh2 : HbBuf0 (F := F) c hbM0_2) (y : S1x512x5632.Idx) :
    ∃ pc ∈ (kernelRun0_A c t arg1 harg1 arg5 harg5 arg6 harg6 hc0 hc1 x0 fh0 fh1 fh2).1, y ∈ pc.1.set :=
  View.cover_of_tiledL (kernelRun0_A c t arg1 harg1 arg5 harg5 arg6 harg6 hc0 hc1 x0 fh0 fh1 fh2).1 S1x512x256.size (by sl_kernel_rfl) y

/-- What case A leaves in output 1's buffer. -/
def out0_A_1 (c : Dev nD) (t : Fin cfg0.N) (arg1 : Memref sig .tc .vmem S512x1024 .bf16) (harg1 : arg1.IsWhole) (arg5 : Memref sig .tc .vmem S1x512x5632 .bf16) (harg5 : arg5.IsWhole) (arg6 : Memref sig .tc .vmem S2816x1024 .bf16) (harg6 : arg6.IsWhole) (hc0 : cond0_0 (grid0.coords t)) (hc1 : cond0_1 (grid0.coords t))
    (x0 : Vec F S512x1024 .bf16) (fh0 : HbBuf0 (F := F) c hbM0_0) (fh1 : HbBuf0 (F := F) c hbM0_1) (fh2 : HbBuf0 (F := F) c hbM0_2) : Vec F S1x512x5632 .bf16 :=
  VO0_1.read (Elt F) (VO0_1.writes (Elt F) VO0_1.junk (kernelRun0_A c t arg1 harg1 arg5 harg5 arg6 harg6 hc0 hc1 x0 fh0 fh1 fh2).1)

/-- Case B's stores into output 1 cover its block. -/
theorem cover0_B_1 (c : Dev nD) (t : Fin cfg0.N) (arg1 : Memref sig .tc .vmem S512x1024 .bf16) (harg1 : arg1.IsWhole) (arg5 : Memref sig .tc .vmem S1x512x5632 .bf16) (harg5 : arg5.IsWhole) (arg6 : Memref sig .tc .vmem S2816x1024 .bf16) (harg6 : arg6.IsWhole) (hc0 : ¬cond0_0 (grid0.coords t)) (hc1 : cond0_1 (grid0.coords t))
    (x0 : Vec F S512x1024 .bf16) (fh0 : HbBuf0 (F := F) c hbM0_0) (fh1 : HbBuf0 (F := F) c hbM0_1) (fh2 : HbBuf0 (F := F) c hbM0_2) (x6 : Vec F S2816x1024 .bf16) (y : S1x512x5632.Idx) :
    ∃ pc ∈ (kernelRun0_B c t arg1 harg1 arg5 harg5 arg6 harg6 hc0 hc1 x0 fh0 fh1 fh2 x6).1, y ∈ pc.1.set :=
  View.cover_of_tiledL (kernelRun0_B c t arg1 harg1 arg5 harg5 arg6 harg6 hc0 hc1 x0 fh0 fh1 fh2 x6).1 S1x512x256.size (by sl_kernel_rfl) y

/-- What case B leaves in output 1's buffer. -/
def out0_B_1 (c : Dev nD) (t : Fin cfg0.N) (arg1 : Memref sig .tc .vmem S512x1024 .bf16) (harg1 : arg1.IsWhole) (arg5 : Memref sig .tc .vmem S1x512x5632 .bf16) (harg5 : arg5.IsWhole) (arg6 : Memref sig .tc .vmem S2816x1024 .bf16) (harg6 : arg6.IsWhole) (hc0 : ¬cond0_0 (grid0.coords t)) (hc1 : cond0_1 (grid0.coords t))
    (x0 : Vec F S512x1024 .bf16) (fh0 : HbBuf0 (F := F) c hbM0_0) (fh1 : HbBuf0 (F := F) c hbM0_1) (fh2 : HbBuf0 (F := F) c hbM0_2) (x6 : Vec F S2816x1024 .bf16) : Vec F S1x512x5632 .bf16 :=
  VO0_1.read (Elt F) (VO0_1.writes (Elt F) VO0_1.junk (kernelRun0_B c t arg1 harg1 arg5 harg5 arg6 harg6 hc0 hc1 x0 fh0 fh1 fh2 x6).1)

/-- Case C's stores into output 1 cover its block. -/
theorem cover0_C_1 (c : Dev nD) (t : Fin cfg0.N) (arg1 : Memref sig .tc .vmem S512x1024 .bf16) (harg1 : arg1.IsWhole) (arg5 : Memref sig .tc .vmem S1x512x5632 .bf16) (harg5 : arg5.IsWhole) (arg6 : Memref sig .tc .vmem S2816x1024 .bf16) (harg6 : arg6.IsWhole) (hc0 : ¬cond0_0 (grid0.coords t)) (hc1 : ¬cond0_1 (grid0.coords t))
    (x0 : Vec F S512x1024 .bf16) (fh0 : HbBuf0 (F := F) c hbM0_0) (fh1 : HbBuf0 (F := F) c hbM0_1) (fh2 : HbBuf0 (F := F) c hbM0_2) (x6 : Vec F S2816x1024 .bf16) (y : S1x512x5632.Idx) :
    ∃ pc ∈ (kernelRun0_C c t arg1 harg1 arg5 harg5 arg6 harg6 hc0 hc1 x0 fh0 fh1 fh2 x6).1, y ∈ pc.1.set :=
  View.cover_of_tiledL (kernelRun0_C c t arg1 harg1 arg5 harg5 arg6 harg6 hc0 hc1 x0 fh0 fh1 fh2 x6).1 S1x512x256.size (by sl_kernel_rfl) y

/-- What case C leaves in output 1's buffer. -/
def out0_C_1 (c : Dev nD) (t : Fin cfg0.N) (arg1 : Memref sig .tc .vmem S512x1024 .bf16) (harg1 : arg1.IsWhole) (arg5 : Memref sig .tc .vmem S1x512x5632 .bf16) (harg5 : arg5.IsWhole) (arg6 : Memref sig .tc .vmem S2816x1024 .bf16) (harg6 : arg6.IsWhole) (hc0 : ¬cond0_0 (grid0.coords t)) (hc1 : ¬cond0_1 (grid0.coords t))
    (x0 : Vec F S512x1024 .bf16) (fh0 : HbBuf0 (F := F) c hbM0_0) (fh1 : HbBuf0 (F := F) c hbM0_1) (fh2 : HbBuf0 (F := F) c hbM0_2) (x6 : Vec F S2816x1024 .bf16) : Vec F S1x512x5632 .bf16 :=
  VO0_1.read (Elt F) (VO0_1.writes (Elt F) VO0_1.junk (kernelRun0_C c t arg1 harg1 arg5 harg5 arg6 harg6 hc0 hc1 x0 fh0 fh1 fh2 x6).1)

/-- The copied weights: their array as the grid finds it. -/
abbrev wts (c : Dev nD) : Vec F S2816x1024 .bf16 := hbM0_2.view.read (Elt F) (V m c main_v7)
/-- The weights' scratch before point `k`: at anything before the first point, from then on at the copied weights. -/
def wtsAt (c : Dev nD) (k : ℕ) : sProp 𝕄 :=
  if k = 0 then iprop(∃ d, owns (c : Thread nD τ) scM0_0 fullShare d) else owns (c : Thread nD τ) scM0_0 fullShare (wts m c)
theorem wtsAt_zero (c : Dev nD) (k : ℕ) (h : k = 0) : wtsAt m c k = iprop(∃ d, owns (c : Thread nD τ) scM0_0 fullShare d) := if_pos h
theorem wtsAt_pos (c : Dev nD) (k : ℕ) (h : ¬k = 0) : wtsAt m c k = owns (c : Thread nD τ) scM0_0 fullShare (wts m c) := if_neg h

/-! ## What the outputs hold after each point -/

/-- What the outputs' buffers hold after the body at position `n`. -/
def outsAt0 (c : Dev nD) : (n : ℕ) → n < cfg0.N → Vec F S1x512x5632 .bf16
  | 0, hn => out0_A_1 c ⟨0, hn⟩ (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) ((hcond0_1 ⟨0, hn⟩).mpr (by (try dsimp only); omega)) (iblk m c 0 ⟨0, hn⟩) (V m c main_v3) (V m c main_v5) (V m c main_v7)
  | n + 1, hn =>
    if h0 : (n + 1) % 8 = 0 then
      if h1 : (n + 1) < 6 then
        out0_A_1 c ⟨n + 1, hn⟩ (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) ((hcond0_1 ⟨n + 1, hn⟩).mpr h1) (iblk m c 0 ⟨n + 1, hn⟩) (V m c main_v3) (V m c main_v5) (V m c main_v7)
      else
        False.elim (by have hN : n + 1 < 8 := lt_of_lt_of_eq hn (show cfg0.N = 8 from N_0); omega)
    else
      if h1 : (n + 1) < 6 then
        out0_B_1 c ⟨n + 1, hn⟩ (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (V m c main_v3) (V m c main_v5) (V m c main_v7) (wts m c)
      else
        out0_C_1 c ⟨n + 1, hn⟩ (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (V m c main_v3) (V m c main_v5) (V m c main_v7) (wts m c)

/-- `outsAt0` at a point of case A: that case's contents. -/
theorem outsAt0_A (c : Dev nD) (t : Fin cfg0.N) (h0 : t.val % 8 = 0) (h1 : t.val < 6) :
    outsAt0 m c t.val t.isLt = out0_A_1 c t (ms0_0 t) (hs0_0 t) (ms0_1 t) (hs0_1 t) scM0_0 (Memref.isWhole_whole _) ((hcond0_0 t).mpr h0) ((hcond0_1 t).mpr h1) (iblk m c 0 t) (V m c main_v3) (V m c main_v5) (V m c main_v7) := by
  obtain ⟨n, hn⟩ := t
  cases n with
  | zero => exact rfl
  | succ n => exact (dif_pos h0).trans ((dif_pos h1).trans rfl)

/-- `outsAt0` at a point of case B: that case's contents. -/
theorem outsAt0_B (c : Dev nD) (t : Fin cfg0.N) (h0 : ¬t.val % 8 = 0) (h1 : t.val < 6) :
    outsAt0 m c t.val t.isLt = out0_B_1 c t (ms0_0 t) (hs0_0 t) (ms0_1 t) (hs0_1 t) scM0_0 (Memref.isWhole_whole _) (fun h => h0 ((hcond0_0 t).mp h)) ((hcond0_1 t).mpr h1) (iblk m c 0 t) (V m c main_v3) (V m c main_v5) (V m c main_v7) (wts m c) := by
  obtain ⟨n, hn⟩ := t
  cases n with
  | zero => exact (by exfalso; (try dsimp only at h0); exact absurd (Nat.zero_mod _) h0)
  | succ n => exact (dif_neg h0).trans ((dif_pos h1).trans rfl)

/-- `outsAt0` at a point of case C: that case's contents. -/
theorem outsAt0_C (c : Dev nD) (t : Fin cfg0.N) (h0 : ¬t.val % 8 = 0) (h1 : ¬t.val < 6) :
    outsAt0 m c t.val t.isLt = out0_C_1 c t (ms0_0 t) (hs0_0 t) (ms0_1 t) (hs0_1 t) scM0_0 (Memref.isWhole_whole _) (fun h => h0 ((hcond0_0 t).mp h)) (fun h => h1 ((hcond0_1 t).mp h)) (iblk m c 0 t) (V m c main_v3) (V m c main_v5) (V m c main_v7) (wts m c) := by
  obtain ⟨n, hn⟩ := t
  cases n with
  | zero => exact (by exfalso; (try dsimp only at h0); exact absurd (Nat.zero_mod _) h0)
  | succ n => exact (dif_neg h0).trans ((dif_neg h1).trans rfl)

/-! ## The pipeline's proof data -/

/-- The invariant before point `k`: the register, the scratch, the other cells, the copied operands, and each ring before point `k`. -/
def PhiR (c : Dev nD) (k : ℕ) : sProp 𝕄 := iprop(wtsAt m c k ∗ (∃ r, prngReg c r) ∗ semVal ((c : Thread nD τ), SemLoc.dma 4) 0 ∗ hbPt0 c hbM0_2 (V m c main_v7) ∗ ringAt0_0 c (V m c main_v3) k ∗ ringAt0_1 c (V m c main_v5) k)

/-- The proof data of the pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => (outsAt0 m c t.val t.isLt)
  Φ t := PhiR m c t.val
  q _ := fullShare
  owed _ := 0

/-- The proof data's arrays are those the grid finds. -/
theorem A_eq (c : Dev nD) (w : Fin cfg0.W) : (dats m 0 c).A w = V m c (Pipeline.arrRef spec0 w) := by
  dsimp only [dats]

/-- The invariant at a point's start, at position `t.val`. -/
theorem PhiR_castSucc (c : Dev nD) (t : Fin cfg0.N) : (dats m 0 c).Φ t.castSucc = PhiR m c t.val := by
  dsimp only [dats]; simp only [Fin.coe_castSucc]
/-- The invariant at a point's end, at position `t.val + 1`. -/
theorem PhiR_succ (c : Dev nD) (t : Fin cfg0.N) : (dats m 0 c).Φ t.succ = PhiR m c (t.val + 1) := by
  dsimp only [dats]; simp only [Fin.val_succ]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt) := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

set_option maxHeartbeats 1200000 in
/-- The body at any point takes what it is called with to what it returns, by cases on the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [after0_0, after0_1]
  rw [PhiR_castSucc m c t, PhiR_succ m c t]
  unfold Dat.owesAt Pipeline.owesWithin
  rw [show (dats m 0 c).owed t.castSucc = 0 from rfl, show (dats m 0 c).owed t.succ = 0 from rfl]
  unfold PhiR ringAt0_0 ringAt0_1
  have hgN : grid0.N = 8 := N_0
  have hN : t.val < 8 := lt_of_lt_of_eq t.isLt (show cfg0.N = 8 from N_0)
  by_cases h0 : t.val % 8 = 0
  · by_cases h1 : t.val < 6
    · rw [outsAt0_A m c t h0 h1]
      unfold out0_A_1
      have hr0 := rstep_A t ((hcond0_0 t).mpr h0) ((hcond0_1 t).mpr h1)
      obtain ⟨hK00, hK10⟩ := hr0
      rw [wtsAt_zero m c t.val hK00, wtsAt_pos m c (t.val + 1) (by omega)]
      rw [if_pos hK00, if_neg (show ¬t.val + 1 = 0 by omega)]
      rw [Ring.At₀_eq3' _ _ _ t.val hK00 (by decide : 3 ≤ 8), Ring.At3_one' _ _ _ _ t.val hK00 (by decide : 3 ≤ 8)]
      have hr1 := rstep_A t ((hcond0_0 t).mpr h0) ((hcond0_1 t).mpr h1)
      obtain ⟨hK01, hK11⟩ := hr1
      rw [if_pos hK01, if_neg (show ¬t.val + 1 = 0 by omega)]
      rw [Ring.At₀_eq3' _ _ _ t.val hK01 (by decide : 3 ≤ 8), Ring.At3_one' _ _ _ _ t.val hK01 (by decide : 3 ≤ 8)]
      iintro ⟨⟨HS0, Hg, Hq0, Hh2, ⟨-, Hfr0_0_0, Hfr0_0_1, Hfr0_0_2⟩, ⟨-, Hfr0_1_0, Hfr0_1_1, Hfr0_1_2⟩⟩, ⟨%W, -, HW⟩, ⟨%d0, H0⟩, ⟨%d1, H1⟩⟩
      iapply ((kernelRun0_A c t _ _ _ _ _ _ ((hcond0_0 t).mpr h0) ((hcond0_1 t).mpr h1) (iblk m c 0 t) (V m c main_v3) (V m c main_v5) (V m c main_v7)).2 W _)
      isplitl [H0]; · iexact H0
      isplitl [H1]; · iexists _; iexact H1
      iframe HS0 Hq0 Hh2 Hfr0_0_0 Hfr0_0_1 Hfr0_0_2 Hfr0_1_0 Hfr0_1_1 Hfr0_1_2 HW
      iintro ⟨H0, ⟨%e1, H1⟩, HS0, Hq0, Hh2, Hfa0_0', Hfb0_0', Hfc0_0', Hfa0_1', Hfb0_1', Hfc0_1', ⟨%W', HW'⟩⟩
      isplitl [HS0 Hg Hq0 Hh2 Hfa0_0' Hfb0_0' Hfc0_0' Hfa0_1' Hfb0_1' Hfc0_1']
      · iframe HS0 Hg Hq0 Hh2
        isplitl [Hfa0_0' Hfb0_0' Hfc0_0']
        · iapply (Ring.with_homes (Idealize.SL.BI.Entails.refl _))
          iframe Hfa0_0' Hfb0_0'
          iexact Hfc0_0'
        iapply (Ring.with_homes (Idealize.SL.BI.Entails.refl _))
        iframe Hfa0_1' Hfb0_1'
        iexact Hfc0_1'
      isplitl [HW']
      · iexists W'; isplitr; · ipureintro; exact fun _ _ => Or.inl trivial
        iexact HW'
      isplitl [H0]; · iexact H0
      unfold owns; iexists _; isplitr
      swap; · iexact H1
      ipureintro; exact View.read_writes_of_cover _ _ _ _ _ (cover0_A_1 c _ _ _ _ _ _ _ _ _ _ _ _ _)
    · exfalso; omega
  · by_cases h1 : t.val < 6
    · rw [outsAt0_B m c t h0 h1]
      unfold out0_B_1
      have hr0 := rstep_B t (fun h => h0 ((hcond0_0 t).mp h)) ((hcond0_1 t).mpr h1)
      obtain ⟨hK10, hKB0, hKs0⟩ := hr0
      rw [wtsAt_pos m c t.val (by omega), wtsAt_pos m c (t.val + 1) (by omega)]
      rw [if_neg (show ¬t.val = 0 by omega), if_neg (show ¬t.val + 1 = 0 by omega)]
      rw [Ring.At3_here _ _ _ _ t.val hKB0, Ring.At3_next _ _ _ _ t.val hKB0, Ring.slotAt3_next0 _ _ _ t.val (by omega), Ring.slotAt3_next1 _ _ _ t.val hKB0]
      have hr1 := rstep_B t (fun h => h0 ((hcond0_0 t).mp h)) ((hcond0_1 t).mpr h1)
      obtain ⟨hK11, hKB1, hKs1⟩ := hr1
      rw [if_neg (show ¬t.val = 0 by omega), if_neg (show ¬t.val + 1 = 0 by omega)]
      rw [Ring.At3_here _ _ _ _ t.val hKB1, Ring.At3_next _ _ _ _ t.val hKB1, Ring.slotAt3_next0 _ _ _ t.val (by omega), Ring.slotAt3_next1 _ _ _ t.val hKB1]
      iintro ⟨⟨HS0, Hg, Hq0, Hh2, ⟨-, Hfr0_0_0, Hfr0_0_1, Hfr0_0_2⟩, ⟨-, Hfr0_1_0, Hfr0_1_1, Hfr0_1_2⟩⟩, ⟨%W, -, HW⟩, ⟨%d0, H0⟩, ⟨%d1, H1⟩⟩
      iapply ((kernelRun0_B c t _ _ _ _ _ _ (fun h => h0 ((hcond0_0 t).mp h)) ((hcond0_1 t).mpr h1) (iblk m c 0 t) (V m c main_v3) (V m c main_v5) (V m c main_v7) (wts m c)).2 W _)
      isplitl [H0]; · iexact H0
      isplitl [H1]; · iexists _; iexact H1
      iframe HS0 Hq0 Hh2 Hfr0_0_0 Hfr0_0_1 Hfr0_0_2 Hfr0_1_0 Hfr0_1_1 Hfr0_1_2 HW
      iintro ⟨H0, ⟨%e1, H1⟩, HS0, Hq0, Hh2, Hfa0_0', Hfb0_0', Hfc0_0', Hfa0_1', Hfb0_1', Hfc0_1', ⟨%W', HW'⟩⟩
      isplitl [HS0 Hg Hq0 Hh2 Hfa0_0' Hfb0_0' Hfc0_0' Hfa0_1' Hfb0_1' Hfc0_1']
      · iframe HS0 Hg Hq0 Hh2
        isplitl [Hfa0_0' Hfb0_0' Hfc0_0']
        · iapply (Ring.with_homes (Idealize.SL.BI.Entails.refl _))
          iframe Hfa0_0' Hfb0_0'
          iexact Hfc0_0'
        iapply (Ring.with_homes (Idealize.SL.BI.Entails.refl _))
        iframe Hfa0_1' Hfb0_1'
        iexact Hfc0_1'
      isplitl [HW']
      · iexists W'; isplitr; · ipureintro; exact fun _ _ => Or.inl trivial
        iexact HW'
      isplitl [H0]; · iexact H0
      unfold owns; iexists _; isplitr
      swap; · iexact H1
      ipureintro; exact View.read_writes_of_cover _ _ _ _ _ (cover0_B_1 c _ _ _ _ _ _ _ _ _ _ _ _ _ _)
    · rw [outsAt0_C m c t h0 h1]
      unfold out0_C_1
      have hr0 := rstep_C t (fun h => h0 ((hcond0_0 t).mp h)) (fun h => h1 ((hcond0_1 t).mp h))
      obtain ⟨hK10, hKB0, hKlt0, hKs0⟩ := hr0
      rw [wtsAt_pos m c t.val (by omega), wtsAt_pos m c (t.val + 1) (by omega)]
      rw [if_neg (show ¬t.val = 0 by omega), if_neg (show ¬t.val + 1 = 0 by omega)]
      rw [Ring.At3_here_tail _ _ _ _ t.val hKlt0, Ring.At3_next_tail _ _ _ _ t.val hKB0 hKlt0, Ring.slotAt3_tail_role _ _ _ t.val]
      have hr1 := rstep_C t (fun h => h0 ((hcond0_0 t).mp h)) (fun h => h1 ((hcond0_1 t).mp h))
      obtain ⟨hK11, hKB1, hKlt1, hKs1⟩ := hr1
      rw [if_neg (show ¬t.val = 0 by omega), if_neg (show ¬t.val + 1 = 0 by omega)]
      rw [Ring.At3_here_tail _ _ _ _ t.val hKlt1, Ring.At3_next_tail _ _ _ _ t.val hKB1 hKlt1, Ring.slotAt3_tail_role _ _ _ t.val]
      iintro ⟨⟨HS0, Hg, Hq0, Hh2, ⟨-, Hfr0_0_0, Hfr0_0_1, Hfr0_0_2⟩, ⟨-, Hfr0_1_0, Hfr0_1_1, Hfr0_1_2⟩⟩, ⟨%W, -, HW⟩, ⟨%d0, H0⟩, ⟨%d1, H1⟩⟩
      iapply ((kernelRun0_C c t _ _ _ _ _ _ (fun h => h0 ((hcond0_0 t).mp h)) (fun h => h1 ((hcond0_1 t).mp h)) (iblk m c 0 t) (V m c main_v3) (V m c main_v5) (V m c main_v7) (wts m c)).2 W _)
      isplitl [H0]; · iexact H0
      isplitl [H1]; · iexists _; iexact H1
      iframe HS0 Hq0 Hh2 Hfr0_0_0 Hfr0_0_1 Hfr0_0_2 Hfr0_1_0 Hfr0_1_1 Hfr0_1_2 HW
      iintro ⟨H0, ⟨%e1, H1⟩, HS0, Hq0, Hh2, Hfa0_0', Hfb0_0', Hfc0_0', Hfa0_1', Hfb0_1', Hfc0_1', ⟨%W', HW'⟩⟩
      isplitl [HS0 Hg Hq0 Hh2 Hfa0_0' Hfb0_0' Hfc0_0' Hfa0_1' Hfb0_1' Hfc0_1']
      · iframe HS0 Hg Hq0 Hh2
        isplitl [Hfa0_0' Hfb0_0' Hfc0_0']
        · iapply (Ring.with_homes (Idealize.SL.BI.Entails.refl _))
          iframe Hfa0_0' Hfb0_0'
          iexact Hfc0_0'
        iapply (Ring.with_homes (Idealize.SL.BI.Entails.refl _))
        iframe Hfa0_1' Hfb0_1'
        iexact Hfc0_1'
      isplitl [HW']
      · iexists W'; isplitr; · ipureintro; exact fun _ _ => Or.inl trivial
        iexact HW'
      isplitl [H0]; · iexact H0
      unfold owns; iexists _; isplitr
      swap; · iexact H1
      ipureintro; exact View.read_writes_of_cover _ _ _ _ _ (cover0_C_1 c _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point; after the last it is handed back. -/
theorem hin (c : Dev nD) : Pipeline.ΦD osem0 spec0 H0 (V m) c ⊢ (dats m 0 c).Φ 0 := by
  rw [PhiD0_eq, show (dats m 0 c).Φ 0 = PhiR m c 0 from rfl]
  unfold PhiR
  rw [wtsAt_zero m c 0 rfl]
  iintro ⟨⟨HS0, HR0_0, HR0_1⟩, Hg, ⟨Hq0, Hq1, Hq2, Hq3, Hq4, Hq5, Hq6⟩, ⟨Hh0, Hh1, Hh2⟩⟩
  iframe HS0 Hg Hq0 Hh2
  isplitl [HR0_0 Hq1 Hq2 Hq3 Hh0]
  · iapply (ring0_0_in (F := F) m c)
    isplitl [HR0_0]; · iexact HR0_0
    isplitl [Hq1 Hq2 Hq3]
    · iframe Hq1 Hq2
      iexact Hq3
    iexact Hh0
  iapply (ring0_1_in (F := F) m c)
  isplitl [HR0_1]; · iexact HR0_1
  isplitl [Hq4 Hq5 Hq6]
  · iframe Hq4 Hq5
    iexact Hq6
  iexact Hh1
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR
  rw [show grid0.N = 8 by rw [N_0], wtsAt_pos m c 8 (by decide)]
  iintro ⟨HS0, Hg, Hq0, Hh2, HR0_0, HR0_1⟩
  ihave HX0_0 := (ring0_0_out (F := F) m c) $$ HR0_0
  icases HX0_0 with ⟨HR0_0, ⟨Hq1, Hq2, Hq3⟩, Hh0⟩
  ihave HX0_1 := (ring0_1_out (F := F) m c) $$ HR0_1
  icases HX0_1 with ⟨HR0_1, ⟨Hq4, Hq5, Hq6⟩, Hh1⟩
  isplitl [HS0 HR0_0 HR0_1]
  · isplitl [HS0]; · iexists _; iexact HS0
    isplitl [HR0_0]; · iexact HR0_0
    iexact HR0_1
  isplitl [Hg]
  · iexact Hg
  isplitl [Hq0 Hq1 Hq2 Hq3 Hq4 Hq5 Hq6]
  · iframe Hq0 Hq1 Hq2 Hq3 Hq4 Hq5
    iexact Hq6
  iframe Hh0 Hh1
  iexact Hh2

/-! ## The run and the frame -/

set_option backward.isDefEq.respectTransparency.types false in
/-- `run_main`, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- From any memory with zero counters every weakly fair execution of @main ends, with the pipeline's arrays as the proof data say and every other buffer as the grid found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the program ends with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel6Ideal.Hidden

end
-- ==== Proof.HiddenValue.lean ====
module

public import proofs.«01_k».proof.Proof.HiddenFrame
public import Idealize.ShloMosaic.Lib.Pipeline.Value

/-! The output arrays of the hidden-layer gradient after the run, block by block. -/

@[expose] public section

set_option maxRecDepth 16384

noncomputable section

namespace Cert.Kernel6Ideal.Hidden

open Cert.Kernel6Ideal Cert.Kernel6Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- What point `t` writes back to output 1's array. -/
theorem flushed1 (c : Dev nD) (t : Fin cfg0.N) :
    (dats m 0 c).flushed 1 t = (cfg0.win 1).cut (grid0.coords t) (outsAt0 m c t.val t.isLt) := by
  show (cfg0.win 1).cut (grid0.coords t) ((dats m 0 c).after 1 t) = _
  rw [after0_1]

/-- After the frame run, output window 1's array is `(dats m 0 c).arrAt 1 N`. -/
theorem post1 (r : PUnit × MemSt nD τ sig (Elt F)) (h : Pipeline.FramePost cfgs (dats m) 0 (V m) r) (c : Dev nD) :
    r.2.mem ((c : Thread nD τ).loc main_v8) = (dats m 0 c).arrAt 1 cfg0.N :=
  (h c).1 1

/-- After the run argument `main_arg0` is as launched. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the run argument `main_arg1` is as launched. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the run argument `main_arg2` is as launched. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the run argument `main_arg3` is as launched. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The frame run with each output array after the run named — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v8) = (dats m 0 c).arrAt 1 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post1 m r h c,
      kept_main_arg0 m r h c,
      kept_main_arg1 m r h c,
      kept_main_arg2 m r h c,
      kept_main_arg3 m r h c⟩)
    (run_main m ρ)

end Cert.Kernel6Ideal.Hidden

end
-- ==== Proof.HiddenRef.lean ====
module

public import proofs.«01_k».proof.Proof.Gen.Reference6Ideal.Read
public import proofs.«01_k».proof.Proof.RealsLn

@[expose] public section

set_option maxRecDepth 16384

noncomputable section

namespace Cert.Reference6Ideal.Hidden

open Cert.Reference6Ideal Cert.Reference6Ideal.Gen Cert.Reference6Ideal.Read Idealize.ShloMosaic Idealize.ShloMosaic.TcCoe Cert.Reals

variable (x0 x1 : FVec Ideal S1x4096x2816 .f32) (x2 : FVec Ideal S1x2816x1024 .f32) (x3 : FVec Ideal S1x4096x1024 .f32)

/-- The cotangent of the hidden row: what comes back through the down product. -/
def dhid (t : Fin 4096) (f : Fin 2816) : ℝ := ∑ k : Fin 1024, re x3 (ix3 0 t k) * re x2 (ix3 0 f k)

theorem dhid_apply (h2 : Real x2) (h3 : Real x3) (t : Fin 4096) (f : Fin 2816) :
    val_main_v4 (F := Ideal) x2 x3 (ix3 0 t f) = ((dhid x2 x3 t f : ℝ) : EReal) := by
  pointwise [val_main_v4, val_main_v2]
  simp only [h2.eq, h3.eq, ← EReal.coe_mul, coe_sum, Finset.univ_unique, Finset.sum_singleton]
  rfl

theorem sgm_apply (h0 : Real x0) (t : Fin 4096) (f : Fin 2816) :
    val_main_v0_2 (F := Ideal) x0 (ix3 0 t f) = ((sgm (re x0 (ix3 0 t f)) : ℝ) : EReal) := by
  pointwise [val_main_v0_2, val_main_call0_v4, val_main_call0_cst_0, val_main_call0_v3, val_main_call0_v2, val_main_call0_cst, val_main_call0_v1, val_main_call0_v0]
  simp only [h0.eq, coe_sgm]

/-- The reference's gradient of the gate's argument. -/
theorem gate_apply (h0 : Real x0) (h1 : Real x1) (h2 : Real x2) (h3 : Real x3) (t : Fin 4096) (f : Fin 2816) :
    val_main_v7 (F := Ideal) x0 x1 x2 x3 (ix3 0 t f) = ((dhid x2 x3 t f * re x1 (ix3 0 t f) * siluGrad (re x0 (ix3 0 t f)) : ℝ) : EReal) := by
  pointwise [val_main_v7, val_main_call1_v2, val_main_call1_v1, val_main_call1_v0, val_main_v6, val_main_v0_1, val_main_call0_v7, val_main_call0_v6, val_main_call0_cst_1]
  simp only [dhid_apply x2 x3 h2 h3, sgm_apply x0 h0, h0.eq, h1.eq, one_sub_coe, ← EReal.coe_mul, ← EReal.coe_add]
  refine congrArg _ ?_
  unfold siluGrad
  ring

/-- The reference's gradient of the up product's result. -/
theorem up_apply (h0 : Real x0) (h2 : Real x2) (h3 : Real x3) (t : Fin 4096) (f : Fin 2816) :
    val_main_v5 (F := Ideal) x0 x2 x3 (ix3 0 t f) = ((dhid x2 x3 t f * (re x0 (ix3 0 t f) * sgm (re x0 (ix3 0 t f))) : ℝ) : EReal) := by
  pointwise [val_main_v5, val_main_v0_0]
  simp only [dhid_apply x2 x3 h2 h3, sgm_apply x0 h0, h0.eq, ← EReal.coe_mul]
  exact congrArg _ (mul_comm _ _)

/-- The two side by side. -/
theorem both_apply (h0 : Real x0) (h1 : Real x1) (h2 : Real x2) (h3 : Real x3) (t : Fin 4096) (j : Fin 5632) :
    val_main_v9 (F := Ideal) x0 x1 x2 x3 (ix3 0 t j)
      = if h : j.val < 2816 then ((dhid x2 x3 t ⟨j.val, h⟩ * re x1 (ix3 0 t ⟨j.val, h⟩) * siluGrad (re x0 (ix3 0 t ⟨j.val, h⟩)) : ℝ) : EReal)
        else ((dhid x2 x3 t ⟨j.val - 2816, by omega⟩ * (re x0 (ix3 0 t ⟨j.val - 2816, by omega⟩) * sgm (re x0 (ix3 0 t ⟨j.val - 2816, by omega⟩))) : ℝ) : EReal) := by
  pointwise [val_main_v9, val_main_v8]
  by_cases h : j.val < 2816
  · simp only [dif_pos h]
    exact gate_apply x0 x1 x2 x3 h0 h1 h2 h3 t ⟨j.val, h⟩
  · simp only [dif_neg h]
    exact up_apply x0 x2 x3 h0 h2 h3 t ⟨j.val - 2816, by omega⟩

end Cert.Reference6Ideal.Hidden

end
-- ==== Proof.HiddenPure.lean ====
module

public import proofs.«01_k».proof.Proof.Gen.Kernel6Ideal.Skeleton
public import proofs.«01_k».proof.Proof.RealsLn
public import Idealize.ShloMosaic.Lib.Pipeline.ValueKit

@[expose] public section

set_option maxRecDepth 16384

noncomputable section

namespace Cert.Kernel6Ideal.Hidden

open Cert.Kernel6Ideal Cert.Kernel6Ideal.Gen Idealize.ShloMosaic Idealize.ShloMosaic.TcCoe Idealize.SL.Sem Cert.Reals

/-- The 256 rows of the weights from row `o` on. -/
def part (o : ℕ) (h : o + 256 ≤ 2816) (w : FVec Ideal S2816x1024 .bf16) : FVec Ideal S256x1024 .bf16 :=
  fun i => w (ix2 ⟨o + (i 0).val, by have : (i 0).val < 256 := (i 0).isLt; omega⟩ (i 1))

/-- Loading those rows. -/
theorem ld_part (w : FVec Ideal S2816x1024 .bf16) (o : ℕ) (inb) :
    View.ld (Val := Elt Ideal) (e' := EltTy.bf16) w (Rect.unit (s := S2816x1024) ![o, 0] ![256, 1024] inb) = part o (inb 0) w := by
  funext i
  refine View.ld_unit_apply_of (Val := Elt Ideal) (e := EltTy.bf16) w _ _ inb i _ fun a => ?_
  fin_cases a
  · rfl
  · exact (Nat.zero_add _).symm

/-- The 256 columns of a block from column `o` on. -/
def cols (o : ℕ) (h : o + 256 ≤ 2816) (g : FVec Ideal S512x2816 .bf16) : FVec Ideal S512x256 .bf16 :=
  fun i => g (ix2 (i 0) ⟨o + (i 1).val, by have : (i 1).val < 256 := (i 1).isLt; omega⟩)

/-- Loading those columns. -/
theorem ld_cols (g : FVec Ideal S512x2816 .bf16) (o : ℕ) (inb) :
    View.ld (Val := Elt Ideal) (e' := EltTy.bf16) g (Rect.unit (s := S512x2816) ![0, o] ![512, 256] inb) = cols o (inb 1) g := by
  funext i
  refine View.ld_unit_apply_of (Val := Elt Ideal) (e := EltTy.bf16) g _ _ inb i _ fun a => ?_
  fin_cases a
  · exact (Nat.zero_add _).symm
  · rfl

section Same

variable (d : Vec Ideal S512x1024 .bf16) (n : FVec Ideal S512x1024 .bf16) (w : Vec Ideal S256x1024 .bf16) (g u : Vec Ideal S512x256 .bf16)

theorem gate0 : k0_pay9 (F := Ideal) (k0_pay6 (F := Ideal) g) (k0_pay7 (F := Ideal) d w u) (k0_pay8 (F := Ideal) g) = k0_pay24 (F := Ideal) (k0_pay4 (F := Ideal) d) w g u := rfl
theorem gate1 : k0_pay15 (F := Ideal) (k0_pay13 (F := Ideal) n w u) (k0_pay14 (F := Ideal) g) = k0_pay24 (F := Ideal) n w g u := rfl
theorem gate2 : k0_pay20 (F := Ideal) (k0_pay19 (F := Ideal) n w g u) = k0_pay24 (F := Ideal) n w g u := rfl
theorem gate4 : k0_pay28 (F := Ideal) n w g u = k0_pay24 (F := Ideal) n w g u := rfl
theorem gate5 : k0_pay33 (F := Ideal) n w g u = k0_pay24 (F := Ideal) n w g u := rfl
theorem gate6 : k0_pay37 (F := Ideal) n w g u = k0_pay24 (F := Ideal) n w g u := rfl
theorem gate7 : k0_pay41 (F := Ideal) n w g u = k0_pay24 (F := Ideal) n w g u := rfl
theorem gate8 : k0_pay45 (F := Ideal) (k0_pay43 (F := Ideal) n w) g u = k0_pay24 (F := Ideal) n w g u := rfl
theorem gate9 : k0_pay49 (F := Ideal) (k0_pay47 (F := Ideal) n w) g u = k0_pay24 (F := Ideal) n w g u := rfl
theorem gate10 : k0_pay2 (F := Ideal) (k0_pay51 (F := Ideal) n w) g u = k0_pay24 (F := Ideal) n w g u := rfl
theorem up0 : k0_pay10 (F := Ideal) (k0_pay5 (F := Ideal) d w) g (k0_pay6 (F := Ideal) g) = k0_pay34 (F := Ideal) (k0_pay4 (F := Ideal) d) w g := rfl
theorem up1 : k0_pay16 (F := Ideal) (k0_pay11 (F := Ideal) n w) g (k0_pay12 (F := Ideal) g) = k0_pay34 (F := Ideal) n w g := rfl
theorem up2 : k0_pay21 (F := Ideal) (k0_pay17 (F := Ideal) n w) g (k0_pay18 (F := Ideal) g) = k0_pay34 (F := Ideal) n w g := rfl
theorem up3 : k0_pay25 (F := Ideal) (k0_pay22 (F := Ideal) n w) g (k0_pay23 (F := Ideal) g) = k0_pay34 (F := Ideal) n w g := rfl
theorem up4 : k0_pay30 (F := Ideal) (k0_pay29 (F := Ideal) n w g) = k0_pay34 (F := Ideal) n w g := rfl
theorem up6 : k0_pay38 (F := Ideal) n w g = k0_pay34 (F := Ideal) n w g := rfl
theorem up7 : k0_pay42 (F := Ideal) n w g = k0_pay34 (F := Ideal) n w g := rfl
theorem up8 : k0_pay46 (F := Ideal) (k0_pay43 (F := Ideal) n w) g = k0_pay34 (F := Ideal) n w g := rfl
theorem up9 : k0_pay50 (F := Ideal) (k0_pay47 (F := Ideal) n w) g = k0_pay34 (F := Ideal) n w g := rfl
theorem up10 : k0_pay3 (F := Ideal) (k0_pay51 (F := Ideal) n w) g = k0_pay34 (F := Ideal) n w g := rfl

end Same

variable (d : FVec Ideal S512x1024 .bf16) (w : FVec Ideal S2816x1024 .bf16) (g u : FVec Ideal S512x2816 .bf16)

/-- The cotangent of the hidden row: what comes back through the down product. -/
def dhid (r : Fin 512) (f : Fin 2816) : ℝ := ∑ k, re d (ix2 r k) * re w (ix2 f k)

/-- The product with 256 rows of the weights. -/
theorem prod_pay (hd : Real d) (hw : Real w) (o : ℕ) (h : o + 256 ≤ 2816) (r : Fin 512) (f : Fin 256) :
    k0_pay22 (F := Ideal) (k0_pay4 (F := Ideal) d) (part o h w) (ix2 r f) = ((dhid d w r ⟨o + f.val, by omega⟩ : ℝ) : EReal) := by
  pointwise [k0_pay22, k0_pay4, part]
  simp only [hd.eq, hw.eq, ← EReal.coe_mul, coe_sum, Finset.univ_unique, Finset.sum_singleton]
  rfl

/-- The logistic of a column. -/
theorem sgm_pay (hg : Real g) (o : ℕ) (h : o + 256 ≤ 2816) (r : Fin 512) (f : Fin 256) :
    k0_pay23 (F := Ideal) (cols o h g) (ix2 r f) = ((sgm (re g (ix2 r ⟨o + f.val, by omega⟩)) : ℝ) : EReal) := by
  pointwise [k0_pay23, cols]
  simp only [hg.eq, lit_bf_one, lit_bf_zero, coe_sgm']

/-- The gate's gradient, in its 256 columns and among all. -/
theorem gate_tile {d : FVec Ideal S512x1024 .bf16} {w : FVec Ideal S2816x1024 .bf16} {g u : FVec Ideal S512x2816 .bf16} (hd : Real d) (hw : Real w) (hg : Real g) (hu : Real u)
    (o : ℕ) (h : o + 256 ≤ 2816) (y : S1x512x256.Idx) (j0 : Fin 512) (j1 : Fin 2816) (h0 : j0.val = (y 1).val) (h1 : j1.val = o + (y 2).val) :
    k0_pay24 (F := Ideal) (k0_pay4 (F := Ideal) d) (part o h w) (cols o h g) (cols o h u) y
      = ((dhid d w j0 j1 * re u (ix2 j0 j1) * siluGrad (re g (ix2 j0 j1)) : ℝ) : EReal) := by
  idx_vars y
  obtain rfl : y1 = j0 := Fin.ext h0.symm
  have hlt : o + y2.val < 2816 := by have := y2.isLt; omega
  obtain rfl : j1 = ⟨o + y2.val, hlt⟩ := Fin.ext h1
  pointwise [k0_pay24]
  have hgv : cols o h g (ix2 y1 y2) = ((re g (ix2 y1 ⟨o + y2.val, by omega⟩) : ℝ) : EReal) := hg.eq _
  have huv : cols o h u (ix2 y1 y2) = ((re u (ix2 y1 ⟨o + y2.val, by omega⟩) : ℝ) : EReal) := hu.eq _
  simp only [prod_pay d w hd hw, sgm_pay g hg, hgv, huv, lit_bf_one, one_sub_coe, ← EReal.coe_mul, one_add_coe]
  rfl

/-- The up product's gradient, in its 256 columns and among all. -/
theorem up_tile {d : FVec Ideal S512x1024 .bf16} {w : FVec Ideal S2816x1024 .bf16} {g : FVec Ideal S512x2816 .bf16} (hd : Real d) (hw : Real w) (hg : Real g)
    (o : ℕ) (h : o + 256 ≤ 2816) (y : S1x512x256.Idx) (j0 : Fin 512) (j1 : Fin 2816) (h0 : j0.val = (y 1).val) (h1 : j1.val = o + (y 2).val) :
    k0_pay34 (F := Ideal) (k0_pay4 (F := Ideal) d) (part o h w) (cols o h g) y
      = ((dhid d w j0 j1 * (re g (ix2 j0 j1) * sgm (re g (ix2 j0 j1))) : ℝ) : EReal) := by
  idx_vars y
  obtain rfl : y1 = j0 := Fin.ext h0.symm
  have hlt : o + y2.val < 2816 := by have := y2.isLt; omega
  obtain rfl : j1 = ⟨o + y2.val, hlt⟩ := Fin.ext h1
  have e31 : k0_pay31 (F := Ideal) = k0_pay22 (F := Ideal) := rfl
  have e32 : k0_pay32 (F := Ideal) = k0_pay23 (F := Ideal) := rfl
  pointwise [k0_pay34]
  have hgv : cols o h g (ix2 y1 y2) = ((re g (ix2 y1 ⟨o + y2.val, by omega⟩) : ℝ) : EReal) := hg.eq _
  simp only [e31, e32, prod_pay d w hd hw, sgm_pay g hg, hgv, ← EReal.coe_mul]

end Cert.Kernel6Ideal.Hidden

end
-- ==== Proof.HiddenKernel.lean ====
module

public import proofs.«01_k».proof.Proof.HiddenValue
public import proofs.«01_k».proof.Proof.HiddenRef
public import proofs.«01_k».proof.Proof.HiddenPure
public import Idealize.ShloMosaic.Lib.Pipeline.ValueKit
public import Idealize.ShloMosaic.Lib.Claim
public import Idealize.ShloMosaic.Lib.Pipeline.ReadBack
public import Idealize.ShloMosaic.Lib.WritesUnit

@[expose] public section

set_option maxRecDepth 16384

noncomputable section

namespace Cert.Kernel6Ideal.Hidden

open Cert.Kernel6Ideal Cert.Kernel6Ideal.Gen Idealize.ShloMosaic Idealize.ShloMosaic.TcCoe Idealize.SL.Sem Cert.Reals
open Idealize.ShloMosaic.Pipeline (Dat)

variable (m : (ℓ : Loc nD τ sig) → Buf (Elt Ideal) ℓ)

/-- Argument 0: what the gate's product gave. -/
abbrev X0 (c : Dev nD) : FVec Ideal S1x4096x2816 .f32 := m ((c : Thread nD τ).loc main_arg0)

/-- Argument 1: what the up product gave. -/
abbrev X1 (c : Dev nD) : FVec Ideal S1x4096x2816 .f32 := m ((c : Thread nD τ).loc main_arg1)

/-- Argument 2: the down product's weights. -/
abbrev X2 (c : Dev nD) : FVec Ideal S1x2816x1024 .f32 := m ((c : Thread nD τ).loc main_arg2)

/-- Argument 3: the cotangent. -/
abbrev X3 (c : Dev nD) : FVec Ideal S1x4096x1024 .f32 := m ((c : Thread nD τ).loc main_arg3)

theorem idx : ∀ t : Fin cfg0.N, win0_0.index t = ![t.val, 0] ∧ win0_1.index t = ![0, t.val, 0] ∧ t.val < 8 :=
  (by decide +kernel : ∀ t : Fin grid0.N, _)

theorem lt8 (t : Fin cfg0.N) : t.val < 8 := (idx t).2.2

/-- The row of the whole array that row `r` of point `t`'s block is. -/
def rowOf (t : Fin cfg0.N) (r : Fin 512) : Fin 4096 := ⟨t.val * 512 + r.val, by have := lt8 t; omega⟩

theorem d_block (c : Dev nD) (t : Fin cfg0.N) (r : Fin 512) (k : Fin 1024) :
    (show EReal from iblk m c 0 t (ix2 r k)) = X3 m c (ix3 0 (rowOf t r) k) := by
  blk_simp [iblk, idx t]; entry_read; pointwise; blk_ext [idx t, rowOf]

/-- The gate product's results. -/
def gg (c : Dev nD) : FVec Ideal S4096x2816 .bf16 := fun j => X0 m c (ix3 0 (j 0) (j 1))

/-- The up product's results. -/
def uu (c : Dev nD) : FVec Ideal S4096x2816 .bf16 := fun j => X1 m c (ix3 0 (j 0) (j 1))

/-- The down product's weights. -/
def wd (c : Dev nD) : FVec Ideal S2816x1024 .bf16 := fun j => X2 m c (ix3 0 (j 0) (j 1))

theorem gg_entry (c : Dev nD) : V m c main_v3 = gg m c := by
  funext j; idx_vars j; entry_read; pointwise; rfl

theorem uu_entry (c : Dev nD) : V m c main_v5 = uu m c := by
  funext j; idx_vars j; entry_read; pointwise; rfl

theorem wd_entry (c : Dev nD) : V m c main_v7 = wd m c := by
  funext j; idx_vars j; entry_read; pointwise; rfl

/-- The weights, copied whole. -/
theorem wd_copied (w : FVec Ideal S2816x1024 .bf16) (inb) :
    ReadAs.same.apply (View.read (Elt Ideal) ((View.whole main_v7).slice (Rect.unit (s := S2816x1024) ![0, 0] ![2816, 1024] inb)) w) = w :=
  weights_copied (F := Ideal) w inb

/-- The weights' scratch after the first point. -/
theorem wts_eq (c : Dev nD) : wts m c = wd m c := wd_entry m c

/-- The rows of an array that point `t`'s block covers. -/
def rows (t : Fin cfg0.N) (w : FVec Ideal S4096x2816 .bf16) : FVec Ideal S512x2816 .bf16 := fun i => w (ix2 (rowOf t (i 0)) (i 1))

theorem bk_val (t : Fin cfg0.N) : (Ring.bk 8 t.val).val = t.val := Nat.mod_eq_of_lt (lt8 t)

/-- The copy of the gate's block reads its rows. -/
theorem gg_copied (t : Fin cfg0.N) (w : FVec Ideal S4096x2816 .bf16) :
    ReadAs.same.apply (View.read (Elt Ideal) (srcB0_0 (Ring.bk 8 t.val)).view w) = rows t w := by
  funext y
  refine congrArg w (funext fun a => Fin.ext ?_)
  fin_cases a
  · refine (ValueKit.view_emb_slice_whole_unit_val _ _ _ _ _ _).trans ?_
    show 512 * (Ring.bk 8 t.val).val + (y 0).val = t.val * 512 + (y 0).val
    rw [bk_val, mul_comm]
  · exact (ValueKit.view_emb_slice_whole_unit_val _ _ _ _ _ _).trans (Nat.zero_add _)

/-- The copy of the up product's block reads its rows. -/
theorem uu_copied (t : Fin cfg0.N) (w : FVec Ideal S4096x2816 .bf16) :
    ReadAs.same.apply (View.read (Elt Ideal) (srcB0_1 (Ring.bk 8 t.val)).view w) = rows t w := by
  funext y
  refine congrArg w (funext fun a => Fin.ext ?_)
  fin_cases a
  · refine (ValueKit.view_emb_slice_whole_unit_val _ _ _ _ _ _).trans ?_
    show 512 * (Ring.bk 8 t.val).val + (y 0).val = t.val * 512 + (y 0).val
    rw [bk_val, mul_comm]
  · exact (ValueKit.view_emb_slice_whole_unit_val _ _ _ _ _ _).trans (Nat.zero_add _)

/-- One store of a whole buffer leaves what was stored. -/
theorem canon_all {s : Shape} (w : FVec Ideal s .bf16) :
    View.canon (Val := Elt Ideal) (e := EltTy.bf16) [⟨Rect.whole s, w⟩] = w := by
  funext y
  have e := View.canon_cons_emb (Val := Elt Ideal) (e := EltTy.bf16) (Rect.whole s) w [] y
  rw [Rect.emb_whole_apply] at e
  exact e

/-- A part of a buffer that a copy filled. -/
theorem cov_part {κ : Kind} {sp : Space} {s : Shape} (v : View sig κ sp s .bf16) (w : FVec Ideal s .bf16) (B : Rect s) :
    v.readCov (Val := Elt Ideal) [⟨Rect.whole s, w⟩] B.toLoadRect = View.ld (Val := Elt Ideal) (e' := EltTy.bf16) w B := by
  rw [View.readCov_eq_canon', canon_all]

/-- The block of cotangents at a point. -/
abbrev Bd (c : Dev nD) (t : Fin cfg0.N) : FVec Ideal S512x1024 .bf16 := iblk m c 0 t

/-- Point `t`'s rows of the gate product's results. -/
abbrev Bg (c : Dev nD) (t : Fin cfg0.N) : FVec Ideal S512x2816 .bf16 := rows t (gg m c)

/-- Point `t`'s rows of the up product's results. -/
abbrev Bu (c : Dev nD) (t : Fin cfg0.N) : FVec Ideal S512x2816 .bf16 := rows t (uu m c)

/-- What a point leaves in its block of the result: the gate's gradient in the first 2816 columns, the up product's in the others. -/
def both (d : FVec Ideal S512x1024 .bf16) (w : FVec Ideal S2816x1024 .bf16) (g u : FVec Ideal S512x2816 .bf16) (r : Fin 512) (j : Fin 5632) : ℝ :=
  if h : j.val < 2816 then dhid d w r ⟨j.val, h⟩ * re u (ix2 r ⟨j.val, h⟩) * siluGrad (re g (ix2 r ⟨j.val, h⟩))
  else dhid d w r ⟨j.val - 2816, by omega⟩ * (re g (ix2 r ⟨j.val - 2816, by omega⟩) * sgm (re g (ix2 r ⟨j.val - 2816, by omega⟩)))

theorem both_lo (d : FVec Ideal S512x1024 .bf16) (w : FVec Ideal S2816x1024 .bf16) (g u : FVec Ideal S512x2816 .bf16) (r : Fin 512) (j : Fin 5632) (h : j.val < 2816) :
    both d w g u r j = dhid d w r ⟨j.val, h⟩ * re u (ix2 r ⟨j.val, h⟩) * siluGrad (re g (ix2 r ⟨j.val, h⟩)) := dif_pos h

theorem both_hi (d : FVec Ideal S512x1024 .bf16) (w : FVec Ideal S2816x1024 .bf16) (g u : FVec Ideal S512x2816 .bf16) (r : Fin 512) (j : Fin 5632) (h : ¬ j.val < 2816) :
    both d w g u r j = dhid d w r ⟨j.val - 2816, by omega⟩ * (re g (ix2 r ⟨j.val - 2816, by omega⟩) * sgm (re g (ix2 r ⟨j.val - 2816, by omega⟩))) := dif_neg h

/-- A tile of the first columns. -/
theorem gate_part {d : FVec Ideal S512x1024 .bf16} {w : FVec Ideal S2816x1024 .bf16} {g u : FVec Ideal S512x2816 .bf16} (hd : Real d) (hw : Real w) (hg : Real g) (hu : Real u)
    (o : ℕ) (h : o + 256 ≤ 2816) (y : S1x512x256.Idx) (j0 : Fin 512) (j1 : Fin 5632) (h0 : j0.val = (y 1).val) (h1 : j1.val = o + (y 2).val) :
    k0_pay24 (F := Ideal) (k0_pay4 (F := Ideal) d) (part o h w) (cols o h g) (cols o h u) y = ((both d w g u j0 j1 : ℝ) : EReal) := by
  have hy : (y 2).val < 256 := (y 2).isLt
  have hj : j1.val < 2816 := by omega
  rw [both_lo _ _ _ _ _ _ hj]
  exact gate_tile hd hw hg hu o h y j0 ⟨j1.val, hj⟩ h0 h1

/-- A tile of the other columns. -/
theorem up_part {d : FVec Ideal S512x1024 .bf16} {w : FVec Ideal S2816x1024 .bf16} {g : FVec Ideal S512x2816 .bf16} (u : FVec Ideal S512x2816 .bf16) (hd : Real d) (hw : Real w) (hg : Real g)
    (o : ℕ) (h : o + 256 ≤ 2816) (y : S1x512x256.Idx) (j0 : Fin 512) (j1 : Fin 5632) (h0 : j0.val = (y 1).val) (h1 : j1.val = 2816 + o + (y 2).val) :
    k0_pay34 (F := Ideal) (k0_pay4 (F := Ideal) d) (part o h w) (cols o h g) y = ((both d w g u j0 j1 : ℝ) : EReal) := by
  have hj : ¬ j1.val < 2816 := by omega
  rw [both_hi _ _ _ _ _ _ hj]
  exact up_tile hd hw hg o h y j0 ⟨j1.val - 2816, by omega⟩ h0 (by show j1.val - 2816 = _; omega)

attribute [local irreducible] k0_pay24 k0_pay34 k0_pay4 part cols both

set_option maxHeartbeats 2000000 in
/-- What point `t` leaves in its block. -/
theorem point (c : Dev nD) (t : Fin cfg0.N) (hd : Real (Bd m c t)) (hw : Real (wd m c)) (hg : Real (Bg m c t)) (hu : Real (Bu m c t)) (j0 : Fin 512) (j1 : Fin 5632) :
    (outsAt0 m c t.val t.isLt) (ix3 0 j0 j1) = ((both (Bd m c t) (wd m c) (Bg m c t) (Bu m c t) j0 j1 : ℝ) : EReal) := by
  by_cases h1 : t.val < 6
  · by_cases h0 : t.val % 8 = 0
    · rw [outsAt0_A m c t h0 h1, gg_entry, uu_entry, wd_entry]
      frame_out
      rw [wd_copied, gg_copied, uu_copied]
      simp only [cov_part, ld_part, ld_cols, gate0, gate1, gate2, gate4, gate5, gate6, gate7, gate8, gate9, gate10, up0, up1, up2, up3, up4, up6, up7, up8, up9, up10]
      canon_tiles x h
      all_goals first
        | exact gate_part hd hw hg hu _ (by decide) x j0 j1 h1 h2
        | exact gate_part hd hw hg hu _ (by decide) x j0 j1 h1 (h2.trans (Nat.zero_add _).symm)
        | exact up_part _ hd hw hg _ (by decide) x j0 j1 h1 h2
    · rw [outsAt0_B m c t h0 h1, gg_entry, uu_entry, wts_eq]
      frame_out
      rw [gg_copied, uu_copied]
      simp only [read_unread_whole, cov_part, ld_part, ld_cols, gate0, gate1, gate2, gate4, gate5, gate6, gate7, gate8, gate9, gate10, up0, up1, up2, up3, up4, up6, up7, up8, up9, up10]
      canon_tiles x h
      all_goals first
        | exact gate_part hd hw hg hu _ (by decide) x j0 j1 h1 h2
        | exact gate_part hd hw hg hu _ (by decide) x j0 j1 h1 (h2.trans (Nat.zero_add _).symm)
        | exact up_part _ hd hw hg _ (by decide) x j0 j1 h1 h2
  · have h0 : ¬ t.val % 8 = 0 := by have := lt8 t; omega
    rw [outsAt0_C m c t h0 h1, gg_entry, uu_entry, wts_eq]
    frame_out
    rw [gg_copied, uu_copied]
    simp only [read_unread_whole, cov_part, ld_part, ld_cols, gate0, gate1, gate2, gate4, gate5, gate6, gate7, gate8, gate9, gate10, up0, up1, up2, up3, up4, up6, up7, up8, up9, up10]
    canon_tiles x h
    all_goals first
      | exact gate_part hd hw hg hu _ (by decide) x j0 j1 h1 h2
      | exact gate_part hd hw hg hu _ (by decide) x j0 j1 h1 (h2.trans (Nat.zero_add _).symm)
      | exact up_part _ hd hw hg _ (by decide) x j0 j1 h1 h2

section Values

variable (c : Dev nD) (h0 : Real (X0 m c)) (h1 : Real (X1 m c)) (h2 : Real (X2 m c)) (h3 : Real (X3 m c))

include h3 in
theorem d_real (t : Fin cfg0.N) : Real (Bd m c t) := fun j => by
  idx_vars j
  exact (h3 _).imp fun _ e => (d_block m c t j0 j1).trans e

include h2 in
theorem w_real : Real (wd m c) := fun j => h2 _

include h0 in
theorem g_real (t : Fin cfg0.N) : Real (Bg m c t) := fun j => h0 _

include h1 in
theorem u_real (t : Fin cfg0.N) : Real (Bu m c t) := fun j => h1 _

theorem dhid_eq (t : Fin cfg0.N) (r : Fin 512) (f : Fin 2816) :
    dhid (Bd m c t) (wd m c) r f = Cert.Reference6Ideal.Hidden.dhid (X2 m c) (X3 m c) (rowOf t r) f :=
  Finset.sum_congr rfl fun k _ => congrArg (· * _) (congrArg EReal.toReal (d_block m c t r k))

include h0 h1 h2 h3 in
/-- The run's result is the reference's. -/
theorem value : (dats m 0 c).arrAt 1 cfg0.N = Cert.Reference6Ideal.Read.val_main_v9 (F := Ideal) (X0 m c) (X1 m c) (X2 m c) (X3 m c) := by
  refine (dats m 0 c).arrAt_eq_of_covers 1 _ (by decide +kernel) fun t hf y => ?_
  blk_simp
  rw [after0_1]
  idx_vars y
  obtain rfl : y0 = 0 := Subsingleton.elim _ _
  have e : ((View.whole main_v8).slice (win0_1.rect t)).emb (ix3 0 y1 y2) = ix3 0 (rowOf t y1) y2 := by blk_ext [idx t, rowOf]
  rw [e, Cert.Reference6Ideal.Hidden.both_apply _ _ _ _ h0 h1 h2 h3]
  refine (point m c t (d_real m c h3 t) (w_real m c h2) (g_real m c h0 t) (u_real m c h1 t) y1 y2).trans ?_
  by_cases h : y2.val < 2816
  · rw [dif_pos h, both_lo _ _ _ _ _ _ h, dhid_eq]
    rfl
  · rw [dif_neg h, both_hi _ _ _ _ _ _ h, dhid_eq]
    rfl

end Values

end Cert.Kernel6Ideal.Hidden

end
-- ==== Proof.HiddenClaim.lean ====
module

public import proofs.«01_k».proof.Defs
public import proofs.«01_k».proof.Proof.HiddenKernel
public import proofs.«01_k».proof.Proof.Gen.Kernel6
public import Idealize.ShloMosaic.Lib.Claim

@[expose] public section

set_option maxRecDepth 16384

noncomputable section

namespace Cert.Hidden

open Idealize.ShloMosaic Idealize.ShloMosaic.TcCoe Idealize.SL.Sem Cert.Reals

/-- The side conditions of the precondition's operations. -/
instance finite_facts : Cert.Pre_finite6.Facts where
  bcast_S_S1x4096x2816 := by decide
  reducesTo_S1x4096x2816_S_d0_1_2 := by decide
  h_S_ := by decide
  bcast_S_S1x2816x1024 := by decide
  reducesTo_S1x2816x1024_S_d0_1_2 := by decide
  bcast_S_S1x4096x1024 := by decide
  reducesTo_S1x4096x1024_S_d0_1_2 := by decide

open Cert.Pre_finite6 in
/-- The precondition read back: the arguments that it tests are real everywhere. -/
theorem real_of_finite (x0 : FVec Ideal S1x4096x2816 .f32) (x1 : FVec Ideal S1x4096x2816 .f32) (x2 : FVec Ideal S1x2816x1024 .f32) (x3 : FVec Ideal S1x4096x1024 .f32) (h : Cert.Pre_finite6.fn (F := Ideal) x0 x1 x2 x3 = fun _ => 1#1) :
    Real x0 ∧ Real x1 ∧ Real x2 ∧ Real x3 := by
  have e := congrFun h ix0
  obtain ⟨e, e3⟩ := IntOp.andi_eq_one.1 e
  obtain ⟨e, e2⟩ := IntOp.andi_eq_one.1 e
  obtain ⟨e0, e1⟩ := IntOp.andi_eq_one.1 e
  exact ⟨real_of_all _ _ _ _ _ _ e0, real_of_all _ _ _ _ _ _ e1, real_of_all _ _ _ _ _ _ e2, real_of_all _ _ _ _ _ _ e3⟩

/-- The kernel's results are the reference's. -/
theorem algebraic : Cert.algebraic_Kernel6Ideal_Reference6Ideal_pre_finite6 := by
  pair_intro
  · run_from Cert.Kernel6Ideal.Hidden.run_blocks m g
  · refine (θ_run _ _ _).mono (fun r h c => ?_) (Cert.Reference6Ideal.Value.run m' g')
    obtain ⟨e0, e1, e2, e3⟩ := hagree c
    obtain ⟨r0, r1, r2, r3⟩ := real_of_finite _ _ _ _ (hpre c)
    obtain ⟨h0, rest⟩ := h c
    refine ⟨h0.trans ?_, rest⟩
    · refine (Cert.Reference6Ideal.Read.val_main_v9_eq _ _ _ _).trans ?_
      rw [e0, e1, e2, e3]
      exact (Cert.Kernel6Ideal.Hidden.value m c r0 r1 r2 r3).symm

/-- The bit-level program's frame: the two texts are one, and the run is for any floats. -/
theorem frame_kernel : Cert.quiescent_Kernel6 := fun m ρ _ =>
  Eq.mp (by sl_kernel_rfl) (Cert.Kernel6Ideal.Hidden.frame (F := Bits) m ρ)

/-- The reference's frame: no operation writes an argument, and it has no semaphore. -/
theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

end Cert.Hidden

end
-- ==== Proof.ConvMath.lean ====
module

public import proofs.«01_k».proof.Proof.Reals
public import Mathlib.Analysis.SpecialFunctions.Trigonometric.Inverse

@[expose] public section

noncomputable section

/-! The transform of the convolution call, over the reals: a causal filter of 31 taps applied through
128 frequencies of a window of 256 rows is the filter itself, on the last 128 rows. -/

namespace Cert.Dft

open Finset

/-- Twice the sum of `cos(f·θ)` over `f = 1..n`, times `sin(θ/2)`, telescopes. -/
theorem cos_sum (θ : ℝ) (n : ℕ) :
    2 * Real.sin (θ / 2) * ∑ f ∈ range n, Real.cos ((f + 1 : ℕ) * θ) = Real.sin ((n + 1 / 2) * θ) - Real.sin (θ / 2) := by
  induction n with
  | zero => simp; ring_nf
  | succ n ih =>
    rw [sum_range_succ, mul_add, ih]
    have h := Real.sin_sub_sin (((n + 1 : ℕ) + 1 / 2) * θ) ((n + 1 / 2) * θ)
    rw [show ((((n + 1 : ℕ) : ℝ) + 1 / 2) * θ - (n + 1 / 2) * θ) / 2 = θ / 2 by push_cast; ring,
      show ((((n + 1 : ℕ) : ℝ) + 1 / 2) * θ + (n + 1 / 2) * θ) / 2 = (n + 1 : ℕ) * θ by push_cast; ring] at h
    linarith

/-- The angle between two neighbouring rows at the lowest frequency. -/
def turn : ℝ := Real.pi * (1 / 128)

/-- The weight of a frequency in the inverse transform. -/
def weight (f : Fin 128) : ℝ := if f.val = 0 then 1 / 256 else 1 / 128

/-- The real transform's second half: the sines, and in their unused first place the highest frequency. -/
def sine (f : Fin 128) (n : ℝ) : ℝ := if f.val = 0 then Real.cos (Real.pi * n) else Real.sin (turn * (f.val * n))

theorem cos_pi_int (k : ℤ) : Real.cos (Real.pi * k) = (-1 : ℝ) ^ k := by
  rw [mul_comm]; exact Real.cos_int_mul_pi k

/-- The weighted frequencies of a lag: one at lag zero, nothing at any other lag of a window. -/
theorem delta (k : ℤ) (hlo : -256 < k) (hhi : k < 256) :
    (1 + Real.cos (Real.pi * k)) / 256 + ∑ f ∈ range 127, 1 / 128 * Real.cos (turn * ((f + 1 : ℕ) * k)) = if k = 0 then 1 else 0 := by
  rw [← mul_sum]
  by_cases hk : k = 0
  · subst hk; norm_num
  · rw [if_neg hk]
    have hs : Real.sin (turn * k / 2) ≠ 0 := by
      intro h
      obtain ⟨n, hn⟩ := Real.sin_eq_zero_iff.1 h
      have : (n : ℝ) * 256 = k := by
        have := Real.pi_pos
        unfold turn at hn; field_simp at hn; linarith
      have : n * 256 = k := by exact_mod_cast this
      omega
    have h := cos_sum (turn * k) 127
    have e : (((127 : ℕ) : ℝ) + 1 / 2) * (turn * k) = k * Real.pi - turn * k / 2 := by unfold turn; push_cast; ring
    rw [e, Real.sin_sub, Real.sin_int_mul_pi, zero_mul, zero_sub, ← mul_comm Real.pi] at h
    have h2 : 2 * ∑ f ∈ range 127, Real.cos (turn * ((f + 1 : ℕ) * k)) = -Real.cos (Real.pi * k) - 1 := by
      have : ∀ f : ℕ, Real.cos (turn * ((f + 1 : ℕ) * k)) = Real.cos ((f + 1 : ℕ) * (turn * k)) := fun f => by congr 1; ring
      simp only [this]
      apply mul_left_cancel₀ hs
      linarith
    linarith

/-- One frequency's part of a row of the filtered window: the product of the two spectra, turned back. -/
theorem frequency (f : Fin 128) (a b c : ℤ) :
    weight f * Real.cos (turn * (f.val * a)) * (Real.cos (turn * (f.val * b)) * Real.cos (turn * (f.val * c)) - Real.sin (turn * (f.val * b)) * sine f c)
      + weight f * sine f a * ((if f.val = 0 then Real.cos (Real.pi * b) else Real.cos (turn * (f.val * b))) * sine f c + Real.sin (turn * (f.val * b)) * Real.cos (turn * (f.val * c)))
      = weight f * (Real.cos (turn * (f.val * (a - b - c : ℤ))) + if f.val = 0 then Real.cos (Real.pi * (a - b - c : ℤ)) else 0) := by
  unfold sine
  by_cases hf : f.val = 0
  · simp only [hf, if_true, Nat.cast_zero, zero_mul, mul_zero, Real.cos_zero, Real.sin_zero, cos_pi_int]
    rw [show ((-1 : ℝ)) ^ (a - b - c) = (-1) ^ a * (-1) ^ b * (-1) ^ c by
      rw [zpow_sub₀ (by norm_num), zpow_sub₀ (by norm_num)]
      rcases Int.even_or_odd b with h | h <;> rcases Int.even_or_odd c with h' | h' <;> simp [h.neg_one_zpow, h'.neg_one_zpow, div_neg]]
    ring
  · simp only [hf, if_false, add_zero]
    rw [show turn * (f.val * ((a - b - c : ℤ) : ℝ)) = turn * (f.val * a) - (turn * (f.val * b) + turn * (f.val * c)) by push_cast; ring]
    rw [Real.cos_sub, Real.cos_add, Real.sin_add]
    ring

/-- All frequencies' parts together pick the row a tap back. -/
theorem frequencies (a b c : ℤ) (hlo : -256 < a - b - c) (hhi : a - b - c < 256) :
    ∑ f : Fin 128, (weight f * Real.cos (turn * (f.val * a)) * (Real.cos (turn * (f.val * b)) * Real.cos (turn * (f.val * c)) - Real.sin (turn * (f.val * b)) * sine f c)
      + weight f * sine f a * ((if f.val = 0 then Real.cos (Real.pi * b) else Real.cos (turn * (f.val * b))) * sine f c + Real.sin (turn * (f.val * b)) * Real.cos (turn * (f.val * c))))
      = if a - b - c = 0 then 1 else 0 := by
  rw [← delta (a - b - c) hlo hhi]
  simp only [frequency]
  rw [Fin.sum_univ_succ, sum_range]
  congr 1
  · simp [weight]; ring
  · exact sum_congr rfl fun f _ => by simp [weight]

/-- Sums of products of two spectra, regrouped by tap and row. -/
theorem regroup {F I M : Type} [Fintype F] [Fintype I] [Fintype M] (ic is : F → ℝ) (kc ks k2 : F → I → ℝ) (fc fs : F → M → ℝ)
    (w : I → ℝ) (x : M → ℝ) :
    (∑ f, ic f * ((∑ i, kc f i * w i) * (∑ m, fc f m * x m) - (∑ i, ks f i * w i) * (∑ m, fs f m * x m)))
      + ∑ f, is f * ((∑ i, k2 f i * w i) * (∑ m, fs f m * x m) + (∑ i, ks f i * w i) * (∑ m, fc f m * x m))
      = ∑ i, ∑ m, (∑ f, (ic f * (kc f i * fc f m - ks f i * fs f m) + is f * (k2 f i * fs f m + ks f i * fc f m))) * (w i * x m) := by
  simp only [sum_mul_sum, ← sum_sub_distrib, ← sum_add_distrib, mul_sum, sum_mul]
  refine (sum_congr rfl fun m _ => sum_comm).trans (sum_comm.trans (sum_congr rfl fun i _ => sum_comm.trans (sum_congr rfl fun m _ => sum_congr rfl fun f _ => ?_)))
  ring

/-- A tap's cosine, for the 31 taps; nothing in the unused last place. -/
def tapCos (f : Fin 128) (i : Fin 32) : ℝ := if i.val < 31 then Real.cos (turn * (f.val * (30 - i.val))) else 0

/-- A tap's sine. -/
def tapSin (f : Fin 128) (i : Fin 32) : ℝ := if i.val < 31 then Real.sin (turn * (f.val * (30 - i.val))) else 0

/-- A tap's cosine, with the highest frequency in the first place. -/
def tapTop (f : Fin 128) (i : Fin 32) : ℝ :=
  if i.val < 31 then (if f.val = 0 then Real.cos (Real.pi * (30 - i.val)) else Real.cos (turn * (f.val * (30 - i.val)))) else 0

/-- A row of the window, filtered through its spectrum. -/
def filtered (n : ℕ) (w : Fin 32 → ℝ) (x : Fin 256 → ℝ) : ℝ :=
  (∑ f : Fin 128, weight f * Real.cos (turn * (f.val * n)) *
      ((∑ i, tapCos f i * w i) * (∑ m : Fin 256, Real.cos (turn * (f.val * m.val)) * x m) - (∑ i, tapSin f i * w i) * (∑ m : Fin 256, sine f m.val * x m)))
    + ∑ f : Fin 128, weight f * sine f n *
      ((∑ i, tapTop f i * w i) * (∑ m : Fin 256, sine f m.val * x m) + (∑ i, tapSin f i * w i) * (∑ m : Fin 256, Real.cos (turn * (f.val * m.val)) * x m))

/-- The filter through the spectrum is the filter. -/
theorem filtered_eq (n : Fin 128) (w : Fin 32 → ℝ) (x : Fin 256 → ℝ) :
    filtered (128 + n.val) w x = ∑ i : Fin 31, w ⟨i.val, by omega⟩ * x ⟨128 + n.val - (30 - i.val), by omega⟩ := by
  unfold filtered
  rw [regroup, Fin.sum_univ_castSucc]
  have hz : ∑ m : Fin 256, (∑ f : Fin 128, (weight f * Real.cos (turn * (f.val * (128 + n.val : ℕ))) * (tapCos f (Fin.last 31) * Real.cos (turn * (f.val * m.val)) - tapSin f (Fin.last 31) * sine f m.val) + weight f * sine f (128 + n.val : ℕ) * (tapTop f (Fin.last 31) * sine f m.val + tapSin f (Fin.last 31) * Real.cos (turn * (f.val * m.val))))) * (w (Fin.last 31) * x m) = 0 :=
    sum_eq_zero fun m _ => by simp [tapCos, tapSin, tapTop]
  rw [hz, add_zero]
  refine sum_congr rfl fun i _ => ?_
  have hi := i.isLt
  have key : ∀ m : Fin 256, (∑ f : Fin 128, (weight f * Real.cos (turn * (f.val * (128 + n.val : ℕ))) * (tapCos f i.castSucc * Real.cos (turn * (f.val * m.val)) - tapSin f i.castSucc * sine f m.val) + weight f * sine f (128 + n.val : ℕ) * (tapTop f i.castSucc * sine f m.val + tapSin f i.castSucc * Real.cos (turn * (f.val * m.val)))))
      = if m = ⟨128 + n.val - (30 - i.val), by omega⟩ then 1 else 0 := fun m => by
    have h := frequencies (128 + n.val : ℕ) (30 - i.val : ℕ) m.val (by have := m.isLt; omega) (by omega)
    have e : ((30 : ℝ) - (i.castSucc.val : ℝ)) = ((30 - i.val : ℕ) : ℤ) := by rw [Fin.val_castSucc, Int.cast_natCast, Nat.cast_sub (by omega)]; norm_num
    have hl : i.castSucc.val < 31 := hi
    simp only [tapCos, tapSin, tapTop, if_pos hl, e]
    simp only [Int.cast_natCast] at h ⊢
    rw [h]
    refine if_congr ?_ rfl rfl
    rw [Fin.ext_iff]
    constructor <;> intro h' <;> simp only [] at * <;> omega
  simp only [key, ite_mul, one_mul, zero_mul, sum_ite_eq', mem_univ, if_true]
  rfl

end Cert.Dft
-- ==== Proof.ConvTabs.lean ====
module

public import proofs.«01_k».proof.Proof.Gen.Kernel7Ideal.Value
public import proofs.«01_k».proof.Proof.RealsLn
public import proofs.«01_k».proof.Proof.ConvMath
public import Idealize.ShloMosaic.Lib.Pipeline.ValueKit
public import Idealize.ShloMosaic.Lib.Claim
public import Idealize.ShloMosaic.Lib.Pipeline.ReadBack
public import Idealize.ShloMosaic.Lib.WritesUnit

@[expose] public section

set_option maxRecDepth 16384

noncomputable section

/-! The transform tables the host computes for the convolution call, as functions of frequency and row. -/

namespace Cert.Kernel7Ideal.Conv

open Cert.Kernel7Ideal Cert.Kernel7Ideal.Gen Idealize.ShloMosaic Idealize.ShloMosaic.TcCoe Idealize.SL.Sem Cert.Reals Cert.Dft
open Idealize.ShloMosaic.Pipeline (Dat)

theorem lit_neg_one : Ideal.ofBits .f32 3212836864#32 = ((-1 : ℝ) : EReal) := by
  simp [Ideal.ofBits, Ideal.ieee]; norm_num [← EReal.coe_mul]

theorem lit_128th : Ideal.ofBits .f32 1006632960#32 = ((1 / 128 : ℝ) : EReal) := by
  simp [Ideal.ofBits, Ideal.ieee]; norm_num [← EReal.coe_mul]

theorem lit_256th : Ideal.ofBits .f32 998244352#32 = ((1 / 256 : ℝ) : EReal) := by
  simp [Ideal.ofBits, Ideal.ieee]; norm_num [← EReal.coe_mul]

theorem lit_30 : Ideal.ofBits .f32 1106247680#32 = ((30 : ℝ) : EReal) := by
  simp [Ideal.ofBits, Ideal.ieee]; norm_num [← EReal.coe_mul]

/-- The angle whose cosine is −1 is π. -/
theorem acos_neg_one : Ideal.acos ((-1 : ℝ) : EReal) = ((Real.pi : ℝ) : EReal) := by
  have h : Ideal.acos ((-1 : ℝ) : EReal) = if (-1 : ℝ) ≤ -1 ∧ (-1 : ℝ) ≤ 1 then ((Real.arccos (-1) : ℝ) : EReal) else ⊥ := rfl
  rw [h, if_pos (by norm_num), Real.arccos_neg_one]

theorem cos_coe (r : ℝ) : Ideal.cos (r : EReal) = ((Real.cos r : ℝ) : EReal) := rfl

theorem sin_coe (r : ℝ) : Ideal.sin (r : EReal) = ((Real.sin r : ℝ) : EReal) := rfl

theorem toInt_small (n : ℕ) (h : n < 256) : (BitVec.ofNat 32 n).toInt = n := by
  rw [BitVec.toInt_eq_toNat_cond]; simp; omega

/-- An index as a number. -/
theorem sitofp_small (n : ℕ) (h : n < 256) : FloatOps.sitofp (F := Ideal) FTy.f32 (BitVec.ofNat 32 n) = (((n : ℝ) : ℝ) : EReal) := by
  show ((((BitVec.ofNat 32 n).toInt : ℝ)) : EReal) = _
  rw [toInt_small n h]; norm_cast

theorem select_first {α : Type} (n : ℕ) (h : n < 256) (a b : α) :
    Scalar.select (IntOp.cmpi CmpIPredicate.eq (BitVec.ofNat 32 n) 0#32) a b = if n = 0 then a else b := by
  have : (BitVec.ofNat 32 n = 0#32) ↔ n = 0 := by
    constructor
    · intro e; have := congrArg BitVec.toNat e; simp at this; omega
    · rintro rfl; rfl
  by_cases hn : n = 0
  · subst hn; rfl
  · rw [if_neg hn]
    have hne := mt this.1 hn
    simp [Scalar.select, IntOp.cmpi, beq_eq_false_iff_ne.2 hne]

theorem select_tap {α : Type} (n : ℕ) (h : n < 256) (a b : α) :
    Scalar.select (IntOp.cmpi CmpIPredicate.slt (BitVec.ofNat 32 n) 31#32) a b = if n < 31 then a else b := by
  have : (BitVec.ofNat 32 n).slt 31#32 = decide (n < 31) := by
    rw [BitVec.slt, toInt_small n h, show (31#32).toInt = 31 from rfl]; norm_num
  by_cases hn : n < 31
  · simp [Scalar.select, IntOp.cmpi, this, hn]
  · simp [Scalar.select, IntOp.cmpi, this, hn]

theorem sub_self_coe (r : ℝ) : (r : EReal) - (r : EReal) = 0 := by
  rw [← EReal.coe_sub, sub_self]; rfl

/-- A choice between two numbers is a number. -/
theorem coe_ite (p : Prop) [Decidable p] (a b : ℝ) : (if p then (a : EReal) else (b : EReal)) = ((if p then a else b : ℝ) : EReal) := by
  split <;> rfl

theorem coe_ite_zero (p : Prop) [Decidable p] (a : ℝ) : (if p then (a : EReal) else 0) = ((if p then a else 0 : ℝ) : EReal) := by
  split <;> rfl

/-- Cosines of frequency by row. -/
def fcT : FVec Ideal S128x256 .bf16 := fun j => ((Real.cos (turn * ((j 0).val * (j 1).val)) : ℝ) : EReal)

/-- Sines of frequency by row. -/
def fsT : FVec Ideal S128x256 .bf16 := fun j => ((sine (j 0) (j 1).val : ℝ) : EReal)

/-- The inverse transform's cosines, by row of the window's second half and frequency. -/
def icT : FVec Ideal S128x128 .bf16 := fun j => ((weight (j 1) * Real.cos (turn * ((j 1).val * (128 + (j 0).val : ℕ))) : ℝ) : EReal)

/-- The inverse transform's sines. -/
def isT : FVec Ideal S128x128 .bf16 := fun j => ((weight (j 1) * sine (j 1) (128 + (j 0).val : ℕ) : ℝ) : EReal)

/-- The taps' cosines. -/
def kcT : FVec Ideal S128x32 .bf16 := fun j => ((tapCos (j 0) (j 1) : ℝ) : EReal)

/-- The taps' sines. -/
def ksT : FVec Ideal S128x32 .bf16 := fun j => ((tapSin (j 0) (j 1) : ℝ) : EReal)

/-- The taps' cosines, with the highest frequency in the first place. -/
def k2T : FVec Ideal S128x32 .bf16 := fun j => ((tapTop (j 0) (j 1) : ℝ) : EReal)

/-- A table of nothing: what rounding the taps' tables leaves over, when nothing is rounded. -/
def noT : FVec Ideal S128x32 .bf16 := fun _ => (0 : EReal)

variable (m : (ℓ : Loc nD τ sig) → Buf (Elt Ideal) ℓ)

theorem fc_entry (c : Dev nD) : V m c main_v65 = fcT := by
  funext j; idx_vars j; entry_read; pointwise
  simp only [lit_neg_one, acos_neg_one, lit_128th, sitofp_small _ (show j0.val < 256 by omega), sitofp_small _ (show j1.val < 256 by omega),
    ← EReal.coe_mul, cos_coe]
  rfl

theorem fs_entry (c : Dev nD) : V m c main_v66 = fsT := by
  funext j; idx_vars j; entry_read; pointwise
  rw [select_first _ (show j0.val < 256 by omega)]
  simp only [lit_neg_one, acos_neg_one, lit_128th, sitofp_small _ (show j0.val < 256 by omega), sitofp_small _ (show j1.val < 256 by omega),
    ← EReal.coe_mul, cos_coe, sin_coe, coe_ite]
  rfl

theorem ic_entry (c : Dev nD) : V m c main_v68 = icT := by
  funext j; idx_vars j; entry_read; pointwise
  rw [select_first _ (show j1.val < 256 by omega)]
  simp only [lit_neg_one, acos_neg_one, lit_128th, lit_256th, sitofp_small _ (show 128 + j0.val < 256 by omega), sitofp_small _ (show j1.val < 256 by omega),
    ← EReal.coe_mul, cos_coe, sin_coe, coe_ite]
  rfl

theorem is_entry (c : Dev nD) : V m c main_v70 = isT := by
  funext j; idx_vars j; entry_read; pointwise
  rw [select_first _ (show j1.val < 256 by omega), select_first _ (show j1.val < 256 by omega)]
  simp only [lit_neg_one, acos_neg_one, lit_128th, lit_256th, sitofp_small _ (show 128 + j0.val < 256 by omega), sitofp_small _ (show j1.val < 256 by omega),
    ← EReal.coe_mul, cos_coe, sin_coe, coe_ite]
  rfl

theorem kc_entry (c : Dev nD) : V m c main_v71 = kcT := by
  funext j; idx_vars j; entry_read; pointwise
  rw [select_tap _ (show j1.val < 256 by omega)]
  simp only [lit_neg_one, acos_neg_one, lit_128th, lit_30, sitofp_small _ (show j0.val < 256 by omega), sitofp_small _ (show j1.val < 256 by omega),
    ← EReal.coe_mul, ← EReal.coe_sub, cos_coe, sin_coe, coe_ite, coe_ite_zero]
  rfl

theorem kcl_entry (c : Dev nD) : V m c main_v74 = noT := by
  funext j; idx_vars j; entry_read; pointwise
  rw [select_tap _ (show j1.val < 256 by omega)]
  simp only [lit_neg_one, acos_neg_one, lit_128th, lit_30, sitofp_small _ (show j0.val < 256 by omega), sitofp_small _ (show j1.val < 256 by omega),
    ← EReal.coe_mul, ← EReal.coe_sub, cos_coe, sin_coe, coe_ite, coe_ite_zero]
  exact sub_self_coe _

theorem ks_entry (c : Dev nD) : V m c main_v75 = ksT := by
  funext j; idx_vars j; entry_read; pointwise
  rw [select_tap _ (show j1.val < 256 by omega)]
  simp only [lit_neg_one, acos_neg_one, lit_128th, lit_30, sitofp_small _ (show j0.val < 256 by omega), sitofp_small _ (show j1.val < 256 by omega),
    ← EReal.coe_mul, ← EReal.coe_sub, cos_coe, sin_coe, coe_ite, coe_ite_zero]
  rfl

theorem ksl_entry (c : Dev nD) : V m c main_v78 = noT := by
  funext j; idx_vars j; entry_read; pointwise
  rw [select_tap _ (show j1.val < 256 by omega)]
  simp only [lit_neg_one, acos_neg_one, lit_128th, lit_30, sitofp_small _ (show j0.val < 256 by omega), sitofp_small _ (show j1.val < 256 by omega),
    ← EReal.coe_mul, ← EReal.coe_sub, cos_coe, sin_coe, coe_ite, coe_ite_zero]
  exact sub_self_coe _

theorem k2_entry (c : Dev nD) : V m c main_v79 = k2T := by
  funext j; idx_vars j; entry_read; pointwise
  rw [select_tap _ (show j1.val < 256 by omega), select_first _ (show j0.val < 256 by omega)]
  simp only [lit_neg_one, acos_neg_one, lit_128th, lit_30, sitofp_small _ (show j0.val < 256 by omega), sitofp_small _ (show j1.val < 256 by omega),
    ← EReal.coe_mul, ← EReal.coe_sub, cos_coe, sin_coe, coe_ite, coe_ite_zero]
  rfl

theorem k2l_entry (c : Dev nD) : V m c main_v82 = noT := by
  funext j; idx_vars j; entry_read; pointwise
  rw [select_tap _ (show j1.val < 256 by omega), select_first _ (show j0.val < 256 by omega)]
  simp only [lit_neg_one, acos_neg_one, lit_128th, lit_30, sitofp_small _ (show j0.val < 256 by omega), sitofp_small _ (show j1.val < 256 by omega),
    ← EReal.coe_mul, ← EReal.coe_sub, cos_coe, sin_coe, coe_ite, coe_ite_zero]
  exact sub_self_coe _

end Cert.Kernel7Ideal.Conv
end
-- ==== Proof.ConvPure.lean ====
module

public import proofs.«01_k».proof.Proof.ConvTabs

@[expose] public section

set_option maxRecDepth 16384

noncomputable section

/-! What the convolution call's body computes from blocks that hold numbers. -/

namespace Cert.Kernel7Ideal.Conv

open Cert.Kernel7Ideal Cert.Kernel7Ideal.Gen Idealize.ShloMosaic Idealize.ShloMosaic.TcCoe Idealize.SL.Sem Cert.Reals Cert.Dft

/-- The taps' spectrum under a table. -/
def spec (g : Fin 128 → Fin 32 → ℝ) (w : FVec Ideal S32x256 .f32) : FVec Ideal S128x256 .f32 := fun j =>
  ((∑ i : Fin 32, g (j 0) i * re w (ix2 i (j 1)) : ℝ) : EReal)

/-- The three partial products make the spectrum: nothing is left over of a number. -/
theorem spec_eq (g : Fin 128 → Fin 32 → ℝ) (w : FVec Ideal S32x256 .f32) (h : Real w) :
    k0_pay4 (F := Ideal) w (fun j => ((g (j 0) (j 1) : ℝ) : EReal)) noT = spec g w := by
  funext j; idx_vars j
  pointwise [k0_pay4, k0_pay3, noT]
  simp only [h.eq, sub_self_coe, mul_zero, zero_mul, Finset.sum_const_zero, add_zero, ← EReal.coe_mul, coe_sum]
  rfl

theorem pay5_eq : @k0_pay5 Ideal = @k0_pay4 Ideal := rfl

theorem pay7_eq (w : FVec Ideal S32x256 .f32) (a b : FVec Ideal S128x32 .bf16) :
    k0_pay7 (F := Ideal) (k0_pay3 w) (k0_pay6 a) b = k0_pay4 w a b := rfl

/-- A tile of 128 rows: the filtered window of 256 rows, and the bias. -/
theorem tile_apply (w : FVec Ideal S32x256 .f32) (xs : FVec Ideal S256x256 .bf16) (b : FVec Ideal S1x256 .f32) (hx : Real xs) (hb : Real b)
    (n : Fin 128) (d : Fin 256) :
    k0_pay14 (F := Ideal) b xs fcT fsT (spec tapCos w) (spec tapSin w) (spec tapTop w) (spec tapSin w) icT isT (ix2 n d)
      = ((filtered (128 + n.val) (fun i => re w (ix2 i d)) (fun r => re xs (ix2 r d)) + re b (ix2 0 d) : ℝ) : EReal) := by
  pointwise [k0_pay14, fcT, fsT, icT, isT, spec]
  simp only [hx.eq, hb.eq, ← EReal.coe_mul, coe_sum, ← EReal.coe_sub, ← EReal.coe_add]
  rfl

/-- The gated block. -/
theorem gate_block (u v : FVec Ideal S1x1024x256 .bf16) (hu : Real u) (hv : Real v) (r : Fin 1024) (d : Fin 256) :
    k0_pay11 (F := Ideal) (k0_pay9 u) (k0_pay10 v) (ix2 r d) = ((re u (ix3 0 r d) * sgm (re v (ix3 0 r d)) : ℝ) : EReal) := by
  pointwise [k0_pay11, k0_pay9, k0_pay10]
  simp only [hu.eq, hv.eq, coe_sgm, coe_sgm', ← EReal.coe_mul]

/-- Whether a block of rows is the first. -/
theorem first_iff (i : grid0.Coords) : Scalar.cmpi .eq (BitVec.ofNat 32 (i 1).val) 0#32 = if (i 1).val = 0 then 1#1 else 0#1 :=
  (by decide +kernel : ∀ i : grid0.Coords, Scalar.cmpi .eq (BitVec.ofNat 32 (i 1).val) 0#32 = if (i 1).val = 0 then 1#1 else 0#1) i

/-- The gated rows before the block: nothing before the first. -/
theorem gate_halo (i : grid0.Coords) (u v : FVec Ideal S1x128x256 .bf16) (hu : Real u) (hv : Real v) (r : Fin 128) (d : Fin 256) :
    k0_pay8 (F := Ideal) i u v (ix2 r d)
      = ((if (i 1).val = 0 then 0 else re u (ix3 0 r d) * sgm (re v (ix3 0 r d)) : ℝ) : EReal) := by
  unfold k0_pay8
  rw [first_iff i]
  split
  · pointwise
    rfl
  · pointwise
    simp only [hu.eq, hv.eq, coe_sgm, coe_sgm', ← EReal.coe_mul]

/-- The product's block. -/
theorem pair_block (u v : FVec Ideal S1x1024x256 .bf16) (hu : Real u) (hv : Real v) (r : Fin 1024) (d : Fin 256) :
    k0_pay13 (F := Ideal) u v (ix2 r d) = ((re u (ix3 0 r d) * re v (ix3 0 r d) : ℝ) : EReal) := by
  pointwise [k0_pay13]
  simp only [hu.eq, hv.eq, ← EReal.coe_mul]

/-- The product's eight rows before the block. -/
theorem pair_halo (i : grid0.Coords) (u v : FVec Ideal S1x128x256 .bf16) (hu : Real u) (hv : Real v) (r : Fin 8) (d : Fin 256) :
    k0_pay12 (F := Ideal) (Scalar.cmpi .eq (BitVec.ofNat 32 (i 1).val) 0#32) u v (ix2 r d)
      = ((if (i 1).val = 0 then 0 else re u (ix3 0 ⟨120 + r.val, by omega⟩ d) * re v (ix3 0 ⟨120 + r.val, by omega⟩ d) : ℝ) : EReal) := by
  rw [first_iff i]
  split
  · pointwise [k0_pay12]
    rfl
  · pointwise [k0_pay12]
    simp only [hu.eq, hv.eq, ← EReal.coe_mul]

/-- A chunk of 64 rows of the gated short filter. -/
theorem chunk_apply (pw : FVec Ideal S72x256 .f32) (t0 t1 t2 : FVec Ideal S1x256 .f32) (z : FVec Ideal S1x64x256 .bf16)
    (hp : Real pw) (h0 : Real t0) (h1 : Real t1) (h2 : Real t2) (hz : Real z) (r : Fin 64) (d : Fin 256) :
    k0_pay2 (F := Ideal) pw t0 t1 t2 z (ix2 r d) = ((re z (ix3 0 r d) * (re t0 (ix2 0 d) * re pw (ix2 ⟨r.val + 6, by omega⟩ d)
      + re t1 (ix2 0 d) * re pw (ix2 ⟨r.val + 7, by omega⟩ d) + re t2 (ix2 0 d) * re pw (ix2 ⟨8 + r.val, by omega⟩ d)) : ℝ) : EReal) := by
  pointwise [k0_pay2]
  simp only [hp.eq, h0.eq, h1.eq, h2.eq, hz.eq, ← EReal.coe_mul, ← EReal.coe_add]
  have e6 : (r.val + 72 - 66) % 72 = r.val + 6 := by omega
  have e7 : (r.val + 72 - 65) % 72 = r.val + 7 := by omega
  simp only [e6, e7]

end Cert.Kernel7Ideal.Conv
end
-- ==== Proof.ConvRef.lean ====
module

public import proofs.«01_k».proof.Proof.Gen.Reference7Ideal.Read
public import proofs.«01_k».proof.Proof.RealsLn

/-! The reference of the convolution call, read back over the reals. -/

@[expose] public section

set_option maxRecDepth 16384

noncomputable section

namespace Cert.Conv

/-- The entry `k` rows before row `t`; nothing before the first row. -/
def back (x : Fin 4096 → ℝ) (t : Fin 4096) (k : ℕ) : ℝ := if k ≤ t.val then x ⟨t.val - k, by omega⟩ else 0

end Cert.Conv

namespace Cert.Reference7Ideal.Conv

open Cert.Reference7Ideal Cert.Reference7Ideal.Gen Cert.Reference7Ideal.Read Idealize.ShloMosaic Idealize.ShloMosaic.TcCoe Cert.Reals Cert.Conv

variable (x0 : FVec Ideal S1x4096x5120 .f32) (x1 : FVec Ideal S1x31x1024 .f32) (x2 : FVec Ideal S1x1024 .f32) (x3 : FVec Ideal S1x3x1024 .f32)

/-- The five parts of the projected row. -/
def z (j : Fin 5) (d : Fin 1024) (t : Fin 4096) : ℝ := re x0 (ix3 0 t ⟨j.val * 1024 + d.val, by omega⟩)

/-- The long filter's argument: the first part gated by the second. -/
def gate (d : Fin 1024) (t : Fin 4096) : ℝ := z x0 0 d t * sgm (z x0 1 d t)

/-- The short filter's argument: the product of the last two parts. -/
def pair (d : Fin 1024) (t : Fin 4096) : ℝ := z x0 3 d t * z x0 4 d t

/-- The long filter's result. -/
def long (t : Fin 4096) (d : Fin 1024) : ℝ :=
  (∑ i : Fin 31, re x1 (ix3 0 i d) * back (gate x0 d) t (30 - i.val)) + re x2 (ix2 0 d)

/-- The short filter's result, times the third part. -/
def short (t : Fin 4096) (d : Fin 1024) : ℝ :=
  z x0 2 d t * ∑ i : Fin 3, re x3 (ix3 0 i d) * back (pair x0 d) t (2 - i.val)

theorem gate_apply (h0 : Real x0) (t : Fin 4096) (d : Fin 1024) :
    val_main_v12 (F := Ideal) x0 (ix2 t d) = ((gate x0 d t : ℝ) : EReal) := by
  pointwise [val_main_v12, val_main_v11, val_main_v10, val_main_cst_0, val_main_v9, val_main_v8, val_main_cst, val_main_v7, val_main_v6, val_main_v2, val_main_v1, val_main_v0]
  simp only [h0.eq, coe_sgm, ← EReal.coe_mul]
  simp only [gate, z, Fin.val_zero, zero_mul, zero_add]
  rfl

theorem pair_apply (h0 : Real x0) (t : Fin 4096) (d : Fin 1024) :
    val_main_v239 (F := Ideal) x0 (ix2 t d) = ((pair x0 d t : ℝ) : EReal) := by
  pointwise [val_main_v239, val_main_v4, val_main_v5, val_main_v0]
  simp only [h0.eq, ← EReal.coe_mul]
  rfl

/-- The padded argument of the long filter. -/
theorem pad_apply (h0 : Real x0) (i : ℕ) (hi : i ≤ 30) (t : Fin 4096) (d : Fin 1024) (hs) :
    val_main_v15 (F := Ideal) x0 (ix2 ⟨i + t.val, hs⟩ d) = ((back (gate x0 d) t (30 - i) : ℝ) : EReal) := by
  pointwise [val_main_v15, val_main_v14, val_main_cst_1]
  by_cases h : i + t.val < 30
  · have e : back (gate x0 d) t (30 - i) = 0 := if_neg (by omega)
    rw [dif_pos h, e]; simp
  · have e : back (gate x0 d) t (30 - i) = gate x0 d ⟨i + t.val - 30, by omega⟩ :=
      (if_pos (by omega)).trans (congrArg (gate x0 d) (Fin.ext (by show t.val - (30 - i) = i + t.val - 30; omega)))
    rw [dif_neg h, e]; exact gate_apply x0 h0 _ d

/-- The padded argument of the short filter. -/
theorem padded_apply (h0 : Real x0) (i : ℕ) (hi : i ≤ 2) (t : Fin 4096) (d : Fin 1024) (hs) :
    val_main_v242 (F := Ideal) x0 (ix2 ⟨i + t.val, hs⟩ d) = ((back (pair x0 d) t (2 - i) : ℝ) : EReal) := by
  pointwise [val_main_v242, val_main_v241, val_main_cst_3]
  by_cases h : i + t.val < 2
  · have e : back (pair x0 d) t (2 - i) = 0 := if_neg (by omega)
    rw [dif_pos h, e]; simp
  · have e : back (pair x0 d) t (2 - i) = pair x0 d ⟨i + t.val - 2, by omega⟩ :=
      (if_pos (by omega)).trans (congrArg (pair x0 d) (Fin.ext (by show t.val - (2 - i) = i + t.val - 2; omega)))
    rw [dif_neg h, e]; exact pair_apply x0 h0 _ d

theorem pad_first (h0 : Real x0) (t : Fin 4096) (d : Fin 1024) (hs) :
    val_main_v15 (F := Ideal) x0 (ix2 ⟨t.val, hs⟩ d) = ((back (gate x0 d) t 30 : ℝ) : EReal) := by
  rw [← pad_apply x0 h0 0 (by decide) t d (by omega)]
  congr 2; exact Fin.ext (Nat.zero_add _).symm

theorem padded_first (h0 : Real x0) (t : Fin 4096) (d : Fin 1024) (hs) :
    val_main_v242 (F := Ideal) x0 (ix2 ⟨t.val, hs⟩ d) = ((back (pair x0 d) t 2 : ℝ) : EReal) := by
  rw [← padded_apply x0 h0 0 (by decide) t d (by omega)]
  congr 2; exact Fin.ext (Nat.zero_add _).symm

/-- The reference's first result: the taps are added one after another. -/
theorem long_apply (h0 : Real x0) (h1 : Real x1) (h2 : Real x2) (t : Fin 4096) (d : Fin 1024) :
    val_main_v238 (F := Ideal) x0 x1 x2 (ix2 t d) = ((long x0 x1 x2 t d : ℝ) : EReal) := by
  pointwise [val_main_v238, val_main_v237, val_main_v236, val_main_v235, val_main_v234, val_main_v233, val_main_v232, val_main_v231, val_main_v230, val_main_v229, val_main_v228, val_main_v227, val_main_v226, val_main_v225, val_main_v224, val_main_v223, val_main_v222, val_main_v221, val_main_v220, val_main_v219, val_main_v218, val_main_v217, val_main_v216, val_main_v215, val_main_v214, val_main_v213, val_main_v212, val_main_v211, val_main_v210, val_main_v209, val_main_v208, val_main_v207, val_main_v206, val_main_v205, val_main_v204, val_main_v203, val_main_v202, val_main_v201, val_main_v200, val_main_v199, val_main_v198, val_main_v197, val_main_v196, val_main_v195, val_main_v194, val_main_v193, val_main_v192, val_main_v191, val_main_v190, val_main_v189, val_main_v188, val_main_v187, val_main_v186, val_main_v185, val_main_v184, val_main_v183, val_main_v182, val_main_v181, val_main_v180, val_main_v179, val_main_v178, val_main_v177, val_main_v176, val_main_v175, val_main_v174, val_main_v173, val_main_v172, val_main_v171, val_main_v170, val_main_v169, val_main_v168, val_main_v167, val_main_v166, val_main_v165, val_main_v164, val_main_v163, val_main_v162, val_main_v161, val_main_v160, val_main_v159, val_main_v158, val_main_v157, val_main_v156, val_main_v155, val_main_v154, val_main_v153, val_main_v152, val_main_v151, val_main_v150, val_main_v149, val_main_v148, val_main_v147, val_main_v146, val_main_v145, val_main_v144, val_main_v143, val_main_v142, val_main_v141, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v13, val_main_cst_2]
  simp only [pad_first x0 h0]
  simp (discharger := omega) only [pad_apply x0 h0]
  simp only [h1.eq, h2.eq, ← EReal.coe_mul, ← EReal.coe_add]
  refine congrArg _ ?_
  unfold long
  refine congrArg (· + _) ?_
  simp only [Fin.sum_univ_castSucc, Finset.univ_eq_empty, Finset.sum_empty, zero_add]
  rfl

/-- The reference's second result. -/
theorem short_apply (h0 : Real x0) (h3 : Real x3) (t : Fin 4096) (d : Fin 1024) :
    val_main_v266 (F := Ideal) x0 x3 (ix2 t d) = ((short x0 x3 t d : ℝ) : EReal) := by
  pointwise [val_main_v266, val_main_v265, val_main_v264, val_main_v263, val_main_v262, val_main_v261, val_main_v260, val_main_v259, val_main_v258, val_main_v257, val_main_v256, val_main_v255, val_main_v254, val_main_v253, val_main_v252, val_main_v251, val_main_v250, val_main_v249, val_main_v248, val_main_v247, val_main_v246, val_main_v245, val_main_v244, val_main_v243, val_main_v240, val_main_v3, val_main_v0, val_main_cst_4]
  simp only [padded_first x0 h0]
  simp (discharger := omega) only [padded_apply x0 h0]
  simp only [h0.eq, h3.eq, ← EReal.coe_mul, ← EReal.coe_add]
  refine congrArg _ ?_
  unfold short
  rw [Fin.sum_univ_three]
  rfl

end Cert.Reference7Ideal.Conv

end
-- ==== Proof.ConvBlocks.lean ====
module

public import proofs.«01_k».proof.Proof.ConvPure
public import proofs.«01_k».proof.Proof.ConvRef

@[expose] public section

set_option maxRecDepth 16384

noncomputable section

/-! The convolution call's blocks, read off its arguments. -/

namespace Cert.Kernel7Ideal.Conv

open Cert.Kernel7Ideal Cert.Kernel7Ideal.Gen Idealize.ShloMosaic Idealize.ShloMosaic.TcCoe Idealize.SL.Sem Cert.Reals Cert.Dft
open Idealize.ShloMosaic.Pipeline (Dat)

variable (m : (ℓ : Loc nD τ sig) → Buf (Elt Ideal) ℓ)

/-- Argument 0: the five parts of the projection. -/
abbrev X0 (c : Dev nD) : FVec Ideal S1x4096x5120 .f32 := m ((c : Thread nD τ).loc main_arg0)

/-- Argument 1: the long filter's taps. -/
abbrev X1 (c : Dev nD) : FVec Ideal S1x31x1024 .f32 := m ((c : Thread nD τ).loc main_arg1)

/-- Argument 2: the long filter's bias. -/
abbrev X2 (c : Dev nD) : FVec Ideal S1x1024 .f32 := m ((c : Thread nD τ).loc main_arg2)

/-- Argument 3: the short filter's taps. -/
abbrev X3 (c : Dev nD) : FVec Ideal S1x3x1024 .f32 := m ((c : Thread nD τ).loc main_arg3)

theorem idx : ∀ t : Fin cfg0.N, win0_0.index t = ![0, t.val % 4, t.val / 4] ∧ win0_1.index t = ![0, t.val % 4 * 8 - 1, t.val / 4]
    ∧ win0_2.index t = ![0, t.val / 4] ∧ win0_3.index t = ![0, t.val / 4] ∧ win0_4.index t = ![0, 0] ∧ win0_5.index t = ![0, 0]
    ∧ win0_6.index t = ![0, 0] ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![t.val % 4, t.val / 4]
    ∧ win0_15.index t = ![t.val % 4, t.val / 4] ∧ t.val < 16 ∧ ((grid0.coords t) 1).val = t.val % 4 :=
  (by decide +kernel : ∀ t : Fin grid0.N, _)

theorem lt16 (t : Fin cfg0.N) : t.val < 16 := t.isLt

/-- The row of the whole array that row `r` of point `t`'s block is. -/
def rowOf (t : Fin cfg0.N) (r : Fin 1024) : Fin 4096 := ⟨t.val % 4 * 1024 + r.val, by omega⟩

/-- The column of the whole array that column `d` of point `t`'s block is. -/
def colOf (t : Fin cfg0.N) (d : Fin 256) : Fin 1024 := ⟨t.val / 4 * 256 + d.val, by have := lt16 t; omega⟩

/-- The block of the five parts. -/
abbrev Bz (c : Dev nD) (t : Fin cfg0.N) : FVec Ideal S5x1024x256 .bf16 := X0_0 m c t

/-- The 128 rows before it. -/
abbrev Bh (c : Dev nD) (t : Fin cfg0.N) : FVec Ideal S5x128x256 .bf16 := X0_1 m c t

/-- The taps of both filters. -/
abbrev Bw (c : Dev nD) (t : Fin cfg0.N) : FVec Ideal S40x256 .f32 := iblk m c 2 t

/-- The bias. -/
abbrev Bb (c : Dev nD) (t : Fin cfg0.N) : FVec Ideal S1x256 .f32 := iblk m c 3 t

theorem parts_entry (c : Dev nD) (k : Fin 7) (hk : k.val < 5) (r : Fin 4096) (d : Fin 1024) :
    (show EReal from V m c main_v5 (ix3 k r d)) = X0 m c (ix3 0 r ⟨k.val * 1024 + d.val, by omega⟩) := by
  entry_read; pointwise
  rw [dif_pos hk]

theorem z_block (c : Dev nD) (t : Fin cfg0.N) (k : Fin 5) (r : Fin 1024) (d : Fin 256) :
    (show EReal from Bz m c t (ix3 k r d)) = X0 m c (ix3 0 (rowOf t r) ⟨k.val * 1024 + (colOf t d).val, by omega⟩) := by
  unfold Bz X0_0 Pipeline.Window.fill
  rw [dif_pos (moved0_0 t _), ← parts_entry m c ⟨k.val, by omega⟩ k.isLt]
  blk_simp [iblk, idx t]
  blk_ext [idx t, rowOf, colOf]

theorem h_block (c : Dev nD) (t : Fin cfg0.N) (k : Fin 5) (r : Fin 128) (d : Fin 256) :
    (show EReal from Bh m c t (ix3 k r d)) = X0 m c (ix3 0 ⟨(t.val % 4 * 8 - 1) * 128 + r.val, by omega⟩ ⟨k.val * 1024 + (colOf t d).val, by omega⟩) := by
  unfold Bh X0_1 Pipeline.Window.fill
  rw [dif_pos (moved0_1 t _), ← parts_entry m c ⟨k.val, by omega⟩ k.isLt]
  blk_simp [iblk, idx t]
  blk_ext [idx t, colOf]

set_option maxHeartbeats 2000000 in
/-- The taps' array: the long filter's 31 rows, a row of nothing, the short filter's three, and nothing. -/
theorem taps_whole (c : Dev nD) : V m c main_v10 = concatenate S40x1024 0 [⟨S31x1024, shapeCast S31x1024 (X1 m c) shapeCasts_S1x31x1024_S31x1024⟩,
    ⟨S1x1024, broadcastInDim S1x1024 ![] bcast_S_S1x1024 (constant S_ FTy.f32 0#32)⟩,
    ⟨S3x1024, shapeCast S3x1024 (X3 m c) shapeCasts_S1x3x1024_S3x1024⟩,
    ⟨S5x1024, broadcastInDim S5x1024 ![] bcast_S_S5x1024 (constant S_ FTy.f32 0#32)⟩] concatenates_S31x1024_S1x1024_S3x1024_S5x1024_S40x1024_d0 := by
  unfold V
  simp only [Idealize.ShloMosaic.StableHlo.after_cons, Idealize.ShloMosaic.StableHlo.after_nil, hostOps0]
  after_results_steps
  rfl

theorem taps_entry (c : Dev nD) (i : Fin 40) (d : Fin 1024) :
    (show EReal from V m c main_v10 (ix2 i d)) = if h : i.val < 31 then X1 m c (ix3 0 ⟨i.val, h⟩ d)
      else if h' : 32 ≤ i.val ∧ i.val < 35 then X3 m c (ix3 0 ⟨i.val - 32, by omega⟩ d) else 0 := by
  rw [taps_whole]
  pointwise
  by_cases h1 : i.val < 31
  · rw [dif_pos h1, dif_pos h1]
  rw [dif_neg h1, dif_neg h1]
  by_cases h2 : i.val - 31 < 1
  · rw [dif_pos h2, dif_neg (by omega)]
  rw [dif_neg h2]
  by_cases h3 : i.val - 31 - 1 < 3
  · rw [dif_pos h3, dif_pos (by omega)]
    exact congrArg (X3 m c) (congrArg (fun k => ix3 0 k d) (Fin.ext (by show i.val - 31 - 1 = i.val - 32; omega)))
  · rw [dif_neg h3, dif_neg (by omega)]

theorem w_block (c : Dev nD) (t : Fin cfg0.N) (i : Fin 40) (d : Fin 256) :
    (show EReal from Bw m c t (ix2 i d)) = V m c main_v10 (ix2 i (colOf t d)) := by
  blk_simp [iblk, idx t]
  blk_ext [idx t, colOf]

theorem b_block (c : Dev nD) (t : Fin cfg0.N) (d : Fin 256) :
    (show EReal from Bb m c t (ix2 0 d)) = X2 m c (ix2 0 (colOf t d)) := by
  blk_simp [iblk, idx t]; entry_read; pointwise; blk_ext [idx t, colOf]

theorem fc_block (c : Dev nD) (t : Fin cfg0.N) : iblk m c 4 t = fcT := by
  funext j; idx_vars j; blk_simp [iblk, idx t]; rw [fc_entry]; exact congrArg _ (by blk_ext [idx t])

theorem fs_block (c : Dev nD) (t : Fin cfg0.N) : iblk m c 5 t = fsT := by
  funext j; idx_vars j; blk_simp [iblk, idx t]; rw [fs_entry]; exact congrArg _ (by blk_ext [idx t])

theorem ic_block (c : Dev nD) (t : Fin cfg0.N) : iblk m c 6 t = icT := by
  funext j; idx_vars j; blk_simp [iblk, idx t]; rw [ic_entry]; exact congrArg _ (by blk_ext [idx t])

theorem is_block (c : Dev nD) (t : Fin cfg0.N) : iblk m c 7 t = isT := by
  funext j; idx_vars j; blk_simp [iblk, idx t]; rw [is_entry]; exact congrArg _ (by blk_ext [idx t])

theorem kc_block (c : Dev nD) (t : Fin cfg0.N) : iblk m c 8 t = kcT := by
  funext j; idx_vars j; blk_simp [iblk, idx t]; rw [kc_entry]; exact congrArg _ (by blk_ext [idx t])

theorem kcl_block (c : Dev nD) (t : Fin cfg0.N) : iblk m c 9 t = noT := by
  funext j; idx_vars j; blk_simp [iblk, idx t]; rw [kcl_entry]; exact congrArg _ (by blk_ext [idx t])

theorem ks_block (c : Dev nD) (t : Fin cfg0.N) : iblk m c 10 t = ksT := by
  funext j; idx_vars j; blk_simp [iblk, idx t]; rw [ks_entry]; exact congrArg _ (by blk_ext [idx t])

theorem ksl_block (c : Dev nD) (t : Fin cfg0.N) : iblk m c 11 t = noT := by
  funext j; idx_vars j; blk_simp [iblk, idx t]; rw [ksl_entry]; exact congrArg _ (by blk_ext [idx t])

theorem k2_block (c : Dev nD) (t : Fin cfg0.N) : iblk m c 12 t = k2T := by
  funext j; idx_vars j; blk_simp [iblk, idx t]; rw [k2_entry]; exact congrArg _ (by blk_ext [idx t])

theorem k2l_block (c : Dev nD) (t : Fin cfg0.N) : iblk m c 13 t = noT := by
  funext j; idx_vars j; blk_simp [iblk, idx t]; rw [k2l_entry]; exact congrArg _ (by blk_ext [idx t])

end Cert.Kernel7Ideal.Conv
end
-- ==== Proof.ConvTiles.lean ====
module

public import proofs.«01_k».proof.Proof.ConvBlocks

@[expose] public section

set_option maxRecDepth 16384

noncomputable section

/-! The convolution call's scratches hold the filters' arguments, delayed; a tile of either result is the reference's filter. -/

namespace Cert.Kernel7Ideal.Conv

open Cert.Kernel7Ideal Cert.Kernel7Ideal.Gen Idealize.ShloMosaic Idealize.ShloMosaic.TcCoe Idealize.SL.Sem Cert.Reals Cert.Dft Cert.Conv
open Cert.Reference7Ideal.Conv (z gate pair long short)

/-- A column, delayed by `s` rows: nothing before its first row. -/
def delayed (s : ℕ) (f : Fin 4096 → ℝ) (p : ℕ) : ℝ := if h : s ≤ p ∧ p - s < 4096 then f ⟨p - s, h.2⟩ else 0

theorem delayed_back (s : ℕ) (f : Fin 4096 → ℝ) (T : Fin 4096) (k p : ℕ) (h : p + k = T.val + s) (hk : k ≤ s) : delayed s f p = back f T k := by
  unfold delayed back
  by_cases hT : k ≤ T.val
  · rw [dif_pos ⟨by omega, by omega⟩, if_pos hT]
    exact congrArg f (Fin.ext (by show p - s = T.val - k; omega))
  · rw [dif_neg (by omega), if_neg hT]

theorem delayed_at (s : ℕ) (f : Fin 4096 → ℝ) (T : Fin 4096) (p : ℕ) (h : p = T.val + s) : delayed s f p = f T := by
  rw [delayed, dif_pos ⟨by omega, by omega⟩]
  exact congrArg f (Fin.ext (by show p - s = T.val; omega))

theorem delayed_none (s : ℕ) (f : Fin 4096 → ℝ) (p : ℕ) (h : p < s) : delayed s f p = 0 := dif_neg (by omega)

/-- One of the five parts of a block. -/
def plane (v : FVec Ideal S5x1024x256 .bf16) (k : Fin 5) : FVec Ideal S1x1024x256 .bf16 := fun i => v (ix3 k (i 1) (i 2))

/-- One of the five parts of the rows before it. -/
def hplane (v : FVec Ideal S5x128x256 .bf16) (k : Fin 5) : FVec Ideal S1x128x256 .bf16 := fun i => v (ix3 k (i 1) (i 2))

theorem ld_plane (v : FVec Ideal S5x1024x256 .bf16) (o : ℕ) (k : Fin 5) (h : k.val = o) (inb) :
    View.ld (Val := Elt Ideal) (e' := EltTy.bf16) v (Rect.unit (s := S5x1024x256) ![o, 0, 0] ![1, 1024, 256] inb) = plane v k := by
  funext i
  refine View.ld_unit_apply_of (Val := Elt Ideal) (e := EltTy.bf16) v _ _ inb i _ fun a => ?_
  have : (i 0).val < 1 := (i 0).isLt
  fin_cases a
  · show k.val = o + (i 0).val; omega
  · exact (Nat.zero_add _).symm
  · exact (Nat.zero_add _).symm

theorem ld_hplane (v : FVec Ideal S5x128x256 .bf16) (o : ℕ) (k : Fin 5) (h : k.val = o) (inb) :
    View.ld (Val := Elt Ideal) (e' := EltTy.bf16) v (Rect.unit (s := S5x128x256) ![o, 0, 0] ![1, 128, 256] inb) = hplane v k := by
  funext i
  refine View.ld_unit_apply_of (Val := Elt Ideal) (e := EltTy.bf16) v _ _ inb i _ fun a => ?_
  have : (i 0).val < 1 := (i 0).isLt
  fin_cases a
  · show k.val = o + (i 0).val; omega
  · exact (Nat.zero_add _).symm
  · exact (Nat.zero_add _).symm

/-- The long filter's taps: the first 32 rows of the taps' block. -/
def lo32 (v : FVec Ideal S40x256 .f32) : FVec Ideal S32x256 .f32 := fun i => v (ix2 ⟨(i 0).val, by have : (i 0).val < 32 := (i 0).isLt; omega⟩ (i 1))

theorem ld_lo32 (v : FVec Ideal S40x256 .f32) (inb) :
    View.ld (Val := Elt Ideal) (e' := EltTy.f32) v (Rect.unit (s := S40x256) ![0, 0] ![32, 256] inb) = lo32 v := by
  funext i
  refine View.ld_unit_apply_of (Val := Elt Ideal) (e := EltTy.f32) v _ _ inb i _ fun a => ?_
  fin_cases a
  · exact (Nat.zero_add _).symm
  · exact (Nat.zero_add _).symm

/-- One row of the taps' block. -/
def tapRow (v : FVec Ideal S40x256 .f32) (k : Fin 40) : FVec Ideal S1x256 .f32 := fun i => v (ix2 k (i 1))

theorem ld_tapRow (v : FVec Ideal S40x256 .f32) (o : ℕ) (k : Fin 40) (h : k.val = o) (inb) :
    View.ld (Val := Elt Ideal) (e' := EltTy.f32) v (Rect.unit (s := S40x256) ![o, 0] ![1, 256] inb) = tapRow v k := by
  funext i
  refine View.ld_unit_apply_of (Val := Elt Ideal) (e := EltTy.f32) v _ _ inb i _ fun a => ?_
  have : (i 0).val < 1 := (i 0).isLt
  fin_cases a
  · show k.val = o + (i 0).val; omega
  · exact (Nat.zero_add _).symm

variable (m : (ℓ : Loc nD τ sig) → Buf (Elt Ideal) ℓ)

/-- The first scratch: the gated column, 128 rows late. -/
def ext (c : Dev nD) (t : Fin cfg0.N) : FVec Ideal S1152x256 .bf16 := fun j =>
  ((delayed 128 (gate (X0 m c) (colOf t (j 1))) (t.val % 4 * 1024 + (j 0).val) : ℝ) : EReal)

/-- The second scratch: the product's column, 8 rows late. -/
def pext (c : Dev nD) (t : Fin cfg0.N) : FVec Ideal S1032x256 .f32 := fun j =>
  ((delayed 8 (pair (X0 m c) (colOf t (j 1))) (t.val % 4 * 1024 + (j 0).val) : ℝ) : EReal)

section Values

variable (c : Dev nD) (h0 : Real (X0 m c)) (h1 : Real (X1 m c)) (h2 : Real (X2 m c)) (h3 : Real (X3 m c))

include h0 in
theorem plane_real (t : Fin cfg0.N) (k : Fin 5) : Real (plane (Bz m c t) k) := fun j => by
  idx_vars j
  exact (h0 _).imp fun _ e => (z_block m c t k j1 j2).trans e

include h0 in
theorem hplane_real (t : Fin cfg0.N) (k : Fin 5) : Real (hplane (Bh m c t) k) := fun j => by
  idx_vars j
  exact (h0 _).imp fun _ e => (h_block m c t k j1 j2).trans e

include h2 in
theorem b_real (t : Fin cfg0.N) : Real (Bb m c t) := fun j => by
  idx_vars j
  obtain rfl : j0 = 0 := Subsingleton.elim _ _
  exact (h2 _).imp fun _ e => (b_block m c t j1).trans e

include h1 h3 in
theorem w_real (t : Fin cfg0.N) : Real (Bw m c t) := fun j => by
  idx_vars j
  have e := (w_block m c t j0 j1).trans (taps_entry m c j0 _)
  split at e
  · exact (h1 _).imp fun _ h => e.trans h
  split at e
  · exact (h3 _).imp fun _ h => e.trans h
  · exact ⟨0, e⟩

theorem re_plane (t : Fin cfg0.N) (k : Fin 5) (r : Fin 1024) (d : Fin 256) :
    re (plane (Bz m c t) k) (ix3 0 r d) = z (X0 m c) k (colOf t d) (rowOf t r) := congrArg EReal.toReal (z_block m c t k r d)

theorem re_hplane (t : Fin cfg0.N) (ht : t.val % 4 ≠ 0) (k : Fin 5) (r : Fin 128) (d : Fin 256) (T : Fin 4096) (hT : T.val + 128 = t.val % 4 * 1024 + r.val) :
    re (hplane (Bh m c t) k) (ix3 0 r d) = z (X0 m c) k (colOf t d) T :=
  (congrArg EReal.toReal (h_block m c t k r d)).trans (congrArg (fun T => z (X0 m c) k (colOf t d) T) (Fin.ext (by
    show (t.val % 4 * 8 - 1) * 128 + r.val = T.val; omega)))

theorem re_long_tap (t : Fin cfg0.N) (i : Fin 40) (j : Fin 31) (h : i.val = j.val) (d : Fin 256) :
    re (Bw m c t) (ix2 i d) = re (X1 m c) (ix3 0 j (colOf t d)) := by
  refine congrArg EReal.toReal ((w_block m c t i d).trans ((taps_entry m c i _).trans ?_))
  rw [dif_pos (show i.val < 31 by omega)]
  exact congrArg (X1 m c) (congrArg (fun k => ix3 0 k (colOf t d)) (Fin.ext h))

theorem re_short_tap (t : Fin cfg0.N) (i : Fin 40) (j : Fin 3) (h : i.val = 32 + j.val) (d : Fin 256) :
    re (Bw m c t) (ix2 i d) = re (X3 m c) (ix3 0 j (colOf t d)) := by
  refine congrArg EReal.toReal ((w_block m c t i d).trans ((taps_entry m c i _).trans ?_))
  rw [dif_neg (by omega), dif_pos (by omega)]
  exact congrArg (X3 m c) (congrArg (fun k => ix3 0 k (colOf t d)) (Fin.ext (by show i.val - 32 = j.val; omega)))

theorem at_coords (t : Fin cfg0.N) : ((grid0.coords t) 1).val = t.val % 4 := (idx t).2.2.2.2.2.2.2.2.2.2.2.2.2.2.2.2.2

/-- A buffer of two stacked blocks is covered by them. -/
theorem stacked (n k : ℕ) (e : EltTy) (inb inb') (A B) (y0 : Fin (k + n)) (y1 : Fin 256) :
    ∃ p ∈ ([⟨Rect.unit (s := ⟨2, ![k + n, 256]⟩) ![k, 0] ![n, 256] inb, A⟩, ⟨Rect.unit (s := ⟨2, ![k + n, 256]⟩) ![0, 0] ![k, 256] inb', B⟩]
      : List ((r : Rect ⟨2, ![k + n, 256]⟩) × (r.shape.Idx → Elt Ideal e))), (ix2 y0 y1 : Shape.Idx ⟨2, ![k + n, 256]⟩) ∈ p.1.set := by
  by_cases h : y0.val < k
  · refine ⟨_, List.mem_cons_of_mem _ (List.mem_cons_self ..), (Rect.mem_set_unit (inb := inb')).2 fun a => ?_⟩
    fin_cases a
    · exact ⟨Nat.zero_le _, by simpa using h⟩
    · exact ⟨Nat.zero_le _, by simpa using y1.isLt⟩
  · refine ⟨_, List.mem_cons_self .., (Rect.mem_set_unit (inb := inb)).2 fun a => ?_⟩
    fin_cases a
    · exact ⟨by simpa using h, by simpa using y0.isLt⟩
    · exact ⟨Nat.zero_le _, by simpa using y1.isLt⟩

include h0 in
/-- The first scratch is filled with the gated column. -/
theorem ext_eq (t : Fin cfg0.N) (inb inb') : View.canon (Val := Elt Ideal) (e := EltTy.bf16)
    [⟨Rect.unit (s := S1152x256) ![128, 0] ![1024, 256] inb, k0_pay11 (F := Ideal) (k0_pay9 (plane (Bz m c t) 0)) (k0_pay10 (plane (Bz m c t) 1))⟩,
     ⟨Rect.unit (s := S1152x256) ![0, 0] ![128, 256] inb', k0_pay8 (F := Ideal) (grid0.coords t) (hplane (Bh m c t) 0) (hplane (Bh m c t) 1)⟩] = ext m c t := by
  funext y
  idx_vars y
  canon_tiles x e using stacked 1024 128 _ _ _ _ _ y0 y1
  · idx_vars x
    obtain rfl : y1 = x1 := Fin.ext e1
    refine (gate_block _ _ (plane_real m c h0 t 0) (plane_real m c h0 t 1) x0 y1).trans (congrArg _ ?_)
    rw [re_plane, re_plane]
    exact (delayed_at 128 (gate (X0 m c) (colOf t y1)) (rowOf t x0) _ (by show t.val % 4 * 1024 + y0.val = t.val % 4 * 1024 + x0.val + 128; omega)).symm
  · idx_vars x
    obtain rfl : y1 = x1 := Fin.ext e1
    refine (gate_halo _ _ _ (hplane_real m c h0 t 0) (hplane_real m c h0 t 1) x0 y1).trans (congrArg _ ?_)
    rw [at_coords t]
    by_cases ht : t.val % 4 = 0
    · rw [if_pos ht]
      exact (delayed_none 128 _ _ (by show t.val % 4 * 1024 + y0.val < 128; omega)).symm
    · have hT : t.val % 4 * 1024 + x0.val - 128 < 4096 := by omega
      rw [if_neg ht, re_hplane m c t ht 0 x0 y1 ⟨_, hT⟩ (by show t.val % 4 * 1024 + x0.val - 128 + 128 = _; omega),
        re_hplane m c t ht 1 x0 y1 ⟨_, hT⟩ (by show t.val % 4 * 1024 + x0.val - 128 + 128 = _; omega)]
      exact (delayed_at 128 (gate (X0 m c) (colOf t y1)) ⟨_, hT⟩ _ (by show t.val % 4 * 1024 + y0.val = t.val % 4 * 1024 + x0.val - 128 + 128; omega)).symm

include h0 in
/-- The second scratch is filled with the product's column. -/
theorem pext_eq (t : Fin cfg0.N) (inb inb') : View.canon (Val := Elt Ideal) (e := EltTy.f32)
    [⟨Rect.unit (s := S1032x256) ![8, 0] ![1024, 256] inb, k0_pay13 (F := Ideal) (plane (Bz m c t) 3) (plane (Bz m c t) 4)⟩,
     ⟨Rect.unit (s := S1032x256) ![0, 0] ![8, 256] inb', k0_pay12 (F := Ideal) (Scalar.cmpi .eq (BitVec.ofNat 32 ((grid0.coords t) 1).val) 0#32)
       (hplane (Bh m c t) 3) (hplane (Bh m c t) 4)⟩] = pext m c t := by
  funext y
  idx_vars y
  canon_tiles x e using stacked 1024 8 _ _ _ _ _ y0 y1
  · idx_vars x
    obtain rfl : y1 = x1 := Fin.ext e1
    refine (pair_block _ _ (plane_real m c h0 t 3) (plane_real m c h0 t 4) x0 y1).trans (congrArg _ ?_)
    rw [re_plane, re_plane]
    exact (delayed_at 8 (pair (X0 m c) (colOf t y1)) (rowOf t x0) _ (by show t.val % 4 * 1024 + y0.val = t.val % 4 * 1024 + x0.val + 8; omega)).symm
  · idx_vars x
    obtain rfl : y1 = x1 := Fin.ext e1
    refine (pair_halo _ _ _ (hplane_real m c h0 t 3) (hplane_real m c h0 t 4) x0 y1).trans (congrArg _ ?_)
    rw [at_coords t]
    by_cases ht : t.val % 4 = 0
    · rw [if_pos ht]
      exact (delayed_none 8 _ _ (by show t.val % 4 * 1024 + y0.val < 8; omega)).symm
    · have hT : t.val % 4 * 1024 + x0.val - 8 < 4096 := by omega
      rw [if_neg ht, re_hplane m c t ht 3 ⟨120 + x0.val, by omega⟩ y1 ⟨_, hT⟩ (by show t.val % 4 * 1024 + x0.val - 8 + 128 = t.val % 4 * 1024 + (120 + x0.val); omega),
        re_hplane m c t ht 4 ⟨120 + x0.val, by omega⟩ y1 ⟨_, hT⟩ (by show t.val % 4 * 1024 + x0.val - 8 + 128 = t.val % 4 * 1024 + (120 + x0.val); omega)]
      exact (delayed_at 8 (pair (X0 m c) (colOf t y1)) ⟨_, hT⟩ _ (by show t.val % 4 * 1024 + y0.val = t.val % 4 * 1024 + x0.val - 8 + 8; omega)).symm

/-- 256 rows of the first scratch. -/
def win (o : ℕ) (h : o + 256 ≤ 1152) (v : FVec Ideal S1152x256 .bf16) : FVec Ideal S256x256 .bf16 :=
  fun i => v (ix2 ⟨o + (i 0).val, by have : (i 0).val < 256 := (i 0).isLt; omega⟩ (i 1))

/-- 72 rows of the second scratch. -/
def pwin (o : ℕ) (h : o + 72 ≤ 1032) (v : FVec Ideal S1032x256 .f32) : FVec Ideal S72x256 .f32 :=
  fun i => v (ix2 ⟨o + (i 0).val, by have : (i 0).val < 72 := (i 0).isLt; omega⟩ (i 1))

/-- 64 rows of the third part. -/
def zwin (o : ℕ) (h : o + 64 ≤ 1024) (v : FVec Ideal S5x1024x256 .bf16) : FVec Ideal S1x64x256 .bf16 :=
  fun i => v (ix3 2 ⟨o + (i 1).val, by have : (i 1).val < 64 := (i 1).isLt; omega⟩ (i 2))

include h0 h1 h2 h3 in
/-- A tile of the long filter. -/
theorem long_tile (t : Fin cfg0.N) (o : ℕ) (h : o + 256 ≤ 1152) (n : Fin 128) (d : Fin 256) (r : Fin 1024) (hr : r.val = o + n.val) :
    k0_pay14 (F := Ideal) (Bb m c t) (win o h (ext m c t)) fcT fsT (spec tapCos (lo32 (Bw m c t))) (spec tapSin (lo32 (Bw m c t)))
      (spec tapTop (lo32 (Bw m c t))) (spec tapSin (lo32 (Bw m c t))) icT isT (ix2 n d)
      = ((long (X0 m c) (X1 m c) (X2 m c) (rowOf t r) (colOf t d) : ℝ) : EReal) := by
  refine (tile_apply _ _ _ (fun i => ⟨_, rfl⟩) (b_real m c h2 t) n d).trans (congrArg _ ?_)
  rw [filtered_eq]
  refine congrArg₂ (· + ·) (Finset.sum_congr rfl fun i _ => congrArg₂ (· * ·) ?_ ?_) (congrArg EReal.toReal (b_block m c t d))
  · exact re_long_tap m c t _ i rfl d
  · refine (EReal.toReal_coe _).trans (delayed_back 128 _ (rowOf t r) (30 - i.val) _ ?_ (by omega))
    show t.val % 4 * 1024 + (o + (128 + n.val - (30 - i.val))) + (30 - i.val) = t.val % 4 * 1024 + r.val + 128
    omega

theorem pwin_real (t : Fin cfg0.N) (o : ℕ) (h : o + 72 ≤ 1032) : Real (pwin o h (pext m c t)) := fun i => ⟨_, rfl⟩

theorem re_pwin (t : Fin cfg0.N) (o : ℕ) (h : o + 72 ≤ 1032) (d : Fin 256) (r : Fin 1024) (p : Fin 72) (k : ℕ) (hk : k ≤ 8) (hp : o + p.val + k = r.val + 8) :
    re (pwin o h (pext m c t)) (ix2 p d) = back (pair (X0 m c) (colOf t d)) (rowOf t r) k :=
  (EReal.toReal_coe _).trans (delayed_back 8 _ (rowOf t r) k _
    (by show t.val % 4 * 1024 + (o + p.val) + k = t.val % 4 * 1024 + r.val + 8; omega) hk)

theorem re_zwin (t : Fin cfg0.N) (o : ℕ) (h : o + 64 ≤ 1024) (n : Fin 64) (d : Fin 256) (r : Fin 1024) (hr : r.val = o + n.val) :
    re (zwin o h (Bz m c t)) (ix3 0 n d) = z (X0 m c) 2 (colOf t d) (rowOf t r) :=
  (congrArg EReal.toReal (z_block m c t 2 _ d)).trans (congrArg (fun k => z (X0 m c) 2 (colOf t d) (rowOf t k)) (Fin.ext hr.symm))

include h0 in
theorem zwin_real (t : Fin cfg0.N) (o : ℕ) (h : o + 64 ≤ 1024) : Real (zwin o h (Bz m c t)) := fun j => by
  idx_vars j
  exact (h0 _).imp fun _ e => (z_block m c t 2 _ j2).trans e

include h1 h3 in
theorem tapRow_real (t : Fin cfg0.N) (k : Fin 40) : Real (tapRow (Bw m c t) k) := fun j => w_real m c h1 h3 t _

theorem re_tapRow (t : Fin cfg0.N) (i : Fin 40) (j : Fin 3) (h : i.val = 32 + j.val) (d : Fin 256) :
    re (tapRow (Bw m c t) i) (ix2 0 d) = re (X3 m c) (ix3 0 j (colOf t d)) := re_short_tap m c t i j h d

attribute [local irreducible] k0_pay2 pext pwin zwin tapRow in
include h0 h1 h3 in
/-- A chunk of the short filter. -/
theorem short_chunk (t : Fin cfg0.N) (o : ℕ) (h : o + 72 ≤ 1032) (h' : o + 64 ≤ 1024) (n : Fin 64) (d : Fin 256) (r : Fin 1024) (hr : r.val = o + n.val) :
    k0_pay2 (F := Ideal) (pwin o h (pext m c t)) (tapRow (Bw m c t) 32) (tapRow (Bw m c t) 33) (tapRow (Bw m c t) 34) (zwin o h' (Bz m c t)) (ix2 n d)
      = ((short (X0 m c) (X3 m c) (rowOf t r) (colOf t d) : ℝ) : EReal) := by
  refine (chunk_apply _ _ _ _ _ (pwin_real m c t o h) (tapRow_real m c h1 h3 t 32) (tapRow_real m c h1 h3 t 33) (tapRow_real m c h1 h3 t 34)
    (zwin_real m c h0 t o h') n d).trans (congrArg _ ?_)
  rw [short, Fin.sum_univ_three, re_zwin m c t o h' n d r hr, re_tapRow m c t 32 0 rfl d, re_tapRow m c t 33 1 rfl d, re_tapRow m c t 34 2 rfl d,
    re_pwin m c t o h d r _ 2 (by omega) (by show o + (n.val + 6) + 2 = r.val + 8; omega), re_pwin m c t o h d r _ 1 (by omega) (by show o + (n.val + 7) + 1 = r.val + 8; omega),
    re_pwin m c t o h d r _ 0 (by omega) (by show o + (8 + n.val) + 0 = r.val + 8; omega)]
  rfl

end Values

end Cert.Kernel7Ideal.Conv
end
-- ==== Proof.ConvKernel.lean ====
module

public import proofs.«01_k».proof.Proof.ConvTiles

@[expose] public section

set_option maxRecDepth 16384

noncomputable section

/-! What the points of the convolution call leave, and the run's two results. -/

namespace Cert.Kernel7Ideal.Conv

open Cert.Kernel7Ideal Cert.Kernel7Ideal.Gen Idealize.ShloMosaic Idealize.ShloMosaic.TcCoe Idealize.SL.Sem Cert.Reals Cert.Dft Cert.Conv
open Idealize.ShloMosaic.Pipeline (Dat)
open Cert.Reference7Ideal.Conv (z gate pair long short)

/-! The eight tiles are written in pieces of their own; each is the same computation. -/

section Same

variable (b : FVec Ideal S1x256 .f32) (x : FVec Ideal S256x256 .bf16) (fc fs : FVec Ideal S128x256 .bf16) (hc hs h2 : FVec Ideal S128x256 .f32) (ic is : FVec Ideal S128x128 .bf16)

theorem same1 : k0_pay16 (F := Ideal) b x (k0_pay15 fc) (constant S128x256 FTy.f32 0#32) fs hc hs h2 hs ic is = k0_pay14 b x fc fs hc hs h2 hs ic is := rfl
theorem same2 : k0_pay19 (F := Ideal) b x (k0_pay17 x fc) (k0_pay18 fs) hc hs h2 hs ic is = k0_pay14 b x fc fs hc hs h2 hs ic is := rfl
theorem same3 : k0_pay22 (F := Ideal) b (k0_pay20 x fc) (k0_pay21 x fs) hc hs h2 hs ic is = k0_pay14 b x fc fs hc hs h2 hs ic is := rfl
theorem same4 : k0_pay27 (F := Ideal) b (k0_pay23 x fc) (k0_pay24 x fs) (k0_pay25 x fc hc) (k0_pay26 x fs hs) h2 hs ic is = k0_pay14 b x fc fs hc hs h2 hs ic is := rfl
theorem same5 : k0_pay31 (F := Ideal) b (k0_pay28 x fc) (k0_pay29 x fs) (k0_pay30 x fc fs hc hs) h2 hs ic is = k0_pay14 b x fc fs hc hs h2 hs ic is := rfl
theorem same6 : k0_pay37 (F := Ideal) b (k0_pay34 x fc fs hc hs) (k0_pay35 x fs h2) (k0_pay36 x fc hs) ic is = k0_pay14 b x fc fs hc hs h2 hs ic is := rfl
theorem same7 : k0_pay1 (F := Ideal) b (k0_pay40 x fc fs hc hs) (k0_pay41 x fc fs h2 hs) ic is = k0_pay14 b x fc fs hc hs h2 hs ic is := rfl

end Same

/-- A window of the first scratch, read back. -/
theorem cov_win {κ : Kind} {sp : Space} (v : View sig κ sp S1152x256 .bf16) (L : List ((r : Rect S1152x256) × (r.shape.Idx → Elt Ideal EltTy.bf16)))
    (w : FVec Ideal S1152x256 .bf16) (h : View.canon (Val := Elt Ideal) (e := EltTy.bf16) L = w) (o : ℕ) (inb) :
    v.readCov (Val := Elt Ideal) L (Rect.unit (s := S1152x256) ![o, 0] ![256, 256] inb).toLoadRect = win o (inb 0) w := by
  rw [View.readCov_eq_canon', h]
  funext i
  refine congrArg w (funext fun a => Fin.ext ?_)
  fin_cases a
  · show o + 1 * (i 0).val = o + (i 0).val; omega
  · show 0 + 1 * (i 1).val = (i 1).val; omega

variable (m : (ℓ : Loc nD τ sig) → Buf (Elt Ideal) ℓ)

section Values

variable (c : Dev nD) (h0 : Real (X0 m c)) (h1 : Real (X1 m c)) (h2 : Real (X2 m c)) (h3 : Real (X3 m c))

include h1 h3 in
theorem lo_real (t : Fin cfg0.N) : Real (lo32 (Bw m c t)) := fun j => w_real m c h1 h3 t _

/-- Within a column of blocks the taps' block stays. -/
theorem taps_stay (t t' : Fin cfg0.N) (h : t.val / 4 = t'.val / 4) : Bw m c t = Bw m c t' := by
  funext j
  idx_vars j
  refine (w_block m c t j0 j1).trans (Eq.trans ?_ (w_block m c t' j0 j1).symm)
  exact congrArg (fun k => V m c main_v10 (ix2 j0 k)) (Fin.ext (by show t.val / 4 * 256 + _ = t'.val / 4 * 256 + _; rw [h]))

include h1 h3 in
theorem carriedA (t : Fin cfg0.N) (h : t.val % 4 = 0) :
    (outsAt0 m c t.val t.isLt).2.2.1 = spec tapCos (lo32 (Bw m c t)) ∧ (outsAt0 m c t.val t.isLt).2.2.2.1 = spec tapSin (lo32 (Bw m c t))
      ∧ (outsAt0 m c t.val t.isLt).2.2.2.2 = spec tapTop (lo32 (Bw m c t)) := by
  rw [outsAt0_A m c t h]
  dsimp only
  refine ⟨?_, ?_, ?_⟩
  · frame_out
    rw [kc_block, kcl_block, ld_lo32]
    exact spec_eq tapCos _ (lo_real m c h1 h3 t)
  · frame_out
    rw [ks_block, ksl_block, ld_lo32, pay5_eq]
    exact spec_eq tapSin _ (lo_real m c h1 h3 t)
  · frame_out
    rw [k2_block, k2l_block, ld_lo32, pay7_eq]
    exact spec_eq tapTop _ (lo_real m c h1 h3 t)

theorem carriedB (t : Fin cfg0.N) (h : ¬ t.val % 4 = 0) :
    (outsAt0 m c t.val t.isLt).2.2.1 = (outsAt0 m c (t.val - 1) (by omega)).2.2.1 ∧ (outsAt0 m c t.val t.isLt).2.2.2.1 = (outsAt0 m c (t.val - 1) (by omega)).2.2.2.1
      ∧ (outsAt0 m c t.val t.isLt).2.2.2.2 = (outsAt0 m c (t.val - 1) (by omega)).2.2.2.2 := by
  rw [outsAt0_B m c t h]
  dsimp only
  exact ⟨rfl, rfl, rfl⟩

include h1 h3 in
/-- The carried scratches hold the spectra of the column's taps. -/
theorem carried (n : ℕ) (hn : n < cfg0.N) :
    (outsAt0 m c n hn).2.2.1 = spec tapCos (lo32 (Bw m c ⟨n, hn⟩)) ∧ (outsAt0 m c n hn).2.2.2.1 = spec tapSin (lo32 (Bw m c ⟨n, hn⟩))
      ∧ (outsAt0 m c n hn).2.2.2.2 = spec tapTop (lo32 (Bw m c ⟨n, hn⟩)) := by
  induction n with
  | zero => exact carriedA m c h1 h3 ⟨0, hn⟩ rfl
  | succ n ih =>
    by_cases h : (n + 1) % 4 = 0
    · exact carriedA m c h1 h3 ⟨n + 1, hn⟩ h
    · obtain ⟨e1, e2, e3⟩ := carriedB m c ⟨n + 1, hn⟩ h
      obtain ⟨i1, i2, i3⟩ := ih (by omega)
      have e := taps_stay m c ⟨n + 1, hn⟩ ⟨n, by omega⟩ (by show (n + 1) / 4 = n / 4; omega)
      rw [e]
      exact ⟨e1.trans i1, e2.trans i2, e3.trans i3⟩

include h0 h1 h2 h3 in
/-- `long_tile` for a tile's own operands. -/
theorem long_at (t : Fin cfg0.N) {x : FVec Ideal S256x256 .bf16} {hc hs h2' : FVec Ideal S128x256 .f32} {o : ℕ} (h : o + 256 ≤ 1152)
    (hx : x = win o h (ext m c t)) (ec : hc = spec tapCos (lo32 (Bw m c t))) (es : hs = spec tapSin (lo32 (Bw m c t)))
    (e2 : h2' = spec tapTop (lo32 (Bw m c t))) (n : Fin 128) (d d' : Fin 256) (r : Fin 1024) (hr : r.val = o + n.val) (hd : d'.val = d.val) :
    k0_pay14 (F := Ideal) (Bb m c t) x fcT fsT hc hs h2' hs icT isT (ix2 n d)
      = ((long (X0 m c) (X1 m c) (X2 m c) (rowOf t r) (colOf t d') : ℝ) : EReal) := by
  subst hx ec es e2
  obtain rfl : d' = d := Fin.ext hd
  exact long_tile m c h0 h1 h2 h3 t o h n d' r hr

attribute [local irreducible] k0_pay14 k0_pay15 k0_pay16 k0_pay17 k0_pay18 k0_pay19 k0_pay20 k0_pay21 k0_pay22 k0_pay23 k0_pay24 k0_pay25 k0_pay26 k0_pay27 k0_pay28 k0_pay29 k0_pay30
  k0_pay31 k0_pay34 k0_pay35 k0_pay36 k0_pay37 k0_pay40 k0_pay41 k0_pay1 k0_pay2 k0_pay4 k0_pay5 k0_pay7 ext win spec

include h0 h1 h2 h3 in
set_option maxHeartbeats 4000000 in
theorem point_a1A (t : Fin cfg0.N) (h : t.val % 4 = 0) (r : Fin 1024) (d : Fin 256) :
    (outsAt0 m c t.val t.isLt).1 (ix2 r d) = ((long (X0 m c) (X1 m c) (X2 m c) (rowOf t r) (colOf t d) : ℝ) : EReal) := by
  have eC : k0_pay4 (F := Ideal) (lo32 (Bw m c t)) kcT noT = spec tapCos (lo32 (Bw m c t)) := spec_eq tapCos _ (lo_real m c h1 h3 t)
  have eS : k0_pay4 (F := Ideal) (lo32 (Bw m c t)) ksT noT = spec tapSin (lo32 (Bw m c t)) := spec_eq tapSin _ (lo_real m c h1 h3 t)
  have e2 : k0_pay4 (F := Ideal) (lo32 (Bw m c t)) k2T noT = spec tapTop (lo32 (Bw m c t)) := spec_eq tapTop _ (lo_real m c h1 h3 t)
  rw [outsAt0_A m c t h]
  dsimp only
  frame_out
  canon_tiles y e
  all_goals
    idx_vars y
    simp only [fc_block, fs_block, ic_block, is_block, kc_block, kcl_block, ks_block, ksl_block, k2_block, k2l_block, ld_lo32, pay5_eq, pay7_eq,
      ld_plane _ 0 0 rfl, ld_plane _ 1 1 rfl, ld_hplane _ 0 0 rfl, ld_hplane _ 1 1 rfl, same1, same2, same3, same4, same5, same6, same7]
    first
    | exact long_at m c h0 h1 h2 h3 t _ (cov_win _ _ _ (ext_eq m c h0 t _ _) _ _) eC eS e2 y0 y1 d r e0 e1
    | exact long_at m c h0 h1 h2 h3 t _ (cov_win _ _ _ (ext_eq m c h0 t _ _) _ _) eC eS e2 y0 y1 d r (e0.trans (Nat.zero_add _).symm) e1

include h0 h1 h2 h3 in
set_option maxHeartbeats 4000000 in
theorem point_a1B (t : Fin cfg0.N) (h : ¬ t.val % 4 = 0) (r : Fin 1024) (d : Fin 256) :
    (outsAt0 m c t.val t.isLt).1 (ix2 r d) = ((long (X0 m c) (X1 m c) (X2 m c) (rowOf t r) (colOf t d) : ℝ) : EReal) := by
  obtain ⟨i1, i2, i3⟩ := carried m c h1 h3 t.val t.isLt
  obtain ⟨b1, b2, b3⟩ := carriedB m c t h
  have eC := b1.symm.trans i1
  have eS := b2.symm.trans i2
  have e2 := b3.symm.trans i3
  rw [outsAt0_B m c t h]
  dsimp only
  frame_out
  canon_tiles y e
  all_goals
    idx_vars y
    simp only [fc_block, fs_block, ic_block, is_block,
      ld_plane _ 0 0 rfl, ld_plane _ 1 1 rfl, ld_hplane _ 0 0 rfl, ld_hplane _ 1 1 rfl, same1, same2, same3, same4, same5, same6, same7]
    first
    | exact long_at m c h0 h1 h2 h3 t _ (cov_win _ _ _ (ext_eq m c h0 t _ _) _ _) ((Memref.IsWhole.read_unread _ _).trans eC) ((Memref.IsWhole.read_unread _ _).trans eS) ((Memref.IsWhole.read_unread _ _).trans e2) y0 y1 d r e0 e1
    | exact long_at m c h0 h1 h2 h3 t _ (cov_win _ _ _ (ext_eq m c h0 t _ _) _ _) ((Memref.IsWhole.read_unread _ _).trans eC) ((Memref.IsWhole.read_unread _ _).trans eS) ((Memref.IsWhole.read_unread _ _).trans e2) y0 y1 d r (e0.trans (Nat.zero_add _).symm) e1

include h0 h1 h2 h3 in
/-- What a point leaves of the long filter. -/
theorem point_a1 (t : Fin cfg0.N) (r : Fin 1024) (d : Fin 256) :
    (outsAt0 m c t.val t.isLt).1 (ix2 r d) = ((long (X0 m c) (X1 m c) (X2 m c) (rowOf t r) (colOf t d) : ℝ) : EReal) :=
  if h : t.val % 4 = 0 then point_a1A m c h0 h1 h2 h3 t h r d else point_a1B m c h0 h1 h2 h3 t h r d

/-- The second scratch as the loop finds it. -/
abbrev scr (c : Dev nD) (t : Fin cfg0.N) := (View.whole cc0_scratch1).writes (Elt Ideal) (View.whole cc0_scratch1).junk
  [⟨Rect.unit (s := S1032x256) ![8, 0] ![1024, 256] inb_S1032x256_S1024x256_8_0, k0_pay13 (F := Ideal) (plane (Bz m c t) 3) (plane (Bz m c t) 4)⟩,
   ⟨Rect.unit (s := S1032x256) ![0, 0] ![8, 256] inb_S1032x256_S8x256_0_0, k0_pay12 (F := Ideal) (Scalar.cmpi .eq (BitVec.ofNat 32 ((grid0.coords t) 1).val) 0#32)
       (hplane (Bh m c t) 3) (hplane (Bh m c t) 4)⟩]

/-- The blocks the first `k` turns of the loop leave. -/
abbrev turns (t : Fin cfg0.N) (k : ℕ) :=
  pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _)
    ((hs0_0 t).unread (X0_0 m c t)) ((hs0_2 t).unread (iblk m c 2 t)) (scr m c t) k

theorem offs : ∀ k : Fin k0_t1_loop.trips, k0_off1 k = ![64 * k.val, 0] ∧ k0_off2 k = ![2, 64 * k.val, 0] ∧ k0_off3 k = ![64 * k.val, 0] := by decide

include h0 in
theorem read_pwin (t : Fin cfg0.N) (o : ℕ) (off : Fin 2 → ℕ) (ho : off = ![o, 0]) (h : o + 72 ≤ 1032) (inb) :
    View.readAt (Elt Ideal) (View.whole cc0_scratch1) (Rect.unit (s := S1032x256) off ![72, 256] inb).toLoadRect (scr m c t) = pwin o h (pext m c t) := by
  subst ho
  funext i
  refine (View.read_writes_junk_apply_eq_canon _ _ _).trans ?_
  rw [pext_eq m c h0 t]
  refine congrArg (pext m c t) (funext fun a => Fin.ext ?_)
  fin_cases a
  · show o + 1 * (i 0).val = o + (i 0).val; omega
  · show 0 + 1 * (i 1).val = (i 1).val; omega

theorem read_row (t : Fin cfg0.N) (o : ℕ) (k : Fin 40) (h : k.val = o) (inb) :
    View.readAt (Elt Ideal) (ms0_2 t).view (Rect.unit (s := S40x256) ![o, 0] ![1, 256] inb).toLoadRect ((hs0_2 t).unread (iblk m c 2 t)) = tapRow (Bw m c t) k := by
  funext i
  refine (congrFun (Memref.IsWhole.read_unread (hs0_2 t) (iblk m c 2 t)) _).trans (congrArg (Bw m c t) (funext fun a => Fin.ext ?_))
  have : (i 0).val < 1 := (i 0).isLt
  fin_cases a
  · show o + 1 * (i 0).val = k.val; omega
  · show 0 + 1 * (i 1).val = (i 1).val; omega

theorem read_zwin (t : Fin cfg0.N) (o : ℕ) (off : Fin 3 → ℕ) (ho : off = ![2, o, 0]) (h : o + 64 ≤ 1024) (inb) :
    View.readAt (Elt Ideal) (ms0_0 t).view (Rect.unit (s := S5x1024x256) off ![1, 64, 256] inb).toLoadRect ((hs0_0 t).unread (X0_0 m c t)) = zwin o h (Bz m c t) := by
  subst ho
  funext i
  refine (congrFun (Memref.IsWhole.read_unread (hs0_0 t) (X0_0 m c t)) _).trans (congrArg (Bz m c t) (funext fun a => Fin.ext ?_))
  have : (i 0).val < 1 := (i 0).isLt
  fin_cases a
  · show 2 + 1 * (i 0).val = 2; omega
  · show o + 1 * (i 1).val = o + (i 1).val; omega
  · show 0 + 1 * (i 2).val = (i 2).val; omega

/-- The block of the short filter a point leaves. -/
def shortBlock (t : Fin cfg0.N) : FVec Ideal S1024x256 .bf16 := fun j => ((short (X0 m c) (X3 m c) (rowOf t (j 0)) (colOf t (j 1)) : ℝ) : EReal)

include h0 h1 h3 in
set_option maxHeartbeats 4000000 in
/-- Every turn leaves its rows of the short filter, and the first `k` turns leave the first `64 k` rows. -/
theorem turns_short (t : Fin cfg0.N) (k : ℕ) (hk : k ≤ 16) :
    (∀ p ∈ turns m c t k, ∀ x, p.2 x = shortBlock m c t (p.1.emb x)) ∧ ∀ y : S1024x256.Idx, (y 0).val < 64 * k → ∃ p ∈ turns m c t k, y ∈ p.1.set := by
  induction k with
  | zero => exact ⟨fun p hp => absurd hp List.not_mem_nil, fun y hy => absurd hy (by omega)⟩
  | succ k ih =>
    obtain ⟨i1, i2⟩ := ih (by omega)
    have hk' : k < k0_t1_loop.trips := hk
    have e := pb_k0_t1_succ (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _)
      ((hs0_0 t).unread (X0_0 m c t)) ((hs0_2 t).unread (iblk m c 2 t)) (scr m c t) ⟨k, hk'⟩
    unfold tripL_k0_t1 trip_k0_t1 at e
    dsimp only at e
    obtain ⟨o1, o2, o3⟩ := offs ⟨k, hk'⟩
    rw [read_pwin m c h0 t (64 * k) _ o1 (by omega), read_row m c t 32 32 rfl, read_row m c t 33 33 rfl, read_row m c t 34 34 rfl,
      read_zwin m c t (64 * k) _ o2 (by omega)] at e
    show (∀ p ∈ turns m c t (k + 1), _) ∧ ∀ y : S1024x256.Idx, _ → ∃ p ∈ turns m c t (k + 1), _
    rw [show turns m c t (k + 1) = _ from e]
    refine ⟨fun p hp x => ?_, fun y hy => ?_⟩
    · rcases List.mem_append.1 hp with hp | hp
      · obtain rfl := List.mem_singleton.1 hp
        idx_vars x
        refine (short_chunk m c h0 h1 h3 t (64 * k) (by omega) (by omega) x0 x1 ⟨64 * k + x0.val, by omega⟩ rfl).trans (congrArg (shortBlock m c t) (a₁ := ix2 (⟨64 * k + x0.val, by omega⟩ : Fin 1024) x1) (funext fun a => Fin.ext ?_))
        fin_cases a
        · exact Eq.trans (by show 64 * k + x0.val = 64 * k + 1 * x0.val; omega) (congrArg (· + 1 * x0.val) (congrFun o3 0).symm)
        · exact Eq.trans (by show x1.val = 0 + 1 * x1.val; omega) (congrArg (· + 1 * x1.val) (congrFun o3 1).symm)
      · exact i1 p hp x
    · by_cases hy' : (y 0).val < 64 * k
      · exact (i2 y hy').imp fun p h => ⟨List.mem_append_right _ h.1, h.2⟩
      · refine ⟨_, List.mem_append_left _ (List.mem_cons_self ..), ?_⟩
        have inb : ∀ a, k0_off3 ⟨k, hk'⟩ a + (![64, 256] : Fin 2 → ℕ) a ≤ S1024x256.size a := by
          rw [o3]
          intro a
          fin_cases a
          · show 64 * k + 64 ≤ 1024; omega
          · show 0 + 256 ≤ 256; omega
        refine (Rect.mem_set_unit (inb := inb)).2 ?_
        rw [o3]
        intro a
        fin_cases a
        · exact ⟨Nat.le_of_not_lt hy', by show (y 0).val < 64 * k + 64; omega⟩
        · exact ⟨Nat.zero_le _, by show (y 1).val < 0 + 256; have : (y 1).val < 256 := (y 1).isLt; omega⟩

include h0 h1 h3 in
theorem turns_all (t : Fin cfg0.N) : View.canon (Val := Elt Ideal) (e := EltTy.bf16) (turns m c t (Scf.trips 0#32 (Scalar.addi 0#32 16#32) 1#32)) = shortBlock m c t := by
  funext y
  obtain ⟨i1, i2⟩ := turns_short m c h0 h1 h3 t 16 le_rfl
  exact View.canon_apply_of_pieces (Val := Elt Ideal) (e := EltTy.bf16) _ _ i1 y (i2 y (y 0).isLt)

include h0 h1 h3 in
/-- What a point leaves of the short filter. -/
theorem point_q (t : Fin cfg0.N) : (outsAt0 m c t.val t.isLt).2.1 = shortBlock m c t := by
  by_cases h : t.val % 4 = 0
  · rw [outsAt0_A m c t h]
    dsimp only
    frame_out
    simp only [ld_plane _ 3 3 rfl, ld_plane _ 4 4 rfl, ld_hplane _ 3 3 rfl, ld_hplane _ 4 4 rfl]
    exact turns_all m c h0 h1 h3 t
  · rw [outsAt0_B m c t h]
    dsimp only
    frame_out
    simp only [ld_plane _ 3 3 rfl, ld_plane _ 4 4 rfl, ld_hplane _ 3 3 rfl, ld_hplane _ 4 4 rfl]
    exact turns_all m c h0 h1 h3 t

include h0 h1 h2 in
theorem value_a1 (h3 : Real (X3 m c)) : (dats m 0 c).arrAt 14 cfg0.N = Reference7Ideal.Read.val_main_v238 (F := Ideal) (X0 m c) (X1 m c) (X2 m c) := by
  refine (dats m 0 c).arrAt_eq_of_covers 14 _ (by decide +kernel) fun t hf y => ?_
  blk_simp
  rw [after0_14]
  idx_vars y
  have e : ((View.whole main_v83_0).slice (win0_14.rect t)).emb (ix2 y0 y1) = ix2 (rowOf t y0) (colOf t y1) := by blk_ext [idx t, rowOf, colOf]
  rw [e]
  exact (point_a1 m c h0 h1 h2 h3 t y0 y1).trans (Reference7Ideal.Conv.long_apply (X0 m c) (X1 m c) (X2 m c) h0 h1 h2 _ _).symm

include h0 h1 h3 in
theorem value_q : (dats m 0 c).arrAt 15 cfg0.N = Reference7Ideal.Read.val_main_v266 (F := Ideal) (X0 m c) (X3 m c) := by
  refine (dats m 0 c).arrAt_eq_of_covers 15 _ (by decide +kernel) fun t hf y => ?_
  blk_simp
  rw [after0_15]
  idx_vars y
  have e : ((View.whole main_v83_1).slice (win0_15.rect t)).emb (ix2 y0 y1) = ix2 (rowOf t y0) (colOf t y1) := by blk_ext [idx t, rowOf, colOf]
  rw [e, point_q m c h0 h1 h3 t]
  exact (Reference7Ideal.Conv.short_apply (X0 m c) (X3 m c) h0 h3 _ _).symm

end Values

end Cert.Kernel7Ideal.Conv
end
-- ==== Proof.ConvClaim.lean ====
module

public import proofs.«01_k».proof.Defs
public import proofs.«01_k».proof.Proof.ConvKernel
public import proofs.«01_k».proof.Proof.Gen.Kernel7
public import Idealize.ShloMosaic.Lib.Claim

@[expose] public section

set_option maxRecDepth 16384

noncomputable section

namespace Cert.Conv

open Idealize.ShloMosaic Idealize.ShloMosaic.TcCoe Idealize.SL.Sem Cert.Reals

/-- The side conditions of the precondition's operations. -/
instance finite_facts : Cert.Pre_finite7.Facts where
  bcast_S_S1x4096x5120 := by decide
  reducesTo_S1x4096x5120_S_d0_1_2 := by decide
  h_S_ := by decide
  bcast_S_S1x31x1024 := by decide
  reducesTo_S1x31x1024_S_d0_1_2 := by decide
  bcast_S_S1x1024 := by decide
  reducesTo_S1x1024_S_d0_1 := by decide
  bcast_S_S1x3x1024 := by decide
  reducesTo_S1x3x1024_S_d0_1_2 := by decide

open Cert.Pre_finite7 in
/-- The precondition read back: the arguments that it tests are real everywhere. -/
theorem real_of_finite (x0 : FVec Ideal S1x4096x5120 .f32) (x1 : FVec Ideal S1x31x1024 .f32) (x2 : FVec Ideal S1x1024 .f32) (x3 : FVec Ideal S1x3x1024 .f32) (h : Cert.Pre_finite7.fn (F := Ideal) x0 x1 x2 x3 = fun _ => 1#1) :
    Real x0 ∧ Real x1 ∧ Real x2 ∧ Real x3 := by
  have e := congrFun h ix0
  obtain ⟨e, e3⟩ := IntOp.andi_eq_one.1 e
  obtain ⟨e, e2⟩ := IntOp.andi_eq_one.1 e
  obtain ⟨e0, e1⟩ := IntOp.andi_eq_one.1 e
  exact ⟨real_of_all _ _ _ _ _ _ e0, real_of_all _ _ _ _ _ _ e1, real_of_all _ _ _ _ _ _ e2, real_of_all _ _ _ _ _ _ e3⟩

/-- The kernel's results are the reference's. -/
theorem algebraic : Cert.algebraic_Kernel7Ideal_Reference7Ideal_pre_finite7 := by
  pair_intro
  · run_from Cert.Kernel7Ideal.Value.run_blocks m g
  · refine (θ_run _ _ _).mono (fun r h c => ?_) (Cert.Reference7Ideal.Value.run m' g')
    obtain ⟨d0, d1, d2, d3⟩ := hagree c
    have e0 : StableHlo.launchContents m' c (Proc.devRef .tc Cert.Reference7Ideal.main_arg0) = _ := d0
    have e1 : StableHlo.launchContents m' c (Proc.devRef .tc Cert.Reference7Ideal.main_arg1) = _ := d1
    have e2 : StableHlo.launchContents m' c (Proc.devRef .tc Cert.Reference7Ideal.main_arg2) = _ := d2
    have e3 : StableHlo.launchContents m' c (Proc.devRef .tc Cert.Reference7Ideal.main_arg3) = _ := d3
    obtain ⟨r0, r1, r2, r3⟩ := real_of_finite _ _ _ _ (hpre c)
    obtain ⟨h0, h1, rest⟩ := h c
    refine ⟨h0.trans ?_, h1.trans ?_, rest⟩
    · refine (Cert.Reference7Ideal.Read.val_main_v238_eq (F := Ideal) (StableHlo.launchContents m' c)).trans ?_
      rw [e0, e1, e2]
      exact (Cert.Kernel7Ideal.Conv.value_a1 m c r0 r1 r2 r3).symm
    · refine (Cert.Reference7Ideal.Read.val_main_v266_eq (F := Ideal) (StableHlo.launchContents m' c)).trans ?_
      rw [e0, e3]
      exact (Cert.Kernel7Ideal.Conv.value_q m c r0 r1 r3).symm

/-- The bit-level program's frame: the two texts are one, and the run is for any floats. -/
theorem frame_kernel : Cert.quiescent_Kernel7 := fun m ρ _ =>
  Eq.mp (by sl_kernel_rfl) (Cert.Kernel7Ideal.Gen.frame (F := Bits) m ρ)

/-- The reference's frame: no operation writes an argument, and it has no semaphore. -/
theorem frame_reference : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

end Cert.Conv

end
-- ==== Proof.MixFwdKernel.lean ====
module

public import proofs.«01_k».proof.Proof.Gen.Kernel8Ideal.Value
public import proofs.«01_k».proof.Proof.Gen.Reference8Ideal.Read
public import Idealize.ShloMosaic.Lib.Pipeline.ValueKit
public import Idealize.ShloMosaic.Lib.Claim

@[expose] public section

set_option maxRecDepth 16384

noncomputable section

namespace Cert.Kernel8Ideal.MixFwd

open Cert.Kernel8Ideal Cert.Kernel8Ideal.Gen Cert.Kernel8Ideal.Value Cert.Reference8Ideal.Read Idealize.ShloMosaic Idealize.ShloMosaic.TcCoe Idealize.SL.Sem
open Idealize.ShloMosaic.Pipeline (Dat)

/-! A grid point's payloads against the reference's rows: row `r` of the point's blocks is row `t` of the arguments. -/

section Rows

variable {x0 x1 x2 x3 x4 : FVec Ideal S1x4096x1024 .f32} {x5 x6 x7 : FVec Ideal S1x1024x1024 .f32} {x8 x9 : FVec Ideal S1x1024 .f32}
  {a1 q : FVec Ideal S512x1024 .bf16} {ga gb : FVec Ideal S1x512x1024 .bf16} {h : FVec Ideal S512x1024 .f32} {lng lnb : FVec Ideal S1x1024 .f32}
  {wa wb wo : FVec Ideal S1024x1024 .bf16} {ya : FVec Ideal S512x1024 .f32} {yq mg : FVec Ideal S512x1024 .bf16} {r : Fin 512} {t : Fin 4096}

/-- The first branch's row: layer norm, silu and its product. -/
theorem ya_pay (ha : ∀ k, (show EReal from a1 (ix2 r k)) = x0 (ix3 0 t k)) (hg : ∀ k, (show EReal from lng (ix2 0 k)) = x8 (ix2 0 k))
    (hb : ∀ k, (show EReal from lnb (ix2 0 k)) = x9 (ix2 0 k)) (hw : ∀ k j, (show EReal from wa (ix2 k j)) = x5 (ix3 0 k j)) (j : Fin 1024) :
    (show EReal from k0_pay2 (F := Ideal) a1 lng lnb wa (ix2 r j)) = val_main_v29 (F := Ideal) x0 x5 x8 x9 (ix2 t j) := by
  pointwise [k0_pay2, val_main_v0, val_main_v1, val_main_v2, val_main_cst, val_main_v3, val_main_v4, val_main_cst_0, val_main_v5, val_main_v6, val_main_v7, val_main_v8, val_main_v9, val_main_cst_1, val_main_v10, val_main_v11, val_main_cst_2, val_main_v12, val_main_v13, val_main_v14, val_main_v15, val_main_cst_3, val_main_v16, val_main_v17, val_main_v18, val_main_v19, val_main_v20, val_main_v21, val_main_v22, val_main_v23, val_main_v24, val_main_v25, val_main_v26, val_main_call0_v0, val_main_call0_v1, val_main_call0_cst, val_main_call0_v2, val_main_call0_v3, val_main_call0_cst_0, val_main_call0_v4, val_main_call0_v5, val_main_v27, val_main_v28, val_main_v29]
  simp only [ha, hg, hb, hw, zero_sub]

/-- The second branch's row. -/
theorem yb_pay (hq : ∀ k, (show EReal from q (ix2 r k)) = x1 (ix3 0 t k)) (hw : ∀ k j, (show EReal from wb (ix2 k j)) = x6 (ix3 0 k j)) (j : Fin 1024) :
    (show EReal from k0_pay4 (F := Ideal) (k0_pay3 (F := Ideal) q) wb (ix2 r j)) = val_main_v32 (F := Ideal) x1 x6 (ix2 t j) := by
  pointwise [k0_pay4, k0_pay3, val_main_v30, val_main_v31, val_main_v32]
  simp only [hq, hw]

/-- The first branch's row, stored. -/
theorem ya_store (j : S512x1024.Idx) : (show EReal from k0_pay5 (F := Ideal) ya j) = ya j := rfl

/-- The second branch's row, stored. -/
theorem yb_store (j : S512x1024.Idx) : (show EReal from k0_pay6 (F := Ideal) yq wb j) = k0_pay4 (F := Ideal) yq wb j := rfl

/-- The merged row. -/
theorem merged_pay (hy : ∀ k, (show EReal from ya (ix2 r k)) = val_main_v29 (F := Ideal) x0 x5 x8 x9 (ix2 t k))
    (hz : ∀ k, (show EReal from k0_pay4 (F := Ideal) yq wb (ix2 r k)) = val_main_v32 (F := Ideal) x1 x6 (ix2 t k))
    (ha : ∀ k, (show EReal from ga (ix3 0 r k)) = x2 (ix3 0 t k)) (hb : ∀ k, (show EReal from gb (ix3 0 r k)) = x3 (ix3 0 t k)) (j : Fin 1024) :
    (show EReal from k0_pay8 (F := Ideal) ya yq wb ga gb (ix2 r j)) = val_main_v49 (F := Ideal) x0 x1 x2 x3 x5 x6 x8 x9 (ix2 t j) := by
  pointwise [k0_pay8, val_main_v33, val_main_v34, val_main_v35, val_main_cst_4, val_main_v36, val_main_v37, val_main_cst_5, val_main_v38, val_main_v39, val_main_v40, val_main_v41, val_main_v42, val_main_v43, val_main_cst_6, val_main_v44, val_main_v45, val_main_cst_7, val_main_v46, val_main_v47, val_main_v48, val_main_v49]
  simp only [hy, hz, ha, hb, zero_sub]

/-- The residual's row over the merged row's product. -/
theorem h2_pay (hm : ∀ k, (show EReal from mg (ix2 r k)) = val_main_v49 (F := Ideal) x0 x1 x2 x3 x5 x6 x8 x9 (ix2 t k))
    (hh : ∀ k, (show EReal from h (ix2 r k)) = x4 (ix3 0 t k)) (hw : ∀ k j, (show EReal from wo (ix2 k j)) = x7 (ix3 0 k j)) (j : Fin 1024) :
    (show EReal from k0_pay1 (F := Ideal) (k0_pay7 (F := Ideal) h) mg (k0_pay9 (F := Ideal) wo) (constant S512x1024 .f32 0x00000000#32) (ix2 r j))
      = val_main_v53 (F := Ideal) x0 x1 x2 x3 x4 x5 x6 x7 x8 x9 (ix2 t j) := by
  pointwise [k0_pay1, k0_pay7, k0_pay9, val_main_v50, val_main_v51, val_main_v52, val_main_v53]
  simp only [hm, hh, hw]

end Rows

variable (m : (ℓ : Loc nD τ sig) → Buf (Elt Ideal) ℓ)

/-- Argument 0. -/
abbrev X0 (c : Dev nD) : FVec Ideal S1x4096x1024 .f32 := m ((c : Thread nD τ).loc main_arg0)

/-- Argument 1. -/
abbrev X1 (c : Dev nD) : FVec Ideal S1x4096x1024 .f32 := m ((c : Thread nD τ).loc main_arg1)

/-- Argument 2. -/
abbrev X2 (c : Dev nD) : FVec Ideal S1x4096x1024 .f32 := m ((c : Thread nD τ).loc main_arg2)

/-- Argument 3. -/
abbrev X3 (c : Dev nD) : FVec Ideal S1x4096x1024 .f32 := m ((c : Thread nD τ).loc main_arg3)

/-- Argument 4. -/
abbrev X4 (c : Dev nD) : FVec Ideal S1x4096x1024 .f32 := m ((c : Thread nD τ).loc main_arg4)

/-- Argument 5. -/
abbrev X5 (c : Dev nD) : FVec Ideal S1x1024x1024 .f32 := m ((c : Thread nD τ).loc main_arg5)

/-- Argument 6. -/
abbrev X6 (c : Dev nD) : FVec Ideal S1x1024x1024 .f32 := m ((c : Thread nD τ).loc main_arg6)

/-- Argument 7. -/
abbrev X7 (c : Dev nD) : FVec Ideal S1x1024x1024 .f32 := m ((c : Thread nD τ).loc main_arg7)

/-- Argument 8. -/
abbrev X8 (c : Dev nD) : FVec Ideal S1x1024 .f32 := m ((c : Thread nD τ).loc main_arg8)

/-- Argument 9. -/
abbrev X9 (c : Dev nD) : FVec Ideal S1x1024 .f32 := m ((c : Thread nD τ).loc main_arg9)

theorem idx : ∀ t : Fin cfg0.N, (win0_0.index t = ![t.val, 0] ∧ win0_1.index t = ![t.val, 0] ∧ win0_2.index t = ![5, t.val, 0]
    ∧ win0_3.index t = ![6, t.val, 0] ∧ win0_4.index t = ![t.val, 0] ∧ win0_5.index t = ![0, 0] ∧ win0_6.index t = ![0, 0])
    ∧ (win0_7.index t = ![0, 0] ∧ win0_8.index t = ![1, 0] ∧ win0_9.index t = ![2, 0])
    ∧ (win0_10.index t = ![t.val, 0] ∧ win0_11.index t = ![t.val, 0] ∧ win0_12.index t = ![t.val, 0]) ∧ t.val < 8 :=
  (by decide +kernel : ∀ t : Fin grid0.N, _)

/-- The row of the whole array that row `r` of point `t`'s block is. -/
def rowOf (t : Fin cfg0.N) (r : Fin 512) : Fin 4096 := ⟨t.val * 512 + r.val, by have := (idx t).2.2.2; omega⟩

/-! What each window's block holds. -/

theorem a1_block (c : Dev nD) (t : Fin cfg0.N) (r : Fin 512) (k : Fin 1024) :
    (show EReal from iblk m c 0 t (ix2 r k)) = X0 m c (ix3 0 (rowOf t r) k) := by
  blk_simp [iblk, idx t]; entry_read; pointwise; blk_ext [idx t, rowOf]

theorem q_block (c : Dev nD) (t : Fin cfg0.N) (r : Fin 512) (k : Fin 1024) :
    (show EReal from iblk m c 1 t (ix2 r k)) = X1 m c (ix3 0 (rowOf t r) k) := by
  blk_simp [iblk, idx t]; entry_read; pointwise; blk_ext [idx t, rowOf]

theorem h_block (c : Dev nD) (t : Fin cfg0.N) (r : Fin 512) (k : Fin 1024) :
    (show EReal from iblk m c 4 t (ix2 r k)) = X4 m c (ix3 0 (rowOf t r) k) := by
  blk_simp [iblk, idx t]; entry_read; pointwise; blk_ext [idx t, rowOf]

theorem lng_block (c : Dev nD) (t : Fin cfg0.N) (k : Fin 1024) : (show EReal from iblk m c 5 t (ix2 0 k)) = X8 m c (ix2 0 k) := by
  blk_simp [iblk, idx t]; entry_read; pointwise; blk_ext [idx t, rowOf]

theorem lnb_block (c : Dev nD) (t : Fin cfg0.N) (k : Fin 1024) : (show EReal from iblk m c 6 t (ix2 0 k)) = X9 m c (ix2 0 k) := by
  blk_simp [iblk, idx t]; entry_read; pointwise; blk_ext [idx t, rowOf]

/-- The gates' rows, behind five planes that are not read. -/
theorem gates_entry (c : Dev nD) : V m c main_v2 = truncf .bf16 (concatenate S7x4096x1024 0 [⟨S5x4096x1024, (V m c main_v0 : FVec Ideal S5x4096x1024 .f32)⟩,
    ⟨S1x4096x1024, X2 m c⟩, ⟨S1x4096x1024, X3 m c⟩] concatenates_S5x4096x1024_S1x4096x1024_S1x4096x1024_S7x4096x1024_d0 : FVec Ideal S7x4096x1024 .f32) bitsLt_bf16_f32 := by
  unfold V
  after_results
  rfl

/-- The three square weights, stacked. -/
theorem weights_entry (c : Dev nD) : V m c main_v7 = truncf .bf16 (concatenate S3072x1024 0 [⟨S1024x1024, (shapeCast S1024x1024 (X5 m c) shapeCasts_S1x1024x1024_S1024x1024 : FVec Ideal S1024x1024 .f32)⟩,
    ⟨S1024x1024, (shapeCast S1024x1024 (X6 m c) shapeCasts_S1x1024x1024_S1024x1024 : FVec Ideal S1024x1024 .f32)⟩,
    ⟨S1024x1024, (shapeCast S1024x1024 (X7 m c) shapeCasts_S1x1024x1024_S1024x1024 : FVec Ideal S1024x1024 .f32)⟩]
    concatenates_S1024x1024_S1024x1024_S1024x1024_S3072x1024_d0 : FVec Ideal S3072x1024 .f32) bitsLt_bf16_f32 := by
  unfold V
  after_results
  rfl

theorem ga_block (c : Dev nD) (t : Fin cfg0.N) (r : Fin 512) (k : Fin 1024) :
    (show EReal from iblk m c 2 t (ix3 0 r k)) = X2 m c (ix3 0 (rowOf t r) k) := by
  refine Eq.trans (b := (show EReal from V m c main_v2 (ix3 5 (rowOf t r) k))) ?_ (by rw [gates_entry]; pointwise)
  blk_simp [iblk, idx t]
  blk_ext [idx t, rowOf]

theorem gb_block (c : Dev nD) (t : Fin cfg0.N) (r : Fin 512) (k : Fin 1024) :
    (show EReal from iblk m c 3 t (ix3 0 r k)) = X3 m c (ix3 0 (rowOf t r) k) := by
  refine Eq.trans (b := (show EReal from V m c main_v2 (ix3 6 (rowOf t r) k))) ?_ (by rw [gates_entry]; pointwise)
  blk_simp [iblk, idx t]
  blk_ext [idx t, rowOf]

theorem wa_block (c : Dev nD) (t : Fin cfg0.N) (k j : Fin 1024) : (show EReal from iblk m c 7 t (ix2 k j)) = X5 m c (ix3 0 k j) := by
  refine Eq.trans (b := (show EReal from V m c main_v7 (ix2 ⟨0 + k.val, by omega⟩ j))) ?_ (by rw [weights_entry]; pointwise)
  blk_simp [iblk, idx t]
  blk_ext [idx t, rowOf]

theorem wb_block (c : Dev nD) (t : Fin cfg0.N) (k j : Fin 1024) : (show EReal from iblk m c 8 t (ix2 k j)) = X6 m c (ix3 0 k j) := by
  refine Eq.trans (b := (show EReal from V m c main_v7 (ix2 ⟨1024 + k.val, by omega⟩ j))) ?_ (by rw [weights_entry]; pointwise)
  blk_simp [iblk, idx t]
  blk_ext [idx t, rowOf]

theorem wo_block (c : Dev nD) (t : Fin cfg0.N) (k j : Fin 1024) : (show EReal from iblk m c 9 t (ix2 k j)) = X7 m c (ix3 0 k j) := by
  refine Eq.trans (b := (show EReal from V m c main_v7 (ix2 ⟨2048 + k.val, by omega⟩ j))) ?_ (by
    rw [weights_entry]
    pointwise
    rw [dif_neg (by omega), dif_neg (by omega)]
    exact congrArg (fun i => X7 m c (ix3 0 i j)) (Fin.ext (by show 2048 + k.val - 1024 - 1024 = k.val; omega)))
  blk_simp [iblk, idx t]
  blk_ext [idx t, rowOf]

attribute [local irreducible] k0_pay1 k0_pay2 k0_pay3 k0_pay4 k0_pay5 k0_pay6 k0_pay7 k0_pay8 k0_pay9 val_main_v29 val_main_v32 val_main_v49 val_main_v53

/-- What a point stores into its block of the first result. -/
theorem point10 (c : Dev nD) (t : Fin cfg0.N) (j : S512x1024.Idx) : out0_10 (iblk m c 0 t) (iblk m c 1 t) (iblk m c 2 t) (iblk m c 3 t) (iblk m c 4 t) (iblk m c 5 t) (iblk m c 6 t) (iblk m c 7 t) (iblk m c 8 t) (iblk m c 9 t) j
    = k0_pay1 (F := Ideal) (k0_pay7 (F := Ideal) (iblk m c 4 t)) (k0_pay8 (F := Ideal) (k0_pay2 (F := Ideal) (iblk m c 0 t) (iblk m c 5 t) (iblk m c 6 t) (iblk m c 7 t))
      (k0_pay3 (F := Ideal) (iblk m c 1 t)) (iblk m c 8 t) (iblk m c 2 t) (iblk m c 3 t)) (k0_pay9 (F := Ideal) (iblk m c 9 t)) (constant S512x1024 .f32 0x00000000#32) j := by
  unfold_out out0_10
  frame_out

/-- What a point stores into its block of the second result. -/
theorem point11 (c : Dev nD) (t : Fin cfg0.N) (j : S512x1024.Idx) : out0_11 (iblk m c 0 t) (iblk m c 1 t) (iblk m c 2 t) (iblk m c 3 t) (iblk m c 4 t) (iblk m c 5 t) (iblk m c 6 t) (iblk m c 7 t) (iblk m c 8 t) (iblk m c 9 t) j
    = k0_pay5 (F := Ideal) (k0_pay2 (F := Ideal) (iblk m c 0 t) (iblk m c 5 t) (iblk m c 6 t) (iblk m c 7 t)) j := by
  unfold_out out0_11
  frame_out

/-- What a point stores into its block of the third result. -/
theorem point12 (c : Dev nD) (t : Fin cfg0.N) (j : S512x1024.Idx) : out0_12 (iblk m c 0 t) (iblk m c 1 t) (iblk m c 2 t) (iblk m c 3 t) (iblk m c 4 t) (iblk m c 5 t) (iblk m c 6 t) (iblk m c 7 t) (iblk m c 8 t) (iblk m c 9 t) j
    = k0_pay6 (F := Ideal) (k0_pay3 (F := Ideal) (iblk m c 1 t)) (iblk m c 8 t) j := by
  unfold_out out0_12
  frame_out

/-- What a point leaves of the first branch's rows. -/
theorem ya_point (c : Dev nD) (t : Fin cfg0.N) (r : Fin 512) (j : Fin 1024) :
    (show EReal from k0_pay2 (F := Ideal) (iblk m c 0 t) (iblk m c 5 t) (iblk m c 6 t) (iblk m c 7 t) (ix2 r j))
      = val_main_v29 (F := Ideal) (X0 m c) (X5 m c) (X8 m c) (X9 m c) (ix2 (rowOf t r) j) :=
  ya_pay (a1_block m c t r) (lng_block m c t) (lnb_block m c t) (wa_block m c t) j

/-- What a point leaves of the second branch's rows. -/
theorem yb_point (c : Dev nD) (t : Fin cfg0.N) (r : Fin 512) (j : Fin 1024) :
    (show EReal from k0_pay4 (F := Ideal) (k0_pay3 (F := Ideal) (iblk m c 1 t)) (iblk m c 8 t) (ix2 r j))
      = val_main_v32 (F := Ideal) (X1 m c) (X6 m c) (ix2 (rowOf t r) j) :=
  yb_pay (q_block m c t r) (wb_block m c t) j

/-- The residual stream after the mixer. -/
theorem out10 (c : Dev nD) : (dats m 0 c).arrAt 10 cfg0.N
    = val_main_v53 (F := Ideal) (X0 m c) (X1 m c) (X2 m c) (X3 m c) (X4 m c) (X5 m c) (X6 m c) (X7 m c) (X8 m c) (X9 m c) := by
  refine (dats m 0 c).arrAt_eq_of_covers 10 _ (by decide +kernel) fun t hf y => ?_
  blk_simp
  rw [after0_10]
  idx_vars y
  have e : ((View.whole main_v13_0).slice (win0_10.rect t)).emb (ix2 y0 y1) = ix2 (rowOf t y0) y1 := by blk_ext [idx t, rowOf]
  rw [e]
  rw [point10]
  exact (h2_pay (merged_pay (ya_point m c t y0) (yb_point m c t y0) (ga_block m c t y0) (gb_block m c t y0)) (h_block m c t y0) (wo_block m c t) y1)

/-- The first branch's rows. -/
theorem out11 (c : Dev nD) : (dats m 0 c).arrAt 11 cfg0.N = val_main_v54 (F := Ideal) (X0 m c) (X5 m c) (X8 m c) (X9 m c) := by
  refine (dats m 0 c).arrAt_eq_of_covers 11 _ (by decide +kernel) fun t hf y => ?_
  blk_simp
  rw [after0_11]
  idx_vars y
  have e : ((View.whole main_v13_1).slice (win0_11.rect t)).emb (ix2 y0 y1) = ix2 (rowOf t y0) y1 := by blk_ext [idx t, rowOf]
  rw [e]
  rw [point11]
  exact (ya_store _).trans  (ya_point m c t y0 y1)

/-- The second branch's rows. -/
theorem out12 (c : Dev nD) : (dats m 0 c).arrAt 12 cfg0.N = val_main_v55 (F := Ideal) (X1 m c) (X6 m c) := by
  refine (dats m 0 c).arrAt_eq_of_covers 12 _ (by decide +kernel) fun t hf y => ?_
  blk_simp
  rw [after0_12]
  idx_vars y
  have e : ((View.whole main_v13_2).slice (win0_12.rect t)).emb (ix2 y0 y1) = ix2 (rowOf t y0) y1 := by blk_ext [idx t, rowOf]
  rw [e]
  rw [point12]
  exact (yb_store _).trans  (yb_point m c t y0 y1)

end Cert.Kernel8Ideal.MixFwd

end
-- ==== Proof.MixFwdClaim.lean ====
module

public import proofs.«01_k».proof.Defs
public import proofs.«01_k».proof.Proof.MixFwdKernel
public import proofs.«01_k».proof.Proof.Gen.Kernel8
public import Idealize.ShloMosaic.Lib.Claim

@[expose] public section

set_option maxRecDepth 16384

noncomputable section

namespace Cert.MixFwd

open Idealize.ShloMosaic Idealize.ShloMosaic.TcCoe Idealize.SL.Sem

/-- The kernel's results are the reference's, whatever the arguments. -/
theorem algebraic : Cert.algebraic_Kernel8Ideal_Reference8Ideal := by
  pair_intro
  · run_from Cert.Kernel8Ideal.Value.run_blocks m g
  · refine (θ_run _ _ _).mono (fun r h c => ?_) (Cert.Reference8Ideal.Value.run m' g')
    obtain ⟨e0, e1, e2, e3, e4, e5, e6, e7, e8, e9⟩ := hagree c
    obtain ⟨h0, h1, h2, rest⟩ := h c
    refine ⟨h0.trans ?_, h1.trans ?_, h2.trans ?_, rest⟩
    · refine (Cert.Reference8Ideal.Read.val_main_v53_eq m' c).trans ?_
      rw [e0, e1, e2, e3, e4, e5, e6, e7, e8, e9]
      exact (Cert.Kernel8Ideal.MixFwd.out10 m c).symm
    · refine (Cert.Reference8Ideal.Read.val_main_v54_eq m' c).trans ?_
      rw [e0, e5, e8, e9]
      exact (Cert.Kernel8Ideal.MixFwd.out11 m c).symm
    · refine (Cert.Reference8Ideal.Read.val_main_v55_eq _ _).trans ?_
      rw [e1, e6]
      exact (Cert.Kernel8Ideal.MixFwd.out12 m c).symm

/-- The bit-level program's frame: the two texts are one, and the run is for any floats. -/
theorem frame_kernel : Cert.quiescent_Kernel8 := fun m ρ _ =>
  Eq.mp (by sl_kernel_rfl) (Cert.Kernel8Ideal.Gen.frame (F := Bits) m ρ)

/-- The reference's frame: no operation writes an argument, and it has no semaphore. -/
theorem frame_reference : Cert.quiescent_Reference8Ideal := fun m ρ _ =>
  (θ_run Cert.Reference8Ideal.defs _ _).mono (fun r h => ⟨fun c => (h c).2.2.2, sem_eq_zero_of_no_sems (by decide) r.2⟩)
    (Cert.Reference8Ideal.Value.run (F := Ideal) m ρ)

end Cert.MixFwd

end
-- ==== Proof.GateUpKernel.lean ====
module

public import proofs.«01_k».proof.Proof.Gen.Kernel9Ideal.Value
public import proofs.«01_k».proof.Proof.Gen.Reference9Ideal.Read
public import Idealize.ShloMosaic.Lib.Pipeline.ValueKit
public import Idealize.ShloMosaic.Lib.Claim
public import Idealize.ShloMosaic.Lib.Pipeline.ReadBack
public import Idealize.ShloMosaic.Lib.WritesUnit

@[expose] public section

set_option maxRecDepth 16384

noncomputable section

namespace Cert.Kernel9Ideal.GateUp

open Cert.Kernel9Ideal Cert.Kernel9Ideal.Gen Cert.Reference9Ideal.Read Idealize.ShloMosaic Idealize.ShloMosaic.TcCoe Idealize.SL.Sem
open Idealize.ShloMosaic.Pipeline (Dat)

/-! ## What a grid point computes -/

/-- The 256 rows of a matrix from row `o` on. -/
def part (o : ℕ) (h : o + 256 ≤ 2816) (w : FVec Ideal S2816x1024 .bf16) : FVec Ideal S256x1024 .bf16 :=
  fun i => w (ix2 ⟨o + (i 0).val, by have : (i 0).val < 256 := (i 0).isLt; omega⟩ (i 1))

/-- Loading those rows. -/
theorem ld_part (w : FVec Ideal S2816x1024 .bf16) (o : ℕ) (inb) :
    View.ld (Val := Elt Ideal) (e' := EltTy.bf16) w (Rect.unit (s := S2816x1024) ![o, 0] ![256, 1024] inb) = part o (inb 0) w := by
  funext i
  refine View.ld_unit_apply_of (Val := Elt Ideal) (e := EltTy.bf16) w _ _ inb i _ fun a => ?_
  fin_cases a
  exacts [rfl, (Nat.zero_add _).symm]

/-- The eleven column tiles of both products are one computation. -/
theorem lin_same : k0_pay2 (F := Ideal) = k0_pay11 ∧ k0_pay3 (F := Ideal) = k0_pay11 ∧ k0_pay12 (F := Ideal) = k0_pay11 ∧ k0_pay14 (F := Ideal) = k0_pay11
    ∧ k0_pay15 (F := Ideal) = k0_pay11 ∧ k0_pay17 (F := Ideal) = k0_pay11 ∧ k0_pay18 (F := Ideal) = k0_pay11 ∧ k0_pay22 (F := Ideal) = k0_pay11
    ∧ k0_pay23 (F := Ideal) = k0_pay11 ∧ k0_pay25 (F := Ideal) = k0_pay11 ∧ k0_pay29 (F := Ideal) = k0_pay11 ∧ k0_pay30 (F := Ideal) = k0_pay11
    ∧ k0_pay33 (F := Ideal) = k0_pay11 ∧ k0_pay34 (F := Ideal) = k0_pay11 ∧ k0_pay36 (F := Ideal) = k0_pay11 ∧ k0_pay37 (F := Ideal) = k0_pay11
    ∧ k0_pay39 (F := Ideal) = k0_pay11 ∧ k0_pay40 (F := Ideal) = k0_pay11 :=
  ⟨rfl, rfl, rfl, rfl, rfl, rfl, rfl, rfl, rfl, rfl, rfl, rfl, rfl, rfl, rfl, rfl, rfl, rfl⟩

/-- So are the first tile's, whose rows are normalised on the way, and the one that is cast apart. -/
theorem lin_first : (∀ x g w, k0_pay6 (F := Ideal) x g w = k0_pay11 (k0_pay5 x g) w) ∧ (∀ x g w, k0_pay7 (F := Ideal) x g w = k0_pay11 (k0_pay5 x g) w)
    ∧ (∀ n w, k0_pay27 (F := Ideal) (k0_pay26 n w) = k0_pay11 n w) := ⟨fun _ _ _ => rfl, fun _ _ _ => rfl, fun _ _ => rfl⟩

/-- The eleven tiles of the hidden rows are one computation. -/
theorem act_same : (∀ x g w u, k0_pay10 (F := Ideal) (k0_pay11 (k0_pay5 x g) w) (k0_pay11 (k0_pay5 x g) u) (k0_pay8 x g w) k0_pay9 = k0_pay13 (k0_pay5 x g) w u)
    ∧ (∀ n w u, k0_pay16 (F := Ideal) n (k0_pay11 n w) u = k0_pay13 n w u)
    ∧ (∀ n w u, k0_pay21 (F := Ideal) (k0_pay11 n w) (k0_pay11 n u) (k0_pay19 n w) k0_pay20 = k0_pay13 n w u)
    ∧ k0_pay24 (F := Ideal) = k0_pay13
    ∧ (∀ n w u, k0_pay28 (F := Ideal) (k0_pay11 n w) (k0_pay26 n u) = k0_pay13 n w u)
    ∧ (∀ n w u, k0_pay32 (F := Ideal) (k0_pay31 n w u) = k0_pay13 n w u)
    ∧ k0_pay35 (F := Ideal) = k0_pay13
    ∧ (∀ n w u, k0_pay38 (F := Ideal) (k0_pay11 n w) (k0_pay11 n u) = k0_pay13 n w u)
    ∧ (∀ n w u, k0_pay1 (F := Ideal) (k0_pay41 n w u) = k0_pay13 n w u)
    ∧ k0_pay4 (F := Ideal) = k0_pay13 :=
  ⟨fun _ _ _ _ => rfl, fun _ _ _ => rfl, fun _ _ _ => rfl, rfl, fun _ _ _ => rfl, fun _ _ _ => rfl, rfl, fun _ _ _ => rfl, fun _ _ _ => rfl, rfl⟩

/-! ## A grid point's rows against the reference's: row `r` of the point's block is row `t` of the argument -/

section Rows

variable {x0 : FVec Ideal S1x4096x1024 .f32} {x1 : FVec Ideal S1x1024 .f32} {x2 x3 : FVec Ideal S1x1024x2816 .f32}
  {x : FVec Ideal S512x1024 .f32} {g : FVec Ideal S1x1024 .f32} {n : FVec Ideal S512x1024 .bf16} {w u : FVec Ideal S2816x1024 .bf16} {r : Fin 512} {t : Fin 4096}

/-- The normalised row. -/
theorem n_pay (hx : ∀ k, (show EReal from x (ix2 r k)) = x0 (ix3 0 t k)) (hg : ∀ k, (show EReal from g (ix2 0 k)) = x1 (ix2 0 k)) (j : Fin 1024) :
    (show EReal from k0_pay5 (F := Ideal) x g (ix2 r j)) = val_main_v14 (F := Ideal) x0 x1 (ix2 t j) := by
  pointwise [k0_pay5, val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14]
  simp only [hx, hg]

/-- A tile of the gate's product: column `a` of the tile from row `o` of the transposed weights is column `b`. -/
theorem gate_tile (hn : ∀ k, (show EReal from n (ix2 r k)) = val_main_v14 (F := Ideal) x0 x1 (ix2 t k)) (hw : ∀ k j, (show EReal from w (ix2 j k)) = x2 (ix3 0 k j))
    (o : ℕ) (h : o + 256 ≤ 2816) (y : S512x256.Idx) (b : Fin 2816) (h0 : r.val = (y 0).val) (h1 : b.val = o + (y 1).val) :
    (show EReal from k0_pay11 (F := Ideal) n (part o h w) y) = val_main_v16 (F := Ideal) x0 x1 x2 (ix2 t b) := by
  idx_vars y
  obtain rfl : r = y0 := Fin.ext h0
  pointwise [k0_pay11, val_main_v15, val_main_v16]
  unfold part
  simp only [hn]
  exact Finset.sum_congr rfl fun k _ => congrArg _ ((hw k _).trans (congrArg (fun i => x2 (ix3 0 k i)) (Fin.ext h1.symm)))

/-- The same tile of the up product. -/
theorem up_tile (hn : ∀ k, (show EReal from n (ix2 r k)) = val_main_v14 (F := Ideal) x0 x1 (ix2 t k)) (hw : ∀ k j, (show EReal from w (ix2 j k)) = x3 (ix3 0 k j))
    (o : ℕ) (h : o + 256 ≤ 2816) (y : S512x256.Idx) (b : Fin 2816) (h0 : r.val = (y 0).val) (h1 : b.val = o + (y 1).val) :
    (show EReal from k0_pay11 (F := Ideal) n (part o h w) y) = val_main_v18 (F := Ideal) x0 x1 x3 (ix2 t b) := gate_tile hn hw o h y b h0 h1

/-- What the activation makes of a gate's and an up product's entry. -/
theorem act_pay (p q : FVec Ideal S256x1024 .bf16) (y : S1x512x256.Idx) :
    (show EReal from k0_pay13 (F := Ideal) n p q y) = (show EReal from k0_pay11 (F := Ideal) n p (ix2 (y 1) (y 2)))
      * Idealize.ShloMosaic.Ideal.div 1 (1 + Idealize.ShloMosaic.Ideal.exp (0 - (show EReal from k0_pay11 (F := Ideal) n p (ix2 (y 1) (y 2))))) * (show EReal from k0_pay11 (F := Ideal) n q (ix2 (y 1) (y 2))) := by
  have e : k0_pay12 (F := Ideal) n q = k0_pay11 n q := rfl
  idx_vars y
  generalize hp : k0_pay11 (F := Ideal) n p = P
  generalize hq : k0_pay11 (F := Ideal) n q = Q
  pointwise [k0_pay13]
  rw [e, hp, hq]

/-- A tile of the hidden rows. -/
theorem act_tile (hn : ∀ k, (show EReal from n (ix2 r k)) = val_main_v14 (F := Ideal) x0 x1 (ix2 t k)) (hw : ∀ k j, (show EReal from w (ix2 j k)) = x2 (ix3 0 k j))
    (hu : ∀ k j, (show EReal from u (ix2 j k)) = x3 (ix3 0 k j)) (o : ℕ) (h : o + 256 ≤ 2816) (y : S1x512x256.Idx) (b : Fin 2816) (h0 : r.val = (y 1).val) (h1 : b.val = o + (y 2).val) :
    (show EReal from k0_pay13 (F := Ideal) n (part o h w) (part o h u) y) = val_main_v25 (F := Ideal) x0 x1 x2 x3 (ix3 0 t b) := by
  rw [act_pay, gate_tile hn hw o h (ix2 (y 1) (y 2)) b h0 h1, up_tile hn hu o h (ix2 (y 1) (y 2)) b h0 h1]
  pointwise [val_main_v20, val_main_v21, val_main_call0_v0, val_main_call0_v1, val_main_call0_cst, val_main_call0_v2, val_main_call0_v3, val_main_call0_cst_0, val_main_call0_v4, val_main_call0_v5, val_main_v22, val_main_v23, val_main_v24, val_main_v25]
  simp only [zero_sub]

end Rows

variable (m : (ℓ : Loc nD τ sig) → Buf (Elt Ideal) ℓ)

/-- The inputs. -/
abbrev X0 (c : Dev nD) : FVec Ideal S1x4096x1024 .f32 := m ((c : Thread nD τ).loc main_arg0)

/-- The norm's scale vector. -/
abbrev X1 (c : Dev nD) : FVec Ideal S1x1024 .f32 := m ((c : Thread nD τ).loc main_arg1)

/-- The gate's weights. -/
abbrev X2 (c : Dev nD) : FVec Ideal S1x1024x2816 .f32 := m ((c : Thread nD τ).loc main_arg2)

/-- The up product's weights. -/
abbrev X3 (c : Dev nD) : FVec Ideal S1x1024x2816 .f32 := m ((c : Thread nD τ).loc main_arg3)

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, t.val, 0] ∧ t.val < 8 :=
  (by decide +kernel : ∀ t : Fin grid0.N, _)

theorem lt8 (t : Fin cfg0.N) : t.val < 8 := (idx t).2.2.2.2.2.2

/-- The row of the whole array that row `r` of point `t`'s block is. -/
def rowOf (t : Fin cfg0.N) (r : Fin 512) : Fin 4096 := ⟨t.val * 512 + r.val, by have := lt8 t; omega⟩

theorem x_block (c : Dev nD) (t : Fin cfg0.N) (r : Fin 512) (k : Fin 1024) :
    (show EReal from iblk m c 0 t (ix2 r k)) = X0 m c (ix3 0 (rowOf t r) k) := by
  blk_simp [iblk, idx t]; entry_read; pointwise; blk_ext [idx t, rowOf]

theorem g_block (c : Dev nD) (t : Fin cfg0.N) (k : Fin 1024) :
    (show EReal from iblk m c 1 t (ix2 0 k)) = X1 m c (ix2 0 k) := by
  blk_simp [iblk, idx t]; entry_read; pointwise; blk_ext [idx t, rowOf]

/-! ## The weights' scratches -/

/-- The gate's weights, transposed. -/
def wg (c : Dev nD) : FVec Ideal S2816x1024 .bf16 := fun j => X2 m c (ix3 0 (j 1) (j 0))

/-- The up product's weights, transposed. -/
def wu (c : Dev nD) : FVec Ideal S2816x1024 .bf16 := fun j => X3 m c (ix3 0 (j 1) (j 0))

theorem wg_entry (c : Dev nD) : V m c main_v3 = wg m c := by
  funext j; idx_vars j; entry_read; pointwise; rfl

theorem wu_entry (c : Dev nD) : V m c main_v6 = wu m c := by
  funext j; idx_vars j; entry_read; pointwise; rfl

/-- The gate's weights, copied whole. -/
theorem wg_copied (w : FVec Ideal S2816x1024 .bf16) (inb) :
    ReadAs.same.apply (View.read (Elt Ideal) ((View.whole main_v3).slice (Rect.unit (s := S2816x1024) ![0, 0] ![2816, 1024] inb)) w) = w := by
  funext y
  refine congrArg w (funext fun a => Fin.ext ?_)
  fin_cases a <;> exact (ValueKit.view_emb_slice_whole_unit_val _ _ _ _ _ _).trans (Nat.zero_add _)

/-- The up product's weights, copied whole. -/
theorem wu_copied (w : FVec Ideal S2816x1024 .bf16) (inb) :
    ReadAs.same.apply (View.read (Elt Ideal) ((View.whole main_v6).slice (Rect.unit (s := S2816x1024) ![0, 0] ![2816, 1024] inb)) w) = w := by
  funext y
  refine congrArg w (funext fun a => Fin.ext ?_)
  fin_cases a <;> exact (ValueKit.view_emb_slice_whole_unit_val _ _ _ _ _ _).trans (Nat.zero_add _)

/-- One store of a whole scratch leaves what was stored. -/
theorem canon_all (w : FVec Ideal S2816x1024 .bf16) :
    View.canon (Val := Elt Ideal) (e := EltTy.bf16) [⟨Rect.whole S2816x1024, w⟩] = w := by
  funext y
  have e := View.canon_cons_emb (Val := Elt Ideal) (e := EltTy.bf16) (Rect.whole S2816x1024) w [] y
  rw [Rect.emb_whole_apply] at e
  exact e

/-- Rows of a scratch that a copy filled. -/
theorem cov_part {κ : Kind} {sp : Space} (v : View sig κ sp S2816x1024 .bf16) (w : FVec Ideal S2816x1024 .bf16) (B : Rect S2816x1024) :
    v.readCov (Val := Elt Ideal) [⟨Rect.whole S2816x1024, w⟩] B.toLoadRect = View.ld (Val := Elt Ideal) (e' := EltTy.bf16) w B := by
  rw [View.readCov_eq_canon', canon_all]

/-- After every point the scratches hold the weights. -/
theorem scratch (c : Dev nD) : ∀ (n : ℕ) (hn : n < cfg0.N), (outsAt0 m c n hn).2.2.2.2 = (wg m c, wu m c) := fun n => by
  induction n with
  | zero =>
    intro hn
    rw [outsAt0_A m c ⟨0, hn⟩ rfl, wg_entry, wu_entry]
    refine Prod.ext (funext fun j => ?_) (funext fun j => ?_)
    · frame_out; rw [wg_copied, canon_all]
    · frame_out; rw [wu_copied, canon_all]
  | succ n ih =>
    intro hn
    have h0 : ¬ (n + 1) % 8 = 0 := by
      have : n + 1 < 8 := lt8 ⟨n + 1, hn⟩
      omega
    rw [outsAt0_B m c ⟨n + 1, hn⟩ h0, ← ih (Nat.lt_of_succ_lt hn)]
    rfl

theorem scratches (c : Dev nD) (t : Fin cfg0.N) :
    (outsAt0 m c (t.val - 1) (Nat.lt_of_le_of_lt (Nat.sub_le _ _) t.isLt)).2.2.2.2.1 = wg m c
    ∧ (outsAt0 m c (t.val - 1) (Nat.lt_of_le_of_lt (Nat.sub_le _ _) t.isLt)).2.2.2.2.2 = wu m c := by
  have hs := scratch m c (t.val - 1) (Nat.lt_of_le_of_lt (Nat.sub_le _ _) t.isLt)
  exact ⟨congrArg (fun p => p.1) hs, congrArg (fun p => p.2) hs⟩

/-! ## What a grid point stores -/

attribute [local irreducible] k0_pay1 k0_pay2 k0_pay3 k0_pay4 k0_pay5 k0_pay6 k0_pay7 k0_pay8 k0_pay9 k0_pay10 k0_pay11 k0_pay12 k0_pay13 val_main_v14 val_main_v16 val_main_v18 val_main_v25

/-- The point's normalised rows. -/
theorem n_point (c : Dev nD) (t : Fin cfg0.N) (r : Fin 512) (k : Fin 1024) :
    (show EReal from k0_pay5 (F := Ideal) (iblk m c 0 t) (iblk m c 1 t) (ix2 r k)) = val_main_v14 (F := Ideal) (X0 m c) (X1 m c) (ix2 (rowOf t r) k) :=
  n_pay (x_block m c t r) (g_block m c t) k

/-- The normalised rows. -/
theorem point2 (c : Dev nD) (t : Fin cfg0.N) (j : S512x1024.Idx) :
    (outsAt0 m c t.val t.isLt).1 j = k0_pay5 (F := Ideal) (iblk m c 0 t) (iblk m c 1 t) j := by
  by_cases h0 : t.val % 8 = 0
  · rw [outsAt0_A m c t h0]
    frame_out
  · rw [outsAt0_B m c t h0]
    frame_out

/-- The gate's product. -/
theorem point3 (c : Dev nD) (t : Fin cfg0.N) (j0 : Fin 512) (j1 : Fin 2816) :
    (show EReal from (outsAt0 m c t.val t.isLt).2.1 (ix2 j0 j1)) = val_main_v16 (F := Ideal) (X0 m c) (X1 m c) (X2 m c) (ix2 (rowOf t j0) j1) := by
  have T := gate_tile (w := wg m c) (x2 := X2 m c) (n_point m c t j0) fun _ _ => rfl
  by_cases hc : t.val % 8 = 0
  · rw [outsAt0_A m c t hc, wg_entry, wu_entry]
    frame_out
    rw [wg_copied]
    simp only [cov_part, ld_part, lin_same, lin_first]
    canon_tiles y h
    all_goals first | exact T _ (by decide) y j1 h0 h1 | exact T _ (by decide) y j1 h0 (h1.trans (Nat.zero_add _).symm)
  · obtain ⟨eg, eu⟩ := scratches m c t
    rw [outsAt0_B m c t hc, eg, eu]
    frame_out
    simp only [read_unread_whole, ld_part, lin_same, lin_first]
    canon_tiles y h
    all_goals first | exact T _ (by decide) y j1 h0 h1 | exact T _ (by decide) y j1 h0 (h1.trans (Nat.zero_add _).symm)

/-- The up product. -/
theorem point4 (c : Dev nD) (t : Fin cfg0.N) (j0 : Fin 512) (j1 : Fin 2816) :
    (show EReal from (outsAt0 m c t.val t.isLt).2.2.1 (ix2 j0 j1)) = val_main_v18 (F := Ideal) (X0 m c) (X1 m c) (X3 m c) (ix2 (rowOf t j0) j1) := by
  have T := up_tile (w := wu m c) (x3 := X3 m c) (n_point m c t j0) fun _ _ => rfl
  by_cases hc : t.val % 8 = 0
  · rw [outsAt0_A m c t hc, wg_entry, wu_entry]
    frame_out
    rw [wu_copied]
    simp only [cov_part, ld_part, lin_same, lin_first]
    canon_tiles y h
    all_goals first | exact T _ (by decide) y j1 h0 h1 | exact T _ (by decide) y j1 h0 (h1.trans (Nat.zero_add _).symm)
  · obtain ⟨eg, eu⟩ := scratches m c t
    rw [outsAt0_B m c t hc, eg, eu]
    frame_out
    simp only [read_unread_whole, ld_part, lin_same, lin_first]
    canon_tiles y h
    all_goals first | exact T _ (by decide) y j1 h0 h1 | exact T _ (by decide) y j1 h0 (h1.trans (Nat.zero_add _).symm)

/-- The hidden rows. -/
theorem point5 (c : Dev nD) (t : Fin cfg0.N) (j0 : Fin 512) (j1 : Fin 2816) :
    (show EReal from (outsAt0 m c t.val t.isLt).2.2.2.1 (ix3 0 j0 j1)) = val_main_v25 (F := Ideal) (X0 m c) (X1 m c) (X2 m c) (X3 m c) (ix3 0 (rowOf t j0) j1) := by
  have T := act_tile (w := wg m c) (u := wu m c) (x2 := X2 m c) (x3 := X3 m c) (n_point m c t j0) (fun _ _ => rfl) fun _ _ => rfl
  by_cases hc : t.val % 8 = 0
  · rw [outsAt0_A m c t hc, wg_entry, wu_entry]
    frame_out
    rw [wg_copied, wu_copied]
    simp only [cov_part, ld_part, lin_same, lin_first, act_same]
    canon_tiles y h
    all_goals first | exact T _ (by decide) y j1 h1 h2 | exact T _ (by decide) y j1 h1 (h2.trans (Nat.zero_add _).symm)
  · obtain ⟨eg, eu⟩ := scratches m c t
    rw [outsAt0_B m c t hc, eg, eu]
    frame_out
    simp only [read_unread_whole, ld_part, lin_same, lin_first, act_same]
    canon_tiles y h
    all_goals first | exact T _ (by decide) y j1 h1 h2 | exact T _ (by decide) y j1 h1 (h2.trans (Nat.zero_add _).symm)

/-! ## The whole results -/

/-- The normalised rows, rounded, are the rows: a cast is the identity here. -/
theorem out2 (c : Dev nD) : (dats m 0 c).arrAt 2 cfg0.N = val_main_v19 (F := Ideal) (X0 m c) (X1 m c) := by
  refine (dats m 0 c).arrAt_eq_of_covers 2 _ (by decide +kernel) fun t hf y => ?_
  blk_simp
  rw [after0_2, point2]
  idx_vars y
  have e : ((View.whole main_v7_0).slice (win0_2.rect t)).emb (ix2 y0 y1) = ix2 (rowOf t y0) y1 := by blk_ext [idx t, rowOf]
  rw [e]
  exact n_point m c t y0 y1

/-- The gate's product. -/
theorem out3 (c : Dev nD) : (dats m 0 c).arrAt 3 cfg0.N = val_main_v20 (F := Ideal) (X0 m c) (X1 m c) (X2 m c) := by
  refine (dats m 0 c).arrAt_eq_of_covers 3 _ (by decide +kernel) fun t hf y => ?_
  blk_simp
  rw [after0_3]
  idx_vars y
  have e : ((View.whole main_v7_1).slice (win0_3.rect t)).emb (ix2 y0 y1) = ix2 (rowOf t y0) y1 := by blk_ext [idx t, rowOf]
  rw [e]
  exact point3 m c t y0 y1

/-- The up product. -/
theorem out4 (c : Dev nD) : (dats m 0 c).arrAt 4 cfg0.N = val_main_v21 (F := Ideal) (X0 m c) (X1 m c) (X3 m c) := by
  refine (dats m 0 c).arrAt_eq_of_covers 4 _ (by decide +kernel) fun t hf y => ?_
  blk_simp
  rw [after0_4]
  idx_vars y
  have e : ((View.whole main_v7_2).slice (win0_4.rect t)).emb (ix2 y0 y1) = ix2 (rowOf t y0) y1 := by blk_ext [idx t, rowOf]
  rw [e]
  exact point4 m c t y0 y1

/-- The hidden rows. -/
theorem out5 (c : Dev nD) : (dats m 0 c).arrAt 5 cfg0.N = val_main_v25 (F := Ideal) (X0 m c) (X1 m c) (X2 m c) (X3 m c) := by
  refine (dats m 0 c).arrAt_eq_of_covers 5 _ (by decide +kernel) fun t hf y => ?_
  blk_simp
  rw [after0_5]
  idx_vars y
  obtain rfl : y0 = 0 := Subsingleton.elim _ _
  have e : ((View.whole main_v7_3).slice (win0_5.rect t)).emb (ix3 0 y1 y2) = ix3 0 (rowOf t y1) y2 := by blk_ext [idx t, rowOf]
  rw [e]
  exact point5 m c t y1 y2

end Cert.Kernel9Ideal.GateUp

end
-- ==== Proof.GateUpClaim.lean ====
module

public import proofs.«01_k».proof.Defs
public import proofs.«01_k».proof.Proof.GateUpKernel
public import proofs.«01_k».proof.Proof.Gen.Kernel9
public import Idealize.ShloMosaic.Lib.Claim

@[expose] public section

set_option maxRecDepth 16384

noncomputable section

namespace Cert.GateUp

open Idealize.ShloMosaic Idealize.ShloMosaic.TcCoe Idealize.SL.Sem

/-- The kernel's results are the reference's, whatever the arguments. -/
theorem algebraic : Cert.algebraic_Kernel9Ideal_Reference9Ideal := by
  pair_intro
  · run_from Cert.Kernel9Ideal.Value.run_blocks m g
  · refine (θ_run _ _ _).mono (fun r h c => ?_) (Cert.Reference9Ideal.Value.run m' g')
    obtain ⟨e0, e1, e2, e3⟩ := hagree c
    obtain ⟨h0, h1, h2, h3, rest⟩ := h c
    refine ⟨h0.trans ?_, h1.trans ?_, h2.trans ?_, h3.trans ?_, rest⟩
    · refine (Cert.Reference9Ideal.Read.val_main_v19_eq _ _).trans ?_
      rw [e0, e1]
      exact (Cert.Kernel9Ideal.GateUp.out2 m c).symm
    · refine (Cert.Reference9Ideal.Read.val_main_v20_eq _ _ _).trans ?_
      rw [e0, e1, e2]
      exact (Cert.Kernel9Ideal.GateUp.out3 m c).symm
    · refine (Cert.Reference9Ideal.Read.val_main_v21_eq _ _ _).trans ?_
      rw [e0, e1, e3]
      exact (Cert.Kernel9Ideal.GateUp.out4 m c).symm
    · refine (Cert.Reference9Ideal.Read.val_main_v25_eq _ _ _ _).trans ?_
      rw [e0, e1, e2, e3]
      exact (Cert.Kernel9Ideal.GateUp.out5 m c).symm

/-- The bit-level program's frame: the two texts are one, and the run is for any floats. -/
theorem frame_kernel : Cert.quiescent_Kernel9 := fun m ρ _ =>
  Eq.mp (by sl_kernel_rfl) (Cert.Kernel9Ideal.Gen.frame (F := Bits) m ρ)

/-- The reference's frame: no operation writes an argument, and it has no semaphore. -/
theorem frame_reference : Cert.quiescent_Reference9Ideal := fun m ρ _ =>
  (θ_run Cert.Reference9Ideal.defs _ _).mono (fun r h => ⟨fun c => (h c).2.2.2.2, sem_eq_zero_of_no_sems (by decide) r.2⟩)
    (Cert.Reference9Ideal.Value.run (F := Ideal) m ρ)

end Cert.GateUp

end
-- ==== Proof.DwKernel.lean ====
module

public import proofs.«01_k».proof.Proof.Gen.Kernel12Ideal.Value
public import proofs.«01_k».proof.Proof.Gen.Reference12Ideal.Read
public import Idealize.ShloMosaic.Lib.Pipeline.ValueKit
public import Idealize.ShloMosaic.Lib.Claim
public import Idealize.ShloMosaic.Lib.Pipeline.ReadBack
public import Idealize.ShloMosaic.Lib.WritesUnit

@[expose] public section

set_option maxRecDepth 16384

noncomputable section

namespace Cert.Kernel12Ideal.Dw

open Cert.Kernel12Ideal Cert.Kernel12Ideal.Gen Cert.Reference12Ideal.Read Idealize.ShloMosaic Idealize.ShloMosaic.TcCoe Idealize.SL.Sem
open Idealize.ShloMosaic.Pipeline (Dat)

/-- The first half of the rows, added to nothing. -/
theorem first_pay (a : FVec Ideal S1x2048x1024 .bf16) (b : FVec Ideal S2048x1024 .bf16) (i j : Fin 1024) :
    (show EReal from k0_pay2 (F := Ideal) (k0_pay1 (F := Ideal)) a b (ix2 i j)) = ∑ k : Fin 2048, (show EReal from a (ix3 0 k i)) * (show EReal from b (ix2 k j)) := by
  pointwise [k0_pay2, k0_pay1]

/-- The second half, added to what there is. -/
theorem next_pay (s : FVec Ideal S1024x1024 .f32) (a : FVec Ideal S1x2048x1024 .bf16) (b : FVec Ideal S2048x1024 .bf16) (i j : Fin 1024) :
    (show EReal from k0_pay3 (F := Ideal) (k0_pay2 (F := Ideal) s a b) (ix2 i j))
      = (show EReal from s (ix2 i j)) + ∑ k : Fin 2048, (show EReal from a (ix3 0 k i)) * (show EReal from b (ix2 k j)) := by
  pointwise [k0_pay3, k0_pay2]

/-- A sum over 4096 rows in two halves. -/
theorem halves (f : Fin 4096 → EReal) : ∑ k, f k = ∑ k : Fin 2048, f ⟨k.val, by omega⟩ + ∑ k : Fin 2048, f ⟨2048 + k.val, by omega⟩ :=
  Fin.sum_univ_add (a := 2048) (b := 2048) f

/-- The reference's entry: row `p · 1024 + i`, column `j`. -/
theorem ref_entry (x0 : FVec Ideal S7x4096x1024 .f32) (x1 : FVec Ideal S1x4096x1024 .f32) (p : Fin 7) (i j : Fin 1024) (h : p.val * 1024 + i.val < 7168) :
    (show EReal from val_main_v9 (F := Ideal) x0 x1 (ix2 ⟨p.val * 1024 + i.val, h⟩ j)) = ∑ k : Fin 4096, (show EReal from x0 (ix3 p k i)) * (show EReal from x1 (ix3 0 k j)) := by
  pointwise [val_main_v1, val_main_v4, val_main_v5, val_main_v6, val_main_v7, val_main_v8, val_main_v9]

variable (m : (ℓ : Loc nD τ sig) → Buf (Elt Ideal) ℓ)

/-- The cotangent of the projection's seven planes, and its input. -/
abbrev X0 (c : Dev nD) : FVec Ideal S7x4096x1024 .f32 := m ((c : Thread nD τ).loc main_arg0)
abbrev X1 (c : Dev nD) : FVec Ideal S1x4096x1024 .f32 := m ((c : Thread nD τ).loc main_arg1)

theorem idx : ∀ t : Fin cfg0.N, win0_0.index t = ![t.val / 2, t.val % 2, 0] ∧ win0_1.index t = ![t.val % 2, 0] ∧ win0_2.index t = ![t.val / 2, 0] ∧ t.val / 2 < 7 :=
  (by decide +kernel : ∀ t : Fin grid0.N, _)

/-- The row of the whole arrays that row `k` of point `t`'s blocks is. -/
def rowOf (t : Fin cfg0.N) (k : Fin 2048) : Fin 4096 := ⟨t.val % 2 * 2048 + k.val, by omega⟩

/-- The plane of point `t`. -/
def plane (t : Fin cfg0.N) : Fin 7 := ⟨t.val / 2, (idx t).2.2.2⟩

theorem a_block (c : Dev nD) (t : Fin cfg0.N) (k : Fin 2048) (i : Fin 1024) : (show EReal from iblk m c 0 t (ix3 0 k i)) = X0 m c (ix3 (plane t) (rowOf t k) i) := by
  blk_simp [iblk, idx t]; entry_read; pointwise; blk_ext [idx t, rowOf, plane]

theorem b_block (c : Dev nD) (t : Fin cfg0.N) (k : Fin 2048) (j : Fin 1024) : (show EReal from iblk m c 1 t (ix2 k j)) = X1 m c (ix3 0 (rowOf t k) j) := by
  blk_simp [iblk, idx t]; entry_read; pointwise; blk_ext [idx t, rowOf]

/-- After a plane's first point the scratch holds the product of the first half of the rows. -/
theorem scratch_even (c : Dev nD) (t : Fin cfg0.N) (h0 : t.val % 2 = 0) (y : S1024x1024.Idx) :
    (outsAt0 m c t.val t.isLt).2 y = k0_pay2 (F := Ideal) (k0_pay1 (F := Ideal)) (iblk m c 0 t) (iblk m c 1 t) y := by
  rw [outsAt0_A m c t h0 (by omega)]
  frame_out

/-- A plane's second point adds the other half and writes the block. -/
theorem point_odd (c : Dev nD) (t : Fin cfg0.N) (h1 : t.val % 2 = 1) (y : S1024x1024.Idx) :
    (outsAt0 m c t.val t.isLt).1 y = k0_pay3 (F := Ideal) (k0_pay2 (F := Ideal) (outsAt0 m c (t.val - 1) (Nat.lt_of_le_of_lt (Nat.sub_le _ _) t.isLt)).2 (iblk m c 0 t) (iblk m c 1 t)) y := by
  rw [outsAt0_B m c t (by omega) h1]
  frame_out
  simp only [read_unread_whole]

/-- The gradient of the projection's weights. -/
theorem out2 (c : Dev nD) : (dats m 0 c).arrAt 2 cfg0.N = val_main_v9 (F := Ideal) (X0 m c) (X1 m c) := by
  refine (dats m 0 c).arrAt_eq_of_covers 2 _ (by decide +kernel) fun t hf y => ?_
  have h1 : t.val % 2 = 1 := (by decide +kernel : ∀ t : Fin cfg0.N, (win0 2).flush t = true → t.val % 2 = 1) t hf
  blk_simp
  rw [after0_2, point_odd m c t h1]
  idx_vars y
  have e : ((View.whole main_v3).slice (win0_2.rect t)).emb (ix2 y0 y1) = ix2 ⟨(plane t).val * 1024 + y0.val, by omega⟩ y1 := by blk_ext [idx t, plane]
  rw [e]
  refine (next_pay _ _ _ y0 y1).trans (((ref_entry _ _ (plane t) y0 y1 _).trans (halves _)).trans ?_).symm
  have hb : t.val - 1 < cfg0.N := Nat.lt_of_le_of_lt (Nat.sub_le _ _) t.isLt
  have h0 : (t.val - 1) % 2 = 0 := by omega
  have hs := (scratch_even m c ⟨t.val - 1, hb⟩ h0 (ix2 y0 y1)).trans (first_pay _ _ y0 y1)
  have ep : plane ⟨t.val - 1, hb⟩ = plane t := Fin.ext (by show (t.val - 1) / 2 = t.val / 2; omega)
  have el : ∀ k, rowOf ⟨t.val - 1, hb⟩ k = ⟨k.val, by omega⟩ := fun k => Fin.ext (by show (t.val - 1) % 2 * 2048 + k.val = k.val; omega)
  have eh : ∀ k, rowOf t k = ⟨2048 + k.val, by omega⟩ := fun k => Fin.ext (by show t.val % 2 * 2048 + k.val = 2048 + k.val; omega)
  simp only [a_block, b_block, ep, el] at hs
  simp only [a_block, b_block, eh]
  exact congrArg (· + _) hs.symm

end Cert.Kernel12Ideal.Dw

end
-- ==== Proof.DwClaim.lean ====
module

public import proofs.«01_k».proof.Defs
public import proofs.«01_k».proof.Proof.DwKernel
public import proofs.«01_k».proof.Proof.Gen.Kernel12
public import Idealize.ShloMosaic.Lib.Claim

@[expose] public section

set_option maxRecDepth 16384

noncomputable section

namespace Cert.Dw

open Idealize.ShloMosaic Idealize.ShloMosaic.TcCoe Idealize.SL.Sem

/-- The kernel's results are the reference's, whatever the arguments. -/
theorem algebraic : Cert.algebraic_Kernel12Ideal_Reference12Ideal := by
  pair_intro
  · run_from Cert.Kernel12Ideal.Value.run_blocks m g
  · refine (θ_run _ _ _).mono (fun r h c => ?_) (Cert.Reference12Ideal.Value.run m' g')
    obtain ⟨e0, e1⟩ := hagree c
    obtain ⟨h0, rest⟩ := h c
    refine ⟨h0.trans ?_, rest⟩
    · refine (Cert.Reference12Ideal.Read.val_main_v9_eq _ _).trans ?_
      rw [e0, e1]
      exact (Cert.Kernel12Ideal.Dw.out2 m c).symm

/-- The bit-level program's frame: the two texts are one, and the run is for any floats. -/
theorem frame_kernel : Cert.quiescent_Kernel12 := fun m ρ _ =>
  Eq.mp (by sl_kernel_rfl) (Cert.Kernel12Ideal.Gen.frame (F := Bits) m ρ)

/-- The reference's frame: no operation writes an argument, and it has no semaphore. -/
theorem frame_reference : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

end Cert.Dw

end
-- ==== Proof.DownKernel.lean ====
module

public import proofs.«01_k».proof.Proof.Gen.Kernel13Ideal.Value
public import proofs.«01_k».proof.Proof.Gen.Reference13Ideal.Read
public import Idealize.ShloMosaic.Lib.Pipeline.ValueKit
public import Idealize.ShloMosaic.Lib.Claim
public import Idealize.ShloMosaic.Lib.Pipeline.ReadBack
public import Idealize.ShloMosaic.Lib.WritesUnit

@[expose] public section

set_option maxRecDepth 16384

noncomputable section

namespace Cert.Kernel13Ideal.Down

open Cert.Kernel13Ideal Cert.Kernel13Ideal.Gen Cert.Reference13Ideal.Read Idealize.ShloMosaic Idealize.ShloMosaic.TcCoe Idealize.SL.Sem
open Idealize.ShloMosaic.Pipeline (Dat)

/-- Row `r` of a point's block, if it is row `t` of the arguments: the residual and half the product. -/
theorem row_pay {x0 : FVec Ideal S1x4096x1024 .f32} {x1 : FVec Ideal S1x4096x2816 .f32} {x2 : FVec Ideal S1x2816x1024 .f32}
    {x : FVec Ideal S512x1024 .f32} {a : FVec Ideal S1x512x2816 .bf16} {w : FVec Ideal S2816x1024 .bf16} {r : Fin 512} {t : Fin 4096}
    (hx : ∀ k, (show EReal from x (ix2 r k)) = x0 (ix3 0 t k)) (ha : ∀ k, (show EReal from a (ix3 0 r k)) = x1 (ix3 0 t k))
    (hw : ∀ j k, (show EReal from w (ix2 j k)) = x2 (ix3 0 j k)) (k : Fin 1024) :
    (show EReal from k0_pay1 (F := Ideal) x a w (ix2 r k)) = val_main_v6 (F := Ideal) x0 x1 x2 (ix2 t k) := by
  pointwise [k0_pay1, val_main_v0, val_main_v1, val_main_v2, val_main_v3, val_main_cst, val_main_v4, val_main_v5, val_main_v6]
  simp only [hx, ha, hw]

variable (m : (ℓ : Loc nD τ sig) → Buf (Elt Ideal) ℓ)

/-- The residual stream, the hidden rows and the down weights. -/
abbrev X0 (c : Dev nD) : FVec Ideal S1x4096x1024 .f32 := m ((c : Thread nD τ).loc main_arg0)
abbrev X1 (c : Dev nD) : FVec Ideal S1x4096x2816 .f32 := m ((c : Thread nD τ).loc main_arg1)
abbrev X2 (c : Dev nD) : FVec Ideal S1x2816x1024 .f32 := m ((c : Thread nD τ).loc main_arg2)

theorem idx : ∀ t : Fin cfg0.N, win0_0.index t = ![t.val, 0] ∧ win0_1.index t = ![0, t.val, 0] ∧ win0_2.index t = ![t.val, 0] ∧ t.val < 8 :=
  (by decide +kernel : ∀ t : Fin grid0.N, _)

/-- The row of the whole array that row `r` of point `t`'s block is. -/
def rowOf (t : Fin cfg0.N) (r : Fin 512) : Fin 4096 := ⟨t.val * 512 + r.val, by have := (idx t).2.2.2; omega⟩

theorem x_block (c : Dev nD) (t : Fin cfg0.N) (r : Fin 512) (k : Fin 1024) : (show EReal from iblk m c 0 t (ix2 r k)) = X0 m c (ix3 0 (rowOf t r) k) := by
  blk_simp [iblk, idx t]; entry_read; pointwise; blk_ext [idx t, rowOf]

theorem a_block (c : Dev nD) (t : Fin cfg0.N) (r : Fin 512) (k : Fin 2816) : (show EReal from iblk m c 1 t (ix3 0 r k)) = X1 m c (ix3 0 (rowOf t r) k) := by
  blk_simp [iblk, idx t]; entry_read; pointwise; blk_ext [idx t, rowOf]

/-- The weights as the scratch holds them. -/
def wd (c : Dev nD) : FVec Ideal S2816x1024 .bf16 := fun j => X2 m c (ix3 0 (j 0) (j 1))

theorem wd_entry (c : Dev nD) : V m c main_v3 = wd m c := by
  funext j; idx_vars j; entry_read; pointwise; rfl

/-- The weights, copied whole. -/
theorem copied (w : FVec Ideal S2816x1024 .bf16) (inb) :
    ReadAs.same.apply (View.read (Elt Ideal) ((View.whole main_v3).slice (Rect.unit (s := S2816x1024) ![0, 0] ![2816, 1024] inb)) w) = w := by
  funext y
  refine congrArg w (funext fun a => Fin.ext ?_)
  fin_cases a <;> exact (ValueKit.view_emb_slice_whole_unit_val _ _ _ _ _ _).trans (Nat.zero_add _)

/-- One store of a whole scratch leaves what was stored. -/
theorem canon_all (w : FVec Ideal S2816x1024 .bf16) : View.canon (Val := Elt Ideal) (e := EltTy.bf16) [⟨Rect.whole S2816x1024, w⟩] = w := by
  funext y
  have e := View.canon_cons_emb (Val := Elt Ideal) (e := EltTy.bf16) (Rect.whole S2816x1024) w [] y
  rw [Rect.emb_whole_apply] at e
  exact e

/-- A whole scratch, read back entry by entry. -/
theorem read_all (w : FVec Ideal S2816x1024 .bf16) (inb) : (fun j => w ((Rect.unit (s := S2816x1024) ![0, 0] ![2816, 1024] inb).idx j)) = w := by
  funext j
  refine congrArg w (funext fun a => Fin.ext ?_)
  fin_cases a <;> exact (Nat.zero_add _).trans (Nat.one_mul _)

/-- After every point the scratch holds the weights. -/
theorem scratch (c : Dev nD) : ∀ (n : ℕ) (hn : n < cfg0.N), (outsAt0 m c n hn).2 = wd m c := fun n => by
  induction n with
  | zero =>
    intro hn
    rw [outsAt0_A m c ⟨0, hn⟩ rfl, wd_entry]
    funext j
    frame_out; rw [copied, canon_all]
  | succ n ih =>
    intro hn
    have h0 : ¬ (n + 1) % 8 = 0 := by
      have : n + 1 < 8 := (idx ⟨n + 1, hn⟩).2.2.2
      omega
    rw [outsAt0_B m c ⟨n + 1, hn⟩ h0, ← ih (Nat.lt_of_succ_lt hn)]
    rfl

/-- A point's rows. -/
theorem point (c : Dev nD) (t : Fin cfg0.N) (y : S512x1024.Idx) :
    (outsAt0 m c t.val t.isLt).1 y = k0_pay1 (F := Ideal) (iblk m c 0 t) (iblk m c 1 t) (wd m c) y := by
  by_cases h0 : t.val % 8 = 0
  · rw [outsAt0_A m c t h0, wd_entry]
    frame_out
    rw [copied, View.readCov_eq_canon', canon_all, read_all]
  · have hs := scratch m c (t.val - 1) (Nat.lt_of_le_of_lt (Nat.sub_le _ _) t.isLt)
    rw [outsAt0_B m c t h0, hs]
    frame_out
    simp only [read_unread_whole]

/-- The residual stream after the half-FFN. -/
theorem out2 (c : Dev nD) : (dats m 0 c).arrAt 2 cfg0.N = val_main_v6 (F := Ideal) (X0 m c) (X1 m c) (X2 m c) := by
  refine (dats m 0 c).arrAt_eq_of_covers 2 _ (by decide +kernel) fun t hf y => ?_
  blk_simp
  rw [after0_2, point]
  idx_vars y
  have e : ((View.whole main_v4).slice (win0_2.rect t)).emb (ix2 y0 y1) = ix2 (rowOf t y0) y1 := by blk_ext [idx t, rowOf]
  rw [e]
  exact row_pay (x_block m c t y0) (a_block m c t y0) (fun _ _ => rfl) y1

end Cert.Kernel13Ideal.Down

end
-- ==== Proof.DownClaim.lean ====
module

public import proofs.«01_k».proof.Defs
public import proofs.«01_k».proof.Proof.DownKernel
public import proofs.«01_k».proof.Proof.Gen.Kernel13
public import Idealize.ShloMosaic.Lib.Claim

@[expose] public section

set_option maxRecDepth 16384

noncomputable section

namespace Cert.Down

open Idealize.ShloMosaic Idealize.ShloMosaic.TcCoe Idealize.SL.Sem

/-- The kernel's results are the reference's, whatever the arguments. -/
theorem algebraic : Cert.algebraic_Kernel13Ideal_Reference13Ideal := by
  pair_intro
  · run_from Cert.Kernel13Ideal.Value.run_blocks m g
  · refine (θ_run _ _ _).mono (fun r h c => ?_) (Cert.Reference13Ideal.Value.run m' g')
    obtain ⟨e0, e1, e2⟩ := hagree c
    obtain ⟨h0, rest⟩ := h c
    refine ⟨h0.trans ?_, rest⟩
    · refine (Cert.Reference13Ideal.Read.val_main_v6_eq _ _ _).trans ?_
      rw [e0, e1, e2]
      exact (Cert.Kernel13Ideal.Down.out2 m c).symm

/-- The bit-level program's frame: the two texts are one, and the run is for any floats. -/
theorem frame_kernel : Cert.quiescent_Kernel13 := fun m ρ _ =>
  Eq.mp (by sl_kernel_rfl) (Cert.Kernel13Ideal.Gen.frame (F := Bits) m ρ)

/-- The reference's frame: no operation writes an argument, and it has no semaphore. -/
theorem frame_reference : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

end Cert.Down

end
-- ==== Proof.AdamKernel.lean ====
module

public import proofs.«01_k».proof.Proof.Gen.Kernel14Ideal.Value
public import proofs.«01_k».proof.Proof.Gen.Reference14Ideal.Read
public import Idealize.ShloMosaic.Lib.Pipeline.ValueKit
public import Idealize.ShloMosaic.Lib.Claim
public import Idealize.ShloMosaic.Lib.Pipeline.ReadBack
public import Idealize.ShloMosaic.Lib.WritesUnit

@[expose] public section

set_option maxRecDepth 16384

noncomputable section

namespace Cert.Kernel14Ideal.Adam

open Cert.Kernel14Ideal Cert.Kernel14Ideal.Gen Cert.Reference14Ideal.Read Idealize.ShloMosaic Idealize.ShloMosaic.TcCoe Idealize.SL.Sem
open Idealize.ShloMosaic.Pipeline (Dat)

/-! ## A grid point's rows against the reference's: row `r` of the point's block is row `t` of the arguments -/

section Rows

variable {x : FVec Ideal S4x352x1024 .f32} {xw xm xv : FVec Ideal S1x352x1024 .f32} {g : FVec Ideal S4x176x1024 .bf16} {w p v : FVec Ideal S176x1024 .f32}
  {r : Fin 176} {t : Fin 352}

/-- One of the four parts of a gradient. -/
theorem ld_apply (o : ℕ) (h : o < 4) (inb) (k : Fin 1024) :
    View.ld (Val := Elt Ideal) (e' := EltTy.bf16) g (Rect.unit (s := S4x176x1024) ![o, 0, 0] ![1, 176, 1024] inb) (ix3 0 r k) = g (ix3 ⟨o, h⟩ r k) :=
  View.ld_unit_apply_of (Val := Elt Ideal) (e := EltTy.bf16) g _ _ inb _ _ fun a => by
    fin_cases a
    exacts [rfl, (Nat.zero_add _).symm, (Nat.zero_add _).symm]

/-- The sum of the parts. -/
theorem sum_pay (hg : ∀ d k, (show EReal from g (ix3 d r k)) = x (ix3 d t k)) (k : Fin 1024) :
    (show EReal from k0_pay6 (F := Ideal) (View.ld g r0_1) (View.ld g r0_2) (View.ld g r0_3) (View.ld g r0_4) (ix2 r k)) = val_main_v0 (F := Ideal) x (ix2 t k) := by
  pointwise [k0_pay6, val_main_v0, val_main_cst]
  simp only [ld_apply 0 (by decide), ld_apply 1 (by decide), ld_apply 2 (by decide), ld_apply 3 (by decide), hg, Fin.sum_univ_four, zero_add, add_zero]

/-- The first moment. -/
theorem m_pay (hg : ∀ d k, (show EReal from g (ix3 d r k)) = x (ix3 d t k)) (hm : ∀ k, (show EReal from p (ix2 r k)) = xm (ix3 0 t k)) (k : Fin 1024) :
    (show EReal from k0_pay7 (F := Ideal) p (View.ld g r0_1) (View.ld g r0_2) (View.ld g r0_3) (View.ld g r0_4) (ix2 r k)) = val_main_v9 (F := Ideal) x xm (ix2 t k) := by
  have h := sum_pay hg k
  generalize hq : k0_pay6 (F := Ideal) (View.ld g r0_1) (View.ld g r0_2) (View.ld g r0_3) (View.ld g r0_4) = q at h
  pointwise [k0_pay7, hq, val_main_v3, val_main_cst_1, val_main_v5, val_main_v6, val_main_cst_2, val_main_v7, val_main_v8, val_main_v9]
  simp only [h, hm]

/-- The second moment. -/
theorem v_pay (hg : ∀ d k, (show EReal from g (ix3 d r k)) = x (ix3 d t k)) (hv : ∀ k, (show EReal from v (ix2 r k)) = xv (ix3 0 t k)) (k : Fin 1024) :
    (show EReal from k0_pay8 (F := Ideal) v (View.ld g r0_1) (View.ld g r0_2) (View.ld g r0_3) (View.ld g r0_4) (ix2 r k)) = val_main_v15 (F := Ideal) x xv (ix2 t k) := by
  have h := sum_pay hg k
  generalize hq : k0_pay6 (F := Ideal) (View.ld g r0_1) (View.ld g r0_2) (View.ld g r0_3) (View.ld g r0_4) = q at h
  pointwise [k0_pay8, hq, val_main_v4, val_main_cst_3, val_main_v10, val_main_v11, val_main_v12, val_main_cst_4, val_main_v13, val_main_v14, val_main_v15]
  simp only [h, hv]

/-- The step taken on the weight. -/
theorem d_pay (hg : ∀ d k, (show EReal from g (ix3 d r k)) = x (ix3 d t k)) (hw : ∀ k, (show EReal from w (ix2 r k)) = xw (ix3 0 t k))
    (hm : ∀ k, (show EReal from p (ix2 r k)) = xm (ix3 0 t k)) (hv : ∀ k, (show EReal from v (ix2 r k)) = xv (ix3 0 t k)) (k : Fin 1024) :
    (show EReal from k0_pay9 (F := Ideal) (k0_pay5 w) (k0_pay7 p (View.ld g r0_1) (View.ld g r0_2) (View.ld g r0_3) (View.ld g r0_4)) (k0_pay8 v (View.ld g r0_1) (View.ld g r0_2) (View.ld g r0_3) (View.ld g r0_4)) (Scalar.ofBits .f32 0x3F26BD02#32) (ix2 r k))
      = val_main_v28 (F := Ideal) x xw xm xv (ix2 t k) := by
  have h1 := m_pay hg hm k
  have h2 := v_pay hg hv k
  generalize k0_pay7 (F := Ideal) p (View.ld g r0_1) (View.ld g r0_2) (View.ld g r0_3) (View.ld g r0_4) = q1 at h1 ⊢
  generalize k0_pay8 (F := Ideal) v (View.ld g r0_1) (View.ld g r0_2) (View.ld g r0_3) (View.ld g r0_4) = q2 at h2 ⊢
  pointwise [k0_pay9, k0_pay5, val_main_v2, val_main_cst_5, val_main_v16, val_main_v17, val_main_cst_6, val_main_v18, val_main_v19, val_main_v20, val_main_cst_7, val_main_v21, val_main_v22, val_main_v23, val_main_cst_8, val_main_v24, val_main_v25, val_main_v26, val_main_cst_9, val_main_v27, val_main_v28]
  simp only [h1, h2, hw]

end Rows

variable (m : (ℓ : Loc nD τ sig) → Buf (Elt Ideal) ℓ)

theorem idx : ∀ t : Fin cfg0.N, win0_0.index t = ![0, t.val, 0] ∧ win0_1.index t = ![t.val, 0] ∧ win0_2.index t = ![t.val, 0] ∧ win0_3.index t = ![t.val, 0]
    ∧ win0_4.index t = ![0, t.val, 0] ∧ win0_5.index t = ![t.val, 0] ∧ win0_6.index t = ![t.val, 0] ∧ win0_7.index t = ![t.val, 0] ∧ win0_8.index t = ![t.val, 0]
    ∧ win0_9.index t = ![t.val, 0] ∧ win0_10.index t = ![t.val, 0] ∧ win0_11.index t = ![t.val, 0] ∧ win0_12.index t = ![t.val, 0] ∧ win0_13.index t = ![t.val, 0]
    ∧ win0_14.index t = ![t.val, 0] ∧ win0_15.index t = ![t.val, 0] ∧ t.val < 2 :=
  (by decide +kernel : ∀ t : Fin grid0.N, _)

/-- The row of the whole array that row `r` of point `t`'s block is. -/
def rowOf (t : Fin cfg0.N) (r : Fin 176) : Fin 352 := ⟨t.val * 176 + r.val, by have := lt_of_lt_of_eq t.isLt (show cfg0.N = 2 from N_0); omega⟩

/-- The arguments: two gradients in four parts, two weights, two first and two second moments. -/
abbrev X0 (c : Dev nD) : FVec Ideal S4x352x1024 .f32 := m ((c : Thread nD τ).loc main_arg0)
abbrev X1 (c : Dev nD) : FVec Ideal S4x352x1024 .f32 := m ((c : Thread nD τ).loc main_arg1)
abbrev X2 (c : Dev nD) : FVec Ideal S1x352x1024 .f32 := m ((c : Thread nD τ).loc main_arg2)
abbrev X3 (c : Dev nD) : FVec Ideal S1x352x1024 .f32 := m ((c : Thread nD τ).loc main_arg3)
abbrev X4 (c : Dev nD) : FVec Ideal S1x352x1024 .f32 := m ((c : Thread nD τ).loc main_arg4)
abbrev X5 (c : Dev nD) : FVec Ideal S1x352x1024 .f32 := m ((c : Thread nD τ).loc main_arg5)
abbrev X6 (c : Dev nD) : FVec Ideal S1x352x1024 .f32 := m ((c : Thread nD τ).loc main_arg6)
abbrev X7 (c : Dev nD) : FVec Ideal S1x352x1024 .f32 := m ((c : Thread nD τ).loc main_arg7)

theorem g_blocks (c : Dev nD) (t : Fin cfg0.N) (r : Fin 176) :
    (∀ d k, (show EReal from iblk m c 0 t (ix3 d r k)) = X0 m c (ix3 d (rowOf t r) k)) ∧ ∀ d k, (show EReal from iblk m c 4 t (ix3 d r k)) = X1 m c (ix3 d (rowOf t r) k) := by
  constructor <;> intro d k <;> (blk_simp [iblk, idx t]; entry_read; pointwise; blk_ext [idx t, rowOf])

set_option maxHeartbeats 1000000 in
theorem blocks (c : Dev nD) (t : Fin cfg0.N) (r : Fin 176) :
    (∀ k, (show EReal from iblk m c 1 t (ix2 r k)) = X2 m c (ix3 0 (rowOf t r) k)) ∧ (∀ k, (show EReal from iblk m c 2 t (ix2 r k)) = X4 m c (ix3 0 (rowOf t r) k))
    ∧ (∀ k, (show EReal from iblk m c 3 t (ix2 r k)) = X6 m c (ix3 0 (rowOf t r) k)) ∧ (∀ k, (show EReal from iblk m c 5 t (ix2 r k)) = X3 m c (ix3 0 (rowOf t r) k))
    ∧ (∀ k, (show EReal from iblk m c 6 t (ix2 r k)) = X5 m c (ix3 0 (rowOf t r) k)) ∧ ∀ k, (show EReal from iblk m c 7 t (ix2 r k)) = X7 m c (ix3 0 (rowOf t r) k) := by
  refine ⟨?_, ?_, ?_, ?_, ?_, ?_⟩ <;> intro k <;> (blk_simp [iblk, idx t]; entry_read; pointwise; blk_ext [idx t, rowOf])

/-! ## The whole results -/

/-- The first gradient. -/
theorem out8 (c : Dev nD) : (dats m 0 c).arrAt 8 cfg0.N = val_main_v0 (F := Ideal) (X0 m c) := by
  refine (dats m 0 c).arrAt_eq_of_covers 8 _ (by decide +kernel) fun t hf y => ?_
  blk_simp
  rw [after0_8]
  unfold_out out0_8
  idx_vars y
  have e : ((View.whole main_v8_0).slice (win0_8.rect t)).emb (ix2 y0 y1) = ix2 (rowOf t y0) y1 := by blk_ext [idx t, rowOf]
  rw [e]
  frame_out
  exact sum_pay (g_blocks m c t y0).1 y1

/-- The first weight's step. -/
theorem out9 (c : Dev nD) : (dats m 0 c).arrAt 9 cfg0.N = val_main_v28 (F := Ideal) (X0 m c) (X2 m c) (X4 m c) (X6 m c) := by
  refine (dats m 0 c).arrAt_eq_of_covers 9 _ (by decide +kernel) fun t hf y => ?_
  blk_simp
  rw [after0_9]
  unfold_out out0_9
  idx_vars y
  have e : ((View.whole main_v8_1).slice (win0_9.rect t)).emb (ix2 y0 y1) = ix2 (rowOf t y0) y1 := by blk_ext [idx t, rowOf]
  rw [e]
  frame_out
  exact d_pay (g_blocks m c t y0).1 (blocks m c t y0).1 (blocks m c t y0).2.1 (blocks m c t y0).2.2.1 y1

/-- The first weight's first moment. -/
theorem out10 (c : Dev nD) : (dats m 0 c).arrAt 10 cfg0.N = val_main_v9 (F := Ideal) (X0 m c) (X4 m c) := by
  refine (dats m 0 c).arrAt_eq_of_covers 10 _ (by decide +kernel) fun t hf y => ?_
  blk_simp
  rw [after0_10]
  unfold_out out0_10
  idx_vars y
  have e : ((View.whole main_v8_2).slice (win0_10.rect t)).emb (ix2 y0 y1) = ix2 (rowOf t y0) y1 := by blk_ext [idx t, rowOf]
  rw [e]
  frame_out
  exact m_pay (g_blocks m c t y0).1 (blocks m c t y0).2.1 y1

/-- The first weight's second moment. -/
theorem out11 (c : Dev nD) : (dats m 0 c).arrAt 11 cfg0.N = val_main_v15 (F := Ideal) (X0 m c) (X6 m c) := by
  refine (dats m 0 c).arrAt_eq_of_covers 11 _ (by decide +kernel) fun t hf y => ?_
  blk_simp
  rw [after0_11]
  unfold_out out0_11
  idx_vars y
  have e : ((View.whole main_v8_3).slice (win0_11.rect t)).emb (ix2 y0 y1) = ix2 (rowOf t y0) y1 := by blk_ext [idx t, rowOf]
  rw [e]
  frame_out
  exact v_pay (g_blocks m c t y0).1 (blocks m c t y0).2.2.1 y1

/-- The second gradient. -/
theorem out12 (c : Dev nD) : (dats m 0 c).arrAt 12 cfg0.N = val_main_v1 (F := Ideal) (X1 m c) := by
  refine (dats m 0 c).arrAt_eq_of_covers 12 _ (by decide +kernel) fun t hf y => ?_
  blk_simp
  rw [after0_12]
  unfold_out out0_12
  idx_vars y
  have e : ((View.whole main_v8_4).slice (win0_12.rect t)).emb (ix2 y0 y1) = ix2 (rowOf t y0) y1 := by blk_ext [idx t, rowOf]
  rw [e]
  frame_out
  exact sum_pay (g_blocks m c t y0).2 y1

/-- The second weight's step. -/
theorem out13 (c : Dev nD) : (dats m 0 c).arrAt 13 cfg0.N = val_main_v55 (F := Ideal) (X1 m c) (X3 m c) (X5 m c) (X7 m c) := by
  refine (dats m 0 c).arrAt_eq_of_covers 13 _ (by decide +kernel) fun t hf y => ?_
  blk_simp
  rw [after0_13]
  unfold_out out0_13
  idx_vars y
  have e : ((View.whole main_v8_5).slice (win0_13.rect t)).emb (ix2 y0 y1) = ix2 (rowOf t y0) y1 := by blk_ext [idx t, rowOf]
  rw [e]
  frame_out
  exact d_pay (g_blocks m c t y0).2 (blocks m c t y0).2.2.2.1 (blocks m c t y0).2.2.2.2.1 (blocks m c t y0).2.2.2.2.2 y1

/-- The second weight's first moment. -/
theorem out14 (c : Dev nD) : (dats m 0 c).arrAt 14 cfg0.N = val_main_v36 (F := Ideal) (X1 m c) (X5 m c) := by
  refine (dats m 0 c).arrAt_eq_of_covers 14 _ (by decide +kernel) fun t hf y => ?_
  blk_simp
  rw [after0_14]
  unfold_out out0_14
  idx_vars y
  have e : ((View.whole main_v8_6).slice (win0_14.rect t)).emb (ix2 y0 y1) = ix2 (rowOf t y0) y1 := by blk_ext [idx t, rowOf]
  rw [e]
  frame_out
  exact m_pay (g_blocks m c t y0).2 (blocks m c t y0).2.2.2.2.1 y1

/-- The second weight's second moment. -/
theorem out15 (c : Dev nD) : (dats m 0 c).arrAt 15 cfg0.N = val_main_v42 (F := Ideal) (X1 m c) (X7 m c) := by
  refine (dats m 0 c).arrAt_eq_of_covers 15 _ (by decide +kernel) fun t hf y => ?_
  blk_simp
  rw [after0_15]
  unfold_out out0_15
  idx_vars y
  have e : ((View.whole main_v8_7).slice (win0_15.rect t)).emb (ix2 y0 y1) = ix2 (rowOf t y0) y1 := by blk_ext [idx t, rowOf]
  rw [e]
  frame_out
  exact v_pay (g_blocks m c t y0).2 (blocks m c t y0).2.2.2.2.2 y1

end Cert.Kernel14Ideal.Adam

end
-- ==== Proof.AdamClaim.lean ====
module

public import proofs.«01_k».proof.Defs
public import proofs.«01_k».proof.Proof.AdamKernel
public import proofs.«01_k».proof.Proof.Gen.Kernel14
public import Idealize.ShloMosaic.Lib.Claim

@[expose] public section

set_option maxRecDepth 16384

noncomputable section

namespace Cert.Adam

open Idealize.ShloMosaic Idealize.ShloMosaic.TcCoe Idealize.SL.Sem

/-- The kernel's results are the reference's, whatever the arguments. -/
theorem algebraic : Cert.algebraic_Kernel14Ideal_Reference14Ideal := by
  pair_intro
  · run_from Cert.Kernel14Ideal.Value.run_blocks m g
  · refine (θ_run _ _ _).mono (fun r h c => ?_) (Cert.Reference14Ideal.Value.run m' g')
    obtain ⟨e0, e1, e2, e3, e4, e5, e6, e7⟩ := hagree c
    obtain ⟨h0, h1, h2, h3, h4, h5, h6, h7, rest⟩ := h c
    refine ⟨h0.trans ?_, h1.trans ?_, h2.trans ?_, h3.trans ?_, h4.trans ?_, h5.trans ?_, h6.trans ?_, h7.trans ?_, rest⟩
    · refine (Cert.Reference14Ideal.Read.val_main_v0_eq _).trans ?_
      rw [e0]
      exact (Cert.Kernel14Ideal.Adam.out8 m c).symm
    · refine (Cert.Reference14Ideal.Read.val_main_v28_eq _ _ _ _).trans ?_
      rw [e0, e2, e4, e6]
      exact (Cert.Kernel14Ideal.Adam.out9 m c).symm
    · refine (Cert.Reference14Ideal.Read.val_main_v9_eq _ _).trans ?_
      rw [e0, e4]
      exact (Cert.Kernel14Ideal.Adam.out10 m c).symm
    · refine (Cert.Reference14Ideal.Read.val_main_v15_eq _ _).trans ?_
      rw [e0, e6]
      exact (Cert.Kernel14Ideal.Adam.out11 m c).symm
    · refine (Cert.Reference14Ideal.Read.val_main_v1_eq _).trans ?_
      rw [e1]
      exact (Cert.Kernel14Ideal.Adam.out12 m c).symm
    · refine (Cert.Reference14Ideal.Read.val_main_v55_eq _ _ _ _).trans ?_
      rw [e1, e3, e5, e7]
      exact (Cert.Kernel14Ideal.Adam.out13 m c).symm
    · refine (Cert.Reference14Ideal.Read.val_main_v36_eq _ _).trans ?_
      rw [e1, e5]
      exact (Cert.Kernel14Ideal.Adam.out14 m c).symm
    · refine (Cert.Reference14Ideal.Read.val_main_v42_eq _ _).trans ?_
      rw [e1, e7]
      exact (Cert.Kernel14Ideal.Adam.out15 m c).symm

/-- The bit-level program's frame: the two texts are one, and the run is for any floats. -/
theorem frame_kernel : Cert.quiescent_Kernel14 := fun m ρ _ =>
  Eq.mp (by sl_kernel_rfl) (Cert.Kernel14Ideal.Gen.frame (F := Bits) m ρ)

/-- The reference's frame: no operation writes an argument, and it has no semaphore. -/
theorem frame_reference : Cert.quiescent_Reference14Ideal := fun m ρ _ =>
  (θ_run Cert.Reference14Ideal.defs _ _).mono (fun r h => ⟨fun c => (h c).2.2.2.2.2.2.2.2, sem_eq_zero_of_no_sems (by decide) r.2⟩)
    (Cert.Reference14Ideal.Value.run (F := Ideal) m ρ)

end Cert.Adam

end
-- ==== Proof.AdamInKernel.lean ====
module

public import proofs.«01_k».proof.Proof.Gen.Kernel15Ideal.Value
public import proofs.«01_k».proof.Proof.Gen.Reference15Ideal.Read
public import Idealize.ShloMosaic.Lib.Pipeline.ValueKit
public import Idealize.ShloMosaic.Lib.Claim
public import Idealize.ShloMosaic.Lib.Pipeline.ReadBack
public import Idealize.ShloMosaic.Lib.WritesUnit

@[expose] public section

set_option maxRecDepth 16384

noncomputable section

namespace Cert.Kernel15Ideal.AdamIn

open Cert.Kernel15Ideal Cert.Kernel15Ideal.Gen Cert.Reference15Ideal.Read Idealize.ShloMosaic Idealize.ShloMosaic.TcCoe Idealize.SL.Sem
open Idealize.ShloMosaic.Pipeline (Dat)

/-! ## A grid point's rows against the reference's: row `r` of the point's block is row `t` of the weight, and column `t` of the parts -/

section Rows

variable {xa xb : FVec Ideal S4x448x1024 .f32} {xw xm xv : FVec Ideal S1x1024x896 .f32} {ga gb : FVec Ideal S4x448x256 .bf16} {w p v : FVec Ideal S256x896 .f32}
  {r : Fin 256} {t : Fin 1024}

/-- One of the four parts of half a gradient. -/
theorem ld_apply (g : FVec Ideal S4x448x256 .bf16) (o : ℕ) (h : o < 4) (inb) (k : Fin 448) :
    View.ld (Val := Elt Ideal) (e' := EltTy.bf16) g (Rect.unit (s := S4x448x256) ![o, 0, 0] ![1, 448, 256] inb) (ix3 0 k r) = g (ix3 ⟨o, h⟩ k r) :=
  View.ld_unit_apply_of (Val := Elt Ideal) (e := EltTy.bf16) g _ _ inb _ _ fun a => by
    fin_cases a
    exacts [rfl, (Nat.zero_add _).symm, (Nat.zero_add _).symm]

/-- The gradient: the sums of the two halves' parts, one above the other, turned. -/
theorem g_pay (ha : ∀ d k, (show EReal from ga (ix3 d k r)) = xa (ix3 d k t)) (hb : ∀ d k, (show EReal from gb (ix3 d k r)) = xb (ix3 d k t)) (k : Fin 896) :
    (show EReal from k0_pay4 (F := Ideal) (View.ld ga r0_0) (View.ld ga r0_1) (View.ld ga r0_2) (View.ld ga r0_3) (View.ld gb r0_0) (View.ld gb r0_1) (View.ld gb r0_2) (View.ld gb r0_3) (ix2 r k))
      = val_main_v3 (F := Ideal) xa xb (ix2 t k) := by
  pointwise [k0_pay4, val_main_v3, val_main_v2, val_main_v1, val_main_v0, val_main_cst, val_main_cst_0]
  simp only [ld_apply _ 0 (by decide), ld_apply _ 1 (by decide), ld_apply _ 2 (by decide), ld_apply _ 3 (by decide), ha, hb, Fin.sum_univ_four, zero_add, add_zero]

/-- The first moment, of any gradient that agrees. -/
theorem m_pay {q : FVec Ideal S256x896 .f32} {k : Fin 896} (hq : (show EReal from q (ix2 r k)) = val_main_v3 (F := Ideal) xa xb (ix2 t k))
    (hm : ∀ k, (show EReal from p (ix2 r k)) = xm (ix3 0 t k)) :
    (show EReal from k0_pay1 (F := Ideal) q p (ix2 r k)) = val_main_v11 (F := Ideal) xa xb xm (ix2 t k) := by
  generalize hy : val_main_v3 (F := Ideal) xa xb = y at hq
  pointwise [k0_pay1, val_main_v5, val_main_cst_1, val_main_v7, val_main_v8, val_main_cst_2, val_main_v9, val_main_v10, val_main_v11, hy]
  simp only [hq, hm]

/-- The second moment. -/
theorem v_pay {q : FVec Ideal S256x896 .f32} {k : Fin 896} (hq : (show EReal from q (ix2 r k)) = val_main_v3 (F := Ideal) xa xb (ix2 t k))
    (hv : ∀ k, (show EReal from v (ix2 r k)) = xv (ix3 0 t k)) :
    (show EReal from k0_pay2 (F := Ideal) q v (ix2 r k)) = val_main_v17 (F := Ideal) xa xb xv (ix2 t k) := by
  generalize hy : val_main_v3 (F := Ideal) xa xb = y at hq
  pointwise [k0_pay2, val_main_v6, val_main_cst_3, val_main_v12, val_main_v13, val_main_v14, val_main_cst_4, val_main_v15, val_main_v16, val_main_v17, hy]
  simp only [hq, hv]

/-- The step taken on the weight. -/
theorem d_pay {q : FVec Ideal S256x896 .f32} {k : Fin 896} (hq : (show EReal from q (ix2 r k)) = val_main_v3 (F := Ideal) xa xb (ix2 t k))
    (hw : ∀ k, (show EReal from w (ix2 r k)) = xw (ix3 0 t k)) (hm : ∀ k, (show EReal from p (ix2 r k)) = xm (ix3 0 t k)) (hv : ∀ k, (show EReal from v (ix2 r k)) = xv (ix3 0 t k)) :
    (show EReal from k0_pay3 (F := Ideal) q w p v (ix2 r k)) = val_main_v30 (F := Ideal) xa xb xw xm xv (ix2 t k) := by
  have h1 := m_pay hq hm
  have h2 := v_pay hq hv
  unfold k0_pay3
  generalize k0_pay1 (F := Ideal) q p = q1 at h1 ⊢
  generalize k0_pay2 (F := Ideal) q v = q2 at h2 ⊢
  pointwise [val_main_v4, val_main_cst_5, val_main_v18, val_main_v19, val_main_cst_6, val_main_v20, val_main_v21, val_main_v22, val_main_cst_7, val_main_v23, val_main_v24, val_main_v25, val_main_cst_8, val_main_v26, val_main_v27, val_main_v28, val_main_cst_9, val_main_v29, val_main_v30]
  simp only [h1, h2, hw]

end Rows

variable (m : (ℓ : Loc nD τ sig) → Buf (Elt Ideal) ℓ)

theorem idx : ∀ t : Fin cfg0.N, win0_0.index t = ![0, 0, t.val] ∧ win0_1.index t = ![0, 0, t.val] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![t.val, 0] ∧ t.val < 4 :=
  (by decide +kernel : ∀ t : Fin grid0.N, _)

/-- The row of the whole weight that row `r` of point `t`'s block is. -/
def rowOf (t : Fin cfg0.N) (r : Fin 256) : Fin 1024 := ⟨t.val * 256 + r.val, by have := lt_of_lt_of_eq t.isLt (show cfg0.N = 4 from N_0); omega⟩

/-- The arguments: the gradient's two halves in four parts, the weight, its first and second moment. -/
abbrev X0 (c : Dev nD) : FVec Ideal S4x448x1024 .f32 := m ((c : Thread nD τ).loc main_arg0)
abbrev X1 (c : Dev nD) : FVec Ideal S4x448x1024 .f32 := m ((c : Thread nD τ).loc main_arg1)
abbrev X2 (c : Dev nD) : FVec Ideal S1x1024x896 .f32 := m ((c : Thread nD τ).loc main_arg2)
abbrev X3 (c : Dev nD) : FVec Ideal S1x1024x896 .f32 := m ((c : Thread nD τ).loc main_arg3)
abbrev X4 (c : Dev nD) : FVec Ideal S1x1024x896 .f32 := m ((c : Thread nD τ).loc main_arg4)

theorem g_blocks (c : Dev nD) (t : Fin cfg0.N) (r : Fin 256) :
    (∀ d k, (show EReal from iblk m c 0 t (ix3 d k r)) = X0 m c (ix3 d k (rowOf t r))) ∧ ∀ d k, (show EReal from iblk m c 1 t (ix3 d k r)) = X1 m c (ix3 d k (rowOf t r)) := by
  constructor <;> intro d k <;> (blk_simp [iblk, idx t]; entry_read; pointwise; blk_ext [idx t, rowOf])

theorem blocks (c : Dev nD) (t : Fin cfg0.N) (r : Fin 256) :
    (∀ k, (show EReal from iblk m c 2 t (ix2 r k)) = X2 m c (ix3 0 (rowOf t r) k)) ∧ (∀ k, (show EReal from iblk m c 3 t (ix2 r k)) = X3 m c (ix3 0 (rowOf t r) k))
    ∧ ∀ k, (show EReal from iblk m c 4 t (ix2 r k)) = X4 m c (ix3 0 (rowOf t r) k) := by
  refine ⟨?_, ?_, ?_⟩ <;> intro k <;> (blk_simp [iblk, idx t]; entry_read; pointwise; blk_ext [idx t, rowOf])

/-- The gradient a grid point computes. -/
theorem g_point (c : Dev nD) (t : Fin cfg0.N) (r : Fin 256) (k : Fin 896) :
    (show EReal from k0_pay5 (F := Ideal) (iblk m c 0 t) (iblk m c 1 t) (iblk m c 2 t) (iblk m c 3 t) (iblk m c 4 t) (ix2 r k)) = val_main_v3 (F := Ideal) (X0 m c) (X1 m c) (ix2 (rowOf t r) k) :=
  g_pay (g_blocks m c t r).1 (g_blocks m c t r).2 k

/-! ## The whole results -/

/-- The gradient. -/
theorem out5 (c : Dev nD) : (dats m 0 c).arrAt 5 cfg0.N = val_main_v3 (F := Ideal) (X0 m c) (X1 m c) := by
  refine (dats m 0 c).arrAt_eq_of_covers 5 _ (by decide +kernel) fun t hf y => ?_
  blk_simp
  rw [after0_5]
  unfold out0_5
  idx_vars y
  have e : ((View.whole main_v5_0).slice (win0_5.rect t)).emb (ix2 y0 y1) = ix2 (rowOf t y0) y1 := by blk_ext [idx t, rowOf]
  rw [e]
  frame_out
  exact g_point m c t y0 y1

/-- The weight's step. -/
theorem out6 (c : Dev nD) : (dats m 0 c).arrAt 6 cfg0.N = val_main_v30 (F := Ideal) (X0 m c) (X1 m c) (X2 m c) (X3 m c) (X4 m c) := by
  refine (dats m 0 c).arrAt_eq_of_covers 6 _ (by decide +kernel) fun t hf y => ?_
  blk_simp
  rw [after0_6]
  unfold out0_6
  idx_vars y
  have e : ((View.whole main_v5_1).slice (win0_6.rect t)).emb (ix2 y0 y1) = ix2 (rowOf t y0) y1 := by blk_ext [idx t, rowOf]
  rw [e]
  frame_out
  exact d_pay (g_point m c t y0 y1) (blocks m c t y0).1 (blocks m c t y0).2.1 (blocks m c t y0).2.2

/-- The weight's first moment. -/
theorem out7 (c : Dev nD) : (dats m 0 c).arrAt 7 cfg0.N = val_main_v11 (F := Ideal) (X0 m c) (X1 m c) (X3 m c) := by
  refine (dats m 0 c).arrAt_eq_of_covers 7 _ (by decide +kernel) fun t hf y => ?_
  blk_simp
  rw [after0_7]
  unfold out0_7
  idx_vars y
  have e : ((View.whole main_v5_2).slice (win0_7.rect t)).emb (ix2 y0 y1) = ix2 (rowOf t y0) y1 := by blk_ext [idx t, rowOf]
  rw [e]
  frame_out
  exact m_pay (g_point m c t y0 y1) (blocks m c t y0).2.1

/-- The weight's second moment. -/
theorem out8 (c : Dev nD) : (dats m 0 c).arrAt 8 cfg0.N = val_main_v17 (F := Ideal) (X0 m c) (X1 m c) (X4 m c) := by
  refine (dats m 0 c).arrAt_eq_of_covers 8 _ (by decide +kernel) fun t hf y => ?_
  blk_simp
  rw [after0_8]
  unfold out0_8
  idx_vars y
  have e : ((View.whole main_v5_3).slice (win0_8.rect t)).emb (ix2 y0 y1) = ix2 (rowOf t y0) y1 := by blk_ext [idx t, rowOf]
  rw [e]
  frame_out
  exact v_pay (g_point m c t y0 y1) (blocks m c t y0).2.2

end Cert.Kernel15Ideal.AdamIn

end
-- ==== Proof.AdamInClaim.lean ====
module

public import proofs.«01_k».proof.Defs
public import proofs.«01_k».proof.Proof.AdamInKernel
public import proofs.«01_k».proof.Proof.Gen.Kernel15
public import Idealize.ShloMosaic.Lib.Claim

@[expose] public section

set_option maxRecDepth 16384

noncomputable section

namespace Cert.AdamIn

open Idealize.ShloMosaic Idealize.ShloMosaic.TcCoe Idealize.SL.Sem

/-- The kernel's results are the reference's, whatever the arguments. -/
theorem algebraic : Cert.algebraic_Kernel15Ideal_Reference15Ideal := by
  pair_intro
  · run_from Cert.Kernel15Ideal.Value.run_blocks m g
  · refine (θ_run _ _ _).mono (fun r h c => ?_) (Cert.Reference15Ideal.Value.run m' g')
    obtain ⟨e0, e1, e2, e3, e4⟩ := hagree c
    obtain ⟨h0, h1, h2, h3, rest⟩ := h c
    refine ⟨h0.trans ?_, h1.trans ?_, h2.trans ?_, h3.trans ?_, rest⟩
    · refine (Cert.Reference15Ideal.Read.val_main_v3_eq _ _).trans ?_
      rw [e0, e1]
      exact (Cert.Kernel15Ideal.AdamIn.out5 m c).symm
    · refine (Cert.Reference15Ideal.Read.val_main_v30_eq _ _ _ _ _).trans ?_
      rw [e0, e1, e2, e3, e4]
      exact (Cert.Kernel15Ideal.AdamIn.out6 m c).symm
    · refine (Cert.Reference15Ideal.Read.val_main_v11_eq _ _ _).trans ?_
      rw [e0, e1, e3]
      exact (Cert.Kernel15Ideal.AdamIn.out7 m c).symm
    · refine (Cert.Reference15Ideal.Read.val_main_v17_eq _ _ _).trans ?_
      rw [e0, e1, e4]
      exact (Cert.Kernel15Ideal.AdamIn.out8 m c).symm

/-- The bit-level program's frame: the two texts are one, and the run is for any floats. -/
theorem frame_kernel : Cert.quiescent_Kernel15 := fun m ρ _ =>
  Eq.mp (by sl_kernel_rfl) (Cert.Kernel15Ideal.Gen.frame (F := Bits) m ρ)

/-- The reference's frame: no operation writes an argument, and it has no semaphore. -/
theorem frame_reference : Cert.quiescent_Reference15Ideal := fun m ρ _ =>
  (θ_run Cert.Reference15Ideal.defs _ _).mono (fun r h => ⟨fun c => (h c).2.2.2.2, sem_eq_zero_of_no_sems (by decide) r.2⟩)
    (Cert.Reference15Ideal.Value.run (F := Ideal) m ρ)

end Cert.AdamIn

end
-- ==== Proof.PairAddKernel.lean ====
module

public import proofs.«01_k».proof.Proof.Gen.Kernel18Ideal.Frame
public import proofs.«01_k».proof.Proof.Gen.Reference18Ideal.Read
public import Idealize.ShloMosaic.Lib.Pipeline.Value
public import Idealize.ShloMosaic.Lib.Pipeline.ValueKit
public import Idealize.ShloMosaic.Lib.Claim
public import Idealize.ShloMosaic.Lib.Pipeline.ReadBack
public import Idealize.ShloMosaic.Lib.Pipeline.Covers
public import Idealize.ShloMosaic.Lib.WritesUnit

@[expose] public section

set_option maxRecDepth 16384

noncomputable section

namespace Cert.Kernel18Ideal.PairAdd

open Cert.Kernel18Ideal Cert.Kernel18Ideal.Gen Cert.Reference18Ideal.Read Idealize.ShloMosaic Idealize.ShloMosaic.TcCoe Idealize.SL.Sem
open Idealize.ShloMosaic.Pipeline (Dat)

section
variable {F : FTy → Type} [FloatOps F] (m : (ℓ : Loc nD τ sig) → Buf (Elt F) ℓ)

/-- The table holds the device's number, 0. -/
theorem word (h : S1.numel = 1) (inb) : (tbl m).at 0 (Rect.unit (s := S1) ![0] S1.size inb) h = 0#32 := by
  show V m (0 : Dev nD) main_v3 _ = _
  entry_read
  rfl

/-- So the blocks of the two halves are every second one, from 0 and from 8 on. -/
theorem ix (i : grid0.Coords) : cc0_transform_0 inb_S1_S1_0 numel1_S1 (tbl m) i = ![2 * (i 0).val, 0]
    ∧ cc0_transform_1 inb_S1_S1_0 numel1_S1 (tbl m) i = ![8 + 2 * (i 0).val, 0] ∧ (i 0).val < 4 := by
  have h4 : (i 0).val < 4 := (i 0).isLt
  unfold cc0_transform_0 cc0_transform_1
  rw [word]
  generalize (i 0).val = n at h4 ⊢
  interval_cases n <;> exact ⟨rfl, rfl, by decide⟩

/-- They lie inside the array. -/
theorem ok : Ok m := by
  refine ⟨fun i => ?_, fun i => ?_⟩ <;> obtain ⟨h0, h1, h4⟩ := ix m i
  · rw [h0]
    refine ⟨fun a => ?_, .inr (Affine.block_words_dvd (of_decide_eq_true rfl) (by decide))⟩
    fin_cases a <;> simp <;> omega
  · rw [h1]
    refine ⟨fun a => ?_, .inr (Affine.block_words_dvd (of_decide_eq_true rfl) (by decide))⟩
    fin_cases a <;> simp <;> omega

end

/-- What is written of each half: the rows of the gradient and those sent, added. -/
theorem pay1 (x : FVec Ideal S352x1024 .bf16) (v : FVec Ideal S1x352x1024 .bf16) (u : Fin 1) (r : Fin 352) (k : Fin 1024) :
    (show EReal from k0_pay1 (F := Ideal) x v (ix3 u r k)) = (show EReal from x (ix2 r k)) + v (ix3 0 r k) := by
  pointwise [k0_pay1]

theorem pay2 (x : FVec Ideal S352x1024 .bf16) (v : FVec Ideal S1x352x1024 .bf16) (u : Fin 1) (r : Fin 352) (k : Fin 1024) :
    (show EReal from k0_pay2 (F := Ideal) x v (ix3 u r k)) = (show EReal from x (ix2 r k)) + v (ix3 0 r k) := by
  pointwise [k0_pay2]

/-- The reference adds the same to its rows of the gradient. -/
theorem ref (x0 : FVec Ideal S5632x1024 .f32) (x1 : FVec Ideal S4x704x1024 .f32) (t : Fin 4) (r : Fin 704) (k : Fin 1024) :
    (show EReal from val_main_v7 (F := Ideal) x0 x1 (ix3 t r k)) = (show EReal from val_main_v5 (F := Ideal) x0 (ix3 t r k)) + x1 (ix3 t r k) := by
  pointwise [val_main_v7, val_main_v6]

/-- Its rows of the first half and of the second, in the array. -/
theorem v2 (x0 : FVec Ideal S5632x1024 .f32) (t : Fin 4) (r : Fin 352) (k : Fin 1024) (s : Fin 5632) (hs : s.val = 2 * t.val * 352 + r.val) :
    val_main_v2 (F := Ideal) x0 (ix3 t r k) = x0 (ix2 s k) := by
  rw [val_main_v2_apply, val_main_v1_apply, val_main_v0_apply]
  refine congrArg x0 (funext fun a => Fin.ext ?_)
  fin_cases a <;> dsimp [ix3, ix2] <;> omega

theorem v4 (x0 : FVec Ideal S5632x1024 .f32) (t : Fin 4) (r : Fin 352) (k : Fin 1024) (s : Fin 5632) (hs : s.val = (8 + 2 * t.val) * 352 + r.val) :
    val_main_v4 (F := Ideal) x0 (ix3 t r k) = x0 (ix2 s k) := by
  rw [val_main_v4_apply, val_main_v3_apply, val_main_v0_apply]
  refine congrArg x0 (funext fun a => Fin.ext ?_)
  fin_cases a <;> dsimp [ix3, ix2] <;> omega

/-- It sets the two one above the other. -/
theorem v5 (x0 : FVec Ideal S5632x1024 .f32) (t : Fin 4) (r : Fin 704) (k : Fin 1024) : val_main_v5 (F := Ideal) x0 (ix3 t r k) =
    if h : r.val < 352 then val_main_v2 (F := Ideal) x0 (ix3 t ⟨r.val, h⟩ k) else val_main_v4 (F := Ideal) x0 (ix3 t ⟨r.val - 352, by omega⟩ k) := by
  unfold val_main_v5
  generalize val_main_v2 (F := Ideal) x0 = a
  generalize val_main_v4 (F := Ideal) x0 = b
  pointwise

/-- So an entry of the reference is that of row `s` of the gradient plus the one sent. -/
theorem sum (x0 : FVec Ideal S5632x1024 .f32) (x1 : FVec Ideal S4x704x1024 .f32) (t : Fin 4) (r : Fin 704) (k : Fin 1024) (s : Fin 5632)
    (h : r.val < 352 ∧ s.val = 2 * t.val * 352 + r.val ∨ ∃ q < 352, r.val = 352 + q ∧ s.val = (8 + 2 * t.val) * 352 + q) :
    (show EReal from val_main_v7 (F := Ideal) x0 x1 (ix3 t r k)) = (show EReal from x0 (ix2 s k)) + x1 (ix3 t r k) := by
  rw [ref, v5]
  obtain ⟨hr, hs⟩ | ⟨q, hq, hr, hs⟩ := h
  · rw [dif_pos hr, v2 x0 t ⟨r.val, hr⟩ k s hs]
  · rw [dif_neg (by omega), v4 x0 t ⟨r.val - 352, by omega⟩ k s (by dsimp only; omega)]

variable (m : (ℓ : Loc nD τ sig) → Buf (Elt Ideal) ℓ)

/-- The run with the output array named, the arguments unchanged. -/
theorem run_blocks (ρ : Dev nD → PrngReg) : θ_run defs (onTc (τ := τ) (main (F := Ideal))) ⟨m, fun _ => 0, ρ⟩ fun r => ∀ c : Dev nD,
      r.2.mem ((c : Thread nD τ).loc main_v4) = (dats m (ok m) 0 c).arrAt 3 (cfgM m (ok m)).N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1 3, ((h c).2 main_arg0 (by decide : main_arg0 ∈ Pipeline.restRefs sig spec0)).trans (V_main_arg0 m c),
    ((h c).2 main_arg1 (by decide : main_arg1 ∈ Pipeline.restRefs sig spec0)).trans (V_main_arg1 m c)⟩) (run_main m ρ (ok m))

/-- The gradients, the gate's rows above the up projection's, and what the other device sent. -/
abbrev X0 (c : Dev nD) : FVec Ideal S5632x1024 .f32 := m ((c : Thread nD τ).loc main_arg0)
abbrev X1 (c : Dev nD) : FVec Ideal S4x704x1024 .f32 := m ((c : Thread nD τ).loc main_arg1)

/-- The blocks of a point: the first half's and the second half's rows, and the whole first-axis slice. -/
theorem idx (t : Fin grid0.N) : (win0 (adm m (ok m)) 0).index t = ![2 * t.val, 0] ∧ (win0 (adm m (ok m)) 1).index t = ![8 + 2 * t.val, 0]
    ∧ (win0 (adm m (ok m)) 2).index t = ![t.val, 0, 0] ∧ (win0 (adm m (ok m)) 3).index t = ![t.val, 0, 0] ∧ t.val < 4 := by
  have hc : ∀ t : Fin grid0.N, (grid0.coords t 0).val = t.val ∧ cc0_transform_2 (grid0.coords t) = ![t.val, 0, 0]
    ∧ cc0_transform_3 (grid0.coords t) = ![t.val, 0, 0] ∧ t.val < 4 := by decide +kernel
  obtain ⟨h, h2, h3, h4⟩ := hc t
  obtain ⟨i0, i1, -⟩ := ix m (grid0.coords t)
  rw [h] at i0 i1
  exact ⟨i0, i1, h2, h3, h4⟩

/-- Row `r` of a point's block of the first half and of the second, in the array. -/
def lo (t : Fin grid0.N) (r : Fin 352) : Fin 5632 := ⟨2 * t.val * 352 + r.val, by have : t.val < 4 := t.isLt; omega⟩
def hi (t : Fin grid0.N) (r : Fin 352) : Fin 5632 := ⟨(8 + 2 * t.val) * 352 + r.val, by have : t.val < 4 := t.isLt; omega⟩

theorem b0 (c : Dev nD) (t : Fin grid0.N) (r : Fin 352) (k : Fin 1024) : (show EReal from iblk m (ok m) c 0 t (ix2 r k)) = X0 m c (ix2 (lo t r) k) := by
  have e : (((cfgM m (ok m)).win 0).blk t).view.emb (ix2 r k) = (ix2 (lo t r) k : S5632x1024.Idx) := by
    funext a; apply Fin.ext
    refine ((win0 (adm m (ok m)) 0).rect_emb_val t (ix2 r k) a).trans ?_
    rw [(idx m t).1]
    fin_cases a <;> simp [lo]
  show V m c main_v0 ((((cfgM m (ok m)).win 0).blk t).view.emb (ix2 r k)) = _
  rw [e]
  entry_read; pointwise

theorem b1 (c : Dev nD) (t : Fin grid0.N) (r : Fin 352) (k : Fin 1024) : (show EReal from iblk m (ok m) c 1 t (ix2 r k)) = X0 m c (ix2 (hi t r) k) := by
  have e : (((cfgM m (ok m)).win 1).blk t).view.emb (ix2 r k) = (ix2 (hi t r) k : S5632x1024.Idx) := by
    funext a; apply Fin.ext
    refine ((win0 (adm m (ok m)) 1).rect_emb_val t (ix2 r k) a).trans ?_
    rw [(idx m t).2.1]
    fin_cases a <;> simp [hi]
  show V m c main_v0 ((((cfgM m (ok m)).win 1).blk t).view.emb (ix2 r k)) = _
  rw [e]
  entry_read; pointwise

theorem b2 (c : Dev nD) (t : Fin grid0.N) (r : Fin 704) (k : Fin 1024) : (show EReal from iblk m (ok m) c 2 t (ix3 0 r k)) = X1 m c (ix3 t r k) := by
  have e : (((cfgM m (ok m)).win 2).blk t).view.emb (ix3 0 r k) = (ix3 t r k : S4x704x1024.Idx) := by
    funext a; apply Fin.ext
    refine ((win0 (adm m (ok m)) 2).rect_emb_val t (ix3 0 r k) a).trans ?_
    rw [(idx m t).2.2.1]
    fin_cases a <;> simp
  show V m c main_v1 ((((cfgM m (ok m)).win 2).blk t).view.emb (ix3 0 r k)) = _
  rw [e]
  entry_read; pointwise

set_option maxHeartbeats 1000000 in
theorem out3 (c : Dev nD) : (dats m (ok m) 0 c).arrAt 3 (cfgM m (ok m)).N = val_main_v7 (F := Ideal) (X0 m c) (X1 m c) := by
  refine (dats m (ok m) 0 c).arrAt_eq_of_covers 3 _ ?_ fun t hf y => ?_
  · exact ((cfgM m (ok m)).win 3).covers_of_indexMap_surj rfl (by decide : ∀ a : Fin 3, 0 < S1x704x1024.size a)
      (by decide +kernel : ∀ β : (a : Fin 3) → Fin ((S4x704x1024.size a + S1x704x1024.size a - 1) / S1x704x1024.size a), ∃ i : grid0.Coords, ∀ a, cc0_transform_3 i a = β a)
  blk_simp
  rw [after0_3]
  have e : ∀ y : S1x704x1024.Idx, (((cfgM m (ok m)).win 3).blk t).view.emb y = (ix3 t (y 1) (y 2) : S4x704x1024.Idx) := fun y => by
    funext a; apply Fin.ext
    refine ((win0 (adm m (ok m)) 3).rect_emb_val t y a).trans ?_
    rw [(idx m t).2.2.2.1]
    fin_cases a
    · have : (y 0).val < 1 := (y 0).isLt
      simp
    all_goals simp
  refine Eq.trans ?_ (congrArg _ (e y)).symm
  unfold outsAt0
  have g0 := b0 m c t
  have g1 := b1 m c t
  have g2 := b2 m c t
  generalize iblk m (ok m) c 0 t = x0 at g0 ⊢
  generalize iblk m (ok m) c 1 t = x1 at g1 ⊢
  generalize iblk m (ok m) c 2 t = x2 at g2 ⊢
  change FVec Ideal S352x1024 .bf16 at x0 x1
  change FVec Ideal S1x704x1024 .bf16 at x2
  change S1x704x1024.Idx at y
  frame_out
  change @Eq EReal _ _
  canon_tiles y h using View.cover_of_tiledBy _ ![1, 352, 1024] (by sl_kernel_rfl) _
  all_goals
    rename_i w
    have ey := show y = ix3 (y 0) (y 1) (y 2) by funext a; fin_cases a <;> rfl
    have ht : t.val < 4 := t.isLt
    have hk : w 2 = y 2 := Fin.ext h2
  · refine (congrArg _ ey).trans ((pay2 _ _ _ _ _).trans (Eq.trans ?_ (sum _ _ t (w 1) (w 2) (hi t (y 1)) (.inr ⟨_, y1_lt, h1, rfl⟩)).symm))
    rw [hk]
    refine congrArg₂ _ (g1 _ _) (Eq.trans (congrArg x2 ?_) (g2 (w 1) (y 2)))
    funext a; apply Fin.ext
    fin_cases a <;> simp [h1]
  · refine (congrArg _ ey).trans ((pay1 _ _ _ _ _).trans (Eq.trans ?_ (sum _ _ t (w 1) (w 2) (lo t (y 1)) (.inl ⟨h1 ▸ y1_lt, by simp [lo, h1]⟩)).symm))
    rw [hk]
    refine congrArg₂ _ (g0 _ _) (Eq.trans (congrArg x2 ?_) (g2 (w 1) (y 2)))
    funext a; apply Fin.ext
    fin_cases a <;> simp [h1]

end Cert.Kernel18Ideal.PairAdd

end
-- ==== Proof.PairAddClaim.lean ====
module

public import proofs.«01_k».proof.Defs
public import proofs.«01_k».proof.Proof.PairAddKernel
public import proofs.«01_k».proof.Proof.Gen.Kernel18
public import Idealize.ShloMosaic.Lib.Claim

@[expose] public section

set_option maxRecDepth 16384

noncomputable section

namespace Cert.PairAdd

open Idealize.ShloMosaic Idealize.ShloMosaic.TcCoe Idealize.SL.Sem

/-- The kernel's result is the reference's, whatever the arguments. -/
theorem algebraic : Cert.algebraic_Kernel18Ideal_Reference18Ideal := by
  pair_intro
  · run_from Cert.Kernel18Ideal.PairAdd.run_blocks m g
  · refine (θ_run _ _ _).mono (fun r h c => ?_) (Cert.Reference18Ideal.Value.run m' g')
    obtain ⟨e0, e1⟩ := hagree c
    obtain ⟨h0, rest⟩ := h c
    refine ⟨h0.trans ?_, rest⟩
    refine (Cert.Reference18Ideal.Read.val_main_v7_eq _ _).trans ?_
    rw [e0, e1]
    exact (Cert.Kernel18Ideal.PairAdd.out3 m c).symm

/-- The bit-level program's frame: the two texts are one, and the run is for any floats. -/
theorem frame_kernel : Cert.quiescent_Kernel18 := fun m ρ _ =>
  Eq.mp (by sl_kernel_rfl) (Cert.Kernel18Ideal.Gen.frame (F := Bits) m ρ (Cert.Kernel18Ideal.PairAdd.ok m))

/-- The reference's frame: no operation writes an argument, and it has no semaphore. -/
theorem frame_reference : Cert.quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)

end Cert.PairAdd

end
-- ==== Proof.PackWeightsKernel.lean ====
module

public import proofs.«01_k».proof.Proof.Gen.Kernel19Ideal.Value
public import proofs.«01_k».proof.Proof.Gen.Reference19Ideal.Read
public import Idealize.ShloMosaic.Lib.Pipeline.ValueKit
public import Idealize.ShloMosaic.Lib.Claim
public import Idealize.ShloMosaic.Lib.Pipeline.ReadBack
public import Idealize.ShloMosaic.Lib.WritesUnit

@[expose] public section

set_option maxRecDepth 16384

noncomputable section

namespace Cert.Kernel19Ideal.PackWeights

open Cert.Kernel19Ideal Cert.Kernel19Ideal.Gen Cert.Reference19Ideal.Read Idealize.ShloMosaic Idealize.ShloMosaic.TcCoe Idealize.SL.Sem
open Idealize.ShloMosaic.Pipeline (Dat)

variable (m : (ℓ : Loc nD τ sig) → Buf (Elt Ideal) ℓ)

/-- The arguments: of both half-FFNs the gate, up and down weights, the input projection's, the three square weights', one device's parts. -/
abbrev X0 (c : Dev nD) : FVec Ideal S1x1024x352 .f32 := m ((c : Thread nD τ).loc main_arg0)
abbrev X1 (c : Dev nD) : FVec Ideal S1x1024x352 .f32 := m ((c : Thread nD τ).loc main_arg1)
abbrev X2 (c : Dev nD) : FVec Ideal S1x352x1024 .f32 := m ((c : Thread nD τ).loc main_arg2)
abbrev X3 (c : Dev nD) : FVec Ideal S1x1024x352 .f32 := m ((c : Thread nD τ).loc main_arg3)
abbrev X4 (c : Dev nD) : FVec Ideal S1x1024x352 .f32 := m ((c : Thread nD τ).loc main_arg4)
abbrev X5 (c : Dev nD) : FVec Ideal S1x352x1024 .f32 := m ((c : Thread nD τ).loc main_arg5)
abbrev X6 (c : Dev nD) : FVec Ideal S1x1024x896 .f32 := m ((c : Thread nD τ).loc main_arg6)
abbrev X7 (c : Dev nD) : FVec Ideal S1x128x1024 .f32 := m ((c : Thread nD τ).loc main_arg7)
abbrev X8 (c : Dev nD) : FVec Ideal S1x128x1024 .f32 := m ((c : Thread nD τ).loc main_arg8)
abbrev X9 (c : Dev nD) : FVec Ideal S1x128x1024 .f32 := m ((c : Thread nD τ).loc main_arg9)

/-- Every block is its whole array. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] :=
  (by decide +kernel : ∀ t : Fin grid0.N, _)

set_option maxHeartbeats 2000000 in
/-- The weights as the kernel reads them: the half-FFNs' gate and up weights turned by the host, the others as they are. -/
theorem blocks (c : Dev nD) (t : Fin cfg0.N) : (∀ r k, (show EReal from iblk m c 0 t (ix2 r k)) = X0 m c (ix3 0 k r)) ∧ (∀ r k, (show EReal from iblk m c 1 t (ix2 r k)) = X1 m c (ix3 0 k r))
    ∧ (∀ r k, (show EReal from iblk m c 2 t (ix2 r k)) = X2 m c (ix3 0 r k)) ∧ (∀ r k, (show EReal from iblk m c 3 t (ix2 r k)) = X3 m c (ix3 0 k r))
    ∧ (∀ r k, (show EReal from iblk m c 4 t (ix2 r k)) = X4 m c (ix3 0 k r)) ∧ (∀ r k, (show EReal from iblk m c 5 t (ix2 r k)) = X5 m c (ix3 0 r k))
    ∧ (∀ r k, (show EReal from iblk m c 6 t (ix2 r k)) = X6 m c (ix3 0 r k)) ∧ (∀ r k, (show EReal from iblk m c 7 t (ix2 r k)) = X7 m c (ix3 0 r k))
    ∧ (∀ r k, (show EReal from iblk m c 8 t (ix2 r k)) = X8 m c (ix3 0 r k)) ∧ ∀ r k, (show EReal from iblk m c 9 t (ix2 r k)) = X9 m c (ix3 0 r k) := by
  refine ⟨?_, ?_, ?_, ?_, ?_, ?_, ?_, ?_, ?_, ?_⟩ <;> intro r k <;> (blk_simp [iblk, idx t]; entry_read; pointwise; blk_ext [idx t])

set_option maxHeartbeats 2000000 in
/-- The ten weights' rows, one below the other. -/
theorem out10 (c : Dev nD) : (dats m 0 c).arrAt 10 cfg0.N
    = val_main_v16 (F := Ideal) (X0 m c) (X1 m c) (X2 m c) (X3 m c) (X4 m c) (X5 m c) (X6 m c) (X7 m c) (X8 m c) (X9 m c) := by
  refine (dats m 0 c).arrAt_eq_of_covers 10 _ (by decide +kernel) fun t hf y => ?_
  obtain ⟨b0, b1, b2, b3, b4, b5, b6, b7, b8, b9⟩ := blocks m c t
  blk_simp
  rw [after0_10]
  unfold outsAt0
  idx_vars y
  have e : ((View.whole main_v14).slice (win0_10.rect t)).emb (ix2 y0 y1) = ix2 y0 y1 := by blk_ext [idx t]
  rw [e]
  generalize iblk m c 0 t = x0 at b0 ⊢
  generalize iblk m c 1 t = x1 at b1 ⊢
  generalize iblk m c 2 t = x2 at b2 ⊢
  generalize iblk m c 3 t = x3 at b3 ⊢
  generalize iblk m c 4 t = x4 at b4 ⊢
  generalize iblk m c 5 t = x5 at b5 ⊢
  generalize iblk m c 6 t = x6 at b6 ⊢
  generalize iblk m c 7 t = x7 at b7 ⊢
  generalize iblk m c 8 t = x8 at b8 ⊢
  generalize iblk m c 9 t = x9 at b9 ⊢
  frame_out
  simp only [read_unread_whole]
  canon_tiles y h using View.cover_of_tiledBy _ ![32, 1024] (by sl_kernel_rfl) _
  all_goals
    idx_vars y
    open_payloads
    pointwise [val_main_v16, val_main_v15, val_main_v14, val_main_v13, val_main_v12, val_main_v11, val_main_v10, val_main_v9, val_main_v8, val_main_v7, val_main_v6, val_main_v5, val_main_v4, val_main_v3, val_main_v2, val_main_v1, val_main_v0, h0, h1]
    simp only [b0, b1, b2, b3, b4, b5, b6, b7, b8, b9]
    try simp (disch := omega) only [dif_pos, dif_neg]
  all_goals refine congrArg _ ((ix3_inj ..).2 ⟨rfl, ?_, ?_⟩) <;> first | rfl | exact Fin.ext (by dsimp only; omega)

end Cert.Kernel19Ideal.PackWeights

end
-- ==== Proof.PackWeightsClaim.lean ====
module

public import proofs.«01_k».proof.Defs
public import proofs.«01_k».proof.Proof.PackWeightsKernel
public import proofs.«01_k».proof.Proof.Gen.Kernel19
public import Idealize.ShloMosaic.Lib.Claim

@[expose] public section

set_option maxRecDepth 16384

noncomputable section

namespace Cert.PackWeights

open Idealize.ShloMosaic Idealize.ShloMosaic.TcCoe Idealize.SL.Sem

/-- The kernel's results are the reference's, whatever the arguments. -/
theorem algebraic : Cert.algebraic_Kernel19Ideal_Reference19Ideal := by
  pair_intro
  · run_from Cert.Kernel19Ideal.Value.run_blocks m g
  · refine (θ_run _ _ _).mono (fun r h c => ?_) (Cert.Reference19Ideal.Value.run m' g')
    obtain ⟨e0, e1, e2, e3, e4, e5, e6, e7, e8, e9⟩ := hagree c
    refine ⟨(h c).1.trans ?_, (h c).2⟩
    refine (Cert.Reference19Ideal.Read.val_main_v16_eq _ _ _ _ _ _ _ _ _ _).trans ?_
    rw [e0, e1, e2, e3, e4, e5, e6, e7, e8, e9]
    exact (Cert.Kernel19Ideal.PackWeights.out10 m c).symm

/-- The bit-level program's frame: the two texts are one, and the run is for any floats. -/
theorem frame_kernel : Cert.quiescent_Kernel19 := fun m ρ _ =>
  Eq.mp (by sl_kernel_rfl) (Cert.Kernel19Ideal.Gen.frame (F := Bits) m ρ)

/-- The reference's frame: no operation writes an argument, and it has no semaphore. -/
theorem frame_reference : Cert.quiescent_Reference19Ideal := fun m ρ _ =>
  (θ_run Cert.Reference19Ideal.defs _ _).mono (fun r h => ⟨fun c => (h c).2, sem_eq_zero_of_no_sems (by decide) r.2⟩)
    (Cert.Reference19Ideal.Value.run (F := Ideal) m ρ)

end Cert.PackWeights

end
-- ==== Proof.PackSmallKernel.lean ====
module

public import proofs.«01_k».proof.Proof.Gen.Kernel20Ideal.Value
public import proofs.«01_k».proof.Proof.Gen.Reference20Ideal.Read
public import Idealize.ShloMosaic.Lib.Pipeline.ValueKit
public import Idealize.ShloMosaic.Lib.Claim
public import Idealize.ShloMosaic.Lib.Pipeline.ReadBack
public import Idealize.ShloMosaic.Lib.WritesUnit

@[expose] public section

set_option maxRecDepth 16384

noncomputable section

namespace Cert.Kernel20Ideal.PackSmall

open Cert.Kernel20Ideal Cert.Kernel20Ideal.Gen Cert.Reference20Ideal.Read Idealize.ShloMosaic Idealize.ShloMosaic.TcCoe Idealize.SL.Sem
open Idealize.ShloMosaic.Pipeline (Dat)

variable (m : (ℓ : Loc nD τ sig) → Buf (Elt Ideal) ℓ)

/-- The arguments: five arrays of row sums, then the two convolutions' tap gradients. -/
abbrev X0 (c : Dev nD) : FVec Ideal S8x1024 .f32 := m ((c : Thread nD τ).loc main_arg0)
abbrev X1 (c : Dev nD) : FVec Ideal S8x1024 .f32 := m ((c : Thread nD τ).loc main_arg1)
abbrev X2 (c : Dev nD) : FVec Ideal S8x1024 .f32 := m ((c : Thread nD τ).loc main_arg2)
abbrev X3 (c : Dev nD) : FVec Ideal S8x1024 .f32 := m ((c : Thread nD τ).loc main_arg3)
abbrev X4 (c : Dev nD) : FVec Ideal S8x1024 .f32 := m ((c : Thread nD τ).loc main_arg4)
abbrev X5 (c : Dev nD) : FVec Ideal S32x1024 .f32 := m ((c : Thread nD τ).loc main_arg5)
abbrev X6 (c : Dev nD) : FVec Ideal S8x1024 .f32 := m ((c : Thread nD τ).loc main_arg6)

/-- Every block is its whole array. -/
theorem idx : ∀ t : Fin cfg0.N, win0_0.index t = ![0, 0] ∧ win0_1.index t = ![0, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0, 0] :=
  (by decide +kernel : ∀ t : Fin grid0.N, _)

/-- The arguments, as the kernel reads them. -/
theorem blocks (c : Dev nD) (t : Fin cfg0.N) : iblk m c 0 t = X0 m c ∧ iblk m c 1 t = X1 m c ∧ iblk m c 2 t = X2 m c ∧ iblk m c 3 t = X3 m c ∧ iblk m c 4 t = X4 m c
    ∧ iblk m c 5 t = X5 m c ∧ iblk m c 6 t = X6 m c := by
  refine ⟨?_, ?_, ?_, ?_, ?_, ?_, ?_⟩ <;> funext y <;> (idx_vars y; blk_simp [iblk, idx t]; entry_read; pointwise; blk_ext [idx t])

/-- The first result: the rows taken from the five arrays, one below the other. -/
theorem out7 (c : Dev nD) : (dats m 0 c).arrAt 7 cfg0.N = val_main_v7 (F := Ideal) (X0 m c) (X1 m c) (X2 m c) (X3 m c) (X4 m c) := by
  refine (dats m 0 c).arrAt_eq_of_covers 7 _ (by decide +kernel) fun t hf y => ?_
  obtain ⟨b0, b1, b2, b3, b4, b5, b6⟩ := blocks m c t
  blk_simp
  rw [after0_7]
  unfold outsAt0
  rw [b0, b1, b2, b3, b4, b5, b6]
  generalize X0 m c = x0, X1 m c = x1, X2 m c = x2, X3 m c = x3, X4 m c = x4, X5 m c = x5, X6 m c = x6
  idx_vars y
  have e : ((View.whole main_v0_0).slice (win0_7.rect t)).emb (ix2 y0 y1) = ix2 y0 y1 := by blk_ext [idx t]
  rw [e]
  frame_out
  simp only [read_unread_whole]
  canon_tiles y h
  all_goals
    idx_vars y
    pointwise [val_main_v7, val_main_v2, val_main_v3, val_main_v4, val_main_v5, val_main_v6, h0, h1]

/-- The second result: the tap gradients of both convolutions, 128 channels to a block. -/
theorem out8 (c : Dev nD) : (dats m 0 c).arrAt 8 cfg0.N = val_main_v8 (F := Ideal) (X5 m c) (X6 m c) := by
  refine (dats m 0 c).arrAt_eq_of_covers 8 _ (by decide +kernel) fun t hf y => ?_
  obtain ⟨b0, b1, b2, b3, b4, b5, b6⟩ := blocks m c t
  blk_simp
  rw [after0_8]
  unfold outsAt0
  rw [b0, b1, b2, b3, b4, b5, b6]
  generalize X0 m c = x0, X1 m c = x1, X2 m c = x2, X3 m c = x3, X4 m c = x4, X5 m c = x5, X6 m c = x6
  idx_vars y
  have e : ((View.whole main_v0_1).slice (win0_8.rect t)).emb (ix3 y0 y1 y2) = ix3 y0 y1 y2 := by blk_ext [idx t]
  rw [e]
  frame_out
  simp only [read_unread_whole]
  canon_tiles y h using View.cover_of_tiledBy _ ![1, 8, 128] (by sl_kernel_rfl) _
  all_goals
    idx_vars y
    open_payloads
    pointwise [val_main_v8, val_main_v1, val_main_v0, h0, h1, h2]

end Cert.Kernel20Ideal.PackSmall

end
-- ==== Proof.PackSmallClaim.lean ====
module

public import proofs.«01_k».proof.Defs
public import proofs.«01_k».proof.Proof.PackSmallKernel
public import proofs.«01_k».proof.Proof.Gen.Kernel20
public import Idealize.ShloMosaic.Lib.Claim

@[expose] public section

set_option maxRecDepth 16384

noncomputable section

namespace Cert.PackSmall

open Idealize.ShloMosaic Idealize.ShloMosaic.TcCoe Idealize.SL.Sem

/-- The kernel's results are the reference's, whatever the arguments. -/
theorem algebraic : Cert.algebraic_Kernel20Ideal_Reference20Ideal := by
  pair_intro
  · run_from Cert.Kernel20Ideal.Value.run_blocks m g
  · refine (θ_run _ _ _).mono (fun r h c => ?_) (Cert.Reference20Ideal.Value.run m' g')
    obtain ⟨e0, e1, e2, e3, e4, e5, e6⟩ := hagree c
    obtain ⟨h0, h1, rest⟩ := h c
    refine ⟨h0.trans ?_, h1.trans ?_, rest⟩
    · refine (Cert.Reference20Ideal.Read.val_main_v7_eq _ _ _ _ _).trans ?_
      rw [e0, e1, e2, e3, e4]
      exact (Cert.Kernel20Ideal.PackSmall.out7 m c).symm
    · refine (Cert.Reference20Ideal.Read.val_main_v8_eq _ _).trans ?_
      rw [e5, e6]
      exact (Cert.Kernel20Ideal.PackSmall.out8 m c).symm

/-- The bit-level program's frame: the two texts are one, and the run is for any floats. -/
theorem frame_kernel : Cert.quiescent_Kernel20 := fun m ρ _ =>
  Eq.mp (by sl_kernel_rfl) (Cert.Kernel20Ideal.Gen.frame (F := Bits) m ρ)

/-- The reference's frame: no operation writes an argument, and it has no semaphore. -/
theorem frame_reference : Cert.quiescent_Reference20Ideal := fun m ρ _ =>
  (θ_run Cert.Reference20Ideal.defs _ _).mono (fun r h => ⟨fun c => (h c).2.2, sem_eq_zero_of_no_sems (by decide) r.2⟩)
    (Cert.Reference20Ideal.Value.run (F := Ideal) m ρ)

end Cert.PackSmall

end
-- ==== Proof.lean ====
module

public import proofs.«01_k».proof.Defs
public import proofs.«01_k».proof.Proof.InputClaim
public import proofs.«01_k».proof.Proof.MixOutClaim
public import proofs.«01_k».proof.Proof.MixInClaim
public import proofs.«01_k».proof.Proof.LossClaim
public import proofs.«01_k».proof.Proof.HiddenClaim
public import proofs.«01_k».proof.Proof.ConvClaim
public import proofs.«01_k».proof.Proof.MixFwdClaim
public import proofs.«01_k».proof.Proof.GateUpClaim
public import proofs.«01_k».proof.Proof.DwClaim
public import proofs.«01_k».proof.Proof.DownClaim
public import proofs.«01_k».proof.Proof.AdamClaim
public import proofs.«01_k».proof.Proof.AdamInClaim
public import proofs.«01_k».proof.Proof.PairAddClaim
public import proofs.«01_k».proof.Proof.PackWeightsClaim
public import proofs.«01_k».proof.Proof.PackSmallClaim

@[expose] public section

noncomputable section

namespace Cert.Proof

open Idealize.ShloMosaic Idealize.SL.Sem

/-- The frames, and the kernels' results against the references'. -/
theorem claim : Cert.Claim :=
  ⟨Cert.Kernel.Gen.facts, Cert.KernelIdeal.Gen.facts, Cert.ReferenceIdeal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts,
    Cert.Input.finite_facts, Cert.MixOut.finite_facts, Cert.MixIn.finite_facts, Cert.Loss.finite_facts, Cert.Hidden.finite_facts, Cert.Conv.finite_facts,
    Cert.Input.frame_kernel,
    fun m ρ _ => Cert.KernelIdeal.Input.frame m ρ,
    fun m ρ _ => Cert.KernelIdeal.Input.frame m ρ,
    Cert.Input.frame_reference,
    fun m ρ _ => Cert.Input.frame_reference m ρ trivial,
    Cert.MixOut.frame_kernel,
    fun m ρ _ => Cert.Kernel3Ideal.Gen.frame m ρ,
    fun m ρ _ => Cert.Kernel3Ideal.Gen.frame m ρ,
    Cert.MixOut.frame_reference,
    fun m ρ _ => Cert.MixOut.frame_reference m ρ trivial,
    Cert.MixIn.frame_kernel,
    fun m ρ _ => Cert.Kernel4Ideal.MixIn.frame m ρ,
    fun m ρ _ => Cert.Kernel4Ideal.MixIn.frame m ρ,
    Cert.MixIn.frame_reference,
    fun m ρ _ => Cert.MixIn.frame_reference m ρ trivial,
    Cert.Loss.frame_kernel,
    fun m ρ _ => Cert.Kernel5Ideal.Gen.frame m ρ,
    fun m ρ _ => Cert.Kernel5Ideal.Gen.frame m ρ,
    Cert.Loss.frame_reference,
    fun m ρ _ => Cert.Loss.frame_reference m ρ trivial,
    Cert.Hidden.frame_kernel,
    fun m ρ _ => Cert.Kernel6Ideal.Hidden.frame m ρ,
    fun m ρ _ => Cert.Kernel6Ideal.Hidden.frame m ρ,
    Cert.Hidden.frame_reference,
    fun m ρ _ => Cert.Hidden.frame_reference m ρ trivial,
    Cert.Conv.frame_kernel,
    fun m ρ _ => Cert.Kernel7Ideal.Gen.frame m ρ,
    fun m ρ _ => Cert.Kernel7Ideal.Gen.frame m ρ,
    Cert.Conv.frame_reference,
    fun m ρ _ => Cert.Conv.frame_reference m ρ trivial,
    Cert.MixFwd.frame_kernel,
    fun m ρ _ => Cert.Kernel8Ideal.Gen.frame m ρ,
    Cert.MixFwd.frame_reference,
    Cert.GateUp.frame_kernel,
    fun m ρ _ => Cert.Kernel9Ideal.Gen.frame m ρ,
    Cert.GateUp.frame_reference,
    Cert.Dw.frame_kernel,
    fun m ρ _ => Cert.Kernel12Ideal.Gen.frame m ρ,
    Cert.Dw.frame_reference,
    Cert.Down.frame_kernel,
    fun m ρ _ => Cert.Kernel13Ideal.Gen.frame m ρ,
    Cert.Down.frame_reference,
    Cert.Adam.frame_kernel,
    fun m ρ _ => Cert.Kernel14Ideal.Gen.frame m ρ,
    Cert.Adam.frame_reference,
    Cert.AdamIn.frame_kernel,
    fun m ρ _ => Cert.Kernel15Ideal.Gen.frame m ρ,
    Cert.AdamIn.frame_reference,
    Cert.PairAdd.frame_kernel,
    fun m ρ _ => Cert.Kernel18Ideal.Gen.frame m ρ (Cert.Kernel18Ideal.PairAdd.ok m),
    Cert.PairAdd.frame_reference,
    Cert.PackWeights.frame_kernel,
    fun m ρ _ => Cert.Kernel19Ideal.Gen.frame m ρ,
    Cert.PackWeights.frame_reference,
    Cert.PackSmall.frame_kernel,
    fun m ρ _ => Cert.Kernel20Ideal.Gen.frame m ρ,
    Cert.PackSmall.frame_reference,
    trivial,
    Cert.Input.algebraic,
    trivial,
    Cert.MixOut.algebraic,
    trivial,
    Cert.MixIn.algebraic,
    trivial,
    Cert.Loss.algebraic,
    trivial,
    Cert.Hidden.algebraic,
    trivial,
    Cert.Conv.algebraic,
    trivial,
    Cert.MixFwd.algebraic,
    trivial,
    Cert.GateUp.algebraic,
    trivial,
    Cert.Dw.algebraic,
    trivial,
    Cert.Down.algebraic,
    trivial,
    Cert.Adam.algebraic,
    trivial,
    Cert.AdamIn.algebraic,
    trivial,
    Cert.PairAdd.algebraic,
    trivial,
    Cert.PackWeights.algebraic,
    trivial,
    Cert.PackSmall.algebraic⟩

end Cert.Proof

end
